-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOddIn (m : (ℓ : Loc Cert.KernelOddIn.nD Cert.KernelOddIn.τ Cert.KernelOddIn.sig) → Buf (Elt Bits) ℓ) : Prop :=
  True

def Pre_KernelOddInIdeal (m : (ℓ : Loc Cert.KernelOddInIdeal.nD Cert.KernelOddInIdeal.τ Cert.KernelOddInIdeal.sig) → Buf (Elt Ideal) ℓ) : Prop :=
  True

def Pre_ReferenceOddInIdeal (m : (ℓ : Loc Cert.ReferenceOddInIdeal.nD Cert.ReferenceOddInIdeal.τ Cert.ReferenceOddInIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOddOut (m : (ℓ : Loc Cert.KernelOddOut.nD Cert.KernelOddOut.τ Cert.KernelOddOut.sig) → Buf (Elt Bits) ℓ) : Prop :=
  True

def Pre_KernelOddOutIdeal (m : (ℓ : Loc Cert.KernelOddOutIdeal.nD Cert.KernelOddOutIdeal.τ Cert.KernelOddOutIdeal.sig) → Buf (Elt Ideal) ℓ) : Prop :=
  True

def Pre_ReferenceOddOutIdeal (m : (ℓ : Loc Cert.ReferenceOddOutIdeal.nD Cert.ReferenceOddOutIdeal.τ Cert.ReferenceOddOutIdeal.sig) → Buf (Elt Ideal) ℓ) : Prop :=
  True

def Pre_KernelCross (m : (ℓ : Loc Cert.KernelCross.nD Cert.KernelCross.τ Cert.KernelCross.sig) → Buf (Elt Bits) ℓ) : Prop :=
  True

def Pre_KernelCrossIdeal (m : (ℓ : Loc Cert.KernelCrossIdeal.nD Cert.KernelCrossIdeal.τ Cert.KernelCrossIdeal.sig) → Buf (Elt Ideal) ℓ) : Prop :=
  True

def Pre_ReferenceCrossIdeal (m : (ℓ : Loc Cert.ReferenceCrossIdeal.nD Cert.ReferenceCrossIdeal.τ Cert.ReferenceCrossIdeal.sig) → Buf (Elt Ideal) ℓ) : Prop :=
  True

def Pre_KernelExperts [hPre_experts_named : Cert.Pre_experts_named.Facts] (m : (ℓ : Loc Cert.KernelExperts.nD Cert.KernelExperts.τ Cert.KernelExperts.sig) → Buf (Elt Bits) ℓ) : Prop :=
  ∀ c : Dev Cert.KernelExperts.nD,
    (Cert.Pre_experts_named.fn (F := Bits) (m ((c.tc : Thread Cert.KernelExperts.nD Cert.KernelExperts.τ).loc Cert.KernelExperts.main_arg0)) (m ((c.tc : Thread Cert.KernelExperts.nD Cert.KernelExperts.τ).loc Cert.KernelExperts.main_arg1)) (m ((c.tc : Thread Cert.KernelExperts.nD Cert.KernelExperts.τ).loc Cert.KernelExperts.main_arg2)) (m ((c.tc : Thread Cert.KernelExperts.nD Cert.KernelExperts.τ).loc Cert.KernelExperts.main_arg3)) (m ((c.tc : Thread Cert.KernelExperts.nD Cert.KernelExperts.τ).loc Cert.KernelExperts.main_arg4)) (m ((c.tc : Thread Cert.KernelExperts.nD Cert.KernelExperts.τ).loc Cert.KernelExperts.main_arg5))) = (fun _ => 1#1)

def Pre_KernelExpertsIdeal [hPre_experts_named : Cert.Pre_experts_named.Facts] (m : (ℓ : Loc Cert.KernelExpertsIdeal.nD Cert.KernelExpertsIdeal.τ Cert.KernelExpertsIdeal.sig) → Buf (Elt Ideal) ℓ) : Prop :=
  ∀ c : Dev Cert.KernelExpertsIdeal.nD,
    (Cert.Pre_experts_named.fn (F := Ideal) (m ((c.tc : Thread Cert.KernelExpertsIdeal.nD Cert.KernelExpertsIdeal.τ).loc Cert.KernelExpertsIdeal.main_arg0)) (m ((c.tc : Thread Cert.KernelExpertsIdeal.nD Cert.KernelExpertsIdeal.τ).loc Cert.KernelExpertsIdeal.main_arg1)) (m ((c.tc : Thread Cert.KernelExpertsIdeal.nD Cert.KernelExpertsIdeal.τ).loc Cert.KernelExpertsIdeal.main_arg2)) (m ((c.tc : Thread Cert.KernelExpertsIdeal.nD Cert.KernelExpertsIdeal.τ).loc Cert.KernelExpertsIdeal.main_arg3)) (m ((c.tc : Thread Cert.KernelExpertsIdeal.nD Cert.KernelExpertsIdeal.τ).loc Cert.KernelExpertsIdeal.main_arg4)) (m ((c.tc : Thread Cert.KernelExpertsIdeal.nD Cert.KernelExpertsIdeal.τ).loc Cert.KernelExpertsIdeal.main_arg5))) = (fun _ => 1#1)

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_ReferenceExpertsIdeal_experts_named [hPre_experts_named : Cert.Pre_experts_named.Facts] (m : (ℓ : Loc Cert.ReferenceExpertsIdeal.nD Cert.ReferenceExpertsIdeal.τ Cert.ReferenceExpertsIdeal.sig) → Buf (Elt Ideal) ℓ) : Prop :=
  ∀ c : Dev Cert.ReferenceExpertsIdeal.nD,
    (Cert.Pre_experts_named.fn (F := Ideal) (m ((c.tc : Thread Cert.ReferenceExpertsIdeal.nD Cert.ReferenceExpertsIdeal.τ).loc Cert.ReferenceExpertsIdeal.main_arg0)) (m ((c.tc : Thread Cert.ReferenceExpertsIdeal.nD Cert.ReferenceExpertsIdeal.τ).loc Cert.ReferenceExpertsIdeal.main_arg1)) (m ((c.tc : Thread Cert.ReferenceExpertsIdeal.nD Cert.ReferenceExpertsIdeal.τ).loc Cert.ReferenceExpertsIdeal.main_arg2)) (m ((c.tc : Thread Cert.ReferenceExpertsIdeal.nD Cert.ReferenceExpertsIdeal.τ).loc Cert.ReferenceExpertsIdeal.main_arg3)) (m ((c.tc : Thread Cert.ReferenceExpertsIdeal.nD Cert.ReferenceExpertsIdeal.τ).loc Cert.ReferenceExpertsIdeal.main_arg4)) (m ((c.tc : Thread Cert.ReferenceExpertsIdeal.nD Cert.ReferenceExpertsIdeal.τ).loc Cert.ReferenceExpertsIdeal.main_arg5))) = (fun _ => 1#1)

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_KernelWinIdeal_win_finite [hPre_win_finite : Cert.Pre_win_finite.Facts] (m : (ℓ : Loc Cert.KernelWinIdeal.nD Cert.KernelWinIdeal.τ Cert.KernelWinIdeal.sig) → Buf (Elt Ideal) ℓ) : Prop :=
  ∀ c : Dev Cert.KernelWinIdeal.nD,
    (Cert.Pre_win_finite.fn (F := Ideal) (m ((c.tc : Thread Cert.KernelWinIdeal.nD Cert.KernelWinIdeal.τ).loc Cert.KernelWinIdeal.main_arg0)) (m ((c.tc : Thread Cert.KernelWinIdeal.nD Cert.KernelWinIdeal.τ).loc Cert.KernelWinIdeal.main_arg1))) = (fun _ => 1#1)

def Pre_ReferenceWinIdeal (m : (ℓ : Loc Cert.ReferenceWinIdeal.nD Cert.ReferenceWinIdeal.τ Cert.ReferenceWinIdeal.sig) → Buf (Elt Ideal) ℓ) : Prop :=
  True

def Pre_ReferenceWinIdeal_win_finite [hPre_win_finite : Cert.Pre_win_finite.Facts] (m : (ℓ : Loc Cert.ReferenceWinIdeal.nD Cert.ReferenceWinIdeal.τ Cert.ReferenceWinIdeal.sig) → Buf (Elt Ideal) ℓ) : Prop :=
  ∀ c : Dev Cert.ReferenceWinIdeal.nD,
    (Cert.Pre_win_finite.fn (F := Ideal) (m ((c.tc : Thread Cert.ReferenceWinIdeal.nD Cert.ReferenceWinIdeal.τ).loc Cert.ReferenceWinIdeal.main_arg0)) (m ((c.tc : Thread Cert.ReferenceWinIdeal.nD Cert.ReferenceWinIdeal.τ).loc Cert.ReferenceWinIdeal.main_arg1))) = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelFilters (m : (ℓ : Loc Cert.KernelFilters.nD Cert.KernelFilters.τ Cert.KernelFilters.sig) → Buf (Elt Bits) ℓ) : Prop :=
  True

def Pre_KernelFiltersIdeal (m : (ℓ : Loc Cert.KernelFiltersIdeal.nD Cert.KernelFiltersIdeal.τ Cert.KernelFiltersIdeal.sig) → Buf (Elt Ideal) ℓ) : Prop :=
  True

def Pre_ReferenceFiltersIdeal (m : (ℓ : Loc Cert.ReferenceFiltersIdeal.nD Cert.ReferenceFiltersIdeal.τ Cert.ReferenceFiltersIdeal.sig) → Buf (Elt Ideal) ℓ) : Prop :=
  True

def Pre_KernelSpectrum (m : (ℓ : Loc Cert.KernelSpectrum.nD Cert.KernelSpectrum.τ Cert.KernelSpectrum.sig) → Buf (Elt Bits) ℓ) : Prop :=
  True

def Pre_KernelSpectrumIdeal (m : (ℓ : Loc Cert.KernelSpectrumIdeal.nD Cert.KernelSpectrumIdeal.τ Cert.KernelSpectrumIdeal.sig) → Buf (Elt Ideal) ℓ) : Prop :=
  True

def Pre_ReferenceSpectrumIdeal (m : (ℓ : Loc Cert.ReferenceSpectrumIdeal.nD Cert.ReferenceSpectrumIdeal.τ Cert.ReferenceSpectrumIdeal.sig) → Buf (Elt Ideal) ℓ) : Prop :=
  True

def Pre_KernelForward (m : (ℓ : Loc Cert.KernelForward.nD Cert.KernelForward.τ Cert.KernelForward.sig) → Buf (Elt Bits) ℓ) : Prop :=
  True

def Pre_KernelForwardIdeal (m : (ℓ : Loc Cert.KernelForwardIdeal.nD Cert.KernelForwardIdeal.τ Cert.KernelForwardIdeal.sig) → Buf (Elt Ideal) ℓ) : Prop :=
  True

def Pre_ReferenceForwardIdeal (m : (ℓ : Loc Cert.ReferenceForwardIdeal.nD Cert.ReferenceForwardIdeal.τ Cert.ReferenceForwardIdeal.sig) → Buf (Elt Ideal) ℓ) : Prop :=
  True

def Pre_KernelInverse (m : (ℓ : Loc Cert.KernelInverse.nD Cert.KernelInverse.τ Cert.KernelInverse.sig) → Buf (Elt Bits) ℓ) : Prop :=
  True

def Pre_KernelInverseIdeal (m : (ℓ : Loc Cert.KernelInverseIdeal.nD Cert.KernelInverseIdeal.τ Cert.KernelInverseIdeal.sig) → Buf (Elt Ideal) ℓ) : Prop :=
  True

def Pre_ReferenceInverseIdeal (m : (ℓ : Loc Cert.ReferenceInverseIdeal.nD Cert.ReferenceInverseIdeal.τ Cert.ReferenceInverseIdeal.sig) → Buf (Elt Ideal) ℓ) : Prop :=
  True

def Pre_KernelForwardTwo (m : (ℓ : Loc Cert.KernelForwardTwo.nD Cert.KernelForwardTwo.τ Cert.KernelForwardTwo.sig) → Buf (Elt Bits) ℓ) : Prop :=
  True

def Pre_KernelForwardTwoIdeal (m : (ℓ : Loc Cert.KernelForwardTwoIdeal.nD Cert.KernelForwardTwoIdeal.τ Cert.KernelForwardTwoIdeal.sig) → Buf (Elt Ideal) ℓ) : Prop :=
  True

def Pre_ReferenceForwardTwoIdeal (m : (ℓ : Loc Cert.ReferenceForwardTwoIdeal.nD Cert.ReferenceForwardTwoIdeal.τ Cert.ReferenceForwardTwoIdeal.sig) → Buf (Elt Ideal) ℓ) : Prop :=
  True

def Pre_KernelInverseTwo (m : (ℓ : Loc Cert.KernelInverseTwo.nD Cert.KernelInverseTwo.τ Cert.KernelInverseTwo.sig) → Buf (Elt Bits) ℓ) : Prop :=
  True

def Pre_KernelInverseTwoIdeal (m : (ℓ : Loc Cert.KernelInverseTwoIdeal.nD Cert.KernelInverseTwoIdeal.τ Cert.KernelInverseTwoIdeal.sig) → Buf (Elt Ideal) ℓ) : Prop :=
  True

def Pre_ReferenceInverseTwoIdeal (m : (ℓ : Loc Cert.ReferenceInverseTwoIdeal.nD Cert.ReferenceInverseTwoIdeal.τ Cert.ReferenceInverseTwoIdeal.sig) → Buf (Elt Ideal) ℓ) : Prop :=
  True

def Pre_KernelDiffTwo (m : (ℓ : Loc Cert.KernelDiffTwo.nD Cert.KernelDiffTwo.τ Cert.KernelDiffTwo.sig) → Buf (Elt Bits) ℓ) : Prop :=
  True

def Pre_KernelDiffTwoIdeal (m : (ℓ : Loc Cert.KernelDiffTwoIdeal.nD Cert.KernelDiffTwoIdeal.τ Cert.KernelDiffTwoIdeal.sig) → Buf (Elt Ideal) ℓ) : Prop :=
  True

def Pre_ReferenceDiffTwoIdeal (m : (ℓ : Loc Cert.ReferenceDiffTwoIdeal.nD Cert.ReferenceDiffTwoIdeal.τ Cert.ReferenceDiffTwoIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOddIn [hKernelOddIn : Cert.KernelOddIn.Facts] : Prop :=
  ∀ (m : (ℓ : Loc Cert.KernelOddIn.nD Cert.KernelOddIn.τ Cert.KernelOddIn.sig) → Buf (Elt Bits) ℓ) (g : Dev Cert.KernelOddIn.nD → PrngReg), Pre_KernelOddIn m →
    θ_run (Cert.KernelOddIn.defs (F := Bits)) (onTc (τ := Cert.KernelOddIn.τ) (Cert.KernelOddIn.main (F := Bits))) ⟨m, fun _ => 0, g⟩ (fun r => (∀ c : Dev Cert.KernelOddIn.nD,
      r.2.mem ((c.tc : Thread Cert.KernelOddIn.nD Cert.KernelOddIn.τ).loc Cert.KernelOddIn.main_arg0) = m ((c.tc : Thread Cert.KernelOddIn.nD Cert.KernelOddIn.τ).loc Cert.KernelOddIn.main_arg0)
      ∧ r.2.mem ((c.tc : Thread Cert.KernelOddIn.nD Cert.KernelOddIn.τ).loc Cert.KernelOddIn.main_arg1) = m ((c.tc : Thread Cert.KernelOddIn.nD Cert.KernelOddIn.τ).loc Cert.KernelOddIn.main_arg1)
      ∧ r.2.mem ((c.tc : Thread Cert.KernelOddIn.nD Cert.KernelOddIn.τ).loc Cert.KernelOddIn.main_arg2) = m ((c.tc : Thread Cert.KernelOddIn.nD Cert.KernelOddIn.τ).loc Cert.KernelOddIn.main_arg2))
      ∧ r.2.sem = fun _ => 0)

def quiescent_KernelOddInIdeal [hKernelOddInIdeal : Cert.KernelOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg), Pre_KernelOddInIdeal m →
    θ_run (Cert.KernelOddInIdeal.defs (F := Ideal)) (onTc (τ := Cert.KernelOddInIdeal.τ) (Cert.KernelOddInIdeal.main (F := Ideal))) ⟨m, fun _ => 0, g⟩ (fun r => (∀ c : Dev Cert.KernelOddInIdeal.nD,
      r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
      ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1)
      ∧ r.2.mem ((c.tc : Thread Cert.KernelOddInIdeal.nD Cert.KernelOddInIdeal.τ).loc Cert.KernelOddInIdeal.main_arg2) = m ((c.tc : Thread Cert.KernelOddInIdeal.nD Cert.KernelOddInIdeal.τ).loc Cert.KernelOddInIdeal.main_arg2))
      ∧ r.2.sem = fun _ => 0)

def quiescent_ReferenceOddInIdeal [hReferenceOddInIdeal : Cert.ReferenceOddInIdeal.Facts] : Prop :=
  ∀ (m : (ℓ : Loc Cert.ReferenceOddInIdeal.nD Cert.ReferenceOddInIdeal.τ Cert.ReferenceOddInIdeal.sig) → Buf (Elt Ideal) ℓ) (g : Dev Cert.ReferenceOddInIdeal.nD → PrngReg), Pre_ReferenceOddInIdeal m →
    θ_run (Cert.ReferenceOddInIdeal.defs (F := Ideal)) (onTc (τ := Cert.ReferenceOddInIdeal.τ) (Cert.ReferenceOddInIdeal.main (F := Ideal))) ⟨m, fun _ => 0, g⟩ (fun r => (∀ c : Dev Cert.ReferenceOddInIdeal.nD,
      r.2.mem ((c.tc : Thread Cert.ReferenceOddInIdeal.nD Cert.ReferenceOddInIdeal.τ).loc Cert.ReferenceOddInIdeal.main_arg0) = m ((c.tc : Thread Cert.ReferenceOddInIdeal.nD Cert.ReferenceOddInIdeal.τ).loc Cert.ReferenceOddInIdeal.main_arg0)
      ∧ r.2.mem ((c.tc : Thread Cert.ReferenceOddInIdeal.nD Cert.ReferenceOddInIdeal.τ).loc Cert.ReferenceOddInIdeal.main_arg1) = m ((c.tc : Thread Cert.ReferenceOddInIdeal.nD Cert.ReferenceOddInIdeal.τ).loc Cert.ReferenceOddInIdeal.main_arg1)
      ∧ r.2.mem ((c.tc : Thread Cert.ReferenceOddInIdeal.nD Cert.ReferenceOddInIdeal.τ).loc Cert.ReferenceOddInIdeal.main_arg2) = m ((c.tc : Thread Cert.ReferenceOddInIdeal.nD Cert.ReferenceOddInIdeal.τ).loc Cert.ReferenceOddInIdeal.main_arg2))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelOddOut [hKernelOddOut : Cert.KernelOddOut.Facts] : Prop :=
  ∀ (m : (ℓ : Loc Cert.KernelOddOut.nD Cert.KernelOddOut.τ Cert.KernelOddOut.sig) → Buf (Elt Bits) ℓ) (g : Dev Cert.KernelOddOut.nD → PrngReg), Pre_KernelOddOut m →
    θ_run (Cert.KernelOddOut.defs (F := Bits)) (onTc (τ := Cert.KernelOddOut.τ) (Cert.KernelOddOut.main (F := Bits))) ⟨m, fun _ => 0, g⟩ (fun r => (∀ c : Dev Cert.KernelOddOut.nD,
      r.2.mem ((c.tc : Thread Cert.KernelOddOut.nD Cert.KernelOddOut.τ).loc Cert.KernelOddOut.main_arg0) = m ((c.tc : Thread Cert.KernelOddOut.nD Cert.KernelOddOut.τ).loc Cert.KernelOddOut.main_arg0)
      ∧ r.2.mem ((c.tc : Thread Cert.KernelOddOut.nD Cert.KernelOddOut.τ).loc Cert.KernelOddOut.main_arg1) = m ((c.tc : Thread Cert.KernelOddOut.nD Cert.KernelOddOut.τ).loc Cert.KernelOddOut.main_arg1)
      ∧ r.2.mem ((c.tc : Thread Cert.KernelOddOut.nD Cert.KernelOddOut.τ).loc Cert.KernelOddOut.main_arg2) = m ((c.tc : Thread Cert.KernelOddOut.nD Cert.KernelOddOut.τ).loc Cert.KernelOddOut.main_arg2))
      ∧ r.2.sem = fun _ => 0)

def quiescent_KernelOddOutIdeal [hKernelOddOutIdeal : Cert.KernelOddOutIdeal.Facts] : Prop :=
  ∀ (m : (ℓ : Loc Cert.KernelOddOutIdeal.nD Cert.KernelOddOutIdeal.τ Cert.KernelOddOutIdeal.sig) → Buf (Elt Ideal) ℓ) (g : Dev Cert.KernelOddOutIdeal.nD → PrngReg), Pre_KernelOddOutIdeal m →
    θ_run (Cert.KernelOddOutIdeal.defs (F := Ideal)) (onTc (τ := Cert.KernelOddOutIdeal.τ) (Cert.KernelOddOutIdeal.main (F := Ideal))) ⟨m, fun _ => 0, g⟩ (fun r => (∀ c : Dev Cert.KernelOddOutIdeal.nD,
      r.2.mem ((c.tc : Thread Cert.KernelOddOutIdeal.nD Cert.KernelOddOutIdeal.τ).loc Cert.KernelOddOutIdeal.main_arg0) = m ((c.tc : Thread Cert.KernelOddOutIdeal.nD Cert.KernelOddOutIdeal.τ).loc Cert.KernelOddOutIdeal.main_arg0)
      ∧ r.2.mem ((c.tc : Thread Cert.KernelOddOutIdeal.nD Cert.KernelOddOutIdeal.τ).loc Cert.KernelOddOutIdeal.main_arg1) = m ((c.tc : Thread Cert.KernelOddOutIdeal.nD Cert.KernelOddOutIdeal.τ).loc Cert.KernelOddOutIdeal.main_arg1)
      ∧ r.2.mem ((c.tc : Thread Cert.KernelOddOutIdeal.nD Cert.KernelOddOutIdeal.τ).loc Cert.KernelOddOutIdeal.main_arg2) = m ((c.tc : Thread Cert.KernelOddOutIdeal.nD Cert.KernelOddOutIdeal.τ).loc Cert.KernelOddOutIdeal.main_arg2))
      ∧ r.2.sem = fun _ => 0)

def quiescent_ReferenceOddOutIdeal [hReferenceOddOutIdeal : Cert.ReferenceOddOutIdeal.Facts] : Prop :=
  ∀ (m : (ℓ : Loc Cert.ReferenceOddOutIdeal.nD Cert.ReferenceOddOutIdeal.τ Cert.ReferenceOddOutIdeal.sig) → Buf (Elt Ideal) ℓ) (g : Dev Cert.ReferenceOddOutIdeal.nD → PrngReg), Pre_ReferenceOddOutIdeal m →
    θ_run (Cert.ReferenceOddOutIdeal.defs (F := Ideal)) (onTc (τ := Cert.ReferenceOddOutIdeal.τ) (Cert.ReferenceOddOutIdeal.main (F := Ideal))) ⟨m, fun _ => 0, g⟩ (fun r => (∀ c : Dev Cert.ReferenceOddOutIdeal.nD,
      r.2.mem ((c.tc : Thread Cert.ReferenceOddOutIdeal.nD Cert.ReferenceOddOutIdeal.τ).loc Cert.ReferenceOddOutIdeal.main_arg0) = m ((c.tc : Thread Cert.ReferenceOddOutIdeal.nD Cert.ReferenceOddOutIdeal.τ).loc Cert.ReferenceOddOutIdeal.main_arg0)
      ∧ r.2.mem ((c.tc : Thread Cert.ReferenceOddOutIdeal.nD Cert.ReferenceOddOutIdeal.τ).loc Cert.ReferenceOddOutIdeal.main_arg1) = m ((c.tc : Thread Cert.ReferenceOddOutIdeal.nD Cert.ReferenceOddOutIdeal.τ).loc Cert.ReferenceOddOutIdeal.main_arg1)
      ∧ r.2.mem ((c.tc : Thread Cert.ReferenceOddOutIdeal.nD Cert.ReferenceOddOutIdeal.τ).loc Cert.ReferenceOddOutIdeal.main_arg2) = m ((c.tc : Thread Cert.ReferenceOddOutIdeal.nD Cert.ReferenceOddOutIdeal.τ).loc Cert.ReferenceOddOutIdeal.main_arg2))
      ∧ r.2.sem = fun _ => 0)

def quiescent_KernelCross [hKernelCross : Cert.KernelCross.Facts] : Prop :=
  ∀ (m : (ℓ : Loc Cert.KernelCross.nD Cert.KernelCross.τ Cert.KernelCross.sig) → Buf (Elt Bits) ℓ) (g : Dev Cert.KernelCross.nD → PrngReg), Pre_KernelCross m →
    θ_run (Cert.KernelCross.defs (F := Bits)) (onTc (τ := Cert.KernelCross.τ) (Cert.KernelCross.main (F := Bits))) ⟨m, fun _ => 0, g⟩ (fun r => (∀ c : Dev Cert.KernelCross.nD,
      r.2.mem ((c.tc : Thread Cert.KernelCross.nD Cert.KernelCross.τ).loc Cert.KernelCross.main_arg0) = m ((c.tc : Thread Cert.KernelCross.nD Cert.KernelCross.τ).loc Cert.KernelCross.main_arg0)
      ∧ r.2.mem ((c.tc : Thread Cert.KernelCross.nD Cert.KernelCross.τ).loc Cert.KernelCross.main_arg1) = m ((c.tc : Thread Cert.KernelCross.nD Cert.KernelCross.τ).loc Cert.KernelCross.main_arg1)
      ∧ r.2.mem ((c.tc : Thread Cert.KernelCross.nD Cert.KernelCross.τ).loc Cert.KernelCross.main_arg2) = m ((c.tc : Thread Cert.KernelCross.nD Cert.KernelCross.τ).loc Cert.KernelCross.main_arg2)
      ∧ r.2.mem ((c.tc : Thread Cert.KernelCross.nD Cert.KernelCross.τ).loc Cert.KernelCross.main_arg3) = m ((c.tc : Thread Cert.KernelCross.nD Cert.KernelCross.τ).loc Cert.KernelCross.main_arg3)
      ∧ r.2.mem ((c.tc : Thread Cert.KernelCross.nD Cert.KernelCross.τ).loc Cert.KernelCross.main_arg4) = m ((c.tc : Thread Cert.KernelCross.nD Cert.KernelCross.τ).loc Cert.KernelCross.main_arg4))
      ∧ r.2.sem = fun _ => 0)

def quiescent_KernelCrossIdeal [hKernelCrossIdeal : Cert.KernelCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg), Pre_KernelCrossIdeal m →
    θ_run (Cert.KernelCrossIdeal.defs (F := Ideal)) (onTc (τ := Cert.KernelCrossIdeal.τ) (Cert.KernelCrossIdeal.main (F := Ideal))) ⟨m, fun _ => 0, g⟩ (fun r => (∀ c : Dev Cert.KernelCrossIdeal.nD,
      r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
      ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
      ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
      ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
      ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ r.2.sem = fun _ => 0)

def quiescent_ReferenceCrossIdeal [hReferenceCrossIdeal : Cert.ReferenceCrossIdeal.Facts] : Prop :=
  ∀ (m : (ℓ : Loc Cert.ReferenceCrossIdeal.nD Cert.ReferenceCrossIdeal.τ Cert.ReferenceCrossIdeal.sig) → Buf (Elt Ideal) ℓ) (g : Dev Cert.ReferenceCrossIdeal.nD → PrngReg), Pre_ReferenceCrossIdeal m →
    θ_run (Cert.ReferenceCrossIdeal.defs (F := Ideal)) (onTc (τ := Cert.ReferenceCrossIdeal.τ) (Cert.ReferenceCrossIdeal.main (F := Ideal))) ⟨m, fun _ => 0, g⟩ (fun r => (∀ c : Dev Cert.ReferenceCrossIdeal.nD,
      r.2.mem ((c.tc : Thread Cert.ReferenceCrossIdeal.nD Cert.ReferenceCrossIdeal.τ).loc Cert.ReferenceCrossIdeal.main_arg0) = m ((c.tc : Thread Cert.ReferenceCrossIdeal.nD Cert.ReferenceCrossIdeal.τ).loc Cert.ReferenceCrossIdeal.main_arg0)
      ∧ r.2.mem ((c.tc : Thread Cert.ReferenceCrossIdeal.nD Cert.ReferenceCrossIdeal.τ).loc Cert.ReferenceCrossIdeal.main_arg1) = m ((c.tc : Thread Cert.ReferenceCrossIdeal.nD Cert.ReferenceCrossIdeal.τ).loc Cert.ReferenceCrossIdeal.main_arg1)
      ∧ r.2.mem ((c.tc : Thread Cert.ReferenceCrossIdeal.nD Cert.ReferenceCrossIdeal.τ).loc Cert.ReferenceCrossIdeal.main_arg2) = m ((c.tc : Thread Cert.ReferenceCrossIdeal.nD Cert.ReferenceCrossIdeal.τ).loc Cert.ReferenceCrossIdeal.main_arg2)
      ∧ r.2.mem ((c.tc : Thread Cert.ReferenceCrossIdeal.nD Cert.ReferenceCrossIdeal.τ).loc Cert.ReferenceCrossIdeal.main_arg3) = m ((c.tc : Thread Cert.ReferenceCrossIdeal.nD Cert.ReferenceCrossIdeal.τ).loc Cert.ReferenceCrossIdeal.main_arg3)
      ∧ r.2.mem ((c.tc : Thread Cert.ReferenceCrossIdeal.nD Cert.ReferenceCrossIdeal.τ).loc Cert.ReferenceCrossIdeal.main_arg4) = m ((c.tc : Thread Cert.ReferenceCrossIdeal.nD Cert.ReferenceCrossIdeal.τ).loc Cert.ReferenceCrossIdeal.main_arg4))
      ∧ r.2.sem = fun _ => 0)

def quiescent_KernelExperts [hKernelExperts : Cert.KernelExperts.Facts] [hPre_experts_named : Cert.Pre_experts_named.Facts] : Prop :=
  ∀ (m : (ℓ : Loc Cert.KernelExperts.nD Cert.KernelExperts.τ Cert.KernelExperts.sig) → Buf (Elt Bits) ℓ) (g : Dev Cert.KernelExperts.nD → PrngReg), Pre_KernelExperts m →
    θ_run (Cert.KernelExperts.defs (F := Bits)) (onTc (τ := Cert.KernelExperts.τ) (Cert.KernelExperts.main (F := Bits))) ⟨m, fun _ => 0, g⟩ (fun r => (∀ c : Dev Cert.KernelExperts.nD,
      r.2.mem ((c.tc : Thread Cert.KernelExperts.nD Cert.KernelExperts.τ).loc Cert.KernelExperts.main_arg0) = m ((c.tc : Thread Cert.KernelExperts.nD Cert.KernelExperts.τ).loc Cert.KernelExperts.main_arg0)
      ∧ r.2.mem ((c.tc : Thread Cert.KernelExperts.nD Cert.KernelExperts.τ).loc Cert.KernelExperts.main_arg1) = m ((c.tc : Thread Cert.KernelExperts.nD Cert.KernelExperts.τ).loc Cert.KernelExperts.main_arg1)
      ∧ r.2.mem ((c.tc : Thread Cert.KernelExperts.nD Cert.KernelExperts.τ).loc Cert.KernelExperts.main_arg2) = m ((c.tc : Thread Cert.KernelExperts.nD Cert.KernelExperts.τ).loc Cert.KernelExperts.main_arg2)
      ∧ r.2.mem ((c.tc : Thread Cert.KernelExperts.nD Cert.KernelExperts.τ).loc Cert.KernelExperts.main_arg3) = m ((c.tc : Thread Cert.KernelExperts.nD Cert.KernelExperts.τ).loc Cert.KernelExperts.main_arg3)
      ∧ r.2.mem ((c.tc : Thread Cert.KernelExperts.nD Cert.KernelExperts.τ).loc Cert.KernelExperts.main_arg4) = m ((c.tc : Thread Cert.KernelExperts.nD Cert.KernelExperts.τ).loc Cert.KernelExperts.main_arg4)
      ∧ r.2.mem ((c.tc : Thread Cert.KernelExperts.nD Cert.KernelExperts.τ).loc Cert.KernelExperts.main_arg5) = m ((c.tc : Thread Cert.KernelExperts.nD Cert.KernelExperts.τ).loc Cert.KernelExperts.main_arg5))
      ∧ r.2.sem = fun _ => 0)

def quiescent_KernelExpertsIdeal [hKernelExpertsIdeal : Cert.KernelExpertsIdeal.Facts] [hPre_experts_named : Cert.Pre_experts_named.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg), Pre_KernelExpertsIdeal m →
    θ_run (Cert.KernelExpertsIdeal.defs (F := Ideal)) (onTc (τ := Cert.KernelExpertsIdeal.τ) (Cert.KernelExpertsIdeal.main (F := Ideal))) ⟨m, fun _ => 0, g⟩ (fun r => (∀ c : Dev Cert.KernelExpertsIdeal.nD,
      r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
      ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
      ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
      ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
      ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
      ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5))
      ∧ r.2.sem = fun _ => 0)

def quiescent_ReferenceExpertsIdeal_pre_experts_named [hReferenceExpertsIdeal : Cert.ReferenceExpertsIdeal.Facts] [hPre_experts_named : Cert.Pre_experts_named.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal_experts_named m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4)
      ∧ r.2.mem ((c.tc : Thread Cert.ReferenceExpertsIdeal.nD Cert.ReferenceExpertsIdeal.τ).loc Cert.ReferenceExpertsIdeal.main_arg5) = m ((c.tc : Thread Cert.ReferenceExpertsIdeal.nD Cert.ReferenceExpertsIdeal.τ).loc Cert.ReferenceExpertsIdeal.main_arg5))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_KernelWinIdeal_pre_win_finite [hKernelWinIdeal : Cert.KernelWinIdeal.Facts] [hPre_win_finite : Cert.Pre_win_finite.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal_win_finite m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_ReferenceWinIdeal_pre_win_finite [hReferenceWinIdeal : Cert.ReferenceWinIdeal.Facts] [hPre_win_finite : Cert.Pre_win_finite.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal_win_finite m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelFilters [hKernelFilters : Cert.KernelFilters.Facts] : Prop :=
  ∀ (m : (ℓ : Loc Cert.KernelFilters.nD Cert.KernelFilters.τ Cert.KernelFilters.sig) → Buf (Elt Bits) ℓ) (g : Dev Cert.KernelFilters.nD → PrngReg), Pre_KernelFilters m →
    θ_run (Cert.KernelFilters.defs (F := Bits)) (onTc (τ := Cert.KernelFilters.τ) (Cert.KernelFilters.main (F := Bits))) ⟨m, fun _ => 0, g⟩ (fun r => (∀ c : Dev Cert.KernelFilters.nD,
      r.2.mem ((c.tc : Thread Cert.KernelFilters.nD Cert.KernelFilters.τ).loc Cert.KernelFilters.main_arg0) = m ((c.tc : Thread Cert.KernelFilters.nD Cert.KernelFilters.τ).loc Cert.KernelFilters.main_arg0)
      ∧ r.2.mem ((c.tc : Thread Cert.KernelFilters.nD Cert.KernelFilters.τ).loc Cert.KernelFilters.main_arg1) = m ((c.tc : Thread Cert.KernelFilters.nD Cert.KernelFilters.τ).loc Cert.KernelFilters.main_arg1)
      ∧ r.2.mem ((c.tc : Thread Cert.KernelFilters.nD Cert.KernelFilters.τ).loc Cert.KernelFilters.main_arg2) = m ((c.tc : Thread Cert.KernelFilters.nD Cert.KernelFilters.τ).loc Cert.KernelFilters.main_arg2)
      ∧ r.2.mem ((c.tc : Thread Cert.KernelFilters.nD Cert.KernelFilters.τ).loc Cert.KernelFilters.main_arg3) = m ((c.tc : Thread Cert.KernelFilters.nD Cert.KernelFilters.τ).loc Cert.KernelFilters.main_arg3)
      ∧ r.2.mem ((c.tc : Thread Cert.KernelFilters.nD Cert.KernelFilters.τ).loc Cert.KernelFilters.main_arg4) = m ((c.tc : Thread Cert.KernelFilters.nD Cert.KernelFilters.τ).loc Cert.KernelFilters.main_arg4)
      ∧ r.2.mem ((c.tc : Thread Cert.KernelFilters.nD Cert.KernelFilters.τ).loc Cert.KernelFilters.main_arg5) = m ((c.tc : Thread Cert.KernelFilters.nD Cert.KernelFilters.τ).loc Cert.KernelFilters.main_arg5))
      ∧ r.2.sem = fun _ => 0)

def quiescent_KernelFiltersIdeal [hKernelFiltersIdeal : Cert.KernelFiltersIdeal.Facts] : Prop :=
  ∀ (m : (ℓ : Loc Cert.KernelFiltersIdeal.nD Cert.KernelFiltersIdeal.τ Cert.KernelFiltersIdeal.sig) → Buf (Elt Ideal) ℓ) (g : Dev Cert.KernelFiltersIdeal.nD → PrngReg), Pre_KernelFiltersIdeal m →
    θ_run (Cert.KernelFiltersIdeal.defs (F := Ideal)) (onTc (τ := Cert.KernelFiltersIdeal.τ) (Cert.KernelFiltersIdeal.main (F := Ideal))) ⟨m, fun _ => 0, g⟩ (fun r => (∀ c : Dev Cert.KernelFiltersIdeal.nD,
      r.2.mem ((c.tc : Thread Cert.KernelFiltersIdeal.nD Cert.KernelFiltersIdeal.τ).loc Cert.KernelFiltersIdeal.main_arg0) = m ((c.tc : Thread Cert.KernelFiltersIdeal.nD Cert.KernelFiltersIdeal.τ).loc Cert.KernelFiltersIdeal.main_arg0)
      ∧ r.2.mem ((c.tc : Thread Cert.KernelFiltersIdeal.nD Cert.KernelFiltersIdeal.τ).loc Cert.KernelFiltersIdeal.main_arg1) = m ((c.tc : Thread Cert.KernelFiltersIdeal.nD Cert.KernelFiltersIdeal.τ).loc Cert.KernelFiltersIdeal.main_arg1)
      ∧ r.2.mem ((c.tc : Thread Cert.KernelFiltersIdeal.nD Cert.KernelFiltersIdeal.τ).loc Cert.KernelFiltersIdeal.main_arg2) = m ((c.tc : Thread Cert.KernelFiltersIdeal.nD Cert.KernelFiltersIdeal.τ).loc Cert.KernelFiltersIdeal.main_arg2)
      ∧ r.2.mem ((c.tc : Thread Cert.KernelFiltersIdeal.nD Cert.KernelFiltersIdeal.τ).loc Cert.KernelFiltersIdeal.main_arg3) = m ((c.tc : Thread Cert.KernelFiltersIdeal.nD Cert.KernelFiltersIdeal.τ).loc Cert.KernelFiltersIdeal.main_arg3)
      ∧ r.2.mem ((c.tc : Thread Cert.KernelFiltersIdeal.nD Cert.KernelFiltersIdeal.τ).loc Cert.KernelFiltersIdeal.main_arg4) = m ((c.tc : Thread Cert.KernelFiltersIdeal.nD Cert.KernelFiltersIdeal.τ).loc Cert.KernelFiltersIdeal.main_arg4)
      ∧ r.2.mem ((c.tc : Thread Cert.KernelFiltersIdeal.nD Cert.KernelFiltersIdeal.τ).loc Cert.KernelFiltersIdeal.main_arg5) = m ((c.tc : Thread Cert.KernelFiltersIdeal.nD Cert.KernelFiltersIdeal.τ).loc Cert.KernelFiltersIdeal.main_arg5))
      ∧ r.2.sem = fun _ => 0)

def quiescent_ReferenceFiltersIdeal [hReferenceFiltersIdeal : Cert.ReferenceFiltersIdeal.Facts] : Prop :=
  ∀ (m : (ℓ : Loc Cert.ReferenceFiltersIdeal.nD Cert.ReferenceFiltersIdeal.τ Cert.ReferenceFiltersIdeal.sig) → Buf (Elt Ideal) ℓ) (g : Dev Cert.ReferenceFiltersIdeal.nD → PrngReg), Pre_ReferenceFiltersIdeal m →
    θ_run (Cert.ReferenceFiltersIdeal.defs (F := Ideal)) (onTc (τ := Cert.ReferenceFiltersIdeal.τ) (Cert.ReferenceFiltersIdeal.main (F := Ideal))) ⟨m, fun _ => 0, g⟩ (fun r => (∀ c : Dev Cert.ReferenceFiltersIdeal.nD,
      r.2.mem ((c.tc : Thread Cert.ReferenceFiltersIdeal.nD Cert.ReferenceFiltersIdeal.τ).loc Cert.ReferenceFiltersIdeal.main_arg0) = m ((c.tc : Thread Cert.ReferenceFiltersIdeal.nD Cert.ReferenceFiltersIdeal.τ).loc Cert.ReferenceFiltersIdeal.main_arg0)
      ∧ r.2.mem ((c.tc : Thread Cert.ReferenceFiltersIdeal.nD Cert.ReferenceFiltersIdeal.τ).loc Cert.ReferenceFiltersIdeal.main_arg1) = m ((c.tc : Thread Cert.ReferenceFiltersIdeal.nD Cert.ReferenceFiltersIdeal.τ).loc Cert.ReferenceFiltersIdeal.main_arg1)
      ∧ r.2.mem ((c.tc : Thread Cert.ReferenceFiltersIdeal.nD Cert.ReferenceFiltersIdeal.τ).loc Cert.ReferenceFiltersIdeal.main_arg2) = m ((c.tc : Thread Cert.ReferenceFiltersIdeal.nD Cert.ReferenceFiltersIdeal.τ).loc Cert.ReferenceFiltersIdeal.main_arg2)
      ∧ r.2.mem ((c.tc : Thread Cert.ReferenceFiltersIdeal.nD Cert.ReferenceFiltersIdeal.τ).loc Cert.ReferenceFiltersIdeal.main_arg3) = m ((c.tc : Thread Cert.ReferenceFiltersIdeal.nD Cert.ReferenceFiltersIdeal.τ).loc Cert.ReferenceFiltersIdeal.main_arg3)
      ∧ r.2.mem ((c.tc : Thread Cert.ReferenceFiltersIdeal.nD Cert.ReferenceFiltersIdeal.τ).loc Cert.ReferenceFiltersIdeal.main_arg4) = m ((c.tc : Thread Cert.ReferenceFiltersIdeal.nD Cert.ReferenceFiltersIdeal.τ).loc Cert.ReferenceFiltersIdeal.main_arg4)
      ∧ r.2.mem ((c.tc : Thread Cert.ReferenceFiltersIdeal.nD Cert.ReferenceFiltersIdeal.τ).loc Cert.ReferenceFiltersIdeal.main_arg5) = m ((c.tc : Thread Cert.ReferenceFiltersIdeal.nD Cert.ReferenceFiltersIdeal.τ).loc Cert.ReferenceFiltersIdeal.main_arg5))
      ∧ r.2.sem = fun _ => 0)

def quiescent_KernelSpectrum [hKernelSpectrum : Cert.KernelSpectrum.Facts] : Prop :=
  ∀ (m : (ℓ : Loc Cert.KernelSpectrum.nD Cert.KernelSpectrum.τ Cert.KernelSpectrum.sig) → Buf (Elt Bits) ℓ) (g : Dev Cert.KernelSpectrum.nD → PrngReg), Pre_KernelSpectrum m →
    θ_run (Cert.KernelSpectrum.defs (F := Bits)) (onTc (τ := Cert.KernelSpectrum.τ) (Cert.KernelSpectrum.main (F := Bits))) ⟨m, fun _ => 0, g⟩ (fun r => (∀ c : Dev Cert.KernelSpectrum.nD,
      r.2.mem ((c.tc : Thread Cert.KernelSpectrum.nD Cert.KernelSpectrum.τ).loc Cert.KernelSpectrum.main_arg0) = m ((c.tc : Thread Cert.KernelSpectrum.nD Cert.KernelSpectrum.τ).loc Cert.KernelSpectrum.main_arg0)
      ∧ r.2.mem ((c.tc : Thread Cert.KernelSpectrum.nD Cert.KernelSpectrum.τ).loc Cert.KernelSpectrum.main_arg1) = m ((c.tc : Thread Cert.KernelSpectrum.nD Cert.KernelSpectrum.τ).loc Cert.KernelSpectrum.main_arg1)
      ∧ r.2.mem ((c.tc : Thread Cert.KernelSpectrum.nD Cert.KernelSpectrum.τ).loc Cert.KernelSpectrum.main_arg2) = m ((c.tc : Thread Cert.KernelSpectrum.nD Cert.KernelSpectrum.τ).loc Cert.KernelSpectrum.main_arg2)
      ∧ r.2.mem ((c.tc : Thread Cert.KernelSpectrum.nD Cert.KernelSpectrum.τ).loc Cert.KernelSpectrum.main_arg3) = m ((c.tc : Thread Cert.KernelSpectrum.nD Cert.KernelSpectrum.τ).loc Cert.KernelSpectrum.main_arg3))
      ∧ r.2.sem = fun _ => 0)

def quiescent_KernelSpectrumIdeal [hKernelSpectrumIdeal : Cert.KernelSpectrumIdeal.Facts] : Prop :=
  ∀ (m : (ℓ : Loc Cert.KernelSpectrumIdeal.nD Cert.KernelSpectrumIdeal.τ Cert.KernelSpectrumIdeal.sig) → Buf (Elt Ideal) ℓ) (g : Dev Cert.KernelSpectrumIdeal.nD → PrngReg), Pre_KernelSpectrumIdeal m →
    θ_run (Cert.KernelSpectrumIdeal.defs (F := Ideal)) (onTc (τ := Cert.KernelSpectrumIdeal.τ) (Cert.KernelSpectrumIdeal.main (F := Ideal))) ⟨m, fun _ => 0, g⟩ (fun r => (∀ c : Dev Cert.KernelSpectrumIdeal.nD,
      r.2.mem ((c.tc : Thread Cert.KernelSpectrumIdeal.nD Cert.KernelSpectrumIdeal.τ).loc Cert.KernelSpectrumIdeal.main_arg0) = m ((c.tc : Thread Cert.KernelSpectrumIdeal.nD Cert.KernelSpectrumIdeal.τ).loc Cert.KernelSpectrumIdeal.main_arg0)
      ∧ r.2.mem ((c.tc : Thread Cert.KernelSpectrumIdeal.nD Cert.KernelSpectrumIdeal.τ).loc Cert.KernelSpectrumIdeal.main_arg1) = m ((c.tc : Thread Cert.KernelSpectrumIdeal.nD Cert.KernelSpectrumIdeal.τ).loc Cert.KernelSpectrumIdeal.main_arg1)
      ∧ r.2.mem ((c.tc : Thread Cert.KernelSpectrumIdeal.nD Cert.KernelSpectrumIdeal.τ).loc Cert.KernelSpectrumIdeal.main_arg2) = m ((c.tc : Thread Cert.KernelSpectrumIdeal.nD Cert.KernelSpectrumIdeal.τ).loc Cert.KernelSpectrumIdeal.main_arg2)
      ∧ r.2.mem ((c.tc : Thread Cert.KernelSpectrumIdeal.nD Cert.KernelSpectrumIdeal.τ).loc Cert.KernelSpectrumIdeal.main_arg3) = m ((c.tc : Thread Cert.KernelSpectrumIdeal.nD Cert.KernelSpectrumIdeal.τ).loc Cert.KernelSpectrumIdeal.main_arg3))
      ∧ r.2.sem = fun _ => 0)

def quiescent_ReferenceSpectrumIdeal [hReferenceSpectrumIdeal : Cert.ReferenceSpectrumIdeal.Facts] : Prop :=
  ∀ (m : (ℓ : Loc Cert.ReferenceSpectrumIdeal.nD Cert.ReferenceSpectrumIdeal.τ Cert.ReferenceSpectrumIdeal.sig) → Buf (Elt Ideal) ℓ) (g : Dev Cert.ReferenceSpectrumIdeal.nD → PrngReg), Pre_ReferenceSpectrumIdeal m →
    θ_run (Cert.ReferenceSpectrumIdeal.defs (F := Ideal)) (onTc (τ := Cert.ReferenceSpectrumIdeal.τ) (Cert.ReferenceSpectrumIdeal.main (F := Ideal))) ⟨m, fun _ => 0, g⟩ (fun r => (∀ c : Dev Cert.ReferenceSpectrumIdeal.nD,
      r.2.mem ((c.tc : Thread Cert.ReferenceSpectrumIdeal.nD Cert.ReferenceSpectrumIdeal.τ).loc Cert.ReferenceSpectrumIdeal.main_arg0) = m ((c.tc : Thread Cert.ReferenceSpectrumIdeal.nD Cert.ReferenceSpectrumIdeal.τ).loc Cert.ReferenceSpectrumIdeal.main_arg0)
      ∧ r.2.mem ((c.tc : Thread Cert.ReferenceSpectrumIdeal.nD Cert.ReferenceSpectrumIdeal.τ).loc Cert.ReferenceSpectrumIdeal.main_arg1) = m ((c.tc : Thread Cert.ReferenceSpectrumIdeal.nD Cert.ReferenceSpectrumIdeal.τ).loc Cert.ReferenceSpectrumIdeal.main_arg1)
      ∧ r.2.mem ((c.tc : Thread Cert.ReferenceSpectrumIdeal.nD Cert.ReferenceSpectrumIdeal.τ).loc Cert.ReferenceSpectrumIdeal.main_arg2) = m ((c.tc : Thread Cert.ReferenceSpectrumIdeal.nD Cert.ReferenceSpectrumIdeal.τ).loc Cert.ReferenceSpectrumIdeal.main_arg2)
      ∧ r.2.mem ((c.tc : Thread Cert.ReferenceSpectrumIdeal.nD Cert.ReferenceSpectrumIdeal.τ).loc Cert.ReferenceSpectrumIdeal.main_arg3) = m ((c.tc : Thread Cert.ReferenceSpectrumIdeal.nD Cert.ReferenceSpectrumIdeal.τ).loc Cert.ReferenceSpectrumIdeal.main_arg3))
      ∧ r.2.sem = fun _ => 0)

def quiescent_KernelForward [hKernelForward : Cert.KernelForward.Facts] : Prop :=
  ∀ (m : (ℓ : Loc Cert.KernelForward.nD Cert.KernelForward.τ Cert.KernelForward.sig) → Buf (Elt Bits) ℓ) (g : Dev Cert.KernelForward.nD → PrngReg), Pre_KernelForward m →
    θ_run (Cert.KernelForward.defs (F := Bits)) (onTc (τ := Cert.KernelForward.τ) (Cert.KernelForward.main (F := Bits))) ⟨m, fun _ => 0, g⟩ (fun r => (∀ c : Dev Cert.KernelForward.nD,
      r.2.mem ((c.tc : Thread Cert.KernelForward.nD Cert.KernelForward.τ).loc Cert.KernelForward.main_arg0) = m ((c.tc : Thread Cert.KernelForward.nD Cert.KernelForward.τ).loc Cert.KernelForward.main_arg0)
      ∧ r.2.mem ((c.tc : Thread Cert.KernelForward.nD Cert.KernelForward.τ).loc Cert.KernelForward.main_arg1) = m ((c.tc : Thread Cert.KernelForward.nD Cert.KernelForward.τ).loc Cert.KernelForward.main_arg1)
      ∧ r.2.mem ((c.tc : Thread Cert.KernelForward.nD Cert.KernelForward.τ).loc Cert.KernelForward.main_arg2) = m ((c.tc : Thread Cert.KernelForward.nD Cert.KernelForward.τ).loc Cert.KernelForward.main_arg2)
      ∧ r.2.mem ((c.tc : Thread Cert.KernelForward.nD Cert.KernelForward.τ).loc Cert.KernelForward.main_arg3) = m ((c.tc : Thread Cert.KernelForward.nD Cert.KernelForward.τ).loc Cert.KernelForward.main_arg3)
      ∧ r.2.mem ((c.tc : Thread Cert.KernelForward.nD Cert.KernelForward.τ).loc Cert.KernelForward.main_arg4) = m ((c.tc : Thread Cert.KernelForward.nD Cert.KernelForward.τ).loc Cert.KernelForward.main_arg4))
      ∧ r.2.sem = fun _ => 0)

def quiescent_KernelForwardIdeal [hKernelForwardIdeal : Cert.KernelForwardIdeal.Facts] : Prop :=
  ∀ (m : (ℓ : Loc Cert.KernelForwardIdeal.nD Cert.KernelForwardIdeal.τ Cert.KernelForwardIdeal.sig) → Buf (Elt Ideal) ℓ) (g : Dev Cert.KernelForwardIdeal.nD → PrngReg), Pre_KernelForwardIdeal m →
    θ_run (Cert.KernelForwardIdeal.defs (F := Ideal)) (onTc (τ := Cert.KernelForwardIdeal.τ) (Cert.KernelForwardIdeal.main (F := Ideal))) ⟨m, fun _ => 0, g⟩ (fun r => (∀ c : Dev Cert.KernelForwardIdeal.nD,
      r.2.mem ((c.tc : Thread Cert.KernelForwardIdeal.nD Cert.KernelForwardIdeal.τ).loc Cert.KernelForwardIdeal.main_arg0) = m ((c.tc : Thread Cert.KernelForwardIdeal.nD Cert.KernelForwardIdeal.τ).loc Cert.KernelForwardIdeal.main_arg0)
      ∧ r.2.mem ((c.tc : Thread Cert.KernelForwardIdeal.nD Cert.KernelForwardIdeal.τ).loc Cert.KernelForwardIdeal.main_arg1) = m ((c.tc : Thread Cert.KernelForwardIdeal.nD Cert.KernelForwardIdeal.τ).loc Cert.KernelForwardIdeal.main_arg1)
      ∧ r.2.mem ((c.tc : Thread Cert.KernelForwardIdeal.nD Cert.KernelForwardIdeal.τ).loc Cert.KernelForwardIdeal.main_arg2) = m ((c.tc : Thread Cert.KernelForwardIdeal.nD Cert.KernelForwardIdeal.τ).loc Cert.KernelForwardIdeal.main_arg2)
      ∧ r.2.mem ((c.tc : Thread Cert.KernelForwardIdeal.nD Cert.KernelForwardIdeal.τ).loc Cert.KernelForwardIdeal.main_arg3) = m ((c.tc : Thread Cert.KernelForwardIdeal.nD Cert.KernelForwardIdeal.τ).loc Cert.KernelForwardIdeal.main_arg3)
      ∧ r.2.mem ((c.tc : Thread Cert.KernelForwardIdeal.nD Cert.KernelForwardIdeal.τ).loc Cert.KernelForwardIdeal.main_arg4) = m ((c.tc : Thread Cert.KernelForwardIdeal.nD Cert.KernelForwardIdeal.τ).loc Cert.KernelForwardIdeal.main_arg4))
      ∧ r.2.sem = fun _ => 0)

def quiescent_ReferenceForwardIdeal [hReferenceForwardIdeal : Cert.ReferenceForwardIdeal.Facts] : Prop :=
  ∀ (m : (ℓ : Loc Cert.ReferenceForwardIdeal.nD Cert.ReferenceForwardIdeal.τ Cert.ReferenceForwardIdeal.sig) → Buf (Elt Ideal) ℓ) (g : Dev Cert.ReferenceForwardIdeal.nD → PrngReg), Pre_ReferenceForwardIdeal m →
    θ_run (Cert.ReferenceForwardIdeal.defs (F := Ideal)) (onTc (τ := Cert.ReferenceForwardIdeal.τ) (Cert.ReferenceForwardIdeal.main (F := Ideal))) ⟨m, fun _ => 0, g⟩ (fun r => (∀ c : Dev Cert.ReferenceForwardIdeal.nD,
      r.2.mem ((c.tc : Thread Cert.ReferenceForwardIdeal.nD Cert.ReferenceForwardIdeal.τ).loc Cert.ReferenceForwardIdeal.main_arg0) = m ((c.tc : Thread Cert.ReferenceForwardIdeal.nD Cert.ReferenceForwardIdeal.τ).loc Cert.ReferenceForwardIdeal.main_arg0)
      ∧ r.2.mem ((c.tc : Thread Cert.ReferenceForwardIdeal.nD Cert.ReferenceForwardIdeal.τ).loc Cert.ReferenceForwardIdeal.main_arg1) = m ((c.tc : Thread Cert.ReferenceForwardIdeal.nD Cert.ReferenceForwardIdeal.τ).loc Cert.ReferenceForwardIdeal.main_arg1)
      ∧ r.2.mem ((c.tc : Thread Cert.ReferenceForwardIdeal.nD Cert.ReferenceForwardIdeal.τ).loc Cert.ReferenceForwardIdeal.main_arg2) = m ((c.tc : Thread Cert.ReferenceForwardIdeal.nD Cert.ReferenceForwardIdeal.τ).loc Cert.ReferenceForwardIdeal.main_arg2)
      ∧ r.2.mem ((c.tc : Thread Cert.ReferenceForwardIdeal.nD Cert.ReferenceForwardIdeal.τ).loc Cert.ReferenceForwardIdeal.main_arg3) = m ((c.tc : Thread Cert.ReferenceForwardIdeal.nD Cert.ReferenceForwardIdeal.τ).loc Cert.ReferenceForwardIdeal.main_arg3)
      ∧ r.2.mem ((c.tc : Thread Cert.ReferenceForwardIdeal.nD Cert.ReferenceForwardIdeal.τ).loc Cert.ReferenceForwardIdeal.main_arg4) = m ((c.tc : Thread Cert.ReferenceForwardIdeal.nD Cert.ReferenceForwardIdeal.τ).loc Cert.ReferenceForwardIdeal.main_arg4))
      ∧ r.2.sem = fun _ => 0)

def quiescent_KernelInverse [hKernelInverse : Cert.KernelInverse.Facts] : Prop :=
  ∀ (m : (ℓ : Loc Cert.KernelInverse.nD Cert.KernelInverse.τ Cert.KernelInverse.sig) → Buf (Elt Bits) ℓ) (g : Dev Cert.KernelInverse.nD → PrngReg), Pre_KernelInverse m →
    θ_run (Cert.KernelInverse.defs (F := Bits)) (onTc (τ := Cert.KernelInverse.τ) (Cert.KernelInverse.main (F := Bits))) ⟨m, fun _ => 0, g⟩ (fun r => (∀ c : Dev Cert.KernelInverse.nD,
      r.2.mem ((c.tc : Thread Cert.KernelInverse.nD Cert.KernelInverse.τ).loc Cert.KernelInverse.main_arg0) = m ((c.tc : Thread Cert.KernelInverse.nD Cert.KernelInverse.τ).loc Cert.KernelInverse.main_arg0)
      ∧ r.2.mem ((c.tc : Thread Cert.KernelInverse.nD Cert.KernelInverse.τ).loc Cert.KernelInverse.main_arg1) = m ((c.tc : Thread Cert.KernelInverse.nD Cert.KernelInverse.τ).loc Cert.KernelInverse.main_arg1)
      ∧ r.2.mem ((c.tc : Thread Cert.KernelInverse.nD Cert.KernelInverse.τ).loc Cert.KernelInverse.main_arg2) = m ((c.tc : Thread Cert.KernelInverse.nD Cert.KernelInverse.τ).loc Cert.KernelInverse.main_arg2)
      ∧ r.2.mem ((c.tc : Thread Cert.KernelInverse.nD Cert.KernelInverse.τ).loc Cert.KernelInverse.main_arg3) = m ((c.tc : Thread Cert.KernelInverse.nD Cert.KernelInverse.τ).loc Cert.KernelInverse.main_arg3)
      ∧ r.2.mem ((c.tc : Thread Cert.KernelInverse.nD Cert.KernelInverse.τ).loc Cert.KernelInverse.main_arg4) = m ((c.tc : Thread Cert.KernelInverse.nD Cert.KernelInverse.τ).loc Cert.KernelInverse.main_arg4)
      ∧ r.2.mem ((c.tc : Thread Cert.KernelInverse.nD Cert.KernelInverse.τ).loc Cert.KernelInverse.main_arg5) = m ((c.tc : Thread Cert.KernelInverse.nD Cert.KernelInverse.τ).loc Cert.KernelInverse.main_arg5))
      ∧ r.2.sem = fun _ => 0)

def quiescent_KernelInverseIdeal [hKernelInverseIdeal : Cert.KernelInverseIdeal.Facts] : Prop :=
  ∀ (m : (ℓ : Loc Cert.KernelInverseIdeal.nD Cert.KernelInverseIdeal.τ Cert.KernelInverseIdeal.sig) → Buf (Elt Ideal) ℓ) (g : Dev Cert.KernelInverseIdeal.nD → PrngReg), Pre_KernelInverseIdeal m →
    θ_run (Cert.KernelInverseIdeal.defs (F := Ideal)) (onTc (τ := Cert.KernelInverseIdeal.τ) (Cert.KernelInverseIdeal.main (F := Ideal))) ⟨m, fun _ => 0, g⟩ (fun r => (∀ c : Dev Cert.KernelInverseIdeal.nD,
      r.2.mem ((c.tc : Thread Cert.KernelInverseIdeal.nD Cert.KernelInverseIdeal.τ).loc Cert.KernelInverseIdeal.main_arg0) = m ((c.tc : Thread Cert.KernelInverseIdeal.nD Cert.KernelInverseIdeal.τ).loc Cert.KernelInverseIdeal.main_arg0)
      ∧ r.2.mem ((c.tc : Thread Cert.KernelInverseIdeal.nD Cert.KernelInverseIdeal.τ).loc Cert.KernelInverseIdeal.main_arg1) = m ((c.tc : Thread Cert.KernelInverseIdeal.nD Cert.KernelInverseIdeal.τ).loc Cert.KernelInverseIdeal.main_arg1)
      ∧ r.2.mem ((c.tc : Thread Cert.KernelInverseIdeal.nD Cert.KernelInverseIdeal.τ).loc Cert.KernelInverseIdeal.main_arg2) = m ((c.tc : Thread Cert.KernelInverseIdeal.nD Cert.KernelInverseIdeal.τ).loc Cert.KernelInverseIdeal.main_arg2)
      ∧ r.2.mem ((c.tc : Thread Cert.KernelInverseIdeal.nD Cert.KernelInverseIdeal.τ).loc Cert.KernelInverseIdeal.main_arg3) = m ((c.tc : Thread Cert.KernelInverseIdeal.nD Cert.KernelInverseIdeal.τ).loc Cert.KernelInverseIdeal.main_arg3)
      ∧ r.2.mem ((c.tc : Thread Cert.KernelInverseIdeal.nD Cert.KernelInverseIdeal.τ).loc Cert.KernelInverseIdeal.main_arg4) = m ((c.tc : Thread Cert.KernelInverseIdeal.nD Cert.KernelInverseIdeal.τ).loc Cert.KernelInverseIdeal.main_arg4)
      ∧ r.2.mem ((c.tc : Thread Cert.KernelInverseIdeal.nD Cert.KernelInverseIdeal.τ).loc Cert.KernelInverseIdeal.main_arg5) = m ((c.tc : Thread Cert.KernelInverseIdeal.nD Cert.KernelInverseIdeal.τ).loc Cert.KernelInverseIdeal.main_arg5))
      ∧ r.2.sem = fun _ => 0)

def quiescent_ReferenceInverseIdeal [hReferenceInverseIdeal : Cert.ReferenceInverseIdeal.Facts] : Prop :=
  ∀ (m : (ℓ : Loc Cert.ReferenceInverseIdeal.nD Cert.ReferenceInverseIdeal.τ Cert.ReferenceInverseIdeal.sig) → Buf (Elt Ideal) ℓ) (g : Dev Cert.ReferenceInverseIdeal.nD → PrngReg), Pre_ReferenceInverseIdeal m →
    θ_run (Cert.ReferenceInverseIdeal.defs (F := Ideal)) (onTc (τ := Cert.ReferenceInverseIdeal.τ) (Cert.ReferenceInverseIdeal.main (F := Ideal))) ⟨m, fun _ => 0, g⟩ (fun r => (∀ c : Dev Cert.ReferenceInverseIdeal.nD,
      r.2.mem ((c.tc : Thread Cert.ReferenceInverseIdeal.nD Cert.ReferenceInverseIdeal.τ).loc Cert.ReferenceInverseIdeal.main_arg0) = m ((c.tc : Thread Cert.ReferenceInverseIdeal.nD Cert.ReferenceInverseIdeal.τ).loc Cert.ReferenceInverseIdeal.main_arg0)
      ∧ r.2.mem ((c.tc : Thread Cert.ReferenceInverseIdeal.nD Cert.ReferenceInverseIdeal.τ).loc Cert.ReferenceInverseIdeal.main_arg1) = m ((c.tc : Thread Cert.ReferenceInverseIdeal.nD Cert.ReferenceInverseIdeal.τ).loc Cert.ReferenceInverseIdeal.main_arg1)
      ∧ r.2.mem ((c.tc : Thread Cert.ReferenceInverseIdeal.nD Cert.ReferenceInverseIdeal.τ).loc Cert.ReferenceInverseIdeal.main_arg2) = m ((c.tc : Thread Cert.ReferenceInverseIdeal.nD Cert.ReferenceInverseIdeal.τ).loc Cert.ReferenceInverseIdeal.main_arg2)
      ∧ r.2.mem ((c.tc : Thread Cert.ReferenceInverseIdeal.nD Cert.ReferenceInverseIdeal.τ).loc Cert.ReferenceInverseIdeal.main_arg3) = m ((c.tc : Thread Cert.ReferenceInverseIdeal.nD Cert.ReferenceInverseIdeal.τ).loc Cert.ReferenceInverseIdeal.main_arg3)
      ∧ r.2.mem ((c.tc : Thread Cert.ReferenceInverseIdeal.nD Cert.ReferenceInverseIdeal.τ).loc Cert.ReferenceInverseIdeal.main_arg4) = m ((c.tc : Thread Cert.ReferenceInverseIdeal.nD Cert.ReferenceInverseIdeal.τ).loc Cert.ReferenceInverseIdeal.main_arg4)
      ∧ r.2.mem ((c.tc : Thread Cert.ReferenceInverseIdeal.nD Cert.ReferenceInverseIdeal.τ).loc Cert.ReferenceInverseIdeal.main_arg5) = m ((c.tc : Thread Cert.ReferenceInverseIdeal.nD Cert.ReferenceInverseIdeal.τ).loc Cert.ReferenceInverseIdeal.main_arg5))
      ∧ r.2.sem = fun _ => 0)

def quiescent_KernelForwardTwo [hKernelForwardTwo : Cert.KernelForwardTwo.Facts] : Prop :=
  ∀ (m : (ℓ : Loc Cert.KernelForwardTwo.nD Cert.KernelForwardTwo.τ Cert.KernelForwardTwo.sig) → Buf (Elt Bits) ℓ) (g : Dev Cert.KernelForwardTwo.nD → PrngReg), Pre_KernelForwardTwo m →
    θ_run (Cert.KernelForwardTwo.defs (F := Bits)) (onTc (τ := Cert.KernelForwardTwo.τ) (Cert.KernelForwardTwo.main (F := Bits))) ⟨m, fun _ => 0, g⟩ (fun r => (∀ c : Dev Cert.KernelForwardTwo.nD,
      r.2.mem ((c.tc : Thread Cert.KernelForwardTwo.nD Cert.KernelForwardTwo.τ).loc Cert.KernelForwardTwo.main_arg0) = m ((c.tc : Thread Cert.KernelForwardTwo.nD Cert.KernelForwardTwo.τ).loc Cert.KernelForwardTwo.main_arg0)
      ∧ r.2.mem ((c.tc : Thread Cert.KernelForwardTwo.nD Cert.KernelForwardTwo.τ).loc Cert.KernelForwardTwo.main_arg1) = m ((c.tc : Thread Cert.KernelForwardTwo.nD Cert.KernelForwardTwo.τ).loc Cert.KernelForwardTwo.main_arg1)
      ∧ r.2.mem ((c.tc : Thread Cert.KernelForwardTwo.nD Cert.KernelForwardTwo.τ).loc Cert.KernelForwardTwo.main_arg2) = m ((c.tc : Thread Cert.KernelForwardTwo.nD Cert.KernelForwardTwo.τ).loc Cert.KernelForwardTwo.main_arg2)
      ∧ r.2.mem ((c.tc : Thread Cert.KernelForwardTwo.nD Cert.KernelForwardTwo.τ).loc Cert.KernelForwardTwo.main_arg3) = m ((c.tc : Thread Cert.KernelForwardTwo.nD Cert.KernelForwardTwo.τ).loc Cert.KernelForwardTwo.main_arg3)
      ∧ r.2.mem ((c.tc : Thread Cert.KernelForwardTwo.nD Cert.KernelForwardTwo.τ).loc Cert.KernelForwardTwo.main_arg4) = m ((c.tc : Thread Cert.KernelForwardTwo.nD Cert.KernelForwardTwo.τ).loc Cert.KernelForwardTwo.main_arg4))
      ∧ r.2.sem = fun _ => 0)

def quiescent_KernelForwardTwoIdeal [hKernelForwardTwoIdeal : Cert.KernelForwardTwoIdeal.Facts] : Prop :=
  ∀ (m : (ℓ : Loc Cert.KernelForwardTwoIdeal.nD Cert.KernelForwardTwoIdeal.τ Cert.KernelForwardTwoIdeal.sig) → Buf (Elt Ideal) ℓ) (g : Dev Cert.KernelForwardTwoIdeal.nD → PrngReg), Pre_KernelForwardTwoIdeal m →
    θ_run (Cert.KernelForwardTwoIdeal.defs (F := Ideal)) (onTc (τ := Cert.KernelForwardTwoIdeal.τ) (Cert.KernelForwardTwoIdeal.main (F := Ideal))) ⟨m, fun _ => 0, g⟩ (fun r => (∀ c : Dev Cert.KernelForwardTwoIdeal.nD,
      r.2.mem ((c.tc : Thread Cert.KernelForwardTwoIdeal.nD Cert.KernelForwardTwoIdeal.τ).loc Cert.KernelForwardTwoIdeal.main_arg0) = m ((c.tc : Thread Cert.KernelForwardTwoIdeal.nD Cert.KernelForwardTwoIdeal.τ).loc Cert.KernelForwardTwoIdeal.main_arg0)
      ∧ r.2.mem ((c.tc : Thread Cert.KernelForwardTwoIdeal.nD Cert.KernelForwardTwoIdeal.τ).loc Cert.KernelForwardTwoIdeal.main_arg1) = m ((c.tc : Thread Cert.KernelForwardTwoIdeal.nD Cert.KernelForwardTwoIdeal.τ).loc Cert.KernelForwardTwoIdeal.main_arg1)
      ∧ r.2.mem ((c.tc : Thread Cert.KernelForwardTwoIdeal.nD Cert.KernelForwardTwoIdeal.τ).loc Cert.KernelForwardTwoIdeal.main_arg2) = m ((c.tc : Thread Cert.KernelForwardTwoIdeal.nD Cert.KernelForwardTwoIdeal.τ).loc Cert.KernelForwardTwoIdeal.main_arg2)
      ∧ r.2.mem ((c.tc : Thread Cert.KernelForwardTwoIdeal.nD Cert.KernelForwardTwoIdeal.τ).loc Cert.KernelForwardTwoIdeal.main_arg3) = m ((c.tc : Thread Cert.KernelForwardTwoIdeal.nD Cert.KernelForwardTwoIdeal.τ).loc Cert.KernelForwardTwoIdeal.main_arg3)
      ∧ r.2.mem ((c.tc : Thread Cert.KernelForwardTwoIdeal.nD Cert.KernelForwardTwoIdeal.τ).loc Cert.KernelForwardTwoIdeal.main_arg4) = m ((c.tc : Thread Cert.KernelForwardTwoIdeal.nD Cert.KernelForwardTwoIdeal.τ).loc Cert.KernelForwardTwoIdeal.main_arg4))
      ∧ r.2.sem = fun _ => 0)

def quiescent_ReferenceForwardTwoIdeal [hReferenceForwardTwoIdeal : Cert.ReferenceForwardTwoIdeal.Facts] : Prop :=
  ∀ (m : (ℓ : Loc Cert.ReferenceForwardTwoIdeal.nD Cert.ReferenceForwardTwoIdeal.τ Cert.ReferenceForwardTwoIdeal.sig) → Buf (Elt Ideal) ℓ) (g : Dev Cert.ReferenceForwardTwoIdeal.nD → PrngReg), Pre_ReferenceForwardTwoIdeal m →
    θ_run (Cert.ReferenceForwardTwoIdeal.defs (F := Ideal)) (onTc (τ := Cert.ReferenceForwardTwoIdeal.τ) (Cert.ReferenceForwardTwoIdeal.main (F := Ideal))) ⟨m, fun _ => 0, g⟩ (fun r => (∀ c : Dev Cert.ReferenceForwardTwoIdeal.nD,
      r.2.mem ((c.tc : Thread Cert.ReferenceForwardTwoIdeal.nD Cert.ReferenceForwardTwoIdeal.τ).loc Cert.ReferenceForwardTwoIdeal.main_arg0) = m ((c.tc : Thread Cert.ReferenceForwardTwoIdeal.nD Cert.ReferenceForwardTwoIdeal.τ).loc Cert.ReferenceForwardTwoIdeal.main_arg0)
      ∧ r.2.mem ((c.tc : Thread Cert.ReferenceForwardTwoIdeal.nD Cert.ReferenceForwardTwoIdeal.τ).loc Cert.ReferenceForwardTwoIdeal.main_arg1) = m ((c.tc : Thread Cert.ReferenceForwardTwoIdeal.nD Cert.ReferenceForwardTwoIdeal.τ).loc Cert.ReferenceForwardTwoIdeal.main_arg1)
      ∧ r.2.mem ((c.tc : Thread Cert.ReferenceForwardTwoIdeal.nD Cert.ReferenceForwardTwoIdeal.τ).loc Cert.ReferenceForwardTwoIdeal.main_arg2) = m ((c.tc : Thread Cert.ReferenceForwardTwoIdeal.nD Cert.ReferenceForwardTwoIdeal.τ).loc Cert.ReferenceForwardTwoIdeal.main_arg2)
      ∧ r.2.mem ((c.tc : Thread Cert.ReferenceForwardTwoIdeal.nD Cert.ReferenceForwardTwoIdeal.τ).loc Cert.ReferenceForwardTwoIdeal.main_arg3) = m ((c.tc : Thread Cert.ReferenceForwardTwoIdeal.nD Cert.ReferenceForwardTwoIdeal.τ).loc Cert.ReferenceForwardTwoIdeal.main_arg3)
      ∧ r.2.mem ((c.tc : Thread Cert.ReferenceForwardTwoIdeal.nD Cert.ReferenceForwardTwoIdeal.τ).loc Cert.ReferenceForwardTwoIdeal.main_arg4) = m ((c.tc : Thread Cert.ReferenceForwardTwoIdeal.nD Cert.ReferenceForwardTwoIdeal.τ).loc Cert.ReferenceForwardTwoIdeal.main_arg4))
      ∧ r.2.sem = fun _ => 0)

def quiescent_KernelInverseTwo [hKernelInverseTwo : Cert.KernelInverseTwo.Facts] : Prop :=
  ∀ (m : (ℓ : Loc Cert.KernelInverseTwo.nD Cert.KernelInverseTwo.τ Cert.KernelInverseTwo.sig) → Buf (Elt Bits) ℓ) (g : Dev Cert.KernelInverseTwo.nD → PrngReg), Pre_KernelInverseTwo m →
    θ_run (Cert.KernelInverseTwo.defs (F := Bits)) (onTc (τ := Cert.KernelInverseTwo.τ) (Cert.KernelInverseTwo.main (F := Bits))) ⟨m, fun _ => 0, g⟩ (fun r => (∀ c : Dev Cert.KernelInverseTwo.nD,
      r.2.mem ((c.tc : Thread Cert.KernelInverseTwo.nD Cert.KernelInverseTwo.τ).loc Cert.KernelInverseTwo.main_arg0) = m ((c.tc : Thread Cert.KernelInverseTwo.nD Cert.KernelInverseTwo.τ).loc Cert.KernelInverseTwo.main_arg0)
      ∧ r.2.mem ((c.tc : Thread Cert.KernelInverseTwo.nD Cert.KernelInverseTwo.τ).loc Cert.KernelInverseTwo.main_arg1) = m ((c.tc : Thread Cert.KernelInverseTwo.nD Cert.KernelInverseTwo.τ).loc Cert.KernelInverseTwo.main_arg1)
      ∧ r.2.mem ((c.tc : Thread Cert.KernelInverseTwo.nD Cert.KernelInverseTwo.τ).loc Cert.KernelInverseTwo.main_arg2) = m ((c.tc : Thread Cert.KernelInverseTwo.nD Cert.KernelInverseTwo.τ).loc Cert.KernelInverseTwo.main_arg2)
      ∧ r.2.mem ((c.tc : Thread Cert.KernelInverseTwo.nD Cert.KernelInverseTwo.τ).loc Cert.KernelInverseTwo.main_arg3) = m ((c.tc : Thread Cert.KernelInverseTwo.nD Cert.KernelInverseTwo.τ).loc Cert.KernelInverseTwo.main_arg3)
      ∧ r.2.mem ((c.tc : Thread Cert.KernelInverseTwo.nD Cert.KernelInverseTwo.τ).loc Cert.KernelInverseTwo.main_arg4) = m ((c.tc : Thread Cert.KernelInverseTwo.nD Cert.KernelInverseTwo.τ).loc Cert.KernelInverseTwo.main_arg4)
      ∧ r.2.mem ((c.tc : Thread Cert.KernelInverseTwo.nD Cert.KernelInverseTwo.τ).loc Cert.KernelInverseTwo.main_arg5) = m ((c.tc : Thread Cert.KernelInverseTwo.nD Cert.KernelInverseTwo.τ).loc Cert.KernelInverseTwo.main_arg5)
      ∧ r.2.mem ((c.tc : Thread Cert.KernelInverseTwo.nD Cert.KernelInverseTwo.τ).loc Cert.KernelInverseTwo.main_arg6) = m ((c.tc : Thread Cert.KernelInverseTwo.nD Cert.KernelInverseTwo.τ).loc Cert.KernelInverseTwo.main_arg6))
      ∧ r.2.sem = fun _ => 0)

def quiescent_KernelInverseTwoIdeal [hKernelInverseTwoIdeal : Cert.KernelInverseTwoIdeal.Facts] : Prop :=
  ∀ (m : (ℓ : Loc Cert.KernelInverseTwoIdeal.nD Cert.KernelInverseTwoIdeal.τ Cert.KernelInverseTwoIdeal.sig) → Buf (Elt Ideal) ℓ) (g : Dev Cert.KernelInverseTwoIdeal.nD → PrngReg), Pre_KernelInverseTwoIdeal m →
    θ_run (Cert.KernelInverseTwoIdeal.defs (F := Ideal)) (onTc (τ := Cert.KernelInverseTwoIdeal.τ) (Cert.KernelInverseTwoIdeal.main (F := Ideal))) ⟨m, fun _ => 0, g⟩ (fun r => (∀ c : Dev Cert.KernelInverseTwoIdeal.nD,
      r.2.mem ((c.tc : Thread Cert.KernelInverseTwoIdeal.nD Cert.KernelInverseTwoIdeal.τ).loc Cert.KernelInverseTwoIdeal.main_arg0) = m ((c.tc : Thread Cert.KernelInverseTwoIdeal.nD Cert.KernelInverseTwoIdeal.τ).loc Cert.KernelInverseTwoIdeal.main_arg0)
      ∧ r.2.mem ((c.tc : Thread Cert.KernelInverseTwoIdeal.nD Cert.KernelInverseTwoIdeal.τ).loc Cert.KernelInverseTwoIdeal.main_arg1) = m ((c.tc : Thread Cert.KernelInverseTwoIdeal.nD Cert.KernelInverseTwoIdeal.τ).loc Cert.KernelInverseTwoIdeal.main_arg1)
      ∧ r.2.mem ((c.tc : Thread Cert.KernelInverseTwoIdeal.nD Cert.KernelInverseTwoIdeal.τ).loc Cert.KernelInverseTwoIdeal.main_arg2) = m ((c.tc : Thread Cert.KernelInverseTwoIdeal.nD Cert.KernelInverseTwoIdeal.τ).loc Cert.KernelInverseTwoIdeal.main_arg2)
      ∧ r.2.mem ((c.tc : Thread Cert.KernelInverseTwoIdeal.nD Cert.KernelInverseTwoIdeal.τ).loc Cert.KernelInverseTwoIdeal.main_arg3) = m ((c.tc : Thread Cert.KernelInverseTwoIdeal.nD Cert.KernelInverseTwoIdeal.τ).loc Cert.KernelInverseTwoIdeal.main_arg3)
      ∧ r.2.mem ((c.tc : Thread Cert.KernelInverseTwoIdeal.nD Cert.KernelInverseTwoIdeal.τ).loc Cert.KernelInverseTwoIdeal.main_arg4) = m ((c.tc : Thread Cert.KernelInverseTwoIdeal.nD Cert.KernelInverseTwoIdeal.τ).loc Cert.KernelInverseTwoIdeal.main_arg4)
      ∧ r.2.mem ((c.tc : Thread Cert.KernelInverseTwoIdeal.nD Cert.KernelInverseTwoIdeal.τ).loc Cert.KernelInverseTwoIdeal.main_arg5) = m ((c.tc : Thread Cert.KernelInverseTwoIdeal.nD Cert.KernelInverseTwoIdeal.τ).loc Cert.KernelInverseTwoIdeal.main_arg5)
      ∧ r.2.mem ((c.tc : Thread Cert.KernelInverseTwoIdeal.nD Cert.KernelInverseTwoIdeal.τ).loc Cert.KernelInverseTwoIdeal.main_arg6) = m ((c.tc : Thread Cert.KernelInverseTwoIdeal.nD Cert.KernelInverseTwoIdeal.τ).loc Cert.KernelInverseTwoIdeal.main_arg6))
      ∧ r.2.sem = fun _ => 0)

def quiescent_ReferenceInverseTwoIdeal [hReferenceInverseTwoIdeal : Cert.ReferenceInverseTwoIdeal.Facts] : Prop :=
  ∀ (m : (ℓ : Loc Cert.ReferenceInverseTwoIdeal.nD Cert.ReferenceInverseTwoIdeal.τ Cert.ReferenceInverseTwoIdeal.sig) → Buf (Elt Ideal) ℓ) (g : Dev Cert.ReferenceInverseTwoIdeal.nD → PrngReg), Pre_ReferenceInverseTwoIdeal m →
    θ_run (Cert.ReferenceInverseTwoIdeal.defs (F := Ideal)) (onTc (τ := Cert.ReferenceInverseTwoIdeal.τ) (Cert.ReferenceInverseTwoIdeal.main (F := Ideal))) ⟨m, fun _ => 0, g⟩ (fun r => (∀ c : Dev Cert.ReferenceInverseTwoIdeal.nD,
      r.2.mem ((c.tc : Thread Cert.ReferenceInverseTwoIdeal.nD Cert.ReferenceInverseTwoIdeal.τ).loc Cert.ReferenceInverseTwoIdeal.main_arg0) = m ((c.tc : Thread Cert.ReferenceInverseTwoIdeal.nD Cert.ReferenceInverseTwoIdeal.τ).loc Cert.ReferenceInverseTwoIdeal.main_arg0)
      ∧ r.2.mem ((c.tc : Thread Cert.ReferenceInverseTwoIdeal.nD Cert.ReferenceInverseTwoIdeal.τ).loc Cert.ReferenceInverseTwoIdeal.main_arg1) = m ((c.tc : Thread Cert.ReferenceInverseTwoIdeal.nD Cert.ReferenceInverseTwoIdeal.τ).loc Cert.ReferenceInverseTwoIdeal.main_arg1)
      ∧ r.2.mem ((c.tc : Thread Cert.ReferenceInverseTwoIdeal.nD Cert.ReferenceInverseTwoIdeal.τ).loc Cert.ReferenceInverseTwoIdeal.main_arg2) = m ((c.tc : Thread Cert.ReferenceInverseTwoIdeal.nD Cert.ReferenceInverseTwoIdeal.τ).loc Cert.ReferenceInverseTwoIdeal.main_arg2)
      ∧ r.2.mem ((c.tc : Thread Cert.ReferenceInverseTwoIdeal.nD Cert.ReferenceInverseTwoIdeal.τ).loc Cert.ReferenceInverseTwoIdeal.main_arg3) = m ((c.tc : Thread Cert.ReferenceInverseTwoIdeal.nD Cert.ReferenceInverseTwoIdeal.τ).loc Cert.ReferenceInverseTwoIdeal.main_arg3)
      ∧ r.2.mem ((c.tc : Thread Cert.ReferenceInverseTwoIdeal.nD Cert.ReferenceInverseTwoIdeal.τ).loc Cert.ReferenceInverseTwoIdeal.main_arg4) = m ((c.tc : Thread Cert.ReferenceInverseTwoIdeal.nD Cert.ReferenceInverseTwoIdeal.τ).loc Cert.ReferenceInverseTwoIdeal.main_arg4)
      ∧ r.2.mem ((c.tc : Thread Cert.ReferenceInverseTwoIdeal.nD Cert.ReferenceInverseTwoIdeal.τ).loc Cert.ReferenceInverseTwoIdeal.main_arg5) = m ((c.tc : Thread Cert.ReferenceInverseTwoIdeal.nD Cert.ReferenceInverseTwoIdeal.τ).loc Cert.ReferenceInverseTwoIdeal.main_arg5)
      ∧ r.2.mem ((c.tc : Thread Cert.ReferenceInverseTwoIdeal.nD Cert.ReferenceInverseTwoIdeal.τ).loc Cert.ReferenceInverseTwoIdeal.main_arg6) = m ((c.tc : Thread Cert.ReferenceInverseTwoIdeal.nD Cert.ReferenceInverseTwoIdeal.τ).loc Cert.ReferenceInverseTwoIdeal.main_arg6))
      ∧ r.2.sem = fun _ => 0)

def quiescent_KernelDiffTwo [hKernelDiffTwo : Cert.KernelDiffTwo.Facts] : Prop :=
  ∀ (m : (ℓ : Loc Cert.KernelDiffTwo.nD Cert.KernelDiffTwo.τ Cert.KernelDiffTwo.sig) → Buf (Elt Bits) ℓ) (g : Dev Cert.KernelDiffTwo.nD → PrngReg), Pre_KernelDiffTwo m →
    θ_run (Cert.KernelDiffTwo.defs (F := Bits)) (onTc (τ := Cert.KernelDiffTwo.τ) (Cert.KernelDiffTwo.main (F := Bits))) ⟨m, fun _ => 0, g⟩ (fun r => (∀ c : Dev Cert.KernelDiffTwo.nD,
      r.2.mem ((c.tc : Thread Cert.KernelDiffTwo.nD Cert.KernelDiffTwo.τ).loc Cert.KernelDiffTwo.main_arg0) = m ((c.tc : Thread Cert.KernelDiffTwo.nD Cert.KernelDiffTwo.τ).loc Cert.KernelDiffTwo.main_arg0)
      ∧ r.2.mem ((c.tc : Thread Cert.KernelDiffTwo.nD Cert.KernelDiffTwo.τ).loc Cert.KernelDiffTwo.main_arg1) = m ((c.tc : Thread Cert.KernelDiffTwo.nD Cert.KernelDiffTwo.τ).loc Cert.KernelDiffTwo.main_arg1)
      ∧ r.2.mem ((c.tc : Thread Cert.KernelDiffTwo.nD Cert.KernelDiffTwo.τ).loc Cert.KernelDiffTwo.main_arg2) = m ((c.tc : Thread Cert.KernelDiffTwo.nD Cert.KernelDiffTwo.τ).loc Cert.KernelDiffTwo.main_arg2))
      ∧ r.2.sem = fun _ => 0)

def quiescent_KernelDiffTwoIdeal [hKernelDiffTwoIdeal : Cert.KernelDiffTwoIdeal.Facts] : Prop :=
  ∀ (m : (ℓ : Loc Cert.KernelDiffTwoIdeal.nD Cert.KernelDiffTwoIdeal.τ Cert.KernelDiffTwoIdeal.sig) → Buf (Elt Ideal) ℓ) (g : Dev Cert.KernelDiffTwoIdeal.nD → PrngReg), Pre_KernelDiffTwoIdeal m →
    θ_run (Cert.KernelDiffTwoIdeal.defs (F := Ideal)) (onTc (τ := Cert.KernelDiffTwoIdeal.τ) (Cert.KernelDiffTwoIdeal.main (F := Ideal))) ⟨m, fun _ => 0, g⟩ (fun r => (∀ c : Dev Cert.KernelDiffTwoIdeal.nD,
      r.2.mem ((c.tc : Thread Cert.KernelDiffTwoIdeal.nD Cert.KernelDiffTwoIdeal.τ).loc Cert.KernelDiffTwoIdeal.main_arg0) = m ((c.tc : Thread Cert.KernelDiffTwoIdeal.nD Cert.KernelDiffTwoIdeal.τ).loc Cert.KernelDiffTwoIdeal.main_arg0)
      ∧ r.2.mem ((c.tc : Thread Cert.KernelDiffTwoIdeal.nD Cert.KernelDiffTwoIdeal.τ).loc Cert.KernelDiffTwoIdeal.main_arg1) = m ((c.tc : Thread Cert.KernelDiffTwoIdeal.nD Cert.KernelDiffTwoIdeal.τ).loc Cert.KernelDiffTwoIdeal.main_arg1)
      ∧ r.2.mem ((c.tc : Thread Cert.KernelDiffTwoIdeal.nD Cert.KernelDiffTwoIdeal.τ).loc Cert.KernelDiffTwoIdeal.main_arg2) = m ((c.tc : Thread Cert.KernelDiffTwoIdeal.nD Cert.KernelDiffTwoIdeal.τ).loc Cert.KernelDiffTwoIdeal.main_arg2))
      ∧ r.2.sem = fun _ => 0)

def quiescent_ReferenceDiffTwoIdeal [hReferenceDiffTwoIdeal : Cert.ReferenceDiffTwoIdeal.Facts] : Prop :=
  ∀ (m : (ℓ : Loc Cert.ReferenceDiffTwoIdeal.nD Cert.ReferenceDiffTwoIdeal.τ Cert.ReferenceDiffTwoIdeal.sig) → Buf (Elt Ideal) ℓ) (g : Dev Cert.ReferenceDiffTwoIdeal.nD → PrngReg), Pre_ReferenceDiffTwoIdeal m →
    θ_run (Cert.ReferenceDiffTwoIdeal.defs (F := Ideal)) (onTc (τ := Cert.ReferenceDiffTwoIdeal.τ) (Cert.ReferenceDiffTwoIdeal.main (F := Ideal))) ⟨m, fun _ => 0, g⟩ (fun r => (∀ c : Dev Cert.ReferenceDiffTwoIdeal.nD,
      r.2.mem ((c.tc : Thread Cert.ReferenceDiffTwoIdeal.nD Cert.ReferenceDiffTwoIdeal.τ).loc Cert.ReferenceDiffTwoIdeal.main_arg0) = m ((c.tc : Thread Cert.ReferenceDiffTwoIdeal.nD Cert.ReferenceDiffTwoIdeal.τ).loc Cert.ReferenceDiffTwoIdeal.main_arg0)
      ∧ r.2.mem ((c.tc : Thread Cert.ReferenceDiffTwoIdeal.nD Cert.ReferenceDiffTwoIdeal.τ).loc Cert.ReferenceDiffTwoIdeal.main_arg1) = m ((c.tc : Thread Cert.ReferenceDiffTwoIdeal.nD Cert.ReferenceDiffTwoIdeal.τ).loc Cert.ReferenceDiffTwoIdeal.main_arg1)
      ∧ r.2.mem ((c.tc : Thread Cert.ReferenceDiffTwoIdeal.nD Cert.ReferenceDiffTwoIdeal.τ).loc Cert.ReferenceDiffTwoIdeal.main_arg2) = m ((c.tc : Thread Cert.ReferenceDiffTwoIdeal.nD Cert.ReferenceDiffTwoIdeal.τ).loc Cert.ReferenceDiffTwoIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v13) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOddIn_KernelOddInIdeal : Prop :=
  True

def algebraic_KernelOddInIdeal_ReferenceOddInIdeal [hKernelOddInIdeal : Cert.KernelOddInIdeal.Facts] [hReferenceOddInIdeal : Cert.ReferenceOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg)
    (m' : (ℓ : Loc Cert.ReferenceOddInIdeal.nD Cert.ReferenceOddInIdeal.τ Cert.ReferenceOddInIdeal.sig) → Buf (Elt Ideal) ℓ) (g' : Dev Cert.ReferenceOddInIdeal.nD → PrngReg), Pre_KernelOddInIdeal m →
    (∀ c : Dev Cert.KernelOddInIdeal.nD,
      m' ((c.tc : Thread Cert.ReferenceOddInIdeal.nD Cert.ReferenceOddInIdeal.τ).loc Cert.ReferenceOddInIdeal.main_arg0) = m ((c.tc : Thread Cert.KernelOddInIdeal.nD Cert.KernelOddInIdeal.τ).loc Cert.KernelOddInIdeal.main_arg0)
      ∧ m' ((c.tc : Thread Cert.ReferenceOddInIdeal.nD Cert.ReferenceOddInIdeal.τ).loc Cert.ReferenceOddInIdeal.main_arg1) = m ((c.tc : Thread Cert.KernelOddInIdeal.nD Cert.KernelOddInIdeal.τ).loc Cert.KernelOddInIdeal.main_arg1)
      ∧ m' ((c.tc : Thread Cert.ReferenceOddInIdeal.nD Cert.ReferenceOddInIdeal.τ).loc Cert.ReferenceOddInIdeal.main_arg2) = m ((c.tc : Thread Cert.KernelOddInIdeal.nD Cert.KernelOddInIdeal.τ).loc Cert.KernelOddInIdeal.main_arg2)) →
    ∃ (v0 : (c : Dev Cert.KernelOddInIdeal.nD) → Buf (Elt Ideal) ((c.tc : Thread Cert.KernelOddInIdeal.nD Cert.KernelOddInIdeal.τ).loc Cert.KernelOddInIdeal.main_v2)),
      θ_run (Cert.KernelOddInIdeal.defs (F := Ideal)) (onTc (τ := Cert.KernelOddInIdeal.τ) (Cert.KernelOddInIdeal.main (F := Ideal))) ⟨m, fun _ => 0, g⟩ (fun r => ∀ c : Dev Cert.KernelOddInIdeal.nD,
          r.2.mem ((c.tc : Thread Cert.KernelOddInIdeal.nD Cert.KernelOddInIdeal.τ).loc Cert.KernelOddInIdeal.main_v2) = v0 c
          ∧ r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
          ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1)
          ∧ r.2.mem ((c.tc : Thread Cert.KernelOddInIdeal.nD Cert.KernelOddInIdeal.τ).loc Cert.KernelOddInIdeal.main_arg2) = m ((c.tc : Thread Cert.KernelOddInIdeal.nD Cert.KernelOddInIdeal.τ).loc Cert.KernelOddInIdeal.main_arg2))
      ∧ θ_run (Cert.ReferenceOddInIdeal.defs (F := Ideal)) (onTc (τ := Cert.ReferenceOddInIdeal.τ) (Cert.ReferenceOddInIdeal.main (F := Ideal))) ⟨m', fun _ => 0, g'⟩ (fun r => ∀ c : Dev Cert.ReferenceOddInIdeal.nD,
          r.2.mem ((c.tc : Thread Cert.ReferenceOddInIdeal.nD Cert.ReferenceOddInIdeal.τ).loc Cert.ReferenceOddInIdeal.main_v13) = v0 c
          ∧ r.2.mem ((c.tc : Thread Cert.ReferenceOddInIdeal.nD Cert.ReferenceOddInIdeal.τ).loc Cert.ReferenceOddInIdeal.main_arg0) = m' ((c.tc : Thread Cert.ReferenceOddInIdeal.nD Cert.ReferenceOddInIdeal.τ).loc Cert.ReferenceOddInIdeal.main_arg0)
          ∧ r.2.mem ((c.tc : Thread Cert.ReferenceOddInIdeal.nD Cert.ReferenceOddInIdeal.τ).loc Cert.ReferenceOddInIdeal.main_arg1) = m' ((c.tc : Thread Cert.ReferenceOddInIdeal.nD Cert.ReferenceOddInIdeal.τ).loc Cert.ReferenceOddInIdeal.main_arg1)
          ∧ r.2.mem ((c.tc : Thread Cert.ReferenceOddInIdeal.nD Cert.ReferenceOddInIdeal.τ).loc Cert.ReferenceOddInIdeal.main_arg2) = m' ((c.tc : Thread Cert.ReferenceOddInIdeal.nD Cert.ReferenceOddInIdeal.τ).loc Cert.ReferenceOddInIdeal.main_arg2))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) →
    ∃ (v0 : (c : Dev Cert.KernelMemIdeal.nD) → Buf (Elt Ideal) ((c.tc : Thread Cert.KernelMemIdeal.nD Cert.KernelMemIdeal.τ).loc Cert.KernelMemIdeal.main_v2)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v2) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v14) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelOddOut_KernelOddOutIdeal : Prop :=
  True

def algebraic_KernelOddOutIdeal_ReferenceOddOutIdeal [hKernelOddOutIdeal : Cert.KernelOddOutIdeal.Facts] [hReferenceOddOutIdeal : Cert.ReferenceOddOutIdeal.Facts] : Prop :=
  ∀ (m : (ℓ : Loc Cert.KernelOddOutIdeal.nD Cert.KernelOddOutIdeal.τ Cert.KernelOddOutIdeal.sig) → Buf (Elt Ideal) ℓ) (g : Dev Cert.KernelOddOutIdeal.nD → PrngReg)
    (m' : (ℓ : Loc Cert.ReferenceOddOutIdeal.nD Cert.ReferenceOddOutIdeal.τ Cert.ReferenceOddOutIdeal.sig) → Buf (Elt Ideal) ℓ) (g' : Dev Cert.ReferenceOddOutIdeal.nD → PrngReg), Pre_KernelOddOutIdeal m →
    (∀ c : Dev Cert.KernelOddOutIdeal.nD,
      m' ((c.tc : Thread Cert.ReferenceOddOutIdeal.nD Cert.ReferenceOddOutIdeal.τ).loc Cert.ReferenceOddOutIdeal.main_arg0) = m ((c.tc : Thread Cert.KernelOddOutIdeal.nD Cert.KernelOddOutIdeal.τ).loc Cert.KernelOddOutIdeal.main_arg0)
      ∧ m' ((c.tc : Thread Cert.ReferenceOddOutIdeal.nD Cert.ReferenceOddOutIdeal.τ).loc Cert.ReferenceOddOutIdeal.main_arg1) = m ((c.tc : Thread Cert.KernelOddOutIdeal.nD Cert.KernelOddOutIdeal.τ).loc Cert.KernelOddOutIdeal.main_arg1)
      ∧ m' ((c.tc : Thread Cert.ReferenceOddOutIdeal.nD Cert.ReferenceOddOutIdeal.τ).loc Cert.ReferenceOddOutIdeal.main_arg2) = m ((c.tc : Thread Cert.KernelOddOutIdeal.nD Cert.KernelOddOutIdeal.τ).loc Cert.KernelOddOutIdeal.main_arg2)) →
    ∃ (v0 : (c : Dev Cert.KernelOddOutIdeal.nD) → Buf (Elt Ideal) ((c.tc : Thread Cert.KernelOddOutIdeal.nD Cert.KernelOddOutIdeal.τ).loc Cert.KernelOddOutIdeal.main_v1)),
      θ_run (Cert.KernelOddOutIdeal.defs (F := Ideal)) (onTc (τ := Cert.KernelOddOutIdeal.τ) (Cert.KernelOddOutIdeal.main (F := Ideal))) ⟨m, fun _ => 0, g⟩ (fun r => ∀ c : Dev Cert.KernelOddOutIdeal.nD,
          r.2.mem ((c.tc : Thread Cert.KernelOddOutIdeal.nD Cert.KernelOddOutIdeal.τ).loc Cert.KernelOddOutIdeal.main_v1) = v0 c
          ∧ r.2.mem ((c.tc : Thread Cert.KernelOddOutIdeal.nD Cert.KernelOddOutIdeal.τ).loc Cert.KernelOddOutIdeal.main_arg0) = m ((c.tc : Thread Cert.KernelOddOutIdeal.nD Cert.KernelOddOutIdeal.τ).loc Cert.KernelOddOutIdeal.main_arg0)
          ∧ r.2.mem ((c.tc : Thread Cert.KernelOddOutIdeal.nD Cert.KernelOddOutIdeal.τ).loc Cert.KernelOddOutIdeal.main_arg1) = m ((c.tc : Thread Cert.KernelOddOutIdeal.nD Cert.KernelOddOutIdeal.τ).loc Cert.KernelOddOutIdeal.main_arg1)
          ∧ r.2.mem ((c.tc : Thread Cert.KernelOddOutIdeal.nD Cert.KernelOddOutIdeal.τ).loc Cert.KernelOddOutIdeal.main_arg2) = m ((c.tc : Thread Cert.KernelOddOutIdeal.nD Cert.KernelOddOutIdeal.τ).loc Cert.KernelOddOutIdeal.main_arg2))
      ∧ θ_run (Cert.ReferenceOddOutIdeal.defs (F := Ideal)) (onTc (τ := Cert.ReferenceOddOutIdeal.τ) (Cert.ReferenceOddOutIdeal.main (F := Ideal))) ⟨m', fun _ => 0, g'⟩ (fun r => ∀ c : Dev Cert.ReferenceOddOutIdeal.nD,
          r.2.mem ((c.tc : Thread Cert.ReferenceOddOutIdeal.nD Cert.ReferenceOddOutIdeal.τ).loc Cert.ReferenceOddOutIdeal.main_v1) = v0 c
          ∧ r.2.mem ((c.tc : Thread Cert.ReferenceOddOutIdeal.nD Cert.ReferenceOddOutIdeal.τ).loc Cert.ReferenceOddOutIdeal.main_arg0) = m' ((c.tc : Thread Cert.ReferenceOddOutIdeal.nD Cert.ReferenceOddOutIdeal.τ).loc Cert.ReferenceOddOutIdeal.main_arg0)
          ∧ r.2.mem ((c.tc : Thread Cert.ReferenceOddOutIdeal.nD Cert.ReferenceOddOutIdeal.τ).loc Cert.ReferenceOddOutIdeal.main_arg1) = m' ((c.tc : Thread Cert.ReferenceOddOutIdeal.nD Cert.ReferenceOddOutIdeal.τ).loc Cert.ReferenceOddOutIdeal.main_arg1)
          ∧ r.2.mem ((c.tc : Thread Cert.ReferenceOddOutIdeal.nD Cert.ReferenceOddOutIdeal.τ).loc Cert.ReferenceOddOutIdeal.main_arg2) = m' ((c.tc : Thread Cert.ReferenceOddOutIdeal.nD Cert.ReferenceOddOutIdeal.τ).loc Cert.ReferenceOddOutIdeal.main_arg2))

def preserves_KernelCross_KernelCrossIdeal : Prop :=
  True

def algebraic_KernelCrossIdeal_ReferenceCrossIdeal [hKernelCrossIdeal : Cert.KernelCrossIdeal.Facts] [hReferenceCrossIdeal : Cert.ReferenceCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg)
    (m' : (ℓ : Loc Cert.ReferenceCrossIdeal.nD Cert.ReferenceCrossIdeal.τ Cert.ReferenceCrossIdeal.sig) → Buf (Elt Ideal) ℓ) (g' : Dev Cert.ReferenceCrossIdeal.nD → PrngReg), Pre_KernelCrossIdeal m →
    (∀ c : Dev Cert.KernelCrossIdeal.nD,
      m' ((c.tc : Thread Cert.ReferenceCrossIdeal.nD Cert.ReferenceCrossIdeal.τ).loc Cert.ReferenceCrossIdeal.main_arg0) = m ((c.tc : Thread Cert.KernelCrossIdeal.nD Cert.KernelCrossIdeal.τ).loc Cert.KernelCrossIdeal.main_arg0)
      ∧ m' ((c.tc : Thread Cert.ReferenceCrossIdeal.nD Cert.ReferenceCrossIdeal.τ).loc Cert.ReferenceCrossIdeal.main_arg1) = m ((c.tc : Thread Cert.KernelCrossIdeal.nD Cert.KernelCrossIdeal.τ).loc Cert.KernelCrossIdeal.main_arg1)
      ∧ m' ((c.tc : Thread Cert.ReferenceCrossIdeal.nD Cert.ReferenceCrossIdeal.τ).loc Cert.ReferenceCrossIdeal.main_arg2) = m ((c.tc : Thread Cert.KernelCrossIdeal.nD Cert.KernelCrossIdeal.τ).loc Cert.KernelCrossIdeal.main_arg2)
      ∧ m' ((c.tc : Thread Cert.ReferenceCrossIdeal.nD Cert.ReferenceCrossIdeal.τ).loc Cert.ReferenceCrossIdeal.main_arg3) = m ((c.tc : Thread Cert.KernelCrossIdeal.nD Cert.KernelCrossIdeal.τ).loc Cert.KernelCrossIdeal.main_arg3)
      ∧ m' ((c.tc : Thread Cert.ReferenceCrossIdeal.nD Cert.ReferenceCrossIdeal.τ).loc Cert.ReferenceCrossIdeal.main_arg4) = m ((c.tc : Thread Cert.KernelCrossIdeal.nD Cert.KernelCrossIdeal.τ).loc Cert.KernelCrossIdeal.main_arg4)) →
    ∃ (v0 : (c : Dev Cert.KernelCrossIdeal.nD) → Buf (Elt Ideal) ((c.tc : Thread Cert.KernelCrossIdeal.nD Cert.KernelCrossIdeal.τ).loc Cert.KernelCrossIdeal.main_v3)),
      θ_run (Cert.KernelCrossIdeal.defs (F := Ideal)) (onTc (τ := Cert.KernelCrossIdeal.τ) (Cert.KernelCrossIdeal.main (F := Ideal))) ⟨m, fun _ => 0, g⟩ (fun r => ∀ c : Dev Cert.KernelCrossIdeal.nD,
          r.2.mem ((c.tc : Thread Cert.KernelCrossIdeal.nD Cert.KernelCrossIdeal.τ).loc Cert.KernelCrossIdeal.main_v3) = v0 c
          ∧ r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
          ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
          ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
          ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
          ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ θ_run (Cert.ReferenceCrossIdeal.defs (F := Ideal)) (onTc (τ := Cert.ReferenceCrossIdeal.τ) (Cert.ReferenceCrossIdeal.main (F := Ideal))) ⟨m', fun _ => 0, g'⟩ (fun r => ∀ c : Dev Cert.ReferenceCrossIdeal.nD,
          r.2.mem ((c.tc : Thread Cert.ReferenceCrossIdeal.nD Cert.ReferenceCrossIdeal.τ).loc Cert.ReferenceCrossIdeal.main_v39) = v0 c
          ∧ r.2.mem ((c.tc : Thread Cert.ReferenceCrossIdeal.nD Cert.ReferenceCrossIdeal.τ).loc Cert.ReferenceCrossIdeal.main_arg0) = m' ((c.tc : Thread Cert.ReferenceCrossIdeal.nD Cert.ReferenceCrossIdeal.τ).loc Cert.ReferenceCrossIdeal.main_arg0)
          ∧ r.2.mem ((c.tc : Thread Cert.ReferenceCrossIdeal.nD Cert.ReferenceCrossIdeal.τ).loc Cert.ReferenceCrossIdeal.main_arg1) = m' ((c.tc : Thread Cert.ReferenceCrossIdeal.nD Cert.ReferenceCrossIdeal.τ).loc Cert.ReferenceCrossIdeal.main_arg1)
          ∧ r.2.mem ((c.tc : Thread Cert.ReferenceCrossIdeal.nD Cert.ReferenceCrossIdeal.τ).loc Cert.ReferenceCrossIdeal.main_arg2) = m' ((c.tc : Thread Cert.ReferenceCrossIdeal.nD Cert.ReferenceCrossIdeal.τ).loc Cert.ReferenceCrossIdeal.main_arg2)
          ∧ r.2.mem ((c.tc : Thread Cert.ReferenceCrossIdeal.nD Cert.ReferenceCrossIdeal.τ).loc Cert.ReferenceCrossIdeal.main_arg3) = m' ((c.tc : Thread Cert.ReferenceCrossIdeal.nD Cert.ReferenceCrossIdeal.τ).loc Cert.ReferenceCrossIdeal.main_arg3)
          ∧ r.2.mem ((c.tc : Thread Cert.ReferenceCrossIdeal.nD Cert.ReferenceCrossIdeal.τ).loc Cert.ReferenceCrossIdeal.main_arg4) = m' ((c.tc : Thread Cert.ReferenceCrossIdeal.nD Cert.ReferenceCrossIdeal.τ).loc Cert.ReferenceCrossIdeal.main_arg4))

def preserves_KernelExperts_KernelExpertsIdeal : Prop :=
  True

def algebraic_KernelExpertsIdeal_ReferenceExpertsIdeal [hKernelExpertsIdeal : Cert.KernelExpertsIdeal.Facts] [hReferenceExpertsIdeal : Cert.ReferenceExpertsIdeal.Facts] [hPre_experts_named : Cert.Pre_experts_named.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_KernelExpertsIdeal m →
    (∀ c : Dev Cert.KernelExpertsIdeal.nD,
      m' ((c.tc : Thread Cert.ReferenceExpertsIdeal.nD Cert.ReferenceExpertsIdeal.τ).loc Cert.ReferenceExpertsIdeal.main_arg0) = m ((c.tc : Thread Cert.KernelExpertsIdeal.nD Cert.KernelExpertsIdeal.τ).loc Cert.KernelExpertsIdeal.main_arg0)
      ∧ m' ((c.tc : Thread Cert.ReferenceExpertsIdeal.nD Cert.ReferenceExpertsIdeal.τ).loc Cert.ReferenceExpertsIdeal.main_arg1) = m ((c.tc : Thread Cert.KernelExpertsIdeal.nD Cert.KernelExpertsIdeal.τ).loc Cert.KernelExpertsIdeal.main_arg1)
      ∧ m' ((c.tc : Thread Cert.ReferenceExpertsIdeal.nD Cert.ReferenceExpertsIdeal.τ).loc Cert.ReferenceExpertsIdeal.main_arg2) = m ((c.tc : Thread Cert.KernelExpertsIdeal.nD Cert.KernelExpertsIdeal.τ).loc Cert.KernelExpertsIdeal.main_arg2)
      ∧ m' ((c.tc : Thread Cert.ReferenceExpertsIdeal.nD Cert.ReferenceExpertsIdeal.τ).loc Cert.ReferenceExpertsIdeal.main_arg3) = m ((c.tc : Thread Cert.KernelExpertsIdeal.nD Cert.KernelExpertsIdeal.τ).loc Cert.KernelExpertsIdeal.main_arg3)
      ∧ m' ((c.tc : Thread Cert.ReferenceExpertsIdeal.nD Cert.ReferenceExpertsIdeal.τ).loc Cert.ReferenceExpertsIdeal.main_arg4) = m ((c.tc : Thread Cert.KernelExpertsIdeal.nD Cert.KernelExpertsIdeal.τ).loc Cert.KernelExpertsIdeal.main_arg4)
      ∧ m' ((c.tc : Thread Cert.ReferenceExpertsIdeal.nD Cert.ReferenceExpertsIdeal.τ).loc Cert.ReferenceExpertsIdeal.main_arg5) = m ((c.tc : Thread Cert.KernelExpertsIdeal.nD Cert.KernelExpertsIdeal.τ).loc Cert.KernelExpertsIdeal.main_arg5)) →
    ∃ (v0 : (c : Dev Cert.KernelExpertsIdeal.nD) → Buf (Elt Ideal) ((c.tc : Thread Cert.KernelExpertsIdeal.nD Cert.KernelExpertsIdeal.τ).loc Cert.KernelExpertsIdeal.main_v0)),
      θ_run (Cert.KernelExpertsIdeal.defs (F := Ideal)) (onTc (τ := Cert.KernelExpertsIdeal.τ) (Cert.KernelExpertsIdeal.main (F := Ideal))) ⟨m, fun _ => 0, g⟩ (fun r => ∀ c : Dev Cert.KernelExpertsIdeal.nD,
          r.2.mem ((c.tc : Thread Cert.KernelExpertsIdeal.nD Cert.KernelExpertsIdeal.τ).loc Cert.KernelExpertsIdeal.main_v0) = v0 c
          ∧ r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
          ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
          ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
          ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
          ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4)
          ∧ r.2.mem ((c.tc : Thread Cert.KernelExpertsIdeal.nD Cert.KernelExpertsIdeal.τ).loc Cert.KernelExpertsIdeal.main_arg5) = m ((c.tc : Thread Cert.KernelExpertsIdeal.nD Cert.KernelExpertsIdeal.τ).loc Cert.KernelExpertsIdeal.main_arg5))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v42) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4)
          ∧ r.2.mem ((c.tc : Thread Cert.ReferenceExpertsIdeal.nD Cert.ReferenceExpertsIdeal.τ).loc Cert.ReferenceExpertsIdeal.main_arg5) = m' ((c.tc : Thread Cert.ReferenceExpertsIdeal.nD Cert.ReferenceExpertsIdeal.τ).loc Cert.ReferenceExpertsIdeal.main_arg5))

def preserves_KernelWin_KernelWinIdeal : Prop :=
  IdealRules.named_const.Statement Cert.KernelWinIdeal.κ "mask" .f32 0xF149F2CA#32 ⊥

def algebraic_KernelWinIdeal_ReferenceWinIdeal_pre_win_finite [hKernelWinIdeal : Cert.KernelWinIdeal.Facts] [hReferenceWinIdeal : Cert.ReferenceWinIdeal.Facts] [hPre_win_finite : Cert.Pre_win_finite.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal_win_finite m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v9)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v9) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v57) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v24) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelFilters_KernelFiltersIdeal : Prop :=
  True

def algebraic_KernelFiltersIdeal_ReferenceFiltersIdeal [hKernelFiltersIdeal : Cert.KernelFiltersIdeal.Facts] [hReferenceFiltersIdeal : Cert.ReferenceFiltersIdeal.Facts] : Prop :=
  ∀ (m : (ℓ : Loc Cert.KernelFiltersIdeal.nD Cert.KernelFiltersIdeal.τ Cert.KernelFiltersIdeal.sig) → Buf (Elt Ideal) ℓ) (g : Dev Cert.KernelFiltersIdeal.nD → PrngReg)
    (m' : (ℓ : Loc Cert.ReferenceFiltersIdeal.nD Cert.ReferenceFiltersIdeal.τ Cert.ReferenceFiltersIdeal.sig) → Buf (Elt Ideal) ℓ) (g' : Dev Cert.ReferenceFiltersIdeal.nD → PrngReg), Pre_KernelFiltersIdeal m →
    (∀ c : Dev Cert.KernelFiltersIdeal.nD,
      m' ((c.tc : Thread Cert.ReferenceFiltersIdeal.nD Cert.ReferenceFiltersIdeal.τ).loc Cert.ReferenceFiltersIdeal.main_arg0) = m ((c.tc : Thread Cert.KernelFiltersIdeal.nD Cert.KernelFiltersIdeal.τ).loc Cert.KernelFiltersIdeal.main_arg0)
      ∧ m' ((c.tc : Thread Cert.ReferenceFiltersIdeal.nD Cert.ReferenceFiltersIdeal.τ).loc Cert.ReferenceFiltersIdeal.main_arg1) = m ((c.tc : Thread Cert.KernelFiltersIdeal.nD Cert.KernelFiltersIdeal.τ).loc Cert.KernelFiltersIdeal.main_arg1)
      ∧ m' ((c.tc : Thread Cert.ReferenceFiltersIdeal.nD Cert.ReferenceFiltersIdeal.τ).loc Cert.ReferenceFiltersIdeal.main_arg2) = m ((c.tc : Thread Cert.KernelFiltersIdeal.nD Cert.KernelFiltersIdeal.τ).loc Cert.KernelFiltersIdeal.main_arg2)
      ∧ m' ((c.tc : Thread Cert.ReferenceFiltersIdeal.nD Cert.ReferenceFiltersIdeal.τ).loc Cert.ReferenceFiltersIdeal.main_arg3) = m ((c.tc : Thread Cert.KernelFiltersIdeal.nD Cert.KernelFiltersIdeal.τ).loc Cert.KernelFiltersIdeal.main_arg3)
      ∧ m' ((c.tc : Thread Cert.ReferenceFiltersIdeal.nD Cert.ReferenceFiltersIdeal.τ).loc Cert.ReferenceFiltersIdeal.main_arg4) = m ((c.tc : Thread Cert.KernelFiltersIdeal.nD Cert.KernelFiltersIdeal.τ).loc Cert.KernelFiltersIdeal.main_arg4)
      ∧ m' ((c.tc : Thread Cert.ReferenceFiltersIdeal.nD Cert.ReferenceFiltersIdeal.τ).loc Cert.ReferenceFiltersIdeal.main_arg5) = m ((c.tc : Thread Cert.KernelFiltersIdeal.nD Cert.KernelFiltersIdeal.τ).loc Cert.KernelFiltersIdeal.main_arg5)) →
    ∃ (v0 : (c : Dev Cert.KernelFiltersIdeal.nD) → Buf (Elt Ideal) ((c.tc : Thread Cert.KernelFiltersIdeal.nD Cert.KernelFiltersIdeal.τ).loc Cert.KernelFiltersIdeal.main_v21_0)) (v1 : (c : Dev Cert.KernelFiltersIdeal.nD) → Buf (Elt Ideal) ((c.tc : Thread Cert.KernelFiltersIdeal.nD Cert.KernelFiltersIdeal.τ).loc Cert.KernelFiltersIdeal.main_v21_1)),
      θ_run (Cert.KernelFiltersIdeal.defs (F := Ideal)) (onTc (τ := Cert.KernelFiltersIdeal.τ) (Cert.KernelFiltersIdeal.main (F := Ideal))) ⟨m, fun _ => 0, g⟩ (fun r => ∀ c : Dev Cert.KernelFiltersIdeal.nD,
          r.2.mem ((c.tc : Thread Cert.KernelFiltersIdeal.nD Cert.KernelFiltersIdeal.τ).loc Cert.KernelFiltersIdeal.main_v21_0) = v0 c
          ∧ r.2.mem ((c.tc : Thread Cert.KernelFiltersIdeal.nD Cert.KernelFiltersIdeal.τ).loc Cert.KernelFiltersIdeal.main_v21_1) = v1 c
          ∧ r.2.mem ((c.tc : Thread Cert.KernelFiltersIdeal.nD Cert.KernelFiltersIdeal.τ).loc Cert.KernelFiltersIdeal.main_arg0) = m ((c.tc : Thread Cert.KernelFiltersIdeal.nD Cert.KernelFiltersIdeal.τ).loc Cert.KernelFiltersIdeal.main_arg0)
          ∧ r.2.mem ((c.tc : Thread Cert.KernelFiltersIdeal.nD Cert.KernelFiltersIdeal.τ).loc Cert.KernelFiltersIdeal.main_arg1) = m ((c.tc : Thread Cert.KernelFiltersIdeal.nD Cert.KernelFiltersIdeal.τ).loc Cert.KernelFiltersIdeal.main_arg1)
          ∧ r.2.mem ((c.tc : Thread Cert.KernelFiltersIdeal.nD Cert.KernelFiltersIdeal.τ).loc Cert.KernelFiltersIdeal.main_arg2) = m ((c.tc : Thread Cert.KernelFiltersIdeal.nD Cert.KernelFiltersIdeal.τ).loc Cert.KernelFiltersIdeal.main_arg2)
          ∧ r.2.mem ((c.tc : Thread Cert.KernelFiltersIdeal.nD Cert.KernelFiltersIdeal.τ).loc Cert.KernelFiltersIdeal.main_arg3) = m ((c.tc : Thread Cert.KernelFiltersIdeal.nD Cert.KernelFiltersIdeal.τ).loc Cert.KernelFiltersIdeal.main_arg3)
          ∧ r.2.mem ((c.tc : Thread Cert.KernelFiltersIdeal.nD Cert.KernelFiltersIdeal.τ).loc Cert.KernelFiltersIdeal.main_arg4) = m ((c.tc : Thread Cert.KernelFiltersIdeal.nD Cert.KernelFiltersIdeal.τ).loc Cert.KernelFiltersIdeal.main_arg4)
          ∧ r.2.mem ((c.tc : Thread Cert.KernelFiltersIdeal.nD Cert.KernelFiltersIdeal.τ).loc Cert.KernelFiltersIdeal.main_arg5) = m ((c.tc : Thread Cert.KernelFiltersIdeal.nD Cert.KernelFiltersIdeal.τ).loc Cert.KernelFiltersIdeal.main_arg5))
      ∧ θ_run (Cert.ReferenceFiltersIdeal.defs (F := Ideal)) (onTc (τ := Cert.ReferenceFiltersIdeal.τ) (Cert.ReferenceFiltersIdeal.main (F := Ideal))) ⟨m', fun _ => 0, g'⟩ (fun r => ∀ c : Dev Cert.ReferenceFiltersIdeal.nD,
          r.2.mem ((c.tc : Thread Cert.ReferenceFiltersIdeal.nD Cert.ReferenceFiltersIdeal.τ).loc Cert.ReferenceFiltersIdeal.main_v53) = v0 c
          ∧ r.2.mem ((c.tc : Thread Cert.ReferenceFiltersIdeal.nD Cert.ReferenceFiltersIdeal.τ).loc Cert.ReferenceFiltersIdeal.main_v55) = v1 c
          ∧ r.2.mem ((c.tc : Thread Cert.ReferenceFiltersIdeal.nD Cert.ReferenceFiltersIdeal.τ).loc Cert.ReferenceFiltersIdeal.main_arg0) = m' ((c.tc : Thread Cert.ReferenceFiltersIdeal.nD Cert.ReferenceFiltersIdeal.τ).loc Cert.ReferenceFiltersIdeal.main_arg0)
          ∧ r.2.mem ((c.tc : Thread Cert.ReferenceFiltersIdeal.nD Cert.ReferenceFiltersIdeal.τ).loc Cert.ReferenceFiltersIdeal.main_arg1) = m' ((c.tc : Thread Cert.ReferenceFiltersIdeal.nD Cert.ReferenceFiltersIdeal.τ).loc Cert.ReferenceFiltersIdeal.main_arg1)
          ∧ r.2.mem ((c.tc : Thread Cert.ReferenceFiltersIdeal.nD Cert.ReferenceFiltersIdeal.τ).loc Cert.ReferenceFiltersIdeal.main_arg2) = m' ((c.tc : Thread Cert.ReferenceFiltersIdeal.nD Cert.ReferenceFiltersIdeal.τ).loc Cert.ReferenceFiltersIdeal.main_arg2)
          ∧ r.2.mem ((c.tc : Thread Cert.ReferenceFiltersIdeal.nD Cert.ReferenceFiltersIdeal.τ).loc Cert.ReferenceFiltersIdeal.main_arg3) = m' ((c.tc : Thread Cert.ReferenceFiltersIdeal.nD Cert.ReferenceFiltersIdeal.τ).loc Cert.ReferenceFiltersIdeal.main_arg3)
          ∧ r.2.mem ((c.tc : Thread Cert.ReferenceFiltersIdeal.nD Cert.ReferenceFiltersIdeal.τ).loc Cert.ReferenceFiltersIdeal.main_arg4) = m' ((c.tc : Thread Cert.ReferenceFiltersIdeal.nD Cert.ReferenceFiltersIdeal.τ).loc Cert.ReferenceFiltersIdeal.main_arg4)
          ∧ r.2.mem ((c.tc : Thread Cert.ReferenceFiltersIdeal.nD Cert.ReferenceFiltersIdeal.τ).loc Cert.ReferenceFiltersIdeal.main_arg5) = m' ((c.tc : Thread Cert.ReferenceFiltersIdeal.nD Cert.ReferenceFiltersIdeal.τ).loc Cert.ReferenceFiltersIdeal.main_arg5))

def preserves_KernelSpectrum_KernelSpectrumIdeal : Prop :=
  True

def algebraic_KernelSpectrumIdeal_ReferenceSpectrumIdeal [hKernelSpectrumIdeal : Cert.KernelSpectrumIdeal.Facts] [hReferenceSpectrumIdeal : Cert.ReferenceSpectrumIdeal.Facts] : Prop :=
  ∀ (m : (ℓ : Loc Cert.KernelSpectrumIdeal.nD Cert.KernelSpectrumIdeal.τ Cert.KernelSpectrumIdeal.sig) → Buf (Elt Ideal) ℓ) (g : Dev Cert.KernelSpectrumIdeal.nD → PrngReg)
    (m' : (ℓ : Loc Cert.ReferenceSpectrumIdeal.nD Cert.ReferenceSpectrumIdeal.τ Cert.ReferenceSpectrumIdeal.sig) → Buf (Elt Ideal) ℓ) (g' : Dev Cert.ReferenceSpectrumIdeal.nD → PrngReg), Pre_KernelSpectrumIdeal m →
    (∀ c : Dev Cert.KernelSpectrumIdeal.nD,
      m' ((c.tc : Thread Cert.ReferenceSpectrumIdeal.nD Cert.ReferenceSpectrumIdeal.τ).loc Cert.ReferenceSpectrumIdeal.main_arg0) = m ((c.tc : Thread Cert.KernelSpectrumIdeal.nD Cert.KernelSpectrumIdeal.τ).loc Cert.KernelSpectrumIdeal.main_arg0)
      ∧ m' ((c.tc : Thread Cert.ReferenceSpectrumIdeal.nD Cert.ReferenceSpectrumIdeal.τ).loc Cert.ReferenceSpectrumIdeal.main_arg1) = m ((c.tc : Thread Cert.KernelSpectrumIdeal.nD Cert.KernelSpectrumIdeal.τ).loc Cert.KernelSpectrumIdeal.main_arg1)
      ∧ m' ((c.tc : Thread Cert.ReferenceSpectrumIdeal.nD Cert.ReferenceSpectrumIdeal.τ).loc Cert.ReferenceSpectrumIdeal.main_arg2) = m ((c.tc : Thread Cert.KernelSpectrumIdeal.nD Cert.KernelSpectrumIdeal.τ).loc Cert.KernelSpectrumIdeal.main_arg2)
      ∧ m' ((c.tc : Thread Cert.ReferenceSpectrumIdeal.nD Cert.ReferenceSpectrumIdeal.τ).loc Cert.ReferenceSpectrumIdeal.main_arg3) = m ((c.tc : Thread Cert.KernelSpectrumIdeal.nD Cert.KernelSpectrumIdeal.τ).loc Cert.KernelSpectrumIdeal.main_arg3)) →
    ∃ (v0 : (c : Dev Cert.KernelSpectrumIdeal.nD) → Buf (Elt Ideal) ((c.tc : Thread Cert.KernelSpectrumIdeal.nD Cert.KernelSpectrumIdeal.τ).loc Cert.KernelSpectrumIdeal.main_v0_0)) (v1 : (c : Dev Cert.KernelSpectrumIdeal.nD) → Buf (Elt Ideal) ((c.tc : Thread Cert.KernelSpectrumIdeal.nD Cert.KernelSpectrumIdeal.τ).loc Cert.KernelSpectrumIdeal.main_v0_1)),
      θ_run (Cert.KernelSpectrumIdeal.defs (F := Ideal)) (onTc (τ := Cert.KernelSpectrumIdeal.τ) (Cert.KernelSpectrumIdeal.main (F := Ideal))) ⟨m, fun _ => 0, g⟩ (fun r => ∀ c : Dev Cert.KernelSpectrumIdeal.nD,
          r.2.mem ((c.tc : Thread Cert.KernelSpectrumIdeal.nD Cert.KernelSpectrumIdeal.τ).loc Cert.KernelSpectrumIdeal.main_v0_0) = v0 c
          ∧ r.2.mem ((c.tc : Thread Cert.KernelSpectrumIdeal.nD Cert.KernelSpectrumIdeal.τ).loc Cert.KernelSpectrumIdeal.main_v0_1) = v1 c
          ∧ r.2.mem ((c.tc : Thread Cert.KernelSpectrumIdeal.nD Cert.KernelSpectrumIdeal.τ).loc Cert.KernelSpectrumIdeal.main_arg0) = m ((c.tc : Thread Cert.KernelSpectrumIdeal.nD Cert.KernelSpectrumIdeal.τ).loc Cert.KernelSpectrumIdeal.main_arg0)
          ∧ r.2.mem ((c.tc : Thread Cert.KernelSpectrumIdeal.nD Cert.KernelSpectrumIdeal.τ).loc Cert.KernelSpectrumIdeal.main_arg1) = m ((c.tc : Thread Cert.KernelSpectrumIdeal.nD Cert.KernelSpectrumIdeal.τ).loc Cert.KernelSpectrumIdeal.main_arg1)
          ∧ r.2.mem ((c.tc : Thread Cert.KernelSpectrumIdeal.nD Cert.KernelSpectrumIdeal.τ).loc Cert.KernelSpectrumIdeal.main_arg2) = m ((c.tc : Thread Cert.KernelSpectrumIdeal.nD Cert.KernelSpectrumIdeal.τ).loc Cert.KernelSpectrumIdeal.main_arg2)
          ∧ r.2.mem ((c.tc : Thread Cert.KernelSpectrumIdeal.nD Cert.KernelSpectrumIdeal.τ).loc Cert.KernelSpectrumIdeal.main_arg3) = m ((c.tc : Thread Cert.KernelSpectrumIdeal.nD Cert.KernelSpectrumIdeal.τ).loc Cert.KernelSpectrumIdeal.main_arg3))
      ∧ θ_run (Cert.ReferenceSpectrumIdeal.defs (F := Ideal)) (onTc (τ := Cert.ReferenceSpectrumIdeal.τ) (Cert.ReferenceSpectrumIdeal.main (F := Ideal))) ⟨m', fun _ => 0, g'⟩ (fun r => ∀ c : Dev Cert.ReferenceSpectrumIdeal.nD,
          r.2.mem ((c.tc : Thread Cert.ReferenceSpectrumIdeal.nD Cert.ReferenceSpectrumIdeal.τ).loc Cert.ReferenceSpectrumIdeal.main_v1) = v0 c
          ∧ r.2.mem ((c.tc : Thread Cert.ReferenceSpectrumIdeal.nD Cert.ReferenceSpectrumIdeal.τ).loc Cert.ReferenceSpectrumIdeal.main_v3) = v1 c
          ∧ r.2.mem ((c.tc : Thread Cert.ReferenceSpectrumIdeal.nD Cert.ReferenceSpectrumIdeal.τ).loc Cert.ReferenceSpectrumIdeal.main_arg0) = m' ((c.tc : Thread Cert.ReferenceSpectrumIdeal.nD Cert.ReferenceSpectrumIdeal.τ).loc Cert.ReferenceSpectrumIdeal.main_arg0)
          ∧ r.2.mem ((c.tc : Thread Cert.ReferenceSpectrumIdeal.nD Cert.ReferenceSpectrumIdeal.τ).loc Cert.ReferenceSpectrumIdeal.main_arg1) = m' ((c.tc : Thread Cert.ReferenceSpectrumIdeal.nD Cert.ReferenceSpectrumIdeal.τ).loc Cert.ReferenceSpectrumIdeal.main_arg1)
          ∧ r.2.mem ((c.tc : Thread Cert.ReferenceSpectrumIdeal.nD Cert.ReferenceSpectrumIdeal.τ).loc Cert.ReferenceSpectrumIdeal.main_arg2) = m' ((c.tc : Thread Cert.ReferenceSpectrumIdeal.nD Cert.ReferenceSpectrumIdeal.τ).loc Cert.ReferenceSpectrumIdeal.main_arg2)
          ∧ r.2.mem ((c.tc : Thread Cert.ReferenceSpectrumIdeal.nD Cert.ReferenceSpectrumIdeal.τ).loc Cert.ReferenceSpectrumIdeal.main_arg3) = m' ((c.tc : Thread Cert.ReferenceSpectrumIdeal.nD Cert.ReferenceSpectrumIdeal.τ).loc Cert.ReferenceSpectrumIdeal.main_arg3))

def preserves_KernelForward_KernelForwardIdeal : Prop :=
  True

def algebraic_KernelForwardIdeal_ReferenceForwardIdeal [hKernelForwardIdeal : Cert.KernelForwardIdeal.Facts] [hReferenceForwardIdeal : Cert.ReferenceForwardIdeal.Facts] : Prop :=
  ∀ (m : (ℓ : Loc Cert.KernelForwardIdeal.nD Cert.KernelForwardIdeal.τ Cert.KernelForwardIdeal.sig) → Buf (Elt Ideal) ℓ) (g : Dev Cert.KernelForwardIdeal.nD → PrngReg)
    (m' : (ℓ : Loc Cert.ReferenceForwardIdeal.nD Cert.ReferenceForwardIdeal.τ Cert.ReferenceForwardIdeal.sig) → Buf (Elt Ideal) ℓ) (g' : Dev Cert.ReferenceForwardIdeal.nD → PrngReg), Pre_KernelForwardIdeal m →
    (∀ c : Dev Cert.KernelForwardIdeal.nD,
      m' ((c.tc : Thread Cert.ReferenceForwardIdeal.nD Cert.ReferenceForwardIdeal.τ).loc Cert.ReferenceForwardIdeal.main_arg0) = m ((c.tc : Thread Cert.KernelForwardIdeal.nD Cert.KernelForwardIdeal.τ).loc Cert.KernelForwardIdeal.main_arg0)
      ∧ m' ((c.tc : Thread Cert.ReferenceForwardIdeal.nD Cert.ReferenceForwardIdeal.τ).loc Cert.ReferenceForwardIdeal.main_arg1) = m ((c.tc : Thread Cert.KernelForwardIdeal.nD Cert.KernelForwardIdeal.τ).loc Cert.KernelForwardIdeal.main_arg1)
      ∧ m' ((c.tc : Thread Cert.ReferenceForwardIdeal.nD Cert.ReferenceForwardIdeal.τ).loc Cert.ReferenceForwardIdeal.main_arg2) = m ((c.tc : Thread Cert.KernelForwardIdeal.nD Cert.KernelForwardIdeal.τ).loc Cert.KernelForwardIdeal.main_arg2)
      ∧ m' ((c.tc : Thread Cert.ReferenceForwardIdeal.nD Cert.ReferenceForwardIdeal.τ).loc Cert.ReferenceForwardIdeal.main_arg3) = m ((c.tc : Thread Cert.KernelForwardIdeal.nD Cert.KernelForwardIdeal.τ).loc Cert.KernelForwardIdeal.main_arg3)
      ∧ m' ((c.tc : Thread Cert.ReferenceForwardIdeal.nD Cert.ReferenceForwardIdeal.τ).loc Cert.ReferenceForwardIdeal.main_arg4) = m ((c.tc : Thread Cert.KernelForwardIdeal.nD Cert.KernelForwardIdeal.τ).loc Cert.KernelForwardIdeal.main_arg4)) →
    ∃ (v0 : (c : Dev Cert.KernelForwardIdeal.nD) → Buf (Elt Ideal) ((c.tc : Thread Cert.KernelForwardIdeal.nD Cert.KernelForwardIdeal.τ).loc Cert.KernelForwardIdeal.main_v0_0)) (v1 : (c : Dev Cert.KernelForwardIdeal.nD) → Buf (Elt Ideal) ((c.tc : Thread Cert.KernelForwardIdeal.nD Cert.KernelForwardIdeal.τ).loc Cert.KernelForwardIdeal.main_v0_1)),
      θ_run (Cert.KernelForwardIdeal.defs (F := Ideal)) (onTc (τ := Cert.KernelForwardIdeal.τ) (Cert.KernelForwardIdeal.main (F := Ideal))) ⟨m, fun _ => 0, g⟩ (fun r => ∀ c : Dev Cert.KernelForwardIdeal.nD,
          r.2.mem ((c.tc : Thread Cert.KernelForwardIdeal.nD Cert.KernelForwardIdeal.τ).loc Cert.KernelForwardIdeal.main_v0_0) = v0 c
          ∧ r.2.mem ((c.tc : Thread Cert.KernelForwardIdeal.nD Cert.KernelForwardIdeal.τ).loc Cert.KernelForwardIdeal.main_v0_1) = v1 c
          ∧ r.2.mem ((c.tc : Thread Cert.KernelForwardIdeal.nD Cert.KernelForwardIdeal.τ).loc Cert.KernelForwardIdeal.main_arg0) = m ((c.tc : Thread Cert.KernelForwardIdeal.nD Cert.KernelForwardIdeal.τ).loc Cert.KernelForwardIdeal.main_arg0)
          ∧ r.2.mem ((c.tc : Thread Cert.KernelForwardIdeal.nD Cert.KernelForwardIdeal.τ).loc Cert.KernelForwardIdeal.main_arg1) = m ((c.tc : Thread Cert.KernelForwardIdeal.nD Cert.KernelForwardIdeal.τ).loc Cert.KernelForwardIdeal.main_arg1)
          ∧ r.2.mem ((c.tc : Thread Cert.KernelForwardIdeal.nD Cert.KernelForwardIdeal.τ).loc Cert.KernelForwardIdeal.main_arg2) = m ((c.tc : Thread Cert.KernelForwardIdeal.nD Cert.KernelForwardIdeal.τ).loc Cert.KernelForwardIdeal.main_arg2)
          ∧ r.2.mem ((c.tc : Thread Cert.KernelForwardIdeal.nD Cert.KernelForwardIdeal.τ).loc Cert.KernelForwardIdeal.main_arg3) = m ((c.tc : Thread Cert.KernelForwardIdeal.nD Cert.KernelForwardIdeal.τ).loc Cert.KernelForwardIdeal.main_arg3)
          ∧ r.2.mem ((c.tc : Thread Cert.KernelForwardIdeal.nD Cert.KernelForwardIdeal.τ).loc Cert.KernelForwardIdeal.main_arg4) = m ((c.tc : Thread Cert.KernelForwardIdeal.nD Cert.KernelForwardIdeal.τ).loc Cert.KernelForwardIdeal.main_arg4))
      ∧ θ_run (Cert.ReferenceForwardIdeal.defs (F := Ideal)) (onTc (τ := Cert.ReferenceForwardIdeal.τ) (Cert.ReferenceForwardIdeal.main (F := Ideal))) ⟨m', fun _ => 0, g'⟩ (fun r => ∀ c : Dev Cert.ReferenceForwardIdeal.nD,
          r.2.mem ((c.tc : Thread Cert.ReferenceForwardIdeal.nD Cert.ReferenceForwardIdeal.τ).loc Cert.ReferenceForwardIdeal.main_v17) = v0 c
          ∧ r.2.mem ((c.tc : Thread Cert.ReferenceForwardIdeal.nD Cert.ReferenceForwardIdeal.τ).loc Cert.ReferenceForwardIdeal.main_v23) = v1 c
          ∧ r.2.mem ((c.tc : Thread Cert.ReferenceForwardIdeal.nD Cert.ReferenceForwardIdeal.τ).loc Cert.ReferenceForwardIdeal.main_arg0) = m' ((c.tc : Thread Cert.ReferenceForwardIdeal.nD Cert.ReferenceForwardIdeal.τ).loc Cert.ReferenceForwardIdeal.main_arg0)
          ∧ r.2.mem ((c.tc : Thread Cert.ReferenceForwardIdeal.nD Cert.ReferenceForwardIdeal.τ).loc Cert.ReferenceForwardIdeal.main_arg1) = m' ((c.tc : Thread Cert.ReferenceForwardIdeal.nD Cert.ReferenceForwardIdeal.τ).loc Cert.ReferenceForwardIdeal.main_arg1)
          ∧ r.2.mem ((c.tc : Thread Cert.ReferenceForwardIdeal.nD Cert.ReferenceForwardIdeal.τ).loc Cert.ReferenceForwardIdeal.main_arg2) = m' ((c.tc : Thread Cert.ReferenceForwardIdeal.nD Cert.ReferenceForwardIdeal.τ).loc Cert.ReferenceForwardIdeal.main_arg2)
          ∧ r.2.mem ((c.tc : Thread Cert.ReferenceForwardIdeal.nD Cert.ReferenceForwardIdeal.τ).loc Cert.ReferenceForwardIdeal.main_arg3) = m' ((c.tc : Thread Cert.ReferenceForwardIdeal.nD Cert.ReferenceForwardIdeal.τ).loc Cert.ReferenceForwardIdeal.main_arg3)
          ∧ r.2.mem ((c.tc : Thread Cert.ReferenceForwardIdeal.nD Cert.ReferenceForwardIdeal.τ).loc Cert.ReferenceForwardIdeal.main_arg4) = m' ((c.tc : Thread Cert.ReferenceForwardIdeal.nD Cert.ReferenceForwardIdeal.τ).loc Cert.ReferenceForwardIdeal.main_arg4))

def preserves_KernelInverse_KernelInverseIdeal : Prop :=
  True

def algebraic_KernelInverseIdeal_ReferenceInverseIdeal [hKernelInverseIdeal : Cert.KernelInverseIdeal.Facts] [hReferenceInverseIdeal : Cert.ReferenceInverseIdeal.Facts] : Prop :=
  ∀ (m : (ℓ : Loc Cert.KernelInverseIdeal.nD Cert.KernelInverseIdeal.τ Cert.KernelInverseIdeal.sig) → Buf (Elt Ideal) ℓ) (g : Dev Cert.KernelInverseIdeal.nD → PrngReg)
    (m' : (ℓ : Loc Cert.ReferenceInverseIdeal.nD Cert.ReferenceInverseIdeal.τ Cert.ReferenceInverseIdeal.sig) → Buf (Elt Ideal) ℓ) (g' : Dev Cert.ReferenceInverseIdeal.nD → PrngReg), Pre_KernelInverseIdeal m →
    (∀ c : Dev Cert.KernelInverseIdeal.nD,
      m' ((c.tc : Thread Cert.ReferenceInverseIdeal.nD Cert.ReferenceInverseIdeal.τ).loc Cert.ReferenceInverseIdeal.main_arg0) = m ((c.tc : Thread Cert.KernelInverseIdeal.nD Cert.KernelInverseIdeal.τ).loc Cert.KernelInverseIdeal.main_arg0)
      ∧ m' ((c.tc : Thread Cert.ReferenceInverseIdeal.nD Cert.ReferenceInverseIdeal.τ).loc Cert.ReferenceInverseIdeal.main_arg1) = m ((c.tc : Thread Cert.KernelInverseIdeal.nD Cert.KernelInverseIdeal.τ).loc Cert.KernelInverseIdeal.main_arg1)
      ∧ m' ((c.tc : Thread Cert.ReferenceInverseIdeal.nD Cert.ReferenceInverseIdeal.τ).loc Cert.ReferenceInverseIdeal.main_arg2) = m ((c.tc : Thread Cert.KernelInverseIdeal.nD Cert.KernelInverseIdeal.τ).loc Cert.KernelInverseIdeal.main_arg2)
      ∧ m' ((c.tc : Thread Cert.ReferenceInverseIdeal.nD Cert.ReferenceInverseIdeal.τ).loc Cert.ReferenceInverseIdeal.main_arg3) = m ((c.tc : Thread Cert.KernelInverseIdeal.nD Cert.KernelInverseIdeal.τ).loc Cert.KernelInverseIdeal.main_arg3)
      ∧ m' ((c.tc : Thread Cert.ReferenceInverseIdeal.nD Cert.ReferenceInverseIdeal.τ).loc Cert.ReferenceInverseIdeal.main_arg4) = m ((c.tc : Thread Cert.KernelInverseIdeal.nD Cert.KernelInverseIdeal.τ).loc Cert.KernelInverseIdeal.main_arg4)
      ∧ m' ((c.tc : Thread Cert.ReferenceInverseIdeal.nD Cert.ReferenceInverseIdeal.τ).loc Cert.ReferenceInverseIdeal.main_arg5) = m ((c.tc : Thread Cert.KernelInverseIdeal.nD Cert.KernelInverseIdeal.τ).loc Cert.KernelInverseIdeal.main_arg5)) →
    ∃ (v0 : (c : Dev Cert.KernelInverseIdeal.nD) → Buf (Elt Ideal) ((c.tc : Thread Cert.KernelInverseIdeal.nD Cert.KernelInverseIdeal.τ).loc Cert.KernelInverseIdeal.main_v1)),
      θ_run (Cert.KernelInverseIdeal.defs (F := Ideal)) (onTc (τ := Cert.KernelInverseIdeal.τ) (Cert.KernelInverseIdeal.main (F := Ideal))) ⟨m, fun _ => 0, g⟩ (fun r => ∀ c : Dev Cert.KernelInverseIdeal.nD,
          r.2.mem ((c.tc : Thread Cert.KernelInverseIdeal.nD Cert.KernelInverseIdeal.τ).loc Cert.KernelInverseIdeal.main_v1) = v0 c
          ∧ r.2.mem ((c.tc : Thread Cert.KernelInverseIdeal.nD Cert.KernelInverseIdeal.τ).loc Cert.KernelInverseIdeal.main_arg0) = m ((c.tc : Thread Cert.KernelInverseIdeal.nD Cert.KernelInverseIdeal.τ).loc Cert.KernelInverseIdeal.main_arg0)
          ∧ r.2.mem ((c.tc : Thread Cert.KernelInverseIdeal.nD Cert.KernelInverseIdeal.τ).loc Cert.KernelInverseIdeal.main_arg1) = m ((c.tc : Thread Cert.KernelInverseIdeal.nD Cert.KernelInverseIdeal.τ).loc Cert.KernelInverseIdeal.main_arg1)
          ∧ r.2.mem ((c.tc : Thread Cert.KernelInverseIdeal.nD Cert.KernelInverseIdeal.τ).loc Cert.KernelInverseIdeal.main_arg2) = m ((c.tc : Thread Cert.KernelInverseIdeal.nD Cert.KernelInverseIdeal.τ).loc Cert.KernelInverseIdeal.main_arg2)
          ∧ r.2.mem ((c.tc : Thread Cert.KernelInverseIdeal.nD Cert.KernelInverseIdeal.τ).loc Cert.KernelInverseIdeal.main_arg3) = m ((c.tc : Thread Cert.KernelInverseIdeal.nD Cert.KernelInverseIdeal.τ).loc Cert.KernelInverseIdeal.main_arg3)
          ∧ r.2.mem ((c.tc : Thread Cert.KernelInverseIdeal.nD Cert.KernelInverseIdeal.τ).loc Cert.KernelInverseIdeal.main_arg4) = m ((c.tc : Thread Cert.KernelInverseIdeal.nD Cert.KernelInverseIdeal.τ).loc Cert.KernelInverseIdeal.main_arg4)
          ∧ r.2.mem ((c.tc : Thread Cert.KernelInverseIdeal.nD Cert.KernelInverseIdeal.τ).loc Cert.KernelInverseIdeal.main_arg5) = m ((c.tc : Thread Cert.KernelInverseIdeal.nD Cert.KernelInverseIdeal.τ).loc Cert.KernelInverseIdeal.main_arg5))
      ∧ θ_run (Cert.ReferenceInverseIdeal.defs (F := Ideal)) (onTc (τ := Cert.ReferenceInverseIdeal.τ) (Cert.ReferenceInverseIdeal.main (F := Ideal))) ⟨m', fun _ => 0, g'⟩ (fun r => ∀ c : Dev Cert.ReferenceInverseIdeal.nD,
          r.2.mem ((c.tc : Thread Cert.ReferenceInverseIdeal.nD Cert.ReferenceInverseIdeal.τ).loc Cert.ReferenceInverseIdeal.main_v19) = v0 c
          ∧ r.2.mem ((c.tc : Thread Cert.ReferenceInverseIdeal.nD Cert.ReferenceInverseIdeal.τ).loc Cert.ReferenceInverseIdeal.main_arg0) = m' ((c.tc : Thread Cert.ReferenceInverseIdeal.nD Cert.ReferenceInverseIdeal.τ).loc Cert.ReferenceInverseIdeal.main_arg0)
          ∧ r.2.mem ((c.tc : Thread Cert.ReferenceInverseIdeal.nD Cert.ReferenceInverseIdeal.τ).loc Cert.ReferenceInverseIdeal.main_arg1) = m' ((c.tc : Thread Cert.ReferenceInverseIdeal.nD Cert.ReferenceInverseIdeal.τ).loc Cert.ReferenceInverseIdeal.main_arg1)
          ∧ r.2.mem ((c.tc : Thread Cert.ReferenceInverseIdeal.nD Cert.ReferenceInverseIdeal.τ).loc Cert.ReferenceInverseIdeal.main_arg2) = m' ((c.tc : Thread Cert.ReferenceInverseIdeal.nD Cert.ReferenceInverseIdeal.τ).loc Cert.ReferenceInverseIdeal.main_arg2)
          ∧ r.2.mem ((c.tc : Thread Cert.ReferenceInverseIdeal.nD Cert.ReferenceInverseIdeal.τ).loc Cert.ReferenceInverseIdeal.main_arg3) = m' ((c.tc : Thread Cert.ReferenceInverseIdeal.nD Cert.ReferenceInverseIdeal.τ).loc Cert.ReferenceInverseIdeal.main_arg3)
          ∧ r.2.mem ((c.tc : Thread Cert.ReferenceInverseIdeal.nD Cert.ReferenceInverseIdeal.τ).loc Cert.ReferenceInverseIdeal.main_arg4) = m' ((c.tc : Thread Cert.ReferenceInverseIdeal.nD Cert.ReferenceInverseIdeal.τ).loc Cert.ReferenceInverseIdeal.main_arg4)
          ∧ r.2.mem ((c.tc : Thread Cert.ReferenceInverseIdeal.nD Cert.ReferenceInverseIdeal.τ).loc Cert.ReferenceInverseIdeal.main_arg5) = m' ((c.tc : Thread Cert.ReferenceInverseIdeal.nD Cert.ReferenceInverseIdeal.τ).loc Cert.ReferenceInverseIdeal.main_arg5))

def preserves_KernelForwardTwo_KernelForwardTwoIdeal : Prop :=
  True

def algebraic_KernelForwardTwoIdeal_ReferenceForwardTwoIdeal [hKernelForwardTwoIdeal : Cert.KernelForwardTwoIdeal.Facts] [hReferenceForwardTwoIdeal : Cert.ReferenceForwardTwoIdeal.Facts] : Prop :=
  ∀ (m : (ℓ : Loc Cert.KernelForwardTwoIdeal.nD Cert.KernelForwardTwoIdeal.τ Cert.KernelForwardTwoIdeal.sig) → Buf (Elt Ideal) ℓ) (g : Dev Cert.KernelForwardTwoIdeal.nD → PrngReg)
    (m' : (ℓ : Loc Cert.ReferenceForwardTwoIdeal.nD Cert.ReferenceForwardTwoIdeal.τ Cert.ReferenceForwardTwoIdeal.sig) → Buf (Elt Ideal) ℓ) (g' : Dev Cert.ReferenceForwardTwoIdeal.nD → PrngReg), Pre_KernelForwardTwoIdeal m →
    (∀ c : Dev Cert.KernelForwardTwoIdeal.nD,
      m' ((c.tc : Thread Cert.ReferenceForwardTwoIdeal.nD Cert.ReferenceForwardTwoIdeal.τ).loc Cert.ReferenceForwardTwoIdeal.main_arg0) = m ((c.tc : Thread Cert.KernelForwardTwoIdeal.nD Cert.KernelForwardTwoIdeal.τ).loc Cert.KernelForwardTwoIdeal.main_arg0)
      ∧ m' ((c.tc : Thread Cert.ReferenceForwardTwoIdeal.nD Cert.ReferenceForwardTwoIdeal.τ).loc Cert.ReferenceForwardTwoIdeal.main_arg1) = m ((c.tc : Thread Cert.KernelForwardTwoIdeal.nD Cert.KernelForwardTwoIdeal.τ).loc Cert.KernelForwardTwoIdeal.main_arg1)
      ∧ m' ((c.tc : Thread Cert.ReferenceForwardTwoIdeal.nD Cert.ReferenceForwardTwoIdeal.τ).loc Cert.ReferenceForwardTwoIdeal.main_arg2) = m ((c.tc : Thread Cert.KernelForwardTwoIdeal.nD Cert.KernelForwardTwoIdeal.τ).loc Cert.KernelForwardTwoIdeal.main_arg2)
      ∧ m' ((c.tc : Thread Cert.ReferenceForwardTwoIdeal.nD Cert.ReferenceForwardTwoIdeal.τ).loc Cert.ReferenceForwardTwoIdeal.main_arg3) = m ((c.tc : Thread Cert.KernelForwardTwoIdeal.nD Cert.KernelForwardTwoIdeal.τ).loc Cert.KernelForwardTwoIdeal.main_arg3)
      ∧ m' ((c.tc : Thread Cert.ReferenceForwardTwoIdeal.nD Cert.ReferenceForwardTwoIdeal.τ).loc Cert.ReferenceForwardTwoIdeal.main_arg4) = m ((c.tc : Thread Cert.KernelForwardTwoIdeal.nD Cert.KernelForwardTwoIdeal.τ).loc Cert.KernelForwardTwoIdeal.main_arg4)) →
    ∃ (v0 : (c : Dev Cert.KernelForwardTwoIdeal.nD) → Buf (Elt Ideal) ((c.tc : Thread Cert.KernelForwardTwoIdeal.nD Cert.KernelForwardTwoIdeal.τ).loc Cert.KernelForwardTwoIdeal.main_v0_0)) (v1 : (c : Dev Cert.KernelForwardTwoIdeal.nD) → Buf (Elt Ideal) ((c.tc : Thread Cert.KernelForwardTwoIdeal.nD Cert.KernelForwardTwoIdeal.τ).loc Cert.KernelForwardTwoIdeal.main_v0_1)),
      θ_run (Cert.KernelForwardTwoIdeal.defs (F := Ideal)) (onTc (τ := Cert.KernelForwardTwoIdeal.τ) (Cert.KernelForwardTwoIdeal.main (F := Ideal))) ⟨m, fun _ => 0, g⟩ (fun r => ∀ c : Dev Cert.KernelForwardTwoIdeal.nD,
          r.2.mem ((c.tc : Thread Cert.KernelForwardTwoIdeal.nD Cert.KernelForwardTwoIdeal.τ).loc Cert.KernelForwardTwoIdeal.main_v0_0) = v0 c
          ∧ r.2.mem ((c.tc : Thread Cert.KernelForwardTwoIdeal.nD Cert.KernelForwardTwoIdeal.τ).loc Cert.KernelForwardTwoIdeal.main_v0_1) = v1 c
          ∧ r.2.mem ((c.tc : Thread Cert.KernelForwardTwoIdeal.nD Cert.KernelForwardTwoIdeal.τ).loc Cert.KernelForwardTwoIdeal.main_arg0) = m ((c.tc : Thread Cert.KernelForwardTwoIdeal.nD Cert.KernelForwardTwoIdeal.τ).loc Cert.KernelForwardTwoIdeal.main_arg0)
          ∧ r.2.mem ((c.tc : Thread Cert.KernelForwardTwoIdeal.nD Cert.KernelForwardTwoIdeal.τ).loc Cert.KernelForwardTwoIdeal.main_arg1) = m ((c.tc : Thread Cert.KernelForwardTwoIdeal.nD Cert.KernelForwardTwoIdeal.τ).loc Cert.KernelForwardTwoIdeal.main_arg1)
          ∧ r.2.mem ((c.tc : Thread Cert.KernelForwardTwoIdeal.nD Cert.KernelForwardTwoIdeal.τ).loc Cert.KernelForwardTwoIdeal.main_arg2) = m ((c.tc : Thread Cert.KernelForwardTwoIdeal.nD Cert.KernelForwardTwoIdeal.τ).loc Cert.KernelForwardTwoIdeal.main_arg2)
          ∧ r.2.mem ((c.tc : Thread Cert.KernelForwardTwoIdeal.nD Cert.KernelForwardTwoIdeal.τ).loc Cert.KernelForwardTwoIdeal.main_arg3) = m ((c.tc : Thread Cert.KernelForwardTwoIdeal.nD Cert.KernelForwardTwoIdeal.τ).loc Cert.KernelForwardTwoIdeal.main_arg3)
          ∧ r.2.mem ((c.tc : Thread Cert.KernelForwardTwoIdeal.nD Cert.KernelForwardTwoIdeal.τ).loc Cert.KernelForwardTwoIdeal.main_arg4) = m ((c.tc : Thread Cert.KernelForwardTwoIdeal.nD Cert.KernelForwardTwoIdeal.τ).loc Cert.KernelForwardTwoIdeal.main_arg4))
      ∧ θ_run (Cert.ReferenceForwardTwoIdeal.defs (F := Ideal)) (onTc (τ := Cert.ReferenceForwardTwoIdeal.τ) (Cert.ReferenceForwardTwoIdeal.main (F := Ideal))) ⟨m', fun _ => 0, g'⟩ (fun r => ∀ c : Dev Cert.ReferenceForwardTwoIdeal.nD,
          r.2.mem ((c.tc : Thread Cert.ReferenceForwardTwoIdeal.nD Cert.ReferenceForwardTwoIdeal.τ).loc Cert.ReferenceForwardTwoIdeal.main_v16) = v0 c
          ∧ r.2.mem ((c.tc : Thread Cert.ReferenceForwardTwoIdeal.nD Cert.ReferenceForwardTwoIdeal.τ).loc Cert.ReferenceForwardTwoIdeal.main_v22) = v1 c
          ∧ r.2.mem ((c.tc : Thread Cert.ReferenceForwardTwoIdeal.nD Cert.ReferenceForwardTwoIdeal.τ).loc Cert.ReferenceForwardTwoIdeal.main_arg0) = m' ((c.tc : Thread Cert.ReferenceForwardTwoIdeal.nD Cert.ReferenceForwardTwoIdeal.τ).loc Cert.ReferenceForwardTwoIdeal.main_arg0)
          ∧ r.2.mem ((c.tc : Thread Cert.ReferenceForwardTwoIdeal.nD Cert.ReferenceForwardTwoIdeal.τ).loc Cert.ReferenceForwardTwoIdeal.main_arg1) = m' ((c.tc : Thread Cert.ReferenceForwardTwoIdeal.nD Cert.ReferenceForwardTwoIdeal.τ).loc Cert.ReferenceForwardTwoIdeal.main_arg1)
          ∧ r.2.mem ((c.tc : Thread Cert.ReferenceForwardTwoIdeal.nD Cert.ReferenceForwardTwoIdeal.τ).loc Cert.ReferenceForwardTwoIdeal.main_arg2) = m' ((c.tc : Thread Cert.ReferenceForwardTwoIdeal.nD Cert.ReferenceForwardTwoIdeal.τ).loc Cert.ReferenceForwardTwoIdeal.main_arg2)
          ∧ r.2.mem ((c.tc : Thread Cert.ReferenceForwardTwoIdeal.nD Cert.ReferenceForwardTwoIdeal.τ).loc Cert.ReferenceForwardTwoIdeal.main_arg3) = m' ((c.tc : Thread Cert.ReferenceForwardTwoIdeal.nD Cert.ReferenceForwardTwoIdeal.τ).loc Cert.ReferenceForwardTwoIdeal.main_arg3)
          ∧ r.2.mem ((c.tc : Thread Cert.ReferenceForwardTwoIdeal.nD Cert.ReferenceForwardTwoIdeal.τ).loc Cert.ReferenceForwardTwoIdeal.main_arg4) = m' ((c.tc : Thread Cert.ReferenceForwardTwoIdeal.nD Cert.ReferenceForwardTwoIdeal.τ).loc Cert.ReferenceForwardTwoIdeal.main_arg4))

def preserves_KernelInverseTwo_KernelInverseTwoIdeal : Prop :=
  True

def algebraic_KernelInverseTwoIdeal_ReferenceInverseTwoIdeal [hKernelInverseTwoIdeal : Cert.KernelInverseTwoIdeal.Facts] [hReferenceInverseTwoIdeal : Cert.ReferenceInverseTwoIdeal.Facts] : Prop :=
  ∀ (m : (ℓ : Loc Cert.KernelInverseTwoIdeal.nD Cert.KernelInverseTwoIdeal.τ Cert.KernelInverseTwoIdeal.sig) → Buf (Elt Ideal) ℓ) (g : Dev Cert.KernelInverseTwoIdeal.nD → PrngReg)
    (m' : (ℓ : Loc Cert.ReferenceInverseTwoIdeal.nD Cert.ReferenceInverseTwoIdeal.τ Cert.ReferenceInverseTwoIdeal.sig) → Buf (Elt Ideal) ℓ) (g' : Dev Cert.ReferenceInverseTwoIdeal.nD → PrngReg), Pre_KernelInverseTwoIdeal m →
    (∀ c : Dev Cert.KernelInverseTwoIdeal.nD,
      m' ((c.tc : Thread Cert.ReferenceInverseTwoIdeal.nD Cert.ReferenceInverseTwoIdeal.τ).loc Cert.ReferenceInverseTwoIdeal.main_arg0) = m ((c.tc : Thread Cert.KernelInverseTwoIdeal.nD Cert.KernelInverseTwoIdeal.τ).loc Cert.KernelInverseTwoIdeal.main_arg0)
      ∧ m' ((c.tc : Thread Cert.ReferenceInverseTwoIdeal.nD Cert.ReferenceInverseTwoIdeal.τ).loc Cert.ReferenceInverseTwoIdeal.main_arg1) = m ((c.tc : Thread Cert.KernelInverseTwoIdeal.nD Cert.KernelInverseTwoIdeal.τ).loc Cert.KernelInverseTwoIdeal.main_arg1)
      ∧ m' ((c.tc : Thread Cert.ReferenceInverseTwoIdeal.nD Cert.ReferenceInverseTwoIdeal.τ).loc Cert.ReferenceInverseTwoIdeal.main_arg2) = m ((c.tc : Thread Cert.KernelInverseTwoIdeal.nD Cert.KernelInverseTwoIdeal.τ).loc Cert.KernelInverseTwoIdeal.main_arg2)
      ∧ m' ((c.tc : Thread Cert.ReferenceInverseTwoIdeal.nD Cert.ReferenceInverseTwoIdeal.τ).loc Cert.ReferenceInverseTwoIdeal.main_arg3) = m ((c.tc : Thread Cert.KernelInverseTwoIdeal.nD Cert.KernelInverseTwoIdeal.τ).loc Cert.KernelInverseTwoIdeal.main_arg3)
      ∧ m' ((c.tc : Thread Cert.ReferenceInverseTwoIdeal.nD Cert.ReferenceInverseTwoIdeal.τ).loc Cert.ReferenceInverseTwoIdeal.main_arg4) = m ((c.tc : Thread Cert.KernelInverseTwoIdeal.nD Cert.KernelInverseTwoIdeal.τ).loc Cert.KernelInverseTwoIdeal.main_arg4)
      ∧ m' ((c.tc : Thread Cert.ReferenceInverseTwoIdeal.nD Cert.ReferenceInverseTwoIdeal.τ).loc Cert.ReferenceInverseTwoIdeal.main_arg5) = m ((c.tc : Thread Cert.KernelInverseTwoIdeal.nD Cert.KernelInverseTwoIdeal.τ).loc Cert.KernelInverseTwoIdeal.main_arg5)
      ∧ m' ((c.tc : Thread Cert.ReferenceInverseTwoIdeal.nD Cert.ReferenceInverseTwoIdeal.τ).loc Cert.ReferenceInverseTwoIdeal.main_arg6) = m ((c.tc : Thread Cert.KernelInverseTwoIdeal.nD Cert.KernelInverseTwoIdeal.τ).loc Cert.KernelInverseTwoIdeal.main_arg6)) →
    ∃ (v0 : (c : Dev Cert.KernelInverseTwoIdeal.nD) → Buf (Elt Ideal) ((c.tc : Thread Cert.KernelInverseTwoIdeal.nD Cert.KernelInverseTwoIdeal.τ).loc Cert.KernelInverseTwoIdeal.main_v1)),
      θ_run (Cert.KernelInverseTwoIdeal.defs (F := Ideal)) (onTc (τ := Cert.KernelInverseTwoIdeal.τ) (Cert.KernelInverseTwoIdeal.main (F := Ideal))) ⟨m, fun _ => 0, g⟩ (fun r => ∀ c : Dev Cert.KernelInverseTwoIdeal.nD,
          r.2.mem ((c.tc : Thread Cert.KernelInverseTwoIdeal.nD Cert.KernelInverseTwoIdeal.τ).loc Cert.KernelInverseTwoIdeal.main_v1) = v0 c
          ∧ r.2.mem ((c.tc : Thread Cert.KernelInverseTwoIdeal.nD Cert.KernelInverseTwoIdeal.τ).loc Cert.KernelInverseTwoIdeal.main_arg0) = m ((c.tc : Thread Cert.KernelInverseTwoIdeal.nD Cert.KernelInverseTwoIdeal.τ).loc Cert.KernelInverseTwoIdeal.main_arg0)
          ∧ r.2.mem ((c.tc : Thread Cert.KernelInverseTwoIdeal.nD Cert.KernelInverseTwoIdeal.τ).loc Cert.KernelInverseTwoIdeal.main_arg1) = m ((c.tc : Thread Cert.KernelInverseTwoIdeal.nD Cert.KernelInverseTwoIdeal.τ).loc Cert.KernelInverseTwoIdeal.main_arg1)
          ∧ r.2.mem ((c.tc : Thread Cert.KernelInverseTwoIdeal.nD Cert.KernelInverseTwoIdeal.τ).loc Cert.KernelInverseTwoIdeal.main_arg2) = m ((c.tc : Thread Cert.KernelInverseTwoIdeal.nD Cert.KernelInverseTwoIdeal.τ).loc Cert.KernelInverseTwoIdeal.main_arg2)
          ∧ r.2.mem ((c.tc : Thread Cert.KernelInverseTwoIdeal.nD Cert.KernelInverseTwoIdeal.τ).loc Cert.KernelInverseTwoIdeal.main_arg3) = m ((c.tc : Thread Cert.KernelInverseTwoIdeal.nD Cert.KernelInverseTwoIdeal.τ).loc Cert.KernelInverseTwoIdeal.main_arg3)
          ∧ r.2.mem ((c.tc : Thread Cert.KernelInverseTwoIdeal.nD Cert.KernelInverseTwoIdeal.τ).loc Cert.KernelInverseTwoIdeal.main_arg4) = m ((c.tc : Thread Cert.KernelInverseTwoIdeal.nD Cert.KernelInverseTwoIdeal.τ).loc Cert.KernelInverseTwoIdeal.main_arg4)
          ∧ r.2.mem ((c.tc : Thread Cert.KernelInverseTwoIdeal.nD Cert.KernelInverseTwoIdeal.τ).loc Cert.KernelInverseTwoIdeal.main_arg5) = m ((c.tc : Thread Cert.KernelInverseTwoIdeal.nD Cert.KernelInverseTwoIdeal.τ).loc Cert.KernelInverseTwoIdeal.main_arg5)
          ∧ r.2.mem ((c.tc : Thread Cert.KernelInverseTwoIdeal.nD Cert.KernelInverseTwoIdeal.τ).loc Cert.KernelInverseTwoIdeal.main_arg6) = m ((c.tc : Thread Cert.KernelInverseTwoIdeal.nD Cert.KernelInverseTwoIdeal.τ).loc Cert.KernelInverseTwoIdeal.main_arg6))
      ∧ θ_run (Cert.ReferenceInverseTwoIdeal.defs (F := Ideal)) (onTc (τ := Cert.ReferenceInverseTwoIdeal.τ) (Cert.ReferenceInverseTwoIdeal.main (F := Ideal))) ⟨m', fun _ => 0, g'⟩ (fun r => ∀ c : Dev Cert.ReferenceInverseTwoIdeal.nD,
          r.2.mem ((c.tc : Thread Cert.ReferenceInverseTwoIdeal.nD Cert.ReferenceInverseTwoIdeal.τ).loc Cert.ReferenceInverseTwoIdeal.main_v18) = v0 c
          ∧ r.2.mem ((c.tc : Thread Cert.ReferenceInverseTwoIdeal.nD Cert.ReferenceInverseTwoIdeal.τ).loc Cert.ReferenceInverseTwoIdeal.main_arg0) = m' ((c.tc : Thread Cert.ReferenceInverseTwoIdeal.nD Cert.ReferenceInverseTwoIdeal.τ).loc Cert.ReferenceInverseTwoIdeal.main_arg0)
          ∧ r.2.mem ((c.tc : Thread Cert.ReferenceInverseTwoIdeal.nD Cert.ReferenceInverseTwoIdeal.τ).loc Cert.ReferenceInverseTwoIdeal.main_arg1) = m' ((c.tc : Thread Cert.ReferenceInverseTwoIdeal.nD Cert.ReferenceInverseTwoIdeal.τ).loc Cert.ReferenceInverseTwoIdeal.main_arg1)
          ∧ r.2.mem ((c.tc : Thread Cert.ReferenceInverseTwoIdeal.nD Cert.ReferenceInverseTwoIdeal.τ).loc Cert.ReferenceInverseTwoIdeal.main_arg2) = m' ((c.tc : Thread Cert.ReferenceInverseTwoIdeal.nD Cert.ReferenceInverseTwoIdeal.τ).loc Cert.ReferenceInverseTwoIdeal.main_arg2)
          ∧ r.2.mem ((c.tc : Thread Cert.ReferenceInverseTwoIdeal.nD Cert.ReferenceInverseTwoIdeal.τ).loc Cert.ReferenceInverseTwoIdeal.main_arg3) = m' ((c.tc : Thread Cert.ReferenceInverseTwoIdeal.nD Cert.ReferenceInverseTwoIdeal.τ).loc Cert.ReferenceInverseTwoIdeal.main_arg3)
          ∧ r.2.mem ((c.tc : Thread Cert.ReferenceInverseTwoIdeal.nD Cert.ReferenceInverseTwoIdeal.τ).loc Cert.ReferenceInverseTwoIdeal.main_arg4) = m' ((c.tc : Thread Cert.ReferenceInverseTwoIdeal.nD Cert.ReferenceInverseTwoIdeal.τ).loc Cert.ReferenceInverseTwoIdeal.main_arg4)
          ∧ r.2.mem ((c.tc : Thread Cert.ReferenceInverseTwoIdeal.nD Cert.ReferenceInverseTwoIdeal.τ).loc Cert.ReferenceInverseTwoIdeal.main_arg5) = m' ((c.tc : Thread Cert.ReferenceInverseTwoIdeal.nD Cert.ReferenceInverseTwoIdeal.τ).loc Cert.ReferenceInverseTwoIdeal.main_arg5)
          ∧ r.2.mem ((c.tc : Thread Cert.ReferenceInverseTwoIdeal.nD Cert.ReferenceInverseTwoIdeal.τ).loc Cert.ReferenceInverseTwoIdeal.main_arg6) = m' ((c.tc : Thread Cert.ReferenceInverseTwoIdeal.nD Cert.ReferenceInverseTwoIdeal.τ).loc Cert.ReferenceInverseTwoIdeal.main_arg6))

def preserves_KernelDiffTwo_KernelDiffTwoIdeal : Prop :=
  True

def algebraic_KernelDiffTwoIdeal_ReferenceDiffTwoIdeal [hKernelDiffTwoIdeal : Cert.KernelDiffTwoIdeal.Facts] [hReferenceDiffTwoIdeal : Cert.ReferenceDiffTwoIdeal.Facts] : Prop :=
  ∀ (m : (ℓ : Loc Cert.KernelDiffTwoIdeal.nD Cert.KernelDiffTwoIdeal.τ Cert.KernelDiffTwoIdeal.sig) → Buf (Elt Ideal) ℓ) (g : Dev Cert.KernelDiffTwoIdeal.nD → PrngReg)
    (m' : (ℓ : Loc Cert.ReferenceDiffTwoIdeal.nD Cert.ReferenceDiffTwoIdeal.τ Cert.ReferenceDiffTwoIdeal.sig) → Buf (Elt Ideal) ℓ) (g' : Dev Cert.ReferenceDiffTwoIdeal.nD → PrngReg), Pre_KernelDiffTwoIdeal m →
    (∀ c : Dev Cert.KernelDiffTwoIdeal.nD,
      m' ((c.tc : Thread Cert.ReferenceDiffTwoIdeal.nD Cert.ReferenceDiffTwoIdeal.τ).loc Cert.ReferenceDiffTwoIdeal.main_arg0) = m ((c.tc : Thread Cert.KernelDiffTwoIdeal.nD Cert.KernelDiffTwoIdeal.τ).loc Cert.KernelDiffTwoIdeal.main_arg0)
      ∧ m' ((c.tc : Thread Cert.ReferenceDiffTwoIdeal.nD Cert.ReferenceDiffTwoIdeal.τ).loc Cert.ReferenceDiffTwoIdeal.main_arg1) = m ((c.tc : Thread Cert.KernelDiffTwoIdeal.nD Cert.KernelDiffTwoIdeal.τ).loc Cert.KernelDiffTwoIdeal.main_arg1)
      ∧ m' ((c.tc : Thread Cert.ReferenceDiffTwoIdeal.nD Cert.ReferenceDiffTwoIdeal.τ).loc Cert.ReferenceDiffTwoIdeal.main_arg2) = m ((c.tc : Thread Cert.KernelDiffTwoIdeal.nD Cert.KernelDiffTwoIdeal.τ).loc Cert.KernelDiffTwoIdeal.main_arg2)) →
    ∃ (v0 : (c : Dev Cert.KernelDiffTwoIdeal.nD) → Buf (Elt Ideal) ((c.tc : Thread Cert.KernelDiffTwoIdeal.nD Cert.KernelDiffTwoIdeal.τ).loc Cert.KernelDiffTwoIdeal.main_v10)),
      θ_run (Cert.KernelDiffTwoIdeal.defs (F := Ideal)) (onTc (τ := Cert.KernelDiffTwoIdeal.τ) (Cert.KernelDiffTwoIdeal.main (F := Ideal))) ⟨m, fun _ => 0, g⟩ (fun r => ∀ c : Dev Cert.KernelDiffTwoIdeal.nD,
          r.2.mem ((c.tc : Thread Cert.KernelDiffTwoIdeal.nD Cert.KernelDiffTwoIdeal.τ).loc Cert.KernelDiffTwoIdeal.main_v10) = v0 c
          ∧ r.2.mem ((c.tc : Thread Cert.KernelDiffTwoIdeal.nD Cert.KernelDiffTwoIdeal.τ).loc Cert.KernelDiffTwoIdeal.main_arg0) = m ((c.tc : Thread Cert.KernelDiffTwoIdeal.nD Cert.KernelDiffTwoIdeal.τ).loc Cert.KernelDiffTwoIdeal.main_arg0)
          ∧ r.2.mem ((c.tc : Thread Cert.KernelDiffTwoIdeal.nD Cert.KernelDiffTwoIdeal.τ).loc Cert.KernelDiffTwoIdeal.main_arg1) = m ((c.tc : Thread Cert.KernelDiffTwoIdeal.nD Cert.KernelDiffTwoIdeal.τ).loc Cert.KernelDiffTwoIdeal.main_arg1)
          ∧ r.2.mem ((c.tc : Thread Cert.KernelDiffTwoIdeal.nD Cert.KernelDiffTwoIdeal.τ).loc Cert.KernelDiffTwoIdeal.main_arg2) = m ((c.tc : Thread Cert.KernelDiffTwoIdeal.nD Cert.KernelDiffTwoIdeal.τ).loc Cert.KernelDiffTwoIdeal.main_arg2))
      ∧ θ_run (Cert.ReferenceDiffTwoIdeal.defs (F := Ideal)) (onTc (τ := Cert.ReferenceDiffTwoIdeal.τ) (Cert.ReferenceDiffTwoIdeal.main (F := Ideal))) ⟨m', fun _ => 0, g'⟩ (fun r => ∀ c : Dev Cert.ReferenceDiffTwoIdeal.nD,
          r.2.mem ((c.tc : Thread Cert.ReferenceDiffTwoIdeal.nD Cert.ReferenceDiffTwoIdeal.τ).loc Cert.ReferenceDiffTwoIdeal.main_v89) = v0 c
          ∧ r.2.mem ((c.tc : Thread Cert.ReferenceDiffTwoIdeal.nD Cert.ReferenceDiffTwoIdeal.τ).loc Cert.ReferenceDiffTwoIdeal.main_arg0) = m' ((c.tc : Thread Cert.ReferenceDiffTwoIdeal.nD Cert.ReferenceDiffTwoIdeal.τ).loc Cert.ReferenceDiffTwoIdeal.main_arg0)
          ∧ r.2.mem ((c.tc : Thread Cert.ReferenceDiffTwoIdeal.nD Cert.ReferenceDiffTwoIdeal.τ).loc Cert.ReferenceDiffTwoIdeal.main_arg1) = m' ((c.tc : Thread Cert.ReferenceDiffTwoIdeal.nD Cert.ReferenceDiffTwoIdeal.τ).loc Cert.ReferenceDiffTwoIdeal.main_arg1)
          ∧ r.2.mem ((c.tc : Thread Cert.ReferenceDiffTwoIdeal.nD Cert.ReferenceDiffTwoIdeal.τ).loc Cert.ReferenceDiffTwoIdeal.main_arg2) = m' ((c.tc : Thread Cert.ReferenceDiffTwoIdeal.nD Cert.ReferenceDiffTwoIdeal.τ).loc Cert.ReferenceDiffTwoIdeal.main_arg2))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOddIn : Cert.KernelOddIn.Facts) (hKernelOddInIdeal : Cert.KernelOddInIdeal.Facts) (hReferenceOddInIdeal : Cert.ReferenceOddInIdeal.Facts) (hKernelMem : Cert.KernelMem.Facts) (hKernelMemIdeal : Cert.KernelMemIdeal.Facts) (hReferenceMemIdeal : Cert.ReferenceMemIdeal.Facts) (hKernelOut : Cert.KernelOut.Facts) (hKernelOutIdeal : Cert.KernelOutIdeal.Facts) (hReferenceOutIdeal : Cert.ReferenceOutIdeal.Facts) (hKernelOddOut : Cert.KernelOddOut.Facts) (hKernelOddOutIdeal : Cert.KernelOddOutIdeal.Facts) (hReferenceOddOutIdeal : Cert.ReferenceOddOutIdeal.Facts) (hKernelCross : Cert.KernelCross.Facts) (hKernelCrossIdeal : Cert.KernelCrossIdeal.Facts) (hReferenceCrossIdeal : Cert.ReferenceCrossIdeal.Facts) (hKernelExperts : Cert.KernelExperts.Facts) (hKernelExpertsIdeal : Cert.KernelExpertsIdeal.Facts) (hReferenceExpertsIdeal : Cert.ReferenceExpertsIdeal.Facts) (hKernelWin : Cert.KernelWin.Facts) (hKernelWinIdeal : Cert.KernelWinIdeal.Facts) (hReferenceWinIdeal : Cert.ReferenceWinIdeal.Facts) (hKernelConv : Cert.KernelConv.Facts) (hKernelConvIdeal : Cert.KernelConvIdeal.Facts) (hReferenceConvIdeal : Cert.ReferenceConvIdeal.Facts) (hKernelFilters : Cert.KernelFilters.Facts) (hKernelFiltersIdeal : Cert.KernelFiltersIdeal.Facts) (hReferenceFiltersIdeal : Cert.ReferenceFiltersIdeal.Facts) (hKernelSpectrum : Cert.KernelSpectrum.Facts) (hKernelSpectrumIdeal : Cert.KernelSpectrumIdeal.Facts) (hReferenceSpectrumIdeal : Cert.ReferenceSpectrumIdeal.Facts) (hKernelForward : Cert.KernelForward.Facts) (hKernelForwardIdeal : Cert.KernelForwardIdeal.Facts) (hReferenceForwardIdeal : Cert.ReferenceForwardIdeal.Facts) (hKernelInverse : Cert.KernelInverse.Facts) (hKernelInverseIdeal : Cert.KernelInverseIdeal.Facts) (hReferenceInverseIdeal : Cert.ReferenceInverseIdeal.Facts) (hKernelForwardTwo : Cert.KernelForwardTwo.Facts) (hKernelForwardTwoIdeal : Cert.KernelForwardTwoIdeal.Facts) (hReferenceForwardTwoIdeal : Cert.ReferenceForwardTwoIdeal.Facts) (hKernelInverseTwo : Cert.KernelInverseTwo.Facts) (hKernelInverseTwoIdeal : Cert.KernelInverseTwoIdeal.Facts) (hReferenceInverseTwoIdeal : Cert.ReferenceInverseTwoIdeal.Facts) (hKernelDiffTwo : Cert.KernelDiffTwo.Facts) (hKernelDiffTwoIdeal : Cert.KernelDiffTwoIdeal.Facts) (hReferenceDiffTwoIdeal : Cert.ReferenceDiffTwoIdeal.Facts) (hPre_experts_named : Cert.Pre_experts_named.Facts) (hPre_win_finite : Cert.Pre_win_finite.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOddIn (hKernelOddIn := hKernelOddIn)
    ∧ quiescent_KernelOddInIdeal (hKernelOddInIdeal := hKernelOddInIdeal)
    ∧ quiescent_ReferenceOddInIdeal (hReferenceOddInIdeal := hReferenceOddInIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOddOut (hKernelOddOut := hKernelOddOut)
    ∧ quiescent_KernelOddOutIdeal (hKernelOddOutIdeal := hKernelOddOutIdeal)
    ∧ quiescent_ReferenceOddOutIdeal (hReferenceOddOutIdeal := hReferenceOddOutIdeal)
    ∧ quiescent_KernelCross (hKernelCross := hKernelCross)
    ∧ quiescent_KernelCrossIdeal (hKernelCrossIdeal := hKernelCrossIdeal)
    ∧ quiescent_ReferenceCrossIdeal (hReferenceCrossIdeal := hReferenceCrossIdeal)
    ∧ quiescent_KernelExperts (hKernelExperts := hKernelExperts) (hPre_experts_named := hPre_experts_named)
    ∧ quiescent_KernelExpertsIdeal (hKernelExpertsIdeal := hKernelExpertsIdeal) (hPre_experts_named := hPre_experts_named)
    ∧ quiescent_ReferenceExpertsIdeal (hReferenceExpertsIdeal := hReferenceExpertsIdeal)
    ∧ quiescent_ReferenceExpertsIdeal_pre_experts_named (hReferenceExpertsIdeal := hReferenceExpertsIdeal) (hPre_experts_named := hPre_experts_named)
    ∧ quiescent_KernelWin (hKernelWin := hKernelWin)
    ∧ quiescent_KernelWinIdeal (hKernelWinIdeal := hKernelWinIdeal)
    ∧ quiescent_KernelWinIdeal_pre_win_finite (hKernelWinIdeal := hKernelWinIdeal) (hPre_win_finite := hPre_win_finite)
    ∧ quiescent_ReferenceWinIdeal (hReferenceWinIdeal := hReferenceWinIdeal)
    ∧ quiescent_ReferenceWinIdeal_pre_win_finite (hReferenceWinIdeal := hReferenceWinIdeal) (hPre_win_finite := hPre_win_finite)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelFilters (hKernelFilters := hKernelFilters)
    ∧ quiescent_KernelFiltersIdeal (hKernelFiltersIdeal := hKernelFiltersIdeal)
    ∧ quiescent_ReferenceFiltersIdeal (hReferenceFiltersIdeal := hReferenceFiltersIdeal)
    ∧ quiescent_KernelSpectrum (hKernelSpectrum := hKernelSpectrum)
    ∧ quiescent_KernelSpectrumIdeal (hKernelSpectrumIdeal := hKernelSpectrumIdeal)
    ∧ quiescent_ReferenceSpectrumIdeal (hReferenceSpectrumIdeal := hReferenceSpectrumIdeal)
    ∧ quiescent_KernelForward (hKernelForward := hKernelForward)
    ∧ quiescent_KernelForwardIdeal (hKernelForwardIdeal := hKernelForwardIdeal)
    ∧ quiescent_ReferenceForwardIdeal (hReferenceForwardIdeal := hReferenceForwardIdeal)
    ∧ quiescent_KernelInverse (hKernelInverse := hKernelInverse)
    ∧ quiescent_KernelInverseIdeal (hKernelInverseIdeal := hKernelInverseIdeal)
    ∧ quiescent_ReferenceInverseIdeal (hReferenceInverseIdeal := hReferenceInverseIdeal)
    ∧ quiescent_KernelForwardTwo (hKernelForwardTwo := hKernelForwardTwo)
    ∧ quiescent_KernelForwardTwoIdeal (hKernelForwardTwoIdeal := hKernelForwardTwoIdeal)
    ∧ quiescent_ReferenceForwardTwoIdeal (hReferenceForwardTwoIdeal := hReferenceForwardTwoIdeal)
    ∧ quiescent_KernelInverseTwo (hKernelInverseTwo := hKernelInverseTwo)
    ∧ quiescent_KernelInverseTwoIdeal (hKernelInverseTwoIdeal := hKernelInverseTwoIdeal)
    ∧ quiescent_ReferenceInverseTwoIdeal (hReferenceInverseTwoIdeal := hReferenceInverseTwoIdeal)
    ∧ quiescent_KernelDiffTwo (hKernelDiffTwo := hKernelDiffTwo)
    ∧ quiescent_KernelDiffTwoIdeal (hKernelDiffTwoIdeal := hKernelDiffTwoIdeal)
    ∧ quiescent_ReferenceDiffTwoIdeal (hReferenceDiffTwoIdeal := hReferenceDiffTwoIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelOddIn_KernelOddInIdeal
    ∧ algebraic_KernelOddInIdeal_ReferenceOddInIdeal (hKernelOddInIdeal := hKernelOddInIdeal) (hReferenceOddInIdeal := hReferenceOddInIdeal)
    ∧ preserves_KernelMem_KernelMemIdeal
    ∧ algebraic_KernelMemIdeal_ReferenceMemIdeal (hKernelMemIdeal := hKernelMemIdeal) (hReferenceMemIdeal := hReferenceMemIdeal)
    ∧ preserves_KernelOut_KernelOutIdeal
    ∧ algebraic_KernelOutIdeal_ReferenceOutIdeal (hKernelOutIdeal := hKernelOutIdeal) (hReferenceOutIdeal := hReferenceOutIdeal)
    ∧ preserves_KernelOddOut_KernelOddOutIdeal
    ∧ algebraic_KernelOddOutIdeal_ReferenceOddOutIdeal (hKernelOddOutIdeal := hKernelOddOutIdeal) (hReferenceOddOutIdeal := hReferenceOddOutIdeal)
    ∧ preserves_KernelCross_KernelCrossIdeal
    ∧ algebraic_KernelCrossIdeal_ReferenceCrossIdeal (hKernelCrossIdeal := hKernelCrossIdeal) (hReferenceCrossIdeal := hReferenceCrossIdeal)
    ∧ preserves_KernelExperts_KernelExpertsIdeal
    ∧ algebraic_KernelExpertsIdeal_ReferenceExpertsIdeal (hKernelExpertsIdeal := hKernelExpertsIdeal) (hReferenceExpertsIdeal := hReferenceExpertsIdeal) (hPre_experts_named := hPre_experts_named)
    ∧ preserves_KernelWin_KernelWinIdeal
    ∧ algebraic_KernelWinIdeal_ReferenceWinIdeal_pre_win_finite (hKernelWinIdeal := hKernelWinIdeal) (hReferenceWinIdeal := hReferenceWinIdeal) (hPre_win_finite := hPre_win_finite)
    ∧ preserves_KernelConv_KernelConvIdeal
    ∧ algebraic_KernelConvIdeal_ReferenceConvIdeal (hKernelConvIdeal := hKernelConvIdeal) (hReferenceConvIdeal := hReferenceConvIdeal)
    ∧ preserves_KernelFilters_KernelFiltersIdeal
    ∧ algebraic_KernelFiltersIdeal_ReferenceFiltersIdeal (hKernelFiltersIdeal := hKernelFiltersIdeal) (hReferenceFiltersIdeal := hReferenceFiltersIdeal)
    ∧ preserves_KernelSpectrum_KernelSpectrumIdeal
    ∧ algebraic_KernelSpectrumIdeal_ReferenceSpectrumIdeal (hKernelSpectrumIdeal := hKernelSpectrumIdeal) (hReferenceSpectrumIdeal := hReferenceSpectrumIdeal)
    ∧ preserves_KernelForward_KernelForwardIdeal
    ∧ algebraic_KernelForwardIdeal_ReferenceForwardIdeal (hKernelForwardIdeal := hKernelForwardIdeal) (hReferenceForwardIdeal := hReferenceForwardIdeal)
    ∧ preserves_KernelInverse_KernelInverseIdeal
    ∧ algebraic_KernelInverseIdeal_ReferenceInverseIdeal (hKernelInverseIdeal := hKernelInverseIdeal) (hReferenceInverseIdeal := hReferenceInverseIdeal)
    ∧ preserves_KernelForwardTwo_KernelForwardTwoIdeal
    ∧ algebraic_KernelForwardTwoIdeal_ReferenceForwardTwoIdeal (hKernelForwardTwoIdeal := hKernelForwardTwoIdeal) (hReferenceForwardTwoIdeal := hReferenceForwardTwoIdeal)
    ∧ preserves_KernelInverseTwo_KernelInverseTwoIdeal
    ∧ algebraic_KernelInverseTwoIdeal_ReferenceInverseTwoIdeal (hKernelInverseTwoIdeal := hKernelInverseTwoIdeal) (hReferenceInverseTwoIdeal := hReferenceInverseTwoIdeal)
    ∧ preserves_KernelDiffTwo_KernelDiffTwoIdeal
    ∧ algebraic_KernelDiffTwoIdeal_ReferenceDiffTwoIdeal (hKernelDiffTwoIdeal := hKernelDiffTwoIdeal) (hReferenceDiffTwoIdeal := hReferenceDiffTwoIdeal)
-- ==== Pre_experts_named.lean ====
abbrev S160 : Shape := ⟨1, ![160]⟩
abbrev S1 : Shape := ⟨1, ![1]⟩
abbrev S40960x512 : Shape := ⟨2, ![40960, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S1 32) (main_arg2 : IVec S40960x512 32) (main_arg3 : FVec F S32x1024x512 .f32) (main_arg4 : FVec F S32x1024x512 .f32) (main_arg5 : FVec F S32x512x1024 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_win_finite.lean ====
abbrev S8x2048x1536 : Shape := ⟨3, ![8, 2048, 1536]⟩
abbrev S16 : Shape := ⟨1, ![16]⟩
abbrev S_ : Shape := ⟨0, ![]⟩

class Facts : Prop where
  bcast_S_S8x2048x1536 : S_.BroadcastsInDim S8x2048x1536 (![] : Fin 0 → Fin S8x2048x1536.rank)
  reducesTo_S8x2048x1536_S_d0_1_2 : S8x2048x1536.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S8x2048x1536 .f32) (main_arg1 : FVec F S16 .f32) : IVec S_ 1 :=
  let main_v0 : FVec F S8x2048x1536 .f32 := Host.absf main_arg0
  let main_cst : FVec F S_ .f32 := constant S_ .f32 0x7F800000#32
  let main_v1 : FVec F S8x2048x1536 .f32 := broadcastInDim S8x2048x1536 ![] bcast_S_S8x2048x1536 main_cst
  let main_v2 : IVec S8x2048x1536 1 := cmpf .olt main_v0 main_v1
  let main_c : IVec S_ 1 := constantI S_ 1 1#1
  let main_v3 : IVec S_ 1 := (fun x v => Host.reduce IntOp.andi x v reducesTo_S8x2048x1536_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S8x2048x3072 : Shape := ⟨3, ![8, 2048, 3072]⟩
abbrev S4x64 : Shape := ⟨2, ![4, 64]⟩
abbrev S128 : Shape := ⟨1, ![128]⟩
abbrev S4 : Shape := ⟨1, ![4]⟩
abbrev S_ : Shape := ⟨0, ![]⟩
abbrev S1x128 : Shape := ⟨2, ![1, 128]⟩
abbrev S8x2048x512 : Shape := ⟨3, ![8, 2048, 512]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x2048 : Shape := ⟨2, ![256, 2048]⟩
abbrev S1 : Shape := ⟨1, ![1]⟩
abbrev S1x64 : Shape := ⟨2, ![1, 64]⟩
abbrev S1x1 : Shape := ⟨2, ![1, 1]⟩
abbrev S256 : Shape := ⟨1, ![256]⟩
abbrev S256x1 : Shape := ⟨2, ![256, 1]⟩

abbrev nBuf : Space → Nat
  | .hbm => 18
  | .vmem => 10
  | .smem => 1
  | _ => 0

abbrev bufTy : (tb : Table) → Fin (tcTables nBuf tb) → BufTy
  | .hbm, ⟨0, _⟩ => ⟨S8x2048x3072, .f32⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S1x128, .f32⟩
  | .hbm, ⟨17, _⟩ => ⟨S8x2048x512, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S4x64, .f32⟩
  | .local _ .vmem, ⟨7, _⟩ => ⟨S1x128, .f32⟩
  | .local _ .vmem, ⟨8, _⟩ => ⟨S1x256x128, .f32⟩
  | .local _ .vmem, ⟨9, _⟩ => ⟨S1x256x128, .f32⟩
  | .local _ .smem, ⟨0, _⟩ => ⟨S4, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 1 → Nat :=
  let arg1 : BitVec 32 := BitVec.ofNat 32 (i 1).val
  let v16 : Index := Scalar.indexCast arg1
  ![v16.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x2048x3072 : Shape := ⟨3, ![8, 2048, 3072]⟩
abbrev S4x64 : Shape := ⟨2, ![4, 64]⟩
abbrev S128 : Shape := ⟨1, ![128]⟩
abbrev S8x2048x1536 : Shape := ⟨3, ![8, 2048, 1536]⟩
abbrev S8x2048x512 : Shape := ⟨3, ![8, 2048, 512]⟩
abbrev S1x64 : Shape := ⟨2, ![1, 64]⟩
abbrev S64 : Shape := ⟨1, ![64]⟩
abbrev S_ : Shape := ⟨0, ![]⟩
abbrev S8x2048x8x64 : Shape := ⟨4, ![8, 2048, 8, 64]⟩
abbrev S8x2048x4x128 : Shape := ⟨4, ![8, 2048, 4, 128]⟩
abbrev S4 : Shape := ⟨1, ![4]⟩
abbrev S4x2 : Shape := ⟨2, ![4, 2]⟩
abbrev S8 : Shape := ⟨1, ![8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048x2048 : Shape := ⟨4, ![8, 8, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x4x2x2048x2048 : Shape := ⟨5, ![8, 4, 2, 2048, 2048]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S4x64, .f32⟩
  | .hbm, ⟨2, _⟩ => ⟨S128, .f32⟩
  | .hbm, ⟨3, _⟩ => ⟨S8x2048x1536, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x2048x8x64, .f32⟩
  | .hbm, ⟨27, _⟩ => ⟨S8x2048x8x64, .f32⟩
  | .hbm, ⟨28, _⟩ => ⟨S8x2048x4x128, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4x2, .f32⟩
  | .hbm, ⟨43, _⟩ => ⟨S8, .f32⟩
  | .hbm, ⟨44, _⟩ => ⟨S2048, .i32⟩
  | .hbm, ⟨45, _⟩ => ⟨S2048x1, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i32⟩
  | .hbm, ⟨50, _⟩ => ⟨S2048x2048, .i32⟩
  | .hbm, ⟨51, _⟩ => ⟨S2048x2048, .f32⟩
  | .hbm, ⟨52, _⟩ => ⟨S8x8x2048x2048, .f32⟩
  | .hbm, ⟨53, _⟩ => ⟨S_, .f32⟩
  | .hbm, ⟨54, _⟩ => ⟨S8x8x2048x2048, .f32⟩
  | .hbm, ⟨55, _⟩ => ⟨S8x8x2048x2048, .f32⟩
  | .hbm, ⟨56, _⟩ => ⟨S8x1x1, .f32⟩
  | .hbm, ⟨57, _⟩ => ⟨S1x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S1x8x2048x2048, .f32⟩
  | .hbm, ⟨62, _⟩ => ⟨S8x8x2048x2048, .f32⟩
  | .hbm, ⟨63, _⟩ => ⟨S8x8x2048x2048, .f32⟩
  | .hbm, ⟨64, _⟩ => ⟨S_, .f32⟩
  | .hbm, ⟨65, _⟩ => ⟨S8x8x2048, .f32⟩
  | .hbm, ⟨66, _⟩ => ⟨S_, .f32⟩
  | .hbm, ⟨67, _⟩ => ⟨S8x8x2048, .f32⟩
  | .hbm, ⟨68, _⟩ => ⟨S8x8x2048, .f32⟩
  | .hbm, ⟨69, _⟩ => ⟨S8x8x2048x1, .f32⟩
  | .hbm, ⟨70, _⟩ => ⟨S8x8x2048x2048, .f32⟩
  | .hbm, ⟨71, _⟩ => ⟨S8x8x2048x2048, .f32⟩
  | .hbm, ⟨72, _⟩ => ⟨S8x8x2048x2048, .f32⟩
  | .hbm, ⟨73, _⟩ => ⟨S_, .f32⟩
  | .hbm, ⟨74, _⟩ => ⟨S8x8x2048, .f32⟩
  | .hbm, ⟨75, _⟩ => ⟨S8x8x2048x1, .f32⟩
  | .hbm, ⟨76, _⟩ => ⟨S8x8x2048x2048, .f32⟩
  | .hbm, ⟨77, _⟩ => ⟨S8x8x2048x2048, .f32⟩
  | .hbm, ⟨78, _⟩ => ⟨S8x4x2x2048x2048, .f32⟩
  | .hbm, ⟨79, _⟩ => ⟨S8x4x1x2048x2048, .f32⟩
  | .hbm, ⟨80, _⟩ => ⟨S8x4x2048x2048, .f32⟩
  | .hbm, ⟨81, _⟩ => ⟨S8x4x1x2048x2048, .f32⟩
  | .hbm, ⟨82, _⟩ => ⟨S8x4x2048x2048, .f32⟩
  | .hbm, ⟨83, _⟩ => ⟨S8x4x2048x2048, .f32⟩
  | .hbm, ⟨84, _⟩ => ⟨S8x4x2048x2048, .f32⟩
  | .hbm, ⟨85, _⟩ => ⟨S8x4x2048x2048, .f32⟩
  | .hbm, ⟨86, _⟩ => ⟨S8x4x128x2048, .f32⟩
  | .hbm, ⟨87, _⟩ => ⟨S8x2048x4x128, .f32⟩
  | .hbm, ⟨88, _⟩ => ⟨S8x2048x4x128, .f32⟩
  | .hbm, ⟨89, _⟩ => ⟨S_, .f32⟩
  | .hbm, ⟨90, _⟩ => ⟨S8x2048x4, .f32⟩
  | .hbm, ⟨91, _⟩ => ⟨S8x2048x4x1, .f32⟩
  | .hbm, ⟨92, _⟩ => ⟨S_, .f32⟩
  | .hbm, ⟨93, _⟩ => ⟨S8x2048x4x1, .f32⟩
  | .hbm, ⟨94, _⟩ => ⟨S8x2048x4x1, .f32⟩
  | .hbm, ⟨95, _⟩ => ⟨S_, .f32⟩
  | .hbm, ⟨96, _⟩ => ⟨S8x2048x4x1, .f32⟩
  | .hbm, ⟨97, _⟩ => ⟨S8x2048x4x1, .f32⟩
  | .hbm, ⟨98, _⟩ => ⟨S8x2048x4x1, .f32⟩
  | .hbm, ⟨99, _⟩ => ⟨S8x2048x4x128, .f32⟩
  | .hbm, ⟨100, _⟩ => ⟨S8x2048x4x128, .f32⟩
  | .hbm, ⟨101, _⟩ => ⟨S1x1x1x128, .f32⟩
  | .hbm, ⟨102, _⟩ => ⟨S8x2048x4x128, .f32⟩
  | .hbm, ⟨103, _⟩ => ⟨S8x2048x4x128, .f32⟩
  | .hbm, ⟨104, _⟩ => ⟨S_, .f32⟩
  | .hbm, ⟨105, _⟩ => ⟨S8x2048x4x128, .f32⟩
  | .hbm, ⟨106, _⟩ => ⟨S8x2048x4x128, .f32⟩
  | .hbm, ⟨107, _⟩ => ⟨S8x2048x512, .f32⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_10 : Ref sig .tc := ⟨.hbm, 89, rfl⟩
abbrev main_v75 : Ref sig .tc := ⟨.hbm, 90, rfl⟩
abbrev main_v76 : Ref sig .tc := ⟨.hbm, 91, rfl⟩
abbrev main_cst_11 : Ref sig .tc := ⟨.hbm, 92, rfl⟩
abbrev main_v77 : Ref sig .tc := ⟨.hbm, 93, rfl⟩
abbrev main_v78 : Ref sig .tc := ⟨.hbm, 94, rfl⟩
abbrev main_cst_12 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_13 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== KernelIn.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceInIdeal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelOddIn.lean ====
abbrev S16384x1024 : Shape := ⟨2, ![16384, 1024]⟩
abbrev S1024 : Shape := ⟨1, ![1024]⟩
abbrev S1024x1536 : Shape := ⟨2, ![1024, 1536]⟩
abbrev S1x1024 : Shape := ⟨2, ![1, 1024]⟩
abbrev S16384x1536 : Shape := ⟨2, ![16384, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S1024x1536, .bf16⟩
  | .hbm, ⟨4, _⟩ => ⟨S1x1024, .f32⟩
  | .hbm, ⟨5, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .f32⟩
  | .local _ .vmem, ⟨5, _⟩ => ⟨S512x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOddInIdeal.lean ====
abbrev S16384x1024 : Shape := ⟨2, ![16384, 1024]⟩
abbrev S1024 : Shape := ⟨1, ![1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelMem.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMemIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelOut.lean ====
abbrev S16384x1024 : Shape := ⟨2, ![16384, 1024]⟩
abbrev S16384x512 : Shape := ⟨2, ![16384, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S16384x1024 : Shape := ⟨2, ![16384, 1024]⟩
abbrev S16384x512 : Shape := ⟨2, ![16384, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KernelOddOut.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOddOutIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== KernelCross.lean ====
abbrev S8x2048x1024 : Shape := ⟨3, ![8, 2048, 1024]⟩
abbrev S1024 : Shape := ⟨1, ![1024]⟩
abbrev S1024x512 : Shape := ⟨2, ![1024, 512]⟩
abbrev S8x256x1024 : Shape := ⟨3, ![8, 256, 1024]⟩
abbrev S512x1024 : Shape := ⟨2, ![512, 1024]⟩
abbrev S1x1024 : Shape := ⟨2, ![1, 1024]⟩
abbrev S1x512x1024 : Shape := ⟨3, ![1, 512, 1024]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x512, .f32⟩
  | .hbm, ⟨3, _⟩ => ⟨S8x256x1024, .bf16⟩
  | .hbm, ⟨4, _⟩ => ⟨S512x1024, .f32⟩
  | .hbm, ⟨5, _⟩ => ⟨S1024x512, .bf16⟩
  | .hbm, ⟨6, _⟩ => ⟨S512x1024, .bf16⟩
  | .hbm, ⟨7, _⟩ => ⟨S1x1024, .f32⟩
  | .hbm, ⟨8, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S512x1024, .bf16⟩
  | .local _ .vmem, ⟨7, _⟩ => ⟨S1x512x1024, .f32⟩
  | .local _ .vmem, ⟨8, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceCrossIdeal.lean ====
abbrev S8x2048x1024 : Shape := ⟨3, ![8, 2048, 1024]⟩
abbrev S1024 : Shape := ⟨1, ![1024]⟩
abbrev S1024x512 : Shape := ⟨2, ![1024, 512]⟩
abbrev S8x256x1024 : Shape := ⟨3, ![8, 256, 1024]⟩
abbrev S512x1024 : Shape := ⟨2, ![512, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256x2x4x128 : Shape := ⟨5, ![8, 256, 2, 4, 128]⟩
abbrev S8x2048x512 : Shape := ⟨3, ![8, 2048, 512]⟩
abbrev S8x2048x4x128 : Shape := ⟨4, ![8, 2048, 4, 128]⟩
abbrev S8x256x1x4x128 : Shape := ⟨5, ![8, 256, 1, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x512, .f32⟩
  | .hbm, ⟨3, _⟩ => ⟨S8x256x1024, .bf16⟩
  | .hbm, ⟨4, _⟩ => ⟨S512x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x256x1024, .f32⟩
  | .hbm, ⟨22, _⟩ => ⟨S8x256x2x4x128, .f32⟩
  | .hbm, ⟨23, _⟩ => ⟨S8x2048x512, .f32⟩
  | .hbm, ⟨24, _⟩ => ⟨S8x2048x4x128, .f32⟩
  | .hbm, ⟨25, _⟩ => ⟨S8x256x1x4x128, .f32⟩
  | .hbm, ⟨26, _⟩ => ⟨S8x256x4x128, .f32⟩
  | .hbm, ⟨27, _⟩ => ⟨S8x4x2048x256, .f32⟩
  | .hbm, ⟨28, _⟩ => ⟨S_, .f32⟩
  | .hbm, ⟨29, _⟩ => ⟨S8x4x2048x256, .f32⟩
  | .hbm, ⟨30, _⟩ => ⟨S8x4x2048x256, .f32⟩
  | .hbm, ⟨31, _⟩ => ⟨S_, .f32⟩
  | .hbm, ⟨32, _⟩ => ⟨S8x4x2048, .f32⟩
  | .hbm, ⟨33, _⟩ => ⟨S_, .f32⟩
  | .hbm, ⟨34, _⟩ => ⟨S8x4x2048, .f32⟩
  | .hbm, ⟨35, _⟩ => ⟨S8x4x2048, .f32⟩
  | .hbm, ⟨36, _⟩ => ⟨S8x4x2048x1, .f32⟩
  | .hbm, ⟨37, _⟩ => ⟨S8x4x2048x256, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S8x4x2048x1, .f32⟩
  | .hbm, ⟨43, _⟩ => ⟨S8x4x2048x256, .f32⟩
  | .hbm, ⟨44, _⟩ => ⟨S8x4x2048x256, .f32⟩
  | .hbm, ⟨45, _⟩ => ⟨S8x256x1x4x128, .f32⟩
  | .hbm, ⟨46, _⟩ => ⟨S8x256x4x128, .f32⟩
  | .hbm, ⟨47, _⟩ => ⟨S8x4x128x2048, .f32⟩
  | .hbm, ⟨48, _⟩ => ⟨S8x2048x4x128, .f32⟩
  | .hbm, ⟨49, _⟩ => ⟨S8x2048x512, .f32⟩
  | .hbm, ⟨50, _⟩ => ⟨S8x2048x1024, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== KernelExperts.lean ====
abbrev S160 : Shape := ⟨1, ![160]⟩
abbrev S1 : Shape := ⟨1, ![1]⟩
abbrev S40960x512 : Shape := ⟨2, ![40960, 512]⟩
abbrev S32x1024x512 : Shape := ⟨3, ![32, 1024, 512]⟩
abbrev S32x512x1024 : Shape := ⟨3, ![32, 512, 1024]⟩
abbrev S40960x1024 : Shape := ⟨2, ![40960, 1024]⟩
abbrev S256x512 : Shape := ⟨2, ![256, 512]⟩
abbrev S1x1024x512 : Shape := ⟨3, ![1, 1024, 512]⟩
abbrev S1x512x1024 : Shape := ⟨3, ![1, 512, 1024]⟩
abbrev S256x1024 : Shape := ⟨2, ![256, 1024]⟩
abbrev S1024x512 : Shape := ⟨2, ![1024, 512]⟩
abbrev S512x1024 : Shape := ⟨2, ![512, 1024]⟩

abbrev nBuf : Space → Nat
  | .hbm => 5
  | .vmem => 13
  | .smem => 2
  | _ => 0

abbrev bufTy : (tb : Table) → Fin (tcTables nBuf tb) → BufTy
  | .hbm, ⟨0, _⟩ => ⟨S40960x512, .i32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S40960x1024, .f32⟩
  | .local _ .vmem, ⟨0, _⟩ => ⟨S256x512, .i32⟩
  | .local _ .vmem, ⟨1, _⟩ => ⟨S256x512, .i32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S160, .i32⟩
  | .local _ .smem, ⟨1, _⟩ => ⟨S1, .i32⟩
  | _, _ => ⟨S40960x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v4 : BitVec 32) : BitVec 1 :=
  let arg0 : BitVec 32 := BitVec.ofNat 32 (i 0).val
  let v5 : BitVec 1 := Scalar.cmpi .slt arg0 v4
  let v14 : BitVec 32 := Scalar.extui v5
  let c0_i32_2 : BitVec 32 := 0#32
  let v15 : BitVec 1 := Scalar.cmpi .ne v14 c0_i32_2
  v15

def k0_cond3 (i : grid0.Coords) (v4 : BitVec 32) : BitVec 1 :=
  let arg0 : BitVec 32 := BitVec.ofNat 32 (i 0).val
  let v5 : BitVec 1 := Scalar.cmpi .slt arg0 v4
  let v_true : BitVec 1 := 1#1
  let v16 : BitVec 1 := Scalar.xori v5 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceExpertsIdeal.lean ====
abbrev S160 : Shape := ⟨1, ![160]⟩
abbrev S1 : Shape := ⟨1, ![1]⟩
abbrev S40960x512 : Shape := ⟨2, ![40960, 512]⟩
abbrev S32x1024x512 : Shape := ⟨3, ![32, 1024, 512]⟩
abbrev S32x512x1024 : Shape := ⟨3, ![32, 512, 1024]⟩
abbrev S_ : Shape := ⟨0, ![]⟩
abbrev S40960x1024 : Shape := ⟨2, ![40960, 1024]⟩
abbrev S160x256x1024 : Shape := ⟨3, ![160, 256, 1024]⟩
abbrev S160x1 : Shape := ⟨2, ![160, 1]⟩
abbrev S160x1024x512 : Shape := ⟨3, ![160, 1024, 512]⟩
abbrev S160x256x512 : Shape := ⟨3, ![160, 256, 512]⟩
abbrev S160x512x1024 : Shape := ⟨3, ![160, 512, 1024]⟩
abbrev S160x1x1 : Shape := ⟨3, ![160, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x512, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S_, .i32⟩
  | .hbm, ⟨7, _⟩ => ⟨S40960x512, .i32⟩
  | .hbm, ⟨8, _⟩ => ⟨S40960x512, .i32⟩
  | .hbm, ⟨9, _⟩ => ⟨S_, .i32⟩
  | .hbm, ⟨10, _⟩ => ⟨S40960x512, .i32⟩
  | .hbm, ⟨11, _⟩ => ⟨S40960x512, .i32⟩
  | .hbm, ⟨12, _⟩ => ⟨S40960x512, .f32⟩
  | .hbm, ⟨13, _⟩ => ⟨S_, .i32⟩
  | .hbm, ⟨14, _⟩ => ⟨S40960x512, .i32⟩
  | .hbm, ⟨15, _⟩ => ⟨S40960x512, .i32⟩
  | .hbm, ⟨16, _⟩ => ⟨S40960x512, .f32⟩
  | .hbm, ⟨17, _⟩ => ⟨S40960x1024, .f32⟩
  | .hbm, ⟨18, _⟩ => ⟨S160x256x1024, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x1024x512, .f32⟩
  | .hbm, ⟨28, _⟩ => ⟨S160x256x512, .f32⟩
  | .hbm, ⟨29, _⟩ => ⟨S_, .i32⟩
  | .hbm, ⟨30, _⟩ => ⟨S160, .i32⟩
  | .hbm, ⟨31, _⟩ => ⟨S160, .i1⟩
  | .hbm, ⟨32, _⟩ => ⟨S_, .i32⟩
  | .hbm, ⟨33, _⟩ => ⟨S160, .i32⟩
  | .hbm, ⟨34, _⟩ => ⟨S160, .i32⟩
  | .hbm, ⟨35, _⟩ => ⟨S160, .i32⟩
  | .hbm, ⟨36, _⟩ => ⟨S160x1, .i32⟩
  | .hbm, ⟨37, _⟩ => ⟨S160x1024x512, .f32⟩
  | .hbm, ⟨38, _⟩ => ⟨S160x256x512, .f32⟩
  | .hbm, ⟨39, _⟩ => ⟨S160x256x512, .f32⟩
  | .hbm, ⟨40, _⟩ => ⟨S160x256x512, .f32⟩
  | .hbm, ⟨41, _⟩ => ⟨S_, .f32⟩
  | .hbm, ⟨42, _⟩ => ⟨S160x256x512, .f32⟩
  | .hbm, ⟨43, _⟩ => ⟨S160x256x512, .f32⟩
  | .hbm, ⟨44, _⟩ => ⟨S_, .f32⟩
  | .hbm, ⟨45, _⟩ => ⟨S160x256x512, .f32⟩
  | .hbm, ⟨46, _⟩ => ⟨S160x256x512, .f32⟩
  | .hbm, ⟨47, _⟩ => ⟨S160x256x512, .f32⟩
  | .hbm, ⟨48, _⟩ => ⟨S160x256x512, .f32⟩
  | .hbm, ⟨49, _⟩ => ⟨S_, .i32⟩
  | .hbm, ⟨50, _⟩ => ⟨S160, .i32⟩
  | .hbm, ⟨51, _⟩ => ⟨S160, .i1⟩
  | .hbm, ⟨52, _⟩ => ⟨S_, .i32⟩
  | .hbm, ⟨53, _⟩ => ⟨S160, .i32⟩
  | .hbm, ⟨54, _⟩ => ⟨S160, .i32⟩
  | .hbm, ⟨55, _⟩ => ⟨S160, .i32⟩
  | .hbm, ⟨56, _⟩ => ⟨S160x1, .i32⟩
  | .hbm, ⟨57, _⟩ => ⟨S160x512x1024, .f32⟩
  | .hbm, ⟨58, _⟩ => ⟨S160x256x1024, .f32⟩
  | .hbm, ⟨59, _⟩ => ⟨S160, .i32⟩
  | .hbm, ⟨60, _⟩ => ⟨S160x1x1, .i32⟩
  | .hbm, ⟨61, _⟩ => ⟨S_, .i32⟩
  | .hbm, ⟨62, _⟩ => ⟨S160x1x1, .i32⟩
  | .hbm, ⟨63, _⟩ => ⟨S160x1x1, .i1⟩
  | .hbm, ⟨64, _⟩ => ⟨S_, .f32⟩
  | .hbm, ⟨65, _⟩ => ⟨S_, .f32⟩
  | .hbm, ⟨66, _⟩ => ⟨S160x256x1024, .i1⟩
  | .hbm, ⟨67, _⟩ => ⟨S160x256x1024, .f32⟩
  | .hbm, ⟨68, _⟩ => ⟨S160x256x1024, .f32⟩
  | .hbm, ⟨69, _⟩ => ⟨S40960x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== KernelWin.lean ====
abbrev S8x2048x1536 : Shape := ⟨3, ![8, 2048, 1536]⟩
abbrev S16 : Shape := ⟨1, ![16]⟩
abbrev S_ : Shape := ⟨0, ![]⟩
abbrev S8x2048x1024 : Shape := ⟨3, ![8, 2048, 1024]⟩
abbrev S1x128x1024 : Shape := ⟨3, ![1, 128, 1024]⟩
abbrev S1x2048x256 : Shape := ⟨3, ![1, 2048, 256]⟩
abbrev S1x384x256 : Shape := ⟨3, ![1, 384, 256]⟩
abbrev S384x256 : Shape := ⟨2, ![384, 256]⟩
abbrev S1x128 : Shape := ⟨2, ![1, 128]⟩
abbrev S512x384 : Shape := ⟨2, ![512, 384]⟩
abbrev S512x1 : Shape := ⟨2, ![512, 1]⟩
abbrev S384x128 : Shape := ⟨2, ![384, 128]⟩
abbrev S1x128x128 : Shape := ⟨3, ![1, 128, 128]⟩
abbrev S128x128 : Shape := ⟨2, ![128, 128]⟩
abbrev S512x128 : Shape := ⟨2, ![512, 128]⟩
abbrev S1 : Shape := ⟨1, ![1]⟩
abbrev S512 : Shape := ⟨1, ![512]⟩

abbrev nBuf : Space → Nat
  | .hbm => 16
  | .vmem => 8
  | .smem => 2
  | _ => 0

abbrev bufTy : (tb : Table) → Fin (tcTables nBuf tb) → BufTy
  | .hbm, ⟨0, _⟩ => ⟨S8x2048x1536, .f32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S8x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x128x1024, .f32⟩
  | .local _ .vmem, ⟨7, _⟩ => ⟨S1x128x1024, .f32⟩
  | .local _ .smem, ⟨0, _⟩ => ⟨S16, .f32⟩
  | .local _ .smem, ⟨1, _⟩ => ⟨S16, .f32⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  v3
def k0_off1 (i : grid0.Coords) : Fin 3 → Nat :=
  let c0 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v5 : Index := Scalar.indexCast v4
  let c0_1 : Index := 0#32
  ![0, v5.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelWinIdeal.lean ====
variable {F : FTy → Type} [FloatOps F] [Named F]
def κ : String → Option EReal := fun
  | "mask" => some ⊥
  | _ => none
-- ==== ReferenceWinIdeal.lean ====
abbrev S8x2048x1536 : Shape := ⟨3, ![8, 2048, 1536]⟩
abbrev S16 : Shape := ⟨1, ![16]⟩
abbrev S8x2048x1024 : Shape := ⟨3, ![8, 2048, 1024]⟩
abbrev S8x2048x4x4x64 : Shape := ⟨5, ![8, 2048, 4, 4, 64]⟩
abbrev S8x2048x256 : Shape := ⟨3, ![8, 2048, 256]⟩
abbrev S8x2048x4x64 : Shape := ⟨4, ![8, 2048, 4, 64]⟩
abbrev S_ : Shape := ⟨0, ![]⟩
abbrev S4x4 : Shape := ⟨2, ![4, 4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x2048x2048x4 : Shape := ⟨5, ![8, 4, 2048, 2048, 4]⟩
abbrev S8x4x4x2048x2048 : Shape := ⟨5, ![8, 4, 4, 2048, 2048]⟩
abbrev S4x4x1x1 : Shape := ⟨4, ![4, 4, 1, 1]⟩
abbrev S1x1x2048x2048 : Shape := ⟨4, ![1, 1, 2048, 2048]⟩
abbrev S4x4x2048x2048 : Shape := ⟨4, ![4, 4, 2048, 2048]⟩
abbrev S1x4x4x2048x2048 : Shape := ⟨5, ![1, 4, 4, 2048, 2048]⟩
abbrev S1x4x4x1x1 : Shape := ⟨5, ![1, 4, 4, 1, 1]⟩
abbrev S8x4x4x2048x1 : Shape := ⟨5, ![8, 4, 4, 2048, 1]⟩
abbrev S8x4x4x2048x2049 : Shape := ⟨5, ![8, 4, 4, 2048, 2049]⟩
abbrev S8x4x4x2048 : Shape := ⟨4, ![8, 4, 4, 2048]⟩
abbrev S8x4x64x4x2048 : Shape := ⟨5, ![8, 4, 64, 4, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S16, .f32⟩
  | .hbm, ⟨2, _⟩ => ⟨S8x2048x1024, .f32⟩
  | .hbm, ⟨3, _⟩ => ⟨S8x2048x4x4x64, .f32⟩
  | .hbm, ⟨4, _⟩ => ⟨S8x2048x256, .f32⟩
  | .hbm, ⟨5, _⟩ => ⟨S8x2048x4x64, .f32⟩
  | .hbm, ⟨6, _⟩ => ⟨S8x2048x256, .f32⟩
  | .hbm, ⟨7, _⟩ => ⟨S8x2048x4x64, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4x4, .f32⟩
  | .hbm, ⟨22, _⟩ => ⟨S2048, .i32⟩
  | .hbm, ⟨23, _⟩ => ⟨S2048x1, .i32⟩
  | .hbm, ⟨24, _⟩ => ⟨S1x2048, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S8x4x2048x2048x4, .f32⟩
  | .hbm, ⟨30, _⟩ => ⟨S8x4x4x2048x2048, .f32⟩
  | .hbm, ⟨31, _⟩ => ⟨S_, .f32⟩
  | .hbm, ⟨32, _⟩ => ⟨S8x4x4x2048x2048, .f32⟩
  | .hbm, ⟨33, _⟩ => ⟨S8x4x4x2048x2048, .f32⟩
  | .hbm, ⟨34, _⟩ => ⟨S4x4x1x1, .f32⟩
  | .hbm, ⟨35, _⟩ => ⟨S2048x2048, .f32⟩
  | .hbm, ⟨36, _⟩ => ⟨S1x1x2048x2048, .f32⟩
  | .hbm, ⟨37, _⟩ => ⟨S4x4x2048x2048, .f32⟩
  | .hbm, ⟨38, _⟩ => ⟨S4x4x2048x2048, .f32⟩
  | .hbm, ⟨39, _⟩ => ⟨S4x4x2048x2048, .f32⟩
  | .hbm, ⟨40, _⟩ => ⟨S1x4x4x2048x2048, .f32⟩
  | .hbm, ⟨41, _⟩ => ⟨S8x4x4x2048x2048, .f32⟩
  | .hbm, ⟨42, _⟩ => ⟨S8x4x4x2048x2048, .f32⟩
  | .hbm, ⟨43, _⟩ => ⟨S_, .i32⟩
  | .hbm, ⟨44, _⟩ => ⟨S2048x2048, .i32⟩
  | .hbm, ⟨45, _⟩ => ⟨S2048x2048, .i1⟩
  | .hbm, ⟨46, _⟩ => ⟨S_, .f32⟩
  | .hbm, ⟨47, _⟩ => ⟨S_, .f32⟩
  | .hbm, ⟨48, _⟩ => ⟨S8x4x4x2048x2048, .i1⟩
  | .hbm, ⟨49, _⟩ => ⟨S8x4x4x2048x2048, .f32⟩
  | .hbm, ⟨50, _⟩ => ⟨S8x4x4x2048x2048, .f32⟩
  | .hbm, ⟨51, _⟩ => ⟨S4x4, .f32⟩
  | .hbm, ⟨52, _⟩ => ⟨S1x4x4x1x1, .f32⟩
  | .hbm, ⟨53, _⟩ => ⟨S8x4x4x2048x1, .f32⟩
  | .hbm, ⟨54, _⟩ => ⟨S8x4x4x2048x2049, .f32⟩
  | .hbm, ⟨55, _⟩ => ⟨S_, .f32⟩
  | .hbm, ⟨56, _⟩ => ⟨S8x4x4x2048, .f32⟩
  | .hbm, ⟨57, _⟩ => ⟨S_, .f32⟩
  | .hbm, ⟨58, _⟩ => ⟨S8x4x4x2048, .f32⟩
  | .hbm, ⟨59, _⟩ => ⟨S8x4x4x2048, .f32⟩
  | .hbm, ⟨60, _⟩ => ⟨S8x4x4x2048x1, .f32⟩
  | .hbm, ⟨61, _⟩ => ⟨S8x4x4x2048x2049, .f32⟩
  | .hbm, ⟨62, _⟩ => ⟨S8x4x4x2048x2049, .f32⟩
  | .hbm, ⟨63, _⟩ => ⟨S8x4x4x2048x2049, .f32⟩
  | .hbm, ⟨64, _⟩ => ⟨S_, .f32⟩
  | .hbm, ⟨65, _⟩ => ⟨S8x4x4x2048, .f32⟩
  | .hbm, ⟨66, _⟩ => ⟨S8x4x4x2048x1, .f32⟩
  | .hbm, ⟨67, _⟩ => ⟨S8x4x4x2048x2049, .f32⟩
  | .hbm, ⟨68, _⟩ => ⟨S8x4x4x2048x2049, .f32⟩
  | .hbm, ⟨69, _⟩ => ⟨S8x4x4x2048x2048, .f32⟩
  | .hbm, ⟨70, _⟩ => ⟨S8x4x64x4x2048, .f32⟩
  | .hbm, ⟨71, _⟩ => ⟨S8x2048x4x4x64, .f32⟩
  | .hbm, ⟨72, _⟩ => ⟨S8x2048x1024, .f32⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== KernelConv.lean ====
abbrev S8x2048x3072 : Shape := ⟨3, ![8, 2048, 3072]⟩
abbrev S3x1536 : Shape := ⟨2, ![3, 1536]⟩
abbrev S1536 : Shape := ⟨1, ![1536]⟩
abbrev S1x1536 : Shape := ⟨2, ![1, 1536]⟩
abbrev S8x2048x1536 : Shape := ⟨3, ![8, 2048, 1536]⟩
abbrev S1x2048x512 : Shape := ⟨3, ![1, 2048, 512]⟩
abbrev S3x512 : Shape := ⟨2, ![3, 512]⟩
abbrev S1x512 : Shape := ⟨2, ![1, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x3072, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S8x2048x1536, .f32⟩
  | .local _ .vmem, ⟨0, _⟩ => ⟨S1x2048x512, .f32⟩
  | .local _ .vmem, ⟨1, _⟩ => ⟨S1x2048x512, .f32⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceConvIdeal.lean ====
abbrev S8x2048x3072 : Shape := ⟨3, ![8, 2048, 3072]⟩
abbrev S3x1536 : Shape := ⟨2, ![3, 1536]⟩
abbrev S1536 : Shape := ⟨1, ![1536]⟩
abbrev S8x2048x1536 : Shape := ⟨3, ![8, 2048, 1536]⟩
abbrev S_ : Shape := ⟨0, ![]⟩
abbrev S8x2050x1536 : Shape := ⟨3, ![8, 2050, 1536]⟩
abbrev S1x1536 : Shape := ⟨2, ![1, 1536]⟩
abbrev S1x1x1536 : Shape := ⟨3, ![1, 1, 1536]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S3x1536, .f32⟩
  | .hbm, ⟨2, _⟩ => ⟨S1536, .f32⟩
  | .hbm, ⟨3, _⟩ => ⟨S8x2048x1536, .f32⟩
  | .hbm, ⟨4, _⟩ => ⟨S_, .i32⟩
  | .hbm, ⟨5, _⟩ => ⟨S_, .f32⟩
  | .hbm, ⟨6, _⟩ => ⟨S8x2050x1536, .f32⟩
  | .hbm, ⟨7, _⟩ => ⟨S8x2048x1536, .f32⟩
  | .hbm, ⟨8, _⟩ => ⟨S1x1536, .f32⟩
  | .hbm, ⟨9, _⟩ => ⟨S1536, .f32⟩
  | .hbm, ⟨10, _⟩ => ⟨S1x1x1536, .f32⟩
  | .hbm, ⟨11, _⟩ => ⟨S8x2048x1536, .f32⟩
  | .hbm, ⟨12, _⟩ => ⟨S8x2048x1536, .f32⟩
  | .hbm, ⟨13, _⟩ => ⟨S8x2048x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S8x2048x1536, .f32⟩
  | .hbm, ⟨18, _⟩ => ⟨S8x2048x1536, .f32⟩
  | .hbm, ⟨19, _⟩ => ⟨S8x2048x1536, .f32⟩
  | .hbm, ⟨20, _⟩ => ⟨S8x2048x1536, .f32⟩
  | .hbm, ⟨21, _⟩ => ⟨S1x1536, .f32⟩
  | .hbm, ⟨22, _⟩ => ⟨S1536, .f32⟩
  | .hbm, ⟨23, _⟩ => ⟨S1x1x1536, .f32⟩
  | .hbm, ⟨24, _⟩ => ⟨S8x2048x1536, .f32⟩
  | .hbm, ⟨25, _⟩ => ⟨S8x2048x1536, .f32⟩
  | .hbm, ⟨26, _⟩ => ⟨S8x2048x1536, .f32⟩
  | .hbm, ⟨27, _⟩ => ⟨S1x1x1536, .f32⟩
  | .hbm, ⟨28, _⟩ => ⟨S8x2048x1536, .f32⟩
  | .hbm, ⟨29, _⟩ => ⟨S8x2048x1536, .f32⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== KernelFilters.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S1x128 : Shape := ⟨2, ![1, 128]⟩
abbrev S33x128 : Shape := ⟨2, ![33, 128]⟩
abbrev S16x128 : Shape := ⟨2, ![16, 128]⟩
abbrev S128x128 : Shape := ⟨2, ![128, 128]⟩
abbrev S128 : Shape := ⟨1, ![128]⟩
abbrev S128x2048 : Shape := ⟨2, ![128, 2048]⟩
abbrev S511 : Shape := ⟨1, ![511]⟩
abbrev S512 : Shape := ⟨1, ![512]⟩
abbrev S1x512 : Shape := ⟨2, ![1, 512]⟩
abbrev S2048x1024 : Shape := ⟨2, ![2048, 1024]⟩
abbrev S512x1 : Shape := ⟨2, ![512, 1]⟩
abbrev S512x1024 : Shape := ⟨2, ![512, 1024]⟩
abbrev S512x128 : Shape := ⟨2, ![512, 128]⟩
abbrev S512x2048 : Shape := ⟨2, ![512, 2048]⟩
abbrev S512x512 : Shape := ⟨2, ![512, 512]⟩

abbrev nBuf : Space → Nat
  | .hbm => 113
  | .vmem => 16
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x2048, .f32⟩
  | .hbm, ⟨5, _⟩ => ⟨S64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2047, .f32⟩
  | .hbm, ⟨14, _⟩ => ⟨S_, .f32⟩
  | .hbm, ⟨15, _⟩ => ⟨S2047, .f32⟩
  | .hbm, ⟨16, _⟩ => ⟨S2047, .f32⟩
  | .hbm, ⟨17, _⟩ => ⟨S1, .f32⟩
  | .hbm, ⟨18, _⟩ => ⟨S_, .f32⟩
  | .hbm, ⟨19, _⟩ => ⟨S2047, .f32⟩
  | .hbm, ⟨20, _⟩ => ⟨S2047, .f32⟩
  | .hbm, ⟨21, _⟩ => ⟨S2047, .f32⟩
  | .hbm, ⟨22, _⟩ => ⟨S2047, .f32⟩
  | .hbm, ⟨23, _⟩ => ⟨S1, .f32⟩
  | .hbm, ⟨24, _⟩ => ⟨S2047, .f32⟩
  | .hbm, ⟨25, _⟩ => ⟨S2047, .f32⟩
  | .hbm, ⟨26, _⟩ => ⟨S2047, .f32⟩
  | .hbm, ⟨27, _⟩ => ⟨S1, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S15, .f32⟩
  | .hbm, ⟨38, _⟩ => ⟨S_, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S_, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S1, .f32⟩
  | .hbm, ⟨48, _⟩ => ⟨S15, .f32⟩
  | .hbm, ⟨49, _⟩ => ⟨S15, .f32⟩
  | .hbm, ⟨50, _⟩ => ⟨S15, .f32⟩
  | .hbm, ⟨51, _⟩ => ⟨S1, .f32⟩
  | .hbm, ⟨52, _⟩ => ⟨S16, .f32⟩
  | .hbm, ⟨53, _⟩ => ⟨S1x16, .f32⟩
  | .hbm, ⟨54, _⟩ => ⟨S_, .i32⟩
  | .hbm, ⟨55, _⟩ => ⟨S_, .f32⟩
  | .hbm, ⟨56, _⟩ => ⟨S1x128, .f32⟩
  | .hbm, ⟨57, _⟩ => ⟨S_, .i32⟩
  | .hbm, ⟨58, _⟩ => ⟨S_, .f32⟩
  | .hbm, ⟨59, _⟩ => ⟨S33x128, .f32⟩
  | .hbm, ⟨60, _⟩ => ⟨S1x128, .f32⟩
  | .hbm, ⟨61, _⟩ => ⟨S16x128, .f32⟩
  | .hbm, ⟨62, _⟩ => ⟨S_, .i32⟩
  | .hbm, ⟨63, _⟩ => ⟨S_, .f32⟩
  | .hbm, ⟨64, _⟩ => ⟨S128x128, .f32⟩
  | .hbm, ⟨65, _⟩ => ⟨S16x128, .f32⟩
  | .hbm, ⟨66, _⟩ => ⟨S_, .i32⟩
  | .hbm, ⟨67, _⟩ => ⟨S_, .f32⟩
  | .hbm, ⟨68, _⟩ => ⟨S128x128, .f32⟩
  | .hbm, ⟨69, _⟩ => ⟨S_, .i32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S_, .i32⟩
  | .hbm, ⟨74, _⟩ => ⟨S_, .f32⟩
  | .hbm, ⟨75, _⟩ => ⟨S128x128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .i32⟩
  | .hbm, ⟨81, _⟩ => ⟨S_, .f32⟩
  | .hbm, ⟨82, _⟩ => ⟨S128x2048, .f32⟩
  | .hbm, ⟨83, _⟩ => ⟨S_, .i32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S511, .f32⟩
  | .hbm, ⟨95, _⟩ => ⟨S_, .f32⟩
  | .hbm, ⟨96, _⟩ => ⟨S511, .f32⟩
  | .hbm, ⟨97, _⟩ => ⟨S511, .f32⟩
  | .hbm, ⟨98, _⟩ => ⟨S1, .f32⟩
  | .hbm, ⟨99, _⟩ => ⟨S_, .f32⟩
  | .hbm, ⟨100, _⟩ => ⟨S511, .f32⟩
  | .hbm, ⟨101, _⟩ => ⟨S511, .f32⟩
  | .hbm, ⟨102, _⟩ => ⟨S511, .f32⟩
  | .hbm, ⟨103, _⟩ => ⟨S511, .f32⟩
  | .hbm, ⟨104, _⟩ => ⟨S1, .f32⟩
  | .hbm, ⟨105, _⟩ => ⟨S511, .f32⟩
  | .hbm, ⟨106, _⟩ => ⟨S511, .f32⟩
  | .hbm, ⟨107, _⟩ => ⟨S511, .f32⟩
  | .hbm, ⟨108, _⟩ => ⟨S1, .f32⟩
  | .hbm, ⟨109, _⟩ => ⟨S512, .f32⟩
  | .hbm, ⟨110, _⟩ => ⟨S1x512, .f32⟩
  | .hbm, ⟨111, _⟩ => ⟨S2048x1024, .f32⟩
  | .hbm, ⟨112, _⟩ => ⟨S2048x1024, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x2048, .f32⟩
  | .local _ .vmem, ⟨10, _⟩ => ⟨S1x128, .f32⟩
  | .local _ .vmem, ⟨11, _⟩ => ⟨S1x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v0 : Ref sig .tc := ⟨.hbm, 28, rfl⟩
abbrev main_v1 : Ref sig .tc := ⟨.hbm, 29, rfl⟩
abbrev main_cst_1 : Ref sig .tc := ⟨.hbm, 30, rfl⟩
abbrev main_c : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v2 : Ref sig .tc := ⟨.hbm, 52, rfl⟩
abbrev main_v3 : Ref sig .tc := ⟨.hbm, 53, rfl⟩
abbrev main_c_2 : Ref sig .tc := ⟨.hbm, 54, rfl⟩
abbrev main_call2_v0 : Ref sig .tc := ⟨.hbm, 55, rfl⟩
abbrev main_v4 : Ref sig .tc := ⟨.hbm, 56, rfl⟩
abbrev main_c_3 : Ref sig .tc := ⟨.hbm, 57, rfl⟩
abbrev main_call3_v0 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_c_4 : Ref sig .tc := ⟨.hbm, 62, rfl⟩
abbrev main_call4_v0 : Ref sig .tc := ⟨.hbm, 63, rfl⟩
abbrev main_v8 : Ref sig .tc := ⟨.hbm, 64, rfl⟩
abbrev main_v9 : Ref sig .tc := ⟨.hbm, 65, rfl⟩
abbrev main_c_5 : Ref sig .tc := ⟨.hbm, 66, rfl⟩
abbrev main_call5_v0 : Ref sig .tc := ⟨.hbm, 67, rfl⟩
abbrev main_v10 : Ref sig .tc := ⟨.hbm, 68, rfl⟩
abbrev main_c_6 : Ref sig .tc := ⟨.hbm, 69, rfl⟩
abbrev main_call6_v0 : Ref sig .tc := ⟨.hbm, 70, rfl⟩
abbrev main_v11 : Ref sig .tc := ⟨.hbm, 71, rfl⟩
abbrev main_v12 : Ref sig .tc := ⟨.hbm, 72, rfl⟩
abbrev main_c_7 : Ref sig .tc := ⟨.hbm, 73, rfl⟩
abbrev main_call7_v0 : Ref sig .tc := ⟨.hbm, 74, rfl⟩
abbrev main_v13 : Ref sig .tc := ⟨.hbm, 75, rfl⟩
abbrev main_c_8 : Ref sig .tc := ⟨.hbm, 76, rfl⟩
abbrev main_call8_v0 : Ref sig .tc := ⟨.hbm, 77, rfl⟩
abbrev main_v14 : Ref sig .tc := ⟨.hbm, 78, rfl⟩
abbrev main_v15 : Ref sig .tc := ⟨.hbm, 79, rfl⟩
abbrev main_c_9 : Ref sig .tc := ⟨.hbm, 80, rfl⟩
abbrev main_call9_v0 : Ref sig .tc := ⟨.hbm, 81, rfl⟩
abbrev main_v16 : Ref sig .tc := ⟨.hbm, 82, rfl⟩
abbrev main_c_10 : Ref sig .tc := ⟨.hbm, 83, rfl⟩
abbrev main_call10_v0 : Ref sig .tc := ⟨.hbm, 84, rfl⟩
abbrev main_v17 : Ref sig .tc := ⟨.hbm, 85, rfl⟩
abbrev main_v18 : Ref sig .tc := ⟨.hbm, 86, rfl⟩
abbrev main_cst_11 : Ref sig .tc := ⟨.hbm, 87, rfl⟩
abbrev main_cst_12 : Ref sig .tc := ⟨.hbm, 88, rfl⟩
abbrev main_call11_v0 : Ref sig .tc := ⟨.hbm, 89, rfl⟩
abbrev main_call11_v1 : Ref sig .tc := ⟨.hbm, 90, rfl⟩
abbrev main_call11_v2 : Ref sig .tc := ⟨.hbm, 91, rfl⟩
abbrev main_call11_cst : Ref sig .tc := ⟨.hbm, 92, rfl⟩
abbrev main_call11_v3 : Ref sig .tc := ⟨.hbm, 93, rfl⟩
abbrev main_call11_v4 : Ref sig .tc := ⟨.hbm, 94, rfl⟩
abbrev main_call11_cst_0 : Ref sig .tc := ⟨.hbm, 95, rfl⟩
abbrev main_call11_v5 : Ref sig .tc := ⟨.hbm, 96, rfl⟩
abbrev main_call11_v6 : Ref sig .tc := ⟨.hbm, 97, rfl⟩
abbrev main_call11_v7 : Ref sig .tc := ⟨.hbm, 98, rfl⟩
abbrev main_call11_cst_1 : Ref sig .tc := ⟨.hbm, 99, rfl⟩
abbrev main_call11_v8 : Ref sig .tc := ⟨.hbm, 100, rfl⟩
abbrev main_call11_v9 : Ref sig .tc := ⟨.hbm, 101, rfl⟩
abbrev main_call11_v10 : Ref sig .tc := ⟨.hbm, 102, rfl⟩
abbrev main_call11_v11 : Ref sig .tc := ⟨.hbm, 103, rfl⟩
abbrev main_call11_v12 : Ref sig .tc := ⟨.hbm, 104, rfl⟩
abbrev main_call11_v13 : Ref sig .tc := ⟨.hbm, 105, rfl⟩
abbrev main_call11_v14 : Ref sig .tc := ⟨.hbm, 106, rfl⟩
abbrev main_call11_v15 : Ref sig .tc := ⟨.hbm, 107, rfl⟩
abbrev main_call11_v16 : Ref sig .tc := ⟨.hbm, 108, rfl⟩
abbrev main_v19 : Ref sig .tc := ⟨.hbm, 109, rfl⟩
abbrev main_v20 : Ref sig .tc := ⟨.hbm, 110, rfl⟩
abbrev main_v21_0 : Ref sig .tc := ⟨.hbm, 111, rfl⟩
abbrev main_v21_1 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceFiltersIdeal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S2048 : Shape := ⟨1, ![2048]⟩
abbrev S_ : Shape := ⟨0, ![]⟩
abbrev S2047 : Shape := ⟨1, ![2047]⟩
abbrev S1 : Shape := ⟨1, ![1]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x2048 : Shape := ⟨2, ![2048, 2048]⟩
abbrev S2048x2x2x512 : Shape := ⟨4, ![2048, 2, 2, 512]⟩
abbrev S511 : Shape := ⟨1, ![511]⟩
abbrev S512 : Shape := ⟨1, ![512]⟩
abbrev S1x512 : Shape := ⟨2, ![1, 512]⟩
abbrev S2048x512 : Shape := ⟨2, ![2048, 512]⟩
abbrev S2048x1x1x512 : Shape := ⟨4, ![2048, 1, 1, 512]⟩
abbrev S2048x2x1x512 : Shape := ⟨4, ![2048, 2, 1, 512]⟩
abbrev S2048x2x512 : Shape := ⟨3, ![2048, 2, 512]⟩
abbrev S1x2x512 : Shape := ⟨3, ![1, 2, 512]⟩
abbrev S2047x2x1x512 : Shape := ⟨4, ![2047, 2, 1, 512]⟩
abbrev S2047x2x512 : Shape := ⟨3, ![2047, 2, 512]⟩
abbrev S2048x1024 : Shape := ⟨2, ![2048, 1024]⟩

abbrev nBuf : Space → Nat
  | .hbm => 131
  | .vmem => 0
  | .smem => 0
  | _ => 0

abbrev hbmTy0_0 (i : Nat) : BufTy := match i % 128 with
  | 0 => ⟨S33x64, .f32⟩
  | 1 => ⟨S64, .f32⟩
  | 2 => ⟨S64x64, .f32⟩
  | 3 => ⟨S64, .f32⟩
  | 4 => ⟨S64x2048, .f32⟩
  | 5 => ⟨S64, .f32⟩
  | 6 => ⟨S2048, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S2047, .f32⟩
  | 15 => ⟨S_, .f32⟩
  | 16 => ⟨S2047, .f32⟩
  | 17 => ⟨S2047, .f32⟩
  | 18 => ⟨S1, .f32⟩
  | 19 => ⟨S_, .f32⟩
  | 20 => ⟨S2047, .f32⟩
  | 21 => ⟨S2047, .f32⟩
  | 22 => ⟨S2047, .f32⟩
  | 23 => ⟨S2047, .f32⟩
  | 24 => ⟨S1, .f32⟩
  | 25 => ⟨S2047, .f32⟩
  | 26 => ⟨S2047, .f32⟩
  | 27 => ⟨S2047, .f32⟩
  | 28 => ⟨S1, .f32⟩
  | 29 => ⟨S2048, .f32⟩
  | 30 => ⟨S2048x1, .f32⟩
  | 31 => ⟨S_, .f32⟩
  | 32 => ⟨S_, .i32⟩
  | 33 => ⟨S_, .f32⟩
  | 34 => ⟨S_, .f32⟩
  | 35 => ⟨S_, .f32⟩
  | 36 => ⟨S_, .f32⟩
  | 37 => ⟨S_, .f32⟩
  | 38 => ⟨S15, .f32⟩
  | 39 => ⟨S_, .f32⟩
  | 40 => ⟨S15, .f32⟩
  | 41 => ⟨S15, .f32⟩
  | 42 => ⟨S1, .f32⟩
  | 43 => ⟨S_, .f32⟩
  | 44 => ⟨S15, .f32⟩
  | 45 => ⟨S15, .f32⟩
  | 46 => ⟨S15, .f32⟩
  | 47 => ⟨S15, .f32⟩
  | 48 => ⟨S1, .f32⟩
  | 49 => ⟨S15, .f32⟩
  | 50 => ⟨S15, .f32⟩
  | 51 => ⟨S15, .f32⟩
  | 52 => ⟨S1, .f32⟩
  | 53 => ⟨S16, .f32⟩
  | 54 => ⟨S1x16, .f32⟩
  | 55 => ⟨S2048x1, .f32⟩
  | 56 => ⟨S_, .f32⟩
  | 57 => ⟨S2048x1, .f32⟩
  | 58 => ⟨S2048x1, .f32⟩
  | 59 => ⟨S_, .f32⟩
  | 60 => ⟨S2048x1, .f32⟩
  | 61 => ⟨S2048x1, .f32⟩
  | 62 => ⟨S2048x16, .f32⟩
  | 63 => ⟨S2048x16, .f32⟩
  | 64 => ⟨S2048x16, .f32⟩
  | 65 => ⟨S2048x16, .f32⟩
  | 66 => ⟨S2048x16, .f32⟩
  | 67 => ⟨S2048x16, .f32⟩
  | 68 => ⟨S2048x33, .f32⟩
  | 69 => ⟨S2048x64, .f32⟩
  | 70 => ⟨S1x64, .f32⟩
  | 71 => ⟨S2048x64, .f32⟩
  | 72 => ⟨S2048x64, .f32⟩
  | 73 => ⟨S1x64, .f32⟩
  | 74 => ⟨S2048x64, .f32⟩
  | 75 => ⟨S2048x64, .f32⟩
  | 76 => ⟨S2048x64, .f32⟩
  | 77 => ⟨S2048x64, .f32⟩
  | 78 => ⟨S1x64, .f32⟩
  | 79 => ⟨S2048x64, .f32⟩
  | 80 => ⟨S2048x64, .f32⟩
  | 81 => ⟨S1x64, .f32⟩
  | 82 => ⟨S2048x64, .f32⟩
  | 83 => ⟨S2048x64, .f32⟩
  | 84 => ⟨S2048x64, .f32⟩
  | 85 => ⟨S2048x2048, .f32⟩
  | 86 => ⟨S2048x2x2x512, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S511, .f32⟩
  | 95 => ⟨S_, .f32⟩
  | 96 => ⟨S511, .f32⟩
  | 97 => ⟨S511, .f32⟩
  | 98 => ⟨S1, .f32⟩
  | 99 => ⟨S_, .f32⟩
  | 100 => ⟨S511, .f32⟩
  | 101 => ⟨S511, .f32⟩
  | 102 => ⟨S511, .f32⟩
  | 103 => ⟨S511, .f32⟩
  | 104 => ⟨S1, .f32⟩
  | 105 => ⟨S511, .f32⟩
  | 106 => ⟨S511, .f32⟩
  | 107 => ⟨S511, .f32⟩
  | 108 => ⟨S1, .f32⟩
  | 109 => ⟨S512, .f32⟩
  | 110 => ⟨S2048x1, .f32⟩
  | 111 => ⟨S512, .f32⟩
  | 112 => ⟨S1x512, .f32⟩
  | 113 => ⟨S2048x512, .f32⟩
  | 114 => ⟨S2048x512, .f32⟩
  | 115 => ⟨S2048x512, .f32⟩
  | 116 => ⟨S2048x512, .f32⟩
  | 117 => ⟨S2048x1x1x512, .f32⟩
  | 118 => ⟨S2048x2x2x512, .f32⟩
  | 119 => ⟨S2048x2x2x512, .f32⟩
  | 120 => ⟨S2048x2x1x512, .f32⟩
  | 121 => ⟨S2048x2x512, .f32⟩
  | 122 => ⟨S_, .f32⟩
  | 123 => ⟨S1x2x512, .f32⟩
  | 124 => ⟨S2047x2x1x512, .f32⟩
  | 125 => ⟨S2047x2x512, .f32⟩
  | 126 => ⟨S2048x2x512, .f32⟩
  | 127 => ⟨S2048x2x512, .f32⟩
  | _ => ⟨S33x64, .f32⟩

abbrev hbmTy0_1 (i : Nat) : BufTy := match i % 128 with
  | 0 => ⟨S2048x1024, .f32⟩
  | 1 => ⟨S2048x2x512, .f32⟩
  | 2 => ⟨S2048x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v1 : Ref sig .tc := ⟨.hbm, 29, rfl⟩
abbrev main_v2 : Ref sig .tc := ⟨.hbm, 30, rfl⟩
abbrev main_cst_1 : Ref sig .tc := ⟨.hbm, 31, rfl⟩
abbrev main_c : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_cst : Ref sig .tc := ⟨.hbm, 36, rfl⟩
abbrev main_call1_v3 : Ref sig .tc := ⟨.hbm, 37, rfl⟩
abbrev main_call1_v4 : Ref sig .tc := ⟨.hbm, 38, rfl⟩
abbrev main_call1_cst_0 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_cst_1 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_v15 : Ref sig .tc := ⟨.hbm, 51, rfl⟩
abbrev main_call1_v16 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_2 : Ref sig .tc := ⟨.hbm, 56, rfl⟩
abbrev main_v6 : Ref sig .tc := ⟨.hbm, 57, rfl⟩
abbrev main_v7 : Ref sig .tc := ⟨.hbm, 58, rfl⟩
abbrev main_cst_3 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_cst_4 : Ref sig .tc := ⟨.hbm, 87, rfl⟩
abbrev main_cst_5 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_cst : Ref sig .tc := ⟨.hbm, 92, rfl⟩
abbrev main_call2_v3 : Ref sig .tc := ⟨.hbm, 93, rfl⟩
abbrev main_call2_v4 : Ref sig .tc := ⟨.hbm, 94, rfl⟩
abbrev main_call2_cst_0 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_cst_1 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_v12 : Ref sig .tc := ⟨.hbm, 104, rfl⟩
abbrev main_call2_v13 : Ref sig .tc := ⟨.hbm, 105, rfl⟩
abbrev main_call2_v14 : Ref sig .tc := ⟨.hbm, 106, rfl⟩
abbrev main_call2_v15 : Ref sig .tc := ⟨.hbm, 107, rfl⟩
abbrev main_call2_v16 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_cst_6 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩

abbrev nD : Nat := 1
abbrev τ : Topo := Topo.v7x

variable {F : FTy → Type} [FloatOps F]
-- ==== KernelSpectrum.lean ====
abbrev S2048x2048 : Shape := ⟨2, ![2048, 2048]⟩
abbrev S2048x1024 : Shape := ⟨2, ![2048, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceSpectrumIdeal.lean ====
abbrev S2048x2048 : Shape := ⟨2, ![2048, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelForward.lean ====
abbrev S8x2048x1536 : Shape := ⟨3, ![8, 2048, 1536]⟩
abbrev S2048x2048 : Shape := ⟨2, ![2048, 2048]⟩
abbrev S2048x1024 : Shape := ⟨2, ![2048, 1024]⟩
abbrev S8x2048x512 : Shape := ⟨3, ![8, 2048, 512]⟩
abbrev S1x2048x512 : Shape := ⟨3, ![1, 2048, 512]⟩
abbrev S512x2048 : Shape := ⟨2, ![512, 2048]⟩
abbrev S512x512 : Shape := ⟨2, ![512, 512]⟩
abbrev S1x512x512 : Shape := ⟨3, ![1, 512, 512]⟩
abbrev S2048x512 : Shape := ⟨2, ![2048, 512]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x1536, .f32⟩
  | .hbm, ⟨1, _⟩ => ⟨S2048x2048, .bf16⟩
  | .hbm, ⟨2, _⟩ => ⟨S2048x2048, .bf16⟩
  | .hbm, ⟨3, _⟩ => ⟨S2048x1024, .f32⟩
  | .hbm, ⟨4, _⟩ => ⟨S2048x1024, .f32⟩
  | .hbm, ⟨5, _⟩ => ⟨S8x2048x512, .bf16⟩
  | .hbm, ⟨6, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceForwardIdeal.lean ====
abbrev S8x2048x1536 : Shape := ⟨3, ![8, 2048, 1536]⟩
abbrev S2048x2048 : Shape := ⟨2, ![2048, 2048]⟩
abbrev S2048x1024 : Shape := ⟨2, ![2048, 1024]⟩
abbrev S8x2048x512 : Shape := ⟨3, ![8, 2048, 512]⟩
abbrev S8x512x2048 : Shape := ⟨3, ![8, 512, 2048]⟩
abbrev S2048x512 : Shape := ⟨2, ![2048, 512]⟩
abbrev S1x2048x512 : Shape := ⟨3, ![1, 2048, 512]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S2048x2048, .bf16⟩
  | .hbm, ⟨2, _⟩ => ⟨S2048x2048, .bf16⟩
  | .hbm, ⟨3, _⟩ => ⟨S2048x1024, .f32⟩
  | .hbm, ⟨4, _⟩ => ⟨S2048x1024, .f32⟩
  | .hbm, ⟨5, _⟩ => ⟨S8x2048x512, .f32⟩
  | .hbm, ⟨6, _⟩ => ⟨S2048x2048, .f32⟩
  | .hbm, ⟨7, _⟩ => ⟨S8x512x2048, .f32⟩
  | .hbm, ⟨8, _⟩ => ⟨S8x2048x512, .f32⟩
  | .hbm, ⟨9, _⟩ => ⟨S2048x2048, .f32⟩
  | .hbm, ⟨10, _⟩ => ⟨S8x512x2048, .f32⟩
  | .hbm, ⟨11, _⟩ => ⟨S8x2048x512, .f32⟩
  | .hbm, ⟨12, _⟩ => ⟨S8x2048x512, .f32⟩
  | .hbm, ⟨13, _⟩ => ⟨S2048x512, .f32⟩
  | .hbm, ⟨14, _⟩ => ⟨S1x2048x512, .f32⟩
  | .hbm, ⟨15, _⟩ => ⟨S2048x512, .f32⟩
  | .hbm, ⟨16, _⟩ => ⟨S1x2048x512, .f32⟩
  | .hbm, ⟨17, _⟩ => ⟨S8x2048x512, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S8x2048x512, .bf16⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .bf16⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== KernelInverse.lean ====
abbrev S2048x2048 : Shape := ⟨2, ![2048, 2048]⟩
abbrev S8x2048x512 : Shape := ⟨3, ![8, 2048, 512]⟩
abbrev S8x2048x1536 : Shape := ⟨3, ![8, 2048, 1536]⟩
abbrev S2x512 : Shape := ⟨2, ![2, 512]⟩
abbrev S1x512 : Shape := ⟨2, ![1, 512]⟩
abbrev S512x2048 : Shape := ⟨2, ![512, 2048]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 8
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x2048x512, .bf16⟩
  | .hbm, ⟨3, _⟩ => ⟨S8x2048x512, .bf16⟩
  | .hbm, ⟨4, _⟩ => ⟨S8x2048x1536, .f32⟩
  | .hbm, ⟨5, _⟩ => ⟨S2x512, .f32⟩
  | .hbm, ⟨6, _⟩ => ⟨S1x512, .f32⟩
  | .hbm, ⟨7, _⟩ => ⟨S8x2048x512, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S1x512x512, .f32⟩
  | .local _ .vmem, ⟨14, _⟩ => ⟨S1x512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceInverseIdeal.lean ====
abbrev S2048x2048 : Shape := ⟨2, ![2048, 2048]⟩
abbrev S8x2048x512 : Shape := ⟨3, ![8, 2048, 512]⟩
abbrev S8x2048x1536 : Shape := ⟨3, ![8, 2048, 1536]⟩
abbrev S2x512 : Shape := ⟨2, ![2, 512]⟩
abbrev S8x512x2048 : Shape := ⟨3, ![8, 512, 2048]⟩
abbrev S_ : Shape := ⟨0, ![]⟩
abbrev S1x512 : Shape := ⟨2, ![1, 512]⟩
abbrev S512 : Shape := ⟨1, ![512]⟩
abbrev S1x1x512 : Shape := ⟨3, ![1, 1, 512]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x2048x512, .bf16⟩
  | .hbm, ⟨3, _⟩ => ⟨S8x2048x512, .bf16⟩
  | .hbm, ⟨4, _⟩ => ⟨S8x2048x1536, .f32⟩
  | .hbm, ⟨5, _⟩ => ⟨S2x512, .f32⟩
  | .hbm, ⟨6, _⟩ => ⟨S8x2048x512, .f32⟩
  | .hbm, ⟨7, _⟩ => ⟨S8x2048x512, .f32⟩
  | .hbm, ⟨8, _⟩ => ⟨S2048x2048, .f32⟩
  | .hbm, ⟨9, _⟩ => ⟨S8x2048x512, .f32⟩
  | .hbm, ⟨10, _⟩ => ⟨S8x512x2048, .f32⟩
  | .hbm, ⟨11, _⟩ => ⟨S8x2048x512, .f32⟩
  | .hbm, ⟨12, _⟩ => ⟨S2048x2048, .f32⟩
  | .hbm, ⟨13, _⟩ => ⟨S8x2048x512, .f32⟩
  | .hbm, ⟨14, _⟩ => ⟨S8x512x2048, .f32⟩
  | .hbm, ⟨15, _⟩ => ⟨S8x2048x512, .f32⟩
  | .hbm, ⟨16, _⟩ => ⟨S8x2048x512, .f32⟩
  | .hbm, ⟨17, _⟩ => ⟨S_, .f32⟩
  | .hbm, ⟨18, _⟩ => ⟨S8x2048x512, .f32⟩
  | .hbm, ⟨19, _⟩ => ⟨S8x2048x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelForwardTwo.lean ====
abbrev S8x2048x512 : Shape := ⟨3, ![8, 2048, 512]⟩
abbrev S2048x2048 : Shape := ⟨2, ![2048, 2048]⟩
abbrev S2048x1024 : Shape := ⟨2, ![2048, 1024]⟩
abbrev S1x2048x512 : Shape := ⟨3, ![1, 2048, 512]⟩
abbrev S512x2048 : Shape := ⟨2, ![512, 2048]⟩
abbrev S512x512 : Shape := ⟨2, ![512, 512]⟩
abbrev S1x512x512 : Shape := ⟨3, ![1, 512, 512]⟩
abbrev S2048x512 : Shape := ⟨2, ![2048, 512]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .bf16⟩
  | .hbm, ⟨2, _⟩ => ⟨S2048x2048, .bf16⟩
  | .hbm, ⟨3, _⟩ => ⟨S2048x1024, .f32⟩
  | .hbm, ⟨4, _⟩ => ⟨S2048x1024, .f32⟩
  | .hbm, ⟨5, _⟩ => ⟨S8x2048x512, .bf16⟩
  | .hbm, ⟨6, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceForwardTwoIdeal.lean ====
abbrev S8x2048x512 : Shape := ⟨3, ![8, 2048, 512]⟩
abbrev S2048x2048 : Shape := ⟨2, ![2048, 2048]⟩
abbrev S2048x1024 : Shape := ⟨2, ![2048, 1024]⟩
abbrev S8x512x2048 : Shape := ⟨3, ![8, 512, 2048]⟩
abbrev S2048x512 : Shape := ⟨2, ![2048, 512]⟩
abbrev S1x2048x512 : Shape := ⟨3, ![1, 2048, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S2048x2048, .bf16⟩
  | .hbm, ⟨2, _⟩ => ⟨S2048x2048, .bf16⟩
  | .hbm, ⟨3, _⟩ => ⟨S2048x1024, .f32⟩
  | .hbm, ⟨4, _⟩ => ⟨S2048x1024, .f32⟩
  | .hbm, ⟨5, _⟩ => ⟨S2048x2048, .f32⟩
  | .hbm, ⟨6, _⟩ => ⟨S8x512x2048, .f32⟩
  | .hbm, ⟨7, _⟩ => ⟨S8x2048x512, .f32⟩
  | .hbm, ⟨8, _⟩ => ⟨S2048x2048, .f32⟩
  | .hbm, ⟨9, _⟩ => ⟨S8x512x2048, .f32⟩
  | .hbm, ⟨10, _⟩ => ⟨S8x2048x512, .f32⟩
  | .hbm, ⟨11, _⟩ => ⟨S8x2048x512, .f32⟩
  | .hbm, ⟨12, _⟩ => ⟨S2048x512, .f32⟩
  | .hbm, ⟨13, _⟩ => ⟨S1x2048x512, .f32⟩
  | .hbm, ⟨14, _⟩ => ⟨S2048x512, .f32⟩
  | .hbm, ⟨15, _⟩ => ⟨S1x2048x512, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S8x2048x512, .f32⟩
  | .hbm, ⟨20, _⟩ => ⟨S8x2048x512, .f32⟩
  | .hbm, ⟨21, _⟩ => ⟨S8x2048x512, .bf16⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== KernelInverseTwo.lean ====
abbrev S2048x2048 : Shape := ⟨2, ![2048, 2048]⟩
abbrev S8x2048x512 : Shape := ⟨3, ![8, 2048, 512]⟩
abbrev S8x2048x1536 : Shape := ⟨3, ![8, 2048, 1536]⟩
abbrev S2x512 : Shape := ⟨2, ![2, 512]⟩
abbrev S1x512 : Shape := ⟨2, ![1, 512]⟩
abbrev S512x2048 : Shape := ⟨2, ![512, 2048]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 9
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x2048x512, .bf16⟩
  | .hbm, ⟨3, _⟩ => ⟨S8x2048x512, .bf16⟩
  | .hbm, ⟨4, _⟩ => ⟨S8x2048x512, .f32⟩
  | .hbm, ⟨5, _⟩ => ⟨S8x2048x1536, .f32⟩
  | .hbm, ⟨6, _⟩ => ⟨S2x512, .f32⟩
  | .hbm, ⟨7, _⟩ => ⟨S1x512, .f32⟩
  | .hbm, ⟨8, _⟩ => ⟨S8x2048x512, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S1x512x512, .f32⟩
  | .local _ .vmem, ⟨14, _⟩ => ⟨S1x512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceInverseTwoIdeal.lean ====
abbrev S2048x2048 : Shape := ⟨2, ![2048, 2048]⟩
abbrev S8x2048x512 : Shape := ⟨3, ![8, 2048, 512]⟩
abbrev S8x2048x1536 : Shape := ⟨3, ![8, 2048, 1536]⟩
abbrev S2x512 : Shape := ⟨2, ![2, 512]⟩
abbrev S8x512x2048 : Shape := ⟨3, ![8, 512, 2048]⟩
abbrev S_ : Shape := ⟨0, ![]⟩
abbrev S1x512 : Shape := ⟨2, ![1, 512]⟩
abbrev S512 : Shape := ⟨1, ![512]⟩
abbrev S1x1x512 : Shape := ⟨3, ![1, 1, 512]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x2048x512, .bf16⟩
  | .hbm, ⟨3, _⟩ => ⟨S8x2048x512, .bf16⟩
  | .hbm, ⟨4, _⟩ => ⟨S8x2048x512, .f32⟩
  | .hbm, ⟨5, _⟩ => ⟨S8x2048x1536, .f32⟩
  | .hbm, ⟨6, _⟩ => ⟨S2x512, .f32⟩
  | .hbm, ⟨7, _⟩ => ⟨S2048x2048, .f32⟩
  | .hbm, ⟨8, _⟩ => ⟨S8x2048x512, .f32⟩
  | .hbm, ⟨9, _⟩ => ⟨S8x512x2048, .f32⟩
  | .hbm, ⟨10, _⟩ => ⟨S8x2048x512, .f32⟩
  | .hbm, ⟨11, _⟩ => ⟨S2048x2048, .f32⟩
  | .hbm, ⟨12, _⟩ => ⟨S8x2048x512, .f32⟩
  | .hbm, ⟨13, _⟩ => ⟨S8x512x2048, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S_, .f32⟩
  | .hbm, ⟨18, _⟩ => ⟨S8x2048x512, .f32⟩
  | .hbm, ⟨19, _⟩ => ⟨S8x2048x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelDiffTwo.lean ====
abbrev S8x2048x3072 : Shape := ⟨3, ![8, 2048, 3072]⟩
abbrev S4x64 : Shape := ⟨2, ![4, 64]⟩
abbrev S128 : Shape := ⟨1, ![128]⟩
abbrev S4 : Shape := ⟨1, ![4]⟩
abbrev S_ : Shape := ⟨0, ![]⟩
abbrev S1x128 : Shape := ⟨2, ![1, 128]⟩
abbrev S8x2048x512 : Shape := ⟨3, ![8, 2048, 512]⟩
abbrev S1x256x128 : Shape := ⟨3, ![1, 256, 128]⟩
abbrev S1x2048x128 : Shape := ⟨3, ![1, 2048, 128]⟩
abbrev S256x128 : Shape := ⟨2, ![256, 128]⟩
abbrev S2048x128 : Shape := ⟨2, ![2048, 128]⟩
abbrev S256x2048 : Shape := ⟨2, ![256, 2048]⟩
abbrev S1 : Shape := ⟨1, ![1]⟩
abbrev S1x64 : Shape := ⟨2, ![1, 64]⟩
abbrev S1x1 : Shape := ⟨2, ![1, 1]⟩
abbrev S256 : Shape := ⟨1, ![256]⟩
abbrev S256x1 : Shape := ⟨2, ![256, 1]⟩

abbrev nBuf : Space → Nat
  | .hbm => 18
  | .vmem => 10
  | .smem => 1
  | _ => 0

abbrev bufTy : (tb : Table) → Fin (tcTables nBuf tb) → BufTy
  | .hbm, ⟨0, _⟩ => ⟨S8x2048x3072, .f32⟩
  | .hbm, ⟨1, _⟩ => ⟨S4x64, .f32⟩
  | .hbm, ⟨2, _⟩ => ⟨S128, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S1x128, .f32⟩
  | .hbm, ⟨17, _⟩ => ⟨S8x2048x512, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S4x64, .f32⟩
  | .local _ .vmem, ⟨7, _⟩ => ⟨S1x128, .f32⟩
  | .local _ .vmem, ⟨8, _⟩ => ⟨S1x256x128, .f32⟩
  | .local _ .vmem, ⟨9, _⟩ => ⟨S1x256x128, .f32⟩
  | .local _ .smem, ⟨0, _⟩ => ⟨S4, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 1 → Nat :=
  let arg1 : BitVec 32 := BitVec.ofNat 32 (i 1).val
  let v16 : Index := Scalar.indexCast arg1
  ![v16.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceDiffTwoIdeal.lean ====
abbrev S8x2048x3072 : Shape := ⟨3, ![8, 2048, 3072]⟩
abbrev S4x64 : Shape := ⟨2, ![4, 64]⟩
abbrev S128 : Shape := ⟨1, ![128]⟩
abbrev S8x2048x1536 : Shape := ⟨3, ![8, 2048, 1536]⟩
abbrev S8x2048x512 : Shape := ⟨3, ![8, 2048, 512]⟩
abbrev S1x64 : Shape := ⟨2, ![1, 64]⟩
abbrev S64 : Shape := ⟨1, ![64]⟩
abbrev S_ : Shape := ⟨0, ![]⟩
abbrev S8x2048x8x64 : Shape := ⟨4, ![8, 2048, 8, 64]⟩
abbrev S8x2048x4x128 : Shape := ⟨4, ![8, 2048, 4, 128]⟩
abbrev S4 : Shape := ⟨1, ![4]⟩
abbrev S4x2 : Shape := ⟨2, ![4, 2]⟩
abbrev S8 : Shape := ⟨1, ![8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048x2048 : Shape := ⟨4, ![8, 8, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x4x2x2048x2048 : Shape := ⟨5, ![8, 4, 2, 2048, 2048]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x3072, .f32⟩
  | .hbm, ⟨1, _⟩ => ⟨S4x64, .f32⟩
  | .hbm, ⟨2, _⟩ => ⟨S128, .f32⟩
  | .hbm, ⟨3, _⟩ => ⟨S8x2048x1536, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x2048x8x64, .f32⟩
  | .hbm, ⟨27, _⟩ => ⟨S8x2048x8x64, .f32⟩
  | .hbm, ⟨28, _⟩ => ⟨S8x2048x4x128, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4x2, .f32⟩
  | .hbm, ⟨43, _⟩ => ⟨S8, .f32⟩
  | .hbm, ⟨44, _⟩ => ⟨S2048, .i32⟩
  | .hbm, ⟨45, _⟩ => ⟨S2048x1, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i32⟩
  | .hbm, ⟨50, _⟩ => ⟨S2048x2048, .i32⟩
  | .hbm, ⟨51, _⟩ => ⟨S2048x2048, .f32⟩
  | .hbm, ⟨52, _⟩ => ⟨S8x8x2048x2048, .f32⟩
  | .hbm, ⟨53, _⟩ => ⟨S_, .f32⟩
  | .hbm, ⟨54, _⟩ => ⟨S8x8x2048x2048, .f32⟩
  | .hbm, ⟨55, _⟩ => ⟨S8x8x2048x2048, .f32⟩
  | .hbm, ⟨56, _⟩ => ⟨S8x1x1, .f32⟩
  | .hbm, ⟨57, _⟩ => ⟨S1x2048x2048, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S1x8x2048x2048, .f32⟩
  | .hbm, ⟨62, _⟩ => ⟨S8x8x2048x2048, .f32⟩
  | .hbm, ⟨63, _⟩ => ⟨S8x8x2048x2048, .f32⟩
  | .hbm, ⟨64, _⟩ => ⟨S_, .f32⟩
  | .hbm, ⟨65, _⟩ => ⟨S8x8x2048, .f32⟩
  | .hbm, ⟨66, _⟩ => ⟨S_, .f32⟩
  | .hbm, ⟨67, _⟩ => ⟨S8x8x2048, .f32⟩
  | .hbm, ⟨68, _⟩ => ⟨S8x8x2048, .f32⟩
  | .hbm, ⟨69, _⟩ => ⟨S8x8x2048x1, .f32⟩
  | .hbm, ⟨70, _⟩ => ⟨S8x8x2048x2048, .f32⟩
  | .hbm, ⟨71, _⟩ => ⟨S8x8x2048x2048, .f32⟩
  | .hbm, ⟨72, _⟩ => ⟨S8x8x2048x2048, .f32⟩
  | .hbm, ⟨73, _⟩ => ⟨S_, .f32⟩
  | .hbm, ⟨74, _⟩ => ⟨S8x8x2048, .f32⟩
  | .hbm, ⟨75, _⟩ => ⟨S8x8x2048x1, .f32⟩
  | .hbm, ⟨76, _⟩ => ⟨S8x8x2048x2048, .f32⟩
  | .hbm, ⟨77, _⟩ => ⟨S8x8x2048x2048, .f32⟩
  | .hbm, ⟨78, _⟩ => ⟨S8x4x2x2048x2048, .f32⟩
  | .hbm, ⟨79, _⟩ => ⟨S8x4x1x2048x2048, .f32⟩
  | .hbm, ⟨80, _⟩ => ⟨S8x4x2048x2048, .f32⟩
  | .hbm, ⟨81, _⟩ => ⟨S8x4x1x2048x2048, .f32⟩
  | .hbm, ⟨82, _⟩ => ⟨S8x4x2048x2048, .f32⟩
  | .hbm, ⟨83, _⟩ => ⟨S8x4x2048x2048, .f32⟩
  | .hbm, ⟨84, _⟩ => ⟨S8x4x2048x2048, .f32⟩
  | .hbm, ⟨85, _⟩ => ⟨S8x4x2048x2048, .f32⟩
  | .hbm, ⟨86, _⟩ => ⟨S8x4x128x2048, .f32⟩
  | .hbm, ⟨87, _⟩ => ⟨S8x2048x4x128, .f32⟩
  | .hbm, ⟨88, _⟩ => ⟨S8x2048x4x128, .f32⟩
  | .hbm, ⟨89, _⟩ => ⟨S_, .f32⟩
  | .hbm, ⟨90, _⟩ => ⟨S8x2048x4, .f32⟩
  | .hbm, ⟨91, _⟩ => ⟨S8x2048x4x1, .f32⟩
  | .hbm, ⟨92, _⟩ => ⟨S_, .f32⟩
  | .hbm, ⟨93, _⟩ => ⟨S8x2048x4x1, .f32⟩
  | .hbm, ⟨94, _⟩ => ⟨S8x2048x4x1, .f32⟩
  | .hbm, ⟨95, _⟩ => ⟨S_, .f32⟩
  | .hbm, ⟨96, _⟩ => ⟨S8x2048x4x1, .f32⟩
  | .hbm, ⟨97, _⟩ => ⟨S8x2048x4x1, .f32⟩
  | .hbm, ⟨98, _⟩ => ⟨S8x2048x4x1, .f32⟩
  | .hbm, ⟨99, _⟩ => ⟨S8x2048x4x128, .f32⟩
  | .hbm, ⟨100, _⟩ => ⟨S8x2048x4x128, .f32⟩
  | .hbm, ⟨101, _⟩ => ⟨S1x1x1x128, .f32⟩
  | .hbm, ⟨102, _⟩ => ⟨S8x2048x4x128, .f32⟩
  | .hbm, ⟨103, _⟩ => ⟨S8x2048x4x128, .f32⟩
  | .hbm, ⟨104, _⟩ => ⟨S_, .f32⟩
  | .hbm, ⟨105, _⟩ => ⟨S8x2048x4x128, .f32⟩
  | .hbm, ⟨106, _⟩ => ⟨S8x2048x4x128, .f32⟩
  | .hbm, ⟨107, _⟩ => ⟨S8x2048x512, .f32⟩
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_10 : Ref sig .tc := ⟨.hbm, 89, rfl⟩
abbrev main_v75 : Ref sig .tc := ⟨.hbm, 90, rfl⟩
abbrev main_v76 : Ref sig .tc := ⟨.hbm, 91, rfl⟩
abbrev main_cst_11 : Ref sig .tc := ⟨.hbm, 92, rfl⟩
abbrev main_v77 : Ref sig .tc := ⟨.hbm, 93, rfl⟩
abbrev main_v78 : Ref sig .tc := ⟨.hbm, 94, rfl⟩
abbrev main_cst_12 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_13 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Proof.Real.lean ====
module

public import Idealize.ShloMosaic.Lib.Pipeline.ValueKit
public import Idealize.ShloMosaic.Lib.IdealHost

@[expose] public section

set_option maxRecDepth 16384

noncomputable section

namespace Cert.Real

open Idealize.ShloMosaic Idealize.ShloMosaic.TcCoe Idealize.SL.Sem

/-! Facts about extended reals used by several calls of the layer. -/

/-- A constant factor that is a nonnegative real moves from each term of a sum to the whole sum. -/
theorem sum_mul_of_nonneg {n : ℕ} (c : EReal) (h0 : 0 ≤ c) (ht : c ≠ ⊤) (f : Fin n → EReal) :
    ∑ i, f i * c = (∑ i, f i) * c := by
  induction n with
  | zero => simp
  | succ n ih =>
    rw [Fin.sum_univ_succ, Fin.sum_univ_succ, ih (fun i => f i.succ),
      EReal.right_distrib_of_nonneg_of_ne_top h0 ht]

/-- The scale of a half-width head: the pattern of 1/8. -/
theorem eighth : Ideal.ofBits .f32 0x3E000000#32 = (((1 : ℝ) / 8 : ℝ) : EReal) := by
  simp [Ideal.ofBits, Ideal.ieee, -EReal.coe_mul]; norm_num

theorem eighth_nonneg : (0 : EReal) ≤ Ideal.ofBits .f32 0x3E000000#32 := by
  rw [eighth]; exact_mod_cast (by norm_num : (0 : ℝ) ≤ 1 / 8)

theorem eighth_ne_top : Ideal.ofBits .f32 0x3E000000#32 ≠ ⊤ := by
  rw [eighth]; exact EReal.coe_ne_top _

/-- A running maximum is at least what it starts from. -/
theorem max_fold {n : ℕ} (b : EReal) (f : Fin n → EReal) :
    max b (Finset.univ.fold max b f) = Finset.univ.fold max b f :=
  max_eq_right ((Finset.le_fold_max b).mpr (Or.inl le_rfl))

/-- The softmax of a row of scores, at one place of the row. -/
def soft {n : ℕ} (s : Fin n → EReal) (k : Fin n) : EReal :=
  Ideal.div (Ideal.exp (s k - Finset.univ.fold max (Ideal.ofBits .f32 0xFF800000#32) s))
    (∑ x, Ideal.exp (s x - Finset.univ.fold max (Ideal.ofBits .f32 0xFF800000#32) s))

end Cert.Real

end
-- ==== Proof.DiffSpec.lean ====
module

public import proofs.«01_k».proof.Proof.Real
public import proofs.«01_k».proof.Proof.Gen.ReferenceIdeal

@[expose] public section

set_option maxRecDepth 16384

noncomputable section

namespace Cert.DiffAttn

open Idealize.ShloMosaic Idealize.ShloMosaic.TcCoe Idealize.SL.Sem
open Cert.ReferenceIdeal Cert.Real

/-! What differential attention computes, at one place of the result. -/

/-- The linear-bias slope of head `h`. -/
def slope (h : Fin 4) : EReal :=
  Ideal.pow (Ideal.ofBits .f32 0x40000000#32)
    (Ideal.div (Ideal.ofBits .f32 0xC1000000#32 * (1 + FloatOps.sitofp (F := Ideal) .f32 (BitVec.ofNat 32 h.val)))
      (Ideal.ofBits .f32 0x40800000#32))

/-- The distance between two positions. -/
def dist (q k : ℕ) : EReal :=
  FloatOps.sitofp (F := Ideal) .f32 (IntOp.absi (IntOp.subi (BitVec.ofNat 32 q) (BitVec.ofNat 32 k)))

/-- The biased score of half-width head `g` (two of them to a head) of query `q` against key `k`. -/
def score (X : FVec Ideal S8x2048x3072 .f32) (b g : Fin 8) (q k : Fin 2048) : EReal :=
  (∑ e : Fin 64, X (ix3 b q ⟨1536 + (g.val * 64 + e.val), by omega⟩) * X (ix3 b k ⟨2048 + (g.val * 64 + e.val), by omega⟩))
      * Ideal.ofBits .f32 0x3E000000#32
    - slope ⟨g.val / 2, by omega⟩ * dist q.val k.val

/-- The weight of the second softmax. -/
def weight (L : FVec Ideal S4x64 .f32) : EReal :=
  Ideal.exp (∑ x : Fin 64, L (ix2 0 x) * L (ix2 1 x)) - Ideal.exp (∑ x : Fin 64, L (ix2 2 x) * L (ix2 3 x))
    + Ideal.ofBits .f32 0x3E4CCCCD#32

/-- Head `h`'s output before it is normalised. -/
def att (X : FVec Ideal S8x2048x3072 .f32) (L : FVec Ideal S4x64 .f32) (b : Fin 8) (q : Fin 2048) (h : Fin 4) (e : Fin 128) : EReal :=
  ∑ k : Fin 2048,
    (soft (score X b ⟨h.val * 2, by omega⟩ q) k - weight L * soft (score X b ⟨h.val * 2 + 1, by omega⟩ q) k)
      * X (ix3 b k ⟨2560 + (h.val * 128 + e.val), by omega⟩)

/-- Head `h`'s output: normalised over its width, scaled by `subln` and by 0.8. -/
def outAt (X : FVec Ideal S8x2048x3072 .f32) (L : FVec Ideal S4x64 .f32) (W : FVec Ideal S128 .f32)
    (b : Fin 8) (q : Fin 2048) (h : Fin 4) (e : Fin 128) : EReal :=
  att X L b q h e
      * Ideal.rsqrt (Ideal.div (∑ x, att X L b q h x * att X L b q h x) (Ideal.ofBits .f32 0x43000000#32)
          + Ideal.ofBits .f32 0x358637BD#32)
      * W (ix1 e) * Ideal.ofBits .f32 0x3F4CCCCD#32

end Cert.DiffAttn

end
-- ==== Proof.DiffBlock.lean ====
module

public import proofs.«01_k».proof.Proof.DiffSpec
public import proofs.«01_k».proof.Proof.Gen.KernelIdeal.Value

@[expose] public section

set_option maxRecDepth 16384

noncomputable section

namespace Cert.DiffAttn

open Idealize.ShloMosaic Idealize.ShloMosaic.TcCoe Idealize.SL.Sem
open Cert.KernelIdeal Cert.KernelIdeal.Gen Cert.Real
open Idealize.ShloMosaic.Pipeline (Dat)

/-! What one grid point of the kernel computes. -/

/-- A sum over 128 lanes of which a mask keeps the first half. -/
theorem sum_first_half (f : Fin 128 → EReal) :
    ∑ x : Fin 128, Scalar.select (IntOp.cmpi .slt (BitVec.ofNat 32 x.val) 64#32) (f x) 0
      = ∑ d : Fin 64, f ⟨d.val, by omega⟩ := by
  have h1 : ∀ d : Fin 64, IntOp.cmpi .slt (BitVec.ofNat 32 d.val) 64#32 = 1#1 := by decide
  have h2 : ∀ d : Fin 64, IntOp.cmpi .slt (BitVec.ofNat 32 (64 + d.val)) 64#32 = 0#1 := by decide
  refine (Fin.sum_univ_add (a := 64) (b := 64) _).trans ?_
  rw [Finset.sum_eq_zero (s := Finset.univ (α := Fin 64)) (f := fun i : Fin 64 => Scalar.select (IntOp.cmpi .slt (BitVec.ofNat 32 (Fin.natAdd 64 i).val) 64#32) (f (Fin.natAdd 64 i)) 0)
    (fun d _ => by rw [Fin.val_natAdd, h2 d]; rfl), add_zero]
  exact Finset.sum_congr rfl fun d _ => by rw [Fin.val_castAdd, h1 d]; rfl

/-- A sum over 128 lanes of which a mask keeps the second half. -/
theorem sum_second_half (f : Fin 128 → EReal) :
    ∑ x : Fin 128, Scalar.select (IntOp.cmpi .sge (BitVec.ofNat 32 x.val) 64#32) (f x) 0
      = ∑ d : Fin 64, f ⟨64 + d.val, by omega⟩ := by
  have h1 : ∀ d : Fin 64, IntOp.cmpi .sge (BitVec.ofNat 32 d.val) 64#32 = 0#1 := by decide
  have h2 : ∀ d : Fin 64, IntOp.cmpi .sge (BitVec.ofNat 32 (64 + d.val)) 64#32 = 1#1 := by decide
  refine (Fin.sum_univ_add (a := 64) (b := 64) _).trans ?_
  rw [Finset.sum_eq_zero (s := Finset.univ (α := Fin 64)) (f := fun i : Fin 64 => Scalar.select (IntOp.cmpi .sge (BitVec.ofNat 32 (Fin.castAdd 64 i).val) 64#32) (f (Fin.castAdd 64 i)) 0)
    (fun d _ => by rw [Fin.val_castAdd, h1 d]; rfl), zero_add]
  exact Finset.sum_congr rfl fun d _ => by rw [Fin.val_natAdd, h2 d]; rfl

/-- The attention output of one block, its two halves' scores as the masks leave them. -/
theorem pay8_at (v3 : FVec Ideal S256x128 .f32) (v6 v9 : FVec Ideal S2048x128 .bf16) (v22 : FVec Ideal S256x2048 .f32)
    (v38 : FVec Ideal S1x1 .f32) (r : Fin 256) (e : Fin 128) :
    k0_pay8 v3 v6 v9 (iota .tc S1x128 32 [1] iota_S1x128_d1_w32) v22 v38 k0_pay7 (ix2 r e)
      = ∑ k : Fin 2048,
          (soft (fun k => ∑ d : Fin 64, v3 (ix2 r ⟨d.val, by omega⟩) * v6 (ix2 k ⟨d.val, by omega⟩) - v22 (ix2 r k)) k
            - v38 (ix2 0 0)
              * soft (fun k => ∑ d : Fin 64, v3 (ix2 r ⟨64 + d.val, by omega⟩) * v6 (ix2 k ⟨64 + d.val, by omega⟩) - v22 (ix2 r k)) k)
          * v9 (ix2 k e) := by
  have h : k0_pay8 v3 v6 v9 (iota .tc S1x128 32 [1] iota_S1x128_d1_w32) v22 v38 k0_pay7 (ix2 r e)
      = ∑ k : Fin 2048,
          (soft (fun k => (∑ x : Fin 128, Scalar.select (IntOp.cmpi .slt (BitVec.ofNat 32 x.val) 64#32) (v3 (ix2 r x) * v6 (ix2 k x)) 0) - v22 (ix2 r k)) k
            - v38 (ix2 0 0)
              * soft (fun k => (∑ x : Fin 128, Scalar.select (IntOp.cmpi .sge (BitVec.ofNat 32 x.val) 64#32) (v3 (ix2 r x) * v6 (ix2 k x)) 0) - v22 (ix2 r k)) k)
          * v9 (ix2 k e) := by
    unfold soft
    pointwise [k0_pay8, k0_pay7]
  rw [h]
  refine Finset.sum_congr rfl fun k _ => ?_
  have e1 : ∀ k : Fin 2048, ∑ x : Fin 128, Scalar.select (IntOp.cmpi .slt (BitVec.ofNat 32 x.val) 64#32) (v3 (ix2 r x) * v6 (ix2 k x)) 0
      = ∑ d : Fin 64, v3 (ix2 r ⟨d.val, by omega⟩) * v6 (ix2 k ⟨d.val, by omega⟩) := fun k => sum_first_half fun x => v3 (ix2 r x) * v6 (ix2 k x)
  have e2 : ∀ k : Fin 2048, ∑ x : Fin 128, Scalar.select (IntOp.cmpi .sge (BitVec.ofNat 32 x.val) 64#32) (v3 (ix2 r x) * v6 (ix2 k x)) 0
      = ∑ d : Fin 64, v3 (ix2 r ⟨64 + d.val, by omega⟩) * v6 (ix2 k ⟨64 + d.val, by omega⟩) := fun k => sum_second_half fun x => v3 (ix2 r x) * v6 (ix2 k x)
  simp only [e1, e2]

theorem pay2_at (v : Vec Ideal S1x256x128 .f32) (r : Fin 256) (x : Fin 128) :
    k0_pay2 (F := Ideal) v (ix2 r x) = v (ix3 0 r x) * Ideal.ofBits .f32 0x3E000000#32 := by
  pointwise [k0_pay2]

theorem pay3_at (v : Vec Ideal S1x2048x128 .f32) (k : Fin 2048) (x : Fin 128) :
    k0_pay3 (F := Ideal) v (ix2 k x) = v (ix3 0 k x) := by
  pointwise [k0_pay3]

theorem pay4_at (v : Vec Ideal S1x2048x128 .f32) (k : Fin 2048) (x : Fin 128) :
    k0_pay4 (F := Ideal) v (ix2 k x) = v (ix3 0 k x) := by
  pointwise [k0_pay4]

/-- The bias of a block: the slope times the distance, counted from the block's first query. -/
theorem pay5_at (i : grid0.Coords) (s : EReal) (r : Fin 256) (k : Fin 2048) :
    k0_pay5 (F := Ideal) i s (ix2 r k) = s * dist ((i 2).val * 256 + r.val) k.val := by
  have h : k0_pay5 (F := Ideal) i s (ix2 r k)
      = s * FloatOps.sitofp (F := Ideal) .f32 (IntOp.absi (IntOp.subi
          (IntOp.addi (Scalar.muli (BitVec.ofNat 32 (i 2).val) 256#32) (BitVec.ofNat 32 r.val)) (BitVec.ofNat 32 k.val))) := by
    pointwise [k0_pay5]
  have e : IntOp.addi (Scalar.muli (BitVec.ofNat 32 (i 2).val) 256#32) (BitVec.ofNat 32 r.val)
      = BitVec.ofNat 32 ((i 2).val * 256 + r.val) := by
    rw [BitVec.ofNat_add, BitVec.ofNat_mul]; rfl
  rw [h, e]
  rfl

theorem pay6_at (v : Vec Ideal S4x64 .f32) : k0_pay6 (F := Ideal) v (ix2 0 0) = weight v := by
  pointwise [k0_pay6, weight]

theorem pay1_at (v79 : FVec Ideal S256x128 .f32) (v81 : FVec Ideal S1x128 .f32) (v84 v85 : FVec Ideal S256x1 .f32) (r : Fin 256) (e : Fin 128) :
    k0_pay1 v79 v81 v84 v85 (ix3 0 r e)
      = v79 (ix2 r e) * Ideal.rsqrt (Ideal.div (v84 (ix2 r 0)) (v85 (ix2 r 0)) + Ideal.ofBits .f32 0x358637BD#32)
          * v81 (ix2 0 e) * Ideal.ofBits .f32 0x3F4CCCCD#32 := by
  pointwise [k0_pay1]

theorem pay9_at (v : Vec Ideal S1x128 .f32) (e : Fin 128) : k0_pay9 (F := Ideal) v (ix2 0 e) = v (ix2 0 e) := by
  pointwise [k0_pay9]

theorem pay11_at (r : Fin 256) : k0_pay11 (F := Ideal) (ix2 r 0) = Ideal.ofBits .f32 0x43000000#32 := by
  pointwise [k0_pay11]

theorem pay10_at (v3 : FVec Ideal S256x128 .f32) (v6 v9 : FVec Ideal S2048x128 .bf16) (v10 : IVec S1x128 32) (v22 : FVec Ideal S256x2048 .f32)
    (v38 : FVec Ideal S1x1 .f32) (v39 : IVec S1x128 32) (r : Fin 256) :
    k0_pay10 v3 v6 v9 v10 v22 v38 v39 (ix2 r 0)
      = ∑ x : Fin 128, k0_pay8 v3 v6 v9 v10 v22 v38 v39 (ix2 r x) * k0_pay8 v3 v6 v9 v10 v22 v38 v39 (ix2 r x) := by
  unfold k0_pay10
  generalize k0_pay8 v3 v6 v9 v10 v22 v38 v39 = u
  pointwise

/-- ONE BLOCK: from the projection's blocks of one batch, one head and 256 queries, the head's output at those queries. -/
theorem block_at (X : FVec Ideal S8x2048x3072 .f32) (L : FVec Ideal S4x64 .f32) (W : FVec Ideal S128 .f32)
    (i : grid0.Coords) (b : Fin 8) (h : Fin 4) (q : Fin 256 → Fin 2048) (hq : ∀ r, (q r).val = (i 2).val * 256 + r.val)
    (s : EReal) (hs : s = slope h)
    (xq : Vec Ideal S1x256x128 .f32) (xk xv : Vec Ideal S1x2048x128 .f32) (xl : Vec Ideal S4x64 .f32) (xw : Vec Ideal S1x128 .f32)
    (h1 : ∀ r x, xq (ix3 0 r x) = X (ix3 b (q r) ⟨1536 + (h.val * 128 + x.val), by omega⟩))
    (h2 : ∀ k x, xk (ix3 0 k x) = X (ix3 b k ⟨2048 + (h.val * 128 + x.val), by omega⟩))
    (h3 : ∀ k x, xv (ix3 0 k x) = X (ix3 b k ⟨2560 + (h.val * 128 + x.val), by omega⟩))
    (h4 : xl = L) (h5 : ∀ e, xw (ix2 0 e) = W (ix1 e)) (r : Fin 256) (e : Fin 128) :
    k0_pay1
      (k0_pay8 (k0_pay2 xq) (k0_pay3 xk) (k0_pay4 xv) (iota .tc S1x128 32 [1] iota_S1x128_d1_w32) (k0_pay5 i s) (k0_pay6 xl) k0_pay7)
      (k0_pay9 xw)
      (k0_pay10 (k0_pay2 xq) (k0_pay3 xk) (k0_pay4 xv) (iota .tc S1x128 32 [1] iota_S1x128_d1_w32) (k0_pay5 i s) (k0_pay6 xl) k0_pay7)
      k0_pay11 (ix3 0 r e)
    = outAt X L W b (q r) h e := by
  have ha : ∀ x : Fin 128, k0_pay8 (k0_pay2 xq) (k0_pay3 xk) (k0_pay4 xv) (iota .tc S1x128 32 [1] iota_S1x128_d1_w32) (k0_pay5 i s) (k0_pay6 xl) k0_pay7 (ix2 r x)
      = att X L b (q r) h x := by
    intro x
    rw [pay8_at, pay6_at, h4]
    refine Finset.sum_congr rfl fun k _ => ?_
    have s0 : (fun k : Fin 2048 => (∑ d : Fin 64, k0_pay2 xq (ix2 r ⟨d.val, by omega⟩) * k0_pay3 xk (ix2 k ⟨d.val, by omega⟩)) - k0_pay5 (F := Ideal) i s (ix2 r k))
        = score X b ⟨h.val * 2, by omega⟩ (q r) := by
      funext k
      rw [pay5_at, ← hq, hs]
      unfold score
      rw [← sum_mul_of_nonneg _ eighth_nonneg eighth_ne_top]
      congr 1
      · refine Finset.sum_congr rfl fun d _ => ?_
        rw [pay2_at, pay3_at, h1, h2, mul_right_comm]
        congr 3 <;> blk_ext
      · congr 2
        exact Fin.ext (by simp)
    have s1 : (fun k : Fin 2048 => (∑ d : Fin 64, k0_pay2 xq (ix2 r ⟨64 + d.val, by omega⟩) * k0_pay3 xk (ix2 k ⟨64 + d.val, by omega⟩)) - k0_pay5 (F := Ideal) i s (ix2 r k))
        = score X b ⟨h.val * 2 + 1, by omega⟩ (q r) := by
      funext k
      rw [pay5_at, ← hq, hs]
      unfold score
      rw [← sum_mul_of_nonneg _ eighth_nonneg eighth_ne_top]
      congr 1
      · refine Finset.sum_congr rfl fun d _ => ?_
        rw [pay2_at, pay3_at, h1, h2, mul_right_comm]
        congr 3 <;> blk_ext
      · congr 2
        exact Fin.ext (by simp; omega)
    rw [s0, s1, pay4_at, h3]
  rw [pay1_at, pay10_at, pay9_at, pay11_at, h5]
  simp only [ha]
  rfl

end Cert.DiffAttn

end
-- ==== Proof.DiffArray.lean ====
module

public import proofs.«01_k».proof.Proof.DiffBlock
public import proofs.«01_k».proof.Proof.Gen.KernelIdeal.Value
public import Idealize.ShloMosaic.Lib.Pipeline.ValueKit

@[expose] public section

set_option maxRecDepth 16384

noncomputable section

namespace Cert.DiffAttn

open Idealize.ShloMosaic Idealize.ShloMosaic.TcCoe Idealize.SL.Sem
open Cert.KernelIdeal Cert.KernelIdeal.Gen Cert.Real
open Idealize.ShloMosaic.Pipeline (Dat)

/-! The array after all of the grid points. -/

variable (m : (ℓ : Loc nD τ sig) → Buf (Elt Ideal) ℓ)

/-- The block each window holds at each grid point. -/
theorem idx : ∀ t : Fin cfg0.N, win0_0.index t = ![0]
    ∧ win0_1.index t = ![(grid0.coords t 0).val, (grid0.coords t 2).val, 12 + (grid0.coords t 1).val]
    ∧ win0_2.index t = ![(grid0.coords t 0).val, 0, 16 + (grid0.coords t 1).val]
    ∧ win0_3.index t = ![(grid0.coords t 0).val, 0, 20 + (grid0.coords t 1).val]
    ∧ win0_4.index t = ![0, 0] ∧ win0_5.index t = ![0, 0]
    ∧ win0_6.index t = ![(grid0.coords t 0).val, (grid0.coords t 2).val, (grid0.coords t 1).val] :=
  (by decide +kernel : ∀ t : Fin grid0.N, _)

/-- The slope a grid point reads is its head's. -/
theorem off_eq : ∀ t : Fin cfg0.N, k0_off1 (grid0.coords t) 0 = (grid0.coords t 1).val :=
  (by decide +kernel : ∀ t : Fin grid0.N, _)

/-- The slopes as the launch finds them. -/
theorem slopes_at (c : Dev nD) (h : Fin 4) : V m c main_v8 (ix1 h) = slope h := by
  entry_read
  pointwise [slope]

/-- The result array after the run. -/
def result (c : Dev nD) : FVec Ideal S8x2048x512 .f32 := fun j =>
  outAt (m ((c.tc : Thread nD τ).loc main_arg0)) (m ((c.tc : Thread nD τ).loc main_arg1)) (m ((c.tc : Thread nD τ).loc main_arg2))
    (j 0) (j 1) ⟨(j 2).val / 128, by have := (j 2).isLt; change _ < 512 at this; omega⟩ ⟨(j 2).val % 128, by omega⟩

theorem array_eq (c : Dev nD) : (dats m 0 c).arrAt 6 cfg0.N = result m c := by
  refine (dats m 0 c).arrAt_eq_of_covers 6 _ (by decide +kernel) fun t _ y => ?_
  blk_simp
  rw [after0_6]
  unfold outsAt0
  frame_out
  have b0 : (grid0.coords t 0).val < 8 := (grid0.coords t 0).isLt
  have b1 : (grid0.coords t 1).val < 4 := (grid0.coords t 1).isLt
  have b2 : (grid0.coords t 2).val < 8 := (grid0.coords t 2).isLt
  obtain ⟨i0, i1, i2, i3, i4, i5, i6⟩ := idx t
  have y1 : (y 1).val < 256 := (y 1).isLt
  have y2 : (y 2).val < 128 := (y 2).isLt
  have hy : y = (ix3 (0 : Fin 1) (⟨(y 1).val, y1⟩ : Fin 256) (⟨(y 2).val, y2⟩ : Fin 128) : S1x256x128.Idx) := by blk_ext
  refine (congrArg _ hy).trans ((block_at (m ((c.tc : Thread nD τ).loc main_arg0)) (m ((c.tc : Thread nD τ).loc main_arg1))
    (m ((c.tc : Thread nD τ).loc main_arg2)) (grid0.coords t) ⟨(grid0.coords t 0).val, b0⟩ ⟨(grid0.coords t 1).val, b1⟩
    (fun r => ⟨(grid0.coords t 2).val * 256 + r.val, by omega⟩) (fun _ => rfl) _ ?_ _ _ _ _ _ ?_ ?_ ?_ ?_ ?_ _ _).trans ?_)
  · refine Eq.trans ?_ (slopes_at m c ⟨(grid0.coords t 1).val, b1⟩)
    rw [View.ld_unit_apply_of _ _ _ _ _ (ix1 (⟨(grid0.coords t 1).val, b1⟩ : Fin 4)) (fun a => ?_)]
    · blk_ext [iblk, i0]
    · obtain rfl : a = 0 := Subsingleton.elim _ _
      exact (off_eq t).symm
  · intro r x
    blk_ext [iblk, V, i1]
  · intro r x
    blk_ext [iblk, V, i2]
  · intro r x
    blk_ext [iblk, V, i3]
  · blk_ext! [iblk, V, i4]
  · intro e
    blk_point [iblk, V, i5]
  · unfold result
    refine congr (congr (congr (congrArg (outAt _ _ _) ?_) ?_) ?_) ?_
    · exact Fin.ext (by blk_simp [i6])
    · exact Fin.ext (by blk_simp [i6])
    · refine Fin.ext ?_
      blk_simp [i6]
      change (grid0.coords t 1).val = ((grid0.coords t 1).val * 128 + (y 2).val) / 128
      omega
    · refine Fin.ext ?_
      blk_simp [i6]
      change (y 2).val = ((grid0.coords t 1).val * 128 + (y 2).val) % 128
      omega

end Cert.DiffAttn

end
-- ==== Proof.DiffRef.lean ====
module

public import proofs.«01_k».proof.Proof.DiffSpec
public import proofs.«01_k».proof.Proof.Gen.ReferenceIdeal.Run

@[expose] public section

set_option maxRecDepth 16384

noncomputable section

namespace Cert.DiffAttn

open Idealize.ShloMosaic Idealize.ShloMosaic.TcCoe Idealize.SL.Sem
open Cert.ReferenceIdeal Cert.ReferenceIdeal.Gen Cert.ReferenceIdeal.Value Cert.Real

/-! The reference's term cut into its steps, each read at an index, and the whole against `outAt`. -/

/-- The weight of the second softmax, from the four rows of `lam`. -/
def rLam (arg1 : FVec Ideal S4x64 .f32) : FVec Ideal S_ .f32 :=
  (addf (subf (Host.exp (Host.reduceAdd (mulf (shapeCast S64 (extractStridedSlice S1x64 ![0, 0] arg1 slices_S4x64_S1x64_0_0) shapeCasts_S1x64_S64) (shapeCast S64 (extractStridedSlice S1x64 ![1, 0] arg1 slices_S4x64_S1x64_1_0) shapeCasts_S1x64_S64)) (constant S_ .f32 0x00000000#32) reducesTo_S64_S_d0 h_S_)) (Host.exp (Host.reduceAdd (mulf (shapeCast S64 (extractStridedSlice S1x64 ![2, 0] arg1 slices_S4x64_S1x64_2_0) shapeCasts_S1x64_S64) (shapeCast S64 (extractStridedSlice S1x64 ![3, 0] arg1 slices_S4x64_S1x64_3_0) shapeCasts_S1x64_S64)) (constant S_ .f32 0x00000000#32) reducesTo_S64_S_d0 h_S_))) (constant S_ .f32 0x3E4CCCCD#32))

/-- The four linear-bias slopes. -/
def rSlope  : FVec Ideal S4 .f32 :=
  (Host.powf (broadcastInDim S4 ![] bcast_S_S4 (constant S_ .f32 0x40000000#32)) (Host.divf (mulf (broadcastInDim S4 ![] bcast_S_S4 (constant S_ .f32 0xC1000000#32)) (addf (broadcastInDim S4 ![] bcast_S_S4 (constant S_ .f32 0x3F800000#32)) (sitofp .f32 (iotaInDim S4 32 0)))) (broadcastInDim S4 ![] bcast_S_S4 (constant S_ .f32 0x40800000#32))))

/-- The distances between positions. -/
def rDist  : FVec Ideal S2048x2048 .f32 :=
  (sitofp .f32 (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))))

/-- The biased scores of the eight half-width heads. -/
def rScore (arg0 : FVec Ideal S8x2048x3072 .f32) (v31 : FVec Ideal S4 .f32) (v41 : FVec Ideal S2048x2048 .f32) : FVec Ideal S8x8x2048x2048 .f32 :=
  (subf (mulf (Host.dotGeneral dot_S8x2048x8x64_S8x2048x8x64_S8x8x2048x2048_3_3_1_1_02_02 none (shapeCast S8x2048x8x64 (extractStridedSlice S8x2048x512 ![0, 0, 1536] arg0 slices_S8x2048x3072_S8x2048x512_0_0_1536) shapeCasts_S8x2048x512_S8x2048x8x64) (shapeCast S8x2048x8x64 (extractStridedSlice S8x2048x512 ![0, 0, 2048] arg0 slices_S8x2048x3072_S8x2048x512_0_0_2048) shapeCasts_S8x2048x512_S8x2048x8x64)) (broadcastInDim S8x8x2048x2048 ![] bcast_S_S8x8x2048x2048 (constant S_ .f32 0x3E000000#32))) (broadcastInDim S8x8x2048x2048 ![0, 1, 2, 3] bcast_S1x8x2048x2048_S8x8x2048x2048_0_1_2_3 (broadcastInDim S1x8x2048x2048 ![1, 2, 3] bcast_S8x2048x2048_S1x8x2048x2048_1_2_3 (mulf (broadcastInDim S8x2048x2048 ![0, 1, 2] bcast_S8x1x1_S8x2048x2048_0_1_2 (broadcastInDim S8x1x1 ![0] bcast_S8_S8x1x1_0 (shapeCast S8 (broadcastInDim S4x2 ![0] bcast_S4_S4x2_0 v31) shapeCasts_S4x2_S8))) (broadcastInDim S8x2048x2048 ![0, 1, 2] bcast_S1x2048x2048_S8x2048x2048_0_1_2 (broadcastInDim S1x2048x2048 ![1, 2] bcast_S2048x2048_S1x2048x2048_1_2 v41))))))

/-- The largest score of each row. -/
def rMax (v52 : FVec Ideal S8x8x2048x2048 .f32) : FVec Ideal S8x8x2048 .f32 :=
  (Host.reduce FloatOps.maximumf v52 (constant S_ .f32 0xFF800000#32) reducesTo_S8x8x2048x2048_S8x8x2048_d3 h_S_)

/-- The same, not below the least value. -/
def rTop (v53 : FVec Ideal S8x8x2048 .f32) : FVec Ideal S8x8x2048 .f32 :=
  (maximumf (broadcastInDim S8x8x2048 ![] bcast_S_S8x8x2048 (constant S_ .f32 0xFF800000#32)) v53)

/-- The exponentials of the shifted scores. -/
def rExp (v52 : FVec Ideal S8x8x2048x2048 .f32) (v55 : FVec Ideal S8x8x2048 .f32) : FVec Ideal S8x8x2048x2048 .f32 :=
  (Host.exp (subf v52 (broadcastInDim S8x8x2048x2048 ![0, 1, 2, 3] bcast_S8x8x2048x1_S8x8x2048x2048_0_1_2_3 (broadcastInDim S8x8x2048x1 ![0, 1, 2] bcast_S8x8x2048_S8x8x2048x1_0_1_2 v55))))

/-- Their sums along the keys. -/
def rSum (v59 : FVec Ideal S8x8x2048x2048 .f32) : FVec Ideal S8x8x2048 .f32 :=
  (Host.reduceAdd v59 (constant S_ .f32 0x00000000#32) reducesTo_S8x8x2048x2048_S8x8x2048_d3 h_S_)

/-- The softmax over the keys. -/
def rProb (v59 : FVec Ideal S8x8x2048x2048 .f32) (v60 : FVec Ideal S8x8x2048 .f32) : FVec Ideal S8x8x2048x2048 .f32 :=
  (Host.divf v59 (broadcastInDim S8x8x2048x2048 ![0, 1, 2, 3] bcast_S8x8x2048x1_S8x8x2048x2048_0_1_2_3 (broadcastInDim S8x8x2048x1 ![0, 1, 2] bcast_S8x8x2048_S8x8x2048x1_0_1_2 v60)))

/-- The difference of the two halves’ softmaxes. -/
def rMix (v19 : FVec Ideal S_ .f32) (v63 : FVec Ideal S8x8x2048x2048 .f32) : FVec Ideal S8x4x2048x2048 .f32 :=
  (subf (shapeCast S8x4x2048x2048 (extractStridedSlice S8x4x1x2048x2048 ![0, 0, 0, 0, 0] (shapeCast S8x4x2x2048x2048 v63 shapeCasts_S8x8x2048x2048_S8x4x2x2048x2048) slices_S8x4x2x2048x2048_S8x4x1x2048x2048_0_0_0_0_0) shapeCasts_S8x4x1x2048x2048_S8x4x2048x2048) (mulf (broadcastInDim S8x4x2048x2048 ![] bcast_S_S8x4x2048x2048 v19) (shapeCast S8x4x2048x2048 (extractStridedSlice S8x4x1x2048x2048 ![0, 0, 1, 0, 0] (shapeCast S8x4x2x2048x2048 v63 shapeCasts_S8x8x2048x2048_S8x4x2x2048x2048) slices_S8x4x2x2048x2048_S8x4x1x2048x2048_0_0_1_0_0) shapeCasts_S8x4x1x2048x2048_S8x4x2048x2048)))

/-- The differences against the values. -/
def rAtt (arg0 : FVec Ideal S8x2048x3072 .f32) (v71 : FVec Ideal S8x4x2048x2048 .f32) : FVec Ideal S8x2048x4x128 .f32 :=
  (transpose S8x2048x4x128 [0, 3, 1, 2] (Host.dotGeneral dot_S8x2048x4x128_S8x4x2048x2048_S8x4x128x2048_1_3_3_2_02_01 none (shapeCast S8x2048x4x128 (extractStridedSlice S8x2048x512 ![0, 0, 2560] arg0 slices_S8x2048x3072_S8x2048x512_0_0_2560) shapeCasts_S8x2048x512_S8x2048x4x128) v71) transposes_S8x4x128x2048_S8x2048x4x128_0_3_1_2)

/-- The normalisation of each head’s output. -/
def rOut (arg2 : FVec Ideal S128 .f32) (v73 : FVec Ideal S8x2048x4x128 .f32) : FVec Ideal S8x2048x512 .f32 :=
  (shapeCast S8x2048x512 (mulf (mulf (mulf v73 (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf v73 v73) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 arg2))) (broadcastInDim S8x2048x4x128 ![] bcast_S_S8x2048x4x128 (constant S_ .f32 0x3F4CCCCD#32))) shapeCasts_S8x2048x4x128_S8x2048x512)

/-- The reference's result is the steps one after the other. -/
theorem ref_eq_steps (m : (ℓ : Loc nD τ sig) → Buf (Elt Ideal) ℓ) (c : Dev nD) : res_out0 (F := Ideal) m c =
    (rOut (m ((c.tc : Thread nD τ).loc main_arg2)) (rAtt (m ((c.tc : Thread nD τ).loc main_arg0)) (rMix (rLam (m ((c.tc : Thread nD τ).loc main_arg1))) (rProb (rExp (rScore (m ((c.tc : Thread nD τ).loc main_arg0)) (rSlope ) (rDist )) (rTop (rMax (rScore (m ((c.tc : Thread nD τ).loc main_arg0)) (rSlope ) (rDist ))))) (rSum (rExp (rScore (m ((c.tc : Thread nD τ).loc main_arg0)) (rSlope ) (rDist )) (rTop (rMax (rScore (m ((c.tc : Thread nD τ).loc main_arg0)) (rSlope ) (rDist )))))))))) := rfl

theorem rOut_at (w : FVec Ideal S128 .f32) (a : FVec Ideal S8x2048x4x128 .f32) (b : Fin 8) (q : Fin 2048) (l : Fin 512) :
    rOut w a (ix3 b q l) = a (ix4 b q ⟨l.val / 128, by omega⟩ ⟨l.val % 128, by omega⟩)
      * Ideal.rsqrt (Ideal.div (∑ x, a (ix4 b q ⟨l.val / 128, by omega⟩ x) * a (ix4 b q ⟨l.val / 128, by omega⟩ x))
          (Ideal.ofBits .f32 0x43000000#32) + Ideal.ofBits .f32 0x358637BD#32)
      * w (ix1 ⟨l.val % 128, by omega⟩) * Ideal.ofBits .f32 0x3F4CCCCD#32 := by
  pointwise [rOut]

theorem rAtt_at (x : FVec Ideal S8x2048x3072 .f32) (a : FVec Ideal S8x4x2048x2048 .f32) (b : Fin 8) (q : Fin 2048) (h : Fin 4) (e : Fin 128) :
    rAtt x a (ix4 b q h e) = ∑ k, a (ix4 b h q k) * x (ix3 b k ⟨2560 + (h.val * 128 + e.val), by omega⟩) := by
  pointwise [rAtt]
  exact Finset.sum_congr rfl fun k _ => mul_comm _ _

theorem rMix_at (lam : FVec Ideal S_ .f32) (p : FVec Ideal S8x8x2048x2048 .f32) (b : Fin 8) (h : Fin 4) (q k : Fin 2048) :
    rMix lam p (ix4 b h q k)
      = p (ix4 b ⟨h.val * 2, by omega⟩ q k) - lam ix0 * p (ix4 b ⟨h.val * 2 + 1, by omega⟩ q k) := by
  pointwise [rMix]

theorem rMax_at (s : FVec Ideal S8x8x2048x2048 .f32) (b h : Fin 8) (q : Fin 2048) :
    rMax s (ix3 b h q) = Finset.univ.fold max (Ideal.ofBits .f32 0xFF800000#32) (fun x => s (ix4 b h q x)) := by
  pointwise [rMax]

theorem rTop_at (s : FVec Ideal S8x8x2048 .f32) (b h : Fin 8) (q : Fin 2048) :
    rTop s (ix3 b h q) = max (Ideal.ofBits .f32 0xFF800000#32) (s (ix3 b h q)) := by
  pointwise [rTop]

theorem rExp_at (s : FVec Ideal S8x8x2048x2048 .f32) (t : FVec Ideal S8x8x2048 .f32) (b h : Fin 8) (q k : Fin 2048) :
    rExp s t (ix4 b h q k) = Ideal.exp (s (ix4 b h q k) - t (ix3 b h q)) := by
  pointwise [rExp]

theorem rSum_at (s : FVec Ideal S8x8x2048x2048 .f32) (b h : Fin 8) (q : Fin 2048) :
    rSum s (ix3 b h q) = ∑ x, s (ix4 b h q x) := by
  pointwise [rSum]

theorem rProb_at (s : FVec Ideal S8x8x2048x2048 .f32) (t : FVec Ideal S8x8x2048 .f32) (b h : Fin 8) (q k : Fin 2048) :
    rProb s t (ix4 b h q k) = Ideal.div (s (ix4 b h q k)) (t (ix3 b h q)) := by
  pointwise [rProb]

/-- The four steps of the softmax together. -/
theorem prob_at (s : FVec Ideal S8x8x2048x2048 .f32) (b h : Fin 8) (q k : Fin 2048) :
    rProb (rExp s (rTop (rMax s))) (rSum (rExp s (rTop (rMax s)))) (ix4 b h q k) = soft (fun x => s (ix4 b h q x)) k := by
  rw [rProb_at, rSum_at, rExp_at, rTop_at, rMax_at, max_fold]
  exact congrArg (Ideal.div _) (Finset.sum_congr rfl fun x _ => by rw [rExp_at, rTop_at, rMax_at, max_fold])

theorem rDist_at (q k : Fin 2048) : rDist (ix2 q k) = dist q.val k.val := by
  pointwise [rDist, dist]

theorem rSlope_at (h : Fin 4) : rSlope (ix1 h) = slope h := by
  pointwise [rSlope, slope]

theorem rScore_at (x : FVec Ideal S8x2048x3072 .f32) (b g : Fin 8) (q k : Fin 2048) :
    rScore x rSlope rDist (ix4 b g q k) = score x b g q k := by
  have h : ∀ (sl : FVec Ideal S4 .f32) (d : FVec Ideal S2048x2048 .f32), rScore x sl d (ix4 b g q k)
      = (∑ e : Fin 64, x (ix3 b q ⟨1536 + (g.val * 64 + e.val), by omega⟩) * x (ix3 b k ⟨2048 + (g.val * 64 + e.val), by omega⟩))
        * Ideal.ofBits .f32 0x3E000000#32 - sl (ix1 ⟨g.val / 2, by omega⟩) * d (ix2 q k) := by
    intro sl d
    pointwise [rScore]
  rw [h, rDist_at, rSlope_at]
  rfl

theorem rLam_at (L : FVec Ideal S4x64 .f32) : rLam L ix0 = weight L := by
  pointwise [rLam, weight]

/-- THE REFERENCE at one place of its result. -/
theorem ref_at (m : (ℓ : Loc nD τ sig) → Buf (Elt Ideal) ℓ) (c : Dev nD) (b : Fin 8) (q : Fin 2048) (l : Fin 512) :
    res_out0 (F := Ideal) m c (ix3 b q l)
      = outAt (m ((c.tc : Thread nD τ).loc main_arg0)) (m ((c.tc : Thread nD τ).loc main_arg1)) (m ((c.tc : Thread nD τ).loc main_arg2))
          b q ⟨l.val / 128, by omega⟩ ⟨l.val % 128, by omega⟩ := by
  have ha : ∀ (h : Fin 4) (e : Fin 128), _ = att (m ((c.tc : Thread nD τ).loc main_arg0)) (m ((c.tc : Thread nD τ).loc main_arg1)) b q h e := fun h e =>
    (rAtt_at (m ((c.tc : Thread nD τ).loc main_arg0)) (rMix (rLam (m ((c.tc : Thread nD τ).loc main_arg1))) (rProb (rExp (rScore (m ((c.tc : Thread nD τ).loc main_arg0)) (rSlope ) (rDist )) (rTop (rMax (rScore (m ((c.tc : Thread nD τ).loc main_arg0)) (rSlope ) (rDist ))))) (rSum (rExp (rScore (m ((c.tc : Thread nD τ).loc main_arg0)) (rSlope ) (rDist )) (rTop (rMax (rScore (m ((c.tc : Thread nD τ).loc main_arg0)) (rSlope ) (rDist )))))))) b q h e).trans <|
      Finset.sum_congr rfl fun k _ => by
        rw [rMix_at, prob_at, prob_at, rLam_at]
        simp only [rScore_at]
  refine ((congrFun (ref_eq_steps m c) _).trans (rOut_at _ _ b q l)).trans ?_
  simp only [ha]
  rfl

end Cert.DiffAttn

end
-- ==== Proof.DiffClaim.lean ====
module

public import proofs.«01_k».proof.Defs
public import proofs.«01_k».proof.Proof.DiffArray
public import proofs.«01_k».proof.Proof.DiffRef

@[expose] public section

set_option maxRecDepth 16384

noncomputable section

namespace Cert.DiffAttn

open Idealize.ShloMosaic Idealize.ShloMosaic.TcCoe Idealize.SL.Sem

/-! The kernel's result and the reference's, side by side. -/

/-- The kernel's array is the reference's term, whenever the two programs' arguments agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_out0 (F := Ideal) m' c = result m c := by
  funext j
  refine (congrArg _ (eq_ix3 j)).trans ((ref_at m' c (j 0) (j 1) (j 2)).trans ?_)
  rw [h0, h1, h2]
  rfl

/-- Differential attention: the kernel's value is the reference's. -/
theorem algebraic : Cert.algebraic_KernelIdeal_ReferenceIdeal := fun m g m' g' _ hagree =>
  ⟨fun c => result m c,
    (θ_run Cert.KernelIdeal.defs _ _).mono (fun r h c => ⟨(h c).1.trans (array_eq m c), (h c).2⟩) (Cert.KernelIdeal.Value.run_blocks m g),
    (θ_run Cert.ReferenceIdeal.defs _ _).mono
      (fun r h c => ⟨(h c).1.trans (result_eq m m' c (hagree c).1 (hagree c).2.1 (hagree c).2.2), (h c).2⟩)
      (Cert.ReferenceIdeal.Value.run (F := Ideal) m' g')⟩

/-- The reference terminates, keeps its arguments and leaves no counter raised. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.DiffAttn

end
-- ==== Proof.Linear.lean ====
module

public import proofs.«01_k».proof.Proof.Real

@[expose] public section

set_option maxRecDepth 16384

noncomputable section

namespace Cert.Linear

open Idealize.ShloMosaic Idealize.ShloMosaic.TcCoe Idealize.SL.Sem

/-! Rows of the model's width: their normalisation and their products with a weight's columns. -/

/-- A row divided by its root mean square, times the gains, at one place. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- A normalised row against one column of a weight. -/
def project (x g w : Fin 1024 → EReal) : EReal := ∑ k, normed x g k * w k

/-- A row against a column, each of two halves: the halves' sums one after the other are the whole sum. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Cert.Linear

end
-- ==== Proof.In.lean ====
module

public import proofs.«01_k».proof.Defs
public import proofs.«01_k».proof.Proof.Linear
public import proofs.«01_k».proof.Proof.Gen.KernelInIdeal.Value
public import proofs.«01_k».proof.Proof.Gen.ReferenceInIdeal.Run

@[expose] public section

set_option maxRecDepth 16384

noncomputable section

/-! The projection in front of the long convolution and the differential attention: rows of the residual stream normalised and multiplied by a weight. -/

namespace Cert.In

open Idealize.ShloMosaic Idealize.ShloMosaic.TcCoe Idealize.SL.Sem
open Cert.Linear
open Idealize.ShloMosaic.Pipeline (Dat)

section Launch

open Cert.KernelInIdeal Cert.KernelInIdeal.Gen

/-- What one grid point computes from its blocks. -/
theorem pay_at (x : Vec Ideal S512x1024 .f32) (g : Vec Ideal S1x1024 .f32) (w : Vec Ideal S1024x3072 .bf16) (r : Fin 512) (j : Fin 3072) :
    k0_pay1 (F := Ideal) x g w (ix2 r j) = project (fun k => x (ix2 r k)) (fun k => g (ix2 0 k)) (fun k => w (ix2 k j)) := by
  unfold project normed
  pointwise [k0_pay1]

variable (m : (ℓ : Loc nD τ sig) → Buf (Elt Ideal) ℓ)

/-- The block each window holds at each grid point. -/
theorem idx : ∀ t : Fin cfg0.N, win0_0.index t = ![(grid0.coords t 0).val, 0]
    ∧ win0_1.index t = ![0, 0] ∧ win0_2.index t = ![0, 0]
    ∧ win0_3.index t = ![(grid0.coords t 0).val, 0] :=
  (by decide +kernel : ∀ t : Fin grid0.N, _)

/-- The result array after the run. -/
def result (c : Dev nD) : FVec Ideal S16384x3072 .f32 := fun y =>
  project (fun k => m ((c.tc : Thread nD τ).loc main_arg0) (ix2 (y 0) k)) (fun k => m ((c.tc : Thread nD τ).loc main_arg1) (ix1 k))
    (fun k => m ((c.tc : Thread nD τ).loc main_arg2) (ix2 k (y 1)))

theorem weight_at (c : Dev nD) (k : Fin 1024) (j : Fin 3072) :
    V m c main_v0 (ix2 k j) = m ((c.tc : Thread nD τ).loc main_arg2) (ix2 k j) := by
  entry_read
  pointwise

theorem array_eq (c : Dev nD) : (dats m 0 c).arrAt 3 cfg0.N = result m c := by
  refine (dats m 0 c).arrAt_eq_of_covers 3 _ (by decide +kernel) fun t _ y => ?_
  blk_simp
  rw [after0_3]
  unfold out0_3
  frame_out
  have b0 : (grid0.coords t 0).val < 32 := (grid0.coords t 0).isLt
  obtain ⟨i0, i1, i2, i3⟩ := idx t
  have y0 : (y 0).val < 512 := (y 0).isLt
  have y1 : (y 1).val < 3072 := (y 1).isLt
  have hy : y = (ix2 (⟨(y 0).val, y0⟩ : Fin 512) (⟨(y 1).val, y1⟩ : Fin 3072) : S512x3072.Idx) := by blk_ext
  refine (congrArg _ hy).trans ((pay_at _ _ _ _ _).trans ?_)
  unfold result
  refine congr (congr (congrArg project ?_) ?_) ?_
  · funext k
    blk_ext [iblk, V, i0, i3]
  · funext k
    blk_point [iblk, V, i1]
  · funext k
    refine Eq.trans ?_ (weight_at m c k _)
    blk_ext [iblk, i2, i3]

end Launch

section Reference

open Cert.ReferenceInIdeal Cert.ReferenceInIdeal.Gen

/-- The reference's term. -/
def term (x : FVec Ideal S16384x1024 .f32) (g : FVec Ideal S1024 .f32) (w : FVec Ideal S1024x3072 .f32) : FVec Ideal S16384x3072 .f32 :=
  Host.dotGeneral dot_S16384x1024_S1024x3072_S16384x3072_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

/-- The term at a row and a column. -/
theorem term_at (x : FVec Ideal S16384x1024 .f32) (g : FVec Ideal S1024 .f32) (w : FVec Ideal S1024x3072 .f32) (r : Fin 16384) (j : Fin 3072) :
    term x g w (ix2 r j) = project (fun k => x (ix2 r k)) (fun k => g (ix1 k)) (fun k => w (ix2 k j)) := by
  unfold project normed
  pointwise [term]

end Reference

/-- The kernel's array is the reference's term, whenever the two programs' arguments agree. -/
theorem result_eq (m : (ℓ : Loc Cert.KernelInIdeal.nD Cert.KernelInIdeal.τ Cert.KernelInIdeal.sig) → Buf (Elt Ideal) ℓ)
    (m' : (ℓ : Loc Cert.ReferenceInIdeal.nD Cert.ReferenceInIdeal.τ Cert.ReferenceInIdeal.sig) → Buf (Elt Ideal) ℓ) (c : Dev Cert.KernelInIdeal.nD)
    (h0 : m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0))
    (h1 : m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1))
    (h2 : m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) :
    term (m' ((c.tc : Thread Cert.ReferenceInIdeal.nD Cert.ReferenceInIdeal.τ).loc Cert.ReferenceInIdeal.main_arg0))
      (m' ((c.tc : Thread Cert.ReferenceInIdeal.nD Cert.ReferenceInIdeal.τ).loc Cert.ReferenceInIdeal.main_arg1))
      (m' ((c.tc : Thread Cert.ReferenceInIdeal.nD Cert.ReferenceInIdeal.τ).loc Cert.ReferenceInIdeal.main_arg2)) = result m c := by
  funext y
  refine (congrArg _ (eq_ix2 y)).trans ((term_at _ _ _ (y 0) (y 1)).trans ?_)
  rw [h0, h1, h2]
  rfl

/-- The kernel's value is the reference's. -/
theorem algebraic : Cert.algebraic_KernelInIdeal_ReferenceInIdeal := fun m g m' g' _ hagree =>
  ⟨fun c => result m c,
    (θ_run Cert.KernelInIdeal.defs _ _).mono (fun r h c => ⟨(h c).1.trans (array_eq m c), (h c).2⟩) (Cert.KernelInIdeal.Value.run_blocks m g),
    (θ_run Cert.ReferenceInIdeal.defs _ _).mono
      (fun r h c => ⟨(h c).1.trans (result_eq m m' c (hagree c).1 (hagree c).2.1 (hagree c).2.2), (h c).2⟩)
      (Cert.ReferenceInIdeal.Value.run (F := Ideal) m' g')⟩

/-- The reference terminates, keeps its arguments and leaves no counter raised. -/
theorem reference_frame : Cert.quiescent_ReferenceInIdeal := fun m g _ =>
  (θ_run Cert.ReferenceInIdeal.defs _ _).mono
    (fun r h => ⟨fun c => (h c).2, Idealize.ShloMosaic.sem_eq_zero_of_no_sems (by decide) r.2⟩)
    (Cert.ReferenceInIdeal.Value.run (F := Ideal) m g)

end Cert.In

end
-- ==== Proof.OddIn.lean ====
module

public import proofs.«01_k».proof.Defs
public import proofs.«01_k».proof.Proof.Linear
public import proofs.«01_k».proof.Proof.Gen.KernelOddInIdeal.Value
public import proofs.«01_k».proof.Proof.Gen.ReferenceOddInIdeal.Run

@[expose] public section

set_option maxRecDepth 16384

noncomputable section

/-! The projection in front of the windowed attention: rows of the residual stream normalised and multiplied by a weight. -/

namespace Cert.OddIn

open Idealize.ShloMosaic Idealize.ShloMosaic.TcCoe Idealize.SL.Sem
open Cert.Linear
open Idealize.ShloMosaic.Pipeline (Dat)

section Launch

open Cert.KernelOddInIdeal Cert.KernelOddInIdeal.Gen

/-- What one grid point computes from its blocks. -/
theorem pay_at (x : Vec Ideal S512x1024 .f32) (g : Vec Ideal S1x1024 .f32) (w : Vec Ideal S1024x1536 .bf16) (r : Fin 512) (j : Fin 1536) :
    k0_pay1 (F := Ideal) x g w (ix2 r j) = project (fun k => x (ix2 r k)) (fun k => g (ix2 0 k)) (fun k => w (ix2 k j)) := by
  unfold project normed
  pointwise [k0_pay1]

variable (m : (ℓ : Loc nD τ sig) → Buf (Elt Ideal) ℓ)

/-- The block each window holds at each grid point. -/
theorem idx : ∀ t : Fin cfg0.N, win0_0.index t = ![(grid0.coords t 0).val, 0]
    ∧ win0_1.index t = ![0, 0] ∧ win0_2.index t = ![0, 0]
    ∧ win0_3.index t = ![(grid0.coords t 0).val, 0] :=
  (by decide +kernel : ∀ t : Fin grid0.N, _)

/-- The result array after the run. -/
def result (c : Dev nD) : FVec Ideal S16384x1536 .f32 := fun y =>
  project (fun k => m ((c.tc : Thread nD τ).loc main_arg0) (ix2 (y 0) k)) (fun k => m ((c.tc : Thread nD τ).loc main_arg1) (ix1 k))
    (fun k => m ((c.tc : Thread nD τ).loc main_arg2) (ix2 k (y 1)))

theorem weight_at (c : Dev nD) (k : Fin 1024) (j : Fin 1536) :
    V m c main_v0 (ix2 k j) = m ((c.tc : Thread nD τ).loc main_arg2) (ix2 k j) := by
  entry_read
  pointwise

theorem array_eq (c : Dev nD) : (dats m 0 c).arrAt 3 cfg0.N = result m c := by
  refine (dats m 0 c).arrAt_eq_of_covers 3 _ (by decide +kernel) fun t _ y => ?_
  blk_simp
  rw [after0_3]
  unfold out0_3
  frame_out
  have b0 : (grid0.coords t 0).val < 32 := (grid0.coords t 0).isLt
  obtain ⟨i0, i1, i2, i3⟩ := idx t
  have y0 : (y 0).val < 512 := (y 0).isLt
  have y1 : (y 1).val < 1536 := (y 1).isLt
  have hy : y = (ix2 (⟨(y 0).val, y0⟩ : Fin 512) (⟨(y 1).val, y1⟩ : Fin 1536) : S512x1536.Idx) := by blk_ext
  refine (congrArg _ hy).trans ((pay_at _ _ _ _ _).trans ?_)
  unfold result
  refine congr (congr (congrArg project ?_) ?_) ?_
  · funext k
    blk_ext [iblk, V, i0, i3]
  · funext k
    blk_point [iblk, V, i1]
  · funext k
    refine Eq.trans ?_ (weight_at m c k _)
    blk_ext [iblk, i2, i3]

end Launch

section Reference

open Cert.ReferenceOddInIdeal Cert.ReferenceOddInIdeal.Gen

/-- The reference's term. -/
def term (x : FVec Ideal S16384x1024 .f32) (g : FVec Ideal S1024 .f32) (w : FVec Ideal S1024x1536 .f32) : FVec Ideal S16384x1536 .f32 :=
  Host.dotGeneral dot_S16384x1024_S1024x1536_S16384x1536_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

/-- The term at a row and a column. -/
theorem term_at (x : FVec Ideal S16384x1024 .f32) (g : FVec Ideal S1024 .f32) (w : FVec Ideal S1024x1536 .f32) (r : Fin 16384) (j : Fin 1536) :
    term x g w (ix2 r j) = project (fun k => x (ix2 r k)) (fun k => g (ix1 k)) (fun k => w (ix2 k j)) := by
  unfold project normed
  pointwise [term]

end Reference

/-- The kernel's array is the reference's term, whenever the two programs' arguments agree. -/
theorem result_eq (m : (ℓ : Loc Cert.KernelOddInIdeal.nD Cert.KernelOddInIdeal.τ Cert.KernelOddInIdeal.sig) → Buf (Elt Ideal) ℓ)
    (m' : (ℓ : Loc Cert.ReferenceOddInIdeal.nD Cert.ReferenceOddInIdeal.τ Cert.ReferenceOddInIdeal.sig) → Buf (Elt Ideal) ℓ) (c : Dev Cert.KernelOddInIdeal.nD)
    (h0 : m' ((c.tc : Thread Cert.ReferenceOddInIdeal.nD Cert.ReferenceOddInIdeal.τ).loc Cert.ReferenceOddInIdeal.main_arg0) = m ((c.tc : Thread Cert.KernelOddInIdeal.nD Cert.KernelOddInIdeal.τ).loc Cert.KernelOddInIdeal.main_arg0))
    (h1 : m' ((c.tc : Thread Cert.ReferenceOddInIdeal.nD Cert.ReferenceOddInIdeal.τ).loc Cert.ReferenceOddInIdeal.main_arg1) = m ((c.tc : Thread Cert.KernelOddInIdeal.nD Cert.KernelOddInIdeal.τ).loc Cert.KernelOddInIdeal.main_arg1))
    (h2 : m' ((c.tc : Thread Cert.ReferenceOddInIdeal.nD Cert.ReferenceOddInIdeal.τ).loc Cert.ReferenceOddInIdeal.main_arg2) = m ((c.tc : Thread Cert.KernelOddInIdeal.nD Cert.KernelOddInIdeal.τ).loc Cert.KernelOddInIdeal.main_arg2)) :
    term (m' ((c.tc : Thread Cert.ReferenceOddInIdeal.nD Cert.ReferenceOddInIdeal.τ).loc Cert.ReferenceOddInIdeal.main_arg0))
      (m' ((c.tc : Thread Cert.ReferenceOddInIdeal.nD Cert.ReferenceOddInIdeal.τ).loc Cert.ReferenceOddInIdeal.main_arg1))
      (m' ((c.tc : Thread Cert.ReferenceOddInIdeal.nD Cert.ReferenceOddInIdeal.τ).loc Cert.ReferenceOddInIdeal.main_arg2)) = result m c := by
  funext y
  refine (congrArg _ (eq_ix2 y)).trans ((term_at _ _ _ (y 0) (y 1)).trans ?_)
  rw [h0, h1, h2]
  rfl

/-- The kernel's value is the reference's. -/
theorem algebraic : Cert.algebraic_KernelOddInIdeal_ReferenceOddInIdeal := fun m g m' g' _ hagree =>
  ⟨fun c => result m c,
    (θ_run Cert.KernelOddInIdeal.defs _ _).mono (fun r h c => ⟨(h c).1.trans (array_eq m c), (h c).2⟩) (Cert.KernelOddInIdeal.Value.run_blocks m g),
    (θ_run Cert.ReferenceOddInIdeal.defs _ _).mono
      (fun r h c => ⟨(h c).1.trans (result_eq m m' c (hagree c).1 (hagree c).2.1 (hagree c).2.2), (h c).2⟩)
      (Cert.ReferenceOddInIdeal.Value.run (F := Ideal) m' g')⟩

/-- The reference terminates, keeps its arguments and leaves no counter raised. -/
theorem reference_frame : Cert.quiescent_ReferenceOddInIdeal := fun m g _ =>
  (θ_run Cert.ReferenceOddInIdeal.defs _ _).mono
    (fun r h => ⟨fun c => (h c).2, Idealize.ShloMosaic.sem_eq_zero_of_no_sems (by decide) r.2⟩)
    (Cert.ReferenceOddInIdeal.Value.run (F := Ideal) m g)

end Cert.OddIn

end
-- ==== Proof.Mem.lean ====
module

public import proofs.«01_k».proof.Defs
public import proofs.«01_k».proof.Proof.Linear
public import proofs.«01_k».proof.Proof.Gen.KernelMemIdeal.Value
public import proofs.«01_k».proof.Proof.Gen.ReferenceMemIdeal.Run

@[expose] public section

set_option maxRecDepth 16384

noncomputable section

/-! The keys and values of the memory: rows of the residual stream normalised and multiplied by a weight. -/

namespace Cert.Mem

open Idealize.ShloMosaic Idealize.ShloMosaic.TcCoe Idealize.SL.Sem
open Cert.Linear
open Idealize.ShloMosaic.Pipeline (Dat)

section Launch

open Cert.KernelMemIdeal Cert.KernelMemIdeal.Gen

/-- What one grid point computes from its blocks. -/
theorem pay_at (x : Vec Ideal S512x1024 .f32) (g : Vec Ideal S1x1024 .f32) (w : Vec Ideal S1024x1024 .bf16) (r : Fin 512) (j : Fin 1024) :
    k0_pay1 (F := Ideal) x g w (ix2 r j) = project (fun k => x (ix2 r k)) (fun k => g (ix2 0 k)) (fun k => w (ix2 k j)) := by
  unfold project normed
  pointwise [k0_pay1]

variable (m : (ℓ : Loc nD τ sig) → Buf (Elt Ideal) ℓ)

/-- The block each window holds at each grid point. -/
theorem idx : ∀ t : Fin cfg0.N, win0_0.index t = ![(grid0.coords t 0).val, 0]
    ∧ win0_1.index t = ![0, 0] ∧ win0_2.index t = ![0, 0]
    ∧ win0_3.index t = ![(grid0.coords t 0).val, 0] :=
  (by decide +kernel : ∀ t : Fin grid0.N, _)

/-- The result array after the run. -/
def result (c : Dev nD) : FVec Ideal S2048x1024 .bf16 := fun y =>
  project (fun k => m ((c.tc : Thread nD τ).loc main_arg0) (ix2 (y 0) k)) (fun k => m ((c.tc : Thread nD τ).loc main_arg1) (ix1 k))
    (fun k => m ((c.tc : Thread nD τ).loc main_arg2) (ix2 k (y 1)))

theorem weight_at (c : Dev nD) (k : Fin 1024) (j : Fin 1024) :
    V m c main_v0 (ix2 k j) = m ((c.tc : Thread nD τ).loc main_arg2) (ix2 k j) := by
  entry_read
  pointwise

theorem array_eq (c : Dev nD) : (dats m 0 c).arrAt 3 cfg0.N = result m c := by
  refine (dats m 0 c).arrAt_eq_of_covers 3 _ (by decide +kernel) fun t _ y => ?_
  blk_simp
  rw [after0_3]
  unfold out0_3
  frame_out
  have b0 : (grid0.coords t 0).val < 4 := (grid0.coords t 0).isLt
  obtain ⟨i0, i1, i2, i3⟩ := idx t
  have y0 : (y 0).val < 512 := (y 0).isLt
  have y1 : (y 1).val < 1024 := (y 1).isLt
  have hy : y = (ix2 (⟨(y 0).val, y0⟩ : Fin 512) (⟨(y 1).val, y1⟩ : Fin 1024) : S512x1024.Idx) := by blk_ext
  refine (congrArg _ hy).trans ((pay_at _ _ _ _ _).trans ?_)
  unfold result
  refine congr (congr (congrArg project ?_) ?_) ?_
  · funext k
    blk_ext [iblk, V, i0, i3]
  · funext k
    blk_point [iblk, V, i1]
  · funext k
    refine Eq.trans ?_ (weight_at m c k _)
    blk_ext [iblk, i2, i3]

end Launch

section Reference

open Cert.ReferenceMemIdeal Cert.ReferenceMemIdeal.Gen

/-- The reference's term. -/
def term (x : FVec Ideal S2048x1024 .f32) (g : FVec Ideal S1024 .f32) (w : FVec Ideal S1024x1024 .f32) : FVec Ideal S2048x1024 .bf16 :=
  truncf .bf16 (Host.dotGeneral dot_S2048x1024_S1024x1024_S2048x1024_1_0_0_1_n_n none (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g))) w) bitsLt_bf16_f32

/-- The term at a row and a column. -/
theorem term_at (x : FVec Ideal S2048x1024 .f32) (g : FVec Ideal S1024 .f32) (w : FVec Ideal S1024x1024 .f32) (r : Fin 2048) (j : Fin 1024) :
    term x g w (ix2 r j) = project (fun k => x (ix2 r k)) (fun k => g (ix1 k)) (fun k => w (ix2 k j)) := by
  unfold project normed
  pointwise [term]

end Reference

/-- The kernel's array is the reference's term, whenever the two programs' arguments agree. -/
theorem result_eq (m : (ℓ : Loc Cert.KernelMemIdeal.nD Cert.KernelMemIdeal.τ Cert.KernelMemIdeal.sig) → Buf (Elt Ideal) ℓ)
    (m' : (ℓ : Loc Cert.ReferenceMemIdeal.nD Cert.ReferenceMemIdeal.τ Cert.ReferenceMemIdeal.sig) → Buf (Elt Ideal) ℓ) (c : Dev Cert.KernelMemIdeal.nD)
    (h0 : m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0))
    (h1 : m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1))
    (h2 : m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)) :
    term (m' ((c.tc : Thread Cert.ReferenceMemIdeal.nD Cert.ReferenceMemIdeal.τ).loc Cert.ReferenceMemIdeal.main_arg0))
      (m' ((c.tc : Thread Cert.ReferenceMemIdeal.nD Cert.ReferenceMemIdeal.τ).loc Cert.ReferenceMemIdeal.main_arg1))
      (m' ((c.tc : Thread Cert.ReferenceMemIdeal.nD Cert.ReferenceMemIdeal.τ).loc Cert.ReferenceMemIdeal.main_arg2)) = result m c := by
  funext y
  refine (congrArg _ (eq_ix2 y)).trans ((term_at _ _ _ (y 0) (y 1)).trans ?_)
  rw [h0, h1, h2]
  rfl

/-- The kernel's value is the reference's. -/
theorem algebraic : Cert.algebraic_KernelMemIdeal_ReferenceMemIdeal := fun m g m' g' _ hagree =>
  ⟨fun c => result m c,
    (θ_run Cert.KernelMemIdeal.defs _ _).mono (fun r h c => ⟨(h c).1.trans (array_eq m c), (h c).2⟩) (Cert.KernelMemIdeal.Value.run_blocks m g),
    (θ_run Cert.ReferenceMemIdeal.defs _ _).mono
      (fun r h c => ⟨(h c).1.trans (result_eq m m' c (hagree c).1 (hagree c).2.1 (hagree c).2.2), (h c).2⟩)
      (Cert.ReferenceMemIdeal.Value.run (F := Ideal) m' g')⟩

/-- The reference terminates, keeps its arguments and leaves no counter raised. -/
theorem reference_frame : Cert.quiescent_ReferenceMemIdeal := fun m g _ =>
  (θ_run Cert.ReferenceMemIdeal.defs _ _).mono
    (fun r h => ⟨fun c => (h c).2, Idealize.ShloMosaic.sem_eq_zero_of_no_sems (by decide) r.2⟩)
    (Cert.ReferenceMemIdeal.Value.run (F := Ideal) m g)

end Cert.Mem

end
-- ==== Proof.Out.lean ====
module

public import proofs.«01_k».proof.Defs
public import proofs.«01_k».proof.Proof.Linear
public import proofs.«01_k».proof.Proof.Gen.KernelOutIdeal.Value
public import proofs.«01_k».proof.Proof.Gen.ReferenceOutIdeal.Run

@[expose] public section

set_option maxRecDepth 16384

noncomputable section

/-! The residual projection after the long convolution and the differential attention: rows of the residual stream plus a product with a weight. -/

namespace Cert.Out

open Idealize.ShloMosaic Idealize.ShloMosaic.TcCoe Idealize.SL.Sem
open Cert.Linear
open Idealize.ShloMosaic.Pipeline (Dat)

section Launch

open Cert.KernelOutIdeal Cert.KernelOutIdeal.Gen

/-- What one grid point computes from its blocks. -/
theorem pay_at (x : Vec Ideal S512x1024 .f32) (a : Vec Ideal S512x512 .f32) (u : Vec Ideal S512x1024 .bf16) (b : Vec Ideal S512x512 .f32) (v : Vec Ideal S512x1024 .bf16)
    (r : Fin 512) (j : Fin 1024) :
    k0_pay1 (F := Ideal) x a u b v (ix2 r j) = x (ix2 r j) + (∑ k, a (ix2 r k) * u (ix2 k j)) + ∑ k, b (ix2 r k) * v (ix2 k j) := by
  pointwise [k0_pay1]

variable (m : (ℓ : Loc nD τ sig) → Buf (Elt Ideal) ℓ)

/-- The block each window holds at each grid point. -/
theorem idx : ∀ t : Fin cfg0.N, win0_0.index t = ![(grid0.coords t 0).val, 0]
    ∧ win0_1.index t = ![(grid0.coords t 0).val, 0] ∧ win0_2.index t = ![(grid0.coords t 0).val, 0]
    ∧ win0_3.index t = ![0, 0] ∧ win0_4.index t = ![0, 0]
    ∧ win0_5.index t = ![(grid0.coords t 0).val, 0] :=
  (by decide +kernel : ∀ t : Fin grid0.N, _)

/-- One element of the result: the residual and the two halves' products. -/
def element (x : FVec Ideal S16384x1024 .f32) (a b : FVec Ideal S16384x512 .f32) (w : FVec Ideal S1024x1024 .f32) (r : Fin 16384) (j : Fin 1024) : EReal :=
  x (ix2 r j) + (∑ k : Fin 512, a (ix2 r k) * w (ix2 (⟨k.val, by omega⟩ : Fin 1024) j)) + ∑ k : Fin 512, b (ix2 r k) * w (ix2 (⟨512 + k.val, by omega⟩ : Fin 1024) j)

/-- The result array after the run. -/
def result (c : Dev nD) : FVec Ideal S16384x1024 .f32 := fun y =>
  element (m ((c.tc : Thread nD τ).loc main_arg0)) (m ((c.tc : Thread nD τ).loc main_arg1)) (m ((c.tc : Thread nD τ).loc main_arg2))
    (m ((c.tc : Thread nD τ).loc main_arg3)) (y 0) (y 1)

theorem upper_at (c : Dev nD) (k : Fin 512) (j : Fin 1024) :
    V m c main_v1 (ix2 k j) = m ((c.tc : Thread nD τ).loc main_arg3) (ix2 (⟨k.val, by omega⟩ : Fin 1024) j) := by
  entry_read
  pointwise

theorem lower_at (c : Dev nD) (k : Fin 512) (j : Fin 1024) :
    V m c main_v2 (ix2 k j) = m ((c.tc : Thread nD τ).loc main_arg3) (ix2 (⟨512 + k.val, by omega⟩ : Fin 1024) j) := by
  entry_read
  pointwise

theorem array_eq (c : Dev nD) : (dats m 0 c).arrAt 5 cfg0.N = result m c := by
  refine (dats m 0 c).arrAt_eq_of_covers 5 _ (by decide +kernel) fun t _ y => ?_
  blk_simp
  rw [after0_5]
  unfold out0_5
  frame_out
  have b0 : (grid0.coords t 0).val < 32 := (grid0.coords t 0).isLt
  obtain ⟨i0, i1, i2, i3, i4, i5⟩ := idx t
  have y0 : (y 0).val < 512 := (y 0).isLt
  have y1 : (y 1).val < 1024 := (y 1).isLt
  have hy : y = (ix2 (⟨(y 0).val, y0⟩ : Fin 512) (⟨(y 1).val, y1⟩ : Fin 1024) : S512x1024.Idx) := by blk_ext
  refine (congrArg _ hy).trans ((pay_at _ _ _ _ _ _ _).trans ?_)
  unfold result element
  refine congr (congrArg HAdd.hAdd (congr (congrArg HAdd.hAdd ?_) ?_)) ?_
  · blk_ext [iblk, V, i0, i5]
  · refine Finset.sum_congr rfl fun k _ => congr (congrArg HMul.hMul ?_) ?_
    · blk_ext [iblk, V, i1, i5]
    · refine Eq.trans ?_ (upper_at m c k _)
      blk_ext [iblk, i3, i5]
  · refine Finset.sum_congr rfl fun k _ => congr (congrArg HMul.hMul ?_) ?_
    · blk_ext [iblk, V, i2, i5]
    · refine Eq.trans ?_ (lower_at m c k _)
      blk_ext [iblk, i4, i5]

end Launch

section Reference

open Cert.ReferenceOutIdeal Cert.ReferenceOutIdeal.Gen

/-- The reference's term. -/
def term (x : FVec Ideal S16384x1024 .f32) (a b : FVec Ideal S16384x512 .f32) (w : FVec Ideal S1024x1024 .f32) : FVec Ideal S16384x1024 .f32 :=
  addf x (Host.dotGeneral dot_S16384x1024_S1024x1024_S16384x1024_1_0_0_1_n_n none (concatenate S16384x1024 1 [⟨S16384x512, a⟩, ⟨S16384x512, b⟩] concatenates_S16384x512_S16384x512_S16384x1024_d1) w)

/-- The two inputs side by side, read in the first half. -/
theorem beside_left (a b : FVec Ideal S16384x512 .f32) (r : Fin 16384) (k : Fin 512) :
    concatenate S16384x1024 1 [⟨S16384x512, a⟩, ⟨S16384x512, b⟩] concatenates_S16384x512_S16384x512_S16384x1024_d1 (ix2 r (⟨k.val, by omega⟩ : Fin 1024))
      = a (ix2 r k) := by
  pointwise

/-- The two inputs side by side, read in the second half. -/
theorem beside_right (a b : FVec Ideal S16384x512 .f32) (r : Fin 16384) (k : Fin 512) :
    concatenate S16384x1024 1 [⟨S16384x512, a⟩, ⟨S16384x512, b⟩] concatenates_S16384x512_S16384x512_S16384x1024_d1 (ix2 r (⟨512 + k.val, by omega⟩ : Fin 1024))
      = b (ix2 r k) := by
  pointwise

/-- The term at a row and a column. -/
theorem term_at (x : FVec Ideal S16384x1024 .f32) (a b : FVec Ideal S16384x512 .f32) (w : FVec Ideal S1024x1024 .f32) (r : Fin 16384) (j : Fin 1024) :
    term x a b w (ix2 r j) = element x a b w r j := by
  have h : term x a b w (ix2 r j) = x (ix2 r j) + ∑ k : Fin 1024,
      concatenate S16384x1024 1 [⟨S16384x512, a⟩, ⟨S16384x512, b⟩] concatenates_S16384x512_S16384x512_S16384x1024_d1 (ix2 r k) * w (ix2 k j) := by
    unfold term
    generalize concatenate S16384x1024 1 [⟨S16384x512, a⟩, ⟨S16384x512, b⟩] concatenates_S16384x512_S16384x512_S16384x1024_d1 = u
    pointwise
  rw [h, sum_halves, ← add_assoc]
  refine congr (congrArg HAdd.hAdd (congrArg (HAdd.hAdd (x (ix2 r j))) ?_)) ?_
  · exact Finset.sum_congr rfl fun k _ => congrArg (· * w (ix2 (⟨k.val, by omega⟩ : Fin 1024) j)) (beside_left a b r k)
  · exact Finset.sum_congr rfl fun k _ => congrArg (· * w (ix2 (⟨512 + k.val, by omega⟩ : Fin 1024) j)) (beside_right a b r k)

end Reference

/-- The kernel's array is the reference's term, whenever the two programs' arguments agree. -/
theorem result_eq (m : (ℓ : Loc Cert.KernelOutIdeal.nD Cert.KernelOutIdeal.τ Cert.KernelOutIdeal.sig) → Buf (Elt Ideal) ℓ)
    (m' : (ℓ : Loc Cert.ReferenceOutIdeal.nD Cert.ReferenceOutIdeal.τ Cert.ReferenceOutIdeal.sig) → Buf (Elt Ideal) ℓ) (c : Dev Cert.KernelOutIdeal.nD)
    (h0 : m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0))
    (h1 : m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1))
    (h2 : m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2))
    (h3 : m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) :
    term (m' ((c.tc : Thread Cert.ReferenceOutIdeal.nD Cert.ReferenceOutIdeal.τ).loc Cert.ReferenceOutIdeal.main_arg0)) (m' ((c.tc : Thread Cert.ReferenceOutIdeal.nD Cert.ReferenceOutIdeal.τ).loc Cert.ReferenceOutIdeal.main_arg1)) (m' ((c.tc : Thread Cert.ReferenceOutIdeal.nD Cert.ReferenceOutIdeal.τ).loc Cert.ReferenceOutIdeal.main_arg2)) (m' ((c.tc : Thread Cert.ReferenceOutIdeal.nD Cert.ReferenceOutIdeal.τ).loc Cert.ReferenceOutIdeal.main_arg3)) = result m c := by
  funext y
  refine (congrArg _ (eq_ix2 y)).trans ((term_at _ _ _ _ (y 0) (y 1)).trans ?_)
  rw [h0, h1, h2, h3]
  rfl

/-- The kernel's value is the reference's. -/
theorem algebraic : Cert.algebraic_KernelOutIdeal_ReferenceOutIdeal := fun m g m' g' _ hagree =>
  ⟨fun c => result m c,
    (θ_run Cert.KernelOutIdeal.defs _ _).mono (fun r h c => ⟨(h c).1.trans (array_eq m c), (h c).2⟩) (Cert.KernelOutIdeal.Value.run_blocks m g),
    (θ_run Cert.ReferenceOutIdeal.defs _ _).mono
      (fun r h c => ⟨(h c).1.trans (result_eq m m' c (hagree c).1 (hagree c).2.1 (hagree c).2.2.1 (hagree c).2.2.2), (h c).2⟩)
      (Cert.ReferenceOutIdeal.Value.run (F := Ideal) m' g')⟩

/-- The reference terminates, keeps its arguments and leaves no counter raised. -/
theorem reference_frame : Cert.quiescent_ReferenceOutIdeal := fun m g _ =>
  (θ_run Cert.ReferenceOutIdeal.defs _ _).mono
    (fun r h => ⟨fun c => (h c).2, Idealize.ShloMosaic.sem_eq_zero_of_no_sems (by decide) r.2⟩)
    (Cert.ReferenceOutIdeal.Value.run (F := Ideal) m g)

end Cert.Out

end
-- ==== Proof.OddOut.lean ====
module

public import proofs.«01_k».proof.Defs
public import proofs.«01_k».proof.Proof.Linear
public import proofs.«01_k».proof.Proof.Gen.KernelOddOutIdeal.Value
public import proofs.«01_k».proof.Proof.Gen.ReferenceOddOutIdeal.Run

@[expose] public section

set_option maxRecDepth 16384

noncomputable section

/-! The residual projection after the windowed attention: rows of the residual stream plus a product with a weight. -/

namespace Cert.OddOut

open Idealize.ShloMosaic Idealize.ShloMosaic.TcCoe Idealize.SL.Sem
open Cert.Linear
open Idealize.ShloMosaic.Pipeline (Dat)

section Launch

open Cert.KernelOddOutIdeal Cert.KernelOddOutIdeal.Gen

/-- What one grid point computes from its blocks. -/
theorem pay_at (x : Vec Ideal S512x1024 .f32) (a : Vec Ideal S512x1024 .f32) (u : Vec Ideal S1024x1024 .bf16) (r : Fin 512) (j : Fin 1024) :
    k0_pay1 (F := Ideal) x a u (ix2 r j) = x (ix2 r j) + ∑ k, a (ix2 r k) * u (ix2 k j) := by
  pointwise [k0_pay1]

variable (m : (ℓ : Loc nD τ sig) → Buf (Elt Ideal) ℓ)

/-- The block each window holds at each grid point. -/
theorem idx : ∀ t : Fin cfg0.N, win0_0.index t = ![(grid0.coords t 0).val, 0]
    ∧ win0_1.index t = ![(grid0.coords t 0).val, 0] ∧ win0_2.index t = ![0, 0]
    ∧ win0_3.index t = ![(grid0.coords t 0).val, 0] :=
  (by decide +kernel : ∀ t : Fin grid0.N, _)

/-- One element of the result: the residual and the product. -/
def element (x a : FVec Ideal S16384x1024 .f32) (w : FVec Ideal S1024x1024 .f32) (r : Fin 16384) (j : Fin 1024) : EReal :=
  x (ix2 r j) + ∑ k, a (ix2 r k) * w (ix2 k j)

/-- The result array after the run. -/
def result (c : Dev nD) : FVec Ideal S16384x1024 .f32 := fun y =>
  element (m ((c.tc : Thread nD τ).loc main_arg0)) (m ((c.tc : Thread nD τ).loc main_arg1)) (m ((c.tc : Thread nD τ).loc main_arg2)) (y 0) (y 1)

theorem weight_at (c : Dev nD) (k : Fin 1024) (j : Fin 1024) :
    V m c main_v0 (ix2 k j) = m ((c.tc : Thread nD τ).loc main_arg2) (ix2 k j) := by
  entry_read
  pointwise

theorem array_eq (c : Dev nD) : (dats m 0 c).arrAt 3 cfg0.N = result m c := by
  refine (dats m 0 c).arrAt_eq_of_covers 3 _ (by decide +kernel) fun t _ y => ?_
  blk_simp
  rw [after0_3]
  unfold out0_3
  frame_out
  have b0 : (grid0.coords t 0).val < 32 := (grid0.coords t 0).isLt
  obtain ⟨i0, i1, i2, i3⟩ := idx t
  have y0 : (y 0).val < 512 := (y 0).isLt
  have y1 : (y 1).val < 1024 := (y 1).isLt
  have hy : y = (ix2 (⟨(y 0).val, y0⟩ : Fin 512) (⟨(y 1).val, y1⟩ : Fin 1024) : S512x1024.Idx) := by blk_ext
  refine (congrArg _ hy).trans ((pay_at _ _ _ _ _).trans ?_)
  unfold result element
  refine congr (congrArg HAdd.hAdd ?_) ?_
  · blk_ext [iblk, V, i0, i3]
  · refine Finset.sum_congr rfl fun k _ => congr (congrArg HMul.hMul ?_) ?_
    · blk_ext [iblk, V, i1, i3]
    · refine Eq.trans ?_ (weight_at m c k _)
      blk_ext [iblk, i2, i3]

end Launch

section Reference

open Cert.ReferenceOddOutIdeal Cert.ReferenceOddOutIdeal.Gen

/-- The reference's term. -/
def term (x a : FVec Ideal S16384x1024 .f32) (w : FVec Ideal S1024x1024 .f32) : FVec Ideal S16384x1024 .f32 :=
  addf x (Host.dotGeneral dot_S16384x1024_S1024x1024_S16384x1024_1_0_0_1_n_n none a w)

/-- The term at a row and a column. -/
theorem term_at (x a : FVec Ideal S16384x1024 .f32) (w : FVec Ideal S1024x1024 .f32) (r : Fin 16384) (j : Fin 1024) :
    term x a w (ix2 r j) = element x a w r j := by
  unfold element
  pointwise [term]

end Reference

/-- The kernel's array is the reference's term, whenever the two programs' arguments agree. -/
theorem result_eq (m : (ℓ : Loc Cert.KernelOddOutIdeal.nD Cert.KernelOddOutIdeal.τ Cert.KernelOddOutIdeal.sig) → Buf (Elt Ideal) ℓ)
    (m' : (ℓ : Loc Cert.ReferenceOddOutIdeal.nD Cert.ReferenceOddOutIdeal.τ Cert.ReferenceOddOutIdeal.sig) → Buf (Elt Ideal) ℓ) (c : Dev Cert.KernelOddOutIdeal.nD)
    (h0 : m' ((c.tc : Thread Cert.ReferenceOddOutIdeal.nD Cert.ReferenceOddOutIdeal.τ).loc Cert.ReferenceOddOutIdeal.main_arg0) = m ((c.tc : Thread Cert.KernelOddOutIdeal.nD Cert.KernelOddOutIdeal.τ).loc Cert.KernelOddOutIdeal.main_arg0))
    (h1 : m' ((c.tc : Thread Cert.ReferenceOddOutIdeal.nD Cert.ReferenceOddOutIdeal.τ).loc Cert.ReferenceOddOutIdeal.main_arg1) = m ((c.tc : Thread Cert.KernelOddOutIdeal.nD Cert.KernelOddOutIdeal.τ).loc Cert.KernelOddOutIdeal.main_arg1))
    (h2 : m' ((c.tc : Thread Cert.ReferenceOddOutIdeal.nD Cert.ReferenceOddOutIdeal.τ).loc Cert.ReferenceOddOutIdeal.main_arg2) = m ((c.tc : Thread Cert.KernelOddOutIdeal.nD Cert.KernelOddOutIdeal.τ).loc Cert.KernelOddOutIdeal.main_arg2)) :
    term (m' ((c.tc : Thread Cert.ReferenceOddOutIdeal.nD Cert.ReferenceOddOutIdeal.τ).loc Cert.ReferenceOddOutIdeal.main_arg0)) (m' ((c.tc : Thread Cert.ReferenceOddOutIdeal.nD Cert.ReferenceOddOutIdeal.τ).loc Cert.ReferenceOddOutIdeal.main_arg1)) (m' ((c.tc : Thread Cert.ReferenceOddOutIdeal.nD Cert.ReferenceOddOutIdeal.τ).loc Cert.ReferenceOddOutIdeal.main_arg2)) = result m c := by
  funext y
  refine (congrArg _ (eq_ix2 y)).trans ((term_at _ _ _ (y 0) (y 1)).trans ?_)
  rw [h0, h1, h2]
  rfl

/-- The kernel's value is the reference's. -/
theorem algebraic : Cert.algebraic_KernelOddOutIdeal_ReferenceOddOutIdeal := fun m g m' g' _ hagree =>
  ⟨fun c => result m c,
    (θ_run Cert.KernelOddOutIdeal.defs _ _).mono (fun r h c => ⟨(h c).1.trans (array_eq m c), (h c).2⟩) (Cert.KernelOddOutIdeal.Value.run_blocks m g),
    (θ_run Cert.ReferenceOddOutIdeal.defs _ _).mono
      (fun r h c => ⟨(h c).1.trans (result_eq m m' c (hagree c).1 (hagree c).2.1 (hagree c).2.2), (h c).2⟩)
      (Cert.ReferenceOddOutIdeal.Value.run (F := Ideal) m' g')⟩

/-- The reference terminates, keeps its arguments and leaves no counter raised. -/
theorem reference_frame : Cert.quiescent_ReferenceOddOutIdeal := fun m g _ =>
  (θ_run Cert.ReferenceOddOutIdeal.defs _ _).mono
    (fun r h => ⟨fun c => (h c).2, Idealize.ShloMosaic.sem_eq_zero_of_no_sems (by decide) r.2⟩)
    (Cert.ReferenceOddOutIdeal.Value.run (F := Ideal) m g)

end Cert.OddOut

end
-- ==== Proof.CrossSpec.lean ====
module

public import proofs.«01_k».proof.Proof.Linear

@[expose] public section

set_option maxRecDepth 16384

noncomputable section

namespace Cert.Cross

open Idealize.ShloMosaic Idealize.ShloMosaic.TcCoe Idealize.SL.Sem
open Cert.Real Cert.Linear

/-! Cross attention of one query row on a memory of 256 rows, keys in the first half of a row and values in the second. -/

/-- The score of a head's query against each memory row. -/
def score (q : Fin 512 → EReal) (kv : Fin 256 → Fin 1024 → EReal) (h : Fin 4) (k : Fin 256) : EReal :=
  (∑ d : Fin 128, q ⟨h.val * 128 + d.val, by omega⟩ * kv k ⟨h.val * 128 + d.val, by omega⟩) * Ideal.ofBits .f32 0x3DB504F3#32

/-- A head's output at one of its columns. -/
def head (q : Fin 512 → EReal) (kv : Fin 256 → Fin 1024 → EReal) (h : Fin 4) (d : Fin 128) : EReal :=
  ∑ k, soft (score q kv h) k * kv k ⟨512 + (h.val * 128 + d.val), by omega⟩

/-- The residual block: the row plus its heads' outputs through the second weight. -/
def outAt (x g : Fin 1024 → EReal) (wq : Fin 1024 → Fin 512 → EReal) (kv : Fin 256 → Fin 1024 → EReal) (wo : Fin 512 → EReal) (j : Fin 1024) : EReal :=
  x j + ∑ h : Fin 4, ∑ d : Fin 128, head (fun l => project x g (fun k => wq k l)) kv h d * wo ⟨h.val * 128 + d.val, by omega⟩

/-- A sum over the columns is a sum over the heads and each head's columns. -/
theorem sum_heads (f : Fin 512 → EReal) : ∑ l, f l = ∑ h : Fin 4, ∑ d : Fin 128, f ⟨h.val * 128 + d.val, by omega⟩ := by
  rw [← (finProdFinEquiv (m := 4) (n := 128)).sum_comp f, Fintype.sum_prod_type]
  refine Finset.sum_congr rfl fun h _ => Finset.sum_congr rfl fun d _ => congrArg f (Fin.ext ?_)
  show d.val + 128 * h.val = h.val * 128 + d.val
  omega

end Cert.Cross

end
-- ==== Proof.CrossRef.lean ====
module

public import proofs.«01_k».proof.Proof.Linear
public import proofs.«01_k».proof.Proof.CrossSpec
public import proofs.«01_k».proof.Proof.Gen.ReferenceCrossIdeal.Run

@[expose] public section

set_option maxRecDepth 16384

noncomputable section

namespace Cert.Cross

open Idealize.ShloMosaic Idealize.ShloMosaic.TcCoe Idealize.SL.Sem
open Cert.Real Cert.Linear
open Cert.ReferenceCrossIdeal Cert.ReferenceCrossIdeal.Gen Cert.ReferenceCrossIdeal.Value

/-! The reference's term cut into its steps, each read at an index. -/

/-- The queries: the normalised rows through the first weight. -/
def rQuery (arg0 : FVec Ideal S8x2048x1024 .f32) (arg1 : FVec Ideal S1024 .f32) (arg2 : FVec Ideal S1024x512 .f32) : FVec Ideal S8x2048x512 .f32 :=
  (Host.dotGeneral dot_S8x2048x1024_S1024x512_S8x2048x512_2_0_01_1_n_n none (mulf (mulf arg0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf arg0 arg0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 arg1))) arg2)

/-- The scaled scores of the four heads. -/
def rScore (arg3 : FVec Ideal S8x256x1024 .bf16) (v15 : FVec Ideal S8x2048x512 .f32) : FVec Ideal S8x4x2048x256 .f32 :=
  (mulf (Host.dotGeneral dot_S8x2048x4x128_S8x256x4x128_S8x4x2048x256_3_3_1_1_02_02 none (shapeCast S8x2048x4x128 v15 shapeCasts_S8x2048x512_S8x2048x4x128) (shapeCast S8x256x4x128 (extractStridedSlice S8x256x1x4x128 ![0, 0, 0, 0, 0] (shapeCast S8x256x2x4x128 (extf .f32 arg3 bitsLt_bf16_f32) shapeCasts_S8x256x1024_S8x256x2x4x128) slices_S8x256x2x4x128_S8x256x1x4x128_0_0_0_0_0) shapeCasts_S8x256x1x4x128_S8x256x4x128)) (broadcastInDim S8x4x2048x256 ![] bcast_S_S8x4x2048x256 (constant S_ .f32 0x3DB504F3#32)))

/-- The largest score of each row. -/
def rMax (v21 : FVec Ideal S8x4x2048x256 .f32) : FVec Ideal S8x4x2048 .f32 :=
  (Host.reduce FloatOps.maximumf v21 (constant S_ .f32 0xFF800000#32) reducesTo_S8x4x2048x256_S8x4x2048_d3 h_S_)

/-- The same, not below the least value. -/
def rTop (v22 : FVec Ideal S8x4x2048 .f32) : FVec Ideal S8x4x2048 .f32 :=
  (maximumf (broadcastInDim S8x4x2048 ![] bcast_S_S8x4x2048 (constant S_ .f32 0xFF800000#32)) v22)

/-- The exponentials of the shifted scores. -/
def rExp (v21 : FVec Ideal S8x4x2048x256 .f32) (v24 : FVec Ideal S8x4x2048 .f32) : FVec Ideal S8x4x2048x256 .f32 :=
  (Host.exp (subf v21 (broadcastInDim S8x4x2048x256 ![0, 1, 2, 3] bcast_S8x4x2048x1_S8x4x2048x256_0_1_2_3 (broadcastInDim S8x4x2048x1 ![0, 1, 2] bcast_S8x4x2048_S8x4x2048x1_0_1_2 v24))))

/-- Their sums along the memory. -/
def rSum (v28 : FVec Ideal S8x4x2048x256 .f32) : FVec Ideal S8x4x2048 .f32 :=
  (Host.reduceAdd v28 (constant S_ .f32 0x00000000#32) reducesTo_S8x4x2048x256_S8x4x2048_d3 h_S_)

/-- The softmax along the memory. -/
def rProb (v28 : FVec Ideal S8x4x2048x256 .f32) (v29 : FVec Ideal S8x4x2048 .f32) : FVec Ideal S8x4x2048x256 .f32 :=
  (Host.divf v28 (broadcastInDim S8x4x2048x256 ![0, 1, 2, 3] bcast_S8x4x2048x1_S8x4x2048x256_0_1_2_3 (broadcastInDim S8x4x2048x1 ![0, 1, 2] bcast_S8x4x2048_S8x4x2048x1_0_1_2 v29)))

/-- The heads' outputs. -/
def rHead (arg3 : FVec Ideal S8x256x1024 .bf16) (v32 : FVec Ideal S8x4x2048x256 .f32) : FVec Ideal S8x2048x4x128 .f32 :=
  (transpose S8x2048x4x128 [0, 3, 1, 2] (Host.dotGeneral dot_S8x256x4x128_S8x4x2048x256_S8x4x128x2048_1_3_3_2_02_01 none (shapeCast S8x256x4x128 (extractStridedSlice S8x256x1x4x128 ![0, 0, 1, 0, 0] (shapeCast S8x256x2x4x128 (extf .f32 arg3 bitsLt_bf16_f32) shapeCasts_S8x256x1024_S8x256x2x4x128) slices_S8x256x2x4x128_S8x256x1x4x128_0_0_1_0_0) shapeCasts_S8x256x1x4x128_S8x256x4x128) v32) transposes_S8x4x128x2048_S8x2048x4x128_0_3_1_2)

/-- The second weight and the residual. -/
def rOut (arg0 : FVec Ideal S8x2048x1024 .f32) (arg4 : FVec Ideal S512x1024 .f32) (v36 : FVec Ideal S8x2048x4x128 .f32) : FVec Ideal S8x2048x1024 .f32 :=
  (addf arg0 (Host.dotGeneral dot_S8x2048x512_S512x1024_S8x2048x1024_2_0_01_1_n_n none (shapeCast S8x2048x512 v36 shapeCasts_S8x2048x4x128_S8x2048x512) arg4))

/-- The reference's result is the steps one after the other. -/
theorem ref_eq_steps (m : (ℓ : Loc nD τ sig) → Buf (Elt Ideal) ℓ) (c : Dev nD) : res_out0 (F := Ideal) m c =
    (rOut (m ((c.tc : Thread nD τ).loc main_arg0)) (m ((c.tc : Thread nD τ).loc main_arg4)) (rHead (m ((c.tc : Thread nD τ).loc main_arg3)) (rProb (rExp (rScore (m ((c.tc : Thread nD τ).loc main_arg3)) (rQuery (m ((c.tc : Thread nD τ).loc main_arg0)) (m ((c.tc : Thread nD τ).loc main_arg1)) (m ((c.tc : Thread nD τ).loc main_arg2)))) (rTop (rMax (rScore (m ((c.tc : Thread nD τ).loc main_arg3)) (rQuery (m ((c.tc : Thread nD τ).loc main_arg0)) (m ((c.tc : Thread nD τ).loc main_arg1)) (m ((c.tc : Thread nD τ).loc main_arg2))))))) (rSum (rExp (rScore (m ((c.tc : Thread nD τ).loc main_arg3)) (rQuery (m ((c.tc : Thread nD τ).loc main_arg0)) (m ((c.tc : Thread nD τ).loc main_arg1)) (m ((c.tc : Thread nD τ).loc main_arg2)))) (rTop (rMax (rScore (m ((c.tc : Thread nD τ).loc main_arg3)) (rQuery (m ((c.tc : Thread nD τ).loc main_arg0)) (m ((c.tc : Thread nD τ).loc main_arg1)) (m ((c.tc : Thread nD τ).loc main_arg2))))))))))) := rfl

theorem rQuery_at (x : FVec Ideal S8x2048x1024 .f32) (g : FVec Ideal S1024 .f32) (w : FVec Ideal S1024x512 .f32) (b : Fin 8) (q : Fin 2048) (l : Fin 512) :
    rQuery x g w (ix3 b q l) = project (fun k => x (ix3 b q k)) (fun k => g (ix1 k)) (fun k => w (ix2 k l)) := by
  unfold project normed
  pointwise [rQuery]

theorem rScore_at (kv : FVec Ideal S8x256x1024 .bf16) (u : FVec Ideal S8x2048x512 .f32) (b : Fin 8) (h : Fin 4) (q : Fin 2048) (k : Fin 256) :
    rScore kv u (ix4 b h q k) = score (fun l => u (ix3 b q l)) (fun k l => kv (ix3 b k l)) h k := by
  unfold score
  pointwise [rScore]

theorem rMax_at (s : FVec Ideal S8x4x2048x256 .f32) (b : Fin 8) (h : Fin 4) (q : Fin 2048) :
    rMax s (ix3 b h q) = Finset.univ.fold max (Ideal.ofBits .f32 0xFF800000#32) (fun x => s (ix4 b h q x)) := by
  pointwise [rMax]

theorem rTop_at (s : FVec Ideal S8x4x2048 .f32) (b : Fin 8) (h : Fin 4) (q : Fin 2048) :
    rTop s (ix3 b h q) = max (Ideal.ofBits .f32 0xFF800000#32) (s (ix3 b h q)) := by
  pointwise [rTop]

theorem rExp_at (s : FVec Ideal S8x4x2048x256 .f32) (t : FVec Ideal S8x4x2048 .f32) (b : Fin 8) (h : Fin 4) (q : Fin 2048) (k : Fin 256) :
    rExp s t (ix4 b h q k) = Ideal.exp (s (ix4 b h q k) - t (ix3 b h q)) := by
  pointwise [rExp]

theorem rSum_at (s : FVec Ideal S8x4x2048x256 .f32) (b : Fin 8) (h : Fin 4) (q : Fin 2048) :
    rSum s (ix3 b h q) = ∑ x, s (ix4 b h q x) := by
  pointwise [rSum]

theorem rProb_at (s : FVec Ideal S8x4x2048x256 .f32) (t : FVec Ideal S8x4x2048 .f32) (b : Fin 8) (h : Fin 4) (q : Fin 2048) (k : Fin 256) :
    rProb s t (ix4 b h q k) = Ideal.div (s (ix4 b h q k)) (t (ix3 b h q)) := by
  pointwise [rProb]

/-- The four steps of the softmax together. -/
theorem prob_at (s : FVec Ideal S8x4x2048x256 .f32) (b : Fin 8) (h : Fin 4) (q : Fin 2048) (k : Fin 256) :
    rProb (rExp s (rTop (rMax s))) (rSum (rExp s (rTop (rMax s)))) (ix4 b h q k) = soft (fun x => s (ix4 b h q x)) k := by
  rw [rProb_at, rSum_at, rExp_at, rTop_at, rMax_at, max_fold]
  exact congrArg (Ideal.div _) (Finset.sum_congr rfl fun x _ => by rw [rExp_at, rTop_at, rMax_at, max_fold])

theorem rHead_at (kv : FVec Ideal S8x256x1024 .bf16) (p : FVec Ideal S8x4x2048x256 .f32) (b : Fin 8) (q : Fin 2048) (h : Fin 4) (d : Fin 128) :
    rHead kv p (ix4 b q h d) = ∑ k, p (ix4 b h q k) * kv (ix3 b k ⟨512 + (h.val * 128 + d.val), by omega⟩) := by
  pointwise [rHead]
  refine Finset.sum_congr rfl fun k _ => (mul_comm _ _).trans (congr rfl (congrArg (fun l => kv (ix3 b k l)) (Fin.ext ?_)))
  show 512 + h.val * 128 + d.val = 512 + (h.val * 128 + d.val)
  omega

theorem rOut_at (x : FVec Ideal S8x2048x1024 .f32) (w : FVec Ideal S512x1024 .f32) (u : FVec Ideal S8x2048x4x128 .f32) (b : Fin 8) (q : Fin 2048) (j : Fin 1024) :
    rOut x w u (ix3 b q j) = x (ix3 b q j) + ∑ h : Fin 4, ∑ d : Fin 128, u (ix4 b q h d) * w (ix2 ⟨h.val * 128 + d.val, by omega⟩ j) := by
  have e : rOut x w u (ix3 b q j) = x (ix3 b q j) + ∑ l : Fin 512, u (ix4 b q ⟨l.val / 128, by omega⟩ ⟨l.val % 128, by omega⟩) * w (ix2 l j) := by
    pointwise [rOut]
  rw [e, sum_heads]
  refine congrArg (HAdd.hAdd (x (ix3 b q j))) (Finset.sum_congr rfl fun h _ => Finset.sum_congr rfl fun d _ => ?_)
  have e1 : (h.val * 128 + d.val) / 128 = h.val := by omega
  have e2 : (h.val * 128 + d.val) % 128 = d.val := by omega
  exact congrArg (· * w (ix2 (⟨h.val * 128 + d.val, by omega⟩ : Fin 512) j))
    (congrArg₂ (fun a b' => u (ix4 b q a b')) (Fin.ext e1) (Fin.ext e2))

/-- The reference at an index. -/
theorem ref_at (m : (ℓ : Loc nD τ sig) → Buf (Elt Ideal) ℓ) (c : Dev nD) (b : Fin 8) (q : Fin 2048) (j : Fin 1024) :
    res_out0 (F := Ideal) m c (ix3 b q j)
      = outAt (fun k => m ((c.tc : Thread nD τ).loc main_arg0) (ix3 b q k)) (fun k => m ((c.tc : Thread nD τ).loc main_arg1) (ix1 k))
          (fun k l => m ((c.tc : Thread nD τ).loc main_arg2) (ix2 k l)) (fun k l => m ((c.tc : Thread nD τ).loc main_arg3) (ix3 b k l))
          (fun l => m ((c.tc : Thread nD τ).loc main_arg4) (ix2 l j)) j := by
  rw [ref_eq_steps, rOut_at]
  refine congrArg (HAdd.hAdd _) (Finset.sum_congr rfl fun h _ => Finset.sum_congr rfl fun d _ => ?_)
  rw [rHead_at]
  refine congrArg (· * _) (Finset.sum_congr rfl fun k _ => congrArg (· * _) ?_)
  rw [prob_at]
  refine congrArg (fun s => soft s k) ?_
  funext k'
  rw [rScore_at]
  refine congrArg (fun u => score u _ h k') ?_
  funext l
  rw [rQuery_at]

end Cert.Cross

end
-- ==== Proof.CrossBlock.lean ====
module

public import proofs.«01_k».proof.Proof.Linear
public import proofs.«01_k».proof.Proof.CrossSpec
public import proofs.«01_k».proof.Proof.Gen.KernelCrossIdeal.Value

@[expose] public section

set_option maxRecDepth 16384

noncomputable section

namespace Cert.Cross

open Idealize.ShloMosaic Idealize.ShloMosaic.TcCoe Idealize.SL.Sem
open Cert.Real Cert.Linear
open Cert.KernelCrossIdeal Cert.KernelCrossIdeal.Gen
open Idealize.ShloMosaic.Pipeline (Dat)

/-! What one grid point of the kernel computes. -/

theorem pay2_at (x : Vec Ideal S1x512x1024 .f32) (r : Fin 512) (j : Fin 1024) : k0_pay2 (F := Ideal) x (ix2 r j) = x (ix3 0 r j) := by
  pointwise [k0_pay2]

theorem pay3_at (x : Vec Ideal S1x512x1024 .f32) (g : Vec Ideal S1x1024 .f32) (w : Vec Ideal S1024x512 .bf16) (r : Fin 512) (l : Fin 512) :
    k0_pay3 (F := Ideal) x g w (ix2 r l) = project (fun k => x (ix3 0 r k)) (fun k => g (ix2 0 k)) (fun k => w (ix2 k l)) := by
  unfold project normed
  pointwise [k0_pay3, k0_pay2]

theorem pay4_at (kv : Vec Ideal S1x256x1024 .bf16) (k : Fin 256) (l : Fin 1024) : k0_pay4 (F := Ideal) kv (ix2 k l) = kv (ix3 0 k l) := by
  pointwise [k0_pay4]

theorem pay5_at (kv : Vec Ideal S1x256x1024 .bf16) (k : Fin 256) (d : Fin 128) :
    k0_pay5 (F := Ideal) kv (ix2 k d) = k0_pay4 (F := Ideal) kv (ix2 k ⟨512 + d.val, by omega⟩) := by
  pointwise [k0_pay5]

theorem pay6_at (x : Vec Ideal S1x512x1024 .f32) (g : Vec Ideal S1x1024 .f32) (w : Vec Ideal S1024x512 .bf16) (kv : Vec Ideal S1x256x1024 .bf16) (r : Fin 512) (k : Fin 256) :
    k0_pay6 (F := Ideal) x g w kv (ix2 r k)
      = soft (fun k => (∑ d : Fin 128, k0_pay3 (F := Ideal) x g w (ix2 r ⟨d.val, by omega⟩) * k0_pay4 (F := Ideal) kv (ix2 k ⟨d.val, by omega⟩)) * Ideal.ofBits .f32 0x3DB504F3#32) k := by
  unfold k0_pay6 soft
  generalize k0_pay3 (F := Ideal) x g w = u
  generalize k0_pay4 (F := Ideal) kv = v
  pointwise

theorem pay7_at (v : FVec Ideal S256x128 .bf16) (p : FVec Ideal S512x256 .bf16) (r : Fin 512) (d : Fin 128) :
    k0_pay7 (F := Ideal) v p (constant S512x128 .f32 0x00000000#32) (ix2 r d) = ∑ k, p (ix2 r k) * v (ix2 k d) := by
  pointwise [k0_pay7]

theorem pay8_at (u : FVec Ideal S512x512 .f32) (v : FVec Ideal S256x1024 .bf16) (r : Fin 512) (d : Fin 128) :
    k0_pay8 (F := Ideal) u v (ix2 r d)
      = ∑ k, soft (fun k => (∑ d : Fin 128, u (ix2 r ⟨128 + d.val, by omega⟩) * v (ix2 k ⟨128 + d.val, by omega⟩)) * Ideal.ofBits .f32 0x3DB504F3#32) k * v (ix2 k ⟨640 + d.val, by omega⟩) := by
  unfold soft
  pointwise [k0_pay8]

theorem pay9_at (u : FVec Ideal S512x512 .f32) (v : FVec Ideal S256x1024 .bf16) (r : Fin 512) (d : Fin 128) :
    k0_pay9 (F := Ideal) u v (ix2 r d)
      = ∑ k, soft (fun k => (∑ d : Fin 128, u (ix2 r ⟨256 + d.val, by omega⟩) * v (ix2 k ⟨256 + d.val, by omega⟩)) * Ideal.ofBits .f32 0x3DB504F3#32) k * v (ix2 k ⟨768 + d.val, by omega⟩) := by
  unfold soft
  pointwise [k0_pay9]

theorem pay10_at (v : FVec Ideal S256x1024 .bf16) (k : Fin 256) (d : Fin 128) : k0_pay10 (F := Ideal) v (ix2 k d) = v (ix2 k ⟨896 + d.val, by omega⟩) := by
  pointwise [k0_pay10]

theorem pay11_at (u : FVec Ideal S512x512 .f32) (v : FVec Ideal S256x1024 .bf16) (r : Fin 512) (k : Fin 256) :
    k0_pay11 (F := Ideal) u v (ix2 r k) = (∑ d : Fin 128, u (ix2 r ⟨384 + d.val, by omega⟩) * v (ix2 k ⟨384 + d.val, by omega⟩)) * Ideal.ofBits .f32 0x3DB504F3#32 := by
  pointwise [k0_pay11]

theorem pay12_at (u : FVec Ideal S512x512 .f32) (v : FVec Ideal S256x1024 .bf16) (r : Fin 512) (k : Fin 256) :
    k0_pay12 (F := Ideal) u v (ix2 r k) = Finset.univ.fold max (Ideal.ofBits .f32 0xFF800000#32) fun k => k0_pay11 (F := Ideal) u v (ix2 r k) := by
  unfold k0_pay12
  generalize k0_pay11 (F := Ideal) u v = s
  pointwise

/-- The four heads' columns side by side. -/
def beside (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem beside_0 (a b c d : FVec Ideal S512x128 .f32) (r : Fin 512) (e : Fin 128) : beside a b c d (ix2 r ⟨0 * 128 + e.val, by omega⟩) = a (ix2 r e) := by
  pointwise [beside]
theorem beside_1 (a b c d : FVec Ideal S512x128 .f32) (r : Fin 512) (e : Fin 128) : beside a b c d (ix2 r ⟨1 * 128 + e.val, by omega⟩) = b (ix2 r e) := by
  pointwise [beside]
theorem beside_2 (a b c d : FVec Ideal S512x128 .f32) (r : Fin 512) (e : Fin 128) : beside a b c d (ix2 r ⟨2 * 128 + e.val, by omega⟩) = c (ix2 r e) := by
  pointwise [beside]
  rw [dif_neg (by omega), dif_neg (by omega), dif_pos (by omega)]
  exact congrArg (fun l => c (ix2 r l)) (Fin.ext (by show 256 + e.val - 128 - 128 = e.val; omega))
theorem beside_3 (a b c d : FVec Ideal S512x128 .f32) (r : Fin 512) (e : Fin 128) : beside a b c d (ix2 r ⟨3 * 128 + e.val, by omega⟩) = d (ix2 r e) := by
  pointwise [beside]
  rw [dif_neg (by omega), dif_neg (by omega), dif_neg (by omega)]
  exact congrArg (fun l => d (ix2 r l)) (Fin.ext (by show 384 + e.val - 128 - 128 - 128 = e.val; omega))

/-- The last head, from its scores and their largest. -/
def last (s t : FVec Ideal S512x256 .f32) (v : FVec Ideal S256x128 .bf16) : FVec Ideal S512x128 .f32 := fun y =>
  ∑ k, Ideal.div (Ideal.exp (s (ix2 (y 0) k) - t (ix2 (y 0) k))) (∑ x, Ideal.exp (s (ix2 (y 0) x) - t (ix2 (y 0) x))) * v (ix2 k (y 1))

/-- A block's output through the second weight, heads side by side. -/
theorem pay1_at (x : FVec Ideal S512x1024 .f32) (a b c : FVec Ideal S512x128 .f32) (v : FVec Ideal S256x128 .bf16) (s t : FVec Ideal S512x256 .f32)
    (w : Vec Ideal S512x1024 .bf16) (r : Fin 512) (j : Fin 1024) :
    k0_pay1 (F := Ideal) x a b c v s t w (ix3 0 r j) = x (ix2 r j) + ∑ l : Fin 512, beside a b c (last s t v) (ix2 r l) * w (ix2 l j) := by
  have h : matmul dot_S512x256_S256x128_S512x128_1_0_0_1_n_n none
      (truncf .bf16 (divf (exp (subf s t)) (broadcastTo S512x256 (shapeCast S512x1 (multiReduction .add [1] S512 (exp (subf s t)) 0x00000000#32 reduces_S512x256_S512 (.inl rfl) rfl) shapeCasts_S512_S512x1) broadcasts_S512x1_S512x256)) bitsLt_bf16_f32)
      v (constant S512x128 .f32 0x00000000#32) = last s t v := by
    funext y
    refine (congrArg _ (eq_ix2 y)).trans ?_
    unfold last
    pointwise
  unfold k0_pay1
  rw [h]
  change _ = x (ix2 r j) + ∑ l : Fin 512, (concatenate S512x512 1 [⟨S512x128, a⟩, ⟨S512x128, b⟩, ⟨S512x128, c⟩, ⟨S512x128, last s t v⟩] concatenates_S512x128_S512x128_S512x128_S512x128_S512x512_d1) (ix2 r l) * w (ix2 l j)
  generalize concatenate S512x512 1 [⟨S512x128, a⟩, ⟨S512x128, b⟩, ⟨S512x128, c⟩, ⟨S512x128, last s t v⟩] concatenates_S512x128_S512x128_S512x128_S512x128_S512x512_d1 = u
  pointwise

/-- ONE BLOCK: 512 query rows against their batch's memory. -/
theorem block_at (x : Vec Ideal S1x512x1024 .f32) (g : Vec Ideal S1x1024 .f32) (wq : Vec Ideal S1024x512 .bf16) (kv : Vec Ideal S1x256x1024 .bf16) (wo : Vec Ideal S512x1024 .bf16)
    (r : Fin 512) (j : Fin 1024) :
    k0_pay1 (F := Ideal) (k0_pay2 x) (k0_pay7 (k0_pay5 kv) (k0_pay6 x g wq kv) (constant S512x128 .f32 0x00000000#32)) (k0_pay8 (k0_pay3 x g wq) (k0_pay4 kv))
        (k0_pay9 (k0_pay3 x g wq) (k0_pay4 kv)) (k0_pay10 (k0_pay4 kv)) (k0_pay11 (k0_pay3 x g wq) (k0_pay4 kv)) (k0_pay12 (k0_pay3 x g wq) (k0_pay4 kv)) wo (ix3 0 r j)
      = outAt (fun k => x (ix3 0 r k)) (fun k => g (ix2 0 k)) (fun k l => wq (ix2 k l)) (fun k l => kv (ix3 0 k l)) (fun l => wo (ix2 l j)) j := by
  rw [pay1_at, sum_heads, Fin.sum_univ_four, pay2_at]
  unfold outAt
  rw [Fin.sum_univ_four]
  refine congrArg (HAdd.hAdd _) (congr (congrArg HAdd.hAdd (congr (congrArg HAdd.hAdd (congr (congrArg HAdd.hAdd ?_) ?_)) ?_)) ?_)
  · refine Finset.sum_congr rfl fun d _ => congrArg (· * wo (ix2 (⟨0 * 128 + d.val, by omega⟩ : Fin 512) j)) ((beside_0 _ _ _ _ r d).trans ?_)
    rw [pay7_at]
    unfold head score
    refine Finset.sum_congr rfl fun k _ => ?_
    rw [pay6_at, pay5_at]
    simp only [pay3_at, pay4_at]
    congr 3 <;> simp
  · refine Finset.sum_congr rfl fun d _ => congrArg (· * wo (ix2 (⟨1 * 128 + d.val, by omega⟩ : Fin 512) j)) ((beside_1 _ _ _ _ r d).trans ?_)
    rw [pay8_at]
    unfold head score
    refine Finset.sum_congr rfl fun k _ => ?_
    simp only [pay3_at, pay4_at]
    refine congr rfl (congrArg (fun l => kv (ix3 0 k l)) (Fin.ext ?_))
    show 640 + d.val = 512 + (1 * 128 + d.val)
    omega
  · refine Finset.sum_congr rfl fun d _ => congrArg (· * wo (ix2 (⟨2 * 128 + d.val, by omega⟩ : Fin 512) j)) ((beside_2 _ _ _ _ r d).trans ?_)
    rw [pay9_at]
    unfold head score
    refine Finset.sum_congr rfl fun k _ => ?_
    simp only [pay3_at, pay4_at]
    refine congr rfl (congrArg (fun l => kv (ix3 0 k l)) (Fin.ext ?_))
    show 768 + d.val = 512 + (2 * 128 + d.val)
    omega
  · refine Finset.sum_congr rfl fun d _ => congrArg (· * wo (ix2 (⟨3 * 128 + d.val, by omega⟩ : Fin 512) j)) ((beside_3 _ _ _ _ r d).trans ?_)
    unfold last head score soft
    refine Finset.sum_congr rfl fun k _ => ?_
    change Ideal.div (Ideal.exp (k0_pay11 (F := Ideal) (k0_pay3 x g wq) (k0_pay4 kv) (ix2 r k) - k0_pay12 (F := Ideal) (k0_pay3 x g wq) (k0_pay4 kv) (ix2 r k)))
      (∑ x', Ideal.exp (k0_pay11 (F := Ideal) (k0_pay3 x g wq) (k0_pay4 kv) (ix2 r x') - k0_pay12 (F := Ideal) (k0_pay3 x g wq) (k0_pay4 kv) (ix2 r x'))) * k0_pay10 (F := Ideal) (k0_pay4 kv) (ix2 k d) = _
    simp only [pay12_at, pay11_at, pay10_at, pay3_at, pay4_at]
    refine congr rfl (congrArg (fun l => kv (ix3 0 k l)) (Fin.ext ?_))
    show 896 + d.val = 512 + (3 * 128 + d.val)
    omega

end Cert.Cross

end
-- ==== Proof.CrossClaim.lean ====
module

public import proofs.«01_k».proof.Defs
public import proofs.«01_k».proof.Proof.CrossRef
public import proofs.«01_k».proof.Proof.CrossBlock

@[expose] public section

set_option maxRecDepth 16384

noncomputable section

/-! The cross attention block: the kernel's blocks of 512 queries are the blocks of one array, and that array is the reference's. -/

namespace Cert.Cross

open Idealize.ShloMosaic Idealize.ShloMosaic.TcCoe Idealize.SL.Sem
open Cert.Linear
open Idealize.ShloMosaic.Pipeline (Dat)

section Launch

open Cert.KernelCrossIdeal Cert.KernelCrossIdeal.Gen

variable (m : (ℓ : Loc nD τ sig) → Buf (Elt Ideal) ℓ)

/-- The block each window holds at each grid point. -/
theorem idx : ∀ t : Fin cfg0.N, win0_0.index t = ![(grid0.coords t 0).val, (grid0.coords t 1).val, 0]
    ∧ win0_1.index t = ![0, 0] ∧ win0_2.index t = ![0, 0]
    ∧ win0_3.index t = ![(grid0.coords t 0).val, 0, 0] ∧ win0_4.index t = ![0, 0]
    ∧ win0_5.index t = ![(grid0.coords t 0).val, (grid0.coords t 1).val, 0] :=
  (by decide +kernel : ∀ t : Fin grid0.N, _)

/-- The result array after the run. -/
def result (c : Dev nD) : FVec Ideal S8x2048x1024 .f32 := fun y =>
  outAt (fun k => m ((c.tc : Thread nD τ).loc main_arg0) (ix3 (y 0) (y 1) k)) (fun k => m ((c.tc : Thread nD τ).loc main_arg1) (ix1 k))
    (fun k l => m ((c.tc : Thread nD τ).loc main_arg2) (ix2 k l)) (fun k l => m ((c.tc : Thread nD τ).loc main_arg3) (ix3 (y 0) k l))
    (fun l => m ((c.tc : Thread nD τ).loc main_arg4) (ix2 l (y 2))) (y 2)

theorem wq_at (c : Dev nD) (k : Fin 1024) (l : Fin 512) :
    V m c main_v0 (ix2 k l) = m ((c.tc : Thread nD τ).loc main_arg2) (ix2 k l) := by
  entry_read
  pointwise

theorem wo_at (c : Dev nD) (l : Fin 512) (j : Fin 1024) :
    V m c main_v1 (ix2 l j) = m ((c.tc : Thread nD τ).loc main_arg4) (ix2 l j) := by
  entry_read
  pointwise

theorem array_eq (c : Dev nD) : (dats m 0 c).arrAt 5 cfg0.N = result m c := by
  refine (dats m 0 c).arrAt_eq_of_covers 5 _ (by decide +kernel) fun t _ y => ?_
  blk_simp
  rw [after0_5]
  unfold out0_5 k0_pay14 k0_pay13
  frame_out
  have b0 : (grid0.coords t 0).val < 8 := (grid0.coords t 0).isLt
  have b1 : (grid0.coords t 1).val < 4 := (grid0.coords t 1).isLt
  obtain ⟨i0, i1, i2, i3, i4, i5⟩ := idx t
  have y0 : (y 0).val < 1 := (y 0).isLt
  have y1 : (y 1).val < 512 := (y 1).isLt
  have y2 : (y 2).val < 1024 := (y 2).isLt
  have hy : y = (ix3 (0 : Fin 1) (⟨(y 1).val, y1⟩ : Fin 512) (⟨(y 2).val, y2⟩ : Fin 1024) : S1x512x1024.Idx) := by blk_ext
  refine (congrArg _ hy).trans ((block_at _ _ _ _ _ _ _).trans ?_)
  unfold result
  refine congr (congr (congr (congr (congr (congrArg outAt ?_) ?_) ?_) ?_) ?_) ?_
  · funext k
    blk_ext [iblk, V, i0, i5]
  · funext k
    blk_point [iblk, V, i1]
  · funext k l
    refine Eq.trans ?_ (wq_at m c k l)
    blk_ext [iblk, i2]
  · funext k l
    blk_ext [iblk, V, i3, i5]
  · funext l
    refine Eq.trans ?_ (wo_at m c l _)
    blk_ext [iblk, i4, i5]
  · apply Fin.ext
    blk_simp [i5]
    try omega

end Launch

/-- The kernel's array is the reference's, whenever the two programs' arguments agree. -/
theorem result_eq (m : (ℓ : Loc Cert.KernelCrossIdeal.nD Cert.KernelCrossIdeal.τ Cert.KernelCrossIdeal.sig) → Buf (Elt Ideal) ℓ)
    (m' : (ℓ : Loc Cert.ReferenceCrossIdeal.nD Cert.ReferenceCrossIdeal.τ Cert.ReferenceCrossIdeal.sig) → Buf (Elt Ideal) ℓ) (c : Dev Cert.KernelCrossIdeal.nD)
    (h0 : m' ((c.tc : Thread Cert.ReferenceCrossIdeal.nD Cert.ReferenceCrossIdeal.τ).loc Cert.ReferenceCrossIdeal.main_arg0) = m ((c.tc : Thread Cert.KernelCrossIdeal.nD Cert.KernelCrossIdeal.τ).loc Cert.KernelCrossIdeal.main_arg0))
    (h1 : m' ((c.tc : Thread Cert.ReferenceCrossIdeal.nD Cert.ReferenceCrossIdeal.τ).loc Cert.ReferenceCrossIdeal.main_arg1) = m ((c.tc : Thread Cert.KernelCrossIdeal.nD Cert.KernelCrossIdeal.τ).loc Cert.KernelCrossIdeal.main_arg1))
    (h2 : m' ((c.tc : Thread Cert.ReferenceCrossIdeal.nD Cert.ReferenceCrossIdeal.τ).loc Cert.ReferenceCrossIdeal.main_arg2) = m ((c.tc : Thread Cert.KernelCrossIdeal.nD Cert.KernelCrossIdeal.τ).loc Cert.KernelCrossIdeal.main_arg2))
    (h3 : m' ((c.tc : Thread Cert.ReferenceCrossIdeal.nD Cert.ReferenceCrossIdeal.τ).loc Cert.ReferenceCrossIdeal.main_arg3) = m ((c.tc : Thread Cert.KernelCrossIdeal.nD Cert.KernelCrossIdeal.τ).loc Cert.KernelCrossIdeal.main_arg3))
    (h4 : m' ((c.tc : Thread Cert.ReferenceCrossIdeal.nD Cert.ReferenceCrossIdeal.τ).loc Cert.ReferenceCrossIdeal.main_arg4) = m ((c.tc : Thread Cert.KernelCrossIdeal.nD Cert.KernelCrossIdeal.τ).loc Cert.KernelCrossIdeal.main_arg4)) :
    Cert.ReferenceCrossIdeal.Value.res_out0 (F := Ideal) m' c = result m c := by
  funext y
  refine (congrArg _ (eq_ix3 y)).trans ((ref_at m' c (y 0) (y 1) (y 2)).trans ?_)
  rw [h0, h1, h2, h3, h4]
  rfl

/-- The kernel's value is the reference's. -/
theorem algebraic : Cert.algebraic_KernelCrossIdeal_ReferenceCrossIdeal := fun m g m' g' _ hagree =>
  ⟨fun c => result m c,
    (θ_run Cert.KernelCrossIdeal.defs _ _).mono (fun r h c => ⟨(h c).1.trans (array_eq m c), (h c).2⟩) (Cert.KernelCrossIdeal.Value.run_blocks m g),
    (θ_run Cert.ReferenceCrossIdeal.defs _ _).mono
      (fun r h c => ⟨(h c).1.trans (result_eq m m' c (hagree c).1 (hagree c).2.1 (hagree c).2.2.1 (hagree c).2.2.2.1 (hagree c).2.2.2.2), (h c).2⟩)
      (Cert.ReferenceCrossIdeal.Value.run (F := Ideal) m' g')⟩

/-- The reference terminates, keeps its arguments and leaves no counter raised. -/
theorem reference_frame : Cert.quiescent_ReferenceCrossIdeal := fun m g _ =>
  (θ_run Cert.ReferenceCrossIdeal.defs _ _).mono
    (fun r h => ⟨fun c => (h c).2, Idealize.ShloMosaic.sem_eq_zero_of_no_sems (by decide) r.2⟩)
    (Cert.ReferenceCrossIdeal.Value.run (F := Ideal) m g)

end Cert.Cross

end
-- ==== Proof.ExpertsRuns.lean ====
module

public import proofs.«01_k».proof.Proof.Gen.KernelExpertsIdeal.Launch
public import proofs.«01_k».proof.Proof.Gen.KernelExpertsIdeal.Skeleton
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Exec
public import Idealize.ShloMosaic.Lib.Affine
public import Idealize.ShloMosaic.Lib.Tactic
public import Idealize.ShloMosaic.PureOps.Ideal

/-!
The expert kernel's body at one grid point, in its three cases: a block in use whose expert differs from the
previous block's (the weights are rounded into the three scratches, then used), a block in use whose expert is the
previous one's (the scratches are used as they stand), and a block past the last one in use (zeros).
-/

@[expose] public section

set_option maxRecDepth 16384

noncomputable section

namespace Cert.Experts

open Cert.KernelExpertsIdeal Cert.KernelExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables and the three weight scratches, whole. -/
abbrev beM : Memref sig .tc .smem S160 .i32 := Memref.whole main_arg0
abbrev nuM : Memref sig .tc .smem S1 .i32 := Memref.whole main_arg1
abbrev gateM : Memref sig .tc .vmem S1024x512 .bf16 := Memref.whole cc0_scratch0
abbrev upM : Memref sig .tc .vmem S1024x512 .bf16 := Memref.whole cc0_scratch1
abbrev downM : Memref sig .tc .vmem S512x1024 .bf16 := Memref.whole cc0_scratch2

/-- The number of blocks in use, as the body reads it. -/
abbrev readUsed (T1 : S1.Idx → Elt Ideal .i32) : BitVec 32 :=
  View.readAt (Elt Ideal) nuM.view (Rect.unit (s := S1) ![0] S1.size inb_S1_S1_0).toLoadRect T1 (Shape.Idx.first (numel1_S1.symm ▸ Nat.one_pos))

/-- This block's expert, as the body reads it. -/
abbrev readHere (i : grid0.Coords) (T0 : S160.Idx → Elt Ideal .i32) : BitVec 32 :=
  View.readAt (Elt Ideal) beM.view (Rect.unit (s := S160) (k0_off1 i) S1.size (k0_off1_inb i)).toLoadRect T0 (Shape.Idx.first (numel1_S1.symm ▸ Nat.one_pos))

/-- The previous block's expert, as the body reads it. -/
abbrev readPrev (i : grid0.Coords) (T0 : S160.Idx → Elt Ideal .i32) : BitVec 32 :=
  View.readAt (Elt Ideal) beM.view (Rect.unit (s := S160) (k0_off2 i) S1.size (k0_off2_inb i)).toLoadRect T0 (Shape.Idx.first (numel1_S1.symm ▸ Nat.one_pos))

/-- The body's test for rounding new weights. -/
abbrev loads (i : grid0.Coords) (T0 : S160.Idx → Elt Ideal .i32) (T1 : S1.Idx → Elt Ideal .i32) : BitVec 1 :=
  Scalar.cmpi .ne (Scalar.extui (Scalar.andi (Scalar.cmpi .slt (BitVec.ofNat 32 (i 0).val) (readUsed T1))
    (Scalar.ori (Scalar.cmpi .eq (BitVec.ofNat 32 (i 0).val) 0#32) (Scalar.cmpi .ne (readHere i T0) (readPrev i T0))))) 0#32

set_option maxHeartbeats 8000000 in
/-- A block in use with another expert than the block before: the weights go rounded into the scratches, the block's
    rows through them. -/
theorem run_load (c : Dev nD) (i : grid0.Coords) (arg3 : Memref sig .tc .vmem S256x512 .i32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T0 : S160.Idx → Elt Ideal .i32) (T1 : S1.Idx → Elt Ideal .i32)
    (x0 : S256x512.Idx → Elt Ideal .i32) (x1 x2 : S1x1024x512.Idx → Elt Ideal .f32) (x3 : S1x512x1024.Idx → Elt Ideal .f32)
    (hl : loads i T0 T1 = 1#1) (hu : k0_cond2 i (readUsed T1) = 1#1) (hn : ¬ k0_cond3 i (readUsed T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (beM.view.loc (c : Thread nD τ) ↦{fullShare.right} T0)
      ∗ (nuM.view.loc (c : Thread nD τ) ↦{fullShare.right} T1)
      ∗ (∃ d, owns (c : Thread nD τ) arg7 fullShare d)
      ∗ (∃ a, gateM.view.loc (c : Thread nD τ) ↦{fullShare} a)
      ∗ (∃ a, upM.view.loc (c : Thread nD τ) ↦{fullShare} a)
      ∗ (∃ a, downM.view.loc (c : Thread nD τ) ↦{fullShare} a)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (beM.view.loc (c : Thread nD τ) ↦{fullShare.right} T0)
          ∗ (nuM.view.loc (c : Thread nD τ) ↦{fullShare.right} T1)
          ∗ owns (c : Thread nD τ) arg7 fullShare (k0_pay4 x0 (k0_pay1 x1) (k0_pay2 x2) (k0_pay3 x3))
          ∗ (∃ a, ⌜gateM.view.read (Elt Ideal) a = k0_pay1 x1⌝ ∗ (gateM.view.loc (c : Thread nD τ) ↦{fullShare} a))
          ∗ (∃ a, ⌜upM.view.read (Elt Ideal) a = k0_pay2 x2⌝ ∗ (upM.view.loc (c : Thread nD τ) ↦{fullShare} a))
          ∗ (∃ a, ⌜downM.view.read (Elt Ideal) a = k0_pay3 x3⌝ ∗ (downM.view.loc (c : Thread nD τ) ↦{fullShare} a))) -∗ K ⟨⟩))
      ⊢ wp frame (wpE (defs₀ (F := Ideal)) Variants.none c none) Set.univ
          (cc0_moe_experts i beM (Memref.isWhole_whole _) nuM (Memref.isWhole_whole _) arg3 harg3 arg4 harg4 arg5 harg5 arg6 harg6 arg7 harg7
            gateM (Memref.isWhole_whole _) upM (Memref.isWhole_whole _) downM (Memref.isWhole_whole _)) K := by
  unfold owns
  rw [cc0_moe_experts_eq_skeleton]; unfold cc0_moe_experts_skel
  iintro ⟨H0, H1, H2, H3, HT0, HT1, ⟨%d4, %f4, -, HO4⟩, ⟨%a0, HS0⟩, ⟨%a1, HS1⟩, ⟨%a2, HS2⟩, Hk⟩
  have hS0 : gateM.IsWhole := Memref.isWhole_whole _
  have hS1 : upM.IsWhole := Memref.isWhole_whole _
  have hS2 : downM.IsWhole := Memref.isWhole_whole _
  have hT0 : beM.IsWhole := Memref.isWhole_whole _
  have hT1 : nuM.IsWhole := Memref.isWhole_whole _
  sl_exec! (disch := first | exact hl | exact hu | exact hn)
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold run_load.sl.HO4_1
      rw [View.read_writes_full, View.readAt_rep_full]
      unfold run_load.sl.v28 run_load.sl.v30 run_load.sl.v40 run_load.sl.HS0_1 run_load.sl.HS1_1 run_load.sl.HS2_1
      exact congr (congr (congrArg (k0_pay4 x0)
        ((View.readCov_full _ _ _ _ _).trans (congrArg k0_pay1 (View.readAt_rep_full _ _ _))))
        ((View.readCov_full _ _ _ _ _).trans (congrArg k0_pay2 (View.readAt_rep_full _ _ _))))
        ((View.readCov_full _ _ _ _ _).trans (congrArg k0_pay3 (View.readAt_rep_full _ _ _)))
  isplitl [HS0]
  · iexists _; isplitr; swap
    · iexact HS0
    · ipureintro
      unfold run_load.sl.HS0_1
      rw [View.read_writes_full]
      exact congrArg k0_pay1 (View.readAt_rep_full _ _ _)
  isplitl [HS1]
  · iexists _; isplitr; swap
    · iexact HS1
    · ipureintro
      unfold run_load.sl.HS1_1
      rw [View.read_writes_full]
      exact congrArg k0_pay2 (View.readAt_rep_full _ _ _)
  iexists _; isplitr; swap
  · iexact HS2
  · ipureintro
    unfold run_load.sl.HS2_1
    rw [View.read_writes_full]
    exact congrArg k0_pay3 (View.readAt_rep_full _ _ _)

set_option maxHeartbeats 8000000 in
/-- A block in use with the expert of the block before: its rows through the weights the scratches hold. -/
theorem run_keep (c : Dev nD) (i : grid0.Coords) (arg3 : Memref sig .tc .vmem S256x512 .i32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T0 : S160.Idx → Elt Ideal .i32) (T1 : S1.Idx → Elt Ideal .i32)
    (x0 : S256x512.Idx → Elt Ideal .i32) (x1 x2 : S1x1024x512.Idx → Elt Ideal .f32) (x3 : S1x512x1024.Idx → Elt Ideal .f32)
    (a0 : Buf (Elt Ideal) (View.loc (c : Thread nD τ) gateM.view)) (a1 : Buf (Elt Ideal) (View.loc (c : Thread nD τ) upM.view)) (a2 : Buf (Elt Ideal) (View.loc (c : Thread nD τ) downM.view))
    (g u : S1024x512.Idx → Elt Ideal .bf16) (w : S512x1024.Idx → Elt Ideal .bf16)
    (hg : gateM.view.read (Elt Ideal) a0 = g) (hup : upM.view.read (Elt Ideal) a1 = u) (hd : downM.view.read (Elt Ideal) a2 = w)
    (hl : ¬ loads i T0 T1 = 1#1) (hu : k0_cond2 i (readUsed T1) = 1#1) (hn : ¬ k0_cond3 i (readUsed T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (beM.view.loc (c : Thread nD τ) ↦{fullShare.right} T0)
      ∗ (nuM.view.loc (c : Thread nD τ) ↦{fullShare.right} T1)
      ∗ (∃ d, owns (c : Thread nD τ) arg7 fullShare d)
      ∗ (gateM.view.loc (c : Thread nD τ) ↦{fullShare} a0)
      ∗ (upM.view.loc (c : Thread nD τ) ↦{fullShare} a1)
      ∗ (downM.view.loc (c : Thread nD τ) ↦{fullShare} a2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (beM.view.loc (c : Thread nD τ) ↦{fullShare.right} T0)
          ∗ (nuM.view.loc (c : Thread nD τ) ↦{fullShare.right} T1)
          ∗ owns (c : Thread nD τ) arg7 fullShare (k0_pay4 x0 g u w)
          ∗ (gateM.view.loc (c : Thread nD τ) ↦{fullShare} a0)
          ∗ (upM.view.loc (c : Thread nD τ) ↦{fullShare} a1)
          ∗ (downM.view.loc (c : Thread nD τ) ↦{fullShare} a2)) -∗ K ⟨⟩))
      ⊢ wp frame (wpE (defs₀ (F := Ideal)) Variants.none c none) Set.univ
          (cc0_moe_experts i beM (Memref.isWhole_whole _) nuM (Memref.isWhole_whole _) arg3 harg3 arg4 harg4 arg5 harg5 arg6 harg6 arg7 harg7
            gateM (Memref.isWhole_whole _) upM (Memref.isWhole_whole _) downM (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : gateM.IsWhole := Memref.isWhole_whole _
  have hS1 : upM.IsWhole := Memref.isWhole_whole _
  have hS2 : downM.IsWhole := Memref.isWhole_whole _
  have hT0 : beM.IsWhole := Memref.isWhole_whole _
  have hT1 : nuM.IsWhole := Memref.isWhole_whole _
  sl_exec! (disch := first | exact hl | exact hu | exact hn)
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold run_keep.sl.HO4_1
      rw [View.read_writes_full, View.readAt_rep_full]
      subst hg hup hd
      exact congr (congr (congrArg (k0_pay4 x0) (View.readAt_full _ _ _)) (View.readAt_full _ _ _)) (View.readAt_full _ _ _)
  isplitl [HS0]; · iexact HS0
  isplitl [HS1]; · iexact HS1
  iexact HS2

set_option maxHeartbeats 8000000 in
/-- A block past the last one in use: zeros. -/
theorem run_rest (c : Dev nD) (i : grid0.Coords) (arg3 : Memref sig .tc .vmem S256x512 .i32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T0 : S160.Idx → Elt Ideal .i32) (T1 : S1.Idx → Elt Ideal .i32)
    (x0 : S256x512.Idx → Elt Ideal .i32) (x1 x2 : S1x1024x512.Idx → Elt Ideal .f32) (x3 : S1x512x1024.Idx → Elt Ideal .f32)
    (a0 : Buf (Elt Ideal) (View.loc (c : Thread nD τ) gateM.view)) (a1 : Buf (Elt Ideal) (View.loc (c : Thread nD τ) upM.view)) (a2 : Buf (Elt Ideal) (View.loc (c : Thread nD τ) downM.view))
    (hl : ¬ loads i T0 T1 = 1#1) (hu : ¬ k0_cond2 i (readUsed T1) = 1#1) (hn : k0_cond3 i (readUsed T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (beM.view.loc (c : Thread nD τ) ↦{fullShare.right} T0)
      ∗ (nuM.view.loc (c : Thread nD τ) ↦{fullShare.right} T1)
      ∗ (∃ d, owns (c : Thread nD τ) arg7 fullShare d)
      ∗ (gateM.view.loc (c : Thread nD τ) ↦{fullShare} a0)
      ∗ (upM.view.loc (c : Thread nD τ) ↦{fullShare} a1)
      ∗ (downM.view.loc (c : Thread nD τ) ↦{fullShare} a2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (beM.view.loc (c : Thread nD τ) ↦{fullShare.right} T0)
          ∗ (nuM.view.loc (c : Thread nD τ) ↦{fullShare.right} T1)
          ∗ owns (c : Thread nD τ) arg7 fullShare (k0_pay5 (F := Ideal))
          ∗ (gateM.view.loc (c : Thread nD τ) ↦{fullShare} a0)
          ∗ (upM.view.loc (c : Thread nD τ) ↦{fullShare} a1)
          ∗ (downM.view.loc (c : Thread nD τ) ↦{fullShare} a2)) -∗ K ⟨⟩))
      ⊢ wp frame (wpE (defs₀ (F := Ideal)) Variants.none c none) Set.univ
          (cc0_moe_experts i beM (Memref.isWhole_whole _) nuM (Memref.isWhole_whole _) arg3 harg3 arg4 harg4 arg5 harg5 arg6 harg6 arg7 harg7
            gateM (Memref.isWhole_whole _) upM (Memref.isWhole_whole _) downM (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : gateM.IsWhole := Memref.isWhole_whole _
  have hS1 : upM.IsWhole := Memref.isWhole_whole _
  have hS2 : downM.IsWhole := Memref.isWhole_whole _
  have hT0 : beM.IsWhole := Memref.isWhole_whole _
  have hT1 : nuM.IsWhole := Memref.isWhole_whole _
  sl_exec! (disch := first | exact hl | exact hu | exact hn)
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      exact View.read_writes_full _ _ _ _ _
  isplitl [HS0]; · iexact HS0
  isplitl [HS1]; · iexact HS1
  iexact HS2

end Cert.Experts

end
-- ==== Proof.ExpertsPoint.lean ====
module

public import proofs.«01_k».proof.Proof.ExpertsRuns
public import Idealize.ShloMosaic.Lib.Pipeline.Quiescent
public import Idealize.ShloMosaic.Lib.Pipeline.TableIdle
public import Idealize.ShloMosaic.Lib.Ring
public import Idealize.ShloMosaic.Lib.Pointwise.Index
public import Idealize.ShloMosaic.Adequacy
public import Idealize.ShloMosaic.Init

/-!
The grid points of the expert kernel at any admissible tables: which of the three cases a point is in, and which
blocks it sees.
-/

@[expose] public section

set_option maxRecDepth 16384

noncomputable section

namespace Cert.Experts

open Cert.KernelExpertsIdeal Cert.KernelExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The words a point reads -/

/-- The number of blocks in use. -/
theorem readUsed_eq (T1 : S1.Idx → Elt Ideal .i32) : readUsed T1 = T1 (ix1 (0 : Fin 1)) :=
  congrArg T1 (funext fun a => Fin.ext (by fin_cases a; rfl))

/-- The expert of the block at a point. -/
theorem readHere_eq (i : grid0.Coords) (T0 : S160.Idx → Elt Ideal .i32) : readHere i T0 = T0 (ix1 (⟨(i 0).val, (i 0).isLt⟩ : Fin 160)) :=
  congrArg T0 (funext fun a => Fin.ext (by
    fin_cases a
    show k0_off1 i 0 + 1 * 0 = (i 0).val
    rw [k0_off1_eq]; rfl))

/-- The previous block, the first block being its own. -/
theorem off2_eq : ∀ i : grid0.Coords, k0_off2 i = ![(i 0).val - 1] := by
  decide +kernel

/-- The expert of the block before. -/
theorem readPrev_eq (i : grid0.Coords) (T0 : S160.Idx → Elt Ideal .i32) :
    readPrev i T0 = T0 (ix1 (⟨(i 0).val - 1, Nat.lt_of_le_of_lt (Nat.sub_le _ _) (i 0).isLt⟩ : Fin 160)) :=
  congrArg T0 (funext fun a => Fin.ext (by
    fin_cases a
    show k0_off2 i 0 + 1 * 0 = (i 0).val - 1
    rw [off2_eq]; rfl))

/-! ## The three cases -/

/-- Whether a block is in use. -/
def inUse (n : ℕ) (v : BitVec 32) : Prop := (n : ℤ) < v.toInt

theorem word_eq (b : BitVec 1) : Scalar.cmpi .ne (Scalar.extui b) 0#32 = 1#1 ↔ b = 1#1 :=
  (by decide : ∀ b : BitVec 1, Scalar.cmpi .ne (Scalar.extui b) 0#32 = 1#1 ↔ b = 1#1) b

theorem slt_eq (n : ℕ) (hn : n < 160) (v : BitVec 32) : Scalar.cmpi .slt (BitVec.ofNat 32 n) v = 1#1 ↔ inUse n v := by
  unfold inUse
  have e : (BitVec.ofNat 32 n).toInt = (n : ℤ) := by
    rw [BitVec.toInt_ofNat', Int.bmod_eq_of_le (by omega) (by omega)]
  show BitVec.ofBool ((BitVec.ofNat 32 n).slt v) = 1#1 ↔ _
  rw [BitVec.slt, e]
  by_cases h : (n : ℤ) < v.toInt
  · simp [h]
  · simp [h]

theorem cond2_iff (i : grid0.Coords) (v : BitVec 32) : k0_cond2 i v = 1#1 ↔ inUse (i 0).val v :=
  (word_eq _).trans (slt_eq _ (i 0).isLt v)

theorem cond3_iff (i : grid0.Coords) (v : BitVec 32) : k0_cond3 i v = 1#1 ↔ ¬ inUse (i 0).val v := by
  rw [← slt_eq _ (i 0).isLt v]
  refine (word_eq _).trans ?_
  generalize Scalar.cmpi .slt (BitVec.ofNat 32 (i 0).val) v = b
  exact (by decide : ∀ b : BitVec 1, Scalar.xori b 1#1 = 1#1 ↔ ¬ b = 1#1) b

theorem loads_iff (i : grid0.Coords) (T0 : S160.Idx → Elt Ideal .i32) (T1 : S1.Idx → Elt Ideal .i32) :
    loads i T0 T1 = 1#1 ↔ inUse (i 0).val (readUsed T1) ∧ ((i 0).val = 0 ∨ readHere i T0 ≠ readPrev i T0) := by
  have hz : Scalar.cmpi .eq (BitVec.ofNat 32 (i 0).val) 0#32 = 1#1 ↔ (i 0).val = 0 :=
    (by decide +kernel : ∀ n : Fin 160, Scalar.cmpi .eq (BitVec.ofNat 32 n.val) 0#32 = 1#1 ↔ n.val = 0) (i 0)
  have hd : Scalar.cmpi .ne (readHere i T0) (readPrev i T0) = 1#1 ↔ readHere i T0 ≠ readPrev i T0 := by
    show BitVec.ofBool (readHere i T0 != readPrev i T0) = 1#1 ↔ _
    by_cases h : readHere i T0 = readPrev i T0
    · simp [h]
    · simp only [bne, beq_eq_false_iff_ne.2 h]; simpa using h
  rw [← slt_eq _ (i 0).isLt, ← hz, ← hd]
  refine (word_eq _).trans ?_
  generalize Scalar.cmpi .slt (BitVec.ofNat 32 (i 0).val) (readUsed T1) = b
  generalize Scalar.cmpi .eq (BitVec.ofNat 32 (i 0).val) 0#32 = b'
  generalize Scalar.cmpi .ne (readHere i T0) (readPrev i T0) = b''
  exact (by decide : ∀ b b' b'' : BitVec 1, Scalar.andi b (Scalar.ori b' b'') = 1#1 ↔ b = 1#1 ∧ (b' = 1#1 ∨ b'' = 1#1)) b b' b''

/-! ## The pipeline at given tables -/

variable (a : (pcfg0 (F := Ideal)).Adm)
variable (m : (ℓ : Loc nD τ sig) → Buf (Elt Ideal) ℓ) (ρ : Dev nD → PrngReg)

/-- The pipeline at the tables. -/
abbrev cfgE : Pipeline.Cfg sig Λ₀ := cfg0 (F := Ideal) a
abbrev pcs : Fin 1 → Pipeline.Cfg sig Λ₀ := Pipeline.pin (pcfgs (F := Ideal)) fun _ => a

/-- A point's coordinates. -/
abbrev crd (t : Fin (cfgE a).N) : grid0.Coords := (cfgE a).grid.coords t

theorem crd_val (t : Fin (cfgE a).N) : (crd a t 0).val = t.val :=
  (by decide +kernel : ∀ t : Fin grid0.N, (grid0.coords t 0).val = t.val) t

/-- The experts' table and the count. -/
abbrev bes : S160.Idx → Elt Ideal .i32 := a.1 0
abbrev used : S1.Idx → Elt Ideal .i32 := a.1 1

/-- A window's block at a point, read off its array at launch. -/
def iblk (c : Dev nD) (w : Fin (cfgE a).W) (t : Fin (cfgE a).N) : (((cfgE a).win w).xblock ((cfgE a).grid.coords t)).Idx → Elt Ideal ((cfgE a).win w).elt :=
  (((cfgE a).win w).blk t).view.read (Elt Ideal) ((s₀ m ρ).mem (((cfgE a).win w).arr.view.loc (c : Thread nD τ)))

/-- The packed rows of a point, and the weights of its expert. -/
abbrev rows (c : Dev nD) (t : Fin (cfgE a).N) : S256x512.Idx → Elt Ideal .i32 := iblk a m ρ c (0 : Fin 5) t
abbrev gate (c : Dev nD) (t : Fin (cfgE a).N) : S1x1024x512.Idx → Elt Ideal .f32 := iblk a m ρ c (1 : Fin 5) t
abbrev up (c : Dev nD) (t : Fin (cfgE a).N) : S1x1024x512.Idx → Elt Ideal .f32 := iblk a m ρ c (2 : Fin 5) t
abbrev down (c : Dev nD) (t : Fin (cfgE a).N) : S1x512x1024.Idx → Elt Ideal .f32 := iblk a m ρ c (3 : Fin 5) t

/-- The weights' windows follow the table. -/
theorem index1 (t : Fin (cfgE a).N) : ((cfgE a).win (1 : Fin 5)).index t = ![(readHere (crd a t) (bes a)).toNat, 0, 0] := rfl
theorem index2 (t : Fin (cfgE a).N) : ((cfgE a).win (2 : Fin 5)).index t = ![(readHere (crd a t) (bes a)).toNat, 0, 0] := rfl
theorem index3 (t : Fin (cfgE a).N) : ((cfgE a).win (3 : Fin 5)).index t = ![(readHere (crd a t) (bes a)).toNat, 0, 0] := rfl

/-- Two points of one expert see the same weights. -/
theorem gate_congr (c : Dev nD) (t t' : Fin (cfgE a).N) (h : readHere (crd a t) (bes a) = readHere (crd a t') (bes a)) :
    gate a m ρ c t = gate a m ρ c t' := by
  have e : ((cfgE a).win (1 : Fin 5)).index t = ((cfgE a).win (1 : Fin 5)).index t' := by rw [index1, index1, h]
  funext y
  exact congrArg ((s₀ m ρ).mem ((c : Thread nD τ).loc main_arg3)) (funext fun b => Fin.ext
    (congrArg (fun f : Fin 3 → ℕ => f b * S1x1024x512.size b + 1 * (y b).val) e))
theorem up_congr (c : Dev nD) (t t' : Fin (cfgE a).N) (h : readHere (crd a t) (bes a) = readHere (crd a t') (bes a)) :
    up a m ρ c t = up a m ρ c t' := by
  have e : ((cfgE a).win (2 : Fin 5)).index t = ((cfgE a).win (2 : Fin 5)).index t' := by rw [index2, index2, h]
  funext y
  exact congrArg ((s₀ m ρ).mem ((c : Thread nD τ).loc main_arg4)) (funext fun b => Fin.ext
    (congrArg (fun f : Fin 3 → ℕ => f b * S1x1024x512.size b + 1 * (y b).val) e))
theorem down_congr (c : Dev nD) (t t' : Fin (cfgE a).N) (h : readHere (crd a t) (bes a) = readHere (crd a t') (bes a)) :
    down a m ρ c t = down a m ρ c t' := by
  have e : ((cfgE a).win (3 : Fin 5)).index t = ((cfgE a).win (3 : Fin 5)).index t' := by rw [index3, index3, h]
  funext y
  exact congrArg ((s₀ m ρ).mem ((c : Thread nD τ).loc main_arg5)) (funext fun b => Fin.ext
    (congrArg (fun f : Fin 3 → ℕ => f b * S1x512x1024.size b + 1 * (y b).val) e))

/-- The expert read as the block before's is the one the point before reads as its own. -/
theorem prev_here (t t' : Fin (cfgE a).N) (h : t'.val + 1 = t.val) : readPrev (crd a t) (bes a) = readHere (crd a t') (bes a) := by
  rw [readPrev_eq, readHere_eq]
  refine congrArg (fun n : Fin 160 => bes a (ix1 n)) (Fin.ext ?_)
  show (crd a t 0).val - 1 = (crd a t' 0).val
  rw [crd_val, crd_val, ← h]; rfl

/-- The result's window is written at every point. -/
theorem idle4 (i : grid0.Coords) : (cfgE a).idle (4 : Fin 5) i = false := by
  show (!(k0_cond2 i (a.1.atD 1 ![0]) == 1#1) && !(k0_cond3 i (a.1.atD 1 ![0]) == 1#1)) = false
  generalize a.1.atD 1 ![0] = v
  by_cases h : inUse (i 0).val v
  · rw [(cond2_iff i v).2 h]; rfl
  · rw [(cond3_iff i v).2 h]; simp

end Cert.Experts

end
-- ==== Proof.ExpertsFrame.lean ====
module

public import proofs.«01_k».proof.Proof.ExpertsPoint

/-!
The expert kernel's run: at every point the scratches hold the rounded weights of the expert last loaded, which are
the point's own whenever it uses them.
-/

@[expose] public section

set_option maxRecDepth 16384
set_option Elab.async false

noncomputable section

namespace Cert.Experts

open Cert.KernelExpertsIdeal Cert.KernelExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (a : (pcfg0 (F := Ideal)).Adm)
variable (m : (ℓ : Loc nD τ sig) → Buf (Elt Ideal) ℓ) (ρ : Dev nD → PrngReg)

open Classical in
/-- What a point leaves of the result: its rows through its expert, or zeros past the last block in use. -/
def outBlock (c : Dev nD) (t : Fin (cfgE a).N) : S256x1024.Idx → Elt Ideal .f32 :=
  if inUse t.val (readUsed (used a)) then
    k0_pay4 (rows a m ρ c t) (k0_pay1 (gate a m ρ c t)) (k0_pay2 (up a m ρ c t)) (k0_pay3 (down a m ρ c t))
  else k0_pay5 (F := Ideal)

/-- What the scratches hold before position `n`: the rounded weights of the point before, if it was in use. -/
def Held (c : Dev nD) (n : ℕ) (g u : S1024x512.Idx → Elt Ideal .bf16) (w : S512x1024.Idx → Elt Ideal .bf16) : Prop :=
  ∀ t : Fin (cfgE a).N, t.val + 1 = n → inUse t.val (readUsed (used a)) →
    g = k0_pay1 (gate a m ρ c t) ∧ u = k0_pay2 (up a m ρ c t) ∧ w = k0_pay3 (down a m ρ c t)

/-- The invariant before a point. -/
def Phi (c : Dev nD) (t : Fin ((cfgE a).N + 1)) : sProp 𝕄 :=
  iprop(∃ a0 a1 a2, ⌜Held a m ρ c t.val (gateM.view.read (Elt Ideal) a0) (upM.view.read (Elt Ideal) a1) (downM.view.read (Elt Ideal) a2)⌝
    ∗ (gateM.view.loc (c : Thread nD τ) ↦{fullShare} a0) ∗ (upM.view.loc (c : Thread nD τ) ↦{fullShare} a1) ∗ (downM.view.loc (c : Thread nD τ) ↦{fullShare} a2)
    ∗ (beM.view.loc (c : Thread nD τ) ↦{fullShare.right} bes a) ∗ (nuM.view.loc (c : Thread nD τ) ↦{fullShare.right} used a))

/-- The proof data of the pipeline on a core. -/
def dats (_ : Fin 1) (c : Dev nD) : Dat τ (Elt Ideal) Unit ℕ (UR sig nD τ) ℕ (cfgE a) c where
  A w := (s₀ m ρ).mem (((cfgE a).win w).arr.view.loc (c : Thread nD τ))
  after w t := match w with
    | ⟨0, _⟩ => rows a m ρ c t
    | ⟨1, _⟩ => gate a m ρ c t
    | ⟨2, _⟩ => up a m ρ c t
    | ⟨3, _⟩ => down a m ρ c t
    | ⟨4, _⟩ => outBlock a m ρ c t
  Φ t := Phi a m ρ c t
  q _ := fullShare
  owed _ := 0

theorem after_0 (c : Dev nD) (t : Fin (cfgE a).N) : (dats a m ρ 0 c).after (0 : Fin 5) t = rows a m ρ c t := rfl
theorem after_1 (c : Dev nD) (t : Fin (cfgE a).N) : (dats a m ρ 0 c).after (1 : Fin 5) t = gate a m ρ c t := rfl
theorem after_2 (c : Dev nD) (t : Fin (cfgE a).N) : (dats a m ρ 0 c).after (2 : Fin 5) t = up a m ρ c t := rfl
theorem after_3 (c : Dev nD) (t : Fin (cfgE a).N) : (dats a m ρ 0 c).after (3 : Fin 5) t = down a m ρ c t := rfl
theorem after_4 (c : Dev nD) (t : Fin (cfgE a).N) : (dats a m ρ 0 c).after (4 : Fin 5) t = outBlock a m ρ c t := rfl

/-- An input's staging buffer holds the point's block. -/
theorem before_0 (c : Dev nD) (t : Fin (cfgE a).N) (d) : (dats a m ρ 0 c).before (0 : Fin 5) t d = rows a m ρ c t :=
  ((dats a m ρ 0 c).before_in_eq_fetched (0 : Fin 5) rfl (fun _ => rfl) (fun _ _ _ => rfl) (fun t => by rw [after_0]; unfold Dat.blockOf rows iblk; rfl) t d).trans
    (by unfold Dat.fetched Dat.blockOf rows iblk; rfl)
theorem before_1 (c : Dev nD) (t : Fin (cfgE a).N) (d) : (dats a m ρ 0 c).before (1 : Fin 5) t d = gate a m ρ c t :=
  ((dats a m ρ 0 c).before_in_eq_fetched (1 : Fin 5) rfl (fun _ => rfl) (fun _ _ _ => rfl) (fun t => by rw [after_1]; unfold Dat.blockOf gate iblk; rfl) t d).trans
    (by unfold Dat.fetched Dat.blockOf gate iblk; rfl)
theorem before_2 (c : Dev nD) (t : Fin (cfgE a).N) (d) : (dats a m ρ 0 c).before (2 : Fin 5) t d = up a m ρ c t :=
  ((dats a m ρ 0 c).before_in_eq_fetched (2 : Fin 5) rfl (fun _ => rfl) (fun _ _ _ => rfl) (fun t => by rw [after_2]; unfold Dat.blockOf up iblk; rfl) t d).trans
    (by unfold Dat.fetched Dat.blockOf up iblk; rfl)
theorem before_3 (c : Dev nD) (t : Fin (cfgE a).N) (d) : (dats a m ρ 0 c).before (3 : Fin 5) t d = down a m ρ c t :=
  ((dats a m ρ 0 c).before_in_eq_fetched (3 : Fin 5) rfl (fun _ => rfl) (fun _ _ _ => rfl) (fun t => by rw [after_3]; unfold Dat.blockOf down iblk; rfl) t d).trans
    (by unfold Dat.fetched Dat.blockOf down iblk; rfl)

/-- The current staging buffers at a point, and their wholeness. -/
abbrev st0 (t : Fin (cfgE a).N) : Memref sig .tc .vmem S256x512 .i32 := spec0_0.stage ((cfgE a).slots t (0 : Fin 5))
abbrev st1 (t : Fin (cfgE a).N) : Memref sig .tc .vmem S1x1024x512 .f32 := spec0_1.stage ((cfgE a).slots t (1 : Fin 5))
abbrev st2 (t : Fin (cfgE a).N) : Memref sig .tc .vmem S1x1024x512 .f32 := spec0_2.stage ((cfgE a).slots t (2 : Fin 5))
abbrev st3 (t : Fin (cfgE a).N) : Memref sig .tc .vmem S1x512x1024 .f32 := spec0_3.stage ((cfgE a).slots t (3 : Fin 5))
abbrev st4 (t : Fin (cfgE a).N) : Memref sig .tc .vmem S256x1024 .f32 := spec0_4.stage ((cfgE a).slots t (4 : Fin 5))
abbrev whole0 (t : Fin (cfgE a).N) : (st0 a t).IsWhole := hstage0_0 (((cfgE a).slots t (0 : Fin 5)).cast nbuf0_0)
abbrev whole1 (t : Fin (cfgE a).N) : (st1 a t).IsWhole := hstage0_1 (((cfgE a).slots t (1 : Fin 5)).cast nbuf0_1)
abbrev whole2 (t : Fin (cfgE a).N) : (st2 a t).IsWhole := hstage0_2 (((cfgE a).slots t (2 : Fin 5)).cast nbuf0_2)
abbrev whole3 (t : Fin (cfgE a).N) : (st3 a t).IsWhole := hstage0_3 (((cfgE a).slots t (3 : Fin 5)).cast nbuf0_3)
abbrev whole4 (t : Fin (cfgE a).N) : (st4 a t).IsWhole := hstage0_4 (((cfgE a).slots t (4 : Fin 5)).cast nbuf0_4)

/-- What the scratches hold when a point keeps them is its own weights, rounded. -/
theorem kept (c : Dev nD) (t : Fin (cfgE a).N) (g u : S1024x512.Idx → Elt Ideal .bf16) (w : S512x1024.Idx → Elt Ideal .bf16)
    (h : Held a m ρ c t.val g u w) (hu : inUse t.val (readUsed (used a))) (h0 : t.val ≠ 0)
    (he : readHere (crd a t) (bes a) = readPrev (crd a t) (bes a)) :
    g = k0_pay1 (gate a m ρ c t) ∧ u = k0_pay2 (up a m ρ c t) ∧ w = k0_pay3 (down a m ρ c t) := by
  have hlt : t.val - 1 < (cfgE a).N := Nat.lt_of_le_of_lt (Nat.sub_le _ _) t.isLt
  have hs : (⟨t.val - 1, hlt⟩ : Fin (cfgE a).N).val + 1 = t.val := by show t.val - 1 + 1 = t.val; omega
  have e := he.trans (prev_here a t ⟨t.val - 1, hlt⟩ hs)
  rw [gate_congr a m ρ c t _ e, up_congr a m ρ c t _ e, down_congr a m ρ c t _ e]
  refine h _ hs ?_
  unfold inUse at hu ⊢
  show ((t.val - 1 : ℕ) : ℤ) < _
  omega

set_option maxHeartbeats 8000000 in
/-- The body at a point, in whichever case it is. -/
theorem point (c : Dev nD) (t : Fin (cfgE a).N) :
    iprop((dats a m ρ 0 c).Φ t.castSucc ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := Ideal)) Variants.none c none) Set.univ
          (cc0_moe_experts (crd a t) beM (Memref.isWhole_whole _) nuM (Memref.isWhole_whole _) (st0 a t) (whole0 a t) (st1 a t) (whole1 a t) (st2 a t) (whole2 a t)
            (st3 a t) (whole3 a t) (st4 a t) (whole4 a t) gateM (Memref.isWhole_whole _) upM (Memref.isWhole_whole _) downM (Memref.isWhole_whole _)) fun _ =>
          iprop((dats a m ρ 0 c).Φ t.succ ∗ (dats a m ρ 0 c).owesAt () t.succ
            ∗ bigSep Finset.univ fun w : Fin (cfgE a).W =>
                match (cfgE a).idle w ((cfgE a).grid.coords t) with
                | true =>
                  match ((cfgE a).win w).flush t with
                  | false => iprop(∃ d, owns (c : Thread nD τ) (((cfgE a).win w).stage ((cfgE a).slots t w)) fullShare ((dats a m ρ 0 c).before w t d))
                  | true => owns (c : Thread nD τ) (((cfgE a).win w).stage ((cfgE a).slots t w)) fullShare ((dats a m ρ 0 c).after w t)
                | false => owns (c : Thread nD τ) (((cfgE a).win w).stage ((cfgE a).slots t w)) fullShare ((dats a m ρ 0 c).after w t)) := by
  rw [bigSep_W0]
  rewrite [idle4 a]
  simp only [before_0, before_1, before_2, before_3, after_0, after_1, after_2, after_3, after_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  iintro ⟨⟨%a0, %a1, %a2, %hh, HS0, HS1, HS2, HT0, HT1⟩, Ho, ⟨%d0, H0⟩, ⟨%d1, H1⟩, ⟨%d2, H2⟩, ⟨%d3, H3⟩, ⟨%d4, H4⟩⟩
  have next : ∀ (g u : S1024x512.Idx → Elt Ideal .bf16) (w : S512x1024.Idx → Elt Ideal .bf16),
      (inUse t.val (readUsed (used a)) → g = k0_pay1 (gate a m ρ c t) ∧ u = k0_pay2 (up a m ρ c t) ∧ w = k0_pay3 (down a m ρ c t)) →
      Held a m ρ c (t.val + 1) g u w := by
    intro g u w h t' ht' hu
    obtain rfl : t' = t := Fin.ext (by omega)
    exact h hu
  have hc2 := cond2_iff (crd a t) (readUsed (used a))
  have hc3 := cond3_iff (crd a t) (readUsed (used a))
  have hcl := loads_iff (crd a t) (bes a) (used a)
  rw [crd_val] at hc2 hc3 hcl
  by_cases hu : inUse t.val (readUsed (used a))
  · have eo : outBlock a m ρ c t = k0_pay4 (rows a m ρ c t) (k0_pay1 (gate a m ρ c t)) (k0_pay2 (up a m ρ c t)) (k0_pay3 (down a m ρ c t)) := if_pos hu
    rw [eo]
    by_cases hl : t.val = 0 ∨ readHere (crd a t) (bes a) ≠ readPrev (crd a t) (bes a)
    · iapply (run_load c (crd a t) (st0 a t) (whole0 a t) (st1 a t) (whole1 a t) (st2 a t) (whole2 a t) (st3 a t) (whole3 a t) (st4 a t) (whole4 a t)
        (bes a) (used a) (rows a m ρ c t) (gate a m ρ c t) (up a m ρ c t) (down a m ρ c t) (hcl.2 ⟨hu, hl⟩) (hc2.2 hu) (fun h => hc3.1 h hu) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexists _; iexact HS0
      isplitl [HS1]; · iexists _; iexact HS1
      isplitl [HS2]; · iexists _; iexact HS2
      iintro ⟨H0, H1, H2, H3, HT0, HT1, H4, ⟨%b0, %h0, HS0⟩, ⟨%b1, %h1, HS1⟩, ⟨%b2, %h2, HS2⟩⟩
      isplitl [HS0 HS1 HS2 HT0 HT1]
      · iexists b0; iexists b1; iexists b2
        isplitr
        · ipureintro; exact next _ _ _ fun _ => ⟨h0, h1, h2⟩
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4
    · have hk := kept a m ρ c t _ _ _ hh hu (fun h => hl (.inl h)) (not_not.1 fun h => hl (.inr h))
      iapply (run_keep c (crd a t) (st0 a t) (whole0 a t) (st1 a t) (whole1 a t) (st2 a t) (whole2 a t) (st3 a t) (whole3 a t) (st4 a t) (whole4 a t)
        (bes a) (used a) (rows a m ρ c t) (gate a m ρ c t) (up a m ρ c t) (down a m ρ c t) a0 a1 a2 _ _ _ hk.1 hk.2.1 hk.2.2
        (fun h => hl (hcl.1 h).2) (hc2.2 hu) (fun h => hc3.1 h hu) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · iexists a0; iexists a1; iexists a2
        isplitr
        · ipureintro; exact next _ _ _ fun _ => hk
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4
  · have eo : outBlock a m ρ c t = k0_pay5 (F := Ideal) := if_neg hu
    rw [eo]
    iapply (run_rest c (crd a t) (st0 a t) (whole0 a t) (st1 a t) (whole1 a t) (st2 a t) (whole2 a t) (st3 a t) (whole3 a t) (st4 a t) (whole4 a t)
      (bes a) (used a) (rows a m ρ c t) (gate a m ρ c t) (up a m ρ c t) (down a m ρ c t) a0 a1 a2
      (fun h => hu (hcl.1 h).1) (fun h => hu (hc2.1 h)) (hc3.2 hu) _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, H4, HS0, HS1, HS2⟩
    isplitl [HS0 HS1 HS2 HT0 HT1]
    · iexists a0; iexists a1; iexists a2
      isplitr
      · ipureintro; exact next _ _ _ fun h => absurd h hu
      isplitl [HS0]; · iexact HS0
      isplitl [HS1]; · iexact HS1
      isplitl [HS2]; · iexact HS2
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4

/-- The body obligation at every point. -/
theorem body_obligation (c : Dev nD) : BodyObligation (dats a m ρ 0 c) (defs₀ (F := Ideal)) Variants.none () Set.univ := fun t => by
  rw [bigSep_W0]
  exact point a m ρ c t

/-! ## The launch -/

def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgE a).W) : (dats a m ρ 0 c).share w = fullShare := by unfold Dat.share; split <;> rfl

/-- The two tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, where the scratches hold anything. -/
theorem enter (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  iexists a0; iexists a1; iexists a2
  isplitr
  · ipureintro; intro t ht; exact absurd ht (Nat.succ_ne_zero _)
  isplitl [HS0]; · iexact HS0
  isplitl [HS1]; · iexact HS1
  isplitl [HS2]; · iexact HS2
  isplitl [HT0]; · iexact HT0
  iexact HT1

/-- The scratches given back after the last point. -/
theorem leave (c : Dev nD) : (dats a m ρ 0 c).Φ (Fin.last (cfgE a).N) ⊢ iprop(BI.emp ∗ Pipeline.scopedRest spec0 c) := by
  rw [scopedRest0_eq, show (dats a m ρ 0 c).Φ (Fin.last (cfgE a).N) = Phi a m ρ c (Fin.last _) from rfl]
  unfold Phi
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array at what the pipeline leaves in it, every table as it was. -/
def Ends : PUnit × MemSt nD τ sig (Elt Ideal) → Prop := fun r =>
  ∀ c : Dev nD, (∀ w : Fin (cfgE a).W, r.2.mem (((cfgE a).win w).arr.view.loc (c : Thread nD τ)) = (dats a m ρ 0 c).arrAt w (cfgE a).N)
    ∧ ∀ j, r.2.mem ((c : Thread nD τ).loc (pre0.ref j)) = a.1 j

set_option backward.isDefEq.respectTransparency.types false in
set_option maxHeartbeats 4000000 in
/-- The run of the whole program from a memory that holds the tables. -/
theorem runs (hp : ∀ (c : Dev nD) (j : Fin 2), m ((c : Thread nD τ).loc (pre0.ref j)) = a.1 j) :
    θ_run (defs (F := Ideal)) (onTc (τ := τ) (main (F := Ideal))) (s₀ m ρ) (fun r => Ends a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument ends as it began, the result at what the pipeline leaves in it, and no counter is raised. -/
theorem ends (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD,
      r.2.mem ((c.tc : Thread nD τ).loc main_v0) = (dats a m ρ 0 c).arrAt (4 : Fin 5) (cfgE a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (runs a m ρ hp)

/-! ## The tables of a memory -/

/-- The tables a memory holds. -/
def tables : pre0.Contents (Elt Ideal) := fun j => m (((0 : Dev nD) : Thread nD τ).loc (pre0.ref j))

/-- Every block's expert is one of the thirty-two. -/
def Named : Prop := ∀ (c : Dev nD) (n : Fin 160), (m ((c : Thread nD τ).loc main_arg0) (ix1 n) : BitVec 32).toNat < 32

theorem block_inside (h : Named m) (i : grid0.Coords) (s S : Fin 3 → ℕ) (hs : s 0 = 1) (h0 : S 0 = 32) (h1 : s 1 = S 1) (h2 : s 2 = S 2) (b : Fin 3) :
    (cc0_transform_1 k0_off1_inb numel1_S1 (tables m) i b + 1) * s b ≤ S b := by
  have e : cc0_transform_1 k0_off1_inb numel1_S1 (tables m) i = ![(m (((0 : Dev nD) : Thread nD τ).loc main_arg0) (ix1 (⟨(i 0).val, (i 0).isLt⟩ : Fin 160)) : BitVec 32).toNat, 0, 0] :=
    congrArg (fun v : BitVec 32 => ![v.toNat, 0, 0]) (readHere_eq i (tables m 0))
  rw [e]
  have := h 0 ⟨(i 0).val, (i 0).isLt⟩
  fin_cases b
  · show ((m (((0 : Dev nD) : Thread nD τ).loc main_arg0) (ix1 (⟨(i 0).val, (i 0).isLt⟩ : Fin 160)) : BitVec 32).toNat + 1) * s 0 ≤ S 0
    rw [hs, h0]
    exact (Nat.mul_one _).trans_le this
  · show (0 + 1) * s 1 ≤ S 1
    omega
  · show (0 + 1) * s 2 ≤ S 2
    omega

/-- Such a memory's tables keep every block inside its array. -/
def adm (h : Named m) : (pcfg0 (F := Ideal)).Adm :=
  ⟨tables m, fun i => ⟨block_inside m h i _ _ rfl rfl rfl rfl, .inl rfl⟩, fun i => ⟨block_inside m h i _ _ rfl rfl rfl rfl, .inl rfl⟩,
    fun i => ⟨block_inside m h i _ _ rfl rfl rfl rfl, .inl rfl⟩⟩

theorem adm_tables (h : Named m) (c : Dev nD) (j : Fin 2) : m ((c : Thread nD τ).loc (pre0.ref j)) = (adm m h).1 j := by
  obtain rfl : c = 0 := Subsingleton.elim _ _
  rfl

end Cert.Experts

end
-- ==== Proof.ExpertsSpec.lean ====
module

public import proofs.«01_k».proof.Proof.Real
public import Idealize.ShloMosaic.Lib.ValueIdx

@[expose] public section

set_option maxRecDepth 16384

noncomputable section

/-! An expert: a row of the tokens through two weights, one gated by the other, and back through a third. -/

namespace Cert.Experts

open Idealize.ShloMosaic

/-- A row of 1024 values from its 512 words: column `k` in the upper half of word `k`, column `512 + k` in the lower. -/
def unpacked (w : Fin 512 → BitVec 32) (k : Fin 1024) : EReal :=
  if hk : k.val < 512 then Ideal.ofBits .f32 (w ⟨k.val, hk⟩ &&& 0xFFFF0000#32)
  else Ideal.ofBits .f32 (w ⟨k.val - 512, by omega⟩ <<< 16)

/-- Shifts by sixteen places. -/
theorem up16 (n : ArithUnit) (v : BitVec 32) : IntOp.shli n v 16#32 = v <<< 16 := by
  unfold IntOp.shli
  rw [if_pos (by decide)]
  rfl
theorem down16 (n : ArithUnit) (v : BitVec 32) : IntOp.shrui n v 16#32 = v >>> 16 := by
  unfold IntOp.shrui
  rw [if_pos (by decide)]
  rfl

/-- A word's upper half, by shifts and by a mask. -/
theorem upper_eq (v : BitVec 32) : (v >>> 16) <<< 16 = v &&& 0xFFFF0000#32 := by
  ext i hi
  interval_cases i <;> simp

/-- One hidden value of a row: its product with the gate's column, times the gate's own logistic, times its product with the other column. -/
def hidden (x g u : Fin 1024 → EReal) : EReal :=
  Ideal.div (∑ k, x k * g k) (1 + Ideal.exp (-(∑ k, x k * g k))) * ∑ k, x k * u k

/-- A row through an expert, at one column of its result. -/
def through (x : Fin 1024 → EReal) (g u : Fin 1024 → Fin 512 → EReal) (d : Fin 512 → EReal) : EReal :=
  ∑ h, hidden x (fun k => g k h) (fun k => u k h) * d h

/-- One more than an exponential is not zero. -/
theorem one_add_exp_ne_zero (a : EReal) : 1 + Ideal.exp a ≠ 0 := by
  have h : (0 : EReal) ≤ Ideal.exp a := by
    induction a with
    | bot => exact le_rfl
    | top => exact le_top
    | coe r => exact EReal.coe_nonneg.mpr (Real.exp_pos r).le
  exact ne_of_gt (lt_of_lt_of_le zero_lt_one (le_add_of_nonneg_right h))

/-- The gate as a product with the logistic. -/
theorem gated (a : EReal) : a * Ideal.div 1 (1 + Ideal.exp (-a)) = Ideal.div a (1 + Ideal.exp (-a)) := by
  unfold Ideal.div
  rw [if_neg (one_add_exp_ne_zero _), if_neg (one_add_exp_ne_zero _), one_mul]

end Cert.Experts

end
-- ==== Proof.ExpertsValue.lean ====
module

public import proofs.«01_k».proof.Proof.ExpertsFrame
public import proofs.«01_k».proof.Proof.ExpertsSpec

@[expose] public section

set_option maxRecDepth 16384

noncomputable section

/-! The expert kernel's array: every row through the expert of its block. -/

namespace Cert.Experts

open Idealize.ShloMosaic Idealize.ShloMosaic.TcCoe Idealize.SL.Sem
open Idealize.ShloMosaic.Pipeline (Dat)
open Cert.KernelExpertsIdeal Cert.KernelExpertsIdeal.Gen

/-- A block's words unpacked, as the body does it. -/
def unpack (x : Vec Ideal S256x512 .i32) : FVec Ideal S256x1024 .f32 :=
  concatenate S256x1024 1 [⟨S256x512, bitcastToFloat .f32 (andi x (broadcast S256x512 4294901760#32))⟩, ⟨S256x512, bitcastToFloat .f32 (shli x (broadcast S256x512 16#32))⟩] concatenates_S256x512_S256x512_S256x1024_d1

theorem unpack_at (x : Vec Ideal S256x512 .i32) (r : Fin 256) (k : Fin 1024) :
    unpack x (ix2 r k) = unpacked (fun l => x (ix2 r l)) k := by
  unfold unpacked
  pointwise [unpack]
  simp only [up16]
  rfl

/-- What one grid point computes from its blocks. -/
theorem pay_at (x : Vec Ideal S256x512 .i32) (g u : Vec Ideal S1x1024x512 .f32) (d : Vec Ideal S1x512x1024 .f32) (r : Fin 256) (j : Fin 1024) :
    k0_pay4 (F := Ideal) x (k0_pay1 g) (k0_pay2 u) (k0_pay3 d) (ix2 r j)
      = through (unpacked fun l => x (ix2 r l)) (fun k h => g (ix3 0 k h)) (fun k h => u (ix3 0 k h)) (fun h => d (ix3 0 h j)) := by
  unfold through hidden
  simp only [← unpack_at x r]
  unfold k0_pay4
  change _ = _
  generalize hx : concatenate S256x1024 1 [⟨S256x512, bitcastToFloat (F := Ideal) .f32 (andi x (broadcast S256x512 4294901760#32))⟩, ⟨S256x512, bitcastToFloat (F := Ideal) .f32 (shli x (broadcast S256x512 16#32))⟩] concatenates_S256x512_S256x512_S256x1024_d1 = z
  have hz : unpack x = z := hx
  rw [hz]
  pointwise [k0_pay1, k0_pay2, k0_pay3]
  simp only [zero_sub]

/-- A block's expert. -/
def expert (T0 : S160.Idx → BitVec 32) (h : ∀ n : Fin 160, (T0 (ix1 n)).toNat < 32) (n : Fin 160) : Fin 32 := ⟨(T0 (ix1 n)).toNat, h n⟩

/-- A row's block. -/
def blockOf (r : Fin 40960) : Fin 160 := ⟨r.val / 256, by omega⟩

open Classical in
/-- The array of a table of experts, a count of blocks in use, the packed rows and the experts' weights. -/
def whole (T0 : S160.Idx → BitVec 32) (h : ∀ n : Fin 160, (T0 (ix1 n)).toNat < 32) (T1 : S1.Idx → BitVec 32)
    (x : S40960x512.Idx → BitVec 32) (g u : S32x1024x512.Idx → EReal) (d : S32x512x1024.Idx → EReal) : S40960x1024.Idx → EReal := fun y =>
  if inUse (blockOf (y 0)).val (T1 (ix1 (0 : Fin 1))) then
    through (unpacked fun l => x (ix2 (y 0) l)) (fun k i => g (ix3 (expert T0 h (blockOf (y 0))) k i))
      (fun k i => u (ix3 (expert T0 h (blockOf (y 0))) k i)) (fun i => d (ix3 (expert T0 h (blockOf (y 0))) i (y 1)))
  else 0

variable (m : (ℓ : Loc nD τ sig) → Buf (Elt Ideal) ℓ) (ρ : Dev nD → PrngReg) (h : Named m)

/-- The result array after the run. -/
def result (c : Dev nD) : FVec Ideal S40960x1024 .f32 :=
  whole (m ((c.tc : Thread nD τ).loc main_arg0)) (h c) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The rows' window and the result's move one block a point. -/
theorem index0 (a : (pcfg0 (F := Ideal)).Adm) (t : Fin (cfgE a).N) : ((cfgE a).win (0 : Fin 5)).index t = ![t.val, 0] :=
  (by decide +kernel : ∀ t : Fin grid0.N, cc0_transform_0 (grid0.coords t) = ![t.val, 0]) t
theorem index4 (a : (pcfg0 (F := Ideal)).Adm) (t : Fin (cfgE a).N) : ((cfgE a).win (4 : Fin 5)).index t = ![t.val, 0] :=
  (by decide +kernel : ∀ t : Fin grid0.N, cc0_transform_4 (grid0.coords t) = ![t.val, 0]) t

theorem flush4 (a : (pcfg0 (F := Ideal)).Adm) (t : Fin (cfgE a).N) : ((cfgE a).win (4 : Fin 5)).flush t = true :=
  (by decide +kernel : ∀ t : Fin grid0.N, Pipeline.Window.flushOf grid0 true cc0_transform_4 t = true) t

theorem covers4 (a : (pcfg0 (F := Ideal)).Adm) : ((cfgE a).win (4 : Fin 5)).Covers := by
  refine ⟨(by decide : ∀ b : Fin 2, 0 < S256x1024.size b), fun β => ?_⟩
  have b0 : (β (0 : Fin 2)).val < 160 := lt_of_lt_of_eq (β (0 : Fin 2)).isLt (show (40960 + 256 - 1) / 256 = 160 by norm_num)
  have b1 : (β (1 : Fin 2)).val < 1 := lt_of_lt_of_eq (β (1 : Fin 2)).isLt (show (1024 + 1024 - 1) / 1024 = 1 by norm_num)
  refine ⟨⟨(β (0 : Fin 2)).val, b0⟩, flush4 a _, fun b => ⟨?_, .inl rfl⟩⟩
  rw [index4]
  match b with
  | ⟨0, _⟩ => rfl
  | ⟨1, _⟩ => exact (Nat.lt_one_iff.mp b1).symm

/-- The rows of a point are its block's rows. -/
theorem rows_at (a : (pcfg0 (F := Ideal)).Adm) (c : Dev nD) (t : Fin (cfgE a).N) (r : Fin 256) (k : Fin 512) (R : Fin 40960) (hR : R.val = t.val * 256 + r.val) :
    rows a m ρ c t (ix2 r k) = m ((c.tc : Thread nD τ).loc main_arg2) (ix2 R k) := by
  refine congrArg (m ((c.tc : Thread nD τ).loc main_arg2)) (funext fun b => Fin.ext ?_)
  show ((cfgE a).win (0 : Fin 5)).index t b * S256x512.size b + 1 * ((ix2 r k : S256x512.Idx) b).val = ((ix2 R k : S40960x512.Idx) b).val
  rw [index0]
  match b with
  | ⟨0, _⟩ => show t.val * 256 + 1 * r.val = R.val; omega
  | ⟨1, _⟩ => show 0 * 512 + 1 * k.val = k.val; omega

/-- The weights of a point are its expert's. -/
theorem gate_at (a : (pcfg0 (F := Ideal)).Adm) (c : Dev nD) (t : Fin (cfgE a).N) (k : Fin 1024) (i : Fin 512) (e : Fin 32)
    (he : (readHere (crd a t) (bes a)).toNat = e.val) : gate a m ρ c t (ix3 0 k i) = m ((c.tc : Thread nD τ).loc main_arg3) (ix3 e k i) := by
  refine congrArg (m ((c.tc : Thread nD τ).loc main_arg3)) (funext fun b => Fin.ext ?_)
  show ((cfgE a).win (1 : Fin 5)).index t b * S1x1024x512.size b + 1 * ((ix3 0 k i : S1x1024x512.Idx) b).val = ((ix3 e k i : S32x1024x512.Idx) b).val
  rw [index1, he]
  match b with
  | ⟨0, _⟩ => show e.val * 1 + 1 * 0 = e.val; omega
  | ⟨1, _⟩ => show 0 * 1024 + 1 * k.val = k.val; omega
  | ⟨2, _⟩ => show 0 * 512 + 1 * i.val = i.val; omega
theorem up_at (a : (pcfg0 (F := Ideal)).Adm) (c : Dev nD) (t : Fin (cfgE a).N) (k : Fin 1024) (i : Fin 512) (e : Fin 32)
    (he : (readHere (crd a t) (bes a)).toNat = e.val) : up a m ρ c t (ix3 0 k i) = m ((c.tc : Thread nD τ).loc main_arg4) (ix3 e k i) := by
  refine congrArg (m ((c.tc : Thread nD τ).loc main_arg4)) (funext fun b => Fin.ext ?_)
  show ((cfgE a).win (2 : Fin 5)).index t b * S1x1024x512.size b + 1 * ((ix3 0 k i : S1x1024x512.Idx) b).val = ((ix3 e k i : S32x1024x512.Idx) b).val
  rw [index2, he]
  match b with
  | ⟨0, _⟩ => show e.val * 1 + 1 * 0 = e.val; omega
  | ⟨1, _⟩ => show 0 * 1024 + 1 * k.val = k.val; omega
  | ⟨2, _⟩ => show 0 * 512 + 1 * i.val = i.val; omega
theorem down_at (a : (pcfg0 (F := Ideal)).Adm) (c : Dev nD) (t : Fin (cfgE a).N) (i : Fin 512) (j : Fin 1024) (e : Fin 32)
    (he : (readHere (crd a t) (bes a)).toNat = e.val) : down a m ρ c t (ix3 0 i j) = m ((c.tc : Thread nD τ).loc main_arg5) (ix3 e i j) := by
  refine congrArg (m ((c.tc : Thread nD τ).loc main_arg5)) (funext fun b => Fin.ext ?_)
  show ((cfgE a).win (3 : Fin 5)).index t b * S1x512x1024.size b + 1 * ((ix3 0 i j : S1x512x1024.Idx) b).val = ((ix3 e i j : S32x512x1024.Idx) b).val
  rw [index3, he]
  match b with
  | ⟨0, _⟩ => show e.val * 1 + 1 * 0 = e.val; omega
  | ⟨1, _⟩ => show 0 * 512 + 1 * i.val = i.val; omega
  | ⟨2, _⟩ => show 0 * 1024 + 1 * j.val = j.val; omega

open Classical in
/-- What a point leaves is its rows of the array. -/
theorem out_at (c : Dev nD) (t : Fin (cfgE (adm m h)).N) (r : Fin 256) (j : Fin 1024) (R : Fin 40960) (hR : R.val = t.val * 256 + r.val) :
    outBlock (adm m h) m ρ c t (ix2 r j) = result m h c (ix2 R j) := by
  obtain rfl : c = 0 := Subsingleton.elim _ _
  have eb : (blockOf R).val = t.val := by show R.val / 256 = t.val; omega
  have eu : readUsed (used (adm m h)) = (m (((0 : Dev nD).tc : Thread nD τ).loc main_arg1) (ix1 (0 : Fin 1)) : BitVec 32) := readUsed_eq (used (adm m h))
  have eh : readHere (crd (adm m h) t) (bes (adm m h)) = (m (((0 : Dev nD).tc : Thread nD τ).loc main_arg0) (ix1 (blockOf R)) : BitVec 32) :=
    (readHere_eq _ (bes (adm m h))).trans (congrArg (fun n : Fin 160 => (m (((0 : Dev nD).tc : Thread nD τ).loc main_arg0) (ix1 n) : BitVec 32))
      (Fin.ext ((crd_val (adm m h) t).trans eb.symm)))
  have ee : (readHere (crd (adm m h) t) (bes (adm m h))).toNat = (expert (m (((0 : Dev nD).tc : Thread nD τ).loc main_arg0)) (h 0) (blockOf R)).val :=
    by rw [eh]; rfl
  unfold outBlock result whole
  rw [eu]
  by_cases hu : inUse t.val (m (((0 : Dev nD).tc : Thread nD τ).loc main_arg1) (ix1 (0 : Fin 1)) : BitVec 32)
  · rw [if_pos hu]
    refine Eq.trans ?_ (if_pos (show inUse (blockOf R).val _ by rw [eb]; exact hu)).symm
    refine (pay_at _ _ _ _ r j).trans ?_
    refine congr (congr (congr (congrArg through ?_) ?_) ?_) ?_
    · exact congrArg unpacked (funext fun l => rows_at m ρ _ 0 t r l R hR)
    · funext k i; exact gate_at m ρ _ 0 t k i _ ee
    · funext k i; exact up_at m ρ _ 0 t k i _ ee
    · funext i; exact down_at m ρ _ 0 t i j _ ee
  · rw [if_neg hu]
    refine Eq.trans ?_ (if_neg (show ¬ inUse (blockOf R).val _ by rw [eb]; exact hu)).symm
    pointwise [k0_pay5]

theorem array_eq (c : Dev nD) : (dats (adm m h) m ρ 0 c).arrAt (4 : Fin 5) (cfgE (adm m h)).N = result m h c := by
  refine (dats (adm m h) m ρ 0 c).arrAt_eq_of_covers (4 : Fin 5) _ (covers4 _) fun t _ y => ?_
  have b0 : t.val < 160 := t.isLt
  have y0 : (y (0 : Fin 2)).val < 256 := (y (0 : Fin 2)).isLt
  have e : (((cfgE (adm m h)).win (4 : Fin 5)).blk t).view.emb y
      = (ix2 (⟨t.val * 256 + (y (0 : Fin 2)).val, by omega⟩ : Fin 40960) (y (1 : Fin 2)) : S40960x1024.Idx) := by
    refine funext fun b => Fin.ext ?_
    show ((cfgE (adm m h)).win (4 : Fin 5)).index t b * S256x1024.size b + 1 * (y b).val = _
    rw [index4]
    match b with
    | ⟨0, _⟩ => show t.val * 256 + 1 * (y (0 : Fin 2)).val = t.val * 256 + (y (0 : Fin 2)).val; omega
    | ⟨1, _⟩ => show 0 * 1024 + 1 * (y (1 : Fin 2)).val = (y (1 : Fin 2)).val; omega
  rw [e]
  refine Eq.trans ?_ (out_at m ρ h c t (y (0 : Fin 2)) (y (1 : Fin 2)) _ rfl)
  show outBlock (adm m h) m ρ c t _ = _
  refine congrArg _ (funext fun b => Fin.ext ?_)
  match b with
  | ⟨0, _⟩ => rfl
  | ⟨1, _⟩ => rfl

end Cert.Experts

end
-- ==== Proof.ExpertsRef.lean ====
module

public import proofs.«01_k».proof.Proof.ExpertsSpec
public import proofs.«01_k».proof.Proof.Gen.ReferenceExpertsIdeal.Run

@[expose] public section

set_option maxRecDepth 16384

noncomputable section

/-! The reference's term: every row through the expert of its block, the weights gathered block by block. -/

namespace Cert.Experts.Ref

open Idealize.ShloMosaic Idealize.ShloMosaic.TcCoe Idealize.SL.Sem
open Cert.ReferenceExpertsIdeal Cert.ReferenceExpertsIdeal.Gen

/-- The words the weights are gathered at. -/
def words (b : IVec S160 32) : IVec S160x1 32 :=
  broadcastInDim S160x1 ![0] bcast_S160_S160x1_0 (select (cmpi .slt b (broadcastInDim S160 ![] bcast_S_S160 (constantI S_ 32 0#32))) (addi b (broadcastInDim S160 ![] bcast_S_S160 (constantI S_ 32 32#32))) b)

/-- The rows unpacked. -/
def rows (x : IVec S40960x512 32) : FVec Ideal S40960x1024 .f32 :=
  concatenate S40960x1024 1 [⟨S40960x512, bitcastToFloat .f32 (Host.shli (Host.shrui x (broadcastInDim S40960x512 ![] bcast_S_S40960x512 (constantI S_ 32 16#32))) (broadcastInDim S40960x512 ![] bcast_S_S40960x512 (constantI S_ 32 16#32)))⟩, ⟨S40960x512, bitcastToFloat .f32 (Host.shli x (broadcastInDim S40960x512 ![] bcast_S_S40960x512 (constantI S_ 32 16#32)))⟩] concatenates_S40960x512_S40960x512_S40960x1024_d1

/-- A projection of every block's rows. -/
def proj (x : FVec Ideal S40960x1024 .f32) (w : FVec Ideal S160x1024x512 .f32) : FVec Ideal S160x256x512 .f32 :=
  Host.dotGeneral dot_S160x256x1024_S160x1024x512_S160x256x512_2_1_1_2_0_0 none (shapeCast _ x shapeCasts_S40960x1024_S160x256x1024) w

/-- The hidden values. -/
def mid (a b : FVec Ideal S160x256x512 .f32) : FVec Ideal S160x256x512 .f32 :=
  mulf (mulf a (Host.divf (broadcastInDim S160x256x512 ![] bcast_S_S160x256x512 (constant S_ .f32 0x3F800000#32)) (addf (broadcastInDim S160x256x512 ![] bcast_S_S160x256x512 (constant S_ .f32 0x3F800000#32)) (Host.exp (Host.negf a))))) b

/-- Whether a block is in use, at every place. -/
def flags (n : IVec S1 32) : IVec S160x256x1024 1 :=
  broadcastInDim S160x256x1024 ![0, 1, 2] bcast_S160x1x1_S160x256x1024_0_1_2 (cmpi .slt (broadcastInDim S160x1x1 ![0] bcast_S160_S160x1x1_0 (iotaInDim S160 32 0)) (broadcastInDim S160x1x1 ![] bcast_S_S160x1x1 (shapeCast _ n shapeCasts_S1_S_)))

/-- The rows of the blocks in use, from the hidden values. -/
def out (n : IVec S1 32) (z : FVec Ideal S160x256x512 .f32) (d : FVec Ideal S160x512x1024 .f32) : FVec Ideal S40960x1024 .f32 :=
  shapeCast _ (select (flags n) (Host.dotGeneral dot_S160x256x512_S160x512x1024_S160x256x1024_2_1_1_2_0_0 none z d) (broadcastInDim S160x256x1024 ![] bcast_S_S160x256x1024 (id (constant S_ .f32 0x00000000#32)))) shapeCasts_S160x256x1024_S40960x1024

/-- A weight of each block's expert. -/
def pick (w : FVec Ideal S32x1024x512 .f32) (i : IVec S160x1 32) : FVec Ideal S160x1024x512 .f32 :=
  Host.gather gather_S32x1024x512_S160x1_S160x1024x512_12_0_n_n_0_1_11024512 w i
def pickDown (w : FVec Ideal S32x512x1024 .f32) (i : IVec S160x1 32) : FVec Ideal S160x512x1024 .f32 :=
  Host.gather gather_S32x512x1024_S160x1_S160x512x1024_12_0_n_n_0_1_15121024 w i

/-- The reference's term. -/
def term (b : IVec S160 32) (n : IVec S1 32) (x : IVec S40960x512 32) (g u : FVec Ideal S32x1024x512 .f32) (d : FVec Ideal S32x512x1024 .f32) : FVec Ideal S40960x1024 .f32 :=
  out n (mid (proj (rows x) (pick g (words b))) (proj (rows x) (pick u (words b)))) (pickDown d (words b))

/-- A word below thirty-two is its own signed value. -/
theorem toInt_small (v : BitVec 32) (h : v.toNat < 32) : v.toInt = (v.toNat : ℤ) :=
  BitVec.toInt_eq_toNat_of_lt (by omega)

theorem words_at (b : IVec S160 32) (t : Fin 160) (h : (b (ix1 t)).toNat < 32) : words b (ix2 t 0) = b (ix1 t) := by
  have e : IntOp.cmpi .slt (b (ix1 t)) 0#32 = 0#1 := by
    show BitVec.ofBool ((b (ix1 t)).slt 0#32) = 0#1
    rw [BitVec.slt, toInt_small _ h, decide_eq_false (by simp)]
    rfl
  pointwise [words]
  rw [e]
  rfl

theorem rows_at (x : IVec S40960x512 32) (R : Fin 40960) (k : Fin 1024) : rows x (ix2 R k) = unpacked (fun l => x (ix2 R l)) k := by
  unfold unpacked
  pointwise [rows]
  simp only [up16, down16, upper_eq]

theorem proj_at (x : FVec Ideal S40960x1024 .f32) (w : FVec Ideal S160x1024x512 .f32) (t : Fin 160) (r : Fin 256) (h : Fin 512) :
    proj x w (ix3 t r h) = ∑ k : Fin 1024, x (ix2 (⟨t.val * 256 + r.val, by omega⟩ : Fin 40960) k) * w (ix3 t k h) := by
  pointwise [proj]

theorem mid_at (a b : FVec Ideal S160x256x512 .f32) (t : Fin 160) (r : Fin 256) (h : Fin 512) :
    mid a b (ix3 t r h) = Ideal.div (a (ix3 t r h)) (1 + Ideal.exp (-(a (ix3 t r h)))) * b (ix3 t r h) := by
  rw [← gated]
  pointwise [mid]

theorem out_at (n : IVec S1 32) (z : FVec Ideal S160x256x512 .f32) (d : FVec Ideal S160x512x1024 .f32) (R : Fin 40960) (j : Fin 1024) :
    out n z d (ix2 R j) = Scalar.select (IntOp.cmpi .slt (BitVec.ofNat 32 (R.val / 256)) (n (ix1 (0 : Fin 1))))
      (∑ h : Fin 512, z (ix3 (⟨R.val / 256, by omega⟩ : Fin 160) (⟨R.val % 256, by omega⟩ : Fin 256) h) * d (ix3 (⟨R.val / 256, by omega⟩ : Fin 160) h j)) 0 := by
  pointwise [out, flags, id]

theorem pick_at (w : FVec Ideal S32x1024x512 .f32) (i : IVec S160x1 32) (t : Fin 160) (k : Fin 1024) (l : Fin 512) (e : Fin 32)
    (he : (i (ix2 t 0)).toInt = (e.val : ℤ)) : pick w i (ix3 t k l) = w (ix3 e k l) := by
  unfold pick Host.gather
  refine congrArg w (funext fun a => Fin.ext ?_)
  show gather_S32x1024x512_S160x1_S160x1024x512_12_0_n_n_0_1_11024512.start (ix3 t k l) i a
    + gather_S32x1024x512_S160x1_S160x1024x512_12_0_n_n_0_1_11024512.batchCoord (ix3 t k l) a
    + gather_S32x1024x512_S160x1_S160x1024x512_12_0_n_n_0_1_11024512.offCoord (ix3 t k l) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ gather_S32x1024x512_S160x1_S160x1024x512_12_0_n_n_0_1_11024512.startIndexMap from List.mem_singleton.mpr rfl)]
    have hs : gather_S32x1024x512_S160x1_S160x1024x512_12_0_n_n_0_1_11024512.siIdx (ix3 t k l)
        ⟨List.idxOf (0 : Fin 3) gather_S32x1024x512_S160x1_S160x1024x512_12_0_n_n_0_1_11024512.startIndexMap, List.idxOf_lt_length_iff.2 (List.mem_singleton.mpr rfl)⟩ = ix2 t 0 := by
      funext b
      refine Fin.ext ?_
      match b with
      | ⟨0, _⟩ => rfl
      | ⟨1, _⟩ => rfl
    refine (congrArg (fun z => min (i z).toInt.toNat (32 - 1)) hs).trans ?_
    show min (i (ix2 t 0)).toInt.toNat (32 - 1) = e.val
    rw [he]
    omega
  | ⟨1, _⟩ => exact (congrArg (· + k.val) (dif_neg (show (1 : Fin 3) ∉ ([0] : List (Fin 3)) by decide))).trans (Nat.zero_add _)
  | ⟨2, _⟩ => exact (congrArg (· + l.val) (dif_neg (show (2 : Fin 3) ∉ ([0] : List (Fin 3)) by decide))).trans (Nat.zero_add _)

theorem pickDown_at (w : FVec Ideal S32x512x1024 .f32) (i : IVec S160x1 32) (t : Fin 160) (k : Fin 512) (l : Fin 1024) (e : Fin 32)
    (he : (i (ix2 t 0)).toInt = (e.val : ℤ)) : pickDown w i (ix3 t k l) = w (ix3 e k l) := by
  unfold pickDown Host.gather
  refine congrArg w (funext fun a => Fin.ext ?_)
  show gather_S32x512x1024_S160x1_S160x512x1024_12_0_n_n_0_1_15121024.start (ix3 t k l) i a
    + gather_S32x512x1024_S160x1_S160x512x1024_12_0_n_n_0_1_15121024.batchCoord (ix3 t k l) a
    + gather_S32x512x1024_S160x1_S160x512x1024_12_0_n_n_0_1_15121024.offCoord (ix3 t k l) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ gather_S32x512x1024_S160x1_S160x512x1024_12_0_n_n_0_1_15121024.startIndexMap from List.mem_singleton.mpr rfl)]
    have hs : gather_S32x512x1024_S160x1_S160x512x1024_12_0_n_n_0_1_15121024.siIdx (ix3 t k l)
        ⟨List.idxOf (0 : Fin 3) gather_S32x512x1024_S160x1_S160x512x1024_12_0_n_n_0_1_15121024.startIndexMap, List.idxOf_lt_length_iff.2 (List.mem_singleton.mpr rfl)⟩ = ix2 t 0 := by
      funext b
      refine Fin.ext ?_
      match b with
      | ⟨0, _⟩ => rfl
      | ⟨1, _⟩ => rfl
    refine (congrArg (fun z => min (i z).toInt.toNat (32 - 1)) hs).trans ?_
    show min (i (ix2 t 0)).toInt.toNat (32 - 1) = e.val
    rw [he]
    omega
  | ⟨1, _⟩ => exact (congrArg (· + k.val) (dif_neg (show (1 : Fin 3) ∉ ([0] : List (Fin 3)) by decide))).trans (Nat.zero_add _)
  | ⟨2, _⟩ => exact (congrArg (· + l.val) (dif_neg (show (2 : Fin 3) ∉ ([0] : List (Fin 3)) by decide))).trans (Nat.zero_add _)

end Cert.Experts.Ref

end
-- ==== Proof.ExpertsBitsRuns.lean ====
module

public import proofs.«01_k».proof.Proof.Gen.KernelExperts.Launch
public import proofs.«01_k».proof.Proof.Gen.KernelExperts.Skeleton
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.VecWindow
public import Idealize.ShloMosaic.Lib.Exec
public import Idealize.ShloMosaic.Lib.Affine
public import Idealize.ShloMosaic.Lib.Tactic
public import Idealize.ShloMosaic.PureOps.BitExact

/-!
The expert kernel's body at one grid point, in its three cases: a block in use whose expert differs from the
previous block's (the weights are rounded into the three scratches, then used), a block in use whose expert is the
previous one's (the scratches are used as they stand), and a block past the last one in use (zeros).
-/

@[expose] public section

set_option maxRecDepth 16384

noncomputable section

namespace Cert.ExpertsBits

open Cert.KernelExperts Cert.KernelExperts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables and the three weight scratches, whole. -/
abbrev beM : Memref sig .tc .smem S160 .i32 := Memref.whole main_arg0
abbrev nuM : Memref sig .tc .smem S1 .i32 := Memref.whole main_arg1
abbrev gateM : Memref sig .tc .vmem S1024x512 .bf16 := Memref.whole cc0_scratch0
abbrev upM : Memref sig .tc .vmem S1024x512 .bf16 := Memref.whole cc0_scratch1
abbrev downM : Memref sig .tc .vmem S512x1024 .bf16 := Memref.whole cc0_scratch2

/-- The number of blocks in use, as the body reads it. -/
abbrev readUsed (T1 : S1.Idx → Elt Bits .i32) : BitVec 32 :=
  View.readAt (Elt Bits) nuM.view (Rect.unit (s := S1) ![0] S1.size inb_S1_S1_0).toLoadRect T1 (Shape.Idx.first (numel1_S1.symm ▸ Nat.one_pos))

/-- This block's expert, as the body reads it. -/
abbrev readHere (i : grid0.Coords) (T0 : S160.Idx → Elt Bits .i32) : BitVec 32 :=
  View.readAt (Elt Bits) beM.view (Rect.unit (s := S160) (k0_off1 i) S1.size (k0_off1_inb i)).toLoadRect T0 (Shape.Idx.first (numel1_S1.symm ▸ Nat.one_pos))

/-- The previous block's expert, as the body reads it. -/
abbrev readPrev (i : grid0.Coords) (T0 : S160.Idx → Elt Bits .i32) : BitVec 32 :=
  View.readAt (Elt Bits) beM.view (Rect.unit (s := S160) (k0_off2 i) S1.size (k0_off2_inb i)).toLoadRect T0 (Shape.Idx.first (numel1_S1.symm ▸ Nat.one_pos))

/-- The body's test for rounding new weights. -/
abbrev loads (i : grid0.Coords) (T0 : S160.Idx → Elt Bits .i32) (T1 : S1.Idx → Elt Bits .i32) : BitVec 1 :=
  Scalar.cmpi .ne (Scalar.extui (Scalar.andi (Scalar.cmpi .slt (BitVec.ofNat 32 (i 0).val) (readUsed T1))
    (Scalar.ori (Scalar.cmpi .eq (BitVec.ofNat 32 (i 0).val) 0#32) (Scalar.cmpi .ne (readHere i T0) (readPrev i T0))))) 0#32

set_option maxHeartbeats 8000000 in
/-- A block in use with another expert than the block before: the weights go rounded into the scratches, the block's
    rows through them. -/
theorem run_load (c : Dev nD) (i : grid0.Coords) (arg3 : Memref sig .tc .vmem S256x512 .i32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T0 : S160.Idx → Elt Bits .i32) (T1 : S1.Idx → Elt Bits .i32)
    (x0 : S256x512.Idx → Elt Bits .i32) (x1 x2 : S1x1024x512.Idx → Elt Bits .f32) (x3 : S1x512x1024.Idx → Elt Bits .f32)
    (hl : loads i T0 T1 = 1#1) (hu : k0_cond2 i (readUsed T1) = 1#1) (hn : ¬ k0_cond3 i (readUsed T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (beM.view.loc (c : Thread nD τ) ↦{fullShare.right} T0)
      ∗ (nuM.view.loc (c : Thread nD τ) ↦{fullShare.right} T1)
      ∗ (∃ d, owns (c : Thread nD τ) arg7 fullShare d)
      ∗ (∃ a, gateM.view.loc (c : Thread nD τ) ↦{fullShare} a)
      ∗ (∃ a, upM.view.loc (c : Thread nD τ) ↦{fullShare} a)
      ∗ (∃ a, downM.view.loc (c : Thread nD τ) ↦{fullShare} a)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (beM.view.loc (c : Thread nD τ) ↦{fullShare.right} T0)
          ∗ (nuM.view.loc (c : Thread nD τ) ↦{fullShare.right} T1)
          ∗ owns (c : Thread nD τ) arg7 fullShare (k0_pay4 x0 (k0_pay1 x1) (k0_pay2 x2) (k0_pay3 x3))
          ∗ (∃ a, ⌜gateM.view.read (Elt Bits) a = k0_pay1 x1⌝ ∗ (gateM.view.loc (c : Thread nD τ) ↦{fullShare} a))
          ∗ (∃ a, ⌜upM.view.read (Elt Bits) a = k0_pay2 x2⌝ ∗ (upM.view.loc (c : Thread nD τ) ↦{fullShare} a))
          ∗ (∃ a, ⌜downM.view.read (Elt Bits) a = k0_pay3 x3⌝ ∗ (downM.view.loc (c : Thread nD τ) ↦{fullShare} a))) -∗ K ⟨⟩))
      ⊢ wp frame (wpE (defs₀ (F := Bits)) Variants.none c none) Set.univ
          (cc0_moe_experts i beM (Memref.isWhole_whole _) nuM (Memref.isWhole_whole _) arg3 harg3 arg4 harg4 arg5 harg5 arg6 harg6 arg7 harg7
            gateM (Memref.isWhole_whole _) upM (Memref.isWhole_whole _) downM (Memref.isWhole_whole _)) K := by
  unfold owns
  rw [cc0_moe_experts_eq_skeleton]; unfold cc0_moe_experts_skel
  iintro ⟨H0, H1, H2, H3, HT0, HT1, ⟨%d4, %f4, -, HO4⟩, ⟨%a0, HS0⟩, ⟨%a1, HS1⟩, ⟨%a2, HS2⟩, Hk⟩
  have hS0 : gateM.IsWhole := Memref.isWhole_whole _
  have hS1 : upM.IsWhole := Memref.isWhole_whole _
  have hS2 : downM.IsWhole := Memref.isWhole_whole _
  have hT0 : beM.IsWhole := Memref.isWhole_whole _
  have hT1 : nuM.IsWhole := Memref.isWhole_whole _
  sl_exec! (disch := first | exact hl | exact hu | exact hn)
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold run_load.sl.HO4_1
      rw [View.read_writes_full, View.readAt_rep_full]
      unfold run_load.sl.v28 run_load.sl.v30 run_load.sl.v40 run_load.sl.HS0_1 run_load.sl.HS1_1 run_load.sl.HS2_1
      exact congr (congr (congrArg (k0_pay4 x0)
        ((View.readCov_full _ _ _ _ _).trans (congrArg k0_pay1 (View.readAt_rep_full _ _ _))))
        ((View.readCov_full _ _ _ _ _).trans (congrArg k0_pay2 (View.readAt_rep_full _ _ _))))
        ((View.readCov_full _ _ _ _ _).trans (congrArg k0_pay3 (View.readAt_rep_full _ _ _)))
  isplitl [HS0]
  · iexists _; isplitr; swap
    · iexact HS0
    · ipureintro
      unfold run_load.sl.HS0_1
      rw [View.read_writes_full]
      exact congrArg k0_pay1 (View.readAt_rep_full _ _ _)
  isplitl [HS1]
  · iexists _; isplitr; swap
    · iexact HS1
    · ipureintro
      unfold run_load.sl.HS1_1
      rw [View.read_writes_full]
      exact congrArg k0_pay2 (View.readAt_rep_full _ _ _)
  iexists _; isplitr; swap
  · iexact HS2
  · ipureintro
    unfold run_load.sl.HS2_1
    rw [View.read_writes_full]
    exact congrArg k0_pay3 (View.readAt_rep_full _ _ _)

set_option maxHeartbeats 8000000 in
/-- A block in use with the expert of the block before: its rows through the weights the scratches hold. -/
theorem run_keep (c : Dev nD) (i : grid0.Coords) (arg3 : Memref sig .tc .vmem S256x512 .i32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T0 : S160.Idx → Elt Bits .i32) (T1 : S1.Idx → Elt Bits .i32)
    (x0 : S256x512.Idx → Elt Bits .i32) (x1 x2 : S1x1024x512.Idx → Elt Bits .f32) (x3 : S1x512x1024.Idx → Elt Bits .f32)
    (a0 : Buf (Elt Bits) (View.loc (c : Thread nD τ) gateM.view)) (a1 : Buf (Elt Bits) (View.loc (c : Thread nD τ) upM.view)) (a2 : Buf (Elt Bits) (View.loc (c : Thread nD τ) downM.view))
    (g u : S1024x512.Idx → Elt Bits .bf16) (w : S512x1024.Idx → Elt Bits .bf16)
    (hg : gateM.view.read (Elt Bits) a0 = g) (hup : upM.view.read (Elt Bits) a1 = u) (hd : downM.view.read (Elt Bits) a2 = w)
    (hl : ¬ loads i T0 T1 = 1#1) (hu : k0_cond2 i (readUsed T1) = 1#1) (hn : ¬ k0_cond3 i (readUsed T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (beM.view.loc (c : Thread nD τ) ↦{fullShare.right} T0)
      ∗ (nuM.view.loc (c : Thread nD τ) ↦{fullShare.right} T1)
      ∗ (∃ d, owns (c : Thread nD τ) arg7 fullShare d)
      ∗ (gateM.view.loc (c : Thread nD τ) ↦{fullShare} a0)
      ∗ (upM.view.loc (c : Thread nD τ) ↦{fullShare} a1)
      ∗ (downM.view.loc (c : Thread nD τ) ↦{fullShare} a2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (beM.view.loc (c : Thread nD τ) ↦{fullShare.right} T0)
          ∗ (nuM.view.loc (c : Thread nD τ) ↦{fullShare.right} T1)
          ∗ owns (c : Thread nD τ) arg7 fullShare (k0_pay4 x0 g u w)
          ∗ (gateM.view.loc (c : Thread nD τ) ↦{fullShare} a0)
          ∗ (upM.view.loc (c : Thread nD τ) ↦{fullShare} a1)
          ∗ (downM.view.loc (c : Thread nD τ) ↦{fullShare} a2)) -∗ K ⟨⟩))
      ⊢ wp frame (wpE (defs₀ (F := Bits)) Variants.none c none) Set.univ
          (cc0_moe_experts i beM (Memref.isWhole_whole _) nuM (Memref.isWhole_whole _) arg3 harg3 arg4 harg4 arg5 harg5 arg6 harg6 arg7 harg7
            gateM (Memref.isWhole_whole _) upM (Memref.isWhole_whole _) downM (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : gateM.IsWhole := Memref.isWhole_whole _
  have hS1 : upM.IsWhole := Memref.isWhole_whole _
  have hS2 : downM.IsWhole := Memref.isWhole_whole _
  have hT0 : beM.IsWhole := Memref.isWhole_whole _
  have hT1 : nuM.IsWhole := Memref.isWhole_whole _
  sl_exec! (disch := first | exact hl | exact hu | exact hn)
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      unfold run_keep.sl.HO4_1
      rw [View.read_writes_full, View.readAt_rep_full]
      subst hg hup hd
      exact congr (congr (congrArg (k0_pay4 x0) (View.readAt_full _ _ _)) (View.readAt_full _ _ _)) (View.readAt_full _ _ _)
  isplitl [HS0]; · iexact HS0
  isplitl [HS1]; · iexact HS1
  iexact HS2

set_option maxHeartbeats 8000000 in
/-- A block past the last one in use: zeros. -/
theorem run_rest (c : Dev nD) (i : grid0.Coords) (arg3 : Memref sig .tc .vmem S256x512 .i32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (T0 : S160.Idx → Elt Bits .i32) (T1 : S1.Idx → Elt Bits .i32)
    (x0 : S256x512.Idx → Elt Bits .i32) (x1 x2 : S1x1024x512.Idx → Elt Bits .f32) (x3 : S1x512x1024.Idx → Elt Bits .f32)
    (a0 : Buf (Elt Bits) (View.loc (c : Thread nD τ) gateM.view)) (a1 : Buf (Elt Bits) (View.loc (c : Thread nD τ) upM.view)) (a2 : Buf (Elt Bits) (View.loc (c : Thread nD τ) downM.view))
    (hl : ¬ loads i T0 T1 = 1#1) (hu : ¬ k0_cond2 i (readUsed T1) = 1#1) (hn : k0_cond3 i (readUsed T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (beM.view.loc (c : Thread nD τ) ↦{fullShare.right} T0)
      ∗ (nuM.view.loc (c : Thread nD τ) ↦{fullShare.right} T1)
      ∗ (∃ d, owns (c : Thread nD τ) arg7 fullShare d)
      ∗ (gateM.view.loc (c : Thread nD τ) ↦{fullShare} a0)
      ∗ (upM.view.loc (c : Thread nD τ) ↦{fullShare} a1)
      ∗ (downM.view.loc (c : Thread nD τ) ↦{fullShare} a2)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (beM.view.loc (c : Thread nD τ) ↦{fullShare.right} T0)
          ∗ (nuM.view.loc (c : Thread nD τ) ↦{fullShare.right} T1)
          ∗ owns (c : Thread nD τ) arg7 fullShare (k0_pay5 (F := Bits))
          ∗ (gateM.view.loc (c : Thread nD τ) ↦{fullShare} a0)
          ∗ (upM.view.loc (c : Thread nD τ) ↦{fullShare} a1)
          ∗ (downM.view.loc (c : Thread nD τ) ↦{fullShare} a2)) -∗ K ⟨⟩))
      ⊢ wp frame (wpE (defs₀ (F := Bits)) Variants.none c none) Set.univ
          (cc0_moe_experts i beM (Memref.isWhole_whole _) nuM (Memref.isWhole_whole _) arg3 harg3 arg4 harg4 arg5 harg5 arg6 harg6 arg7 harg7
            gateM (Memref.isWhole_whole _) upM (Memref.isWhole_whole _) downM (Memref.isWhole_whole _)) K := by
  unfold owns
  rw [cc0_moe_experts_eq_skeleton]; unfold cc0_moe_experts_skel
  iintro ⟨H0, H1, H2, H3, HT0, HT1, ⟨%d4, %f4, -, HO4⟩, HS0, HS1, HS2, Hk⟩
  have hS0 : gateM.IsWhole := Memref.isWhole_whole _
  have hS1 : upM.IsWhole := Memref.isWhole_whole _
  have hS2 : downM.IsWhole := Memref.isWhole_whole _
  have hT0 : beM.IsWhole := Memref.isWhole_whole _
  have hT1 : nuM.IsWhole := Memref.isWhole_whole _
  sl_exec! (disch := first | exact hl | exact hu | exact hn)
  sl_step
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _; isplitr; swap
    · iexact HO4
    · ipureintro
      exact View.read_writes_full _ _ _ _ _
  isplitl [HS0]; · iexact HS0
  isplitl [HS1]; · iexact HS1
  iexact HS2

end Cert.ExpertsBits

end
-- ==== Proof.ExpertsBitsPoint.lean ====
module

public import proofs.«01_k».proof.Proof.ExpertsBitsRuns
public import Idealize.ShloMosaic.Lib.Pipeline.Quiescent
public import Idealize.ShloMosaic.Lib.Pipeline.TableIdle
public import Idealize.ShloMosaic.Lib.Ring
public import Idealize.ShloMosaic.Lib.Pointwise.Index
public import Idealize.ShloMosaic.Adequacy
public import Idealize.ShloMosaic.Init

/-!
The grid points of the expert kernel at any admissible tables: which of the three cases a point is in, and which
blocks it sees.
-/

@[expose] public section

set_option maxRecDepth 16384

noncomputable section

namespace Cert.ExpertsBits

open Cert.KernelExperts Cert.KernelExperts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The words a point reads -/

/-- The number of blocks in use. -/
theorem readUsed_eq (T1 : S1.Idx → Elt Bits .i32) : readUsed T1 = T1 (ix1 (0 : Fin 1)) :=
  congrArg T1 (funext fun a => Fin.ext (by fin_cases a; rfl))

/-- The expert of the block at a point. -/
theorem readHere_eq (i : grid0.Coords) (T0 : S160.Idx → Elt Bits .i32) : readHere i T0 = T0 (ix1 (⟨(i 0).val, (i 0).isLt⟩ : Fin 160)) :=
  congrArg T0 (funext fun a => Fin.ext (by
    fin_cases a
    show k0_off1 i 0 + 1 * 0 = (i 0).val
    rw [k0_off1_eq]; rfl))

/-- The previous block, the first block being its own. -/
theorem off2_eq : ∀ i : grid0.Coords, k0_off2 i = ![(i 0).val - 1] := by
  decide +kernel

/-- The expert of the block before. -/
theorem readPrev_eq (i : grid0.Coords) (T0 : S160.Idx → Elt Bits .i32) :
    readPrev i T0 = T0 (ix1 (⟨(i 0).val - 1, Nat.lt_of_le_of_lt (Nat.sub_le _ _) (i 0).isLt⟩ : Fin 160)) :=
  congrArg T0 (funext fun a => Fin.ext (by
    fin_cases a
    show k0_off2 i 0 + 1 * 0 = (i 0).val - 1
    rw [off2_eq]; rfl))

/-! ## The three cases -/

/-- Whether a block is in use. -/
def inUse (n : ℕ) (v : BitVec 32) : Prop := (n : ℤ) < v.toInt

theorem word_eq (b : BitVec 1) : Scalar.cmpi .ne (Scalar.extui b) 0#32 = 1#1 ↔ b = 1#1 :=
  (by decide : ∀ b : BitVec 1, Scalar.cmpi .ne (Scalar.extui b) 0#32 = 1#1 ↔ b = 1#1) b

theorem slt_eq (n : ℕ) (hn : n < 160) (v : BitVec 32) : Scalar.cmpi .slt (BitVec.ofNat 32 n) v = 1#1 ↔ inUse n v := by
  unfold inUse
  have e : (BitVec.ofNat 32 n).toInt = (n : ℤ) := by
    rw [BitVec.toInt_ofNat', Int.bmod_eq_of_le (by omega) (by omega)]
  show BitVec.ofBool ((BitVec.ofNat 32 n).slt v) = 1#1 ↔ _
  rw [BitVec.slt, e]
  by_cases h : (n : ℤ) < v.toInt
  · simp [h]
  · simp [h]

theorem cond2_iff (i : grid0.Coords) (v : BitVec 32) : k0_cond2 i v = 1#1 ↔ inUse (i 0).val v :=
  (word_eq _).trans (slt_eq _ (i 0).isLt v)

theorem cond3_iff (i : grid0.Coords) (v : BitVec 32) : k0_cond3 i v = 1#1 ↔ ¬ inUse (i 0).val v := by
  rw [← slt_eq _ (i 0).isLt v]
  refine (word_eq _).trans ?_
  generalize Scalar.cmpi .slt (BitVec.ofNat 32 (i 0).val) v = b
  exact (by decide : ∀ b : BitVec 1, Scalar.xori b 1#1 = 1#1 ↔ ¬ b = 1#1) b

theorem loads_iff (i : grid0.Coords) (T0 : S160.Idx → Elt Bits .i32) (T1 : S1.Idx → Elt Bits .i32) :
    loads i T0 T1 = 1#1 ↔ inUse (i 0).val (readUsed T1) ∧ ((i 0).val = 0 ∨ readHere i T0 ≠ readPrev i T0) := by
  have hz : Scalar.cmpi .eq (BitVec.ofNat 32 (i 0).val) 0#32 = 1#1 ↔ (i 0).val = 0 :=
    (by decide +kernel : ∀ n : Fin 160, Scalar.cmpi .eq (BitVec.ofNat 32 n.val) 0#32 = 1#1 ↔ n.val = 0) (i 0)
  have hd : Scalar.cmpi .ne (readHere i T0) (readPrev i T0) = 1#1 ↔ readHere i T0 ≠ readPrev i T0 := by
    show BitVec.ofBool (readHere i T0 != readPrev i T0) = 1#1 ↔ _
    by_cases h : readHere i T0 = readPrev i T0
    · simp [h]
    · simp only [bne, beq_eq_false_iff_ne.2 h]; simpa using h
  rw [← slt_eq _ (i 0).isLt, ← hz, ← hd]
  refine (word_eq _).trans ?_
  generalize Scalar.cmpi .slt (BitVec.ofNat 32 (i 0).val) (readUsed T1) = b
  generalize Scalar.cmpi .eq (BitVec.ofNat 32 (i 0).val) 0#32 = b'
  generalize Scalar.cmpi .ne (readHere i T0) (readPrev i T0) = b''
  exact (by decide : ∀ b b' b'' : BitVec 1, Scalar.andi b (Scalar.ori b' b'') = 1#1 ↔ b = 1#1 ∧ (b' = 1#1 ∨ b'' = 1#1)) b b' b''

/-! ## The pipeline at given tables -/

variable (a : (pcfg0 (F := Bits)).Adm)
variable (m : (ℓ : Loc nD τ sig) → Buf (Elt Bits) ℓ) (ρ : Dev nD → PrngReg)

/-- The pipeline at the tables. -/
abbrev cfgE : Pipeline.Cfg sig Λ₀ := cfg0 (F := Bits) a
abbrev pcs : Fin 1 → Pipeline.Cfg sig Λ₀ := Pipeline.pin (pcfgs (F := Bits)) fun _ => a

/-- A point's coordinates. -/
abbrev crd (t : Fin (cfgE a).N) : grid0.Coords := (cfgE a).grid.coords t

theorem crd_val (t : Fin (cfgE a).N) : (crd a t 0).val = t.val :=
  (by decide +kernel : ∀ t : Fin grid0.N, (grid0.coords t 0).val = t.val) t

/-- The experts' table and the count. -/
abbrev bes : S160.Idx → Elt Bits .i32 := a.1 0
abbrev used : S1.Idx → Elt Bits .i32 := a.1 1

/-- A window's block at a point, read off its array at launch. -/
def iblk (c : Dev nD) (w : Fin (cfgE a).W) (t : Fin (cfgE a).N) : (((cfgE a).win w).xblock ((cfgE a).grid.coords t)).Idx → Elt Bits ((cfgE a).win w).elt :=
  (((cfgE a).win w).blk t).view.read (Elt Bits) ((s₀ m ρ).mem (((cfgE a).win w).arr.view.loc (c : Thread nD τ)))

/-- The packed rows of a point, and the weights of its expert. -/
abbrev rows (c : Dev nD) (t : Fin (cfgE a).N) : S256x512.Idx → Elt Bits .i32 := iblk a m ρ c (0 : Fin 5) t
abbrev gate (c : Dev nD) (t : Fin (cfgE a).N) : S1x1024x512.Idx → Elt Bits .f32 := iblk a m ρ c (1 : Fin 5) t
abbrev up (c : Dev nD) (t : Fin (cfgE a).N) : S1x1024x512.Idx → Elt Bits .f32 := iblk a m ρ c (2 : Fin 5) t
abbrev down (c : Dev nD) (t : Fin (cfgE a).N) : S1x512x1024.Idx → Elt Bits .f32 := iblk a m ρ c (3 : Fin 5) t

/-- The weights' windows follow the table. -/
theorem index1 (t : Fin (cfgE a).N) : ((cfgE a).win (1 : Fin 5)).index t = ![(readHere (crd a t) (bes a)).toNat, 0, 0] := rfl
theorem index2 (t : Fin (cfgE a).N) : ((cfgE a).win (2 : Fin 5)).index t = ![(readHere (crd a t) (bes a)).toNat, 0, 0] := rfl
theorem index3 (t : Fin (cfgE a).N) : ((cfgE a).win (3 : Fin 5)).index t = ![(readHere (crd a t) (bes a)).toNat, 0, 0] := rfl

/-- Two points of one expert see the same weights. -/
theorem gate_congr (c : Dev nD) (t t' : Fin (cfgE a).N) (h : readHere (crd a t) (bes a) = readHere (crd a t') (bes a)) :
    gate a m ρ c t = gate a m ρ c t' := by
  have e : ((cfgE a).win (1 : Fin 5)).index t = ((cfgE a).win (1 : Fin 5)).index t' := by rw [index1, index1, h]
  funext y
  exact congrArg ((s₀ m ρ).mem ((c : Thread nD τ).loc main_arg3)) (funext fun b => Fin.ext
    (congrArg (fun f : Fin 3 → ℕ => f b * S1x1024x512.size b + 1 * (y b).val) e))
theorem up_congr (c : Dev nD) (t t' : Fin (cfgE a).N) (h : readHere (crd a t) (bes a) = readHere (crd a t') (bes a)) :
    up a m ρ c t = up a m ρ c t' := by
  have e : ((cfgE a).win (2 : Fin 5)).index t = ((cfgE a).win (2 : Fin 5)).index t' := by rw [index2, index2, h]
  funext y
  exact congrArg ((s₀ m ρ).mem ((c : Thread nD τ).loc main_arg4)) (funext fun b => Fin.ext
    (congrArg (fun f : Fin 3 → ℕ => f b * S1x1024x512.size b + 1 * (y b).val) e))
theorem down_congr (c : Dev nD) (t t' : Fin (cfgE a).N) (h : readHere (crd a t) (bes a) = readHere (crd a t') (bes a)) :
    down a m ρ c t = down a m ρ c t' := by
  have e : ((cfgE a).win (3 : Fin 5)).index t = ((cfgE a).win (3 : Fin 5)).index t' := by rw [index3, index3, h]
  funext y
  exact congrArg ((s₀ m ρ).mem ((c : Thread nD τ).loc main_arg5)) (funext fun b => Fin.ext
    (congrArg (fun f : Fin 3 → ℕ => f b * S1x512x1024.size b + 1 * (y b).val) e))

/-- The expert read as the block before's is the one the point before reads as its own. -/
theorem prev_here (t t' : Fin (cfgE a).N) (h : t'.val + 1 = t.val) : readPrev (crd a t) (bes a) = readHere (crd a t') (bes a) := by
  rw [readPrev_eq, readHere_eq]
  refine congrArg (fun n : Fin 160 => bes a (ix1 n)) (Fin.ext ?_)
  show (crd a t 0).val - 1 = (crd a t' 0).val
  rw [crd_val, crd_val, ← h]; rfl

/-- The result's window is written at every point. -/
theorem idle4 (i : grid0.Coords) : (cfgE a).idle (4 : Fin 5) i = false := by
  show (!(k0_cond2 i (a.1.atD 1 ![0]) == 1#1) && !(k0_cond3 i (a.1.atD 1 ![0]) == 1#1)) = false
  generalize a.1.atD 1 ![0] = v
  by_cases h : inUse (i 0).val v
  · rw [(cond2_iff i v).2 h]; rfl
  · rw [(cond3_iff i v).2 h]; simp

end Cert.ExpertsBits

end
-- ==== Proof.ExpertsBitsFrame.lean ====
module

public import proofs.«01_k».proof.Proof.ExpertsBitsPoint

/-!
The expert kernel's run: at every point the scratches hold the rounded weights of the expert last loaded, which are
the point's own whenever it uses them.
-/

@[expose] public section

set_option maxRecDepth 16384
set_option Elab.async false

noncomputable section

namespace Cert.ExpertsBits

open Cert.KernelExperts Cert.KernelExperts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (a : (pcfg0 (F := Bits)).Adm)
variable (m : (ℓ : Loc nD τ sig) → Buf (Elt Bits) ℓ) (ρ : Dev nD → PrngReg)

open Classical in
/-- What a point leaves of the result: its rows through its expert, or zeros past the last block in use. -/
def outBlock (c : Dev nD) (t : Fin (cfgE a).N) : S256x1024.Idx → Elt Bits .f32 :=
  if inUse t.val (readUsed (used a)) then
    k0_pay4 (rows a m ρ c t) (k0_pay1 (gate a m ρ c t)) (k0_pay2 (up a m ρ c t)) (k0_pay3 (down a m ρ c t))
  else k0_pay5 (F := Bits)

/-- What the scratches hold before position `n`: the rounded weights of the point before, if it was in use. -/
def Held (c : Dev nD) (n : ℕ) (g u : S1024x512.Idx → Elt Bits .bf16) (w : S512x1024.Idx → Elt Bits .bf16) : Prop :=
  ∀ t : Fin (cfgE a).N, t.val + 1 = n → inUse t.val (readUsed (used a)) →
    g = k0_pay1 (gate a m ρ c t) ∧ u = k0_pay2 (up a m ρ c t) ∧ w = k0_pay3 (down a m ρ c t)

/-- The invariant before a point. -/
def Phi (c : Dev nD) (t : Fin ((cfgE a).N + 1)) : sProp 𝕄 :=
  iprop(∃ a0 a1 a2, ⌜Held a m ρ c t.val (gateM.view.read (Elt Bits) a0) (upM.view.read (Elt Bits) a1) (downM.view.read (Elt Bits) a2)⌝
    ∗ (gateM.view.loc (c : Thread nD τ) ↦{fullShare} a0) ∗ (upM.view.loc (c : Thread nD τ) ↦{fullShare} a1) ∗ (downM.view.loc (c : Thread nD τ) ↦{fullShare} a2)
    ∗ (beM.view.loc (c : Thread nD τ) ↦{fullShare.right} bes a) ∗ (nuM.view.loc (c : Thread nD τ) ↦{fullShare.right} used a))

/-- The proof data of the pipeline on a core. -/
def dats (_ : Fin 1) (c : Dev nD) : Dat τ (Elt Bits) Unit ℕ (UR sig nD τ) ℕ (cfgE a) c where
  A w := (s₀ m ρ).mem (((cfgE a).win w).arr.view.loc (c : Thread nD τ))
  after w t := match w with
    | ⟨0, _⟩ => rows a m ρ c t
    | ⟨1, _⟩ => gate a m ρ c t
    | ⟨2, _⟩ => up a m ρ c t
    | ⟨3, _⟩ => down a m ρ c t
    | ⟨4, _⟩ => outBlock a m ρ c t
  Φ t := Phi a m ρ c t
  q _ := fullShare
  owed _ := 0

theorem after_0 (c : Dev nD) (t : Fin (cfgE a).N) : (dats a m ρ 0 c).after (0 : Fin 5) t = rows a m ρ c t := rfl
theorem after_1 (c : Dev nD) (t : Fin (cfgE a).N) : (dats a m ρ 0 c).after (1 : Fin 5) t = gate a m ρ c t := rfl
theorem after_2 (c : Dev nD) (t : Fin (cfgE a).N) : (dats a m ρ 0 c).after (2 : Fin 5) t = up a m ρ c t := rfl
theorem after_3 (c : Dev nD) (t : Fin (cfgE a).N) : (dats a m ρ 0 c).after (3 : Fin 5) t = down a m ρ c t := rfl
theorem after_4 (c : Dev nD) (t : Fin (cfgE a).N) : (dats a m ρ 0 c).after (4 : Fin 5) t = outBlock a m ρ c t := rfl

/-- An input's staging buffer holds the point's block. -/
theorem before_0 (c : Dev nD) (t : Fin (cfgE a).N) (d) : (dats a m ρ 0 c).before (0 : Fin 5) t d = rows a m ρ c t :=
  ((dats a m ρ 0 c).before_in_eq_fetched (0 : Fin 5) rfl (fun _ => rfl) (fun _ _ _ => rfl) (fun t => by rw [after_0]; unfold Dat.blockOf rows iblk; rfl) t d).trans
    (by unfold Dat.fetched Dat.blockOf rows iblk; rfl)
theorem before_1 (c : Dev nD) (t : Fin (cfgE a).N) (d) : (dats a m ρ 0 c).before (1 : Fin 5) t d = gate a m ρ c t :=
  ((dats a m ρ 0 c).before_in_eq_fetched (1 : Fin 5) rfl (fun _ => rfl) (fun _ _ _ => rfl) (fun t => by rw [after_1]; unfold Dat.blockOf gate iblk; rfl) t d).trans
    (by unfold Dat.fetched Dat.blockOf gate iblk; rfl)
theorem before_2 (c : Dev nD) (t : Fin (cfgE a).N) (d) : (dats a m ρ 0 c).before (2 : Fin 5) t d = up a m ρ c t :=
  ((dats a m ρ 0 c).before_in_eq_fetched (2 : Fin 5) rfl (fun _ => rfl) (fun _ _ _ => rfl) (fun t => by rw [after_2]; unfold Dat.blockOf up iblk; rfl) t d).trans
    (by unfold Dat.fetched Dat.blockOf up iblk; rfl)
theorem before_3 (c : Dev nD) (t : Fin (cfgE a).N) (d) : (dats a m ρ 0 c).before (3 : Fin 5) t d = down a m ρ c t :=
  ((dats a m ρ 0 c).before_in_eq_fetched (3 : Fin 5) rfl (fun _ => rfl) (fun _ _ _ => rfl) (fun t => by rw [after_3]; unfold Dat.blockOf down iblk; rfl) t d).trans
    (by unfold Dat.fetched Dat.blockOf down iblk; rfl)

/-- The current staging buffers at a point, and their wholeness. -/
abbrev st0 (t : Fin (cfgE a).N) : Memref sig .tc .vmem S256x512 .i32 := spec0_0.stage ((cfgE a).slots t (0 : Fin 5))
abbrev st1 (t : Fin (cfgE a).N) : Memref sig .tc .vmem S1x1024x512 .f32 := spec0_1.stage ((cfgE a).slots t (1 : Fin 5))
abbrev st2 (t : Fin (cfgE a).N) : Memref sig .tc .vmem S1x1024x512 .f32 := spec0_2.stage ((cfgE a).slots t (2 : Fin 5))
abbrev st3 (t : Fin (cfgE a).N) : Memref sig .tc .vmem S1x512x1024 .f32 := spec0_3.stage ((cfgE a).slots t (3 : Fin 5))
abbrev st4 (t : Fin (cfgE a).N) : Memref sig .tc .vmem S256x1024 .f32 := spec0_4.stage ((cfgE a).slots t (4 : Fin 5))
abbrev whole0 (t : Fin (cfgE a).N) : (st0 a t).IsWhole := hstage0_0 (((cfgE a).slots t (0 : Fin 5)).cast nbuf0_0)
abbrev whole1 (t : Fin (cfgE a).N) : (st1 a t).IsWhole := hstage0_1 (((cfgE a).slots t (1 : Fin 5)).cast nbuf0_1)
abbrev whole2 (t : Fin (cfgE a).N) : (st2 a t).IsWhole := hstage0_2 (((cfgE a).slots t (2 : Fin 5)).cast nbuf0_2)
abbrev whole3 (t : Fin (cfgE a).N) : (st3 a t).IsWhole := hstage0_3 (((cfgE a).slots t (3 : Fin 5)).cast nbuf0_3)
abbrev whole4 (t : Fin (cfgE a).N) : (st4 a t).IsWhole := hstage0_4 (((cfgE a).slots t (4 : Fin 5)).cast nbuf0_4)

/-- What the scratches hold when a point keeps them is its own weights, rounded. -/
theorem kept (c : Dev nD) (t : Fin (cfgE a).N) (g u : S1024x512.Idx → Elt Bits .bf16) (w : S512x1024.Idx → Elt Bits .bf16)
    (h : Held a m ρ c t.val g u w) (hu : inUse t.val (readUsed (used a))) (h0 : t.val ≠ 0)
    (he : readHere (crd a t) (bes a) = readPrev (crd a t) (bes a)) :
    g = k0_pay1 (gate a m ρ c t) ∧ u = k0_pay2 (up a m ρ c t) ∧ w = k0_pay3 (down a m ρ c t) := by
  have hlt : t.val - 1 < (cfgE a).N := Nat.lt_of_le_of_lt (Nat.sub_le _ _) t.isLt
  have hs : (⟨t.val - 1, hlt⟩ : Fin (cfgE a).N).val + 1 = t.val := by show t.val - 1 + 1 = t.val; omega
  have e := he.trans (prev_here a t ⟨t.val - 1, hlt⟩ hs)
  rw [gate_congr a m ρ c t _ e, up_congr a m ρ c t _ e, down_congr a m ρ c t _ e]
  refine h _ hs ?_
  unfold inUse at hu ⊢
  show ((t.val - 1 : ℕ) : ℤ) < _
  omega

set_option maxHeartbeats 8000000 in
/-- The body at a point, in whichever case it is. -/
theorem point (c : Dev nD) (t : Fin (cfgE a).N) :
    iprop((dats a m ρ 0 c).Φ t.castSucc ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := Bits)) Variants.none c none) Set.univ
          (cc0_moe_experts (crd a t) beM (Memref.isWhole_whole _) nuM (Memref.isWhole_whole _) (st0 a t) (whole0 a t) (st1 a t) (whole1 a t) (st2 a t) (whole2 a t)
            (st3 a t) (whole3 a t) (st4 a t) (whole4 a t) gateM (Memref.isWhole_whole _) upM (Memref.isWhole_whole _) downM (Memref.isWhole_whole _)) fun _ =>
          iprop((dats a m ρ 0 c).Φ t.succ ∗ (dats a m ρ 0 c).owesAt () t.succ
            ∗ bigSep Finset.univ fun w : Fin (cfgE a).W =>
                match (cfgE a).idle w ((cfgE a).grid.coords t) with
                | true =>
                  match ((cfgE a).win w).flush t with
                  | false => iprop(∃ d, owns (c : Thread nD τ) (((cfgE a).win w).stage ((cfgE a).slots t w)) fullShare ((dats a m ρ 0 c).before w t d))
                  | true => owns (c : Thread nD τ) (((cfgE a).win w).stage ((cfgE a).slots t w)) fullShare ((dats a m ρ 0 c).after w t)
                | false => owns (c : Thread nD τ) (((cfgE a).win w).stage ((cfgE a).slots t w)) fullShare ((dats a m ρ 0 c).after w t)) := by
  rw [bigSep_W0]
  rewrite [idle4 a]
  simp only [before_0, before_1, before_2, before_3, after_0, after_1, after_2, after_3, after_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  iintro ⟨⟨%a0, %a1, %a2, %hh, HS0, HS1, HS2, HT0, HT1⟩, Ho, ⟨%d0, H0⟩, ⟨%d1, H1⟩, ⟨%d2, H2⟩, ⟨%d3, H3⟩, ⟨%d4, H4⟩⟩
  have next : ∀ (g u : S1024x512.Idx → Elt Bits .bf16) (w : S512x1024.Idx → Elt Bits .bf16),
      (inUse t.val (readUsed (used a)) → g = k0_pay1 (gate a m ρ c t) ∧ u = k0_pay2 (up a m ρ c t) ∧ w = k0_pay3 (down a m ρ c t)) →
      Held a m ρ c (t.val + 1) g u w := by
    intro g u w h t' ht' hu
    obtain rfl : t' = t := Fin.ext (by omega)
    exact h hu
  have hc2 := cond2_iff (crd a t) (readUsed (used a))
  have hc3 := cond3_iff (crd a t) (readUsed (used a))
  have hcl := loads_iff (crd a t) (bes a) (used a)
  rw [crd_val] at hc2 hc3 hcl
  by_cases hu : inUse t.val (readUsed (used a))
  · have eo : outBlock a m ρ c t = k0_pay4 (rows a m ρ c t) (k0_pay1 (gate a m ρ c t)) (k0_pay2 (up a m ρ c t)) (k0_pay3 (down a m ρ c t)) := if_pos hu
    rw [eo]
    by_cases hl : t.val = 0 ∨ readHere (crd a t) (bes a) ≠ readPrev (crd a t) (bes a)
    · iapply (run_load c (crd a t) (st0 a t) (whole0 a t) (st1 a t) (whole1 a t) (st2 a t) (whole2 a t) (st3 a t) (whole3 a t) (st4 a t) (whole4 a t)
        (bes a) (used a) (rows a m ρ c t) (gate a m ρ c t) (up a m ρ c t) (down a m ρ c t) (hcl.2 ⟨hu, hl⟩) (hc2.2 hu) (fun h => hc3.1 h hu) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexists _; iexact HS0
      isplitl [HS1]; · iexists _; iexact HS1
      isplitl [HS2]; · iexists _; iexact HS2
      iintro ⟨H0, H1, H2, H3, HT0, HT1, H4, ⟨%b0, %h0, HS0⟩, ⟨%b1, %h1, HS1⟩, ⟨%b2, %h2, HS2⟩⟩
      isplitl [HS0 HS1 HS2 HT0 HT1]
      · iexists b0; iexists b1; iexists b2
        isplitr
        · ipureintro; exact next _ _ _ fun _ => ⟨h0, h1, h2⟩
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4
    · have hk := kept a m ρ c t _ _ _ hh hu (fun h => hl (.inl h)) (not_not.1 fun h => hl (.inr h))
      iapply (run_keep c (crd a t) (st0 a t) (whole0 a t) (st1 a t) (whole1 a t) (st2 a t) (whole2 a t) (st3 a t) (whole3 a t) (st4 a t) (whole4 a t)
        (bes a) (used a) (rows a m ρ c t) (gate a m ρ c t) (up a m ρ c t) (down a m ρ c t) a0 a1 a2 _ _ _ hk.1 hk.2.1 hk.2.2
        (fun h => hl (hcl.1 h).2) (hc2.2 hu) (fun h => hc3.1 h hu) _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, H4, HS0, HS1, HS2⟩
      isplitl [HS0 HS1 HS2 HT0 HT1]
      · iexists a0; iexists a1; iexists a2
        isplitr
        · ipureintro; exact next _ _ _ fun _ => hk
        isplitl [HS0]; · iexact HS0
        isplitl [HS1]; · iexact HS1
        isplitl [HS2]; · iexact HS2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      iexact H4
  · have eo : outBlock a m ρ c t = k0_pay5 (F := Bits) := if_neg hu
    rw [eo]
    iapply (run_rest c (crd a t) (st0 a t) (whole0 a t) (st1 a t) (whole1 a t) (st2 a t) (whole2 a t) (st3 a t) (whole3 a t) (st4 a t) (whole4 a t)
      (bes a) (used a) (rows a m ρ c t) (gate a m ρ c t) (up a m ρ c t) (down a m ρ c t) a0 a1 a2
      (fun h => hu (hcl.1 h).1) (fun h => hu (hc2.1 h)) (hc3.2 hu) _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    isplitl [HS2]; · iexact HS2
    iintro ⟨H0, H1, H2, H3, HT0, HT1, H4, HS0, HS1, HS2⟩
    isplitl [HS0 HS1 HS2 HT0 HT1]
    · iexists a0; iexists a1; iexists a2
      isplitr
      · ipureintro; exact next _ _ _ fun h => absurd h hu
      isplitl [HS0]; · iexact HS0
      isplitl [HS1]; · iexact HS1
      isplitl [HS2]; · iexact HS2
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4

/-- The body obligation at every point. -/
theorem body_obligation (c : Dev nD) : BodyObligation (dats a m ρ 0 c) (defs₀ (F := Bits)) Variants.none () Set.univ := fun t => by
  rw [bigSep_W0]
  exact point a m ρ c t

/-! ## The launch -/

def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgE a).W) : (dats a m ρ 0 c).share w = fullShare := by unfold Dat.share; split <;> rfl

/-- The two tables, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, where the scratches hold anything. -/
theorem enter (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  iexists a0; iexists a1; iexists a2
  isplitr
  · ipureintro; intro t ht; exact absurd ht (Nat.succ_ne_zero _)
  isplitl [HS0]; · iexact HS0
  isplitl [HS1]; · iexact HS1
  isplitl [HS2]; · iexact HS2
  isplitl [HT0]; · iexact HT0
  iexact HT1

/-- The scratches given back after the last point. -/
theorem leave (c : Dev nD) : (dats a m ρ 0 c).Φ (Fin.last (cfgE a).N) ⊢ iprop(BI.emp ∗ Pipeline.scopedRest spec0 c) := by
  rw [scopedRest0_eq, show (dats a m ρ 0 c).Φ (Fin.last (cfgE a).N) = Phi a m ρ c (Fin.last _) from rfl]
  unfold Phi
  iintro ⟨%a0, %a1, %a2, -, HS0, HS1, HS2, -, -⟩
  isplitr; · iempintro
  isplitl [HS0]
  · iexists a0; iexact HS0
  isplitl [HS1]
  · iexists a1; iexact HS1
  iexists a2; iexact HS2

/-- Every array at what the pipeline leaves in it, every table as it was. -/
def Ends : PUnit × MemSt nD τ sig (Elt Bits) → Prop := fun r =>
  ∀ c : Dev nD, (∀ w : Fin (cfgE a).W, r.2.mem (((cfgE a).win w).arr.view.loc (c : Thread nD τ)) = (dats a m ρ 0 c).arrAt w (cfgE a).N)
    ∧ ∀ j, r.2.mem ((c : Thread nD τ).loc (pre0.ref j)) = a.1 j

set_option backward.isDefEq.respectTransparency.types false in
set_option maxHeartbeats 4000000 in
/-- The run of the whole program from a memory that holds the tables. -/
theorem runs (hp : ∀ (c : Dev nD) (j : Fin 2), m ((c : Thread nD τ).loc (pre0.ref j)) = a.1 j) :
    θ_run (defs (F := Bits)) (onTc (τ := τ) (main (F := Bits))) (s₀ m ρ) (fun r => Ends a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument ends as it began, the result at what the pipeline leaves in it, and no counter is raised. -/
theorem ends (hp : ∀ (c : Dev nD) (j : Fin 2), m ((c : Thread nD τ).loc (pre0.ref j)) = a.1 j) :
    θ_run (defs (F := Bits)) (onTc (τ := τ) (main (F := Bits))) ⟨m, fun _ => 0, ρ⟩ (fun r => (∀ c : Dev nD,
      r.2.mem ((c.tc : Thread nD τ).loc main_v0) = (dats a m ρ 0 c).arrAt (4 : Fin 5) (cfgE a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (runs a m ρ hp)

/-! ## The tables of a memory -/

/-- The tables a memory holds. -/
def tables : pre0.Contents (Elt Bits) := fun j => m (((0 : Dev nD) : Thread nD τ).loc (pre0.ref j))

/-- Every block's expert is one of the thirty-two. -/
def Named : Prop := ∀ (c : Dev nD) (n : Fin 160), (m ((c : Thread nD τ).loc main_arg0) (ix1 n) : BitVec 32).toNat < 32

theorem block_inside (h : Named m) (i : grid0.Coords) (s S : Fin 3 → ℕ) (hs : s 0 = 1) (h0 : S 0 = 32) (h1 : s 1 = S 1) (h2 : s 2 = S 2) (b : Fin 3) :
    (cc0_transform_1 k0_off1_inb numel1_S1 (tables m) i b + 1) * s b ≤ S b := by
  have e : cc0_transform_1 k0_off1_inb numel1_S1 (tables m) i = ![(m (((0 : Dev nD) : Thread nD τ).loc main_arg0) (ix1 (⟨(i 0).val, (i 0).isLt⟩ : Fin 160)) : BitVec 32).toNat, 0, 0] :=
    congrArg (fun v : BitVec 32 => ![v.toNat, 0, 0]) (readHere_eq i (tables m 0))
  rw [e]
  have := h 0 ⟨(i 0).val, (i 0).isLt⟩
  fin_cases b
  · show ((m (((0 : Dev nD) : Thread nD τ).loc main_arg0) (ix1 (⟨(i 0).val, (i 0).isLt⟩ : Fin 160)) : BitVec 32).toNat + 1) * s 0 ≤ S 0
    rw [hs, h0]
    exact (Nat.mul_one _).trans_le this
  · show (0 + 1) * s 1 ≤ S 1
    omega
  · show (0 + 1) * s 2 ≤ S 2
    omega

/-- Such a memory's tables keep every block inside its array. -/
def adm (h : Named m) : (pcfg0 (F := Bits)).Adm :=
  ⟨tables m, fun i => ⟨block_inside m h i _ _ rfl rfl rfl rfl, .inl rfl⟩, fun i => ⟨block_inside m h i _ _ rfl rfl rfl rfl, .inl rfl⟩,
    fun i => ⟨block_inside m h i _ _ rfl rfl rfl rfl, .inl rfl⟩⟩

theorem adm_tables (h : Named m) (c : Dev nD) (j : Fin 2) : m ((c : Thread nD τ).loc (pre0.ref j)) = (adm m h).1 j := by
  obtain rfl : c = 0 := Subsingleton.elim _ _
  rfl

end Cert.ExpertsBits

end
-- ==== Proof.ExpertsClaim.lean ====
module

public import proofs.«01_k».proof.Defs
public import proofs.«01_k».proof.Proof.Gen.Pre_experts_named
public import proofs.«01_k».proof.Proof.ExpertsValue
public import proofs.«01_k».proof.Proof.ExpertsRef
public import proofs.«01_k».proof.Proof.ExpertsBitsFrame

@[expose] public section

set_option maxRecDepth 16384

noncomputable section

/-! The experts' claims. -/

namespace Cert.Experts

open Idealize.ShloMosaic Idealize.ShloMosaic.TcCoe Idealize.SL.Sem

/-- The predicate, true of every block, bounds every word of the table. -/
theorem small_of_named {F : FTy → Type} [FloatOps F] (b : IVec Cert.Pre_experts_named.S160 32) (n : IVec Cert.Pre_experts_named.S1 32)
    (x : IVec Cert.Pre_experts_named.S40960x512 32) (g u : FVec F Cert.Pre_experts_named.S32x1024x512 .f32)
    (d : FVec F Cert.Pre_experts_named.S32x512x1024 .f32)
    (h : Cert.Pre_experts_named.fn (F := F) b n x g u d = fun _ => 1#1) (t : Fin 160) : (b (ix1 t)).toNat < 32 := by
  have both (p q : BitVec 1) : IntOp.andi p q = 1#1 ↔ p = 1#1 ∧ q = 1#1 := by revert p q; decide
  have bit (p : Bool) : BitVec.ofBool p = 1#1 ↔ p = true := by revert p; decide
  have k := congrFun h (ix1 t)
  simp only [Cert.Pre_experts_named.fn, constantI, broadcastInDim, cmpi, andi, both] at k
  obtain ⟨k0, k1⟩ := k
  generalize b (ix1 t) = v at k0 k1 ⊢
  have l0 : (0 : ℤ) ≤ v.toInt := by
    have := (bit _).mp k0
    simpa [BitVec.sle] using this
  have l1 : v.toInt < 32 := by
    have := (bit _).mp k1
    simpa [BitVec.slt] using this
  have := BitVec.toInt_eq_toNat_cond v
  have := v.isLt
  split_ifs at * <;> omega

theorem named_ideal (m) (h : Cert.Pre_KernelExpertsIdeal m) : Named m := fun c n => small_of_named _ _ _ _ _ _ (h c) n
theorem named_bits (m) (h : Cert.Pre_KernelExperts m) : Cert.ExpertsBits.Named m := fun c n => small_of_named _ _ _ _ _ _ (h c) n

/-- The printed kernel terminates, keeps its arguments and leaves no counter raised. -/
theorem kernel_frame : Cert.quiescent_KernelExperts := fun m g hp =>
  (θ_run Cert.KernelExperts.defs _ _).mono (fun r h => ⟨fun c => (h.1 c).2, h.2⟩)
    (Cert.ExpertsBits.ends (Cert.ExpertsBits.adm m (named_bits m hp)) m g (Cert.ExpertsBits.adm_tables m (named_bits m hp)))

/-- So does the ideal kernel. -/
theorem ideal_frame : Cert.quiescent_KernelExpertsIdeal := fun m g hp =>
  (θ_run Cert.KernelExpertsIdeal.defs _ _).mono (fun r h => ⟨fun c => (h.1 c).2, h.2⟩)
    (ends (adm m (named_ideal m hp)) m g (adm_tables m (named_ideal m hp)))

/-- So does the reference. -/
theorem reference_frame : Cert.quiescent_ReferenceExpertsIdeal := fun m g _ =>
  (θ_run Cert.ReferenceExpertsIdeal.defs _ _).mono
    (fun r h => ⟨fun c => (h c).2, Idealize.ShloMosaic.sem_eq_zero_of_no_sems (by decide) r.2⟩)
    (Cert.ReferenceExpertsIdeal.Value.run (F := Ideal) m g)

theorem reference_frame_named : Cert.quiescent_ReferenceExpertsIdeal_pre_experts_named := fun m g _ => reference_frame m g trivial

/-- The reference's term at a row and a column, before the choice between the blocks in use and the others. -/
theorem through_eq (b : IVec Cert.ReferenceExpertsIdeal.S160 32) (hb : ∀ n : Fin 160, (b (ix1 n)).toNat < 32)
    (x : IVec Cert.ReferenceExpertsIdeal.S40960x512 32) (g u : FVec Ideal Cert.ReferenceExpertsIdeal.S32x1024x512 .f32)
    (d : FVec Ideal Cert.ReferenceExpertsIdeal.S32x512x1024 .f32) (R : Fin 40960) (j : Fin 1024) :
    (∑ h : Fin 512, Ref.mid (Ref.proj (Ref.rows x) (Ref.pick g (Ref.words b))) (Ref.proj (Ref.rows x) (Ref.pick u (Ref.words b)))
        (ix3 (⟨R.val / 256, by omega⟩ : Fin 160) (⟨R.val % 256, by omega⟩ : Fin 256) h)
        * Ref.pickDown d (Ref.words b) (ix3 (⟨R.val / 256, by omega⟩ : Fin 160) h j))
      = through (unpacked fun l => x (ix2 R l)) (fun k i => g (ix3 (expert b hb (blockOf R)) k i))
        (fun k i => u (ix3 (expert b hb (blockOf R)) k i)) (fun i => d (ix3 (expert b hb (blockOf R)) i j)) := by
  have hw : ∀ t : Fin 160, (Ref.words b (ix2 t 0)).toInt = ((expert b hb t).val : ℤ) := fun t =>
    (congrArg BitVec.toInt (Ref.words_at b t (hb t))).trans (Ref.toInt_small _ (hb t))
  have hrow : (⟨R.val / 256 * 256 + R.val % 256, by omega⟩ : Fin 40960) = R := Fin.ext (Nat.div_add_mod' R.val 256)
  unfold through hidden
  refine Finset.sum_congr rfl fun i _ => ?_
  rw [Ref.mid_at, Ref.proj_at, Ref.proj_at, Ref.pickDown_at _ _ _ _ _ _ (hw _)]
  simp only [hrow, Ref.rows_at, Ref.pick_at _ _ _ _ _ _ (hw _)]
  rfl

/-- The reference's term is the array of the same tables, rows and weights. -/
theorem term_eq (b : IVec Cert.ReferenceExpertsIdeal.S160 32) (hb : ∀ n : Fin 160, (b (ix1 n)).toNat < 32) (n : IVec Cert.ReferenceExpertsIdeal.S1 32)
    (x : IVec Cert.ReferenceExpertsIdeal.S40960x512 32) (g u : FVec Ideal Cert.ReferenceExpertsIdeal.S32x1024x512 .f32)
    (d : FVec Ideal Cert.ReferenceExpertsIdeal.S32x512x1024 .f32) : Ref.term b n x g u d = whole b hb n x g u d := by
  funext y
  have hR : (y 0).val < 40960 := (y 0).isLt
  refine (congrArg _ (eq_ix2 y)).trans ((Ref.out_at n _ _ (y 0) (y 1)).trans ?_)
  refine (congrArg (fun s => Scalar.select _ s _) (through_eq b hb x g u d (y 0) (y 1))).trans ?_
  unfold whole
  have hc := slt_eq ((y 0).val / 256) (by omega) (n (ix1 (0 : Fin 1)))
  by_cases hu : inUse ((y 0).val / 256) (n (ix1 (0 : Fin 1)))
  · refine Eq.trans ?_ (if_pos hu).symm
    exact congrArg (fun s => Scalar.select s _ _) (hc.mpr hu)
  · refine Eq.trans ?_ (if_neg hu).symm
    exact congrArg (fun s => Scalar.select s _ _) (Idealize.ShloMosaic.ValueIdx.eq_zero_of_ne_one fun h1 => hu (hc.mp h1))

/-- The kernel's value is the reference's. -/
theorem algebraic : Cert.algebraic_KernelExpertsIdeal_ReferenceExpertsIdeal := fun m g m' g' hp hagree =>
  ⟨fun c => result m (named_ideal m hp) c,
    (θ_run Cert.KernelExpertsIdeal.defs _ _).mono
      (fun r h c => ⟨(h.1 c).1.trans (array_eq m g (named_ideal m hp) c), (h.1 c).2⟩)
      (ends (adm m (named_ideal m hp)) m g (adm_tables m (named_ideal m hp))),
    (θ_run Cert.ReferenceExpertsIdeal.defs _ _).mono
      (fun r h c => ⟨(h c).1.trans (by
        obtain ⟨h0, h1, h2, h3, h4, h5⟩ := hagree c
        unfold Cert.ReferenceExpertsIdeal.Value.res_main_v42
        rw [h0, h1, h2, h3, h4, h5]
        exact term_eq _ (named_ideal m hp c) _ _ _ _ _), (h c).2⟩)
      (Cert.ReferenceExpertsIdeal.Value.run (F := Ideal) m' g')⟩

end Cert.Experts

end
-- ==== Proof.WinSpec.lean ====
module

public import proofs.«01_k».proof.Proof.Real
public import proofs.«01_k».proof.Proof.Gen.ReferenceWinIdeal

@[expose] public section

set_option maxRecDepth 16384

noncomputable section

namespace Cert.Win

open Idealize.ShloMosaic Idealize.ShloMosaic.TcCoe Idealize.SL.Sem
open Cert.ReferenceWinIdeal Cert.Real

/-! Windowed attention with one sink logit per head, and why the keys outside a query's window may be left away. -/

/-- The largest of a row of scores and the sink. -/
def top {n : ℕ} (s : Fin n → EReal) (z : EReal) : EReal := max (Finset.univ.fold max ⊥ s) z

/-- A row of scores normalised with the sink among them, against a column of values. -/
def attend {n : ℕ} (s : Fin n → EReal) (z : EReal) (v : Fin n → EReal) : EReal :=
  ∑ k, Ideal.div (Ideal.exp (s k - top s z)) ((∑ x, Ideal.exp (s x - top s z)) + Ideal.exp (z - top s z)) * v k

theorem fold_eq_sup {n : ℕ} (s : Fin n → EReal) : Finset.univ.fold max ⊥ s = Finset.univ.sup s := rfl

/-- An exponential is not negative. -/
theorem exp_nonneg (x : EReal) : 0 ≤ Ideal.exp x := by
  induction x using EReal.rec with
  | bot => simp
  | top => exact (le_top : (0 : EReal) ≤ ⊤)
  | coe r => rw [Ideal.exp_coe]; exact_mod_cast (Real.exp_pos r).le

/-- THE WINDOW: scores outside of it are −∞ and weigh nothing, so a row attends to its window alone. -/
theorem attend_window {n N : ℕ} (e : Fin n → Fin N) (he : Function.Injective e) (s : Fin N → EReal) (z : ℝ) (v : Fin N → EReal)
    (hs : ∀ k, s k ≠ ⊤) (hw : ∀ k, k ∉ Set.range e → s k = ⊥) :
    attend (fun k => s (e k)) z (fun k => v (e k)) = attend s z v := by
  have ht : top (fun k => s (e k)) z = top s z := by
    unfold top
    rw [fold_eq_sup, fold_eq_sup]
    refine congrArg (fun t => max t (z : EReal)) (le_antisymm ?_ ?_)
    · exact Finset.sup_le fun k _ => Finset.le_sup (f := s) (Finset.mem_univ (e k))
    · refine Finset.sup_le fun k _ => ?_
      by_cases h : k ∈ Set.range e
      · obtain ⟨x, rfl⟩ := h
        exact Finset.le_sup (f := fun k => s (e k)) (Finset.mem_univ x)
      · rw [hw k h]; exact bot_le
  have hlt : Finset.univ.sup s < ⊤ := (Finset.sup_lt_iff (by simp)).2 fun k _ => lt_top_iff_ne_top.2 (hs k)
  have hb : top s z ≠ ⊥ := ne_bot_of_le_ne_bot (EReal.coe_ne_bot z) (le_max_right _ _)
  have hT : top s z ≠ ⊤ := ne_of_lt (max_lt hlt (EReal.coe_lt_top z))
  obtain ⟨M, hM⟩ : ∃ M : ℝ, top s z = M := ⟨(top s z).toReal, (EReal.coe_toReal hT hb).symm⟩
  have hout : ∀ k, k ∉ Set.range e → Ideal.exp (s k - M) = 0 := fun k h => by
    rw [hw k h, EReal.bot_sub, Ideal.exp_bot]
  unfold attend
  rw [ht, hM]
  have hsum : ∑ x, Ideal.exp (s (e x) - M) = ∑ x, Ideal.exp (s x - M) :=
    Fintype.sum_of_injective e he _ _ hout fun _ => rfl
  rw [hsum]
  have hD : (∑ x, Ideal.exp (s x - M)) + Ideal.exp ((z : EReal) - M) ≠ 0 := by
    refine ne_of_gt (lt_of_lt_of_le ?_ (le_add_of_nonneg_left (Finset.sum_nonneg fun x _ => exp_nonneg _)))
    rw [← EReal.coe_sub, Ideal.exp_coe]
    exact_mod_cast Real.exp_pos _
  refine Fintype.sum_of_injective e he _ _ (fun k h => ?_) fun _ => rfl
  rw [hout k h, Ideal.div, if_neg hD, zero_mul, zero_mul]

/-- A maximum over a row and one more entry. -/
theorem top_last {n : ℕ} (f : Fin (n + 1) → EReal) :
    Finset.univ.fold max ⊥ f = max (Finset.univ.fold max ⊥ fun k : Fin n => f k.castSucc) (f (Fin.last n)) := by
  rw [fold_eq_sup, fold_eq_sup]
  refine le_antisymm (Finset.sup_le fun k _ => ?_) (max_le ?_ ?_)
  · refine Fin.lastCases (le_max_right _ _) (fun k => ?_) k
    exact le_trans (Finset.le_sup (f := fun k : Fin n => f k.castSucc) (Finset.mem_univ k)) (le_max_left _ _)
  · exact Finset.sup_le fun k _ => Finset.le_sup (f := f) (Finset.mem_univ _)
  · exact Finset.le_sup (f := f) (Finset.mem_univ _)

/-- The pattern of −∞. -/
theorem minus_inf : Ideal.ofBits .f32 0xFF800000#32 = ⊥ := by
  simp [Ideal.ofBits, Ideal.ieee]

/-- The linear-bias slope of head `h`. -/
def slope (h : Fin 16) : EReal :=
  Ideal.pow (Ideal.ofBits .f32 0x40000000#32)
    (Ideal.div (Ideal.ofBits .f32 0xC1000000#32 * (1 + FloatOps.sitofp (F := Ideal) .f32 (BitVec.ofNat 32 h.val)))
      (Ideal.ofBits .f32 0x41800000#32))

/-- The distance between two positions, as an integer. -/
def dist (q k : ℕ) : BitVec 32 := IntOp.absi (IntOp.subi (BitVec.ofNat 32 q) (BitVec.ofNat 32 k))

/-- The biased score of head `h`'s query `q` against key `k`. -/
def score (X : FVec Ideal S8x2048x1536 .f32) (b : Fin 8) (h : Fin 16) (q k : Fin 2048) : EReal :=
  (∑ d : Fin 64, X (ix3 b q ⟨h.val * 64 + d.val, by omega⟩) * X (ix3 b k ⟨1024 + (h.val / 4 * 64 + d.val), by omega⟩))
      * Ideal.ofBits .f32 0x3E000000#32
    - slope h * FloatOps.sitofp (F := Ideal) .f32 (dist q.val k.val)

/-- The score within 128 positions, −∞ beyond. -/
def masked (X : FVec Ideal S8x2048x1536 .f32) (b : Fin 8) (h : Fin 16) (q k : Fin 2048) : EReal :=
  Scalar.select (IntOp.cmpi .sle (dist q.val k.val) 128#32) (score X b h q k) ⊥

/-- Head `h`'s output at query `q`. -/
def outAt (X : FVec Ideal S8x2048x1536 .f32) (S : FVec Ideal S16 .f32) (b : Fin 8) (q : Fin 2048) (h : Fin 16) (d : Fin 64) : EReal :=
  attend (masked X b h q) (S (ix1 h)) fun k => X (ix3 b k ⟨1280 + (h.val / 4 * 64 + d.val), by omega⟩)

/-! Finite inputs give finite scores. -/

/-- A value that is a real number. -/
def IsReal (x : EReal) : Prop := ∃ r : ℝ, x = r

theorem IsReal.mul {x y : EReal} : IsReal x → IsReal y → IsReal (x * y) := fun ⟨a, ha⟩ ⟨b, hb⟩ => ⟨a * b, by rw [ha, hb, EReal.coe_mul]⟩
theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.sum {n : ℕ} (f : Fin n → EReal) (h : ∀ k, IsReal (f k)) : IsReal (∑ k, f k) := by
  induction n with
  | zero => exact ⟨0, by simp⟩
  | succ n ih => rw [Fin.sum_univ_succ]; exact (h 0).add (ih _ fun k => h _)

theorem IsReal.of_ne {x : EReal} (hb : x ≠ ⊥) (ht : x ≠ ⊤) : IsReal x := ⟨x.toReal, (EReal.coe_toReal ht hb).symm⟩

theorem IsReal.sitofp (x : BitVec 32) : IsReal (FloatOps.sitofp (F := Ideal) .f32 x) := ⟨_, rfl⟩

theorem slope_fin (h : Fin 16) : IsReal (slope h) := by
  have e0 : Ideal.ofBits .f32 0x40000000#32 = ((2 : ℝ) : EReal) := by
    simp [Ideal.ofBits, Ideal.ieee, -EReal.coe_mul]; norm_num
  have e1 : Ideal.ofBits .f32 0xC1000000#32 = ((-8 : ℝ) : EReal) := by
    simp [Ideal.ofBits, Ideal.ieee, -EReal.coe_mul]; norm_num
  have e2 : Ideal.ofBits .f32 0x41800000#32 = ((16 : ℝ) : EReal) := by
    simp [Ideal.ofBits, Ideal.ieee, -EReal.coe_mul]; norm_num
  obtain ⟨r, hr⟩ := IsReal.sitofp (BitVec.ofNat 32 h.val)
  unfold slope
  rw [hr, e0, e1, e2, ← EReal.coe_one, ← EReal.coe_add, ← EReal.coe_mul, Ideal.div_coe (by norm_num : (16 : ℝ) ≠ 0)]
  exact ⟨_, by rw [← EReal.coe_mul]; rfl⟩

theorem masked_ne_top (X : FVec Ideal S8x2048x1536 .f32) (hX : ∀ i, IsReal (X i)) (b : Fin 8) (h : Fin 16) (q k : Fin 2048) :
    masked X b h q k ≠ ⊤ := by
  have hs : IsReal (score X b h q k) :=
    ((IsReal.sum _ fun d => (hX _).mul (hX _)).mul (by rw [eighth]; exact ⟨_, rfl⟩)).sub ((slope_fin h).mul (IsReal.sitofp _))
  obtain ⟨r, hr⟩ := hs
  unfold masked Scalar.select
  rw [hr]
  split_ifs
  · exact EReal.coe_ne_top r
  · exact bot_ne_top

/-- Where the window of the 128 queries from `128·c` on starts. -/
def start (c : ℕ) : ℕ := min 1664 (128 * c - 128)

/-- The distance of two positions below 2048. -/
theorem dist_eq (q k : ℕ) (hq : q < 2048) (hk : k < 2048) : dist q k = BitVec.ofNat 32 (if k ≤ q then q - k else k - q) := by
  unfold dist IntOp.absi IntOp.subi
  have hn : (BitVec.ofNat 32 q - BitVec.ofNat 32 k).toNat = if k ≤ q then q - k else 4294967296 - (k - q) := by
    rw [BitVec.toNat_sub, BitVec.toNat_ofNat, BitVec.toNat_ofNat]
    split_ifs <;> omega
  by_cases h : k ≤ q
  · have hm : (BitVec.ofNat 32 q - BitVec.ofNat 32 k).msb = false := by
      rw [BitVec.msb_eq_decide, hn, if_pos h]
      exact decide_eq_false (by norm_num; omega)
    rw [hm, if_neg (by decide), if_pos h]
    exact BitVec.eq_of_toNat_eq (by rw [hn, if_pos h, BitVec.toNat_ofNat]; omega)
  · have hm : (BitVec.ofNat 32 q - BitVec.ofNat 32 k).msb = true := by
      rw [BitVec.msb_eq_decide, hn, if_neg h]
      exact decide_eq_true (by norm_num; omega)
    rw [hm, if_pos rfl, if_neg h]
    exact BitVec.eq_of_toNat_eq (by rw [BitVec.toNat_neg, hn, if_neg h, BitVec.toNat_ofNat]; omega)

/-- A key outside the 384 of the window is more than 128 positions away from each of the 128 queries. -/
theorem far (c p k : ℕ) (hc : c < 16) (hp : p < 128) (hk : k < 2048) (h : k < start c ∨ start c + 384 ≤ k) :
    IntOp.cmpi .sle (dist (c * 128 + p) k) 128#32 = 0#1 := by
  unfold start at h
  rw [dist_eq _ _ (by omega) hk]
  generalize hd : (if k ≤ c * 128 + p then c * 128 + p - k else k - (c * 128 + p)) = d
  have hd1 : 128 < d ∧ d < 2048 := by
    subst hd
    split_ifs <;> omega
  have e : (BitVec.ofNat 32 d).toInt = d := by
    rw [BitVec.toInt_eq_toNat_of_lt (by rw [BitVec.toNat_ofNat]; omega), BitVec.toNat_ofNat]
    norm_cast
    omega
  show BitVec.ofBool ((BitVec.ofNat 32 d).sle 128#32) = 0#1
  have : (BitVec.ofNat 32 d).sle 128#32 = false := by
    rw [BitVec.sle, e]
    exact decide_eq_false (by rw [show (128#32).toInt = 128 from by decide]; omega)
  rw [this]; rfl

/-- A block's result from its window of 384 keys. -/
theorem outAt_window (X : FVec Ideal S8x2048x1536 .f32) (S : FVec Ideal S16 .f32) (hX : ∀ i, IsReal (X i)) (hS : ∀ i, IsReal (S i))
    (b : Fin 8) (h : Fin 16) (d : Fin 64) (c : Fin 16) (p : Fin 128) :
    attend (fun k : Fin 384 => masked X b h ⟨c.val * 128 + p.val, by omega⟩ ⟨start c.val + k.val, by unfold start; omega⟩) (S (ix1 h))
        (fun k => X (ix3 b ⟨start c.val + k.val, by unfold start; omega⟩ ⟨1280 + (h.val / 4 * 64 + d.val), by omega⟩))
      = outAt X S b ⟨c.val * 128 + p.val, by omega⟩ h d := by
  obtain ⟨z, hz⟩ := hS (ix1 h)
  unfold outAt
  rw [hz]
  refine attend_window (fun k : Fin 384 => (⟨start c.val + k.val, by unfold start; omega⟩ : Fin 2048)) (fun a b hab => ?_)
    (masked X b h ⟨c.val * 128 + p.val, by omega⟩) z (fun k => X (ix3 b k ⟨1280 + (h.val / 4 * 64 + d.val), by omega⟩))
    (fun k => masked_ne_top X hX b h _ k) fun k hk => ?_
  · have := Fin.mk.inj hab
    exact Fin.ext (by omega)
  · unfold masked
    rw [far c.val p.val k.val c.isLt p.isLt k.isLt]
    · rfl
    · by_contra hn
      have hlt := k.isLt
      exact hk ⟨⟨k.val - start c.val, by omega⟩, Fin.ext (by show start c.val + (k.val - start c.val) = k.val; omega)⟩

end Cert.Win

end
-- ==== Proof.WinBlock.lean ====
module

public import proofs.«01_k».proof.Proof.WinSpec
public import proofs.«01_k».proof.Proof.Gen.KernelWinIdeal.Value

@[expose] public section

set_option maxRecDepth 16384

noncomputable section

namespace Cert.Win

open Idealize.ShloMosaic Idealize.ShloMosaic.TcCoe Idealize.SL.Sem
open Cert.KernelWinIdeal Cert.KernelWinIdeal.Gen Cert.Real
open Idealize.ShloMosaic.Pipeline (Dat)

/-! What one grid point of the kernel computes: the pieces of one key/value head, each read at an index. -/

/-- The bit of a lane in the first half of the 128. -/
theorem low_at (x : Fin 128) : k0_pay4 (ix2 0 x) = if x.val < 64 then 1#1 else 0#1 := by
  have h : ∀ x : Fin 128, IntOp.cmpi .slt (BitVec.ofNat 32 x.val) 64#32 = if x.val < 64 then 1#1 else 0#1 := by decide
  refine Eq.trans ?_ (h x)
  pointwise [k0_pay4]

/-- The bit of a lane in the second half. -/
theorem high_at (x : Fin 128) : k0_pay21 k0_pay4 (ix2 0 x) = if x.val < 64 then 0#1 else 1#1 := by
  have h : k0_pay21 k0_pay4 (ix2 0 x) = IntOp.xori (k0_pay4 (ix2 0 x)) 1#1 := by pointwise [k0_pay21]
  rw [h, low_at]
  split_ifs <;> decide

theorem pay9_at (m : IVec S1x128 1) (w : FVec Ideal S384x256 .f32) (k : Fin 384) (x : Fin 128) :
    k0_pay9 w m (ix2 k x) = Scalar.select (m (ix2 0 x)) (w (ix2 k ⟨x.val, by omega⟩)) 0
      + Scalar.select (m (ix2 0 ⟨(x.val + 128 - 64) % 128, by omega⟩)) (w (ix2 k ⟨(x.val + 128 - 64) % 128, by omega⟩)) 0 := by
  pointwise [k0_pay9]

theorem pay35_at (m : IVec S1x128 1) (w : FVec Ideal S384x256 .f32) (k : Fin 384) (x : Fin 128) :
    k0_pay35 (k0_pay31 w m) (ix2 k x) = Scalar.select (m (ix2 0 x)) (w (ix2 k ⟨128 + x.val, by omega⟩)) 0
      + Scalar.select (m (ix2 0 ⟨(x.val + 128 - 64) % 128, by omega⟩)) (w (ix2 k ⟨128 + (x.val + 128 - 64) % 128, by omega⟩)) 0 := by
  pointwise [k0_pay35, k0_pay31]

/-- A key/value head's 64 columns, in both halves of the lanes. -/
def dup (kv : Fin 4) (w : FVec Ideal S384x256 .f32) : FVec Ideal S384x128 .bf16 :=
  match kv with
  | 0 => k0_pay9 w k0_pay4
  | 1 => k0_pay9 w (k0_pay21 k0_pay4)
  | 2 => k0_pay35 (k0_pay31 w k0_pay4)
  | 3 => k0_pay35 (k0_pay31 w (k0_pay21 k0_pay4))

theorem dup_at (kv : Fin 4) (w : FVec Ideal S384x256 .f32) (k : Fin 384) (x : Fin 128) :
    dup kv w (ix2 k x) = w (ix2 k ⟨kv.val * 64 + x.val % 64, by omega⟩) := by
  have one (a b : EReal) : Scalar.select 1#1 a b = a := rfl
  have zero (a b : EReal) : Scalar.select 0#1 a b = b := rfl
  have at_ (n m : Fin 256) (h : n.val = m.val) : w (ix2 k n) = w (ix2 k m) := by rw [Fin.ext h]
  by_cases hx : x.val < 64
  · have hy : ¬ (x.val + 128 - 64) % 128 < 64 := by omega
    match kv with
    | 0 => exact (pay9_at _ _ _ _).trans (by
        rw [low_at, low_at, if_pos hx, if_neg hy, one, zero, add_zero]; exact at_ _ _ (by simp; omega))
    | 1 => exact (pay9_at _ _ _ _).trans (by
        rw [high_at, high_at, if_pos hx, if_neg hy, one, zero, zero_add]; exact at_ _ _ (by simp; omega))
    | 2 => exact (pay35_at _ _ _ _).trans (by
        rw [low_at, low_at, if_pos hx, if_neg hy, one, zero, add_zero]; exact at_ _ _ (by simp; omega))
    | 3 => exact (pay35_at _ _ _ _).trans (by
        rw [high_at, high_at, if_pos hx, if_neg hy, one, zero, zero_add]; exact at_ _ _ (by simp; omega))
  · have hy : (x.val + 128 - 64) % 128 < 64 := by omega
    match kv with
    | 0 => exact (pay9_at _ _ _ _).trans (by
        rw [low_at, low_at, if_neg hx, if_pos hy, one, zero, zero_add]; exact at_ _ _ (by simp; omega))
    | 1 => exact (pay9_at _ _ _ _).trans (by
        rw [high_at, high_at, if_neg hx, if_pos hy, one, zero, add_zero]; exact at_ _ _ (by simp; omega))
    | 2 => exact (pay35_at _ _ _ _).trans (by
        rw [low_at, low_at, if_neg hx, if_pos hy, one, zero, zero_add]; exact at_ _ _ (by simp; omega))
    | 3 => exact (pay35_at _ _ _ _).trans (by
        rw [high_at, high_at, if_neg hx, if_pos hy, one, zero, add_zero]; exact at_ _ _ (by simp; omega))

/-- The four query heads of a group, stacked. -/
theorem stack_rows (m : IVec S1x128 1) (q0 q1 q2 q3 : FVec Ideal S1x128x128 .f32) (r : Fin 512) (x : Fin 128) :
    k0_pay25 (F := Ideal) m q0 q1 q2 q3 (ix2 r x)
      = if h : r.val < 128 then Scalar.select (m (ix2 0 x)) (q0 (ix3 0 ⟨r.val, h⟩ x) * Ideal.ofBits .f32 0x3E000000#32) 0
        else if h : r.val - 128 < 128 then
          Scalar.select (IntOp.xori (m (ix2 0 x)) 1#1) (q1 (ix3 0 ⟨r.val - 128, h⟩ x) * Ideal.ofBits .f32 0x3E000000#32) 0
        else if h : r.val - 128 - 128 < 128 then
          Scalar.select (m (ix2 0 x)) (q2 (ix3 0 ⟨r.val - 128 - 128, h⟩ x) * Ideal.ofBits .f32 0x3E000000#32) 0
        else
          Scalar.select (IntOp.xori (m (ix2 0 x)) 1#1)
            (q3 (ix3 0 ⟨r.val - 128 - 128 - 128, by omega⟩ x) * Ideal.ofBits .f32 0x3E000000#32) 0 := by
  pointwise [k0_pay25]

/-- Row `p` of head `g` of the group in the stack. -/
def row (g : Fin 4) (p : Fin 128) : Fin 512 := ⟨g.val * 128 + p.val, by omega⟩

/-- Each head of the stack holds its own half of the lanes, zero in the other. -/
theorem stack_at (q : Fin 4 → FVec Ideal S1x128x128 .f32) (g : Fin 4) (p x : Fin 128) :
    k0_pay25 (F := Ideal) k0_pay4 (q 0) (q 1) (q 2) (q 3) (ix2 (row g p) x)
      = if x.val / 64 = g.val % 2 then q g (ix3 0 p x) * Ideal.ofBits .f32 0x3E000000#32 else 0 := by
  have hp := p.isLt
  rw [stack_rows, low_at]
  have same (t : Fin 4) (n : Fin 128) (h : n.val = p.val) : q t (ix3 0 n x) = q t (ix3 0 p x) := by rw [Fin.ext h]
  match g with
  | 0 =>
    rw [dif_pos (show (row 0 p).val < 128 by simp [row]), same 0 _ (by simp [row])]
    by_cases hx : x.val < 64
    · rw [if_pos hx, if_pos (by simp; omega)]; rfl
    · rw [if_neg hx, if_neg (by simp; omega)]; rfl
  | 1 =>
    rw [dif_neg (show ¬ (row 1 p).val < 128 by simp [row]), dif_pos (show (row 1 p).val - 128 < 128 by simp [row]),
      same 1 _ (by simp [row])]
    by_cases hx : x.val < 64
    · rw [if_pos hx, if_neg (by simp; omega)]; rfl
    · rw [if_neg hx, if_pos (by simp; omega)]; rfl
  | 2 =>
    rw [dif_neg (show ¬ (row 2 p).val < 128 by simp [row]; omega), dif_neg (show ¬ (row 2 p).val - 128 < 128 by simp [row]; omega),
      dif_pos (show (row 2 p).val - 128 - 128 < 128 by simp [row]; omega), same 2 _ (by simp [row]; omega)]
    by_cases hx : x.val < 64
    · rw [if_pos hx, if_pos (by simp; omega)]; rfl
    · rw [if_neg hx, if_neg (by simp; omega)]; rfl
  | 3 =>
    rw [dif_neg (show ¬ (row 3 p).val < 128 by simp [row]; omega), dif_neg (show ¬ (row 3 p).val - 128 < 128 by simp [row]; omega),
      dif_neg (show ¬ (row 3 p).val - 128 - 128 < 128 by simp [row]; omega), same 3 _ (by simp [row]; omega)]
    by_cases hx : x.val < 64
    · rw [if_pos hx, if_neg (by simp; omega)]; rfl
    · rw [if_neg hx, if_pos (by simp; omega)]; rfl

/-- A sum over 128 lanes of which one half is zero. -/
theorem half_sum (a : Fin 2) (f g : Fin 128 → EReal) :
    ∑ x : Fin 128, (if x.val / 64 = a.val then f x else 0) * g x
      = ∑ d : Fin 64, f ⟨a.val * 64 + d.val, by omega⟩ * g ⟨a.val * 64 + d.val, by omega⟩ := by
  have two (F : Fin 128 → EReal) : ∑ x, F x = ∑ t : Fin 2, ∑ d : Fin 64, F ⟨t.val * 64 + d.val, by omega⟩ := by
    rw [← (finProdFinEquiv (m := 2) (n := 64)).sum_comp F, Fintype.sum_prod_type]
    refine Finset.sum_congr rfl fun t _ => Finset.sum_congr rfl fun d _ => congrArg F (Fin.ext ?_)
    show d.val + 64 * t.val = t.val * 64 + d.val
    omega
  rw [two]
  have each (t : Fin 2) (d : Fin 64) : (t.val * 64 + d.val) / 64 = t.val := by omega
  simp only [each]
  rw [Finset.sum_eq_single a]
  · simp
  · intro t _ ht
    have : ¬ t.val = a.val := fun h => ht (Fin.ext h)
    simp [this]
  · simp

/-- The row's distance from the keys of the window. -/
theorem pay5_at (i : grid0.Coords) (g : Fin 4) (p : Fin 128) (k : Fin 384) :
    k0_pay5 i (ix2 (row g p) k) = dist ((i 1).val * 128 + p.val) (start (i 1).val + k.val) := by
  have rows : ∀ r : Fin 512, (Scalar.select
      (IntOp.andi
        (IntOp.xori
          (IntOp.cmpi .slt (IntOp.remsi .vector (BitVec.ofNat 32 r.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 r.val) (Scalar.select (Scalar.cmpi .eq 128#32 0#32) 1#32 128#32)) 0#32))
      (IntOp.addi (IntOp.remsi .vector (BitVec.ofNat 32 r.val) (Scalar.select (Scalar.cmpi .eq 128#32 0#32) 1#32 128#32))
        (Scalar.select (Scalar.cmpi .eq 128#32 0#32) 1#32 128#32))
      (IntOp.remsi .vector (BitVec.ofNat 32 r.val) (Scalar.select (Scalar.cmpi .eq 128#32 0#32) 1#32 128#32)))
      = BitVec.ofNat 32 (r.val % 128) := by decide +kernel
  have starts : ∀ c : Fin 16, Scalar.minsi (1664#32) (Scalar.maxsi (0#32) (Scalar.subi (Scalar.muli (BitVec.ofNat 32 c.val) 128#32) 128#32))
      = BitVec.ofNat 32 (start c.val) := by decide +kernel
  have h : ∀ r : Fin 512, k0_pay5 i (ix2 r k) = IntOp.absi (IntOp.subi
      (IntOp.addi (Scalar.muli (BitVec.ofNat 32 (i 1).val) 128#32) (Scalar.select
        (IntOp.andi
          (IntOp.xori
            (IntOp.cmpi .slt (IntOp.remsi .vector (BitVec.ofNat 32 r.val) (Scalar.select (Scalar.cmpi .eq 128#32 0#32) 1#32 128#32)) 0#32)
            (Scalar.cmpi .slt (Scalar.select (Scalar.cmpi .eq 128#32 0#32) 1#32 128#32) 0#32))
          (IntOp.cmpi .ne (IntOp.remsi .vector (BitVec.ofNat 32 r.val) (Scalar.select (Scalar.cmpi .eq 128#32 0#32) 1#32 128#32)) 0#32))
        (IntOp.addi (IntOp.remsi .vector (BitVec.ofNat 32 r.val) (Scalar.select (Scalar.cmpi .eq 128#32 0#32) 1#32 128#32))
          (Scalar.select (Scalar.cmpi .eq 128#32 0#32) 1#32 128#32))
        (IntOp.remsi .vector (BitVec.ofNat 32 r.val) (Scalar.select (Scalar.cmpi .eq 128#32 0#32) 1#32 128#32))))
      (IntOp.addi (Scalar.minsi (1664#32) (Scalar.maxsi (0#32) (Scalar.subi (Scalar.muli (BitVec.ofNat 32 (i 1).val) 128#32) 128#32)))
        (BitVec.ofNat 32 k.val))) := by
    intro r
    pointwise [k0_pay5]
  have b1 : (i 1).val < 16 := (i 1).isLt
  rw [h, rows, starts ⟨(i 1).val, b1⟩]
  have hr : (row g p).val % 128 = p.val := by simp only [row]; omega
  have e1 : IntOp.addi (Scalar.muli (BitVec.ofNat 32 (i 1).val) 128#32) (BitVec.ofNat 32 p.val)
      = BitVec.ofNat 32 ((i 1).val * 128 + p.val) := by
    rw [BitVec.ofNat_add, BitVec.ofNat_mul]; rfl
  have e2 : IntOp.addi (BitVec.ofNat 32 (start (i 1).val)) (BitVec.ofNat 32 k.val) = BitVec.ofNat 32 (start (i 1).val + k.val) := by
    rw [BitVec.ofNat_add]; rfl
  rw [hr, e1, e2]
  rfl

theorem pay6_at (i : grid0.Coords) (g : Fin 4) (p : Fin 128) (k : Fin 384) :
    k0_pay6 i (ix2 (row g p) k) = IntOp.cmpi .sle (dist ((i 1).val * 128 + p.val) (start (i 1).val + k.val)) 128#32 := by
  rw [← pay5_at i g p k]
  unfold k0_pay6
  generalize k0_pay5 i = u
  pointwise

theorem pay7_at (i : grid0.Coords) (g : Fin 4) (p : Fin 128) (k : Fin 384) :
    k0_pay7 (F := Ideal) i (ix2 (row g p) k) = FloatOps.sitofp (F := Ideal) .f32 (dist ((i 1).val * 128 + p.val) (start (i 1).val + k.val)) := by
  rw [← pay5_at i g p k]
  unfold k0_pay7
  generalize k0_pay5 i = u
  pointwise

/-- The rows' heads. -/
def heads : IVec S512x1 32 := k0_pay8 (iota .tc S512x1 32 [0] iota_S512x1_d0_w32)

theorem heads_at (g : Fin 4) (p : Fin 128) : heads (ix2 (row g p) 0) = BitVec.ofNat 32 g.val := by
  have h : ∀ r : Fin 512, k0_pay8 (iota .tc S512x1 32 [0] iota_S512x1_d0_w32) (ix2 r 0) = BitVec.ofNat 32 (r.val / 128) := by
    decide +kernel
  refine (h _).trans (congrArg _ ?_)
  simp only [row]
  omega

/-- A value per head, at each row of the head. -/
theorem table_at (a : Fin 4 → EReal) (g : Fin 4) (p : Fin 128) :
    k0_pay27 (F := Ideal) heads (a 0) (a 1) (a 2) (a 3) (ix2 (row g p) 0) = a g := by
  have h : ∀ (v : IVec S512x1 32) (r : Fin 512) (a0 a1 a2 a3 : EReal), k0_pay27 (F := Ideal) v a0 a1 a2 a3 (ix2 r 0)
      = Scalar.select (IntOp.cmpi .eq (v (ix2 r 0)) 3#32) a3
        (Scalar.select (IntOp.cmpi .eq (v (ix2 r 0)) 2#32) a2
          (Scalar.select (IntOp.cmpi .eq (v (ix2 r 0)) 1#32) a1
            (Scalar.select (IntOp.cmpi .eq (v (ix2 r 0)) 0#32) a0 0))) := by
    intro v r a0 a1 a2 a3
    pointwise [k0_pay27]
  rw [h, heads_at]
  match g with
  | 0 => rfl
  | 1 => rfl
  | 2 => rfl
  | 3 => rfl

/-- The attention of a group: masked biased scores, the softmax with the sinks, the values. -/
theorem core_at (v39 : IVec S512x384 1) (v40 : FVec Ideal S512x384 .f32) (kd vd : FVec Ideal S384x128 .bf16) (qs : FVec Ideal S512x128 .bf16)
    (sl sk : FVec Ideal S512x1 .f32) (r : Fin 512) (e : Fin 128) :
    k0_pay28 v39 v40 kd vd qs sl sk (constant S512x384 .f32 0x00000000#32) (ix2 r e)
      = attend (fun k : Fin 384 => Scalar.select (v39 (ix2 r k))
          ((∑ x : Fin 128, qs (ix2 r x) * kd (ix2 k x)) - sl (ix2 r 0) * v40 (ix2 r k)) ⊥) (sk (ix2 r 0)) (fun k => vd (ix2 k e)) := by
  have hm : (Named.named (F := Ideal) κ "mask" (φ := .f32) 0xF149F2CA#32 : EReal) = ⊥ := rfl
  unfold attend top
  rw [← minus_inf]
  rw [← minus_inf] at hm
  pointwise [k0_pay28]
  simp only [hm]

/-- One group at one grid point: its stacked heads against the window. -/
def group (i : grid0.Coords) (kv : Fin 4) (wk wv : FVec Ideal S384x256 .f32) (q : Fin 4 → FVec Ideal S1x128x128 .f32) (a z : Fin 4 → EReal) :
    FVec Ideal S512x128 .f32 :=
  k0_pay28 (k0_pay6 i) (k0_pay7 i) (dup kv wk) (dup kv wv) (k0_pay25 k0_pay4 (q 0) (q 1) (q 2) (q 3))
    (k0_pay27 (F := Ideal) heads (a 0) (a 1) (a 2) (a 3)) (k0_pay27 (F := Ideal) heads (z 0) (z 1) (z 2) (z 3)) (constant S512x384 .f32 0x00000000#32)

theorem start_lt (c : ℕ) (k : Fin 384) : start c + k.val < 2048 := by unfold start; omega

/-- THE GROUP is the specification's, each head at each of its queries. -/
theorem group_at (X : FVec Ideal S8x2048x1536 .f32) (S : FVec Ideal S16 .f32) (hX : ∀ i, IsReal (X i)) (hS : ∀ i, IsReal (S i))
    (i : grid0.Coords) (b : Fin 8) (c : Fin 16) (hc : c.val = (i 1).val) (kv : Fin 4)
    (wk wv : FVec Ideal S384x256 .f32) (q : Fin 4 → FVec Ideal S1x128x128 .f32) (a z : Fin 4 → EReal)
    (h1 : ∀ k l, wk (ix2 k l) = X (ix3 b ⟨start c.val + k.val, start_lt _ _⟩ ⟨1024 + l.val, by omega⟩))
    (h2 : ∀ k l, wv (ix2 k l) = X (ix3 b ⟨start c.val + k.val, start_lt _ _⟩ ⟨1280 + l.val, by omega⟩))
    (h3 : ∀ g p x, q g (ix3 0 p x) = X (ix3 b ⟨c.val * 128 + p.val, by omega⟩ ⟨(kv.val * 4 + g.val) / 2 * 128 + x.val, by omega⟩))
    (h4 : ∀ g, a g = slope ⟨kv.val * 4 + g.val, by omega⟩) (h5 : ∀ g, z g = S (ix1 ⟨kv.val * 4 + g.val, by omega⟩))
    (g : Fin 4) (p e : Fin 128) :
    group i kv wk wv q a z (ix2 (row g p) e)
      = outAt X S b ⟨c.val * 128 + p.val, by omega⟩ ⟨kv.val * 4 + g.val, by omega⟩ ⟨e.val % 64, by omega⟩ := by
  unfold group
  rw [core_at, table_at, table_at, h5, ← outAt_window X S hX hS]
  have hg : (⟨kv.val * 4 + g.val, by omega⟩ : Fin 16).val / 4 = kv.val := by show (kv.val * 4 + g.val) / 4 = _; omega
  congr 1
  · funext k
    rw [pay6_at, pay7_at, ← hc, h4]
    unfold masked score
    congr 2
    rw [← sum_mul_of_nonneg _ eighth_nonneg eighth_ne_top]
    have hs : ∀ x : Fin 128, k0_pay25 (F := Ideal) k0_pay4 (q 0) (q 1) (q 2) (q 3) (ix2 (row g p) x) * dup kv wk (ix2 k x)
        = (if x.val / 64 = (⟨g.val % 2, by omega⟩ : Fin 2).val then q g (ix3 0 p x) * Ideal.ofBits .f32 0x3E000000#32 else 0)
          * dup kv wk (ix2 k x) := fun x => by rw [stack_at]
    rw [Finset.sum_congr rfl fun x _ => hs x, half_sum]
    refine Finset.sum_congr rfl fun d _ => ?_
    rw [dup_at, h1, h3, mul_right_comm]
    congr 3
    · refine congrArg (fun t => ix3 b (⟨c.val * 128 + p.val, by omega⟩ : Fin 2048) t) (Fin.ext ?_)
      show (kv.val * 4 + g.val) / 2 * 128 + (g.val % 2 * 64 + d.val) = (kv.val * 4 + g.val) * 64 + d.val
      omega
    · refine congrArg (fun t => ix3 b (⟨start c.val + k.val, start_lt _ _⟩ : Fin 2048) t) (Fin.ext ?_)
      show 1024 + (kv.val * 64 + (g.val % 2 * 64 + d.val) % 64) = 1024 + ((kv.val * 4 + g.val) / 4 * 64 + d.val)
      omega
  · funext k
    rw [dup_at, h2]
    refine congrArg (fun t => X (ix3 b (⟨start c.val + k.val, start_lt _ _⟩ : Fin 2048) t)) (Fin.ext ?_)
    show 1280 + (kv.val * 64 + e.val % 64) = 1280 + ((kv.val * 4 + g.val) / 4 * 64 + e.val % 64)
    omega

/-- Two heads of a group side by side, the first in the first half of the lanes: the stored block. -/
def pair0 (o : FVec Ideal S512x128 .f32) : FVec Ideal S1x128x128 .f32 :=
  shapeCast S1x128x128 (select (broadcastTo S128x128 (shapeCast S1x128 k0_pay4 shapeCasts_S1x128_S1x128) broadcasts_S1x128_S128x128)
    (extractStridedSlice S128x128 ![0, 0] o slices_S512x128_o0_0_S128x128)
    (extractStridedSlice S128x128 ![128, 0] o slices_S512x128_o128_0_S128x128)) shapeCasts_S128x128_S1x128x128

/-- The other two. -/
def pair1 (o : FVec Ideal S512x128 .f32) : FVec Ideal S1x128x128 .f32 :=
  shapeCast S1x128x128 (select (broadcastTo S128x128 (shapeCast S1x128 k0_pay4 shapeCasts_S1x128_S1x128) broadcasts_S1x128_S128x128)
    (extractStridedSlice S128x128 ![256, 0] o slices_S512x128_o256_0_S128x128)
    (extractStridedSlice S128x128 ![384, 0] o slices_S512x128_o384_0_S128x128)) shapeCasts_S128x128_S1x128x128

theorem pair0_at (o : FVec Ideal S512x128 .f32) (p l : Fin 128) : pair0 o (ix3 0 p l) = o (ix2 (row ⟨l.val / 64, by omega⟩ p) l) := by
  have h : pair0 o (ix3 0 p l) = Scalar.select (k0_pay4 (ix2 0 l)) (o (ix2 ⟨p.val, by omega⟩ l)) (o (ix2 ⟨128 + p.val, by omega⟩ l)) := by
    unfold pair0
    generalize k0_pay4 = m
    pointwise
  rw [h, low_at]
  split_ifs with hl
  · exact congrArg (fun r => o (ix2 r l)) (Fin.ext (by simp only [row]; omega))
  · exact congrArg (fun r => o (ix2 r l)) (Fin.ext (by simp only [row]; omega))

theorem pair1_at (o : FVec Ideal S512x128 .f32) (p l : Fin 128) : pair1 o (ix3 0 p l) = o (ix2 (row ⟨2 + l.val / 64, by omega⟩ p) l) := by
  have h : pair1 o (ix3 0 p l) = Scalar.select (k0_pay4 (ix2 0 l)) (o (ix2 ⟨256 + p.val, by omega⟩ l)) (o (ix2 ⟨384 + p.val, by omega⟩ l)) := by
    unfold pair1
    generalize k0_pay4 = m
    pointwise
  rw [h, low_at]
  split_ifs with hl
  · exact congrArg (fun r => o (ix2 r l)) (Fin.ext (by simp only [row]; omega))
  · exact congrArg (fun r => o (ix2 r l)) (Fin.ext (by simp only [row]; omega))

end Cert.Win

end
-- ==== Proof.WinPieces.lean ====
module

public import proofs.«01_k».proof.Proof.WinBlock

@[expose] public section

set_option maxRecDepth 16384

noncomputable section

namespace Cert.Win

open Idealize.ShloMosaic Idealize.ShloMosaic.TcCoe Idealize.SL.Sem
open Cert.KernelWinIdeal Cert.KernelWinIdeal.Gen Cert.Real
open Idealize.ShloMosaic.Pipeline (Dat)

/-! The eight blocks a grid point stores: for each key/value head its group of four query heads, in two pairs. -/

theorem piece00 (i : grid0.Coords) (Kb Vb : FVec Ideal S1x384x256 .f32) (q0 q1 q2 q3 : FVec Ideal S1x128x128 .f32) (a0 a1 a2 a3 z0 z1 z2 z3 : EReal) :
    k0_pay19 (F := Ideal) k0_pay4 (k0_pay10 (k0_pay3 Vb) k0_pay4) (k0_pay15 (F := Ideal) (k0_pay8 (iota Kind.tc S512x1 32 [0] iota_S512x1_d0_w32)) k0_pay13 z0 z1 z2 z3) (k0_pay16 (k0_pay6 i) (k0_pay7 (F := Ideal) i) (k0_pay8 (iota Kind.tc S512x1 32 [0] iota_S512x1_d0_w32)) (k0_pay9 (k0_pay2 Kb) k0_pay4) (k0_pay12 (F := Ideal) k0_pay4 (k0_pay11 q0) (FloatOps.ofBits FTy.f32 0#32) q1 q2 q3) (k0_pay14 (F := Ideal) (k0_pay8 (iota Kind.tc S512x1 32 [0] iota_S512x1_d0_w32)) a0) a1 a2 a3) (k0_pay17 (k0_pay6 i) (k0_pay7 (F := Ideal) i) (k0_pay8 (iota Kind.tc S512x1 32 [0] iota_S512x1_d0_w32)) (k0_pay9 (k0_pay2 Kb) k0_pay4) (k0_pay12 (F := Ideal) k0_pay4 (k0_pay11 q0) (FloatOps.ofBits FTy.f32 0#32) q1 q2 q3) (k0_pay14 (F := Ideal) (k0_pay8 (iota Kind.tc S512x1 32 [0] iota_S512x1_d0_w32)) a0) a1 a2 a3)
      = pair0 (group i 0 (k0_pay2 Kb) (k0_pay3 Vb) ![q0, q1, q2, q3] ![a0, a1, a2, a3] ![z0, z1, z2, z3]) := rfl

theorem piece01 (i : grid0.Coords) (Kb Vb : FVec Ideal S1x384x256 .f32) (q0 q1 q2 q3 : FVec Ideal S1x128x128 .f32) (a0 a1 a2 a3 z0 z1 z2 z3 : EReal) :
    k0_pay20 (F := Ideal) k0_pay4 (k0_pay10 (k0_pay3 Vb) k0_pay4) (k0_pay15 (F := Ideal) (k0_pay8 (iota Kind.tc S512x1 32 [0] iota_S512x1_d0_w32)) k0_pay13 z0 z1 z2 z3) (k0_pay16 (k0_pay6 i) (k0_pay7 (F := Ideal) i) (k0_pay8 (iota Kind.tc S512x1 32 [0] iota_S512x1_d0_w32)) (k0_pay9 (k0_pay2 Kb) k0_pay4) (k0_pay12 (F := Ideal) k0_pay4 (k0_pay11 q0) (FloatOps.ofBits FTy.f32 0#32) q1 q2 q3) (k0_pay14 (F := Ideal) (k0_pay8 (iota Kind.tc S512x1 32 [0] iota_S512x1_d0_w32)) a0) a1 a2 a3) (k0_pay17 (k0_pay6 i) (k0_pay7 (F := Ideal) i) (k0_pay8 (iota Kind.tc S512x1 32 [0] iota_S512x1_d0_w32)) (k0_pay9 (k0_pay2 Kb) k0_pay4) (k0_pay12 (F := Ideal) k0_pay4 (k0_pay11 q0) (FloatOps.ofBits FTy.f32 0#32) q1 q2 q3) (k0_pay14 (F := Ideal) (k0_pay8 (iota Kind.tc S512x1 32 [0] iota_S512x1_d0_w32)) a0) a1 a2 a3)
      = pair1 (group i 0 (k0_pay2 Kb) (k0_pay3 Vb) ![q0, q1, q2, q3] ![a0, a1, a2, a3] ![z0, z1, z2, z3]) := rfl

theorem piece10 (i : grid0.Coords) (Kb Vb : FVec Ideal S1x384x256 .f32) (q0 q1 q2 q3 : FVec Ideal S1x128x128 .f32) (a0 a1 a2 a3 z0 z1 z2 z3 : EReal) :
    k0_pay29 (F := Ideal) k0_pay4 (k0_pay6 i) (k0_pay7 (F := Ideal) i) (k0_pay22 (k0_pay2 Kb) k0_pay4) (k0_pay24 (k0_pay23 (k0_pay3 Vb) k0_pay4)) (k0_pay25 k0_pay4 q0 q1 q2 q3) (k0_pay26 (F := Ideal) (k0_pay8 (iota Kind.tc S512x1 32 [0] iota_S512x1_d0_w32)) (FloatOps.ofBits FTy.f32 0#32) a0 a1 a2 a3) (k0_pay27 (F := Ideal) (k0_pay8 (iota Kind.tc S512x1 32 [0] iota_S512x1_d0_w32)) z0 z1 z2 z3) (constant S512x384 .f32 0x00000000#32)
      = pair0 (group i 1 (k0_pay2 Kb) (k0_pay3 Vb) ![q0, q1, q2, q3] ![a0, a1, a2, a3] ![z0, z1, z2, z3]) := rfl

theorem piece11 (i : grid0.Coords) (Kb Vb : FVec Ideal S1x384x256 .f32) (q0 q1 q2 q3 : FVec Ideal S1x128x128 .f32) (a0 a1 a2 a3 z0 z1 z2 z3 : EReal) :
    k0_pay30 (F := Ideal) k0_pay4 (k0_pay6 i) (k0_pay7 (F := Ideal) i) (k0_pay22 (k0_pay2 Kb) k0_pay4) (k0_pay24 (k0_pay23 (k0_pay3 Vb) k0_pay4)) (k0_pay25 k0_pay4 q0 q1 q2 q3) (k0_pay26 (F := Ideal) (k0_pay8 (iota Kind.tc S512x1 32 [0] iota_S512x1_d0_w32)) (FloatOps.ofBits FTy.f32 0#32) a0 a1 a2 a3) (k0_pay27 (F := Ideal) (k0_pay8 (iota Kind.tc S512x1 32 [0] iota_S512x1_d0_w32)) z0 z1 z2 z3) (constant S512x384 .f32 0x00000000#32)
      = pair1 (group i 1 (k0_pay2 Kb) (k0_pay3 Vb) ![q0, q1, q2, q3] ![a0, a1, a2, a3] ![z0, z1, z2, z3]) := rfl

theorem piece20 (i : grid0.Coords) (Kb Vb : FVec Ideal S1x384x256 .f32) (q0 q1 q2 q3 : FVec Ideal S1x128x128 .f32) (a0 a1 a2 a3 z0 z1 z2 z3 : EReal) :
    k0_pay46 (F := Ideal) k0_pay4 (k0_pay6 i) (k0_pay7 (F := Ideal) i) (k0_pay8 (iota Kind.tc S512x1 32 [0] iota_S512x1_d0_w32)) (k0_pay35 (k0_pay31 (k0_pay2 Kb) k0_pay4)) (k0_pay36 (k0_pay32 (k0_pay3 Vb)) (k0_pay33 k0_pay4) k0_pay34) (k0_pay42 (k0_pay37 k0_pay4 q0) (k0_pay38 k0_pay4 q1) (k0_pay39 k0_pay4 q2) (k0_pay40 q3) (k0_pay41 k0_pay4)) (k0_pay43 (F := Ideal) (k0_pay8 (iota Kind.tc S512x1 32 [0] iota_S512x1_d0_w32)) z0 z1 z2) (k0_pay44 (F := Ideal) (k0_pay8 (iota Kind.tc S512x1 32 [0] iota_S512x1_d0_w32)) a0 a1 a2 a3) z3
      = pair0 (group i 2 (k0_pay2 Kb) (k0_pay3 Vb) ![q0, q1, q2, q3] ![a0, a1, a2, a3] ![z0, z1, z2, z3]) := rfl

theorem piece21 (i : grid0.Coords) (Kb Vb : FVec Ideal S1x384x256 .f32) (q0 q1 q2 q3 : FVec Ideal S1x128x128 .f32) (a0 a1 a2 a3 z0 z1 z2 z3 : EReal) :
    k0_pay47 (F := Ideal) k0_pay4 (k0_pay6 i) (k0_pay7 (F := Ideal) i) (k0_pay8 (iota Kind.tc S512x1 32 [0] iota_S512x1_d0_w32)) (k0_pay35 (k0_pay31 (k0_pay2 Kb) k0_pay4)) (k0_pay36 (k0_pay32 (k0_pay3 Vb)) (k0_pay33 k0_pay4) k0_pay34) (k0_pay42 (k0_pay37 k0_pay4 q0) (k0_pay38 k0_pay4 q1) (k0_pay39 k0_pay4 q2) (k0_pay40 q3) (k0_pay41 k0_pay4)) (k0_pay43 (F := Ideal) (k0_pay8 (iota Kind.tc S512x1 32 [0] iota_S512x1_d0_w32)) z0 z1 z2) (k0_pay44 (F := Ideal) (k0_pay8 (iota Kind.tc S512x1 32 [0] iota_S512x1_d0_w32)) a0 a1 a2 a3) z3
      = pair1 (group i 2 (k0_pay2 Kb) (k0_pay3 Vb) ![q0, q1, q2, q3] ![a0, a1, a2, a3] ![z0, z1, z2, z3]) := rfl

theorem piece30 (i : grid0.Coords) (Kb Vb : FVec Ideal S1x384x256 .f32) (q0 q1 q2 q3 : FVec Ideal S1x128x128 .f32) (a0 a1 a2 a3 z0 z1 z2 z3 : EReal) :
    k0_pay60 (F := Ideal) k0_pay4 (k0_pay6 i) (k0_pay7 (F := Ideal) i) (k0_pay8 (iota Kind.tc S512x1 32 [0] iota_S512x1_d0_w32)) (k0_pay50 (k0_pay48 k0_pay4) (k0_pay49 (k0_pay2 Kb))) (k0_pay51 (k0_pay3 Vb) (k0_pay48 k0_pay4)) (k0_pay55 k0_pay4 (k0_pay52 k0_pay4 q0) (k0_pay53 k0_pay4 q1) (k0_pay54 k0_pay4 q2) q3) (k0_pay56 (F := Ideal) (k0_pay8 (iota Kind.tc S512x1 32 [0] iota_S512x1_d0_w32)) z0 z1) (k0_pay57 (F := Ideal) (k0_pay8 (iota Kind.tc S512x1 32 [0] iota_S512x1_d0_w32)) a0 a1 a2) (k0_pay58 (k0_pay8 (iota Kind.tc S512x1 32 [0] iota_S512x1_d0_w32))) z2 a3 z3
      = pair0 (group i 3 (k0_pay2 Kb) (k0_pay3 Vb) ![q0, q1, q2, q3] ![a0, a1, a2, a3] ![z0, z1, z2, z3]) := rfl

theorem piece31 (i : grid0.Coords) (Kb Vb : FVec Ideal S1x384x256 .f32) (q0 q1 q2 q3 : FVec Ideal S1x128x128 .f32) (a0 a1 a2 a3 z0 z1 z2 z3 : EReal) :
    k0_pay1 (k0_pay61 (F := Ideal) k0_pay4 (k0_pay6 i) (k0_pay7 (F := Ideal) i) (k0_pay8 (iota Kind.tc S512x1 32 [0] iota_S512x1_d0_w32)) (k0_pay50 (k0_pay48 k0_pay4) (k0_pay49 (k0_pay2 Kb))) (k0_pay51 (k0_pay3 Vb) (k0_pay48 k0_pay4)) (k0_pay55 k0_pay4 (k0_pay52 k0_pay4 q0) (k0_pay53 k0_pay4 q1) (k0_pay54 k0_pay4 q2) q3) (k0_pay56 (F := Ideal) (k0_pay8 (iota Kind.tc S512x1 32 [0] iota_S512x1_d0_w32)) z0 z1) (k0_pay57 (F := Ideal) (k0_pay8 (iota Kind.tc S512x1 32 [0] iota_S512x1_d0_w32)) a0 a1 a2) (k0_pay58 (k0_pay8 (iota Kind.tc S512x1 32 [0] iota_S512x1_d0_w32))) z2 a3 z3)
      = pair1 (group i 3 (k0_pay2 Kb) (k0_pay3 Vb) ![q0, q1, q2, q3] ![a0, a1, a2, a3] ![z0, z1, z2, z3]) := rfl
theorem keys_at (Kb : FVec Ideal S1x384x256 .f32) (k : Fin 384) (l : Fin 256) : k0_pay2 Kb (ix2 k l) = Kb (ix3 0 k l) := by
  pointwise [k0_pay2]

theorem values_at (Vb : FVec Ideal S1x384x256 .f32) (k : Fin 384) (l : Fin 256) : k0_pay3 Vb (ix2 k l) = Vb (ix3 0 k l) := by
  pointwise [k0_pay3]

theorem rows_at (X : FVec Ideal S8x2048x1536 .f32) (S : FVec Ideal S16 .f32) (hX : ∀ i, IsReal (X i)) (hS : ∀ i, IsReal (S i))
  (i : grid0.Coords) (b : Fin 8) (c : Fin 16) (hc : c.val = (i 1).val) (kv : Fin 4)
  (Kb Vb : FVec Ideal S1x384x256 .f32) (q0 q1 q2 q3 : FVec Ideal S1x128x128 .f32) (a0 a1 a2 a3 z0 z1 z2 z3 : EReal)
  (hk : ∀ (k : Fin 384) (l : Fin 256), Kb (ix3 0 k l) = X (ix3 b ⟨start c.val + k.val, start_lt _ _⟩ ⟨1024 + l.val, by omega⟩))
  (hv : ∀ (k : Fin 384) (l : Fin 256), Vb (ix3 0 k l) = X (ix3 b ⟨start c.val + k.val, start_lt _ _⟩ ⟨1280 + l.val, by omega⟩))
  (hq0 : ∀ p x : Fin 128, q0 (ix3 0 p x) = X (ix3 b ⟨c.val * 128 + p.val, by omega⟩ ⟨kv.val * 256 + x.val, by omega⟩))
  (hq1 : ∀ p x : Fin 128, q1 (ix3 0 p x) = X (ix3 b ⟨c.val * 128 + p.val, by omega⟩ ⟨kv.val * 256 + x.val, by omega⟩))
  (hq2 : ∀ p x : Fin 128, q2 (ix3 0 p x) = X (ix3 b ⟨c.val * 128 + p.val, by omega⟩ ⟨kv.val * 256 + 128 + x.val, by omega⟩))
  (hq3 : ∀ p x : Fin 128, q3 (ix3 0 p x) = X (ix3 b ⟨c.val * 128 + p.val, by omega⟩ ⟨kv.val * 256 + 128 + x.val, by omega⟩))
  (ha0 : a0 = slope ⟨kv.val * 4 + 0, by omega⟩) (ha1 : a1 = slope ⟨kv.val * 4 + 1, by omega⟩)
  (ha2 : a2 = slope ⟨kv.val * 4 + 2, by omega⟩) (ha3 : a3 = slope ⟨kv.val * 4 + 3, by omega⟩)
  (hz0 : z0 = S (ix1 ⟨kv.val * 4 + 0, by omega⟩)) (hz1 : z1 = S (ix1 ⟨kv.val * 4 + 1, by omega⟩))
  (hz2 : z2 = S (ix1 ⟨kv.val * 4 + 2, by omega⟩)) (hz3 : z3 = S (ix1 ⟨kv.val * 4 + 3, by omega⟩))
  (g : Fin 4) (p e : Fin 128) :
    group i kv (k0_pay2 Kb) (k0_pay3 Vb) ![q0, q1, q2, q3] ![a0, a1, a2, a3] ![z0, z1, z2, z3] (ix2 (row g p) e)
      = outAt X S b ⟨c.val * 128 + p.val, by omega⟩ ⟨kv.val * 4 + g.val, by omega⟩ ⟨e.val % 64, by omega⟩ := by
  have at_ (p : Fin 128) (n m : Fin 1536) (h : n.val = m.val) : X (ix3 b ⟨c.val * 128 + p.val, by omega⟩ n) = X (ix3 b ⟨c.val * 128 + p.val, by omega⟩ m) := by
    rw [Fin.ext h]
  refine group_at X S hX hS i b c hc kv _ _ _ _ _ (fun k l => (keys_at Kb k l).trans (hk k l)) (fun k l => (values_at Vb k l).trans (hv k l))
    ?_ ?_ ?_ g p e
  · intro g p x
    match g with
    | 0 => exact (hq0 p x).trans (at_ p _ _ (by show kv.val * 256 + x.val = (kv.val * 4 + 0) / 2 * 128 + x.val; omega))
    | 1 => exact (hq1 p x).trans (at_ p _ _ (by show kv.val * 256 + x.val = (kv.val * 4 + 1) / 2 * 128 + x.val; omega))
    | 2 => exact (hq2 p x).trans (at_ p _ _ (by show kv.val * 256 + 128 + x.val = (kv.val * 4 + 2) / 2 * 128 + x.val; omega))
    | 3 => exact (hq3 p x).trans (at_ p _ _ (by show kv.val * 256 + 128 + x.val = (kv.val * 4 + 3) / 2 * 128 + x.val; omega))
  · intro g
    match g with
    | 0 => exact ha0
    | 1 => exact ha1
    | 2 => exact ha2
    | 3 => exact ha3
  · intro g
    match g with
    | 0 => exact hz0
    | 1 => exact hz1
    | 2 => exact hz2
    | 3 => exact hz3

/-- The first pair of the group, as stored. -/
theorem stored0_at (X : FVec Ideal S8x2048x1536 .f32) (S : FVec Ideal S16 .f32) (hX : ∀ i, IsReal (X i)) (hS : ∀ i, IsReal (S i))
  (i : grid0.Coords) (b : Fin 8) (c : Fin 16) (hc : c.val = (i 1).val) (kv : Fin 4)
  (Kb Vb : FVec Ideal S1x384x256 .f32) (q0 q1 q2 q3 : FVec Ideal S1x128x128 .f32) (a0 a1 a2 a3 z0 z1 z2 z3 : EReal)
  (hk : ∀ (k : Fin 384) (l : Fin 256), Kb (ix3 0 k l) = X (ix3 b ⟨start c.val + k.val, start_lt _ _⟩ ⟨1024 + l.val, by omega⟩))
  (hv : ∀ (k : Fin 384) (l : Fin 256), Vb (ix3 0 k l) = X (ix3 b ⟨start c.val + k.val, start_lt _ _⟩ ⟨1280 + l.val, by omega⟩))
  (hq0 : ∀ p x : Fin 128, q0 (ix3 0 p x) = X (ix3 b ⟨c.val * 128 + p.val, by omega⟩ ⟨kv.val * 256 + x.val, by omega⟩))
  (hq1 : ∀ p x : Fin 128, q1 (ix3 0 p x) = X (ix3 b ⟨c.val * 128 + p.val, by omega⟩ ⟨kv.val * 256 + x.val, by omega⟩))
  (hq2 : ∀ p x : Fin 128, q2 (ix3 0 p x) = X (ix3 b ⟨c.val * 128 + p.val, by omega⟩ ⟨kv.val * 256 + 128 + x.val, by omega⟩))
  (hq3 : ∀ p x : Fin 128, q3 (ix3 0 p x) = X (ix3 b ⟨c.val * 128 + p.val, by omega⟩ ⟨kv.val * 256 + 128 + x.val, by omega⟩))
  (ha0 : a0 = slope ⟨kv.val * 4 + 0, by omega⟩) (ha1 : a1 = slope ⟨kv.val * 4 + 1, by omega⟩)
  (ha2 : a2 = slope ⟨kv.val * 4 + 2, by omega⟩) (ha3 : a3 = slope ⟨kv.val * 4 + 3, by omega⟩)
  (hz0 : z0 = S (ix1 ⟨kv.val * 4 + 0, by omega⟩)) (hz1 : z1 = S (ix1 ⟨kv.val * 4 + 1, by omega⟩))
  (hz2 : z2 = S (ix1 ⟨kv.val * 4 + 2, by omega⟩)) (hz3 : z3 = S (ix1 ⟨kv.val * 4 + 3, by omega⟩))
  (p l : Fin 128) :
    pair0 (group i kv (k0_pay2 Kb) (k0_pay3 Vb) ![q0, q1, q2, q3] ![a0, a1, a2, a3] ![z0, z1, z2, z3]) (ix3 0 p l)
      = outAt X S b ⟨c.val * 128 + p.val, by omega⟩ ⟨kv.val * 4 + l.val / 64, by omega⟩ ⟨l.val % 64, by omega⟩ := by
  rw [pair0_at, rows_at X S hX hS i b c hc kv Kb Vb q0 q1 q2 q3 a0 a1 a2 a3 z0 z1 z2 z3 hk hv hq0 hq1 hq2 hq3 ha0 ha1 ha2 ha3 hz0 hz1 hz2 hz3]

/-- The second pair. -/
theorem stored1_at (X : FVec Ideal S8x2048x1536 .f32) (S : FVec Ideal S16 .f32) (hX : ∀ i, IsReal (X i)) (hS : ∀ i, IsReal (S i))
  (i : grid0.Coords) (b : Fin 8) (c : Fin 16) (hc : c.val = (i 1).val) (kv : Fin 4)
  (Kb Vb : FVec Ideal S1x384x256 .f32) (q0 q1 q2 q3 : FVec Ideal S1x128x128 .f32) (a0 a1 a2 a3 z0 z1 z2 z3 : EReal)
  (hk : ∀ (k : Fin 384) (l : Fin 256), Kb (ix3 0 k l) = X (ix3 b ⟨start c.val + k.val, start_lt _ _⟩ ⟨1024 + l.val, by omega⟩))
  (hv : ∀ (k : Fin 384) (l : Fin 256), Vb (ix3 0 k l) = X (ix3 b ⟨start c.val + k.val, start_lt _ _⟩ ⟨1280 + l.val, by omega⟩))
  (hq0 : ∀ p x : Fin 128, q0 (ix3 0 p x) = X (ix3 b ⟨c.val * 128 + p.val, by omega⟩ ⟨kv.val * 256 + x.val, by omega⟩))
  (hq1 : ∀ p x : Fin 128, q1 (ix3 0 p x) = X (ix3 b ⟨c.val * 128 + p.val, by omega⟩ ⟨kv.val * 256 + x.val, by omega⟩))
  (hq2 : ∀ p x : Fin 128, q2 (ix3 0 p x) = X (ix3 b ⟨c.val * 128 + p.val, by omega⟩ ⟨kv.val * 256 + 128 + x.val, by omega⟩))
  (hq3 : ∀ p x : Fin 128, q3 (ix3 0 p x) = X (ix3 b ⟨c.val * 128 + p.val, by omega⟩ ⟨kv.val * 256 + 128 + x.val, by omega⟩))
  (ha0 : a0 = slope ⟨kv.val * 4 + 0, by omega⟩) (ha1 : a1 = slope ⟨kv.val * 4 + 1, by omega⟩)
  (ha2 : a2 = slope ⟨kv.val * 4 + 2, by omega⟩) (ha3 : a3 = slope ⟨kv.val * 4 + 3, by omega⟩)
  (hz0 : z0 = S (ix1 ⟨kv.val * 4 + 0, by omega⟩)) (hz1 : z1 = S (ix1 ⟨kv.val * 4 + 1, by omega⟩))
  (hz2 : z2 = S (ix1 ⟨kv.val * 4 + 2, by omega⟩)) (hz3 : z3 = S (ix1 ⟨kv.val * 4 + 3, by omega⟩))
  (p l : Fin 128) :
    pair1 (group i kv (k0_pay2 Kb) (k0_pay3 Vb) ![q0, q1, q2, q3] ![a0, a1, a2, a3] ![z0, z1, z2, z3]) (ix3 0 p l)
      = outAt X S b ⟨c.val * 128 + p.val, by omega⟩ ⟨kv.val * 4 + (2 + l.val / 64), by omega⟩ ⟨l.val % 64, by omega⟩ := by
  rw [pair1_at, rows_at X S hX hS i b c hc kv Kb Vb q0 q1 q2 q3 a0 a1 a2 a3 z0 z1 z2 z3 hk hv hq0 hq1 hq2 hq3 ha0 ha1 ha2 ha3 hz0 hz1 hz2 hz3]

end Cert.Win

end
-- ==== Proof.WinArray.lean ====
module

public import proofs.«01_k».proof.Proof.WinPieces
public import proofs.«01_k».proof.Proof.Gen.KernelWinIdeal.Value
public import Idealize.ShloMosaic.Lib.Pipeline.ValueKit

@[expose] public section

set_option maxRecDepth 16384

noncomputable section

namespace Cert.Win

open Idealize.ShloMosaic Idealize.ShloMosaic.TcCoe Idealize.SL.Sem
open Cert.KernelWinIdeal Cert.KernelWinIdeal.Gen Cert.Real
open Idealize.ShloMosaic.Pipeline (Dat)

/-! The array after all of the grid points. -/

variable (m : (ℓ : Loc nD τ sig) → Buf (Elt Ideal) ℓ)

/-- The block each window holds at each grid point. -/
theorem idx : ∀ t : Fin cfg0.N, win0_0.index t = ![0] ∧ win0_1.index t = ![0]
    ∧ win0_2.index t = ![(grid0.coords t 0).val, (grid0.coords t 1).val, 0]
    ∧ win0_3.index t = ![(grid0.coords t 0).val, 0, 4]
    ∧ win0_4.index t = ![(grid0.coords t 0).val, 0, 5]
    ∧ win0_5.index t = ![(grid0.coords t 0).val, (grid0.coords t 1).val, 0] :=
  (by decide +kernel : ∀ t : Fin grid0.N, _)

/-- The rows of the keys and values a grid point reads. -/
theorem off_eq : ∀ t : Fin cfg0.N, k0_off1 (grid0.coords t) = ![0, start (grid0.coords t 1).val, 0] :=
  (by decide +kernel : ∀ t : Fin grid0.N, _)

/-- The slopes as the launch finds them. -/
theorem slopes_at (c : Dev nD) (h : Fin 16) : V m c main_v8 (ix1 h) = slope h := by
  entry_read
  pointwise [slope]

section

variable (c : Dev nD) (t : Fin cfg0.N)

/-- The batch element and the block of queries of a grid point. -/
def bat : Fin 8 := ⟨(grid0.coords t 0).val, (grid0.coords t 0).isLt⟩
def blk : Fin 16 := ⟨(grid0.coords t 1).val, (grid0.coords t 1).isLt⟩

theorem query_at (p : Fin 128) (x : Fin 1024) : X0_2 m c t (ix3 (0 : Fin 1) p x : S1x128x1024.Idx)
    = (m ((c.tc : Thread nD τ).loc main_arg0) : FVec Ideal S8x2048x1536 .f32) (ix3 (bat t) ⟨(blk t).val * 128 + p.val, by omega⟩ ⟨x.val, by omega⟩) := by
  obtain ⟨i0, i1, i2, i3, i4, i5⟩ := idx t
  unfold X0_2 Pipeline.Window.fill
  rw [dif_pos (moved0_2 t _)]
  blk_ext [iblk, V, i2, bat, blk]

theorem key_at (k : Fin 2048) (x : Fin 256) : iblk m c 3 t (ix3 (0 : Fin 1) k x : S1x2048x256.Idx)
    = (m ((c.tc : Thread nD τ).loc main_arg0) : FVec Ideal S8x2048x1536 .f32) (ix3 (bat t) k ⟨1024 + x.val, by omega⟩) := by
  obtain ⟨i0, i1, i2, i3, i4, i5⟩ := idx t
  blk_ext [iblk, V, i3, bat]

theorem value_at (k : Fin 2048) (x : Fin 256) : iblk m c 4 t (ix3 (0 : Fin 1) k x : S1x2048x256.Idx)
    = (m ((c.tc : Thread nD τ).loc main_arg0) : FVec Ideal S8x2048x1536 .f32) (ix3 (bat t) k ⟨1280 + x.val, by omega⟩) := by
  obtain ⟨i0, i1, i2, i3, i4, i5⟩ := idx t
  blk_ext [iblk, V, i4, bat]

theorem slope_at (h : Fin 16) : iblk m c 0 t (ix1 h : S16.Idx) = slope h := by
  obtain ⟨i0, i1, i2, i3, i4, i5⟩ := idx t
  refine Eq.trans ?_ (slopes_at m c h)
  blk_ext [iblk, i0]

theorem sink_at (h : Fin 16) : iblk m c 1 t (ix1 h : S16.Idx) = (m ((c.tc : Thread nD τ).loc main_arg1) : FVec Ideal S16 .f32) (ix1 h) := by
  obtain ⟨i0, i1, i2, i3, i4, i5⟩ := idx t
  blk_ext [iblk, V, i1]

end

/-- The result array after the run. -/
def result (c : Dev nD) : FVec Ideal S8x2048x1024 .f32 := fun j =>
  outAt (m ((c.tc : Thread nD τ).loc main_arg0)) (m ((c.tc : Thread nD τ).loc main_arg1))
    (j 0) (j 1) ⟨(j 2).val / 64, by have := (j 2).isLt; change _ < 1024 at this; omega⟩ ⟨(j 2).val % 64, by omega⟩

set_option maxHeartbeats 16000000 in
theorem array_eq (c : Dev nD) (hX : ∀ i, IsReal ((m ((c.tc : Thread nD τ).loc main_arg0) : FVec Ideal S8x2048x1536 .f32) i))
    (hS : ∀ i, IsReal ((m ((c.tc : Thread nD τ).loc main_arg1) : FVec Ideal S16 .f32) i)) :
    (dats m 0 c).arrAt 5 cfg0.N = result m c := by
  refine (dats m 0 c).arrAt_eq_of_covers 5 _ (by decide +kernel) fun t _ x => ?_
  blk_simp
  rw [after0_5]
  unfold outsAt0
  frame_out
  have b0 : (grid0.coords t 0).val < 8 := (grid0.coords t 0).isLt
  have b1 : (grid0.coords t 1).val < 16 := (grid0.coords t 1).isLt
  obtain ⟨i0, i1, i2, i3, i4, i5⟩ := idx t
  canon_tiles y h
  case piece7 =>
    have hy : y = (ix3 (0 : Fin 1) (⟨(y 1).val, y1_lt⟩ : Fin 128) (⟨(y 2).val, y2_lt⟩ : Fin 128) : S1x128x128.Idx) := by blk_ext
    refine (congrArg _ hy).trans ((congrFun (piece00 (grid0.coords t) _ _ _ _ _ _ _ _ _ _ _ _ _ _) _).trans
      ((stored0_at (m ((c.tc : Thread nD τ).loc main_arg0)) (m ((c.tc : Thread nD τ).loc main_arg1)) hX hS (grid0.coords t)
        ⟨(grid0.coords t 0).val, b0⟩ ⟨(grid0.coords t 1).val, b1⟩ rfl 0 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨0 + l.val, by omega⟩ : Fin 1024)) (fun a => by fin_cases a <;> simp)).trans (query_at m c t _ _)
    · exact fun p l => (View.ld_unit_apply_of _ _ _ _ _ (ix3 (0 : Fin 1) p (⟨0 + l.val, by omega⟩ : Fin 1024)) (fun a => by fin_cases a <;> simp)).trans (query_at m c t _ _)
    · exact fun p l => (View.ld_unit_apply_of _ _ _ _ _ (ix3 (0 : Fin 1) p (⟨128 + l.val, by omega⟩ : Fin 1024)) (fun a => by fin_cases a <;> simp)).trans (query_at m c t _ _)
    · exact fun p l => (View.ld_unit_apply_of _ _ _ _ _ (ix3 (0 : Fin 1) p (⟨128 + l.val, by omega⟩ : Fin 1024)) (fun a => by fin_cases a <;> simp)).trans (query_at m c t _ _)
    · exact (View.ld_unit_apply_of _ _ _ _ _ (ix1 (0 : Fin 16)) (fun a => by fin_cases a; rfl)).trans (slope_at m c t _)
    · exact (View.ld_unit_apply_of _ _ _ _ _ (ix1 (1 : Fin 16)) (fun a => by fin_cases a; rfl)).trans (slope_at m c t _)
    · exact (View.ld_unit_apply_of _ _ _ _ _ (ix1 (2 : Fin 16)) (fun a => by fin_cases a; rfl)).trans (slope_at m c t _)
    · exact (View.ld_unit_apply_of _ _ _ _ _ (ix1 (3 : Fin 16)) (fun a => by fin_cases a; rfl)).trans (slope_at m c t _)
    · exact (View.ld_unit_apply_of _ _ _ _ _ (ix1 (0 : Fin 16)) (fun a => by fin_cases a; rfl)).trans (sink_at m c t _)
    · exact (View.ld_unit_apply_of _ _ _ _ _ (ix1 (1 : Fin 16)) (fun a => by fin_cases a; rfl)).trans (sink_at m c t _)
    · exact (View.ld_unit_apply_of _ _ _ _ _ (ix1 (2 : Fin 16)) (fun a => by fin_cases a; rfl)).trans (sink_at m c t _)
    · exact (View.ld_unit_apply_of _ _ _ _ _ (ix1 (3 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 0 * 4 + (y 2).val / 64 = (x 2).val / 64
        omega
      · refine Fin.ext ?_
        blk_simp [i5]
        show (y 2).val % 64 = (x 2).val % 64
        omega
  case piece6 =>
    have hy : y = (ix3 (0 : Fin 1) (⟨(y 1).val, y1_lt⟩ : Fin 128) (⟨(y 2).val, y2_lt⟩ : Fin 128) : S1x128x128.Idx) := by blk_ext
    refine (congrArg _ hy).trans ((congrFun (piece01 (grid0.coords t) _ _ _ _ _ _ _ _ _ _ _ _ _ _) _).trans
      ((stored1_at (m ((c.tc : Thread nD τ).loc main_arg0)) (m ((c.tc : Thread nD τ).loc main_arg1)) hX hS (grid0.coords t)
        ⟨(grid0.coords t 0).val, b0⟩ ⟨(grid0.coords t 1).val, b1⟩ rfl 0 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨0 + l.val, by omega⟩ : Fin 1024)) (fun a => by fin_cases a <;> simp)).trans (query_at m c t _ _)
    · exact fun p l => (View.ld_unit_apply_of _ _ _ _ _ (ix3 (0 : Fin 1) p (⟨0 + l.val, by omega⟩ : Fin 1024)) (fun a => by fin_cases a <;> simp)).trans (query_at m c t _ _)
    · exact fun p l => (View.ld_unit_apply_of _ _ _ _ _ (ix3 (0 : Fin 1) p (⟨128 + l.val, by omega⟩ : Fin 1024)) (fun a => by fin_cases a <;> simp)).trans (query_at m c t _ _)
    · exact fun p l => (View.ld_unit_apply_of _ _ _ _ _ (ix3 (0 : Fin 1) p (⟨128 + l.val, by omega⟩ : Fin 1024)) (fun a => by fin_cases a <;> simp)).trans (query_at m c t _ _)
    · exact (View.ld_unit_apply_of _ _ _ _ _ (ix1 (0 : Fin 16)) (fun a => by fin_cases a; rfl)).trans (slope_at m c t _)
    · exact (View.ld_unit_apply_of _ _ _ _ _ (ix1 (1 : Fin 16)) (fun a => by fin_cases a; rfl)).trans (slope_at m c t _)
    · exact (View.ld_unit_apply_of _ _ _ _ _ (ix1 (2 : Fin 16)) (fun a => by fin_cases a; rfl)).trans (slope_at m c t _)
    · exact (View.ld_unit_apply_of _ _ _ _ _ (ix1 (3 : Fin 16)) (fun a => by fin_cases a; rfl)).trans (slope_at m c t _)
    · exact (View.ld_unit_apply_of _ _ _ _ _ (ix1 (0 : Fin 16)) (fun a => by fin_cases a; rfl)).trans (sink_at m c t _)
    · exact (View.ld_unit_apply_of _ _ _ _ _ (ix1 (1 : Fin 16)) (fun a => by fin_cases a; rfl)).trans (sink_at m c t _)
    · exact (View.ld_unit_apply_of _ _ _ _ _ (ix1 (2 : Fin 16)) (fun a => by fin_cases a; rfl)).trans (sink_at m c t _)
    · exact (View.ld_unit_apply_of _ _ _ _ _ (ix1 (3 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 0 * 4 + (2 + (y 2).val / 64) = (x 2).val / 64
        omega
      · refine Fin.ext ?_
        blk_simp [i5]
        show (y 2).val % 64 = (x 2).val % 64
        omega
  case piece5 =>
    have hy : y = (ix3 (0 : Fin 1) (⟨(y 1).val, y1_lt⟩ : Fin 128) (⟨(y 2).val, y2_lt⟩ : Fin 128) : S1x128x128.Idx) := by blk_ext
    refine (congrArg _ hy).trans ((congrFun (piece10 (grid0.coords t) _ _ _ _ _ _ _ _ _ _ _ _ _ _) _).trans
      ((stored0_at (m ((c.tc : Thread nD τ).loc main_arg0)) (m ((c.tc : Thread nD τ).loc main_arg1)) hX hS (grid0.coords t)
        ⟨(grid0.coords t 0).val, b0⟩ ⟨(grid0.coords t 1).val, b1⟩ rfl 1 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨256 + l.val, by omega⟩ : Fin 1024)) (fun a => by fin_cases a <;> simp)).trans (query_at m c t _ _)
    · exact fun p l => (View.ld_unit_apply_of _ _ _ _ _ (ix3 (0 : Fin 1) p (⟨256 + l.val, by omega⟩ : Fin 1024)) (fun a => by fin_cases a <;> simp)).trans (query_at m c t _ _)
    · exact fun p l => (View.ld_unit_apply_of _ _ _ _ _ (ix3 (0 : Fin 1) p (⟨384 + l.val, by omega⟩ : Fin 1024)) (fun a => by fin_cases a <;> simp)).trans (query_at m c t _ _)
    · exact fun p l => (View.ld_unit_apply_of _ _ _ _ _ (ix3 (0 : Fin 1) p (⟨384 + l.val, by omega⟩ : Fin 1024)) (fun a => by fin_cases a <;> simp)).trans (query_at m c t _ _)
    · exact (View.ld_unit_apply_of _ _ _ _ _ (ix1 (4 : Fin 16)) (fun a => by fin_cases a; rfl)).trans (slope_at m c t _)
    · exact (View.ld_unit_apply_of _ _ _ _ _ (ix1 (5 : Fin 16)) (fun a => by fin_cases a; rfl)).trans (slope_at m c t _)
    · exact (View.ld_unit_apply_of _ _ _ _ _ (ix1 (6 : Fin 16)) (fun a => by fin_cases a; rfl)).trans (slope_at m c t _)
    · exact (View.ld_unit_apply_of _ _ _ _ _ (ix1 (7 : Fin 16)) (fun a => by fin_cases a; rfl)).trans (slope_at m c t _)
    · exact (View.ld_unit_apply_of _ _ _ _ _ (ix1 (4 : Fin 16)) (fun a => by fin_cases a; rfl)).trans (sink_at m c t _)
    · exact (View.ld_unit_apply_of _ _ _ _ _ (ix1 (5 : Fin 16)) (fun a => by fin_cases a; rfl)).trans (sink_at m c t _)
    · exact (View.ld_unit_apply_of _ _ _ _ _ (ix1 (6 : Fin 16)) (fun a => by fin_cases a; rfl)).trans (sink_at m c t _)
    · exact (View.ld_unit_apply_of _ _ _ _ _ (ix1 (7 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 1 * 4 + (y 2).val / 64 = (x 2).val / 64
        omega
      · refine Fin.ext ?_
        blk_simp [i5]
        show (y 2).val % 64 = (x 2).val % 64
        omega
  case piece4 =>
    have hy : y = (ix3 (0 : Fin 1) (⟨(y 1).val, y1_lt⟩ : Fin 128) (⟨(y 2).val, y2_lt⟩ : Fin 128) : S1x128x128.Idx) := by blk_ext
    refine (congrArg _ hy).trans ((congrFun (piece11 (grid0.coords t) _ _ _ _ _ _ _ _ _ _ _ _ _ _) _).trans
      ((stored1_at (m ((c.tc : Thread nD τ).loc main_arg0)) (m ((c.tc : Thread nD τ).loc main_arg1)) hX hS (grid0.coords t)
        ⟨(grid0.coords t 0).val, b0⟩ ⟨(grid0.coords t 1).val, b1⟩ rfl 1 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨256 + l.val, by omega⟩ : Fin 1024)) (fun a => by fin_cases a <;> simp)).trans (query_at m c t _ _)
    · exact fun p l => (View.ld_unit_apply_of _ _ _ _ _ (ix3 (0 : Fin 1) p (⟨256 + l.val, by omega⟩ : Fin 1024)) (fun a => by fin_cases a <;> simp)).trans (query_at m c t _ _)
    · exact fun p l => (View.ld_unit_apply_of _ _ _ _ _ (ix3 (0 : Fin 1) p (⟨384 + l.val, by omega⟩ : Fin 1024)) (fun a => by fin_cases a <;> simp)).trans (query_at m c t _ _)
    · exact fun p l => (View.ld_unit_apply_of _ _ _ _ _ (ix3 (0 : Fin 1) p (⟨384 + l.val, by omega⟩ : Fin 1024)) (fun a => by fin_cases a <;> simp)).trans (query_at m c t _ _)
    · exact (View.ld_unit_apply_of _ _ _ _ _ (ix1 (4 : Fin 16)) (fun a => by fin_cases a; rfl)).trans (slope_at m c t _)
    · exact (View.ld_unit_apply_of _ _ _ _ _ (ix1 (5 : Fin 16)) (fun a => by fin_cases a; rfl)).trans (slope_at m c t _)
    · exact (View.ld_unit_apply_of _ _ _ _ _ (ix1 (6 : Fin 16)) (fun a => by fin_cases a; rfl)).trans (slope_at m c t _)
    · exact (View.ld_unit_apply_of _ _ _ _ _ (ix1 (7 : Fin 16)) (fun a => by fin_cases a; rfl)).trans (slope_at m c t _)
    · exact (View.ld_unit_apply_of _ _ _ _ _ (ix1 (4 : Fin 16)) (fun a => by fin_cases a; rfl)).trans (sink_at m c t _)
    · exact (View.ld_unit_apply_of _ _ _ _ _ (ix1 (5 : Fin 16)) (fun a => by fin_cases a; rfl)).trans (sink_at m c t _)
    · exact (View.ld_unit_apply_of _ _ _ _ _ (ix1 (6 : Fin 16)) (fun a => by fin_cases a; rfl)).trans (sink_at m c t _)
    · exact (View.ld_unit_apply_of _ _ _ _ _ (ix1 (7 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 1 * 4 + (2 + (y 2).val / 64) = (x 2).val / 64
        omega
      · refine Fin.ext ?_
        blk_simp [i5]
        show (y 2).val % 64 = (x 2).val % 64
        omega
  case piece3 =>
    have hy : y = (ix3 (0 : Fin 1) (⟨(y 1).val, y1_lt⟩ : Fin 128) (⟨(y 2).val, y2_lt⟩ : Fin 128) : S1x128x128.Idx) := by blk_ext
    refine (congrArg _ hy).trans ((congrFun (piece20 (grid0.coords t) _ _ _ _ _ _ _ _ _ _ _ _ _ _) _).trans
      ((stored0_at (m ((c.tc : Thread nD τ).loc main_arg0)) (m ((c.tc : Thread nD τ).loc main_arg1)) hX hS (grid0.coords t)
        ⟨(grid0.coords t 0).val, b0⟩ ⟨(grid0.coords t 1).val, b1⟩ rfl 2 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨512 + l.val, by omega⟩ : Fin 1024)) (fun a => by fin_cases a <;> simp)).trans (query_at m c t _ _)
    · exact fun p l => (View.ld_unit_apply_of _ _ _ _ _ (ix3 (0 : Fin 1) p (⟨512 + l.val, by omega⟩ : Fin 1024)) (fun a => by fin_cases a <;> simp)).trans (query_at m c t _ _)
    · exact fun p l => (View.ld_unit_apply_of _ _ _ _ _ (ix3 (0 : Fin 1) p (⟨640 + l.val, by omega⟩ : Fin 1024)) (fun a => by fin_cases a <;> simp)).trans (query_at m c t _ _)
    · exact fun p l => (View.ld_unit_apply_of _ _ _ _ _ (ix3 (0 : Fin 1) p (⟨640 + l.val, by omega⟩ : Fin 1024)) (fun a => by fin_cases a <;> simp)).trans (query_at m c t _ _)
    · exact (View.ld_unit_apply_of _ _ _ _ _ (ix1 (8 : Fin 16)) (fun a => by fin_cases a; rfl)).trans (slope_at m c t _)
    · exact (View.ld_unit_apply_of _ _ _ _ _ (ix1 (9 : Fin 16)) (fun a => by fin_cases a; rfl)).trans (slope_at m c t _)
    · exact (View.ld_unit_apply_of _ _ _ _ _ (ix1 (10 : Fin 16)) (fun a => by fin_cases a; rfl)).trans (slope_at m c t _)
    · exact (View.ld_unit_apply_of _ _ _ _ _ (ix1 (11 : Fin 16)) (fun a => by fin_cases a; rfl)).trans (slope_at m c t _)
    · exact (View.ld_unit_apply_of _ _ _ _ _ (ix1 (8 : Fin 16)) (fun a => by fin_cases a; rfl)).trans (sink_at m c t _)
    · exact (View.ld_unit_apply_of _ _ _ _ _ (ix1 (9 : Fin 16)) (fun a => by fin_cases a; rfl)).trans (sink_at m c t _)
    · exact (View.ld_unit_apply_of _ _ _ _ _ (ix1 (10 : Fin 16)) (fun a => by fin_cases a; rfl)).trans (sink_at m c t _)
    · exact (View.ld_unit_apply_of _ _ _ _ _ (ix1 (11 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 2 * 4 + (y 2).val / 64 = (x 2).val / 64
        omega
      · refine Fin.ext ?_
        blk_simp [i5]
        show (y 2).val % 64 = (x 2).val % 64
        omega
  case piece2 =>
    have hy : y = (ix3 (0 : Fin 1) (⟨(y 1).val, y1_lt⟩ : Fin 128) (⟨(y 2).val, y2_lt⟩ : Fin 128) : S1x128x128.Idx) := by blk_ext
    refine (congrArg _ hy).trans ((congrFun (piece21 (grid0.coords t) _ _ _ _ _ _ _ _ _ _ _ _ _ _) _).trans
      ((stored1_at (m ((c.tc : Thread nD τ).loc main_arg0)) (m ((c.tc : Thread nD τ).loc main_arg1)) hX hS (grid0.coords t)
        ⟨(grid0.coords t 0).val, b0⟩ ⟨(grid0.coords t 1).val, b1⟩ rfl 2 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨512 + l.val, by omega⟩ : Fin 1024)) (fun a => by fin_cases a <;> simp)).trans (query_at m c t _ _)
    · exact fun p l => (View.ld_unit_apply_of _ _ _ _ _ (ix3 (0 : Fin 1) p (⟨512 + l.val, by omega⟩ : Fin 1024)) (fun a => by fin_cases a <;> simp)).trans (query_at m c t _ _)
    · exact fun p l => (View.ld_unit_apply_of _ _ _ _ _ (ix3 (0 : Fin 1) p (⟨640 + l.val, by omega⟩ : Fin 1024)) (fun a => by fin_cases a <;> simp)).trans (query_at m c t _ _)
    · exact fun p l => (View.ld_unit_apply_of _ _ _ _ _ (ix3 (0 : Fin 1) p (⟨640 + l.val, by omega⟩ : Fin 1024)) (fun a => by fin_cases a <;> simp)).trans (query_at m c t _ _)
    · exact (View.ld_unit_apply_of _ _ _ _ _ (ix1 (8 : Fin 16)) (fun a => by fin_cases a; rfl)).trans (slope_at m c t _)
    · exact (View.ld_unit_apply_of _ _ _ _ _ (ix1 (9 : Fin 16)) (fun a => by fin_cases a; rfl)).trans (slope_at m c t _)
    · exact (View.ld_unit_apply_of _ _ _ _ _ (ix1 (10 : Fin 16)) (fun a => by fin_cases a; rfl)).trans (slope_at m c t _)
    · exact (View.ld_unit_apply_of _ _ _ _ _ (ix1 (11 : Fin 16)) (fun a => by fin_cases a; rfl)).trans (slope_at m c t _)
    · exact (View.ld_unit_apply_of _ _ _ _ _ (ix1 (8 : Fin 16)) (fun a => by fin_cases a; rfl)).trans (sink_at m c t _)
    · exact (View.ld_unit_apply_of _ _ _ _ _ (ix1 (9 : Fin 16)) (fun a => by fin_cases a; rfl)).trans (sink_at m c t _)
    · exact (View.ld_unit_apply_of _ _ _ _ _ (ix1 (10 : Fin 16)) (fun a => by fin_cases a; rfl)).trans (sink_at m c t _)
    · exact (View.ld_unit_apply_of _ _ _ _ _ (ix1 (11 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 2 * 4 + (2 + (y 2).val / 64) = (x 2).val / 64
        omega
      · refine Fin.ext ?_
        blk_simp [i5]
        show (y 2).val % 64 = (x 2).val % 64
        omega
  case piece1 =>
    have hy : y = (ix3 (0 : Fin 1) (⟨(y 1).val, y1_lt⟩ : Fin 128) (⟨(y 2).val, y2_lt⟩ : Fin 128) : S1x128x128.Idx) := by blk_ext
    refine (congrArg _ hy).trans ((congrFun (piece30 (grid0.coords t) _ _ _ _ _ _ _ _ _ _ _ _ _ _) _).trans
      ((stored0_at (m ((c.tc : Thread nD τ).loc main_arg0)) (m ((c.tc : Thread nD τ).loc main_arg1)) hX hS (grid0.coords t)
        ⟨(grid0.coords t 0).val, b0⟩ ⟨(grid0.coords t 1).val, b1⟩ rfl 3 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨768 + l.val, by omega⟩ : Fin 1024)) (fun a => by fin_cases a <;> simp)).trans (query_at m c t _ _)
    · exact fun p l => (View.ld_unit_apply_of _ _ _ _ _ (ix3 (0 : Fin 1) p (⟨768 + l.val, by omega⟩ : Fin 1024)) (fun a => by fin_cases a <;> simp)).trans (query_at m c t _ _)
    · exact fun p l => (View.ld_unit_apply_of _ _ _ _ _ (ix3 (0 : Fin 1) p (⟨896 + l.val, by omega⟩ : Fin 1024)) (fun a => by fin_cases a <;> simp)).trans (query_at m c t _ _)
    · exact fun p l => (View.ld_unit_apply_of _ _ _ _ _ (ix3 (0 : Fin 1) p (⟨896 + l.val, by omega⟩ : Fin 1024)) (fun a => by fin_cases a <;> simp)).trans (query_at m c t _ _)
    · exact (View.ld_unit_apply_of _ _ _ _ _ (ix1 (12 : Fin 16)) (fun a => by fin_cases a; rfl)).trans (slope_at m c t _)
    · exact (View.ld_unit_apply_of _ _ _ _ _ (ix1 (13 : Fin 16)) (fun a => by fin_cases a; rfl)).trans (slope_at m c t _)
    · exact (View.ld_unit_apply_of _ _ _ _ _ (ix1 (14 : Fin 16)) (fun a => by fin_cases a; rfl)).trans (slope_at m c t _)
    · exact (View.ld_unit_apply_of _ _ _ _ _ (ix1 (15 : Fin 16)) (fun a => by fin_cases a; rfl)).trans (slope_at m c t _)
    · exact (View.ld_unit_apply_of _ _ _ _ _ (ix1 (12 : Fin 16)) (fun a => by fin_cases a; rfl)).trans (sink_at m c t _)
    · exact (View.ld_unit_apply_of _ _ _ _ _ (ix1 (13 : Fin 16)) (fun a => by fin_cases a; rfl)).trans (sink_at m c t _)
    · exact (View.ld_unit_apply_of _ _ _ _ _ (ix1 (14 : Fin 16)) (fun a => by fin_cases a; rfl)).trans (sink_at m c t _)
    · exact (View.ld_unit_apply_of _ _ _ _ _ (ix1 (15 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 3 * 4 + (y 2).val / 64 = (x 2).val / 64
        omega
      · refine Fin.ext ?_
        blk_simp [i5]
        show (y 2).val % 64 = (x 2).val % 64
        omega
  case piece0 =>
    have hy : y = (ix3 (0 : Fin 1) (⟨(y 1).val, y1_lt⟩ : Fin 128) (⟨(y 2).val, y2_lt⟩ : Fin 128) : S1x128x128.Idx) := by blk_ext
    refine (congrArg _ hy).trans ((congrFun (piece31 (grid0.coords t) _ _ _ _ _ _ _ _ _ _ _ _ _ _) _).trans
      ((stored1_at (m ((c.tc : Thread nD τ).loc main_arg0)) (m ((c.tc : Thread nD τ).loc main_arg1)) hX hS (grid0.coords t)
        ⟨(grid0.coords t 0).val, b0⟩ ⟨(grid0.coords t 1).val, b1⟩ rfl 3 _ _ _ _ _ _ _ _ _ _ _ _ _ _ ?_ ?_ ?_ ?_ ?_ ?_ ?_ ?_ ?_ ?_ ?_ ?_ ?_ ?_ ⟨(y 1).val, y1_lt⟩ ⟨(y 2).val, y2_lt⟩).trans ?_))
    · intro k l
      refine (View.ld_unit_apply_of _ _ _ _ _ (ix3 (0 : Fin 1) (⟨start (grid0.coords t 1).val + k.val, start_lt _ _⟩ : Fin 2048) (⟨l.val, l.isLt⟩ : Fin 256)) ?_).trans (key_at m c t _ _)
      refine fun a => Eq.trans ?_ (congrArg (fun n => n + ((ix3 (0 : Fin 1) k l : S1x384x256.Idx) a).val) (congrFun (off_eq t) a).symm)
      fin_cases a <;> simp
    · intro k l
      refine (View.ld_unit_apply_of _ _ _ _ _ (ix3 (0 : Fin 1) (⟨start (grid0.coords t 1).val + k.val, start_lt _ _⟩ : Fin 2048) (⟨l.val, l.isLt⟩ : Fin 256)) ?_).trans (value_at m c t _ _)
      refine fun a => Eq.trans ?_ (congrArg (fun n => n + ((ix3 (0 : Fin 1) k l : S1x384x256.Idx) a).val) (congrFun (off_eq t) a).symm)
      fin_cases a <;> simp
    · exact fun p l => (View.ld_unit_apply_of _ _ _ _ _ (ix3 (0 : Fin 1) p (⟨768 + l.val, by omega⟩ : Fin 1024)) (fun a => by fin_cases a <;> simp)).trans (query_at m c t _ _)
    · exact fun p l => (View.ld_unit_apply_of _ _ _ _ _ (ix3 (0 : Fin 1) p (⟨768 + l.val, by omega⟩ : Fin 1024)) (fun a => by fin_cases a <;> simp)).trans (query_at m c t _ _)
    · exact fun p l => (View.ld_unit_apply_of _ _ _ _ _ (ix3 (0 : Fin 1) p (⟨896 + l.val, by omega⟩ : Fin 1024)) (fun a => by fin_cases a <;> simp)).trans (query_at m c t _ _)
    · exact fun p l => (View.ld_unit_apply_of _ _ _ _ _ (ix3 (0 : Fin 1) p (⟨896 + l.val, by omega⟩ : Fin 1024)) (fun a => by fin_cases a <;> simp)).trans (query_at m c t _ _)
    · exact (View.ld_unit_apply_of _ _ _ _ _ (ix1 (12 : Fin 16)) (fun a => by fin_cases a; rfl)).trans (slope_at m c t _)
    · exact (View.ld_unit_apply_of _ _ _ _ _ (ix1 (13 : Fin 16)) (fun a => by fin_cases a; rfl)).trans (slope_at m c t _)
    · exact (View.ld_unit_apply_of _ _ _ _ _ (ix1 (14 : Fin 16)) (fun a => by fin_cases a; rfl)).trans (slope_at m c t _)
    · exact (View.ld_unit_apply_of _ _ _ _ _ (ix1 (15 : Fin 16)) (fun a => by fin_cases a; rfl)).trans (slope_at m c t _)
    · exact (View.ld_unit_apply_of _ _ _ _ _ (ix1 (12 : Fin 16)) (fun a => by fin_cases a; rfl)).trans (sink_at m c t _)
    · exact (View.ld_unit_apply_of _ _ _ _ _ (ix1 (13 : Fin 16)) (fun a => by fin_cases a; rfl)).trans (sink_at m c t _)
    · exact (View.ld_unit_apply_of _ _ _ _ _ (ix1 (14 : Fin 16)) (fun a => by fin_cases a; rfl)).trans (sink_at m c t _)
    · exact (View.ld_unit_apply_of _ _ _ _ _ (ix1 (15 : Fin 16)) (fun a => by fin_cases a; rfl)).trans (sink_at m c t _)
    · unfold result
      refine congr (congr (congr (congrArg (outAt _ _) ?_) ?_) ?_) ?_
      · exact Fin.ext (by blk_simp [i5])
      · refine Fin.ext ?_
        blk_simp [i5]
        show (grid0.coords t 1).val * 128 + (y 1).val = (grid0.coords t 1).val * 128 + (x 1).val
        omega
      · refine Fin.ext ?_
        blk_simp [i5]
        show 3 * 4 + (2 + (y 2).val / 64) = (x 2).val / 64
        omega
      · refine Fin.ext ?_
        blk_simp [i5]
        show (y 2).val % 64 = (x 2).val % 64
        omega

end Cert.Win

end
-- ==== Proof.WinRef.lean ====
module

public import proofs.«01_k».proof.Proof.WinSpec
public import proofs.«01_k».proof.Proof.Gen.ReferenceWinIdeal.Run

@[expose] public section

set_option maxRecDepth 16384

noncomputable section

namespace Cert.Win

open Idealize.ShloMosaic Idealize.ShloMosaic.TcCoe Idealize.SL.Sem
open Cert.ReferenceWinIdeal Cert.ReferenceWinIdeal.Gen Cert.ReferenceWinIdeal.Value Cert.Real

/-! The reference's term cut into its steps, each read at an index, and the whole against `outAt`. -/

/-- The distances between positions. -/
def rDist : IVec S2048x2048 32 :=
  absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))

/-- The sixteen slopes. -/
def rSlope : FVec Ideal S16 .f32 :=
  Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))

/-- The queries against the keys, by key/value head and query head of its group. -/
def rDots (x : FVec Ideal S8x2048x1536 .f32) : FVec Ideal S8x4x4x2048x2048 .f32 :=
  transpose S8x4x4x2048x2048 [0, 1, 4, 3, 2] (Host.dotGeneral dot_S8x2048x4x64_S8x2048x4x4x64_S8x4x2048x2048x4_3_4_1_13_02_02 none (shapeCast S8x2048x4x64 (extractStridedSlice S8x2048x256 ![0, 0, 1024] x slices_S8x2048x1536_S8x2048x256_0_0_1024) shapeCasts_S8x2048x256_S8x2048x4x64) (shapeCast S8x2048x4x4x64 (extractStridedSlice S8x2048x1024 ![0, 0, 0] x slices_S8x2048x1536_S8x2048x1024_0_0_0) shapeCasts_S8x2048x1024_S8x2048x4x4x64)) transposes_S8x4x2048x2048x4_S8x4x4x2048x2048_0_1_4_3_2

/-- The biased scores. -/
def rScore (s : FVec Ideal S8x4x4x2048x2048 .f32) (w : FVec Ideal S16 .f32) (d : IVec S2048x2048 32) : FVec Ideal S8x4x4x2048x2048 .f32 :=
  subf (mulf s (broadcastInDim S8x4x4x2048x2048 ![] bcast_S_S8x4x4x2048x2048 (constant S_ .f32 0x3E000000#32))) (broadcastInDim S8x4x4x2048x2048 ![0, 1, 2, 3, 4] bcast_S1x4x4x2048x2048_S8x4x4x2048x2048_0_1_2_3_4 (broadcastInDim S1x4x4x2048x2048 ![1, 2, 3, 4] bcast_S4x4x2048x2048_S1x4x4x2048x2048_1_2_3_4 (mulf (broadcastInDim S4x4x2048x2048 ![0, 1, 2, 3] bcast_S4x4x1x1_S4x4x2048x2048_0_1_2_3 (broadcastInDim S4x4x1x1 ![0, 1] bcast_S4x4_S4x4x1x1_0_1 (shapeCast S4x4 w shapeCasts_S16_S4x4))) (broadcastInDim S4x4x2048x2048 ![0, 1, 2, 3] bcast_S1x1x2048x2048_S4x4x2048x2048_0_1_2_3 (broadcastInDim S1x1x2048x2048 ![2, 3] bcast_S2048x2048_S1x1x2048x2048_2_3 (sitofp .f32 d))))))

/-- The scores within the window, −∞ beyond. -/
def rMask (s : FVec Ideal S8x4x4x2048x2048 .f32) (d : IVec S2048x2048 32) : FVec Ideal S8x4x4x2048x2048 .f32 :=
  select (broadcastInDim S8x4x4x2048x2048 ![3, 4] bcast_S2048x2048_S8x4x4x2048x2048_3_4 (cmpi .sle d (broadcastInDim S2048x2048 ![] bcast_S_S2048x2048 (constantI S_ 32 128#32)))) s (broadcastInDim S8x4x4x2048x2048 ![] bcast_S_S8x4x4x2048x2048 (id (constant S_ .f32 0xFF800000#32)))

/-- The sink as one more entry of every row. -/
def rLogits (s : FVec Ideal S8x4x4x2048x2048 .f32) (z : FVec Ideal S16 .f32) : FVec Ideal S8x4x4x2048x2049 .f32 :=
  concatenate S8x4x4x2048x2049 4 [⟨S8x4x4x2048x2048, s⟩, ⟨S8x4x4x2048x1, (broadcastInDim S8x4x4x2048x1 ![0, 1, 2, 3, 4] bcast_S1x4x4x1x1_S8x4x4x2048x1_0_1_2_3_4 (broadcastInDim S1x4x4x1x1 ![1, 2] bcast_S4x4_S1x4x4x1x1_1_2 (shapeCast S4x4 z shapeCasts_S16_S4x4)))⟩] concatenates_S8x4x4x2048x2048_S8x4x4x2048x1_S8x4x4x2048x2049_d4

/-- The largest entry of each row. -/
def rMax (s : FVec Ideal S8x4x4x2048x2049 .f32) : FVec Ideal S8x4x4x2048 .f32 :=
  maximumf (broadcastInDim S8x4x4x2048 ![] bcast_S_S8x4x4x2048 (constant S_ .f32 0xFF800000#32)) (Host.reduce FloatOps.maximumf s (constant S_ .f32 0xFF800000#32) reducesTo_S8x4x4x2048x2049_S8x4x4x2048_d4 h_S_)

/-- The exponentials of the shifted rows. -/
def rExp (s : FVec Ideal S8x4x4x2048x2049 .f32) (t : FVec Ideal S8x4x4x2048 .f32) : FVec Ideal S8x4x4x2048x2049 .f32 :=
  Host.exp (subf s (broadcastInDim S8x4x4x2048x2049 ![0, 1, 2, 3, 4] bcast_S8x4x4x2048x1_S8x4x4x2048x2049_0_1_2_3_4 (broadcastInDim S8x4x4x2048x1 ![0, 1, 2, 3] bcast_S8x4x4x2048_S8x4x4x2048x1_0_1_2_3 t)))

/-- Their sums. -/
def rSum (s : FVec Ideal S8x4x4x2048x2049 .f32) : FVec Ideal S8x4x4x2048 .f32 :=
  Host.reduceAdd s (constant S_ .f32 0x00000000#32) reducesTo_S8x4x4x2048x2049_S8x4x4x2048_d4 h_S_

/-- The weights of the keys, the sink's left away. -/
def rProb (s : FVec Ideal S8x4x4x2048x2049 .f32) (t : FVec Ideal S8x4x4x2048 .f32) : FVec Ideal S8x4x4x2048x2048 .f32 :=
  extractStridedSlice S8x4x4x2048x2048 ![0, 0, 0, 0, 0] (Host.divf s (broadcastInDim S8x4x4x2048x2049 ![0, 1, 2, 3, 4] bcast_S8x4x4x2048x1_S8x4x4x2048x2049_0_1_2_3_4 (broadcastInDim S8x4x4x2048x1 ![0, 1, 2, 3] bcast_S8x4x4x2048_S8x4x4x2048x1_0_1_2_3 t))) slices_S8x4x4x2048x2049_S8x4x4x2048x2048_0_0_0_0_0

/-- The weights against the values. -/
def rAtt (x : FVec Ideal S8x2048x1536 .f32) (p : FVec Ideal S8x4x4x2048x2048 .f32) : FVec Ideal S8x2048x4x4x64 .f32 :=
  transpose S8x2048x4x4x64 [0, 4, 1, 3, 2] (Host.dotGeneral dot_S8x2048x4x64_S8x4x4x2048x2048_S8x4x64x4x2048_1_4_3_23_02_01 none (shapeCast S8x2048x4x64 (extractStridedSlice S8x2048x256 ![0, 0, 1280] x slices_S8x2048x1536_S8x2048x256_0_0_1280) shapeCasts_S8x2048x256_S8x2048x4x64) p) transposes_S8x4x64x4x2048_S8x2048x4x4x64_0_4_1_3_2

/-- The heads side by side. -/
def rOut (a : FVec Ideal S8x2048x4x4x64 .f32) : FVec Ideal S8x2048x1024 .f32 := shapeCast S8x2048x1024 a shapeCasts_S8x2048x4x4x64_S8x2048x1024

/-- The rows of the softmax. -/
def rRows (x : FVec Ideal S8x2048x1536 .f32) (z : FVec Ideal S16 .f32) : FVec Ideal S8x4x4x2048x2049 .f32 :=
  rLogits (rMask (rScore (rDots x) rSlope rDist) rDist) z

/-- The reference's result is the steps one after the other. -/
theorem ref_eq_steps (m : (ℓ : Loc nD τ sig) → Buf (Elt Ideal) ℓ) (c : Dev nD) : res_out0 (F := Ideal) m c =
    rOut (rAtt (m ((c.tc : Thread nD τ).loc main_arg0))
      (rProb (rExp (rRows (m ((c.tc : Thread nD τ).loc main_arg0)) (m ((c.tc : Thread nD τ).loc main_arg1))) (rMax (rRows (m ((c.tc : Thread nD τ).loc main_arg0)) (m ((c.tc : Thread nD τ).loc main_arg1)))))
        (rSum (rExp (rRows (m ((c.tc : Thread nD τ).loc main_arg0)) (m ((c.tc : Thread nD τ).loc main_arg1))) (rMax (rRows (m ((c.tc : Thread nD τ).loc main_arg0)) (m ((c.tc : Thread nD τ).loc main_arg1)))))))) := rfl

theorem rDist_at (q k : Fin 2048) : rDist (ix2 q k) = dist q.val k.val := by
  pointwise [rDist, dist]

theorem rSlope_at (h : Fin 16) : rSlope (ix1 h) = slope h := by
  pointwise [rSlope, slope]

theorem rDots_at (x : FVec Ideal S8x2048x1536 .f32) (b : Fin 8) (kv g : Fin 4) (q k : Fin 2048) :
    rDots x (ix5 b kv g q k) = ∑ d : Fin 64, x (ix3 b k ⟨1024 + (kv.val * 64 + d.val), by omega⟩)
      * x (ix3 b q ⟨(kv.val * 4 + g.val) * 64 + d.val, by omega⟩) := by
  pointwise [rDots]
  refine Finset.sum_congr rfl fun d _ => congrArg (fun t => _ * x (ix3 b q t)) (Fin.ext ?_)
  show kv.val * 256 + g.val * 64 + d.val = (kv.val * 4 + g.val) * 64 + d.val
  omega

theorem rScore_at (s : FVec Ideal S8x4x4x2048x2048 .f32) (w : FVec Ideal S16 .f32) (e : IVec S2048x2048 32) (b : Fin 8) (kv g : Fin 4) (q k : Fin 2048) :
    rScore s w e (ix5 b kv g q k) = s (ix5 b kv g q k) * Ideal.ofBits .f32 0x3E000000#32
      - w (ix1 ⟨kv.val * 4 + g.val, by omega⟩) * FloatOps.sitofp (F := Ideal) .f32 (e (ix2 q k)) := by
  pointwise [rScore]

theorem rMask_at (s : FVec Ideal S8x4x4x2048x2048 .f32) (e : IVec S2048x2048 32) (b : Fin 8) (kv g : Fin 4) (q k : Fin 2048) :
    rMask s e (ix5 b kv g q k) = Scalar.select (IntOp.cmpi .sle (e (ix2 q k)) 128#32) (s (ix5 b kv g q k)) (Ideal.ofBits .f32 0xFF800000#32) := by
  pointwise [rMask, id]

theorem rLogits_at (s : FVec Ideal S8x4x4x2048x2048 .f32) (z : FVec Ideal S16 .f32) (b : Fin 8) (kv g : Fin 4) (q : Fin 2048) (k : Fin 2049) :
    rLogits s z (ix5 b kv g q k) = if h : k.val < 2048 then s (ix5 b kv g q ⟨k.val, h⟩) else z (ix1 ⟨kv.val * 4 + g.val, by omega⟩) := by
  pointwise [rLogits]

/-- A maximum over the last axis, entry by entry; the extents are variables, so that no axis is listed. -/
theorem max_row {n0 n1 n2 n3 n4 : ℕ} (s : FVec Ideal ⟨5, ![n0, n1, n2, n3, n4]⟩ .f32) (z : FVec Ideal S_ .f32)
    (h : (⟨5, ![n0, n1, n2, n3, n4]⟩ : Shape).ReducesTo [4] ⟨4, ![n0, n1, n2, n3]⟩) (hu : 0 < S_.numel)
    (b : Fin n0) (kv : Fin n1) (g : Fin n2) (q : Fin n3) :
    Host.reduce FloatOps.maximumf s z h hu (ix4 b kv g q) = Finset.univ.fold max (z (Shape.Idx.first hu)) (fun x : Fin n4 => s (ix5 b kv g q x)) := by
  rw [Host.reduce_eq_fold, h.fold_fiber_r5_a4]
  rfl

/-- The same for the rows of logits. -/
theorem rowMax_at (s : FVec Ideal S8x4x4x2048x2049 .f32) (b : Fin 8) (kv g : Fin 4) (q : Fin 2048) :
    Host.reduce FloatOps.maximumf s (constant S_ .f32 0xFF800000#32) reducesTo_S8x4x4x2048x2049_S8x4x4x2048_d4 h_S_ (ix4 b kv g q)
      = Finset.univ.fold max (constant (F := Ideal) S_ .f32 0xFF800000#32 (Shape.Idx.first h_S_)) fun x : Fin 2049 => s (ix5 b kv g q x) :=
  max_row s (constant S_ .f32 0xFF800000#32) reducesTo_S8x4x4x2048x2049_S8x4x4x2048_d4 h_S_ b kv g q

/-- An elementwise maximum at one entry. -/
theorem maximumf_at {s : Shape} (x y : FVec Ideal s .f32) (i : s.Idx) : maximumf x y i = max (x i) (y i) := rfl

/-- A constant array at one entry. -/
theorem constant_at {s : Shape} (w : BitVec 32) (i : s.Idx) : constant (F := Ideal) s .f32 w i = Ideal.ofBits .f32 w := rfl

/-- A broadcast constant at one entry. -/
theorem spread_at {s : Shape} (dims : Fin S_.rank → Fin s.rank) (h : S_.BroadcastsInDim s dims) (w : BitVec 32) (i : s.Idx) :
    broadcastInDim s dims h (constant (F := Ideal) S_ .f32 w) i = Ideal.ofBits .f32 w := rfl

/-- The row's maximum as a fold over its 2049 entries. -/
theorem rMax_at (s : FVec Ideal S8x4x4x2048x2049 .f32) (b : Fin 8) (kv g : Fin 4) (q : Fin 2048) :
    rMax s (ix4 b kv g q) = max (Ideal.ofBits .f32 0xFF800000#32) (Finset.univ.fold max (Ideal.ofBits .f32 0xFF800000#32) fun x => s (ix5 b kv g q x)) := by
  have h := rowMax_at s b kv g q
  rw [constant_at] at h
  unfold rMax
  rw [maximumf_at, spread_at, h]

theorem rExp_at (s : FVec Ideal S8x4x4x2048x2049 .f32) (t : FVec Ideal S8x4x4x2048 .f32) (b : Fin 8) (kv g : Fin 4) (q : Fin 2048) (k : Fin 2049) :
    rExp s t (ix5 b kv g q k) = Ideal.exp (s (ix5 b kv g q k) - t (ix4 b kv g q)) := by
  pointwise [rExp]

theorem rSum_at (s : FVec Ideal S8x4x4x2048x2049 .f32) (b : Fin 8) (kv g : Fin 4) (q : Fin 2048) :
    rSum s (ix4 b kv g q) = ∑ x, s (ix5 b kv g q x) := by
  pointwise [rSum]

theorem rProb_at (s : FVec Ideal S8x4x4x2048x2049 .f32) (t : FVec Ideal S8x4x4x2048 .f32) (b : Fin 8) (kv g : Fin 4) (q k : Fin 2048) :
    rProb s t (ix5 b kv g q k) = Ideal.div (s (ix5 b kv g q ⟨k.val, by omega⟩)) (t (ix4 b kv g q)) := by
  pointwise [rProb]

theorem rAtt_at (x : FVec Ideal S8x2048x1536 .f32) (p : FVec Ideal S8x4x4x2048x2048 .f32) (b : Fin 8) (q : Fin 2048) (kv g : Fin 4) (d : Fin 64) :
    rAtt x p (ix5 b q kv g d) = ∑ k : Fin 2048, x (ix3 b k ⟨1280 + (kv.val * 64 + d.val), by omega⟩) * p (ix5 b kv g q k) := by
  pointwise [rAtt]

theorem rOut_at (a : FVec Ideal S8x2048x4x4x64 .f32) (b : Fin 8) (q : Fin 2048) (l : Fin 1024) :
    rOut a (ix3 b q l) = a (ix5 b q ⟨l.val / 256, by omega⟩ ⟨l.val / 64 % 4, by omega⟩ ⟨l.val % 64, by omega⟩) := by
  pointwise [rOut]

/-- The row of the softmax: the masked scores, then the sink. -/
theorem rRows_at (x : FVec Ideal S8x2048x1536 .f32) (z : FVec Ideal S16 .f32) (b : Fin 8) (kv g : Fin 4) (q : Fin 2048) (k : Fin 2048) :
    rRows x z (ix5 b kv g q k.castSucc) = masked x b ⟨kv.val * 4 + g.val, by omega⟩ q k := by
  have hk : (k.castSucc : Fin 2049).val < 2048 := k.isLt
  have hkv : (⟨kv.val * 4 + g.val, by omega⟩ : Fin 16).val / 4 = kv.val := by show (kv.val * 4 + g.val) / 4 = _; omega
  unfold rRows
  rw [rLogits_at, dif_pos hk]
  refine (rMask_at _ _ b kv g q k).trans ?_
  rw [rScore_at, rDots_at, rSlope_at, rDist_at, minus_inf]
  unfold masked score
  refine congrArg (fun t => Scalar.select _ (t * _ - _) _) (Finset.sum_congr rfl fun d _ => ?_)
  rw [mul_comm]
  refine congrArg (fun t => _ * x (ix3 b k t)) (Fin.ext ?_)
  show 1024 + (kv.val * 64 + d.val) = 1024 + ((kv.val * 4 + g.val) / 4 * 64 + d.val)
  omega

theorem rRows_last (x : FVec Ideal S8x2048x1536 .f32) (z : FVec Ideal S16 .f32) (b : Fin 8) (kv g : Fin 4) (q : Fin 2048) :
    rRows x z (ix5 b kv g q (Fin.last 2048)) = z (ix1 ⟨kv.val * 4 + g.val, by omega⟩) := by
  unfold rRows
  rw [rLogits_at, dif_neg (show ¬ (Fin.last 2048).val < 2048 from lt_irrefl 2048)]

/-- The largest entry of the row. -/
theorem rTop_at (x : FVec Ideal S8x2048x1536 .f32) (z : FVec Ideal S16 .f32) (b : Fin 8) (kv g : Fin 4) (q : Fin 2048) :
    rMax (rRows x z) (ix4 b kv g q) = top (masked x b ⟨kv.val * 4 + g.val, by omega⟩ q) (z (ix1 ⟨kv.val * 4 + g.val, by omega⟩)) := by
  rw [rMax_at, minus_inf, top_last, rRows_last]
  unfold top
  simp only [rRows_at]
  exact max_eq_right bot_le

/-- The attention of a head. -/
theorem rHead_at (x : FVec Ideal S8x2048x1536 .f32) (z : FVec Ideal S16 .f32) (b : Fin 8) (q : Fin 2048) (kv g : Fin 4) (d : Fin 64) :
    rAtt x (rProb (rExp (rRows x z) (rMax (rRows x z))) (rSum (rExp (rRows x z) (rMax (rRows x z))))) (ix5 b q kv g d)
      = outAt x z b q ⟨kv.val * 4 + g.val, by omega⟩ d := by
  rw [rAtt_at]
  unfold outAt attend
  refine Finset.sum_congr rfl fun k _ => ?_
  have hkv : (kv.val * 4 + g.val) / 4 = kv.val := by omega
  rw [mul_comm, rProb_at, rSum_at, Fin.sum_univ_castSucc]
  simp only [rExp_at, rTop_at, rRows_last, rRows_at]
  refine congr (congrArg _ ?_) ?_
  · exact congrArg (fun t => Ideal.div (Ideal.exp (t - _)) _) (rRows_at x z b kv g q k)
  · refine congrArg (fun t => x (ix3 b k t)) (Fin.ext ?_)
    show 1280 + (kv.val * 64 + d.val) = 1280 + ((kv.val * 4 + g.val) / 4 * 64 + d.val)
    omega

/-- THE REFERENCE at one place of its result. -/
theorem ref_at (m : (ℓ : Loc nD τ sig) → Buf (Elt Ideal) ℓ) (c : Dev nD) (b : Fin 8) (q : Fin 2048) (l : Fin 1024) :
    res_out0 (F := Ideal) m c (ix3 b q l)
      = outAt (m ((c.tc : Thread nD τ).loc main_arg0)) (m ((c.tc : Thread nD τ).loc main_arg1)) b q ⟨l.val / 64, by omega⟩ ⟨l.val % 64, by omega⟩ := by
  refine ((congrFun (ref_eq_steps m c) _).trans (rOut_at _ b q l)).trans ((rHead_at _ _ b q _ _ _).trans ?_)
  refine congrArg (fun h => outAt _ _ b q h _) (Fin.ext ?_)
  show l.val / 256 * 4 + l.val / 64 % 4 = l.val / 64
  omega

end Cert.Win

end
-- ==== Proof.WinClaim.lean ====
module

public import proofs.«01_k».proof.Defs
public import proofs.«01_k».proof.Proof.Gen.Pre_win_finite
public import proofs.«01_k».proof.Proof.Gen.KernelWin.Frame
public import proofs.«01_k».proof.Proof.Gen.KernelWinIdeal.Frame
public import proofs.«01_k».proof.Proof.WinArray
public import proofs.«01_k».proof.Proof.WinRef

@[expose] public section

set_option maxRecDepth 16384

noncomputable section

/-! The window attention's claims. -/

namespace Cert.Win

open Idealize.ShloMosaic Idealize.ShloMosaic.TcCoe Idealize.SL.Sem

/-- A conjunction of bits is set only where both are. -/
theorem both (p q : BitVec 1) : IntOp.andi p q = 1#1 ↔ p = 1#1 ∧ q = 1#1 := by revert p q; decide

/-- A running conjunction that ends set began set and met set bits only. -/
theorem all_set {α : Type} (x : α → BitVec 1) (l : List α) (a : BitVec 1)
    (h : l.foldl (fun r i => IntOp.andi r (x i)) a = 1#1) : a = 1#1 ∧ ∀ i ∈ l, x i = 1#1 := by
  induction l generalizing a with
  | nil => exact ⟨h, fun i hi => absurd hi List.not_mem_nil⟩
  | cons y l ih =>
    obtain ⟨h1, h2⟩ := ih _ h
    obtain ⟨h3, h4⟩ := (both _ _).mp h1
    refine ⟨h3, fun i hi => ?_⟩
    rcases List.mem_cons.mp hi with rfl | hi
    · exact h4
    · exact h2 i hi

/-- A conjunction over a whole array is set only where every entry is. -/
theorem entry_set {s t u : Shape} {axes : List (Fin s.rank)} (x : s.Idx → BitVec 1) (z : u.Idx → BitVec 1) (h : s.ReducesTo axes t)
    (hu : 0 < u.numel) (j : t.Idx) (ht : ∀ k : t.Idx, k = j) (e : Host.reduce IntOp.andi x z h hu j = 1#1) (i : s.Idx) : x i = 1#1 := by
  rw [Host.reduce_eq_foldl] at e
  refine (all_set x _ _ e).2 i (List.mem_filter.mpr ⟨List.mem_map.mpr ⟨s.rowMajor i, List.mem_finRange _, ?_⟩, ?_⟩)
  · exact s.rowMajor.symm_apply_apply i
  · exact decide_eq_true (ht _)

/-- An entry whose absolute value is below infinity is a real number. -/
theorem real_of_lt (v : Ideal .f32)
    (h : FloatOps.cmpf .olt (FloatOps.hostAbsf v) (FloatOps.ofBits (F := Ideal) .f32 0x7F800000#32) = 1#1) : IsReal v := by
  have ht : Ideal.ofBits .f32 0x7F800000#32 = ⊤ := by simp [Ideal.ofBits, Ideal.ieee]
  refine IsReal.of_ne (fun hb => ?_) (fun hb => ?_)
  · subst hb
    simp [Ideal.hostAbsf_def, Ideal.absf_def, Ideal.cmpf_def, Ideal.cmp_olt, ht] at h
  · subst hb
    simp [Ideal.hostAbsf_def, Ideal.absf_def, Ideal.cmpf_def, Ideal.cmp_olt, ht] at h

/-- The predicate, true, says that every entry of both arguments is a real number. -/
theorem real_of_finite (x : FVec Ideal Cert.Pre_win_finite.S8x2048x1536 .f32) (z : FVec Ideal Cert.Pre_win_finite.S16 .f32)
    (h : Cert.Pre_win_finite.fn (F := Ideal) x z = fun _ => 1#1) : (∀ i, IsReal (x i)) ∧ ∀ i, IsReal (z i) := by
  have one : ∀ j k : Cert.Pre_win_finite.S_.Idx, k = j := fun j k => funext fun a => a.elim0
  have k := (both _ _).mp (congrFun h (Shape.Idx.first Cert.Pre_win_finite.Gen.h_S_))
  exact ⟨fun i => real_of_lt _ (entry_set _ _ Cert.Pre_win_finite.Gen.reducesTo_S8x2048x1536_S_d0_1_2 _ (Shape.Idx.first Cert.Pre_win_finite.Gen.h_S_) (one _) k.1 i),
    fun i => real_of_lt _ (entry_set _ _ Cert.Pre_win_finite.Gen.reducesTo_S16_S_d0 _ (Shape.Idx.first Cert.Pre_win_finite.Gen.h_S_) (one _) k.2 i)⟩

/-- The reference's result is the same array. -/
theorem result_eq (m : (ℓ : Loc Cert.KernelWinIdeal.nD Cert.KernelWinIdeal.τ Cert.KernelWinIdeal.sig) → Buf (Elt Ideal) ℓ)
    (m' : (ℓ : Loc Cert.ReferenceWinIdeal.nD Cert.ReferenceWinIdeal.τ Cert.ReferenceWinIdeal.sig) → Buf (Elt Ideal) ℓ)
    (c : Dev Cert.KernelWinIdeal.nD)
    (h0 : m' ((c.tc : Thread Cert.ReferenceWinIdeal.nD Cert.ReferenceWinIdeal.τ).loc Cert.ReferenceWinIdeal.main_arg0)
      = m ((c.tc : Thread Cert.KernelWinIdeal.nD Cert.KernelWinIdeal.τ).loc Cert.KernelWinIdeal.main_arg0))
    (h1 : m' ((c.tc : Thread Cert.ReferenceWinIdeal.nD Cert.ReferenceWinIdeal.τ).loc Cert.ReferenceWinIdeal.main_arg1)
      = m ((c.tc : Thread Cert.KernelWinIdeal.nD Cert.KernelWinIdeal.τ).loc Cert.KernelWinIdeal.main_arg1)) :
    Cert.ReferenceWinIdeal.Value.res_out0 (F := Ideal) m' c = result m c := by
  funext j
  refine (congrArg _ (eq_ix3 j)).trans ((ref_at m' c (j 0) (j 1) (j 2)).trans ?_)
  rw [h0, h1]
  rfl

/-- The kernel's result array is the reference's. -/
theorem algebraic : Cert.algebraic_KernelWinIdeal_ReferenceWinIdeal_pre_win_finite := fun m g m' g' hp hagree =>
  ⟨fun c => result m c,
    (θ_run Cert.KernelWinIdeal.defs _ _).mono
      (fun r h c => ⟨(h c).1.trans (array_eq m c (real_of_finite _ _ (hp c)).1 (real_of_finite _ _ (hp c)).2), (h c).2⟩)
      (Cert.KernelWinIdeal.Value.run_blocks m g),
    (θ_run Cert.ReferenceWinIdeal.defs _ _).mono
      (fun r h c => ⟨(h c).1.trans (result_eq m m' c (hagree c).1 (hagree c).2), (h c).2⟩)
      (Cert.ReferenceWinIdeal.Value.run (F := Ideal) m' g')⟩

/-- The reference terminates, keeps its arguments and leaves no counter raised. -/
theorem reference_frame : Cert.quiescent_ReferenceWinIdeal := fun m g _ =>
  (θ_run Cert.ReferenceWinIdeal.defs _ _).mono
    (fun r h => ⟨fun c => (h c).2, Idealize.ShloMosaic.sem_eq_zero_of_no_sems (by decide) r.2⟩)
    (Cert.ReferenceWinIdeal.Value.run (F := Ideal) m g)

theorem reference_frame_finite : Cert.quiescent_ReferenceWinIdeal_pre_win_finite := fun m g _ => reference_frame m g trivial

/-- The only difference between the two kernels is the mask's constant, read as minus infinity. -/
theorem preserves : Cert.preserves_KernelWin_KernelWinIdeal :=
  IdealRules.named_const.statement Cert.KernelWinIdeal.κ "mask" .f32 0xF149F2CA#32 ⊥ rfl

end Cert.Win

end
-- ==== Proof.Conv.lean ====
module

public import proofs.«01_k».proof.Defs
public import proofs.«01_k».proof.Proof.Linear
public import proofs.«01_k».proof.Proof.Gen.KernelConvIdeal.Value
public import proofs.«01_k».proof.Proof.Gen.ReferenceConvIdeal.Run

@[expose] public section

set_option maxRecDepth 16384

noncomputable section

/-! The convolution of width 3 along the sequence: each row with the one before and the one after, zero past both ends. -/

namespace Cert.Conv

open Idealize.ShloMosaic Idealize.ShloMosaic.TcCoe Idealize.SL.Sem
open Idealize.ShloMosaic.Pipeline (Dat)

section Launch

open Cert.KernelConvIdeal Cert.KernelConvIdeal.Gen

/-- Row `r` of the sequence with a row of zeros before and after it, at channel `j`. -/
def row (x : FVec Ideal S8x2048x3072 .f32) (i : Fin 8) (r : ℕ) (j : Fin 1536) : EReal :=
  if h : 1 ≤ r ∧ r - 1 < 2048 then x (ix3 i ⟨r - 1, h.2⟩ ⟨j.val, by omega⟩) else 0

/-- One element of the result. -/
def element (x : FVec Ideal S8x2048x3072 .f32) (w : FVec Ideal S3x1536 .f32) (b : FVec Ideal S1536 .f32)
    (i : Fin 8) (r : Fin 2048) (j : Fin 1536) : EReal :=
  row x i r.val j * w (ix2 0 j) + row x i (r.val + 1) j * w (ix2 1 j) + row x i (r.val + 2) j * w (ix2 2 j) + b (ix1 j)

/-- What one grid point computes from its blocks. -/
theorem pay_at (x : Vec Ideal S1x2048x512 .f32) (w : Vec Ideal S3x512 .f32) (b : Vec Ideal S1x512 .f32) (r : Fin 2048) (j : Fin 512) :
    k0_pay1 (F := Ideal) x w b (ix3 0 r j)
      = Scalar.select (IntOp.cmpi .eq (BitVec.ofNat 32 r.val) 0#32) 0 (x (ix3 0 ⟨(r.val + 2048 - 1) % 2048, by omega⟩ j)) * w (ix2 0 j)
        + x (ix3 0 r j) * w (ix2 1 j)
        + Scalar.select (IntOp.cmpi .eq (BitVec.ofNat 32 r.val) 2047#32) 0 (x (ix3 0 ⟨(r.val + 2048 - 2047) % 2048, by omega⟩ j)) * w (ix2 2 j)
        + b (ix2 0 j) := by
  pointwise [k0_pay1]

/-- The choice by a row's number. -/
theorem choice (r k : ℕ) (hr : r < 2048) (hk : k < 2048) (a b : EReal) :
    Scalar.select (IntOp.cmpi .eq (BitVec.ofNat 32 r) (BitVec.ofNat 32 k)) a b = if r = k then a else b := by
  by_cases h : r = k
  · subst h
    rw [if_pos rfl]
    simp [IntOp.cmpi, Scalar.select]
  · have hn : BitVec.ofNat 32 r ≠ BitVec.ofNat 32 k := fun e => h (by
      have := congrArg BitVec.toNat e
      simp only [BitVec.toNat_ofNat] at this
      omega)
    rw [if_neg h]
    simp [IntOp.cmpi, Scalar.select, beq_eq_false_iff_ne.mpr hn]

/-- A grid point's element is the sequence's. -/
theorem block_at (x : FVec Ideal S8x2048x3072 .f32) (i : Fin 8) (j' : Fin 1536) (v : Vec Ideal S1x2048x512 .f32) (w : Vec Ideal S3x512 .f32)
    (b : Vec Ideal S1x512 .f32) (r : Fin 2048) (j : Fin 512) (hv : ∀ r : Fin 2048, v (ix3 0 r j) = x (ix3 i r ⟨j'.val, by omega⟩)) :
    k0_pay1 (F := Ideal) v w b (ix3 0 r j)
      = row x i r.val j' * w (ix2 0 j) + row x i (r.val + 1) j' * w (ix2 1 j) + row x i (r.val + 2) j' * w (ix2 2 j) + b (ix2 0 j) := by
  rw [pay_at, choice _ 0 r.isLt (by omega), choice _ 2047 r.isLt (by omega), hv, hv, hv]
  refine congrArg (· + _) (congr (congrArg HAdd.hAdd (congr (congrArg HAdd.hAdd (congrArg (· * _) ?_)) (congrArg (· * _) ?_))) (congrArg (· * _) ?_))
  · unfold row
    by_cases h : r.val = 0
    · rw [if_pos h, dif_neg (by omega)]
    · rw [if_neg h, dif_pos (by omega)]
      refine congrArg (fun n => x (ix3 i n _)) (Fin.ext ?_)
      show (r.val + 2048 - 1) % 2048 = r.val - 1
      omega
  · unfold row
    rw [dif_pos (by omega)]
    rfl
  · unfold row
    by_cases h : r.val = 2047
    · rw [if_pos h, dif_neg (by omega)]
    · rw [if_neg h, dif_pos (by omega)]
      refine congrArg (fun n => x (ix3 i n _)) (Fin.ext ?_)
      show (r.val + 2048 - 2047) % 2048 = r.val + 2 - 1
      omega

variable (m : (ℓ : Loc nD τ sig) → Buf (Elt Ideal) ℓ)

/-- The block each window holds at each grid point. -/
theorem idx : ∀ t : Fin cfg0.N, win0_0.index t = ![(grid0.coords t 0).val, 0, (grid0.coords t 1).val]
    ∧ win0_1.index t = ![0, (grid0.coords t 1).val] ∧ win0_2.index t = ![0, (grid0.coords t 1).val]
    ∧ win0_3.index t = ![(grid0.coords t 0).val, 0, (grid0.coords t 1).val] :=
  (by decide +kernel : ∀ t : Fin grid0.N, _)

/-- The result array after the run. -/
def result (c : Dev nD) : FVec Ideal S8x2048x1536 .f32 := fun y =>
  element (m ((c.tc : Thread nD τ).loc main_arg0)) (m ((c.tc : Thread nD τ).loc main_arg1)) (m ((c.tc : Thread nD τ).loc main_arg2)) (y 0) (y 1) (y 2)

/-- The bias as the launch finds it. -/
theorem bias_at (c : Dev nD) (j : Fin 1536) : V m c main_v0 (ix2 0 j) = m ((c.tc : Thread nD τ).loc main_arg2) (ix1 j) := by
  entry_read
  pointwise

/-- The whole array after the last grid point. -/
theorem array_eq (c : Dev nD) : (dats m 0 c).arrAt 3 cfg0.N = result m c := by
  refine (dats m 0 c).arrAt_eq_of_covers 3 _ (by decide +kernel) fun t _ y => ?_
  blk_simp
  rw [after0_3]
  unfold out0_3
  frame_out
  have b0 : (grid0.coords t 0).val < 8 := (grid0.coords t 0).isLt
  have b1 : (grid0.coords t 1).val < 3 := (grid0.coords t 1).isLt
  obtain ⟨i0, i1, i2, i3⟩ := idx t
  have y1 : (y 1).val < 2048 := (y 1).isLt
  have y2 : (y 2).val < 512 := (y 2).isLt
  have hy : y = (ix3 (0 : Fin 1) (⟨(y 1).val, y1⟩ : Fin 2048) (⟨(y 2).val, y2⟩ : Fin 512) : S1x2048x512.Idx) := by blk_ext
  refine (congrArg _ hy).trans ((block_at (m ((c.tc : Thread nD τ).loc main_arg0)) ⟨(grid0.coords t 0).val, b0⟩
    ⟨(grid0.coords t 1).val * 512 + (y 2).val, by omega⟩ _ _ _ _ _ (fun r => ?_)).trans ?_)
  · blk_ext [iblk, V, i0]
  unfold result
  refine Eq.trans (b := element _ _ _ ⟨(grid0.coords t 0).val, b0⟩ ⟨(y 1).val, y1⟩ ⟨(grid0.coords t 1).val * 512 + (y 2).val, by omega⟩)
    ?_ (congr (congr (congrArg (element _ _ _) (Fin.ext (by blk_simp [i3]))) (Fin.ext (by blk_simp [i3]))) (Fin.ext (by blk_simp [i3])))
  unfold element
  refine congr (congrArg HAdd.hAdd (congr (congrArg HAdd.hAdd (congr (congrArg HAdd.hAdd (congrArg (_ * ·) ?_)) (congrArg (_ * ·) ?_))) (congrArg (_ * ·) ?_))) ?_
  · blk_ext [iblk, V, i1]
  · blk_ext [iblk, V, i1]
  · blk_ext [iblk, V, i1]
  · refine Eq.trans ?_ (bias_at m c _)
    blk_ext [iblk, i2]

end Launch

section Reference

open Cert.ReferenceConvIdeal Cert.ReferenceConvIdeal.Gen

/-- The sequence between two rows of zeros. -/
def padded (x : FVec Ideal S8x2048x3072 .f32) : FVec Ideal S8x2050x1536 .f32 :=
  pad S8x2050x1536 ![0, 1, 0] ![0, 1, 0] ![0, 0, 0] (extractStridedSlice S8x2048x1536 ![0, 0, 0] x slices_S8x2048x3072_S8x2048x1536_0_0_0) (sitofp .f32 (constantI S_ 32 0#32)) pads_S8x2048x1536_S8x2050x1536_000_110_000 h_S_

/-- Its rows. -/
theorem padded_at (x : FVec Ideal S8x2048x3072 .f32) (i : Fin 8) (r : Fin 2050) (j : Fin 1536) :
    padded x (ix3 i r j) = row x i r.val j := by
  have z : (FloatOps.sitofp .f32 0#32 : Ideal .f32) = 0 := by
    show (((0#32 : BitVec 32).toInt : ℝ) : EReal) = 0
    simp
  unfold row
  rw [← z]
  pointwise [padded]

/-- One tap's weights, spread over the sequences. -/
def tap (w : FVec Ideal S1x1536 .f32) : FVec Ideal S8x2048x1536 .f32 :=
  broadcastInDim S8x2048x1536 ![0, 1, 2] bcast_S1x1x1536_S8x2048x1536_0_1_2 (broadcastInDim S1x1x1536 ![2] bcast_S1536_S1x1x1536_2 (shapeCast _ w shapeCasts_S1x1536_S1536))

/-- The reference's term. -/
def term (x : FVec Ideal S8x2048x3072 .f32) (w : FVec Ideal S3x1536 .f32) (b : FVec Ideal S1536 .f32) : FVec Ideal S8x2048x1536 .f32 :=
  addf (addf (addf
    (mulf (extractStridedSlice S8x2048x1536 ![0, 0, 0] (padded x) slices_S8x2050x1536_S8x2048x1536_0_0_0) (tap (extractStridedSlice S1x1536 ![0, 0] w slices_S3x1536_S1x1536_0_0)))
    (mulf (extractStridedSlice S8x2048x1536 ![0, 1, 0] (padded x) slices_S8x2050x1536_S8x2048x1536_0_1_0) (tap (extractStridedSlice S1x1536 ![1, 0] w slices_S3x1536_S1x1536_1_0))))
    (mulf (extractStridedSlice S8x2048x1536 ![0, 2, 0] (padded x) slices_S8x2050x1536_S8x2048x1536_0_2_0) (tap (extractStridedSlice S1x1536 ![2, 0] w slices_S3x1536_S1x1536_2_0))))
    (broadcastInDim S8x2048x1536 ![0, 1, 2] bcast_S1x1x1536_S8x2048x1536_0_1_2 (broadcastInDim S1x1x1536 ![2] bcast_S1536_S1x1x1536_2 b))

/-- The term at a sequence, a row and a channel. -/
theorem term_at (x : FVec Ideal S8x2048x3072 .f32) (w : FVec Ideal S3x1536 .f32) (b : FVec Ideal S1536 .f32) (i : Fin 8) (r : Fin 2048) (j : Fin 1536) :
    term x w b (ix3 i r j) = element x w b i r j := by
  have h : term x w b (ix3 i r j)
      = padded x (ix3 i ⟨r.val, by omega⟩ j) * w (ix2 0 j) + padded x (ix3 i ⟨1 + r.val, by omega⟩ j) * w (ix2 1 j)
        + padded x (ix3 i ⟨2 + r.val, by omega⟩ j) * w (ix2 2 j) + b (ix1 j) := by
    unfold term tap
    generalize padded x = p
    pointwise
  rw [h, padded_at, padded_at, padded_at]
  unfold element
  rw [Nat.add_comm r.val 1, Nat.add_comm r.val 2]

end Reference

/-- The kernel's array is the reference's term, whenever the two programs' arguments agree. -/
theorem result_eq (m : (ℓ : Loc Cert.KernelConvIdeal.nD Cert.KernelConvIdeal.τ Cert.KernelConvIdeal.sig) → Buf (Elt Ideal) ℓ)
    (m' : (ℓ : Loc Cert.ReferenceConvIdeal.nD Cert.ReferenceConvIdeal.τ Cert.ReferenceConvIdeal.sig) → Buf (Elt Ideal) ℓ) (c : Dev Cert.KernelConvIdeal.nD)
    (h0 : m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0))
    (h1 : m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1))
    (h2 : m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) :
    term (m' ((c.tc : Thread Cert.ReferenceConvIdeal.nD Cert.ReferenceConvIdeal.τ).loc Cert.ReferenceConvIdeal.main_arg0)) (m' ((c.tc : Thread Cert.ReferenceConvIdeal.nD Cert.ReferenceConvIdeal.τ).loc Cert.ReferenceConvIdeal.main_arg1))
      (m' ((c.tc : Thread Cert.ReferenceConvIdeal.nD Cert.ReferenceConvIdeal.τ).loc Cert.ReferenceConvIdeal.main_arg2)) = result m c := by
  funext y
  refine (congrArg _ (eq_ix3 y)).trans ((term_at _ _ _ (y 0) (y 1) (y 2)).trans ?_)
  rw [h0, h1, h2]
  rfl

/-- The kernel's value is the reference's. -/
theorem algebraic : Cert.algebraic_KernelConvIdeal_ReferenceConvIdeal := fun m g m' g' _ hagree =>
  ⟨fun c => result m c,
    (θ_run Cert.KernelConvIdeal.defs _ _).mono (fun r h c => ⟨(h c).1.trans (array_eq m c), (h c).2⟩) (Cert.KernelConvIdeal.Value.run_blocks m g),
    (θ_run Cert.ReferenceConvIdeal.defs _ _).mono
      (fun r h c => ⟨(h c).1.trans (result_eq m m' c (hagree c).1 (hagree c).2.1 (hagree c).2.2), (h c).2⟩)
      (Cert.ReferenceConvIdeal.Value.run (F := Ideal) m' g')⟩

/-- The reference terminates, keeps its arguments and leaves no counter raised. -/
theorem reference_frame : Cert.quiescent_ReferenceConvIdeal := fun m g _ =>
  (θ_run Cert.ReferenceConvIdeal.defs _ _).mono
    (fun r h => ⟨fun c => (h c).2, Idealize.ShloMosaic.sem_eq_zero_of_no_sems (by decide) r.2⟩)
    (Cert.ReferenceConvIdeal.Value.run (F := Ideal) m g)

end Cert.Conv

end
-- ==== Proof.FiltersSpec.lean ====
module

public import proofs.«01_k».proof.Defs
public import proofs.«01_k».proof.Proof.Linear

@[expose] public section

set_option maxRecDepth 16384

noncomputable section

/-! The small network that gives the long convolution its filters: its mathematics, free of tiles and padding. -/

namespace Cert.Filters

open Idealize.ShloMosaic Idealize.ShloMosaic.TcCoe

/-- Neither infinity. -/
def Finite (a : EReal) : Prop := a ≠ ⊤ ∧ a ≠ ⊥

/-- A finite sum has finite terms. -/
theorem finite_of_add {a b : EReal} (h : Finite (a + b)) : Finite a ∧ Finite b := by
  obtain ⟨ht, hb⟩ := h
  induction a with
  | bot => simp at hb
  | top => induction b with
    | bot => simp at hb
    | top => simp at ht
    | coe y => simp at ht
  | coe x => induction b with
    | bot => simp at hb
    | top => simp at ht
    | coe y => simp [Finite]

theorem finite_neg {a : EReal} (h : Finite (-a)) : Finite a := by
  induction a with
  | bot => simp [Finite] at h
  | top => simp [Finite] at h
  | coe x => simp [Finite]

/-- A finite sum over an index has finite terms, and then its negative is the sum of the negatives. -/
theorem sum_neg_of_finite {n : ℕ} (f : Fin n → EReal) (h : ∀ k, Finite (f k)) : ∑ k, -f k = -∑ k, f k := by
  have hr : ∀ k, ∃ x : ℝ, f k = (x : EReal) := fun k => by
    have := h k
    revert this
    generalize f k = a
    induction a with
    | bot => intro this; simp [Finite] at this
    | top => intro this; simp [Finite] at this
    | coe x => intro _; exact ⟨x, rfl⟩
  choose g hg using hr
  simp only [hg]
  have hc : ∀ q : Fin n → ℝ, ∑ k, (q k : EReal) = ((∑ k, q k : ℝ) : EReal) := fun q =>
    (map_sum (⟨⟨Real.toEReal, rfl⟩, EReal.coe_add⟩ : ℝ →+ EReal) q Finset.univ).symm
  simp only [← EReal.coe_neg]
  rw [hc, hc, ← EReal.coe_neg, Finset.sum_neg_distrib]

theorem finite_of_sum {n : ℕ} (f : Fin n → EReal) (h : Finite (∑ k, f k)) (k : Fin n) : Finite (f k) := by
  rw [← Finset.add_sum_erase Finset.univ f (Finset.mem_univ k)] at h
  exact (finite_of_add h).1

/-- A frequency times two sums of which neither is finite: the sine is the same. -/
theorem sin_infinite (f a b : EReal) (ha : ¬Finite a) (hb : ¬Finite b) : Ideal.sin (f * a) = Ideal.sin (f * b) := by
  have key : ∀ x : EReal, ¬Finite x → Ideal.sin (f * x) = if f = 0 then Ideal.sin 0 else ⊥ := by
    intro x hx
    by_cases h0 : f = 0
    · rw [if_pos h0, h0, zero_mul]
    rw [if_neg h0]
    have hx' : x = ⊤ ∨ x = ⊥ := by
      by_contra hc
      rw [not_or] at hc
      exact hx hc
    rcases lt_or_gt_of_ne h0 with hf | hf
    · rcases hx' with rfl | rfl
      · rw [EReal.mul_top_of_neg hf]; rfl
      · rw [EReal.mul_bot_of_neg hf]; rfl
    · rcases hx' with rfl | rfl
      · rw [EReal.mul_top_of_pos hf]; rfl
      · rw [EReal.mul_bot_of_pos hf]; rfl
  rw [key a ha, key b hb]

/-- The first layer's sum at one unit, sines taken away: the time, the cosines and the sines of the angles, weighted, and the bias. -/
def blend (t : EReal) (A : Fin 16 → EReal) (w : Fin 33 → EReal) (b : EReal) : EReal :=
  t * w 0 + (∑ k : Fin 16, Ideal.cos (A k) * w (⟨1 + k.val, by omega⟩ : Fin 33)) - (∑ k : Fin 16, Ideal.sin (A k) * w (⟨17 + k.val, by omega⟩ : Fin 33)) + b

/-- A sum over the 33 inputs, in its three parts. -/
theorem sum_inputs (g : Fin 33 → EReal) :
    ∑ k, g k = g 0 + ((∑ k : Fin 16, g (⟨1 + k.val, by omega⟩ : Fin 33)) + ∑ k : Fin 16, g (⟨17 + k.val, by omega⟩ : Fin 33)) := by
  rw [Fin.sum_univ_succ]
  refine congrArg (g 0 + ·) ?_
  refine (Fin.sum_univ_add (a := 16) (b := 16) (fun k : Fin 32 => g k.succ)).trans ?_
  refine congr (congrArg HAdd.hAdd (Finset.sum_congr rfl fun k _ => congrArg g (Fin.ext ?_))) (Finset.sum_congr rfl fun k _ => congrArg g (Fin.ext ?_))
  · simp [Nat.add_comm]
  · simp
    omega

/-- The first layer's output is the sine of the plain product with the 33 inputs: also where infinite weights make both sums infinite. -/
theorem first_eq (f t : EReal) (A : Fin 16 → EReal) (w z : Fin 33 → EReal) (b : EReal) (h0 : z 0 = t)
    (h1 : ∀ k : Fin 16, z (⟨1 + k.val, by omega⟩ : Fin 33) = Ideal.cos (A k)) (h2 : ∀ k : Fin 16, z (⟨17 + k.val, by omega⟩ : Fin 33) = -Ideal.sin (A k)) :
    Ideal.sin (f * ((∑ k, z k * w k) + b)) = Ideal.sin (f * blend t A w b) := by
  have hz : (∑ k, z k * w k) + b = t * w 0 + (∑ k : Fin 16, Ideal.cos (A k) * w (⟨1 + k.val, by omega⟩ : Fin 33))
      + (∑ k : Fin 16, -(Ideal.sin (A k) * w (⟨17 + k.val, by omega⟩ : Fin 33))) + b := by
    rw [sum_inputs (fun k => z k * w k), ← add_assoc, h0]
    refine congrArg (· + b) (congr (congrArg HAdd.hAdd (congrArg (_ + ·) (Finset.sum_congr rfl fun k _ => ?_))) (Finset.sum_congr rfl fun k _ => ?_))
    · rw [h1]
    · rw [h2, neg_mul]
  rw [hz]
  unfold blend
  rw [sub_eq_add_neg]
  by_cases hs : ∀ k : Fin 16, Finite (Ideal.sin (A k) * w (⟨17 + k.val, by omega⟩ : Fin 33))
  · rw [sum_neg_of_finite _ hs]
  · refine sin_infinite _ _ _ (fun h => hs fun k => ?_) (fun h => hs fun k => ?_)
    · exact finite_neg (finite_of_sum _ (finite_of_add (finite_of_add h).1).2 k)
    · exact finite_of_sum _ (finite_neg (finite_of_add (finite_of_add h).1).2) k

/-- A sum of products over padded lanes is the sum over the lanes that carry something. -/
theorem sum_padded {n p : ℕ} (u v : Fin (n + p) → EReal) (h : ∀ k : Fin (n + p), n ≤ k.val → v k = 0) :
    ∑ k, u k * v k = ∑ k : Fin n, u (k.castAdd p) * v (k.castAdd p) := by
  rw [Fin.sum_univ_add]
  refine (congrArg (_ + ·) (Finset.sum_eq_zero fun k _ => ?_)).trans (add_zero _)
  rw [h _ (by simp), mul_zero]

/-- The network's weights, its biases and the frequency of each unit. -/
structure Net where
  w1 : Fin 33 → Fin 64 → EReal
  b1 : Fin 64 → EReal
  w2 : Fin 64 → Fin 64 → EReal
  b2 : Fin 64 → EReal
  w3 : Fin 64 → Fin 2048 → EReal
  f : Fin 64 → EReal

/-- The first layer's output, from the time and the angles. -/
def Net.first (N : Net) (t : EReal) (A : Fin 16 → EReal) (c : Fin 64) : EReal :=
  Ideal.sin (N.f c * blend t A (fun k => N.w1 k c) (N.b1 c))

/-- The second layer's output. -/
def Net.second (N : Net) (t : EReal) (A : Fin 16 → EReal) (c : Fin 64) : EReal :=
  Ideal.sin (N.f c * ((∑ k : Fin 64, N.first t A k * N.w2 k c) + N.b2 c))

/-- The network's output. -/
def Net.height (N : Net) (t : EReal) (A : Fin 16 → EReal) (d : Fin 2048) : EReal := ∑ k : Fin 64, N.second t A k * N.w3 k d

/-- A row's number, as a value. -/
def place (r : ℕ) : EReal := (FloatOps.sitofp .f32 (BitVec.ofNat 32 r) : Ideal .f32)

theorem place_eq_zero (r : ℕ) (h : r < 2048) : place r = 0 ↔ r = 0 := by
  have e : place r = (((BitVec.ofNat 32 r : BitVec 32).toInt : ℝ) : EReal) := rfl
  have i : (BitVec.ofNat 32 r : BitVec 32).toInt = (r : ℤ) := by
    rw [BitVec.toInt_eq_toNat_of_lt (by simp; omega), BitVec.toNat_ofNat]
    omega
  rw [e, i]
  simp

/-- The angle of a band at a row. -/
def angle (b : EReal) (r : ℕ) : EReal := b * Ideal.div (Ideal.ofBits .f32 0x40C90FDB#32 * place r) (Ideal.ofBits .f32 0x45000000#32)

/-- The window that lets a filter decay with time. -/
def decay (t δ : EReal) : EReal := Ideal.exp (-t * FloatOps.absf (F := Ideal) (φ := .f32) δ)

/-- The filter that looks back, of one of the two pairs, at a row and a channel. -/
def Net.forth (N : Net) (T : Fin 2048 → EReal) (B : Fin 16 → EReal) (D : Fin 512 → EReal) (r : Fin 2048) (o : Fin 2) (j : Fin 512) : EReal :=
  N.height (T r) (fun k => angle (B k) r.val) ⟨o.val * 1024 + j.val, by omega⟩ * decay (T r) (D j)

/-- The filter that looks ahead: nothing at row zero. -/
def Net.back (N : Net) (T : Fin 2048 → EReal) (B : Fin 16 → EReal) (D : Fin 512 → EReal) (r : Fin 2048) (o : Fin 2) (j : Fin 512) : EReal :=
  if r.val = 0 then 0 else N.height (T r) (fun k => angle (B k) r.val) ⟨o.val * 1024 + 512 + j.val, by omega⟩ * decay (T r) (D j)

end Cert.Filters

end
-- ==== Proof.FiltersBlock.lean ====
module

public import proofs.«01_k».proof.Proof.FiltersSpec
public import proofs.«01_k».proof.Proof.Gen.KernelFiltersIdeal.Value

@[expose] public section

set_option maxRecDepth 16384

noncomputable section

/-! What a grid point of the filters' network computes from its blocks, whose lanes are padded with zeros. -/

namespace Cert.Filters

open Idealize.ShloMosaic Idealize.ShloMosaic.TcCoe Idealize.SL.Sem
open Cert.KernelFiltersIdeal Cert.KernelFiltersIdeal.Gen

theorem place_at (i : grid0.Coords) (p : Fin 512) : k0_pay5 (F := Ideal) i (ix2 p 0) = place ((i 0).val * 512 + p.val) := by
  have h : k0_pay5 (F := Ideal) i (ix2 p 0)
      = (FloatOps.sitofp .f32 (IntOp.addi (Scalar.muli (BitVec.ofNat 32 (i 0).val) 512#32) (BitVec.ofNat 32 p.val)) : Ideal .f32) := by
    pointwise [k0_pay5]
  rw [h]
  unfold place
  refine congrArg (fun v => (FloatOps.sitofp .f32 v : Ideal .f32)) ?_
  rw [BitVec.ofNat_add, BitVec.ofNat_mul]
  rfl

theorem decay_at (t : FVec Ideal S512x1 .f32) (d : Vec Ideal S1x512 .f32) (p j : Fin 512) :
    k0_pay9 (F := Ideal) t d (ix2 p j) = decay (t (ix2 p 0)) (d (ix2 0 j)) := by
  have h : k0_pay9 (F := Ideal) t d (ix2 p j) = Ideal.exp ((0 - t (ix2 p 0)) * FloatOps.absf (F := Ideal) (φ := .f32) (d (ix2 0 j))) := by
    pointwise [k0_pay9]
  rw [h, zero_sub]
  rfl

theorem height_sum (f : FVec Ideal S1x128 .f32) (a : FVec Ideal S512x128 .f32) (w2 : Vec Ideal S128x128 .f32) (b : Vec Ideal S1x128 .f32)
    (w3 : Vec Ideal S128x2048 .f32) (p : Fin 512) (d : Fin 2048) :
    k0_pay8 (F := Ideal) f a w2 b w3 (ix2 p d)
      = ∑ k : Fin 128, Ideal.sin (f (ix2 0 k) * ((∑ l : Fin 128, a (ix2 p l) * w2 (ix2 l k)) + b (ix2 0 k))) * w3 (ix2 k d) := by
  pointwise [k0_pay8]

theorem first_sum (i : grid0.Coords) (t : Vec Ideal S512x1 .f32) (B f wt : Vec Ideal S1x128 .f32) (wc ws : Vec Ideal S128x128 .f32) (b : Vec Ideal S1x128 .f32)
    (p : Fin 512) (c : Fin 128) :
    k0_pay7 (F := Ideal) i t B f wt wc ws b (ix2 p c) = Ideal.sin (f (ix2 0 c) * (t (ix2 p 0) * wt (ix2 0 c)
      + (∑ k : Fin 128, Ideal.cos (B (ix2 0 k) * Ideal.div (Ideal.ofBits .f32 0x40C90FDB#32 * k0_pay5 (F := Ideal) i (ix2 p 0)) (Ideal.ofBits .f32 0x45000000#32)) * wc (ix2 k c))
      - (∑ k : Fin 128, Ideal.sin (B (ix2 0 k) * Ideal.div (Ideal.ofBits .f32 0x40C90FDB#32 * k0_pay5 (F := Ideal) i (ix2 p 0)) (Ideal.ofBits .f32 0x45000000#32)) * ws (ix2 k c))
      + b (ix2 0 c))) := by
  unfold k0_pay7
  generalize k0_pay5 (F := Ideal) i = P
  pointwise [k0_pay4, k0_pay6]

theorem back_one (h : FVec Ideal S512x2048 .f32) (e : FVec Ideal S512x512 .f32) (P : FVec Ideal S512x1 .f32) (p j : Fin 512) :
    k0_pay1 h e (k0_pay15 P) (ix2 p j) = if P (ix2 p 0) = 0 then 0 else h (ix2 p ⟨1536 + j.val, by omega⟩) * e (ix2 p j) := by
  pointwise [k0_pay1, k0_pay15]

theorem back_zero (t P : FVec Ideal S512x1 .f32) (d : Vec Ideal S1x512 .f32) (f : FVec Ideal S1x128 .f32) (a : FVec Ideal S512x128 .f32)
    (w2 : Vec Ideal S128x128 .f32) (b : Vec Ideal S1x128 .f32) (w3 : Vec Ideal S128x2048 .f32) (p j : Fin 512) :
    k0_pay11 t P f a w2 b w3 d (ix2 p j)
      = if P (ix2 p 0) = 0 then 0 else k0_pay8 f a w2 b w3 (ix2 p ⟨512 + j.val, by omega⟩) * k0_pay9 t d (ix2 p j) := by
  unfold k0_pay11
  generalize k0_pay8 f a w2 b w3 = h
  generalize k0_pay9 t d = e
  pointwise

theorem forth_zero (t : FVec Ideal S512x1 .f32) (d : Vec Ideal S1x512 .f32) (f : FVec Ideal S1x128 .f32) (a : FVec Ideal S512x128 .f32)
    (w2 : Vec Ideal S128x128 .f32) (b : Vec Ideal S1x128 .f32) (w3 : Vec Ideal S128x2048 .f32) (p j : Fin 512) :
    k0_pay10 t f a w2 b w3 d (ix2 p j) = k0_pay8 f a w2 b w3 (ix2 p ⟨j.val, by omega⟩) * k0_pay9 t d (ix2 p j) := by
  unfold k0_pay10
  generalize k0_pay8 f a w2 b w3 = h
  generalize k0_pay9 t d = e
  pointwise

theorem forth_one (t : FVec Ideal S512x1 .f32) (d : Vec Ideal S1x512 .f32) (f : FVec Ideal S1x128 .f32) (a : FVec Ideal S512x128 .f32)
    (w2 : Vec Ideal S128x128 .f32) (b : Vec Ideal S1x128 .f32) (w3 : Vec Ideal S128x2048 .f32) (p j : Fin 512) :
    k0_pay14 t f a w2 b w3 d (ix2 p j) = k0_pay8 f a w2 b w3 (ix2 p ⟨1024 + j.val, by omega⟩) * k0_pay9 t d (ix2 p j) := by
  unfold k0_pay14
  generalize k0_pay8 f a w2 b w3 = h
  generalize k0_pay9 t d = e
  pointwise

/-- The zero that fills the lanes. -/
def nought : FVec Ideal S_ .f32 := sitofp .f32 (constantI S_ 32 0#32)

theorem nought_eq : nought = fun _ => (0 : EReal) := by
  funext i
  show (((0#32 : BitVec 32).toInt : ℝ) : EReal) = 0
  simp

/-- The bands, padded. -/
def padBands (B : FVec Ideal S16 .f32) : FVec Ideal S1x128 .f32 :=
  pad S1x128 ![0, 0] ![0, 112] ![0, 0] (broadcastInDim S1x16 ![1] bcast_S16_S1x16_1 B) nought pads_S1x16_S1x128_000_01120 h_S_

/-- The first layer's weights, padded, -/
def padW1 (w : FVec Ideal S33x64 .f32) : FVec Ideal S33x128 .f32 :=
  pad S33x128 ![0, 0] ![0, 64] ![0, 0] w nought pads_S33x64_S33x128_000_0640 h_S_

/-- their rows for the time, -/
def rowTime (w : FVec Ideal S33x64 .f32) : FVec Ideal S1x128 .f32 := extractStridedSlice S1x128 ![0, 0] (padW1 w) slices_S33x128_S1x128_0_0

/-- the cosines -/
def rowsCos (w : FVec Ideal S33x64 .f32) : FVec Ideal S128x128 .f32 :=
  pad S128x128 ![0, 0] ![112, 0] ![0, 0] (extractStridedSlice S16x128 ![1, 0] (padW1 w) slices_S33x128_S16x128_1_0) nought pads_S16x128_S128x128_01120_000 h_S_

/-- and the sines. -/
def rowsSin (w : FVec Ideal S33x64 .f32) : FVec Ideal S128x128 .f32 :=
  pad S128x128 ![0, 0] ![112, 0] ![0, 0] (extractStridedSlice S16x128 ![17, 0] (padW1 w) slices_S33x128_S16x128_17_0) nought pads_S16x128_S128x128_01120_000 h_S_

/-- A value per unit, padded. -/
def padUnits (b : FVec Ideal S64 .f32) : FVec Ideal S1x128 .f32 :=
  shapeCast S1x128 (pad S128 ![0] ![64] ![0] b nought pads_S64_S128_0640 h_S_) shapeCasts_S128_S1x128

/-- The second layer's weights, padded. -/
def padW2 (w : FVec Ideal S64x64 .f32) : FVec Ideal S128x128 .f32 :=
  pad S128x128 ![0, 0] ![64, 64] ![0, 0] w nought pads_S64x64_S128x128_0640_0640 h_S_

/-- The last layer's weights, padded. -/
def padW3 (w : FVec Ideal S64x2048 .f32) : FVec Ideal S128x2048 .f32 :=
  pad S128x2048 ![0, 0] ![64, 0] ![0, 0] w nought pads_S64x2048_S128x2048_0640_000 h_S_

theorem padBands_at (B : FVec Ideal S16 .f32) (k : Fin 128) : padBands B (ix2 0 k) = if h : k.val < 16 then B (ix1 ⟨k.val, h⟩) else 0 := by
  unfold padBands
  rw [nought_eq]
  pointwise

theorem rowTime_at (w : FVec Ideal S33x64 .f32) (c : Fin 128) : rowTime w (ix2 0 c) = if h : c.val < 64 then w (ix2 0 ⟨c.val, h⟩) else 0 := by
  unfold rowTime padW1
  rw [nought_eq]
  pointwise

theorem rowsCos_at (w : FVec Ideal S33x64 .f32) (k c : Fin 128) :
    rowsCos w (ix2 k c) = if h : k.val < 16 then if h' : c.val < 64 then w (ix2 (⟨1 + k.val, by omega⟩ : Fin 33) ⟨c.val, h'⟩) else 0 else 0 := by
  unfold rowsCos padW1
  rw [nought_eq]
  pointwise
  split_ifs <;> first | rfl | omega

theorem rowsSin_at (w : FVec Ideal S33x64 .f32) (k c : Fin 128) :
    rowsSin w (ix2 k c) = if h : k.val < 16 then if h' : c.val < 64 then w (ix2 (⟨17 + k.val, by omega⟩ : Fin 33) ⟨c.val, h'⟩) else 0 else 0 := by
  unfold rowsSin padW1
  rw [nought_eq]
  pointwise
  split_ifs <;> first | rfl | omega

theorem padUnits_at (b : FVec Ideal S64 .f32) (c : Fin 128) : padUnits b (ix2 0 c) = if h : c.val < 64 then b (ix1 ⟨c.val, h⟩) else 0 := by
  unfold padUnits
  rw [nought_eq]
  pointwise

theorem padW2_at (w : FVec Ideal S64x64 .f32) (k c : Fin 128) :
    padW2 w (ix2 k c) = if h : k.val < 64 ∧ c.val < 64 then w (ix2 ⟨k.val, h.1⟩ ⟨c.val, h.2⟩) else 0 := by
  unfold padW2
  rw [nought_eq]
  pointwise

theorem padW3_at (w : FVec Ideal S64x2048 .f32) (k : Fin 128) (d : Fin 2048) : padW3 w (ix2 k d) = if h : k.val < 64 then w (ix2 ⟨k.val, h⟩ d) else 0 := by
  unfold padW3
  rw [nought_eq]
  pointwise

/-- The network of the given arrays. -/
def net (w1 : FVec Ideal S33x64 .f32) (b1 : FVec Ideal S64 .f32) (w2 : FVec Ideal S64x64 .f32) (b2 : FVec Ideal S64 .f32) (w3 : FVec Ideal S64x2048 .f32)
    (f : FVec Ideal S64 .f32) : Net :=
  ⟨fun k c => w1 (ix2 k c), fun c => b1 (ix1 c), fun k c => w2 (ix2 k c), fun c => b2 (ix1 c), fun k d => w3 (ix2 k d), fun c => f (ix1 c)⟩

section

variable (w1 : FVec Ideal S33x64 .f32) (b1 : FVec Ideal S64 .f32) (w2 : FVec Ideal S64x64 .f32) (b2 : FVec Ideal S64 .f32) (w3 : FVec Ideal S64x2048 .f32)
  (f : FVec Ideal S64 .f32)

/-- The first layer over the padded lanes is the first layer. -/
theorem first_at (i : grid0.Coords) (t : Vec Ideal S512x1 .f32) (B : FVec Ideal S16 .f32) (p : Fin 512) (c : Fin 64) :
    k0_pay7 (F := Ideal) i t (padBands B) (padUnits f) (rowTime w1) (rowsCos w1) (rowsSin w1) (padUnits b1) (ix2 p (⟨c.val, by omega⟩ : Fin 128))
      = (net w1 b1 w2 b2 w3 f).first (t (ix2 p 0)) (fun k => angle (B (ix1 k)) ((i 0).val * 512 + p.val)) c := by
  rw [first_sum, place_at, padUnits_at, padUnits_at, rowTime_at, dif_pos c.isLt, dif_pos c.isLt, dif_pos c.isLt]
  unfold Net.first blend net
  refine congrArg Ideal.sin (congrArg (f (ix1 c) * ·) (congrArg (· + b1 (ix1 c)) (congr (congrArg HSub.hSub (congrArg (t (ix2 p 0) * w1 (ix2 0 c) + ·) ?_)) ?_)))
  · refine (sum_padded (n := 16) (p := 112) _ _ fun k hk => ?_).trans (Finset.sum_congr rfl fun k _ => congr (congrArg HMul.hMul ?_) ?_)
    · exact (rowsCos_at w1 k _).trans (dif_neg (by omega))
    · exact congrArg (fun b => Ideal.cos (angle b _)) ((padBands_at B _).trans (dif_pos k.isLt))
    · exact (rowsCos_at w1 _ _).trans ((dif_pos k.isLt).trans (dif_pos c.isLt))
  · refine (sum_padded (n := 16) (p := 112) _ _ fun k hk => ?_).trans (Finset.sum_congr rfl fun k _ => congr (congrArg HMul.hMul ?_) ?_)
    · exact (rowsSin_at w1 k _).trans (dif_neg (by omega))
    · exact congrArg (fun b => Ideal.sin (angle b _)) ((padBands_at B _).trans (dif_pos k.isLt))
    · exact (rowsSin_at w1 _ _).trans ((dif_pos k.isLt).trans (dif_pos c.isLt))

/-- What the three layers give over the padded lanes. -/
theorem height_at (i : grid0.Coords) (t : Vec Ideal S512x1 .f32) (B : FVec Ideal S16 .f32) (p : Fin 512) (d : Fin 2048) :
    k0_pay8 (F := Ideal) (padUnits f) (k0_pay7 (F := Ideal) i t (padBands B) (padUnits f) (rowTime w1) (rowsCos w1) (rowsSin w1) (padUnits b1))
        (padW2 w2) (padUnits b2) (padW3 w3) (ix2 p d)
      = (net w1 b1 w2 b2 w3 f).height (t (ix2 p 0)) (fun k => angle (B (ix1 k)) ((i 0).val * 512 + p.val)) d := by
  rw [height_sum]
  unfold Net.height
  refine (sum_padded (n := 64) (p := 64) _ _ fun k hk => ?_).trans (Finset.sum_congr rfl fun k _ => congr (congrArg HMul.hMul ?_) ?_)
  · exact (padW3_at w3 k d).trans (dif_neg (by omega))
  · unfold Net.second
    refine congrArg Ideal.sin (congr (congrArg HMul.hMul ((padUnits_at f _).trans (dif_pos k.isLt))) (congr (congrArg HAdd.hAdd ?_) ((padUnits_at b2 _).trans (dif_pos k.isLt))))
    refine (sum_padded (n := 64) (p := 64) _ _ fun l hl => ?_).trans (Finset.sum_congr rfl fun l _ => congr (congrArg HMul.hMul ?_) ?_)
    · exact (padW2_at w2 l _).trans (dif_neg (by omega))
    · exact first_at w1 b1 w2 b2 w3 f i t B p l
    · exact (padW2_at w2 _ _).trans (dif_pos ⟨l.isLt, k.isLt⟩)
  · exact (padW3_at w3 _ d).trans (dif_pos k.isLt)

variable (T : Fin 2048 → EReal) (B : FVec Ideal S16 .f32) (D : Fin 512 → EReal) (i : grid0.Coords) (t : Vec Ideal S512x1 .f32) (d : Vec Ideal S1x512 .f32)
  (r : Fin 2048) (p j : Fin 512)

theorem forth_zero_at (hr : r.val = (i 0).val * 512 + p.val) (ht : t (ix2 p 0) = T r) (hd : d (ix2 0 j) = D j) :
    k0_pay10 t (padUnits f) (k0_pay7 (F := Ideal) i t (padBands B) (padUnits f) (rowTime w1) (rowsCos w1) (rowsSin w1) (padUnits b1))
        (padW2 w2) (padUnits b2) (padW3 w3) d (ix2 p j)
      = (net w1 b1 w2 b2 w3 f).forth T (fun k => B (ix1 k)) D r 0 j := by
  rw [forth_zero, height_at, decay_at, ht, hd, ← hr]
  unfold Net.forth
  have e : (⟨j.val, by omega⟩ : Fin 2048) = ⟨(0 : Fin 2).val * 1024 + j.val, by simp; omega⟩ := Fin.ext (by simp)
  exact congrArg (fun n => (net w1 b1 w2 b2 w3 f).height (T r) (fun k => angle (B (ix1 k)) r.val) n * decay (T r) (D j)) e

theorem forth_one_at (hr : r.val = (i 0).val * 512 + p.val) (ht : t (ix2 p 0) = T r) (hd : d (ix2 0 j) = D j) :
    k0_pay14 t (padUnits f) (k0_pay7 (F := Ideal) i t (padBands B) (padUnits f) (rowTime w1) (rowsCos w1) (rowsSin w1) (padUnits b1))
        (padW2 w2) (padUnits b2) (padW3 w3) d (ix2 p j)
      = (net w1 b1 w2 b2 w3 f).forth T (fun k => B (ix1 k)) D r 1 j := by
  rw [forth_one, height_at, decay_at, ht, hd, ← hr]
  unfold Net.forth
  have e : (⟨1024 + j.val, by omega⟩ : Fin 2048) = ⟨(1 : Fin 2).val * 1024 + j.val, by simp; omega⟩ := Fin.ext (by simp)
  exact congrArg (fun n => (net w1 b1 w2 b2 w3 f).height (T r) (fun k => angle (B (ix1 k)) r.val) n * decay (T r) (D j)) e

theorem back_zero_at (hr : r.val = (i 0).val * 512 + p.val) (ht : t (ix2 p 0) = T r) (hd : d (ix2 0 j) = D j) :
    k0_pay11 t (k0_pay5 (F := Ideal) i) (padUnits f) (k0_pay7 (F := Ideal) i t (padBands B) (padUnits f) (rowTime w1) (rowsCos w1) (rowsSin w1) (padUnits b1))
        (padW2 w2) (padUnits b2) (padW3 w3) d (ix2 p j)
      = (net w1 b1 w2 b2 w3 f).back T (fun k => B (ix1 k)) D r 0 j := by
  rw [back_zero, place_at, height_at, decay_at, ht, hd, ← hr]
  unfold Net.back
  refine if_congr (place_eq_zero r.val r.isLt) rfl ?_
  have e : (⟨512 + j.val, by omega⟩ : Fin 2048) = ⟨(0 : Fin 2).val * 1024 + 512 + j.val, by simp; omega⟩ := Fin.ext (by simp)
  exact congrArg (fun n => (net w1 b1 w2 b2 w3 f).height (T r) (fun k => angle (B (ix1 k)) r.val) n * decay (T r) (D j)) e

theorem back_one_at (hr : r.val = (i 0).val * 512 + p.val) (ht : t (ix2 p 0) = T r) (hd : d (ix2 0 j) = D j) :
    k0_pay1 (k0_pay8 (F := Ideal) (padUnits f) (k0_pay7 (F := Ideal) i t (padBands B) (padUnits f) (rowTime w1) (rowsCos w1) (rowsSin w1) (padUnits b1))
        (padW2 w2) (padUnits b2) (padW3 w3)) (k0_pay9 t d) (k0_pay15 (k0_pay5 (F := Ideal) i)) (ix2 p j)
      = (net w1 b1 w2 b2 w3 f).back T (fun k => B (ix1 k)) D r 1 j := by
  rw [back_one, place_at, height_at, decay_at, ht, hd, ← hr]
  unfold Net.back
  refine if_congr (place_eq_zero r.val r.isLt) rfl ?_
  have e : (⟨1536 + j.val, by omega⟩ : Fin 2048) = ⟨(1 : Fin 2).val * 1024 + 512 + j.val, by simp; omega⟩ := Fin.ext (by simp)
  exact congrArg (fun n => (net w1 b1 w2 b2 w3 f).height (T r) (fun k => angle (B (ix1 k)) r.val) n * decay (T r) (D j)) e

end

/-! The four stored blocks, as sums and differences of the two directions. -/

theorem stored_sum_zero (t P : FVec Ideal S512x1 .f32) (f : FVec Ideal S1x128 .f32) (a : FVec Ideal S512x128 .f32) (w2 : Vec Ideal S128x128 .f32)
    (b : Vec Ideal S1x128 .f32) (w3 : Vec Ideal S128x2048 .f32) (d : Vec Ideal S1x512 .f32) (y : S512x512.Idx) :
    k0_pay12 (F := Ideal) t P f a w2 b w3 d y = (k0_pay10 t f a w2 b w3 d y + k0_pay11 t P f a w2 b w3 d y : EReal) := rfl

theorem stored_difference_zero (t P : FVec Ideal S512x1 .f32) (f : FVec Ideal S1x128 .f32) (a : FVec Ideal S512x128 .f32) (w2 : Vec Ideal S128x128 .f32)
    (b : Vec Ideal S1x128 .f32) (w3 : Vec Ideal S128x2048 .f32) (d : Vec Ideal S1x512 .f32) (y : S512x512.Idx) :
    k0_pay13 (F := Ideal) t P f a w2 b w3 d y = (k0_pay11 t P f a w2 b w3 d y - k0_pay10 t f a w2 b w3 d y : EReal) := rfl

theorem stored_sum_one (h : FVec Ideal S512x2048 .f32) (e g : FVec Ideal S512x512 .f32) (q : IVec S512x1 1) (y : S512x512.Idx) :
    k0_pay2 (F := Ideal) h e g q y = (g y + k0_pay1 h e q y : EReal) := rfl

theorem stored_difference_one (h : FVec Ideal S512x2048 .f32) (e g : FVec Ideal S512x512 .f32) (q : IVec S512x1 1) (y : S512x512.Idx) :
    k0_pay3 (F := Ideal) h e g q y = (k0_pay1 h e q y - g y : EReal) := rfl

theorem time_same (t : Vec Ideal S512x1 .f32) : k0_pay4 t = t := by
  funext y
  rw [eq_ix2 y]
  pointwise [k0_pay4]

theorem units_same (f : Vec Ideal S1x128 .f32) : k0_pay6 f = f := by
  funext y
  rw [eq_ix2 y]
  pointwise [k0_pay6]

end Cert.Filters

end
-- ==== Proof.FiltersRef.lean ====
module

public import proofs.«01_k».proof.Proof.FiltersSpec
public import proofs.«01_k».proof.Proof.Gen.ReferenceFiltersIdeal.Run

@[expose] public section

set_option maxRecDepth 16384

noncomputable section

/-! The reference's filters: the evenly spaced times, bands and decays, the network's input, and its two results. -/

namespace Cert.Filters

open Idealize.ShloMosaic Idealize.ShloMosaic.TcCoe Idealize.SL.Sem
open Cert.ReferenceFiltersIdeal Cert.ReferenceFiltersIdeal.Gen

/-- The times, evenly spaced from 0 to 1. -/
def times : FVec Ideal S2048 .f32 :=
  concatenate S2048 0 [⟨S2047, (addf (mulf (broadcastInDim S2047 ![0] bcast_S1_S2047_0 (shapeCast _ (id (constant S_ .f32 0x00000000#32)) shapeCasts_S_S1)) (subf (broadcastInDim S2047 ![] bcast_S_S2047 (constant S_ .f32 0x3F800000#32)) (Host.divf (sitofp .f32 (iotaInDim S2047 32 0)) (broadcastInDim S2047 ![] bcast_S_S2047 (constant S_ .f32 0x44FFE000#32))))) (mulf (broadcastInDim S2047 ![0] bcast_S1_S2047_0 (shapeCast _ (id (constant S_ .f32 0x3F800000#32)) shapeCasts_S_S1)) (Host.divf (sitofp .f32 (iotaInDim S2047 32 0)) (broadcastInDim S2047 ![] bcast_S_S2047 (constant S_ .f32 0x44FFE000#32)))))⟩, ⟨S1, (broadcastInDim S1 ![] bcast_S_S1 (id (constant S_ .f32 0x3F800000#32)))⟩] concatenates_S2047_S1_S2048_d0

/-- The bands, evenly spaced. -/
def bands : FVec Ideal S16 .f32 :=
  concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0

/-- The rates of decay, evenly spaced. -/
def rates : FVec Ideal S512 .f32 :=
  concatenate S512 0 [⟨S511, (addf (mulf (broadcastInDim S511 ![0] bcast_S1_S511_0 (shapeCast _ (id (constant S_ .f32 0xC0447CBD#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC1759BEC#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC1759BEC#32)))⟩] concatenates_S511_S1_S512_d0

/-- The angle of each band at each row. -/
def angles (B : FVec Ideal S16 .f32) : FVec Ideal S2048x16 .f32 :=
  mulf (broadcastInDim S2048x16 ![0, 1] bcast_S1x16_S2048x16_0_1 (broadcastInDim S1x16 ![1] bcast_S16_S1x16_1 B))
    (broadcastInDim S2048x16 ![0, 1] bcast_S2048x1_S2048x16_0_1 (Host.divf
      (mulf (broadcastInDim S2048x1 ![] bcast_S_S2048x1 (constant S_ .f32 0x40C90FDB#32)) (broadcastInDim S2048x1 ![0] bcast_S2048_S2048x1_0 (sitofp .f32 (iotaInDim S2048 32 0))))
      (broadcastInDim S2048x1 ![] bcast_S_S2048x1 (constant S_ .f32 0x45000000#32))))

/-- The network's input: the times, the cosines and the negated sines, side by side. -/
def inputs (T : FVec Ideal S2048 .f32) (a : FVec Ideal S2048x16 .f32) : FVec Ideal S2048x33 .f32 :=
  concatenate S2048x33 1 [⟨S2048x1, broadcastInDim S2048x1 ![0] bcast_S2048_S2048x1_0 T⟩, ⟨S2048x16, Host.cos a⟩, ⟨S2048x16, Host.negf (Host.sin a)⟩]
    concatenates_S2048x1_S2048x16_S2048x16_S2048x33_d1

/-- A value per unit, for each row. -/
def spread (b : FVec Ideal S64 .f32) : FVec Ideal S2048x64 .f32 :=
  broadcastInDim S2048x64 ![0, 1] bcast_S1x64_S2048x64_0_1 (broadcastInDim S1x64 ![1] bcast_S64_S1x64_1 b)

/-- The first layer. -/
def firsts (z : FVec Ideal S2048x33 .f32) (w : FVec Ideal S33x64 .f32) (b f : FVec Ideal S64 .f32) : FVec Ideal S2048x64 .f32 :=
  Host.sin (mulf (spread f) (addf (Host.dotGeneral dot_S2048x33_S33x64_S2048x64_1_0_0_1_n_n none z w) (spread b)))

/-- The second layer. -/
def seconds (a : FVec Ideal S2048x64 .f32) (w : FVec Ideal S64x64 .f32) (b f : FVec Ideal S64 .f32) : FVec Ideal S2048x64 .f32 :=
  Host.sin (mulf (spread f) (addf (Host.dotGeneral dot_S2048x64_S64x64_S2048x64_1_0_0_1_n_n none a w) (spread b)))

/-- The last layer. -/
def heights (a : FVec Ideal S2048x64 .f32) (w : FVec Ideal S64x2048 .f32) : FVec Ideal S2048x2048 .f32 :=
  Host.dotGeneral dot_S2048x64_S64x2048_S2048x2048_1_0_0_1_n_n none a w

/-- The four filters of each row, decaying with time. -/
def decayed (h : FVec Ideal S2048x2048 .f32) (T : FVec Ideal S2048 .f32) (D : FVec Ideal S512 .f32) : FVec Ideal S2048x2x2x512 .f32 :=
  mulf (shapeCast _ h shapeCasts_S2048x2048_S2048x2x2x512) (broadcastInDim S2048x2x2x512 ![0, 1, 2, 3] bcast_S2048x1x1x512_S2048x2x2x512_0_1_2_3
    (broadcastInDim S2048x1x1x512 ![0, 3] bcast_S2048x512_S2048x1x1x512_0_3 (Host.exp (mulf
      (broadcastInDim S2048x512 ![0, 1] bcast_S2048x1_S2048x512_0_1 (Host.negf (broadcastInDim S2048x1 ![0] bcast_S2048_S2048x1_0 T)))
      (broadcastInDim S2048x512 ![0, 1] bcast_S1x512_S2048x512_0_1 (broadcastInDim S1x512 ![1] bcast_S512_S1x512_1 (Host.absf D)))))))

/-- The filters that look back. -/
def forths (x : FVec Ideal S2048x2x2x512 .f32) : FVec Ideal S2048x2x512 .f32 :=
  shapeCast _ (extractStridedSlice S2048x2x1x512 ![0, 0, 0, 0] x slices_S2048x2x2x512_S2048x2x1x512_0_0_0_0) shapeCasts_S2048x2x1x512_S2048x2x512

/-- The filters that look ahead, nothing at row zero. -/
def backs (x : FVec Ideal S2048x2x2x512 .f32) : FVec Ideal S2048x2x512 .f32 :=
  concatenate S2048x2x512 0 [⟨S1x2x512, broadcastInDim S1x2x512 ![] bcast_S_S1x2x512 (constant S_ .f32 0x00000000#32)⟩,
    ⟨S2047x2x512, shapeCast _ (extractStridedSlice S2047x2x1x512 ![1, 0, 1, 0] x slices_S2048x2x2x512_S2047x2x1x512_1_0_1_0) shapeCasts_S2047x2x1x512_S2047x2x512⟩]
    concatenates_S1x2x512_S2047x2x512_S2048x2x512_d0

theorem angles_at (B : FVec Ideal S16 .f32) (r : Fin 2048) (k : Fin 16) : angles B (ix2 r k) = angle (B (ix1 k)) r.val := by
  have h : angles B (ix2 r k) = B (ix1 k) * Ideal.div (Ideal.ofBits .f32 0x40C90FDB#32 * (FloatOps.sitofp .f32 (BitVec.ofNat 32 r.val) : Ideal .f32)) (Ideal.ofBits .f32 0x45000000#32) := by
    pointwise [angles]
  rw [h]
  rfl

theorem inputs_time (T : FVec Ideal S2048 .f32) (a : FVec Ideal S2048x16 .f32) (r : Fin 2048) : inputs T a (ix2 r 0) = T (ix1 r) := by
  pointwise [inputs]

theorem inputs_cos (T : FVec Ideal S2048 .f32) (a : FVec Ideal S2048x16 .f32) (r : Fin 2048) (k : Fin 16) :
    inputs T a (ix2 r (⟨1 + k.val, by omega⟩ : Fin 33)) = Ideal.cos (a (ix2 r k)) := by
  pointwise [inputs]

theorem inputs_sin (T : FVec Ideal S2048 .f32) (a : FVec Ideal S2048x16 .f32) (r : Fin 2048) (k : Fin 16) :
    inputs T a (ix2 r (⟨17 + k.val, by omega⟩ : Fin 33)) = -Ideal.sin (a (ix2 r k)) := by
  pointwise [inputs]
  rw [dif_neg (by omega), dif_neg (by omega)]
  exact congrArg (fun n => -Ideal.sin (a (ix2 r n))) (Fin.ext (by show 17 + k.val - 1 - 16 = k.val; omega))

theorem firsts_at (z : FVec Ideal S2048x33 .f32) (w : FVec Ideal S33x64 .f32) (b f : FVec Ideal S64 .f32) (r : Fin 2048) (c : Fin 64) :
    firsts z w b f (ix2 r c) = Ideal.sin (f (ix1 c) * ((∑ k : Fin 33, z (ix2 r k) * w (ix2 k c)) + b (ix1 c))) := by
  pointwise [firsts, spread]

theorem seconds_at (a : FVec Ideal S2048x64 .f32) (w : FVec Ideal S64x64 .f32) (b f : FVec Ideal S64 .f32) (r : Fin 2048) (c : Fin 64) :
    seconds a w b f (ix2 r c) = Ideal.sin (f (ix1 c) * ((∑ k : Fin 64, a (ix2 r k) * w (ix2 k c)) + b (ix1 c))) := by
  pointwise [seconds, spread]

theorem heights_at (a : FVec Ideal S2048x64 .f32) (w : FVec Ideal S64x2048 .f32) (r d : Fin 2048) :
    heights a w (ix2 r d) = ∑ k : Fin 64, a (ix2 r k) * w (ix2 k d) := by
  pointwise [heights]

theorem decayed_forth (h : FVec Ideal S2048x2048 .f32) (T : FVec Ideal S2048 .f32) (D : FVec Ideal S512 .f32) (r : Fin 2048) (o : Fin 2) (j : Fin 512) :
    decayed h T D (ix4 r o 0 j) = h (ix2 r ⟨o.val * 1024 + j.val, by omega⟩) * decay (T (ix1 r)) (D (ix1 j)) := by
  pointwise [decayed, decay]

theorem decayed_back (h : FVec Ideal S2048x2048 .f32) (T : FVec Ideal S2048 .f32) (D : FVec Ideal S512 .f32) (r : Fin 2048) (o : Fin 2) (j : Fin 512) :
    decayed h T D (ix4 r o 1 j) = h (ix2 r ⟨o.val * 1024 + 512 + j.val, by omega⟩) * decay (T (ix1 r)) (D (ix1 j)) := by
  pointwise [decayed, decay]

theorem forths_at (x : FVec Ideal S2048x2x2x512 .f32) (r : Fin 2048) (o : Fin 2) (j : Fin 512) : forths x (ix3 r o j) = x (ix4 r o 0 j) := by
  pointwise [forths]

theorem backs_at (x : FVec Ideal S2048x2x2x512 .f32) (r : Fin 2048) (o : Fin 2) (j : Fin 512) :
    backs x (ix3 r o j) = if r.val = 0 then 0 else x (ix4 r o 1 j) := by
  pointwise [backs]
  by_cases h : r.val = 0
  · rw [dif_pos (by omega), if_pos h]
  · rw [dif_neg (by omega), if_neg h]
    exact congrArg (fun n => x (ix4 n o 1 j)) (Fin.ext (by show 1 + (r.val - 1) = r.val; omega))

/-- Two results from the two directions' filters: their sum, -/
def sums (a b : FVec Ideal S2048x2x512 .f32) : FVec Ideal S2048x1024 .f32 := shapeCast _ (addf a b) shapeCasts_S2048x2x512_S2048x1024

/-- and their difference. -/
def differences (a b : FVec Ideal S2048x2x512 .f32) : FVec Ideal S2048x1024 .f32 := shapeCast _ (subf b a) shapeCasts_S2048x2x512_S2048x1024

theorem sums_at (a b : FVec Ideal S2048x2x512 .f32) (r : Fin 2048) (l : Fin 1024) :
    sums a b (ix2 r l) = a (ix3 r ⟨l.val / 512, by omega⟩ ⟨l.val % 512, by omega⟩) + b (ix3 r ⟨l.val / 512, by omega⟩ ⟨l.val % 512, by omega⟩) := by
  pointwise [sums]

theorem differences_at (a b : FVec Ideal S2048x2x512 .f32) (r : Fin 2048) (l : Fin 1024) :
    differences a b (ix2 r l) = b (ix3 r ⟨l.val / 512, by omega⟩ ⟨l.val % 512, by omega⟩) - a (ix3 r ⟨l.val / 512, by omega⟩ ⟨l.val % 512, by omega⟩) := by
  pointwise [differences]

section

variable (T : FVec Ideal S2048 .f32) (B : FVec Ideal S16 .f32) (D : FVec Ideal S512 .f32)
  (w1 : FVec Ideal S33x64 .f32) (b1 : FVec Ideal S64 .f32) (w2 : FVec Ideal S64x64 .f32) (b2 : FVec Ideal S64 .f32) (w3 : FVec Ideal S64x2048 .f32)
  (f : FVec Ideal S64 .f32)

/-- The network of the given arrays. -/
def refNet : Net :=
  ⟨fun k c => w1 (ix2 k c), fun c => b1 (ix1 c), fun k c => w2 (ix2 k c), fun c => b2 (ix1 c), fun k d => w3 (ix2 k d), fun c => f (ix1 c)⟩

/-- The four filters of each row. -/
def filters : FVec Ideal S2048x2x2x512 .f32 :=
  decayed (heights (seconds (firsts (inputs T (angles B)) w1 b1 f) w2 b2 f) w3) T D

theorem network_at (r d : Fin 2048) :
    heights (seconds (firsts (inputs T (angles B)) w1 b1 f) w2 b2 f) w3 (ix2 r d)
      = (refNet w1 b1 w2 b2 w3 f).height (T (ix1 r)) (fun k => angle (B (ix1 k)) r.val) d := by
  rw [heights_at]
  unfold Net.height
  refine Finset.sum_congr rfl fun k _ => congrArg (· * w3 (ix2 k d)) ?_
  rw [seconds_at]
  unfold Net.second
  refine congrArg (fun q => Ideal.sin (f (ix1 k) * (q + b2 (ix1 k)))) (Finset.sum_congr rfl fun l _ => congrArg (· * w2 (ix2 l k)) ?_)
  rw [firsts_at]
  refine first_eq _ _ _ (fun q => w1 (ix2 q l)) (fun q => inputs T (angles B) (ix2 r q)) _ (inputs_time _ _ _) (fun q => ?_) (fun q => ?_)
  · rw [inputs_cos, angles_at]
  · rw [inputs_sin, angles_at]

theorem forth_at (r : Fin 2048) (o : Fin 2) (j : Fin 512) : forths (filters T B D w1 b1 w2 b2 w3 f) (ix3 r o j)
    = (refNet w1 b1 w2 b2 w3 f).forth (fun r => T (ix1 r)) (fun k => B (ix1 k)) (fun j => D (ix1 j)) r o j := by
  unfold filters
  rw [forths_at, decayed_forth, network_at]
  rfl

theorem back_at (r : Fin 2048) (o : Fin 2) (j : Fin 512) : backs (filters T B D w1 b1 w2 b2 w3 f) (ix3 r o j)
    = (refNet w1 b1 w2 b2 w3 f).back (fun r => T (ix1 r)) (fun k => B (ix1 k)) (fun j => D (ix1 j)) r o j := by
  unfold filters
  rw [backs_at, decayed_back, network_at]
  rfl

end

variable (m : (ℓ : Loc nD τ sig) → Buf (Elt Ideal) ℓ)

/-- The reference's filters, of its own arguments. -/
def ownFilters (c : Dev nD) : FVec Ideal S2048x2x2x512 .f32 :=
  filters times bands rates (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem out0_eq (c : Dev nD) : Value.res_out0 (F := Ideal) m c = sums (forths (ownFilters m c)) (backs (ownFilters m c)) := rfl

theorem out1_eq (c : Dev nD) : Value.res_out1 (F := Ideal) m c = differences (forths (ownFilters m c)) (backs (ownFilters m c)) := rfl

end Cert.Filters

end
-- ==== Proof.FiltersArray.lean ====
module

public import proofs.«01_k».proof.Proof.FiltersBlock
public import proofs.«01_k».proof.Proof.FiltersRef

@[expose] public section

set_option maxRecDepth 16384

noncomputable section

/-! The arrays the filters' kernel is launched with, and the blocks of a grid point. -/

namespace Cert.Filters

open Idealize.ShloMosaic Idealize.ShloMosaic.TcCoe Idealize.SL.Sem
open Cert.KernelFiltersIdeal Cert.KernelFiltersIdeal.Gen
open Idealize.ShloMosaic.Pipeline (Dat)

variable (m : (ℓ : Loc nD τ sig) → Buf (Elt Ideal) ℓ)

/-- The block each window holds at each grid point. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![(grid0.coords t 0).val, 0] ∧ win0_12.index t = ![(grid0.coords t 0).val, 0] :=
  (by decide +kernel : ∀ t : Fin grid0.N, _)

/-! The arrays the host prepares before the launch. -/

theorem entry_times (c : Dev nD) : V m c main_v1 = broadcastInDim S2048x1 ![0] bcast_S2048_S2048x1_0 times := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_bands (c : Dev nD) : V m c main_v4 = padBands bands := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_time (c : Dev nD) : V m c main_v6 = rowTime (m ((c.tc : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_cos (c : Dev nD) : V m c main_v8 = rowsCos (m ((c.tc : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_sin (c : Dev nD) : V m c main_v10 = rowsSin (m ((c.tc : Thread nD τ).loc main_arg0)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_b1 (c : Dev nD) : V m c main_v12 = padUnits (m ((c.tc : Thread nD τ).loc main_arg1)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_w2 (c : Dev nD) : V m c main_v13 = padW2 (m ((c.tc : Thread nD τ).loc main_arg2)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_b2 (c : Dev nD) : V m c main_v15 = padUnits (m ((c.tc : Thread nD τ).loc main_arg3)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_w3 (c : Dev nD) : V m c main_v16 = padW3 (m ((c.tc : Thread nD τ).loc main_arg4)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_freq (c : Dev nD) : V m c main_v18 = padUnits (m ((c.tc : Thread nD τ).loc main_arg5)) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

theorem entry_rates (c : Dev nD) : V m c main_v20 = broadcastInDim S1x512 ![1] bcast_S512_S1x512_1 rates := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.cons_append, List.nil_append, List.append_nil]
  entry_read
  rfl

/-! The blocks of a grid point: all of each prepared array, but for its own 512 times. -/

theorem block_bands (c : Dev nD) (t : Fin cfg0.N) : iblk m c 1 t = (padBands bands : FVec Ideal S1x128 .f32) := by
  obtain ⟨i0, i1, i2, i3, i4, i5, i6, i7, i8, i9, i10, i11, i12⟩ := idx t
  rw [← entry_bands]
  funext y
  blk_ext [iblk, i1]

theorem block_time (c : Dev nD) (t : Fin cfg0.N) : iblk m c 2 t = (rowTime (m ((c.tc : Thread nD τ).loc main_arg0)) : FVec Ideal S1x128 .f32) := by
  obtain ⟨i0, i1, i2, i3, i4, i5, i6, i7, i8, i9, i10, i11, i12⟩ := idx t
  rw [← entry_time]
  funext y
  blk_ext [iblk, i2]

theorem block_cos (c : Dev nD) (t : Fin cfg0.N) : iblk m c 3 t = (rowsCos (m ((c.tc : Thread nD τ).loc main_arg0)) : FVec Ideal S128x128 .f32) := by
  obtain ⟨i0, i1, i2, i3, i4, i5, i6, i7, i8, i9, i10, i11, i12⟩ := idx t
  rw [← entry_cos]
  funext y
  blk_ext [iblk, i3]

theorem block_sin (c : Dev nD) (t : Fin cfg0.N) : iblk m c 4 t = (rowsSin (m ((c.tc : Thread nD τ).loc main_arg0)) : FVec Ideal S128x128 .f32) := by
  obtain ⟨i0, i1, i2, i3, i4, i5, i6, i7, i8, i9, i10, i11, i12⟩ := idx t
  rw [← entry_sin]
  funext y
  blk_ext [iblk, i4]

theorem block_b1 (c : Dev nD) (t : Fin cfg0.N) : iblk m c 5 t = (padUnits (m ((c.tc : Thread nD τ).loc main_arg1)) : FVec Ideal S1x128 .f32) := by
  obtain ⟨i0, i1, i2, i3, i4, i5, i6, i7, i8, i9, i10, i11, i12⟩ := idx t
  rw [← entry_b1]
  funext y
  blk_ext [iblk, i5]

theorem block_w2 (c : Dev nD) (t : Fin cfg0.N) : iblk m c 6 t = (padW2 (m ((c.tc : Thread nD τ).loc main_arg2)) : FVec Ideal S128x128 .f32) := by
  obtain ⟨i0, i1, i2, i3, i4, i5, i6, i7, i8, i9, i10, i11, i12⟩ := idx t
  rw [← entry_w2]
  funext y
  blk_ext [iblk, i6]

theorem block_b2 (c : Dev nD) (t : Fin cfg0.N) : iblk m c 7 t = (padUnits (m ((c.tc : Thread nD τ).loc main_arg3)) : FVec Ideal S1x128 .f32) := by
  obtain ⟨i0, i1, i2, i3, i4, i5, i6, i7, i8, i9, i10, i11, i12⟩ := idx t
  rw [← entry_b2]
  funext y
  blk_ext [iblk, i7]

theorem block_w3 (c : Dev nD) (t : Fin cfg0.N) : iblk m c 8 t = (padW3 (m ((c.tc : Thread nD τ).loc main_arg4)) : FVec Ideal S128x2048 .f32) := by
  obtain ⟨i0, i1, i2, i3, i4, i5, i6, i7, i8, i9, i10, i11, i12⟩ := idx t
  rw [← entry_w3]
  funext y
  blk_ext [iblk, i8]

theorem block_freq (c : Dev nD) (t : Fin cfg0.N) : iblk m c 9 t = (padUnits (m ((c.tc : Thread nD τ).loc main_arg5)) : FVec Ideal S1x128 .f32) := by
  obtain ⟨i0, i1, i2, i3, i4, i5, i6, i7, i8, i9, i10, i11, i12⟩ := idx t
  rw [← entry_freq]
  funext y
  blk_ext [iblk, i9]

theorem block_times (c : Dev nD) (t : Fin cfg0.N) (p : Fin 512) (r : Fin 2048) (hr : r.val = (grid0.coords t 0).val * 512 + p.val) :
    iblk m c 0 t (ix2 p (0 : Fin 1) : S512x1.Idx) = times (ix1 r) := by
  obtain ⟨i0, i1, i2, i3, i4, i5, i6, i7, i8, i9, i10, i11, i12⟩ := idx t
  have h : V m c main_v1 (ix2 r 0) = times (ix1 r) := by
    rw [entry_times]
    generalize times = T
    pointwise
  refine Eq.trans ?_ h
  blk_ext [iblk, i0, hr]

theorem block_rates (c : Dev nD) (t : Fin cfg0.N) (j : Fin 512) : iblk m c 10 t (ix2 (0 : Fin 1) j : S1x512.Idx) = rates (ix1 j) := by
  obtain ⟨i0, i1, i2, i3, i4, i5, i6, i7, i8, i9, i10, i11, i12⟩ := idx t
  have h : V m c main_v20 (ix2 0 j) = rates (ix1 j) := by
    rw [entry_rates]
    generalize rates = D
    pointwise
  refine Eq.trans ?_ h
  blk_ext [iblk, i10]

end Cert.Filters

end
-- ==== Proof.FiltersResult.lean ====
module

public import proofs.«01_k».proof.Proof.FiltersArray

@[expose] public section

set_option maxRecDepth 16384
set_option maxHeartbeats 4000000

noncomputable section

/-! The filters' two result arrays after the kernel's run. -/

namespace Cert.Filters

open Idealize.ShloMosaic Idealize.ShloMosaic.TcCoe Idealize.SL.Sem
open Cert.KernelFiltersIdeal Cert.KernelFiltersIdeal.Gen
open Idealize.ShloMosaic.Pipeline (Dat)

variable (m : (ℓ : Loc nD τ sig) → Buf (Elt Ideal) ℓ)

/-- The network of the launch's arguments. -/
def ownNet (c : Dev nD) : Net :=
  net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The filters that look back and those that look ahead, of the launch's arguments, at a row and one of the 1024 columns. -/
def forthAt (c : Dev nD) (r : Fin 2048) (l : Fin 1024) : EReal :=
  (ownNet m c).forth (fun r => times (ix1 r)) (fun k => bands (ix1 k)) (fun j => rates (ix1 j)) r ⟨l.val / 512, by omega⟩ ⟨l.val % 512, by omega⟩

def backAt (c : Dev nD) (r : Fin 2048) (l : Fin 1024) : EReal :=
  (ownNet m c).back (fun r => times (ix1 r)) (fun k => bands (ix1 k)) (fun j => rates (ix1 j)) r ⟨l.val / 512, by omega⟩ ⟨l.val % 512, by omega⟩

theorem forthAt_low (c : Dev nD) (r : Fin 2048) (j : Fin 512) : forthAt m c r ⟨j.val, by omega⟩
    = (ownNet m c).forth (fun r => times (ix1 r)) (fun k => bands (ix1 k)) (fun j => rates (ix1 j)) r 0 j := by
  unfold forthAt
  exact congr (congrArg (Net.forth _ _ _ _ r) (Fin.ext (by show j.val / 512 = 0; omega))) (Fin.ext (by show j.val % 512 = j.val; omega))

theorem forthAt_high (c : Dev nD) (r : Fin 2048) (j : Fin 512) : forthAt m c r ⟨512 + j.val, by omega⟩
    = (ownNet m c).forth (fun r => times (ix1 r)) (fun k => bands (ix1 k)) (fun j => rates (ix1 j)) r 1 j := by
  unfold forthAt
  exact congr (congrArg (Net.forth _ _ _ _ r) (Fin.ext (by show (512 + j.val) / 512 = 1; omega))) (Fin.ext (by show (512 + j.val) % 512 = j.val; omega))

theorem backAt_low (c : Dev nD) (r : Fin 2048) (j : Fin 512) : backAt m c r ⟨j.val, by omega⟩
    = (ownNet m c).back (fun r => times (ix1 r)) (fun k => bands (ix1 k)) (fun j => rates (ix1 j)) r 0 j := by
  unfold backAt
  exact congr (congrArg (Net.back _ _ _ _ r) (Fin.ext (by show j.val / 512 = 0; omega))) (Fin.ext (by show j.val % 512 = j.val; omega))

theorem backAt_high (c : Dev nD) (r : Fin 2048) (j : Fin 512) : backAt m c r ⟨512 + j.val, by omega⟩
    = (ownNet m c).back (fun r => times (ix1 r)) (fun k => bands (ix1 k)) (fun j => rates (ix1 j)) r 1 j := by
  unfold backAt
  exact congr (congrArg (Net.back _ _ _ _ r) (Fin.ext (by show (512 + j.val) / 512 = 1; omega))) (Fin.ext (by show (512 + j.val) % 512 = j.val; omega))

/-- One element of each result. -/
def sum_of (c : Dev nD) (r : Fin 2048) (l : Fin 1024) : EReal := forthAt m c r l + backAt m c r l

def difference_of (c : Dev nD) (r : Fin 2048) (l : Fin 1024) : EReal := backAt m c r l - forthAt m c r l

theorem sum_of_congr (c : Dev nD) {r r' : Fin 2048} {l l' : Fin 1024} (hr : r = r') (hl : l = l') : sum_of m c r l = sum_of m c r' l' := by
  rw [hr, hl]

theorem difference_of_congr (c : Dev nD) {r r' : Fin 2048} {l l' : Fin 1024} (hr : r = r') (hl : l = l') :
    difference_of m c r l = difference_of m c r' l' := by
  rw [hr, hl]

/-- The two result arrays after the run. -/
def sumResult (c : Dev nD) : FVec Ideal S2048x1024 .f32 := fun y => sum_of m c (y 0) (y 1)

def differenceResult (c : Dev nD) : FVec Ideal S2048x1024 .f32 := fun y => difference_of m c (y 0) (y 1)

theorem sum_array_eq (c : Dev nD) : (dats m 0 c).arrAt 11 cfg0.N = sumResult m c := by
  refine (dats m 0 c).arrAt_eq_of_covers 11 _ (by decide +kernel) fun t _ x => ?_
  blk_simp
  rw [after0_11]
  unfold_out out0_11
  frame_out
  have b0 : (grid0.coords t 0).val < 4 := (grid0.coords t 0).isLt
  obtain ⟨i0, i1, i2, i3, i4, i5, i6, i7, i8, i9, i10, i11, i12⟩ := idx t
  rw [time_same, units_same, block_bands, block_time, block_cos, block_sin, block_b1, block_w2, block_b2, block_w3, block_freq]
  canon_tiles y h
  case piece1 =>
    have hy : y = (ix2 (⟨(y 0).val, y0_lt⟩ : Fin 512) (⟨(y 1).val, y1_lt⟩ : Fin 512) : S512x512.Idx) := by blk_ext
    let r : Fin 2048 := ⟨(grid0.coords t 0).val * 512 + (y 0).val, by omega⟩
    refine (congrArg _ hy).trans ((stored_sum_zero _ _ _ _ _ _ _ _ _).trans ((congr (congrArg HAdd.hAdd
      (forth_zero_at _ _ _ _ _ _ (fun r => times (ix1 r)) bands (fun j => rates (ix1 j)) _ _ _ r ⟨(y 0).val, y0_lt⟩ ⟨(y 1).val, y1_lt⟩ rfl (block_times m c t _ r rfl) (block_rates m c t _)))
      (back_zero_at _ _ _ _ _ _ (fun r => times (ix1 r)) bands (fun j => rates (ix1 j)) _ _ _ r ⟨(y 0).val, y0_lt⟩ ⟨(y 1).val, y1_lt⟩ rfl (block_times m c t _ r rfl) (block_rates m c t _))).trans ?_))
    refine Eq.trans (congr (congrArg HAdd.hAdd (forthAt_low m c r ⟨(y 1).val, y1_lt⟩).symm) (backAt_low m c r ⟨(y 1).val, y1_lt⟩).symm) ?_
    refine sum_of_congr m c (r := r) (l := ⟨(y 1).val, by omega⟩) (Fin.ext ?_) (Fin.ext ?_)
    · show (grid0.coords t 0).val * 512 + (y 0).val = _
      blk_simp [i11]
      omega
    · show (y 1).val = _
      blk_simp [i11]
      omega
  case piece0 =>
    have hy : y = (ix2 (⟨(y 0).val, y0_lt⟩ : Fin 512) (⟨(y 1).val, y1_lt⟩ : Fin 512) : S512x512.Idx) := by blk_ext
    let r : Fin 2048 := ⟨(grid0.coords t 0).val * 512 + (y 0).val, by omega⟩
    refine (congrArg _ hy).trans ((stored_sum_one _ _ _ _ _).trans ((congr (congrArg HAdd.hAdd
      (forth_one_at _ _ _ _ _ _ (fun r => times (ix1 r)) bands (fun j => rates (ix1 j)) _ _ _ r ⟨(y 0).val, y0_lt⟩ ⟨(y 1).val, y1_lt⟩ rfl (block_times m c t _ r rfl) (block_rates m c t _)))
      (back_one_at _ _ _ _ _ _ (fun r => times (ix1 r)) bands (fun j => rates (ix1 j)) _ _ _ r ⟨(y 0).val, y0_lt⟩ ⟨(y 1).val, y1_lt⟩ rfl (block_times m c t _ r rfl) (block_rates m c t _))).trans ?_))
    refine Eq.trans (congr (congrArg HAdd.hAdd (forthAt_high m c r ⟨(y 1).val, y1_lt⟩).symm) (backAt_high m c r ⟨(y 1).val, y1_lt⟩).symm) ?_
    refine sum_of_congr m c (r := r) (l := ⟨512 + (y 1).val, by omega⟩) (Fin.ext ?_) (Fin.ext ?_)
    · show (grid0.coords t 0).val * 512 + (y 0).val = _
      blk_simp [i11]
      omega
    · show 512 + (y 1).val = _
      blk_simp [i11]
      omega

theorem difference_array_eq (c : Dev nD) : (dats m 0 c).arrAt 12 cfg0.N = differenceResult m c := by
  refine (dats m 0 c).arrAt_eq_of_covers 12 _ (by decide +kernel) fun t _ x => ?_
  blk_simp
  rw [after0_12]
  unfold_out out0_12
  frame_out
  have b0 : (grid0.coords t 0).val < 4 := (grid0.coords t 0).isLt
  obtain ⟨i0, i1, i2, i3, i4, i5, i6, i7, i8, i9, i10, i11, i12⟩ := idx t
  rw [time_same, units_same, block_bands, block_time, block_cos, block_sin, block_b1, block_w2, block_b2, block_w3, block_freq]
  canon_tiles y h
  case piece1 =>
    have hy : y = (ix2 (⟨(y 0).val, y0_lt⟩ : Fin 512) (⟨(y 1).val, y1_lt⟩ : Fin 512) : S512x512.Idx) := by blk_ext
    let r : Fin 2048 := ⟨(grid0.coords t 0).val * 512 + (y 0).val, by omega⟩
    refine (congrArg _ hy).trans ((stored_difference_zero _ _ _ _ _ _ _ _ _).trans ((congr (congrArg HSub.hSub
      (back_zero_at _ _ _ _ _ _ (fun r => times (ix1 r)) bands (fun j => rates (ix1 j)) _ _ _ r ⟨(y 0).val, y0_lt⟩ ⟨(y 1).val, y1_lt⟩ rfl (block_times m c t _ r rfl) (block_rates m c t _)))
      (forth_zero_at _ _ _ _ _ _ (fun r => times (ix1 r)) bands (fun j => rates (ix1 j)) _ _ _ r ⟨(y 0).val, y0_lt⟩ ⟨(y 1).val, y1_lt⟩ rfl (block_times m c t _ r rfl) (block_rates m c t _))).trans ?_))
    refine Eq.trans (congr (congrArg HSub.hSub (backAt_low m c r ⟨(y 1).val, y1_lt⟩).symm) (forthAt_low m c r ⟨(y 1).val, y1_lt⟩).symm) ?_
    refine difference_of_congr m c (r := r) (l := ⟨(y 1).val, by omega⟩) (Fin.ext ?_) (Fin.ext ?_)
    · show (grid0.coords t 0).val * 512 + (y 0).val = _
      blk_simp [i12]
      omega
    · show (y 1).val = _
      blk_simp [i12]
      omega
  case piece0 =>
    have hy : y = (ix2 (⟨(y 0).val, y0_lt⟩ : Fin 512) (⟨(y 1).val, y1_lt⟩ : Fin 512) : S512x512.Idx) := by blk_ext
    let r : Fin 2048 := ⟨(grid0.coords t 0).val * 512 + (y 0).val, by omega⟩
    refine (congrArg _ hy).trans ((stored_difference_one _ _ _ _ _).trans ((congr (congrArg HSub.hSub
      (back_one_at _ _ _ _ _ _ (fun r => times (ix1 r)) bands (fun j => rates (ix1 j)) _ _ _ r ⟨(y 0).val, y0_lt⟩ ⟨(y 1).val, y1_lt⟩ rfl (block_times m c t _ r rfl) (block_rates m c t _)))
      (forth_one_at _ _ _ _ _ _ (fun r => times (ix1 r)) bands (fun j => rates (ix1 j)) _ _ _ r ⟨(y 0).val, y0_lt⟩ ⟨(y 1).val, y1_lt⟩ rfl (block_times m c t _ r rfl) (block_rates m c t _))).trans ?_))
    refine Eq.trans (congr (congrArg HSub.hSub (backAt_high m c r ⟨(y 1).val, y1_lt⟩).symm) (forthAt_high m c r ⟨(y 1).val, y1_lt⟩).symm) ?_
    refine difference_of_congr m c (r := r) (l := ⟨512 + (y 1).val, by omega⟩) (Fin.ext ?_) (Fin.ext ?_)
    · show (grid0.coords t 0).val * 512 + (y 0).val = _
      blk_simp [i12]
      omega
    · show 512 + (y 1).val = _
      blk_simp [i12]
      omega

end Cert.Filters

end
-- ==== Proof.Filters.lean ====
module

public import proofs.«01_k».proof.Defs
public import proofs.«01_k».proof.Proof.FiltersResult

@[expose] public section

set_option maxRecDepth 16384

noncomputable section

/-! The long convolution's filters: the kernel's two results are the reference's. -/

namespace Cert.Filters

open Idealize.ShloMosaic Idealize.ShloMosaic.TcCoe Idealize.SL.Sem
open Idealize.ShloMosaic.Pipeline (Dat)

section

variable (m : (ℓ : Loc Cert.KernelFiltersIdeal.nD Cert.KernelFiltersIdeal.τ Cert.KernelFiltersIdeal.sig) → Buf (Elt Ideal) ℓ)
  (m' : (ℓ : Loc Cert.ReferenceFiltersIdeal.nD Cert.ReferenceFiltersIdeal.τ Cert.ReferenceFiltersIdeal.sig) → Buf (Elt Ideal) ℓ)
  (c : Dev Cert.KernelFiltersIdeal.nD)

/-- The reference's arguments are the kernel's. -/
def Agree : Prop :=
  m' ((c.tc : Thread Cert.ReferenceFiltersIdeal.nD Cert.ReferenceFiltersIdeal.τ).loc Cert.ReferenceFiltersIdeal.main_arg0) = m ((c.tc : Thread Cert.KernelFiltersIdeal.nD Cert.KernelFiltersIdeal.τ).loc Cert.KernelFiltersIdeal.main_arg0)
  ∧ m' ((c.tc : Thread Cert.ReferenceFiltersIdeal.nD Cert.ReferenceFiltersIdeal.τ).loc Cert.ReferenceFiltersIdeal.main_arg1) = m ((c.tc : Thread Cert.KernelFiltersIdeal.nD Cert.KernelFiltersIdeal.τ).loc Cert.KernelFiltersIdeal.main_arg1)
  ∧ m' ((c.tc : Thread Cert.ReferenceFiltersIdeal.nD Cert.ReferenceFiltersIdeal.τ).loc Cert.ReferenceFiltersIdeal.main_arg2) = m ((c.tc : Thread Cert.KernelFiltersIdeal.nD Cert.KernelFiltersIdeal.τ).loc Cert.KernelFiltersIdeal.main_arg2)
  ∧ m' ((c.tc : Thread Cert.ReferenceFiltersIdeal.nD Cert.ReferenceFiltersIdeal.τ).loc Cert.ReferenceFiltersIdeal.main_arg3) = m ((c.tc : Thread Cert.KernelFiltersIdeal.nD Cert.KernelFiltersIdeal.τ).loc Cert.KernelFiltersIdeal.main_arg3)
  ∧ m' ((c.tc : Thread Cert.ReferenceFiltersIdeal.nD Cert.ReferenceFiltersIdeal.τ).loc Cert.ReferenceFiltersIdeal.main_arg4) = m ((c.tc : Thread Cert.KernelFiltersIdeal.nD Cert.KernelFiltersIdeal.τ).loc Cert.KernelFiltersIdeal.main_arg4)
  ∧ m' ((c.tc : Thread Cert.ReferenceFiltersIdeal.nD Cert.ReferenceFiltersIdeal.τ).loc Cert.ReferenceFiltersIdeal.main_arg5) = m ((c.tc : Thread Cert.KernelFiltersIdeal.nD Cert.KernelFiltersIdeal.τ).loc Cert.KernelFiltersIdeal.main_arg5)

/-- The reference's filters are those of the kernel's arguments. -/
theorem own_eq (h : Agree m m' c) : ownFilters m' c = filters times bands rates
    (m ((c.tc : Thread Cert.KernelFiltersIdeal.nD Cert.KernelFiltersIdeal.τ).loc Cert.KernelFiltersIdeal.main_arg0))
    (m ((c.tc : Thread Cert.KernelFiltersIdeal.nD Cert.KernelFiltersIdeal.τ).loc Cert.KernelFiltersIdeal.main_arg1))
    (m ((c.tc : Thread Cert.KernelFiltersIdeal.nD Cert.KernelFiltersIdeal.τ).loc Cert.KernelFiltersIdeal.main_arg2))
    (m ((c.tc : Thread Cert.KernelFiltersIdeal.nD Cert.KernelFiltersIdeal.τ).loc Cert.KernelFiltersIdeal.main_arg3))
    (m ((c.tc : Thread Cert.KernelFiltersIdeal.nD Cert.KernelFiltersIdeal.τ).loc Cert.KernelFiltersIdeal.main_arg4))
    (m ((c.tc : Thread Cert.KernelFiltersIdeal.nD Cert.KernelFiltersIdeal.τ).loc Cert.KernelFiltersIdeal.main_arg5)) := by
  obtain ⟨h0, h1, h2, h3, h4, h5⟩ := h
  unfold ownFilters
  rw [h0, h1, h2, h3, h4, h5]

theorem forth_eq (h : Agree m m' c) (r : Fin 2048) (l : Fin 1024) :
    forths (ownFilters m' c) (ix3 r ⟨l.val / 512, by omega⟩ ⟨l.val % 512, by omega⟩) = forthAt m c r l := by
  rw [own_eq m m' c h, forth_at]
  rfl

theorem back_eq (h : Agree m m' c) (r : Fin 2048) (l : Fin 1024) :
    backs (ownFilters m' c) (ix3 r ⟨l.val / 512, by omega⟩ ⟨l.val % 512, by omega⟩) = backAt m c r l := by
  rw [own_eq m m' c h, back_at]
  rfl

/-- The reference's first result is the kernel's. -/
theorem sum_eq (h : Agree m m' c) : sums (forths (ownFilters m' c)) (backs (ownFilters m' c)) = sumResult m c := by
  funext y
  refine (congrArg _ (eq_ix2 y)).trans ((sums_at _ _ (y 0) (y 1)).trans ?_)
  exact congr (congrArg HAdd.hAdd (forth_eq m m' c h (y 0) (y 1))) (back_eq m m' c h (y 0) (y 1))

/-- The reference's second result is the kernel's. -/
theorem difference_eq (h : Agree m m' c) : differences (forths (ownFilters m' c)) (backs (ownFilters m' c)) = differenceResult m c := by
  funext y
  refine (congrArg _ (eq_ix2 y)).trans ((differences_at _ _ (y 0) (y 1)).trans ?_)
  exact congr (congrArg HSub.hSub (back_eq m m' c h (y 0) (y 1))) (forth_eq m m' c h (y 0) (y 1))

end

/-- The kernel's values are the reference's. -/
theorem algebraic : Cert.algebraic_KernelFiltersIdeal_ReferenceFiltersIdeal := fun m g m' g' _ hagree =>
  ⟨fun c => sumResult m c, fun c => differenceResult m c,
    (θ_run Cert.KernelFiltersIdeal.defs _ _).mono
      (fun r h c => ⟨(h c).1.trans (sum_array_eq m c), (h c).2.1.trans (difference_array_eq m c), (h c).2.2⟩)
      (Cert.KernelFiltersIdeal.Value.run_blocks m g),
    (θ_run Cert.ReferenceFiltersIdeal.defs _ _).mono
      (fun r h c => ⟨(h c).1.trans ((out0_eq m' c).trans (sum_eq m m' c (hagree c))), (h c).2.1.trans ((out1_eq m' c).trans (difference_eq m m' c (hagree c))), (h c).2.2⟩)
      (Cert.ReferenceFiltersIdeal.Value.run (F := Ideal) m' g')⟩

/-- The reference terminates, keeps its arguments and leaves no counter raised. -/
theorem reference_frame : Cert.quiescent_ReferenceFiltersIdeal := fun m g _ =>
  (θ_run Cert.ReferenceFiltersIdeal.defs _ _).mono
    (fun r h => ⟨fun c => (h c).2.2, Idealize.ShloMosaic.sem_eq_zero_of_no_sems (by decide) r.2⟩)
    (Cert.ReferenceFiltersIdeal.Value.run (F := Ideal) m g)

end Cert.Filters

end
-- ==== Proof.Spectrum.lean ====
module

public import proofs.«01_k».proof.Defs
public import proofs.«01_k».proof.Proof.Real
public import proofs.«01_k».proof.Proof.Gen.KernelSpectrumIdeal.Value
public import proofs.«01_k».proof.Proof.Gen.ReferenceSpectrumIdeal.Run

@[expose] public section

set_option maxRecDepth 16384

noncomputable section

/-! The spectrum of the long convolution's filters: their sums against one table and their differences against another. -/

namespace Cert.Spectrum

open Idealize.ShloMosaic Idealize.ShloMosaic.TcCoe Idealize.SL.Sem
open Idealize.ShloMosaic.Pipeline (Dat)

section Launch

open Cert.KernelSpectrumIdeal Cert.KernelSpectrumIdeal.Gen

/-- One element of a table's product with an array. -/
def element (a : FVec Ideal S2048x2048 .bf16) (b : FVec Ideal S2048x1024 .f32) (r : Fin 2048) (j : Fin 1024) : EReal :=
  ∑ k : Fin 2048, a (ix2 r k) * b (ix2 k j)

/-- What one grid point computes from its blocks. -/
theorem re_at (a : Vec Ideal S512x2048 .bf16) (b : Vec Ideal S2048x512 .f32) (r j : Fin 512) :
    k0_pay1 (F := Ideal) a b (ix2 r j) = ∑ k : Fin 2048, a (ix2 r k) * b (ix2 k j) := by
  pointwise [k0_pay1]

theorem im_at (a : Vec Ideal S512x2048 .bf16) (b : Vec Ideal S2048x512 .f32) (r j : Fin 512) :
    k0_pay2 (F := Ideal) a b (ix2 r j) = ∑ k : Fin 2048, a (ix2 r k) * b (ix2 k j) := by
  pointwise [k0_pay2]

variable (m : (ℓ : Loc nD τ sig) → Buf (Elt Ideal) ℓ)

/-- The block each window holds at each grid point. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val] ∧ win0_5.index t = ![(grid0.coords t 0).val, (grid0.coords t 1).val] :=
  (by decide +kernel : ∀ t : Fin grid0.N, _)

/-- The two result arrays after the run. -/
def reResult (c : Dev nD) : FVec Ideal S2048x1024 .f32 := fun y => element (m ((c.tc : Thread nD τ).loc main_arg0)) (m ((c.tc : Thread nD τ).loc main_arg2)) (y 0) (y 1)

def imResult (c : Dev nD) : FVec Ideal S2048x1024 .f32 := fun y => element (m ((c.tc : Thread nD τ).loc main_arg1)) (m ((c.tc : Thread nD τ).loc main_arg3)) (y 0) (y 1)

theorem re_array_eq (c : Dev nD) : (dats m 0 c).arrAt 4 cfg0.N = reResult m c := by
  refine (dats m 0 c).arrAt_eq_of_covers 4 _ (by decide +kernel) fun t _ y => ?_
  blk_simp
  rw [after0_4]
  unfold out0_4
  frame_out
  have b0 : (grid0.coords t 0).val < 4 := (grid0.coords t 0).isLt
  have b1 : (grid0.coords t 1).val < 2 := (grid0.coords t 1).isLt
  obtain ⟨i0, i1, i2, i3, i4, i5⟩ := idx t
  have y0 : (y 0).val < 512 := (y 0).isLt
  have y1 : (y 1).val < 512 := (y 1).isLt
  have hy : y = (ix2 (⟨(y 0).val, y0⟩ : Fin 512) (⟨(y 1).val, y1⟩ : Fin 512) : S512x512.Idx) := by blk_ext
  refine (congrArg _ hy).trans ((re_at _ _ _ _).trans ?_)
  unfold reResult element
  refine Finset.sum_congr rfl fun k _ => congr (congrArg HMul.hMul ?_) ?_
  · blk_ext [iblk, V, i0, i4]
  · blk_ext [iblk, V, i2, i4]

theorem im_array_eq (c : Dev nD) : (dats m 0 c).arrAt 5 cfg0.N = imResult m c := by
  refine (dats m 0 c).arrAt_eq_of_covers 5 _ (by decide +kernel) fun t _ y => ?_
  blk_simp
  rw [after0_5]
  unfold out0_5
  frame_out
  have b0 : (grid0.coords t 0).val < 4 := (grid0.coords t 0).isLt
  have b1 : (grid0.coords t 1).val < 2 := (grid0.coords t 1).isLt
  obtain ⟨i0, i1, i2, i3, i4, i5⟩ := idx t
  have y0 : (y 0).val < 512 := (y 0).isLt
  have y1 : (y 1).val < 512 := (y 1).isLt
  have hy : y = (ix2 (⟨(y 0).val, y0⟩ : Fin 512) (⟨(y 1).val, y1⟩ : Fin 512) : S512x512.Idx) := by blk_ext
  refine (congrArg _ hy).trans ((im_at _ _ _ _).trans ?_)
  unfold imResult element
  refine Finset.sum_congr rfl fun k _ => congr (congrArg HMul.hMul ?_) ?_
  · blk_ext [iblk, V, i1, i5]
  · blk_ext [iblk, V, i3, i5]

end Launch

section Reference

open Cert.ReferenceSpectrumIdeal Cert.ReferenceSpectrumIdeal.Gen

/-- The reference's term. -/
def term (a : FVec Ideal S2048x2048 .bf16) (b : FVec Ideal S2048x1024 .f32) : FVec Ideal S2048x1024 .f32 :=
  Host.dotGeneral dot_S2048x2048_S2048x1024_S2048x1024_1_0_0_1_n_n none (extf .f32 a bitsLt_bf16_f32) b

theorem term_at (a : FVec Ideal S2048x2048 .bf16) (b : FVec Ideal S2048x1024 .f32) (r : Fin 2048) (j : Fin 1024) :
    term a b (ix2 r j) = element a b r j := by
  unfold element
  pointwise [term]

end Reference

section

variable (m : (ℓ : Loc Cert.KernelSpectrumIdeal.nD Cert.KernelSpectrumIdeal.τ Cert.KernelSpectrumIdeal.sig) → Buf (Elt Ideal) ℓ)
  (m' : (ℓ : Loc Cert.ReferenceSpectrumIdeal.nD Cert.ReferenceSpectrumIdeal.τ Cert.ReferenceSpectrumIdeal.sig) → Buf (Elt Ideal) ℓ)
  (c : Dev Cert.KernelSpectrumIdeal.nD)

/-- The reference's arguments are the kernel's. -/
def Agree : Prop :=
  m' ((c.tc : Thread Cert.ReferenceSpectrumIdeal.nD Cert.ReferenceSpectrumIdeal.τ).loc Cert.ReferenceSpectrumIdeal.main_arg0) = m ((c.tc : Thread Cert.KernelSpectrumIdeal.nD Cert.KernelSpectrumIdeal.τ).loc Cert.KernelSpectrumIdeal.main_arg0)
  ∧ m' ((c.tc : Thread Cert.ReferenceSpectrumIdeal.nD Cert.ReferenceSpectrumIdeal.τ).loc Cert.ReferenceSpectrumIdeal.main_arg1) = m ((c.tc : Thread Cert.KernelSpectrumIdeal.nD Cert.KernelSpectrumIdeal.τ).loc Cert.KernelSpectrumIdeal.main_arg1)
  ∧ m' ((c.tc : Thread Cert.ReferenceSpectrumIdeal.nD Cert.ReferenceSpectrumIdeal.τ).loc Cert.ReferenceSpectrumIdeal.main_arg2) = m ((c.tc : Thread Cert.KernelSpectrumIdeal.nD Cert.KernelSpectrumIdeal.τ).loc Cert.KernelSpectrumIdeal.main_arg2)
  ∧ m' ((c.tc : Thread Cert.ReferenceSpectrumIdeal.nD Cert.ReferenceSpectrumIdeal.τ).loc Cert.ReferenceSpectrumIdeal.main_arg3) = m ((c.tc : Thread Cert.KernelSpectrumIdeal.nD Cert.KernelSpectrumIdeal.τ).loc Cert.KernelSpectrumIdeal.main_arg3)

theorem re_eq (h : Agree m m' c) : term
    (m' ((c.tc : Thread Cert.ReferenceSpectrumIdeal.nD Cert.ReferenceSpectrumIdeal.τ).loc Cert.ReferenceSpectrumIdeal.main_arg0)) (m' ((c.tc : Thread Cert.ReferenceSpectrumIdeal.nD Cert.ReferenceSpectrumIdeal.τ).loc Cert.ReferenceSpectrumIdeal.main_arg2)) = reResult m c := by
  obtain ⟨h0, h1, h2, h3⟩ := h
  funext y
  refine (congrArg _ (eq_ix2 y)).trans ((term_at _ _ (y 0) (y 1)).trans ?_)
  rw [h0, h2]
  rfl

theorem im_eq (h : Agree m m' c) : term
    (m' ((c.tc : Thread Cert.ReferenceSpectrumIdeal.nD Cert.ReferenceSpectrumIdeal.τ).loc Cert.ReferenceSpectrumIdeal.main_arg1)) (m' ((c.tc : Thread Cert.ReferenceSpectrumIdeal.nD Cert.ReferenceSpectrumIdeal.τ).loc Cert.ReferenceSpectrumIdeal.main_arg3)) = imResult m c := by
  obtain ⟨h0, h1, h2, h3⟩ := h
  funext y
  refine (congrArg _ (eq_ix2 y)).trans ((term_at _ _ (y 0) (y 1)).trans ?_)
  rw [h1, h3]
  rfl

end

/-- The kernel's value is the reference's. -/
theorem algebraic : Cert.algebraic_KernelSpectrumIdeal_ReferenceSpectrumIdeal := fun m g m' g' _ hagree =>
  ⟨fun c => reResult m c, fun c => imResult m c,
    (θ_run Cert.KernelSpectrumIdeal.defs _ _).mono (fun r h c => ⟨(h c).1.trans (re_array_eq m c), (h c).2.1.trans (im_array_eq m c), (h c).2.2⟩) (Cert.KernelSpectrumIdeal.Value.run_blocks m g),
    (θ_run Cert.ReferenceSpectrumIdeal.defs _ _).mono (fun r h c => ⟨(h c).1.trans (re_eq m m' c (hagree c)), (h c).2.1.trans (im_eq m m' c (hagree c)), (h c).2.2⟩) (Cert.ReferenceSpectrumIdeal.Value.run (F := Ideal) m' g')⟩

/-- The reference terminates, keeps its arguments and leaves no counter raised. -/
theorem reference_frame : Cert.quiescent_ReferenceSpectrumIdeal := fun m g _ =>
  (θ_run Cert.ReferenceSpectrumIdeal.defs _ _).mono
    (fun r h => ⟨fun c => (h c).2.2, Idealize.ShloMosaic.sem_eq_zero_of_no_sems (by decide) r.2⟩)
    (Cert.ReferenceSpectrumIdeal.Value.run (F := Ideal) m g)

end Cert.Spectrum

end
-- ==== Proof.Forward.lean ====
module

public import proofs.«01_k».proof.Defs
public import proofs.«01_k».proof.Proof.Real
public import proofs.«01_k».proof.Proof.Gen.KernelForwardIdeal.Value
public import proofs.«01_k».proof.Proof.Gen.ReferenceForwardIdeal.Run

@[expose] public section

set_option maxRecDepth 16384

noncomputable section

/-! The first half of the long convolution: the transform of the first 512 channels, times the filters' spectrum as complex numbers. -/

namespace Cert.Forward

open Idealize.ShloMosaic Idealize.ShloMosaic.TcCoe Idealize.SL.Sem
open Idealize.ShloMosaic.Pipeline (Dat)

section Launch

open Cert.KernelForwardIdeal Cert.KernelForwardIdeal.Gen

/-- A sequence's channel against one row of a table. -/
def against (u : FVec Ideal S8x2048x1536 .f32) (a : FVec Ideal S2048x2048 .bf16) (i : Fin 8) (f : Fin 2048) (w : Fin 512) : EReal :=
  ∑ k : Fin 2048, a (ix2 f k) * u (ix3 i k (⟨w.val, by omega⟩ : Fin 1536))

/-- The real and the imaginary part of one element. -/
def re (u : FVec Ideal S8x2048x1536 .f32) (a s : FVec Ideal S2048x2048 .bf16) (p q : FVec Ideal S2048x1024 .f32) (i : Fin 8) (f : Fin 2048) (w : Fin 512) : EReal :=
  against u a i f w * p (ix2 f (⟨w.val, by omega⟩ : Fin 1024)) + against u s i f w * q (ix2 f (⟨w.val, by omega⟩ : Fin 1024))

def im (u : FVec Ideal S8x2048x1536 .f32) (a s : FVec Ideal S2048x2048 .bf16) (p q : FVec Ideal S2048x1024 .f32) (i : Fin 8) (f : Fin 2048) (w : Fin 512) : EReal :=
  against u a i f w * q (ix2 f (⟨w.val, by omega⟩ : Fin 1024)) - against u s i f w * p (ix2 f (⟨w.val, by omega⟩ : Fin 1024))

/-- What one grid point computes from its blocks. -/
theorem re_at (z : Vec Ideal S1x2048x512 .f32) (a s : Vec Ideal S512x2048 .bf16) (p q : Vec Ideal S512x512 .f32) (f w : Fin 512) :
    k0_pay4 (F := Ideal) z a s p q (ix3 0 f w)
      = (∑ k : Fin 2048, a (ix2 f k) * z (ix3 0 k w)) * p (ix2 f w) + (∑ k : Fin 2048, s (ix2 f k) * z (ix3 0 k w)) * q (ix2 f w) := by
  pointwise [k0_pay4, k0_pay3, k0_pay2, k0_pay1]

theorem im_at (z : Vec Ideal S1x2048x512 .f32) (a s : Vec Ideal S512x2048 .bf16) (p q : Vec Ideal S512x512 .f32) (f w : Fin 512) :
    k0_pay5 (F := Ideal) z a s p q (ix3 0 f w)
      = (∑ k : Fin 2048, a (ix2 f k) * z (ix3 0 k w)) * q (ix2 f w) - (∑ k : Fin 2048, s (ix2 f k) * z (ix3 0 k w)) * p (ix2 f w) := by
  pointwise [k0_pay5, k0_pay3, k0_pay2, k0_pay1]

variable (m : (ℓ : Loc nD τ sig) → Buf (Elt Ideal) ℓ)

/-- The block each window holds at each grid point. -/
theorem idx : ∀ t : Fin cfg0.N, win0_0.index t = ![(grid0.coords t 0).val, 0, 0]
    ∧ win0_1.index t = ![(grid0.coords t 1).val, 0] ∧ win0_2.index t = ![(grid0.coords t 1).val, 0]
    ∧ win0_3.index t = ![(grid0.coords t 1).val, 0] ∧ win0_4.index t = ![(grid0.coords t 1).val, 0]
    ∧ win0_5.index t = ![(grid0.coords t 0).val, (grid0.coords t 1).val, 0] ∧ win0_6.index t = ![(grid0.coords t 0).val, (grid0.coords t 1).val, 0] :=
  (by decide +kernel : ∀ t : Fin grid0.N, _)

/-- The two result arrays after the run. -/
def reResult (c : Dev nD) : FVec Ideal S8x2048x512 .bf16 := fun y => re (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) (y 2)

def imResult (c : Dev nD) : FVec Ideal S8x2048x512 .bf16 := fun y => im (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) (y 2)

theorem re_array_eq (c : Dev nD) : (dats m 0 c).arrAt 5 cfg0.N = reResult m c := by
  refine (dats m 0 c).arrAt_eq_of_covers 5 _ (by decide +kernel) fun t _ y => ?_
  blk_simp
  rw [after0_5]
  unfold out0_5
  frame_out
  have b0 : (grid0.coords t 0).val < 8 := (grid0.coords t 0).isLt
  have b1 : (grid0.coords t 1).val < 4 := (grid0.coords t 1).isLt
  obtain ⟨i0, i1, i2, i3, i4, i5, i6⟩ := idx t
  have y1 : (y 1).val < 512 := (y 1).isLt
  have y2 : (y 2).val < 512 := (y 2).isLt
  have hy : y = (ix3 (0 : Fin 1) (⟨(y 1).val, y1⟩ : Fin 512) (⟨(y 2).val, y2⟩ : Fin 512) : S1x512x512.Idx) := by blk_ext
  refine (congrArg _ hy).trans ((re_at _ _ _ _ _ _ _).trans ?_)
  unfold reResult re against
  refine congr (congrArg HAdd.hAdd (congr (congrArg HMul.hMul (Finset.sum_congr rfl fun k _ => congr (congrArg HMul.hMul ?_) ?_)) ?_))
    (congr (congrArg HMul.hMul (Finset.sum_congr rfl fun k _ => congr (congrArg HMul.hMul ?_) ?_)) ?_)
  · blk_ext [iblk, V, i1, i5]
  · blk_ext [iblk, V, i0, i5]
  · blk_ext [iblk, V, i3, i5]
  · blk_ext [iblk, V, i2, i5]
  · blk_ext [iblk, V, i0, i5]
  · blk_ext [iblk, V, i4, i5]

theorem im_array_eq (c : Dev nD) : (dats m 0 c).arrAt 6 cfg0.N = imResult m c := by
  refine (dats m 0 c).arrAt_eq_of_covers 6 _ (by decide +kernel) fun t _ y => ?_
  blk_simp
  rw [after0_6]
  unfold out0_6
  frame_out
  have b0 : (grid0.coords t 0).val < 8 := (grid0.coords t 0).isLt
  have b1 : (grid0.coords t 1).val < 4 := (grid0.coords t 1).isLt
  obtain ⟨i0, i1, i2, i3, i4, i5, i6⟩ := idx t
  have y1 : (y 1).val < 512 := (y 1).isLt
  have y2 : (y 2).val < 512 := (y 2).isLt
  have hy : y = (ix3 (0 : Fin 1) (⟨(y 1).val, y1⟩ : Fin 512) (⟨(y 2).val, y2⟩ : Fin 512) : S1x512x512.Idx) := by blk_ext
  refine (congrArg _ hy).trans ((im_at _ _ _ _ _ _ _).trans ?_)
  unfold imResult im against
  refine congr (congrArg HSub.hSub (congr (congrArg HMul.hMul (Finset.sum_congr rfl fun k _ => congr (congrArg HMul.hMul ?_) ?_)) ?_))
    (congr (congrArg HMul.hMul (Finset.sum_congr rfl fun k _ => congr (congrArg HMul.hMul ?_) ?_)) ?_)
  · blk_ext [iblk, V, i1, i6]
  · blk_ext [iblk, V, i0, i6]
  · blk_ext [iblk, V, i4, i6]
  · blk_ext [iblk, V, i2, i6]
  · blk_ext [iblk, V, i0, i6]
  · blk_ext [iblk, V, i3, i6]

end Launch

section Reference

open Cert.ReferenceForwardIdeal Cert.ReferenceForwardIdeal.Gen

/-- The sequences' first channels against a table. -/
def transform (u : FVec Ideal S8x2048x1536 .f32) (a : FVec Ideal S2048x2048 .bf16) : FVec Ideal S8x2048x512 .f32 :=
  transpose S8x2048x512 [0, 2, 1] (Host.dotGeneral dot_S8x2048x512_S2048x2048_S8x512x2048_1_1_02_0_n_n none (extractStridedSlice S8x2048x512 ![0, 0, 0] u slices_S8x2048x1536_S8x2048x512_0_0_0) (extf .f32 a bitsLt_bf16_f32)) transposes_S8x512x2048_S8x2048x512_0_2_1

theorem transform_at (u : FVec Ideal S8x2048x1536 .f32) (a : FVec Ideal S2048x2048 .bf16) (i : Fin 8) (f : Fin 2048) (w : Fin 512) :
    transform u a (ix3 i f w) = against u a i f w := by
  have h : transform u a (ix3 i f w) = ∑ k : Fin 2048, u (ix3 i k (⟨w.val, by omega⟩ : Fin 1536)) * a (ix2 f k) := by
    pointwise [transform]
  rw [h]
  exact Finset.sum_congr rfl fun k _ => mul_comm _ _

/-- The first 512 columns of a spectrum, spread over the sequences. -/
def spread (p : FVec Ideal S2048x1024 .f32) : FVec Ideal S8x2048x512 .f32 :=
  broadcastInDim S8x2048x512 ![0, 1, 2] bcast_S1x2048x512_S8x2048x512_0_1_2 (broadcastInDim S1x2048x512 ![1, 2] bcast_S2048x512_S1x2048x512_1_2 (extractStridedSlice S2048x512 ![0, 0] p slices_S2048x1024_S2048x512_0_0))

theorem spread_at (p : FVec Ideal S2048x1024 .f32) (i : Fin 8) (f : Fin 2048) (w : Fin 512) :
    spread p (ix3 i f w) = p (ix2 f (⟨w.val, by omega⟩ : Fin 1024)) := by
  pointwise [spread]

/-- The reference's two terms. -/
def reTerm (u : FVec Ideal S8x2048x1536 .f32) (a s : FVec Ideal S2048x2048 .bf16) (p q : FVec Ideal S2048x1024 .f32) : FVec Ideal S8x2048x512 .bf16 :=
  truncf .bf16 (subf (mulf (transform u a) (spread p)) (mulf (Host.negf (transform u s)) (spread q))) bitsLt_bf16_f32

def imTerm (u : FVec Ideal S8x2048x1536 .f32) (a s : FVec Ideal S2048x2048 .bf16) (p q : FVec Ideal S2048x1024 .f32) : FVec Ideal S8x2048x512 .bf16 :=
  truncf .bf16 (addf (mulf (transform u a) (spread q)) (mulf (Host.negf (transform u s)) (spread p))) bitsLt_bf16_f32

theorem reTerm_at (u : FVec Ideal S8x2048x1536 .f32) (a s : FVec Ideal S2048x2048 .bf16) (p q : FVec Ideal S2048x1024 .f32) (i : Fin 8) (f : Fin 2048) (w : Fin 512) : reTerm u a s p q (ix3 i f w) = re u a s p q i f w := by
  have h : reTerm u a s p q (ix3 i f w)
      = (transform u a (ix3 i f w) * spread p (ix3 i f w) - -(transform u s (ix3 i f w)) * spread q (ix3 i f w) : EReal) := rfl
  rw [h, transform_at, transform_at, spread_at, spread_at, EReal.neg_mul, sub_eq_add_neg, neg_neg]
  rfl

theorem imTerm_at (u : FVec Ideal S8x2048x1536 .f32) (a s : FVec Ideal S2048x2048 .bf16) (p q : FVec Ideal S2048x1024 .f32) (i : Fin 8) (f : Fin 2048) (w : Fin 512) : imTerm u a s p q (ix3 i f w) = im u a s p q i f w := by
  have h : imTerm u a s p q (ix3 i f w)
      = (transform u a (ix3 i f w) * spread q (ix3 i f w) + -(transform u s (ix3 i f w)) * spread p (ix3 i f w) : EReal) := rfl
  rw [h, transform_at, transform_at, spread_at, spread_at, EReal.neg_mul, ← sub_eq_add_neg]
  rfl

end Reference

section

variable (m : (ℓ : Loc Cert.KernelForwardIdeal.nD Cert.KernelForwardIdeal.τ Cert.KernelForwardIdeal.sig) → Buf (Elt Ideal) ℓ)
  (m' : (ℓ : Loc Cert.ReferenceForwardIdeal.nD Cert.ReferenceForwardIdeal.τ Cert.ReferenceForwardIdeal.sig) → Buf (Elt Ideal) ℓ)
  (c : Dev Cert.KernelForwardIdeal.nD)

/-- The reference's arguments are the kernel's. -/
def Agree : Prop :=
  m' ((c.tc : Thread Cert.ReferenceForwardIdeal.nD Cert.ReferenceForwardIdeal.τ).loc Cert.ReferenceForwardIdeal.main_arg0) = m ((c.tc : Thread Cert.KernelForwardIdeal.nD Cert.KernelForwardIdeal.τ).loc Cert.KernelForwardIdeal.main_arg0)
  ∧ m' ((c.tc : Thread Cert.ReferenceForwardIdeal.nD Cert.ReferenceForwardIdeal.τ).loc Cert.ReferenceForwardIdeal.main_arg1) = m ((c.tc : Thread Cert.KernelForwardIdeal.nD Cert.KernelForwardIdeal.τ).loc Cert.KernelForwardIdeal.main_arg1)
  ∧ m' ((c.tc : Thread Cert.ReferenceForwardIdeal.nD Cert.ReferenceForwardIdeal.τ).loc Cert.ReferenceForwardIdeal.main_arg2) = m ((c.tc : Thread Cert.KernelForwardIdeal.nD Cert.KernelForwardIdeal.τ).loc Cert.KernelForwardIdeal.main_arg2)
  ∧ m' ((c.tc : Thread Cert.ReferenceForwardIdeal.nD Cert.ReferenceForwardIdeal.τ).loc Cert.ReferenceForwardIdeal.main_arg3) = m ((c.tc : Thread Cert.KernelForwardIdeal.nD Cert.KernelForwardIdeal.τ).loc Cert.KernelForwardIdeal.main_arg3)
  ∧ m' ((c.tc : Thread Cert.ReferenceForwardIdeal.nD Cert.ReferenceForwardIdeal.τ).loc Cert.ReferenceForwardIdeal.main_arg4) = m ((c.tc : Thread Cert.KernelForwardIdeal.nD Cert.KernelForwardIdeal.τ).loc Cert.KernelForwardIdeal.main_arg4)

theorem re_eq (h : Agree m m' c) : reTerm
    (m' ((c.tc : Thread Cert.ReferenceForwardIdeal.nD Cert.ReferenceForwardIdeal.τ).loc Cert.ReferenceForwardIdeal.main_arg0)) (m' ((c.tc : Thread Cert.ReferenceForwardIdeal.nD Cert.ReferenceForwardIdeal.τ).loc Cert.ReferenceForwardIdeal.main_arg1)) (m' ((c.tc : Thread Cert.ReferenceForwardIdeal.nD Cert.ReferenceForwardIdeal.τ).loc Cert.ReferenceForwardIdeal.main_arg2)) (m' ((c.tc : Thread Cert.ReferenceForwardIdeal.nD Cert.ReferenceForwardIdeal.τ).loc Cert.ReferenceForwardIdeal.main_arg3)) (m' ((c.tc : Thread Cert.ReferenceForwardIdeal.nD Cert.ReferenceForwardIdeal.τ).loc Cert.ReferenceForwardIdeal.main_arg4)) = reResult m c := by
  obtain ⟨h0, h1, h2, h3, h4⟩ := h
  funext y
  refine (congrArg _ (eq_ix3 y)).trans ((reTerm_at _ _ _ _ _ (y 0) (y 1) (y 2)).trans ?_)
  rw [h0, h1, h2, h3, h4]
  rfl

theorem im_eq (h : Agree m m' c) : imTerm
    (m' ((c.tc : Thread Cert.ReferenceForwardIdeal.nD Cert.ReferenceForwardIdeal.τ).loc Cert.ReferenceForwardIdeal.main_arg0)) (m' ((c.tc : Thread Cert.ReferenceForwardIdeal.nD Cert.ReferenceForwardIdeal.τ).loc Cert.ReferenceForwardIdeal.main_arg1)) (m' ((c.tc : Thread Cert.ReferenceForwardIdeal.nD Cert.ReferenceForwardIdeal.τ).loc Cert.ReferenceForwardIdeal.main_arg2)) (m' ((c.tc : Thread Cert.ReferenceForwardIdeal.nD Cert.ReferenceForwardIdeal.τ).loc Cert.ReferenceForwardIdeal.main_arg3)) (m' ((c.tc : Thread Cert.ReferenceForwardIdeal.nD Cert.ReferenceForwardIdeal.τ).loc Cert.ReferenceForwardIdeal.main_arg4)) = imResult m c := by
  obtain ⟨h0, h1, h2, h3, h4⟩ := h
  funext y
  refine (congrArg _ (eq_ix3 y)).trans ((imTerm_at _ _ _ _ _ (y 0) (y 1) (y 2)).trans ?_)
  rw [h0, h1, h2, h3, h4]
  rfl

end

/-- The kernel's value is the reference's. -/
theorem algebraic : Cert.algebraic_KernelForwardIdeal_ReferenceForwardIdeal := fun m g m' g' _ hagree =>
  ⟨fun c => reResult m c, fun c => imResult m c,
    (θ_run Cert.KernelForwardIdeal.defs _ _).mono (fun r h c => ⟨(h c).1.trans (re_array_eq m c), (h c).2.1.trans (im_array_eq m c), (h c).2.2⟩) (Cert.KernelForwardIdeal.Value.run_blocks m g),
    (θ_run Cert.ReferenceForwardIdeal.defs _ _).mono (fun r h c => ⟨(h c).1.trans (re_eq m m' c (hagree c)), (h c).2.1.trans (im_eq m m' c (hagree c)), (h c).2.2⟩) (Cert.ReferenceForwardIdeal.Value.run (F := Ideal) m' g')⟩

/-- The reference terminates, keeps its arguments and leaves no counter raised. -/
theorem reference_frame : Cert.quiescent_ReferenceForwardIdeal := fun m g _ =>
  (θ_run Cert.ReferenceForwardIdeal.defs _ _).mono
    (fun r h => ⟨fun c => (h c).2.2, Idealize.ShloMosaic.sem_eq_zero_of_no_sems (by decide) r.2⟩)
    (Cert.ReferenceForwardIdeal.Value.run (F := Ideal) m g)

end Cert.Forward

end
-- ==== Proof.Inverse.lean ====
module

public import proofs.«01_k».proof.Defs
public import proofs.«01_k».proof.Proof.Real
public import proofs.«01_k».proof.Proof.Gen.KernelInverseIdeal.Value
public import proofs.«01_k».proof.Proof.Gen.ReferenceInverseIdeal.Run

@[expose] public section

set_option maxRecDepth 16384

noncomputable section

/-! The second half of the long convolution: the transform back, divided by the length, the skip term and the gate. -/

namespace Cert.Inverse

open Idealize.ShloMosaic Idealize.ShloMosaic.TcCoe Idealize.SL.Sem
open Idealize.ShloMosaic.Pipeline (Dat)

section Launch

open Cert.KernelInverseIdeal Cert.KernelInverseIdeal.Gen

/-- A sequence's channel against one row of a table. -/
def against (a : FVec Ideal S2048x2048 .bf16) (p : FVec Ideal S8x2048x512 .bf16) (i : Fin 8) (t : Fin 2048) (w : Fin 512) : EReal :=
  ∑ k : Fin 2048, a (ix2 t k) * p (ix3 i k w)

/-- One element of the result. -/
def element (a s : FVec Ideal S2048x2048 .bf16) (p q : FVec Ideal S8x2048x512 .bf16) (u : FVec Ideal S8x2048x1536 .f32) (b : FVec Ideal S2x512 .f32) (i : Fin 8) (t : Fin 2048) (w : Fin 512) : EReal :=
  u (ix3 i t (⟨512 + w.val, by omega⟩ : Fin 1536)) * ((against a p i t w - against s q i t w) * Ideal.ofBits .f32 0x3A000000#32
    + u (ix3 i t (⟨w.val, by omega⟩ : Fin 1536)) * b (ix2 0 w))

/-- What one grid point computes from its blocks. -/
theorem pay_at (a : Vec Ideal S512x2048 .bf16) (p : Vec Ideal S1x2048x512 .bf16) (s : Vec Ideal S512x2048 .bf16) (q : Vec Ideal S1x2048x512 .bf16)
    (g z : Vec Ideal S1x512x512 .f32) (b : Vec Ideal S1x512 .f32) (t w : Fin 512) :
    k0_pay1 (F := Ideal) a p s q g z b (ix3 0 t w)
      = g (ix3 0 t w) * (((∑ k : Fin 2048, a (ix2 t k) * p (ix3 0 k w)) - ∑ k : Fin 2048, s (ix2 t k) * q (ix3 0 k w)) * Ideal.ofBits .f32 0x3A000000#32
        + z (ix3 0 t w) * b (ix2 0 w)) := by
  pointwise [k0_pay1]

variable (m : (ℓ : Loc nD τ sig) → Buf (Elt Ideal) ℓ)

/-- The block each window holds at each grid point. -/
theorem idx : ∀ t : Fin cfg0.N, win0_0.index t = ![(grid0.coords t 1).val, 0] ∧ win0_1.index t = ![(grid0.coords t 1).val, 0]
    ∧ win0_2.index t = ![(grid0.coords t 0).val, 0, 0] ∧ win0_3.index t = ![(grid0.coords t 0).val, 0, 0]
    ∧ win0_4.index t = ![(grid0.coords t 0).val, (grid0.coords t 1).val, 0] ∧ win0_5.index t = ![(grid0.coords t 0).val, (grid0.coords t 1).val, 1]
    ∧ win0_6.index t = ![0, 0] ∧ win0_7.index t = ![(grid0.coords t 0).val, (grid0.coords t 1).val, 0] :=
  (by decide +kernel : ∀ t : Fin grid0.N, _)

/-- The result array after the run. -/
def result (c : Dev nD) : FVec Ideal S8x2048x512 .f32 := fun y => element (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (y 0) (y 1) (y 2)

/-- The skip term's gains as the launch finds them. -/
theorem gains_at (c : Dev nD) (w : Fin 512) : V m c main_v0 (ix2 0 w) = m ((c.tc : Thread nD τ).loc main_arg5) (ix2 0 w) := by
  entry_read
  pointwise

theorem array_eq (c : Dev nD) : (dats m 0 c).arrAt 7 cfg0.N = result m c := by
  refine (dats m 0 c).arrAt_eq_of_covers 7 _ (by decide +kernel) fun t _ y => ?_
  blk_simp
  rw [after0_7]
  unfold out0_7
  frame_out
  have b0 : (grid0.coords t 0).val < 8 := (grid0.coords t 0).isLt
  have b1 : (grid0.coords t 1).val < 4 := (grid0.coords t 1).isLt
  obtain ⟨i0, i1, i2, i3, i4, i5, i6, i7⟩ := idx t
  have y1 : (y 1).val < 512 := (y 1).isLt
  have y2 : (y 2).val < 512 := (y 2).isLt
  have hy : y = (ix3 (0 : Fin 1) (⟨(y 1).val, y1⟩ : Fin 512) (⟨(y 2).val, y2⟩ : Fin 512) : S1x512x512.Idx) := by blk_ext
  refine (congrArg _ hy).trans ((pay_at _ _ _ _ _ _ _ _ _).trans ?_)
  unfold result element against
  refine congr (congrArg HMul.hMul ?_) (congr (congrArg HAdd.hAdd (congrArg (· * _) (congr (congrArg HSub.hSub
    (Finset.sum_congr rfl fun k _ => congr (congrArg HMul.hMul ?_) ?_)) (Finset.sum_congr rfl fun k _ => congr (congrArg HMul.hMul ?_) ?_))))
    (congr (congrArg HMul.hMul ?_) ?_))
  · blk_ext [iblk, V, i5, i7]
  · blk_ext [iblk, V, i0, i7]
  · blk_ext [iblk, V, i2, i7]
  · blk_ext [iblk, V, i1, i7]
  · blk_ext [iblk, V, i3, i7]
  · blk_ext [iblk, V, i4, i7]
  · refine Eq.trans ?_ ((gains_at m c ⟨(y 2).val, y2⟩).trans ?_)
    · blk_ext [iblk, i6, i7]
    · blk_ext [i7]

end Launch

section Reference

open Cert.ReferenceInverseIdeal Cert.ReferenceInverseIdeal.Gen

/-- A spectrum against a table. -/
def transform (a : FVec Ideal S2048x2048 .bf16) (p : FVec Ideal S8x2048x512 .bf16) : FVec Ideal S8x2048x512 .f32 :=
  transpose S8x2048x512 [0, 2, 1] (Host.dotGeneral dot_S8x2048x512_S2048x2048_S8x512x2048_1_1_02_0_n_n none (extf .f32 p bitsLt_bf16_f32) (extf .f32 a bitsLt_bf16_f32)) transposes_S8x512x2048_S8x2048x512_0_2_1

theorem transform_at (a : FVec Ideal S2048x2048 .bf16) (p : FVec Ideal S8x2048x512 .bf16) (i : Fin 8) (t : Fin 2048) (w : Fin 512) :
    transform a p (ix3 i t w) = against a p i t w := by
  have h : transform a p (ix3 i t w) = ∑ k : Fin 2048, p (ix3 i k w) * a (ix2 t k) := by
    pointwise [transform]
  rw [h]
  exact Finset.sum_congr rfl fun k _ => mul_comm _ _

/-- The skip term's gains, spread over the sequences. -/
def gains (b : FVec Ideal S2x512 .f32) : FVec Ideal S8x2048x512 .f32 :=
  broadcastInDim S8x2048x512 ![0, 1, 2] bcast_S1x1x512_S8x2048x512_0_1_2 (broadcastInDim S1x1x512 ![2] bcast_S512_S1x1x512_2 (shapeCast _ (extractStridedSlice S1x512 ![0, 0] b slices_S2x512_S1x512_0_0) shapeCasts_S1x512_S512))

theorem spread_gains_at (b : FVec Ideal S2x512 .f32) (i : Fin 8) (t : Fin 2048) (w : Fin 512) : gains b (ix3 i t w) = b (ix2 0 w) := by
  pointwise [gains]

/-- The reference's term. -/
def term (a s : FVec Ideal S2048x2048 .bf16) (p q : FVec Ideal S8x2048x512 .bf16) (u : FVec Ideal S8x2048x1536 .f32) (b : FVec Ideal S2x512 .f32) : FVec Ideal S8x2048x512 .f32 :=
  mulf (extractStridedSlice S8x2048x512 ![0, 0, 512] u slices_S8x2048x1536_S8x2048x512_0_0_512) (addf (mulf (subf (transform a p) (transform s q)) (broadcastInDim S8x2048x512 ![] bcast_S_S8x2048x512 (constant S_ .f32 0x3A000000#32))) (mulf (extractStridedSlice S8x2048x512 ![0, 0, 0] u slices_S8x2048x1536_S8x2048x512_0_0_0) (gains b)))

theorem term_at (a s : FVec Ideal S2048x2048 .bf16) (p q : FVec Ideal S8x2048x512 .bf16) (u : FVec Ideal S8x2048x1536 .f32) (b : FVec Ideal S2x512 .f32) (i : Fin 8) (t : Fin 2048) (w : Fin 512) : term a s p q u b (ix3 i t w) = element a s p q u b i t w := by
  unfold element
  rw [← transform_at, ← transform_at, ← spread_gains_at b i t w]
  unfold term
  generalize transform a p = x
  generalize transform s q = y
  generalize gains b = z
  pointwise

end Reference

section

variable (m : (ℓ : Loc Cert.KernelInverseIdeal.nD Cert.KernelInverseIdeal.τ Cert.KernelInverseIdeal.sig) → Buf (Elt Ideal) ℓ)
  (m' : (ℓ : Loc Cert.ReferenceInverseIdeal.nD Cert.ReferenceInverseIdeal.τ Cert.ReferenceInverseIdeal.sig) → Buf (Elt Ideal) ℓ)
  (c : Dev Cert.KernelInverseIdeal.nD)

/-- The reference's arguments are the kernel's. -/
def Agree : Prop :=
  m' ((c.tc : Thread Cert.ReferenceInverseIdeal.nD Cert.ReferenceInverseIdeal.τ).loc Cert.ReferenceInverseIdeal.main_arg0) = m ((c.tc : Thread Cert.KernelInverseIdeal.nD Cert.KernelInverseIdeal.τ).loc Cert.KernelInverseIdeal.main_arg0)
  ∧ m' ((c.tc : Thread Cert.ReferenceInverseIdeal.nD Cert.ReferenceInverseIdeal.τ).loc Cert.ReferenceInverseIdeal.main_arg1) = m ((c.tc : Thread Cert.KernelInverseIdeal.nD Cert.KernelInverseIdeal.τ).loc Cert.KernelInverseIdeal.main_arg1)
  ∧ m' ((c.tc : Thread Cert.ReferenceInverseIdeal.nD Cert.ReferenceInverseIdeal.τ).loc Cert.ReferenceInverseIdeal.main_arg2) = m ((c.tc : Thread Cert.KernelInverseIdeal.nD Cert.KernelInverseIdeal.τ).loc Cert.KernelInverseIdeal.main_arg2)
  ∧ m' ((c.tc : Thread Cert.ReferenceInverseIdeal.nD Cert.ReferenceInverseIdeal.τ).loc Cert.ReferenceInverseIdeal.main_arg3) = m ((c.tc : Thread Cert.KernelInverseIdeal.nD Cert.KernelInverseIdeal.τ).loc Cert.KernelInverseIdeal.main_arg3)
  ∧ m' ((c.tc : Thread Cert.ReferenceInverseIdeal.nD Cert.ReferenceInverseIdeal.τ).loc Cert.ReferenceInverseIdeal.main_arg4) = m ((c.tc : Thread Cert.KernelInverseIdeal.nD Cert.KernelInverseIdeal.τ).loc Cert.KernelInverseIdeal.main_arg4)
  ∧ m' ((c.tc : Thread Cert.ReferenceInverseIdeal.nD Cert.ReferenceInverseIdeal.τ).loc Cert.ReferenceInverseIdeal.main_arg5) = m ((c.tc : Thread Cert.KernelInverseIdeal.nD Cert.KernelInverseIdeal.τ).loc Cert.KernelInverseIdeal.main_arg5)

theorem result_eq (h : Agree m m' c) : term
    (m' ((c.tc : Thread Cert.ReferenceInverseIdeal.nD Cert.ReferenceInverseIdeal.τ).loc Cert.ReferenceInverseIdeal.main_arg0)) (m' ((c.tc : Thread Cert.ReferenceInverseIdeal.nD Cert.ReferenceInverseIdeal.τ).loc Cert.ReferenceInverseIdeal.main_arg1)) (m' ((c.tc : Thread Cert.ReferenceInverseIdeal.nD Cert.ReferenceInverseIdeal.τ).loc Cert.ReferenceInverseIdeal.main_arg2)) (m' ((c.tc : Thread Cert.ReferenceInverseIdeal.nD Cert.ReferenceInverseIdeal.τ).loc Cert.ReferenceInverseIdeal.main_arg3)) (m' ((c.tc : Thread Cert.ReferenceInverseIdeal.nD Cert.ReferenceInverseIdeal.τ).loc Cert.ReferenceInverseIdeal.main_arg4)) (m' ((c.tc : Thread Cert.ReferenceInverseIdeal.nD Cert.ReferenceInverseIdeal.τ).loc Cert.ReferenceInverseIdeal.main_arg5)) = result m c := by
  obtain ⟨h0, h1, h2, h3, h4, h5⟩ := h
  funext y
  refine (congrArg _ (eq_ix3 y)).trans ((term_at _ _ _ _ _ _ (y 0) (y 1) (y 2)).trans ?_)
  rw [h0, h1, h2, h3, h4, h5]
  rfl

end

/-- The kernel's value is the reference's. -/
theorem algebraic : Cert.algebraic_KernelInverseIdeal_ReferenceInverseIdeal := fun m g m' g' _ hagree =>
  ⟨fun c => result m c,
    (θ_run Cert.KernelInverseIdeal.defs _ _).mono (fun r h c => ⟨(h c).1.trans (array_eq m c), (h c).2⟩) (Cert.KernelInverseIdeal.Value.run_blocks m g),
    (θ_run Cert.ReferenceInverseIdeal.defs _ _).mono (fun r h c => ⟨(h c).1.trans (result_eq m m' c (hagree c)), (h c).2⟩) (Cert.ReferenceInverseIdeal.Value.run (F := Ideal) m' g')⟩

/-- The reference terminates, keeps its arguments and leaves no counter raised. -/
theorem reference_frame : Cert.quiescent_ReferenceInverseIdeal := fun m g _ =>
  (θ_run Cert.ReferenceInverseIdeal.defs _ _).mono
    (fun r h => ⟨fun c => (h c).2, Idealize.ShloMosaic.sem_eq_zero_of_no_sems (by decide) r.2⟩)
    (Cert.ReferenceInverseIdeal.Value.run (F := Ideal) m g)

end Cert.Inverse

end
-- ==== Proof.ForwardTwo.lean ====
module

public import proofs.«01_k».proof.Defs
public import proofs.«01_k».proof.Proof.Real
public import proofs.«01_k».proof.Proof.Gen.KernelForwardTwoIdeal.Value
public import proofs.«01_k».proof.Proof.Gen.ReferenceForwardTwoIdeal.Run

@[expose] public section

set_option maxRecDepth 16384

noncomputable section

/-! The first half of the second long convolution: the transform of the sequences, times the second filter's spectrum as complex numbers. -/

namespace Cert.ForwardTwo

open Idealize.ShloMosaic Idealize.ShloMosaic.TcCoe Idealize.SL.Sem
open Idealize.ShloMosaic.Pipeline (Dat)

section Launch

open Cert.KernelForwardTwoIdeal Cert.KernelForwardTwoIdeal.Gen

/-- A sequence's channel against one row of a table. -/
def against (u : FVec Ideal S8x2048x512 .f32) (a : FVec Ideal S2048x2048 .bf16) (i : Fin 8) (f : Fin 2048) (w : Fin 512) : EReal :=
  ∑ k : Fin 2048, a (ix2 f k) * u (ix3 i k w)

/-- The real and the imaginary part of one element. -/
def re (u : FVec Ideal S8x2048x512 .f32) (a s : FVec Ideal S2048x2048 .bf16) (p q : FVec Ideal S2048x1024 .f32) (i : Fin 8) (f : Fin 2048) (w : Fin 512) : EReal :=
  against u a i f w * p (ix2 f (⟨512 + w.val, by omega⟩ : Fin 1024)) + against u s i f w * q (ix2 f (⟨512 + w.val, by omega⟩ : Fin 1024))

def im (u : FVec Ideal S8x2048x512 .f32) (a s : FVec Ideal S2048x2048 .bf16) (p q : FVec Ideal S2048x1024 .f32) (i : Fin 8) (f : Fin 2048) (w : Fin 512) : EReal :=
  against u a i f w * q (ix2 f (⟨512 + w.val, by omega⟩ : Fin 1024)) - against u s i f w * p (ix2 f (⟨512 + w.val, by omega⟩ : Fin 1024))

/-- What one grid point computes from its blocks. -/
theorem re_at (z : Vec Ideal S1x2048x512 .f32) (a s : Vec Ideal S512x2048 .bf16) (p q : Vec Ideal S512x512 .f32) (f w : Fin 512) :
    k0_pay4 (F := Ideal) z a s p q (ix3 0 f w)
      = (∑ k : Fin 2048, a (ix2 f k) * z (ix3 0 k w)) * p (ix2 f w) + (∑ k : Fin 2048, s (ix2 f k) * z (ix3 0 k w)) * q (ix2 f w) := by
  pointwise [k0_pay4, k0_pay3, k0_pay2, k0_pay1]

theorem im_at (z : Vec Ideal S1x2048x512 .f32) (a s : Vec Ideal S512x2048 .bf16) (p q : Vec Ideal S512x512 .f32) (f w : Fin 512) :
    k0_pay5 (F := Ideal) z a s p q (ix3 0 f w)
      = (∑ k : Fin 2048, a (ix2 f k) * z (ix3 0 k w)) * q (ix2 f w) - (∑ k : Fin 2048, s (ix2 f k) * z (ix3 0 k w)) * p (ix2 f w) := by
  pointwise [k0_pay5, k0_pay3, k0_pay2, k0_pay1]

variable (m : (ℓ : Loc nD τ sig) → Buf (Elt Ideal) ℓ)

/-- The block each window holds at each grid point. -/
theorem idx : ∀ t : Fin cfg0.N, win0_0.index t = ![(grid0.coords t 0).val, 0, 0]
    ∧ win0_1.index t = ![(grid0.coords t 1).val, 0] ∧ win0_2.index t = ![(grid0.coords t 1).val, 0]
    ∧ win0_3.index t = ![(grid0.coords t 1).val, 1] ∧ win0_4.index t = ![(grid0.coords t 1).val, 1]
    ∧ win0_5.index t = ![(grid0.coords t 0).val, (grid0.coords t 1).val, 0] ∧ win0_6.index t = ![(grid0.coords t 0).val, (grid0.coords t 1).val, 0] :=
  (by decide +kernel : ∀ t : Fin grid0.N, _)

/-- The two result arrays after the run. -/
def reResult (c : Dev nD) : FVec Ideal S8x2048x512 .bf16 := fun y => re (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) (y 2)

def imResult (c : Dev nD) : FVec Ideal S8x2048x512 .bf16 := fun y => im (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) (y 2)

theorem re_array_eq (c : Dev nD) : (dats m 0 c).arrAt 5 cfg0.N = reResult m c := by
  refine (dats m 0 c).arrAt_eq_of_covers 5 _ (by decide +kernel) fun t _ y => ?_
  blk_simp
  rw [after0_5]
  unfold out0_5
  frame_out
  have b0 : (grid0.coords t 0).val < 8 := (grid0.coords t 0).isLt
  have b1 : (grid0.coords t 1).val < 4 := (grid0.coords t 1).isLt
  obtain ⟨i0, i1, i2, i3, i4, i5, i6⟩ := idx t
  have y1 : (y 1).val < 512 := (y 1).isLt
  have y2 : (y 2).val < 512 := (y 2).isLt
  have hy : y = (ix3 (0 : Fin 1) (⟨(y 1).val, y1⟩ : Fin 512) (⟨(y 2).val, y2⟩ : Fin 512) : S1x512x512.Idx) := by blk_ext
  refine (congrArg _ hy).trans ((re_at _ _ _ _ _ _ _).trans ?_)
  unfold reResult re against
  refine congr (congrArg HAdd.hAdd (congr (congrArg HMul.hMul (Finset.sum_congr rfl fun k _ => congr (congrArg HMul.hMul ?_) ?_)) ?_))
    (congr (congrArg HMul.hMul (Finset.sum_congr rfl fun k _ => congr (congrArg HMul.hMul ?_) ?_)) ?_)
  · blk_ext [iblk, V, i1, i5]
  · blk_ext [iblk, V, i0, i5]
  · blk_ext [iblk, V, i3, i5]
  · blk_ext [iblk, V, i2, i5]
  · blk_ext [iblk, V, i0, i5]
  · blk_ext [iblk, V, i4, i5]

theorem im_array_eq (c : Dev nD) : (dats m 0 c).arrAt 6 cfg0.N = imResult m c := by
  refine (dats m 0 c).arrAt_eq_of_covers 6 _ (by decide +kernel) fun t _ y => ?_
  blk_simp
  rw [after0_6]
  unfold out0_6
  frame_out
  have b0 : (grid0.coords t 0).val < 8 := (grid0.coords t 0).isLt
  have b1 : (grid0.coords t 1).val < 4 := (grid0.coords t 1).isLt
  obtain ⟨i0, i1, i2, i3, i4, i5, i6⟩ := idx t
  have y1 : (y 1).val < 512 := (y 1).isLt
  have y2 : (y 2).val < 512 := (y 2).isLt
  have hy : y = (ix3 (0 : Fin 1) (⟨(y 1).val, y1⟩ : Fin 512) (⟨(y 2).val, y2⟩ : Fin 512) : S1x512x512.Idx) := by blk_ext
  refine (congrArg _ hy).trans ((im_at _ _ _ _ _ _ _).trans ?_)
  unfold imResult im against
  refine congr (congrArg HSub.hSub (congr (congrArg HMul.hMul (Finset.sum_congr rfl fun k _ => congr (congrArg HMul.hMul ?_) ?_)) ?_))
    (congr (congrArg HMul.hMul (Finset.sum_congr rfl fun k _ => congr (congrArg HMul.hMul ?_) ?_)) ?_)
  · blk_ext [iblk, V, i1, i6]
  · blk_ext [iblk, V, i0, i6]
  · blk_ext [iblk, V, i4, i6]
  · blk_ext [iblk, V, i2, i6]
  · blk_ext [iblk, V, i0, i6]
  · blk_ext [iblk, V, i3, i6]

end Launch

section Reference

open Cert.ReferenceForwardTwoIdeal Cert.ReferenceForwardTwoIdeal.Gen

/-- The sequences against a table. -/
def transform (u : FVec Ideal S8x2048x512 .f32) (a : FVec Ideal S2048x2048 .bf16) : FVec Ideal S8x2048x512 .f32 :=
  transpose S8x2048x512 [0, 2, 1] (Host.dotGeneral dot_S8x2048x512_S2048x2048_S8x512x2048_1_1_02_0_n_n none u (extf .f32 a bitsLt_bf16_f32)) transposes_S8x512x2048_S8x2048x512_0_2_1

theorem transform_at (u : FVec Ideal S8x2048x512 .f32) (a : FVec Ideal S2048x2048 .bf16) (i : Fin 8) (f : Fin 2048) (w : Fin 512) :
    transform u a (ix3 i f w) = against u a i f w := by
  have h : transform u a (ix3 i f w) = ∑ k : Fin 2048, u (ix3 i k w) * a (ix2 f k) := by
    pointwise [transform]
  rw [h]
  exact Finset.sum_congr rfl fun k _ => mul_comm _ _

/-- The last 512 columns of a spectrum, spread over the sequences. -/
def spread (p : FVec Ideal S2048x1024 .f32) : FVec Ideal S8x2048x512 .f32 :=
  broadcastInDim S8x2048x512 ![0, 1, 2] bcast_S1x2048x512_S8x2048x512_0_1_2 (broadcastInDim S1x2048x512 ![1, 2] bcast_S2048x512_S1x2048x512_1_2 (extractStridedSlice S2048x512 ![0, 512] p slices_S2048x1024_S2048x512_0_512))

theorem spread_at (p : FVec Ideal S2048x1024 .f32) (i : Fin 8) (f : Fin 2048) (w : Fin 512) :
    spread p (ix3 i f w) = p (ix2 f (⟨512 + w.val, by omega⟩ : Fin 1024)) := by
  pointwise [spread]

/-- The reference's two terms. -/
def reTerm (u : FVec Ideal S8x2048x512 .f32) (a s : FVec Ideal S2048x2048 .bf16) (p q : FVec Ideal S2048x1024 .f32) : FVec Ideal S8x2048x512 .bf16 :=
  truncf .bf16 (subf (mulf (transform u a) (spread p)) (mulf (Host.negf (transform u s)) (spread q))) bitsLt_bf16_f32

def imTerm (u : FVec Ideal S8x2048x512 .f32) (a s : FVec Ideal S2048x2048 .bf16) (p q : FVec Ideal S2048x1024 .f32) : FVec Ideal S8x2048x512 .bf16 :=
  truncf .bf16 (addf (mulf (transform u a) (spread q)) (mulf (Host.negf (transform u s)) (spread p))) bitsLt_bf16_f32

theorem reTerm_at (u : FVec Ideal S8x2048x512 .f32) (a s : FVec Ideal S2048x2048 .bf16) (p q : FVec Ideal S2048x1024 .f32) (i : Fin 8) (f : Fin 2048) (w : Fin 512) : reTerm u a s p q (ix3 i f w) = re u a s p q i f w := by
  have h : reTerm u a s p q (ix3 i f w)
      = (transform u a (ix3 i f w) * spread p (ix3 i f w) - -(transform u s (ix3 i f w)) * spread q (ix3 i f w) : EReal) := rfl
  rw [h, transform_at, transform_at, spread_at, spread_at, EReal.neg_mul, sub_eq_add_neg, neg_neg]
  rfl

theorem imTerm_at (u : FVec Ideal S8x2048x512 .f32) (a s : FVec Ideal S2048x2048 .bf16) (p q : FVec Ideal S2048x1024 .f32) (i : Fin 8) (f : Fin 2048) (w : Fin 512) : imTerm u a s p q (ix3 i f w) = im u a s p q i f w := by
  have h : imTerm u a s p q (ix3 i f w)
      = (transform u a (ix3 i f w) * spread q (ix3 i f w) + -(transform u s (ix3 i f w)) * spread p (ix3 i f w) : EReal) := rfl
  rw [h, transform_at, transform_at, spread_at, spread_at, EReal.neg_mul, ← sub_eq_add_neg]
  rfl

end Reference

section

variable (m : (ℓ : Loc Cert.KernelForwardTwoIdeal.nD Cert.KernelForwardTwoIdeal.τ Cert.KernelForwardTwoIdeal.sig) → Buf (Elt Ideal) ℓ)
  (m' : (ℓ : Loc Cert.ReferenceForwardTwoIdeal.nD Cert.ReferenceForwardTwoIdeal.τ Cert.ReferenceForwardTwoIdeal.sig) → Buf (Elt Ideal) ℓ)
  (c : Dev Cert.KernelForwardTwoIdeal.nD)

/-- The reference's arguments are the kernel's. -/
def Agree : Prop :=
  m' ((c.tc : Thread Cert.ReferenceForwardTwoIdeal.nD Cert.ReferenceForwardTwoIdeal.τ).loc Cert.ReferenceForwardTwoIdeal.main_arg0) = m ((c.tc : Thread Cert.KernelForwardTwoIdeal.nD Cert.KernelForwardTwoIdeal.τ).loc Cert.KernelForwardTwoIdeal.main_arg0)
  ∧ m' ((c.tc : Thread Cert.ReferenceForwardTwoIdeal.nD Cert.ReferenceForwardTwoIdeal.τ).loc Cert.ReferenceForwardTwoIdeal.main_arg1) = m ((c.tc : Thread Cert.KernelForwardTwoIdeal.nD Cert.KernelForwardTwoIdeal.τ).loc Cert.KernelForwardTwoIdeal.main_arg1)
  ∧ m' ((c.tc : Thread Cert.ReferenceForwardTwoIdeal.nD Cert.ReferenceForwardTwoIdeal.τ).loc Cert.ReferenceForwardTwoIdeal.main_arg2) = m ((c.tc : Thread Cert.KernelForwardTwoIdeal.nD Cert.KernelForwardTwoIdeal.τ).loc Cert.KernelForwardTwoIdeal.main_arg2)
  ∧ m' ((c.tc : Thread Cert.ReferenceForwardTwoIdeal.nD Cert.ReferenceForwardTwoIdeal.τ).loc Cert.ReferenceForwardTwoIdeal.main_arg3) = m ((c.tc : Thread Cert.KernelForwardTwoIdeal.nD Cert.KernelForwardTwoIdeal.τ).loc Cert.KernelForwardTwoIdeal.main_arg3)
  ∧ m' ((c.tc : Thread Cert.ReferenceForwardTwoIdeal.nD Cert.ReferenceForwardTwoIdeal.τ).loc Cert.ReferenceForwardTwoIdeal.main_arg4) = m ((c.tc : Thread Cert.KernelForwardTwoIdeal.nD Cert.KernelForwardTwoIdeal.τ).loc Cert.KernelForwardTwoIdeal.main_arg4)

theorem re_eq (h : Agree m m' c) : reTerm
    (m' ((c.tc : Thread Cert.ReferenceForwardTwoIdeal.nD Cert.ReferenceForwardTwoIdeal.τ).loc Cert.ReferenceForwardTwoIdeal.main_arg0)) (m' ((c.tc : Thread Cert.ReferenceForwardTwoIdeal.nD Cert.ReferenceForwardTwoIdeal.τ).loc Cert.ReferenceForwardTwoIdeal.main_arg1)) (m' ((c.tc : Thread Cert.ReferenceForwardTwoIdeal.nD Cert.ReferenceForwardTwoIdeal.τ).loc Cert.ReferenceForwardTwoIdeal.main_arg2)) (m' ((c.tc : Thread Cert.ReferenceForwardTwoIdeal.nD Cert.ReferenceForwardTwoIdeal.τ).loc Cert.ReferenceForwardTwoIdeal.main_arg3)) (m' ((c.tc : Thread Cert.ReferenceForwardTwoIdeal.nD Cert.ReferenceForwardTwoIdeal.τ).loc Cert.ReferenceForwardTwoIdeal.main_arg4)) = reResult m c := by
  obtain ⟨h0, h1, h2, h3, h4⟩ := h
  funext y
  refine (congrArg _ (eq_ix3 y)).trans ((reTerm_at _ _ _ _ _ (y 0) (y 1) (y 2)).trans ?_)
  rw [h0, h1, h2, h3, h4]
  rfl

theorem im_eq (h : Agree m m' c) : imTerm
    (m' ((c.tc : Thread Cert.ReferenceForwardTwoIdeal.nD Cert.ReferenceForwardTwoIdeal.τ).loc Cert.ReferenceForwardTwoIdeal.main_arg0)) (m' ((c.tc : Thread Cert.ReferenceForwardTwoIdeal.nD Cert.ReferenceForwardTwoIdeal.τ).loc Cert.ReferenceForwardTwoIdeal.main_arg1)) (m' ((c.tc : Thread Cert.ReferenceForwardTwoIdeal.nD Cert.ReferenceForwardTwoIdeal.τ).loc Cert.ReferenceForwardTwoIdeal.main_arg2)) (m' ((c.tc : Thread Cert.ReferenceForwardTwoIdeal.nD Cert.ReferenceForwardTwoIdeal.τ).loc Cert.ReferenceForwardTwoIdeal.main_arg3)) (m' ((c.tc : Thread Cert.ReferenceForwardTwoIdeal.nD Cert.ReferenceForwardTwoIdeal.τ).loc Cert.ReferenceForwardTwoIdeal.main_arg4)) = imResult m c := by
  obtain ⟨h0, h1, h2, h3, h4⟩ := h
  funext y
  refine (congrArg _ (eq_ix3 y)).trans ((imTerm_at _ _ _ _ _ (y 0) (y 1) (y 2)).trans ?_)
  rw [h0, h1, h2, h3, h4]
  rfl

end

/-- The kernel's value is the reference's. -/
theorem algebraic : Cert.algebraic_KernelForwardTwoIdeal_ReferenceForwardTwoIdeal := fun m g m' g' _ hagree =>
  ⟨fun c => reResult m c, fun c => imResult m c,
    (θ_run Cert.KernelForwardTwoIdeal.defs _ _).mono (fun r h c => ⟨(h c).1.trans (re_array_eq m c), (h c).2.1.trans (im_array_eq m c), (h c).2.2⟩) (Cert.KernelForwardTwoIdeal.Value.run_blocks m g),
    (θ_run Cert.ReferenceForwardTwoIdeal.defs _ _).mono (fun r h c => ⟨(h c).1.trans (re_eq m m' c (hagree c)), (h c).2.1.trans (im_eq m m' c (hagree c)), (h c).2.2⟩) (Cert.ReferenceForwardTwoIdeal.Value.run (F := Ideal) m' g')⟩

/-- The reference terminates, keeps its arguments and leaves no counter raised. -/
theorem reference_frame : Cert.quiescent_ReferenceForwardTwoIdeal := fun m g _ =>
  (θ_run Cert.ReferenceForwardTwoIdeal.defs _ _).mono
    (fun r h => ⟨fun c => (h c).2.2, Idealize.ShloMosaic.sem_eq_zero_of_no_sems (by decide) r.2⟩)
    (Cert.ReferenceForwardTwoIdeal.Value.run (F := Ideal) m g)

end Cert.ForwardTwo

end
-- ==== Proof.InverseTwo.lean ====
module

public import proofs.«01_k».proof.Defs
public import proofs.«01_k».proof.Proof.Real
public import proofs.«01_k».proof.Proof.Gen.KernelInverseTwoIdeal.Value
public import proofs.«01_k».proof.Proof.Gen.ReferenceInverseTwoIdeal.Run

@[expose] public section

set_option maxRecDepth 16384

noncomputable section

/-! The second half of the second long convolution: the transform back, divided by the length, the skip term and the gate. -/

namespace Cert.InverseTwo

open Idealize.ShloMosaic Idealize.ShloMosaic.TcCoe Idealize.SL.Sem
open Idealize.ShloMosaic.Pipeline (Dat)

section Launch

open Cert.KernelInverseTwoIdeal Cert.KernelInverseTwoIdeal.Gen

/-- A sequence's channel against one row of a table. -/
def against (a : FVec Ideal S2048x2048 .bf16) (p : FVec Ideal S8x2048x512 .bf16) (i : Fin 8) (t : Fin 2048) (w : Fin 512) : EReal :=
  ∑ k : Fin 2048, a (ix2 t k) * p (ix3 i k w)

/-- One element of the result. -/
def element (a s : FVec Ideal S2048x2048 .bf16) (p q : FVec Ideal S8x2048x512 .bf16) (z : FVec Ideal S8x2048x512 .f32) (u : FVec Ideal S8x2048x1536 .f32) (b : FVec Ideal S2x512 .f32) (i : Fin 8) (t : Fin 2048) (w : Fin 512) : EReal :=
  u (ix3 i t (⟨1024 + w.val, by omega⟩ : Fin 1536)) * ((against a p i t w - against s q i t w) * Ideal.ofBits .f32 0x3A000000#32
    + z (ix3 i t w) * b (ix2 1 w))

/-- What one grid point computes from its blocks. -/
theorem pay_at (a : Vec Ideal S512x2048 .bf16) (p : Vec Ideal S1x2048x512 .bf16) (s : Vec Ideal S512x2048 .bf16) (q : Vec Ideal S1x2048x512 .bf16)
    (g z : Vec Ideal S1x512x512 .f32) (b : Vec Ideal S1x512 .f32) (t w : Fin 512) :
    k0_pay1 (F := Ideal) a p s q g z b (ix3 0 t w)
      = g (ix3 0 t w) * (((∑ k : Fin 2048, a (ix2 t k) * p (ix3 0 k w)) - ∑ k : Fin 2048, s (ix2 t k) * q (ix3 0 k w)) * Ideal.ofBits .f32 0x3A000000#32
        + z (ix3 0 t w) * b (ix2 0 w)) := by
  pointwise [k0_pay1]

variable (m : (ℓ : Loc nD τ sig) → Buf (Elt Ideal) ℓ)

/-- The block each window holds at each grid point. -/
theorem idx : ∀ t : Fin cfg0.N, win0_0.index t = ![(grid0.coords t 1).val, 0] ∧ win0_1.index t = ![(grid0.coords t 1).val, 0]
    ∧ win0_2.index t = ![(grid0.coords t 0).val, 0, 0] ∧ win0_3.index t = ![(grid0.coords t 0).val, 0, 0]
    ∧ win0_4.index t = ![(grid0.coords t 0).val, (grid0.coords t 1).val, 0] ∧ win0_5.index t = ![(grid0.coords t 0).val, (grid0.coords t 1).val, 2]
    ∧ win0_6.index t = ![0, 0] ∧ win0_7.index t = ![(grid0.coords t 0).val, (grid0.coords t 1).val, 0] :=
  (by decide +kernel : ∀ t : Fin grid0.N, _)

/-- The result array after the run. -/
def result (c : Dev nD) : FVec Ideal S8x2048x512 .f32 := fun y => element (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (y 0) (y 1) (y 2)

/-- The skip term's gains as the launch finds them. -/
theorem gains_at (c : Dev nD) (w : Fin 512) : V m c main_v0 (ix2 0 w) = m ((c.tc : Thread nD τ).loc main_arg6) (ix2 1 w) := by
  entry_read
  pointwise

theorem array_eq (c : Dev nD) : (dats m 0 c).arrAt 7 cfg0.N = result m c := by
  refine (dats m 0 c).arrAt_eq_of_covers 7 _ (by decide +kernel) fun t _ y => ?_
  blk_simp
  rw [after0_7]
  unfold out0_7
  frame_out
  have b0 : (grid0.coords t 0).val < 8 := (grid0.coords t 0).isLt
  have b1 : (grid0.coords t 1).val < 4 := (grid0.coords t 1).isLt
  obtain ⟨i0, i1, i2, i3, i4, i5, i6, i7⟩ := idx t
  have y1 : (y 1).val < 512 := (y 1).isLt
  have y2 : (y 2).val < 512 := (y 2).isLt
  have hy : y = (ix3 (0 : Fin 1) (⟨(y 1).val, y1⟩ : Fin 512) (⟨(y 2).val, y2⟩ : Fin 512) : S1x512x512.Idx) := by blk_ext
  refine (congrArg _ hy).trans ((pay_at _ _ _ _ _ _ _ _ _).trans ?_)
  unfold result element against
  refine congr (congrArg HMul.hMul ?_) (congr (congrArg HAdd.hAdd (congrArg (· * _) (congr (congrArg HSub.hSub
    (Finset.sum_congr rfl fun k _ => congr (congrArg HMul.hMul ?_) ?_)) (Finset.sum_congr rfl fun k _ => congr (congrArg HMul.hMul ?_) ?_))))
    (congr (congrArg HMul.hMul ?_) ?_))
  · blk_ext [iblk, V, i5, i7]
  · blk_ext [iblk, V, i0, i7]
  · blk_ext [iblk, V, i2, i7]
  · blk_ext [iblk, V, i1, i7]
  · blk_ext [iblk, V, i3, i7]
  · blk_ext [iblk, V, i4, i7]
  · refine Eq.trans ?_ ((gains_at m c ⟨(y 2).val, y2⟩).trans ?_)
    · blk_ext [iblk, i6, i7]
    · blk_ext [i7]

end Launch

section Reference

open Cert.ReferenceInverseTwoIdeal Cert.ReferenceInverseTwoIdeal.Gen

/-- A spectrum against a table. -/
def transform (a : FVec Ideal S2048x2048 .bf16) (p : FVec Ideal S8x2048x512 .bf16) : FVec Ideal S8x2048x512 .f32 :=
  transpose S8x2048x512 [0, 2, 1] (Host.dotGeneral dot_S8x2048x512_S2048x2048_S8x512x2048_1_1_02_0_n_n none (extf .f32 p bitsLt_bf16_f32) (extf .f32 a bitsLt_bf16_f32)) transposes_S8x512x2048_S8x2048x512_0_2_1

theorem transform_at (a : FVec Ideal S2048x2048 .bf16) (p : FVec Ideal S8x2048x512 .bf16) (i : Fin 8) (t : Fin 2048) (w : Fin 512) :
    transform a p (ix3 i t w) = against a p i t w := by
  have h : transform a p (ix3 i t w) = ∑ k : Fin 2048, p (ix3 i k w) * a (ix2 t k) := by
    pointwise [transform]
  rw [h]
  exact Finset.sum_congr rfl fun k _ => mul_comm _ _

/-- The skip term's gains, spread over the sequences. -/
def gains (b : FVec Ideal S2x512 .f32) : FVec Ideal S8x2048x512 .f32 :=
  broadcastInDim S8x2048x512 ![0, 1, 2] bcast_S1x1x512_S8x2048x512_0_1_2 (broadcastInDim S1x1x512 ![2] bcast_S512_S1x1x512_2 (shapeCast _ (extractStridedSlice S1x512 ![1, 0] b slices_S2x512_S1x512_1_0) shapeCasts_S1x512_S512))

theorem spread_gains_at (b : FVec Ideal S2x512 .f32) (i : Fin 8) (t : Fin 2048) (w : Fin 512) : gains b (ix3 i t w) = b (ix2 1 w) := by
  pointwise [gains]

/-- The reference's term. -/
def term (a s : FVec Ideal S2048x2048 .bf16) (p q : FVec Ideal S8x2048x512 .bf16) (z : FVec Ideal S8x2048x512 .f32) (u : FVec Ideal S8x2048x1536 .f32) (b : FVec Ideal S2x512 .f32) : FVec Ideal S8x2048x512 .f32 :=
  mulf (extractStridedSlice S8x2048x512 ![0, 0, 1024] u slices_S8x2048x1536_S8x2048x512_0_0_1024) (addf (mulf (subf (transform a p) (transform s q)) (broadcastInDim S8x2048x512 ![] bcast_S_S8x2048x512 (constant S_ .f32 0x3A000000#32))) (mulf z (gains b)))

theorem term_at (a s : FVec Ideal S2048x2048 .bf16) (p q : FVec Ideal S8x2048x512 .bf16) (z : FVec Ideal S8x2048x512 .f32) (u : FVec Ideal S8x2048x1536 .f32) (b : FVec Ideal S2x512 .f32) (i : Fin 8) (t : Fin 2048) (w : Fin 512) : term a s p q z u b (ix3 i t w) = element a s p q z u b i t w := by
  unfold element
  rw [← transform_at, ← transform_at, ← spread_gains_at b i t w]
  unfold term
  generalize transform a p = x
  generalize transform s q = y
  generalize gains b = g
  pointwise

end Reference

section

variable (m : (ℓ : Loc Cert.KernelInverseTwoIdeal.nD Cert.KernelInverseTwoIdeal.τ Cert.KernelInverseTwoIdeal.sig) → Buf (Elt Ideal) ℓ)
  (m' : (ℓ : Loc Cert.ReferenceInverseTwoIdeal.nD Cert.ReferenceInverseTwoIdeal.τ Cert.ReferenceInverseTwoIdeal.sig) → Buf (Elt Ideal) ℓ)
  (c : Dev Cert.KernelInverseTwoIdeal.nD)

/-- The reference's arguments are the kernel's. -/
def Agree : Prop :=
  m' ((c.tc : Thread Cert.ReferenceInverseTwoIdeal.nD Cert.ReferenceInverseTwoIdeal.τ).loc Cert.ReferenceInverseTwoIdeal.main_arg0) = m ((c.tc : Thread Cert.KernelInverseTwoIdeal.nD Cert.KernelInverseTwoIdeal.τ).loc Cert.KernelInverseTwoIdeal.main_arg0)
  ∧ m' ((c.tc : Thread Cert.ReferenceInverseTwoIdeal.nD Cert.ReferenceInverseTwoIdeal.τ).loc Cert.ReferenceInverseTwoIdeal.main_arg1) = m ((c.tc : Thread Cert.KernelInverseTwoIdeal.nD Cert.KernelInverseTwoIdeal.τ).loc Cert.KernelInverseTwoIdeal.main_arg1)
  ∧ m' ((c.tc : Thread Cert.ReferenceInverseTwoIdeal.nD Cert.ReferenceInverseTwoIdeal.τ).loc Cert.ReferenceInverseTwoIdeal.main_arg2) = m ((c.tc : Thread Cert.KernelInverseTwoIdeal.nD Cert.KernelInverseTwoIdeal.τ).loc Cert.KernelInverseTwoIdeal.main_arg2)
  ∧ m' ((c.tc : Thread Cert.ReferenceInverseTwoIdeal.nD Cert.ReferenceInverseTwoIdeal.τ).loc Cert.ReferenceInverseTwoIdeal.main_arg3) = m ((c.tc : Thread Cert.KernelInverseTwoIdeal.nD Cert.KernelInverseTwoIdeal.τ).loc Cert.KernelInverseTwoIdeal.main_arg3)
  ∧ m' ((c.tc : Thread Cert.ReferenceInverseTwoIdeal.nD Cert.ReferenceInverseTwoIdeal.τ).loc Cert.ReferenceInverseTwoIdeal.main_arg4) = m ((c.tc : Thread Cert.KernelInverseTwoIdeal.nD Cert.KernelInverseTwoIdeal.τ).loc Cert.KernelInverseTwoIdeal.main_arg4)
  ∧ m' ((c.tc : Thread Cert.ReferenceInverseTwoIdeal.nD Cert.ReferenceInverseTwoIdeal.τ).loc Cert.ReferenceInverseTwoIdeal.main_arg5) = m ((c.tc : Thread Cert.KernelInverseTwoIdeal.nD Cert.KernelInverseTwoIdeal.τ).loc Cert.KernelInverseTwoIdeal.main_arg5)
  ∧ m' ((c.tc : Thread Cert.ReferenceInverseTwoIdeal.nD Cert.ReferenceInverseTwoIdeal.τ).loc Cert.ReferenceInverseTwoIdeal.main_arg6) = m ((c.tc : Thread Cert.KernelInverseTwoIdeal.nD Cert.KernelInverseTwoIdeal.τ).loc Cert.KernelInverseTwoIdeal.main_arg6)

theorem result_eq (h : Agree m m' c) : term
    (m' ((c.tc : Thread Cert.ReferenceInverseTwoIdeal.nD Cert.ReferenceInverseTwoIdeal.τ).loc Cert.ReferenceInverseTwoIdeal.main_arg0)) (m' ((c.tc : Thread Cert.ReferenceInverseTwoIdeal.nD Cert.ReferenceInverseTwoIdeal.τ).loc Cert.ReferenceInverseTwoIdeal.main_arg1)) (m' ((c.tc : Thread Cert.ReferenceInverseTwoIdeal.nD Cert.ReferenceInverseTwoIdeal.τ).loc Cert.ReferenceInverseTwoIdeal.main_arg2)) (m' ((c.tc : Thread Cert.ReferenceInverseTwoIdeal.nD Cert.ReferenceInverseTwoIdeal.τ).loc Cert.ReferenceInverseTwoIdeal.main_arg3)) (m' ((c.tc : Thread Cert.ReferenceInverseTwoIdeal.nD Cert.ReferenceInverseTwoIdeal.τ).loc Cert.ReferenceInverseTwoIdeal.main_arg4)) (m' ((c.tc : Thread Cert.ReferenceInverseTwoIdeal.nD Cert.ReferenceInverseTwoIdeal.τ).loc Cert.ReferenceInverseTwoIdeal.main_arg5)) (m' ((c.tc : Thread Cert.ReferenceInverseTwoIdeal.nD Cert.ReferenceInverseTwoIdeal.τ).loc Cert.ReferenceInverseTwoIdeal.main_arg6)) = result m c := by
  obtain ⟨h0, h1, h2, h3, h4, h5, h6⟩ := h
  funext y
  refine (congrArg _ (eq_ix3 y)).trans ((term_at _ _ _ _ _ _ _ (y 0) (y 1) (y 2)).trans ?_)
  rw [h0, h1, h2, h3, h4, h5, h6]
  rfl

end

/-- The kernel's value is the reference's. -/
theorem algebraic : Cert.algebraic_KernelInverseTwoIdeal_ReferenceInverseTwoIdeal := fun m g m' g' _ hagree =>
  ⟨fun c => result m c,
    (θ_run Cert.KernelInverseTwoIdeal.defs _ _).mono (fun r h c => ⟨(h c).1.trans (array_eq m c), (h c).2⟩) (Cert.KernelInverseTwoIdeal.Value.run_blocks m g),
    (θ_run Cert.ReferenceInverseTwoIdeal.defs _ _).mono (fun r h c => ⟨(h c).1.trans (result_eq m m' c (hagree c)), (h c).2⟩) (Cert.ReferenceInverseTwoIdeal.Value.run (F := Ideal) m' g')⟩

/-- The reference terminates, keeps its arguments and leaves no counter raised. -/
theorem reference_frame : Cert.quiescent_ReferenceInverseTwoIdeal := fun m g _ =>
  (θ_run Cert.ReferenceInverseTwoIdeal.defs _ _).mono
    (fun r h => ⟨fun c => (h c).2, Idealize.ShloMosaic.sem_eq_zero_of_no_sems (by decide) r.2⟩)
    (Cert.ReferenceInverseTwoIdeal.Value.run (F := Ideal) m g)

end Cert.InverseTwo

end
-- ==== Proof.DiffTwoSpec.lean ====
module

public import proofs.«01_k».proof.Proof.Real
public import proofs.«01_k».proof.Proof.Gen.ReferenceDiffTwoIdeal

@[expose] public section

set_option maxRecDepth 16384

noncomputable section

namespace Cert.DiffTwo

open Idealize.ShloMosaic Idealize.ShloMosaic.TcCoe Idealize.SL.Sem
open Cert.ReferenceDiffTwoIdeal Cert.Real

/-! What differential attention computes, at one place of the result. -/

/-- The linear-bias slope of head `h`. -/
def slope (h : Fin 4) : EReal :=
  Ideal.pow (Ideal.ofBits .f32 0x40000000#32)
    (Ideal.div (Ideal.ofBits .f32 0xC1000000#32 * (1 + FloatOps.sitofp (F := Ideal) .f32 (BitVec.ofNat 32 h.val)))
      (Ideal.ofBits .f32 0x40800000#32))

/-- The distance between two positions. -/
def dist (q k : ℕ) : EReal :=
  FloatOps.sitofp (F := Ideal) .f32 (IntOp.absi (IntOp.subi (BitVec.ofNat 32 q) (BitVec.ofNat 32 k)))

/-- The biased score of half-width head `g` (two of them to a head) of query `q` against key `k`. -/
def score (X : FVec Ideal S8x2048x3072 .f32) (b g : Fin 8) (q k : Fin 2048) : EReal :=
  (∑ e : Fin 64, X (ix3 b q ⟨1536 + (g.val * 64 + e.val), by omega⟩) * X (ix3 b k ⟨2048 + (g.val * 64 + e.val), by omega⟩))
      * Ideal.ofBits .f32 0x3E000000#32
    - slope ⟨g.val / 2, by omega⟩ * dist q.val k.val

/-- The weight of the second softmax. -/
def weight (L : FVec Ideal S4x64 .f32) : EReal :=
  Ideal.exp (∑ x : Fin 64, L (ix2 0 x) * L (ix2 1 x)) - Ideal.exp (∑ x : Fin 64, L (ix2 2 x) * L (ix2 3 x))
    + Ideal.ofBits .f32 0x3EF1014C#32

/-- Head `h`'s output before it is normalised. -/
def att (X : FVec Ideal S8x2048x3072 .f32) (L : FVec Ideal S4x64 .f32) (b : Fin 8) (q : Fin 2048) (h : Fin 4) (e : Fin 128) : EReal :=
  ∑ k : Fin 2048,
    (soft (score X b ⟨h.val * 2, by omega⟩ q) k - weight L * soft (score X b ⟨h.val * 2 + 1, by omega⟩ q) k)
      * X (ix3 b k ⟨2560 + (h.val * 128 + e.val), by omega⟩)

/-- Head `h`'s output: normalised over its width, scaled by `subln` and by 0.8. -/
def outAt (X : FVec Ideal S8x2048x3072 .f32) (L : FVec Ideal S4x64 .f32) (W : FVec Ideal S128 .f32)
    (b : Fin 8) (q : Fin 2048) (h : Fin 4) (e : Fin 128) : EReal :=
  att X L b q h e
      * Ideal.rsqrt (Ideal.div (∑ x, att X L b q h x * att X L b q h x) (Ideal.ofBits .f32 0x43000000#32)
          + Ideal.ofBits .f32 0x358637BD#32)
      * W (ix1 e) * Ideal.ofBits .f32 0x3F077F5A#32

end Cert.DiffTwo

end
-- ==== Proof.DiffTwoBlock.lean ====
module

public import proofs.«01_k».proof.Proof.DiffTwoSpec
public import proofs.«01_k».proof.Proof.Gen.KernelDiffTwoIdeal.Value

@[expose] public section

set_option maxRecDepth 16384

noncomputable section

namespace Cert.DiffTwo

open Idealize.ShloMosaic Idealize.ShloMosaic.TcCoe Idealize.SL.Sem
open Cert.KernelDiffTwoIdeal Cert.KernelDiffTwoIdeal.Gen Cert.Real
open Idealize.ShloMosaic.Pipeline (Dat)

/-! What one grid point of the kernel computes. -/

/-- A sum over 128 lanes of which a mask keeps the first half. -/
theorem sum_first_half (f : Fin 128 → EReal) :
    ∑ x : Fin 128, Scalar.select (IntOp.cmpi .slt (BitVec.ofNat 32 x.val) 64#32) (f x) 0
      = ∑ d : Fin 64, f ⟨d.val, by omega⟩ := by
  have h1 : ∀ d : Fin 64, IntOp.cmpi .slt (BitVec.ofNat 32 d.val) 64#32 = 1#1 := by decide
  have h2 : ∀ d : Fin 64, IntOp.cmpi .slt (BitVec.ofNat 32 (64 + d.val)) 64#32 = 0#1 := by decide
  refine (Fin.sum_univ_add (a := 64) (b := 64) _).trans ?_
  rw [Finset.sum_eq_zero (s := Finset.univ (α := Fin 64)) (f := fun i : Fin 64 => Scalar.select (IntOp.cmpi .slt (BitVec.ofNat 32 (Fin.natAdd 64 i).val) 64#32) (f (Fin.natAdd 64 i)) 0)
    (fun d _ => by rw [Fin.val_natAdd, h2 d]; rfl), add_zero]
  exact Finset.sum_congr rfl fun d _ => by rw [Fin.val_castAdd, h1 d]; rfl

/-- A sum over 128 lanes of which a mask keeps the second half. -/
theorem sum_second_half (f : Fin 128 → EReal) :
    ∑ x : Fin 128, Scalar.select (IntOp.cmpi .sge (BitVec.ofNat 32 x.val) 64#32) (f x) 0
      = ∑ d : Fin 64, f ⟨64 + d.val, by omega⟩ := by
  have h1 : ∀ d : Fin 64, IntOp.cmpi .sge (BitVec.ofNat 32 d.val) 64#32 = 0#1 := by decide
  have h2 : ∀ d : Fin 64, IntOp.cmpi .sge (BitVec.ofNat 32 (64 + d.val)) 64#32 = 1#1 := by decide
  refine (Fin.sum_univ_add (a := 64) (b := 64) _).trans ?_
  rw [Finset.sum_eq_zero (s := Finset.univ (α := Fin 64)) (f := fun i : Fin 64 => Scalar.select (IntOp.cmpi .sge (BitVec.ofNat 32 (Fin.castAdd 64 i).val) 64#32) (f (Fin.castAdd 64 i)) 0)
    (fun d _ => by rw [Fin.val_castAdd, h1 d]; rfl), zero_add]
  exact Finset.sum_congr rfl fun d _ => by rw [Fin.val_natAdd, h2 d]; rfl

/-- The attention output of one block, its two halves' scores as the masks leave them. -/
theorem pay8_at (v3 : FVec Ideal S256x128 .f32) (v6 v9 : FVec Ideal S2048x128 .bf16) (v22 : FVec Ideal S256x2048 .f32)
    (v38 : FVec Ideal S1x1 .f32) (r : Fin 256) (e : Fin 128) :
    k0_pay8 v3 v6 v9 (iota .tc S1x128 32 [1] iota_S1x128_d1_w32) v22 v38 k0_pay7 (ix2 r e)
      = ∑ k : Fin 2048,
          (soft (fun k => ∑ d : Fin 64, v3 (ix2 r ⟨d.val, by omega⟩) * v6 (ix2 k ⟨d.val, by omega⟩) - v22 (ix2 r k)) k
            - v38 (ix2 0 0)
              * soft (fun k => ∑ d : Fin 64, v3 (ix2 r ⟨64 + d.val, by omega⟩) * v6 (ix2 k ⟨64 + d.val, by omega⟩) - v22 (ix2 r k)) k)
          * v9 (ix2 k e) := by
  have h : k0_pay8 v3 v6 v9 (iota .tc S1x128 32 [1] iota_S1x128_d1_w32) v22 v38 k0_pay7 (ix2 r e)
      = ∑ k : Fin 2048,
          (soft (fun k => (∑ x : Fin 128, Scalar.select (IntOp.cmpi .slt (BitVec.ofNat 32 x.val) 64#32) (v3 (ix2 r x) * v6 (ix2 k x)) 0) - v22 (ix2 r k)) k
            - v38 (ix2 0 0)
              * soft (fun k => (∑ x : Fin 128, Scalar.select (IntOp.cmpi .sge (BitVec.ofNat 32 x.val) 64#32) (v3 (ix2 r x) * v6 (ix2 k x)) 0) - v22 (ix2 r k)) k)
          * v9 (ix2 k e) := by
    unfold soft
    pointwise [k0_pay8, k0_pay7]
  rw [h]
  refine Finset.sum_congr rfl fun k _ => ?_
  have e1 : ∀ k : Fin 2048, ∑ x : Fin 128, Scalar.select (IntOp.cmpi .slt (BitVec.ofNat 32 x.val) 64#32) (v3 (ix2 r x) * v6 (ix2 k x)) 0
      = ∑ d : Fin 64, v3 (ix2 r ⟨d.val, by omega⟩) * v6 (ix2 k ⟨d.val, by omega⟩) := fun k => sum_first_half fun x => v3 (ix2 r x) * v6 (ix2 k x)
  have e2 : ∀ k : Fin 2048, ∑ x : Fin 128, Scalar.select (IntOp.cmpi .sge (BitVec.ofNat 32 x.val) 64#32) (v3 (ix2 r x) * v6 (ix2 k x)) 0
      = ∑ d : Fin 64, v3 (ix2 r ⟨64 + d.val, by omega⟩) * v6 (ix2 k ⟨64 + d.val, by omega⟩) := fun k => sum_second_half fun x => v3 (ix2 r x) * v6 (ix2 k x)
  simp only [e1, e2]

theorem pay2_at (v : Vec Ideal S1x256x128 .f32) (r : Fin 256) (x : Fin 128) :
    k0_pay2 (F := Ideal) v (ix2 r x) = v (ix3 0 r x) * Ideal.ofBits .f32 0x3E000000#32 := by
  pointwise [k0_pay2]

theorem pay3_at (v : Vec Ideal S1x2048x128 .f32) (k : Fin 2048) (x : Fin 128) :
    k0_pay3 (F := Ideal) v (ix2 k x) = v (ix3 0 k x) := by
  pointwise [k0_pay3]

theorem pay4_at (v : Vec Ideal S1x2048x128 .f32) (k : Fin 2048) (x : Fin 128) :
    k0_pay4 (F := Ideal) v (ix2 k x) = v (ix3 0 k x) := by
  pointwise [k0_pay4]

/-- The bias of a block: the slope times the distance, counted from the block's first query. -/
theorem pay5_at (i : grid0.Coords) (s : EReal) (r : Fin 256) (k : Fin 2048) :
    k0_pay5 (F := Ideal) i s (ix2 r k) = s * dist ((i 2).val * 256 + r.val) k.val := by
  have h : k0_pay5 (F := Ideal) i s (ix2 r k)
      = s * FloatOps.sitofp (F := Ideal) .f32 (IntOp.absi (IntOp.subi
          (IntOp.addi (Scalar.muli (BitVec.ofNat 32 (i 2).val) 256#32) (BitVec.ofNat 32 r.val)) (BitVec.ofNat 32 k.val))) := by
    pointwise [k0_pay5]
  have e : IntOp.addi (Scalar.muli (BitVec.ofNat 32 (i 2).val) 256#32) (BitVec.ofNat 32 r.val)
      = BitVec.ofNat 32 ((i 2).val * 256 + r.val) := by
    rw [BitVec.ofNat_add, BitVec.ofNat_mul]; rfl
  rw [h, e]
  rfl

theorem pay6_at (v : Vec Ideal S4x64 .f32) : k0_pay6 (F := Ideal) v (ix2 0 0) = weight v := by
  pointwise [k0_pay6, weight]

theorem pay1_at (v79 : FVec Ideal S256x128 .f32) (v81 : FVec Ideal S1x128 .f32) (v84 v85 : FVec Ideal S256x1 .f32) (r : Fin 256) (e : Fin 128) :
    k0_pay1 v79 v81 v84 v85 (ix3 0 r e)
      = v79 (ix2 r e) * Ideal.rsqrt (Ideal.div (v84 (ix2 r 0)) (v85 (ix2 r 0)) + Ideal.ofBits .f32 0x358637BD#32)
          * v81 (ix2 0 e) * Ideal.ofBits .f32 0x3F077F5A#32 := by
  pointwise [k0_pay1]

theorem pay9_at (v : Vec Ideal S1x128 .f32) (e : Fin 128) : k0_pay9 (F := Ideal) v (ix2 0 e) = v (ix2 0 e) := by
  pointwise [k0_pay9]

theorem pay11_at (r : Fin 256) : k0_pay11 (F := Ideal) (ix2 r 0) = Ideal.ofBits .f32 0x43000000#32 := by
  pointwise [k0_pay11]

theorem pay10_at (v3 : FVec Ideal S256x128 .f32) (v6 v9 : FVec Ideal S2048x128 .bf16) (v10 : IVec S1x128 32) (v22 : FVec Ideal S256x2048 .f32)
    (v38 : FVec Ideal S1x1 .f32) (v39 : IVec S1x128 32) (r : Fin 256) :
    k0_pay10 v3 v6 v9 v10 v22 v38 v39 (ix2 r 0)
      = ∑ x : Fin 128, k0_pay8 v3 v6 v9 v10 v22 v38 v39 (ix2 r x) * k0_pay8 v3 v6 v9 v10 v22 v38 v39 (ix2 r x) := by
  unfold k0_pay10
  generalize k0_pay8 v3 v6 v9 v10 v22 v38 v39 = u
  pointwise

/-- ONE BLOCK: from the projection's blocks of one batch, one head and 256 queries, the head's output at those queries. -/
theorem block_at (X : FVec Ideal S8x2048x3072 .f32) (L : FVec Ideal S4x64 .f32) (W : FVec Ideal S128 .f32)
    (i : grid0.Coords) (b : Fin 8) (h : Fin 4) (q : Fin 256 → Fin 2048) (hq : ∀ r, (q r).val = (i 2).val * 256 + r.val)
    (s : EReal) (hs : s = slope h)
    (xq : Vec Ideal S1x256x128 .f32) (xk xv : Vec Ideal S1x2048x128 .f32) (xl : Vec Ideal S4x64 .f32) (xw : Vec Ideal S1x128 .f32)
    (h1 : ∀ r x, xq (ix3 0 r x) = X (ix3 b (q r) ⟨1536 + (h.val * 128 + x.val), by omega⟩))
    (h2 : ∀ k x, xk (ix3 0 k x) = X (ix3 b k ⟨2048 + (h.val * 128 + x.val), by omega⟩))
    (h3 : ∀ k x, xv (ix3 0 k x) = X (ix3 b k ⟨2560 + (h.val * 128 + x.val), by omega⟩))
    (h4 : xl = L) (h5 : ∀ e, xw (ix2 0 e) = W (ix1 e)) (r : Fin 256) (e : Fin 128) :
    k0_pay1
      (k0_pay8 (k0_pay2 xq) (k0_pay3 xk) (k0_pay4 xv) (iota .tc S1x128 32 [1] iota_S1x128_d1_w32) (k0_pay5 i s) (k0_pay6 xl) k0_pay7)
      (k0_pay9 xw)
      (k0_pay10 (k0_pay2 xq) (k0_pay3 xk) (k0_pay4 xv) (iota .tc S1x128 32 [1] iota_S1x128_d1_w32) (k0_pay5 i s) (k0_pay6 xl) k0_pay7)
      k0_pay11 (ix3 0 r e)
    = outAt X L W b (q r) h e := by
  have ha : ∀ x : Fin 128, k0_pay8 (k0_pay2 xq) (k0_pay3 xk) (k0_pay4 xv) (iota .tc S1x128 32 [1] iota_S1x128_d1_w32) (k0_pay5 i s) (k0_pay6 xl) k0_pay7 (ix2 r x)
      = att X L b (q r) h x := by
    intro x
    rw [pay8_at, pay6_at, h4]
    refine Finset.sum_congr rfl fun k _ => ?_
    have s0 : (fun k : Fin 2048 => (∑ d : Fin 64, k0_pay2 xq (ix2 r ⟨d.val, by omega⟩) * k0_pay3 xk (ix2 k ⟨d.val, by omega⟩)) - k0_pay5 (F := Ideal) i s (ix2 r k))
        = score X b ⟨h.val * 2, by omega⟩ (q r) := by
      funext k
      rw [pay5_at, ← hq, hs]
      unfold score
      rw [← sum_mul_of_nonneg _ eighth_nonneg eighth_ne_top]
      congr 1
      · refine Finset.sum_congr rfl fun d _ => ?_
        rw [pay2_at, pay3_at, h1, h2, mul_right_comm]
        congr 3 <;> blk_ext
      · congr 2
        exact Fin.ext (by simp)
    have s1 : (fun k : Fin 2048 => (∑ d : Fin 64, k0_pay2 xq (ix2 r ⟨64 + d.val, by omega⟩) * k0_pay3 xk (ix2 k ⟨64 + d.val, by omega⟩)) - k0_pay5 (F := Ideal) i s (ix2 r k))
        = score X b ⟨h.val * 2 + 1, by omega⟩ (q r) := by
      funext k
      rw [pay5_at, ← hq, hs]
      unfold score
      rw [← sum_mul_of_nonneg _ eighth_nonneg eighth_ne_top]
      congr 1
      · refine Finset.sum_congr rfl fun d _ => ?_
        rw [pay2_at, pay3_at, h1, h2, mul_right_comm]
        congr 3 <;> blk_ext
      · congr 2
        exact Fin.ext (by simp; omega)
    rw [s0, s1, pay4_at, h3]
  rw [pay1_at, pay10_at, pay9_at, pay11_at, h5]
  simp only [ha]
  rfl

end Cert.DiffTwo

end
-- ==== Proof.DiffTwoArray.lean ====
module

public import proofs.«01_k».proof.Proof.DiffTwoBlock
public import proofs.«01_k».proof.Proof.Gen.KernelDiffTwoIdeal.Value
public import Idealize.ShloMosaic.Lib.Pipeline.ValueKit

@[expose] public section

set_option maxRecDepth 16384

noncomputable section

namespace Cert.DiffTwo

open Idealize.ShloMosaic Idealize.ShloMosaic.TcCoe Idealize.SL.Sem
open Cert.KernelDiffTwoIdeal Cert.KernelDiffTwoIdeal.Gen Cert.Real
open Idealize.ShloMosaic.Pipeline (Dat)

/-! The array after all of the grid points. -/

variable (m : (ℓ : Loc nD τ sig) → Buf (Elt Ideal) ℓ)

/-- The block each window holds at each grid point. -/
theorem idx : ∀ t : Fin cfg0.N, win0_0.index t = ![0]
    ∧ win0_1.index t = ![(grid0.coords t 0).val, (grid0.coords t 2).val, 12 + (grid0.coords t 1).val]
    ∧ win0_2.index t = ![(grid0.coords t 0).val, 0, 16 + (grid0.coords t 1).val]
    ∧ win0_3.index t = ![(grid0.coords t 0).val, 0, 20 + (grid0.coords t 1).val]
    ∧ win0_4.index t = ![0, 0] ∧ win0_5.index t = ![0, 0]
    ∧ win0_6.index t = ![(grid0.coords t 0).val, (grid0.coords t 2).val, (grid0.coords t 1).val] :=
  (by decide +kernel : ∀ t : Fin grid0.N, _)

/-- The slope a grid point reads is its head's. -/
theorem off_eq : ∀ t : Fin cfg0.N, k0_off1 (grid0.coords t) 0 = (grid0.coords t 1).val :=
  (by decide +kernel : ∀ t : Fin grid0.N, _)

/-- The slopes as the launch finds them. -/
theorem slopes_at (c : Dev nD) (h : Fin 4) : V m c main_v8 (ix1 h) = slope h := by
  entry_read
  pointwise [slope]

/-- The result array after the run. -/
def result (c : Dev nD) : FVec Ideal S8x2048x512 .f32 := fun j =>
  outAt (m ((c.tc : Thread nD τ).loc main_arg0)) (m ((c.tc : Thread nD τ).loc main_arg1)) (m ((c.tc : Thread nD τ).loc main_arg2))
    (j 0) (j 1) ⟨(j 2).val / 128, by have := (j 2).isLt; change _ < 512 at this; omega⟩ ⟨(j 2).val % 128, by omega⟩

theorem array_eq (c : Dev nD) : (dats m 0 c).arrAt 6 cfg0.N = result m c := by
  refine (dats m 0 c).arrAt_eq_of_covers 6 _ (by decide +kernel) fun t _ y => ?_
  blk_simp
  rw [after0_6]
  unfold outsAt0
  frame_out
  have b0 : (grid0.coords t 0).val < 8 := (grid0.coords t 0).isLt
  have b1 : (grid0.coords t 1).val < 4 := (grid0.coords t 1).isLt
  have b2 : (grid0.coords t 2).val < 8 := (grid0.coords t 2).isLt
  obtain ⟨i0, i1, i2, i3, i4, i5, i6⟩ := idx t
  have y1 : (y 1).val < 256 := (y 1).isLt
  have y2 : (y 2).val < 128 := (y 2).isLt
  have hy : y = (ix3 (0 : Fin 1) (⟨(y 1).val, y1⟩ : Fin 256) (⟨(y 2).val, y2⟩ : Fin 128) : S1x256x128.Idx) := by blk_ext
  refine (congrArg _ hy).trans ((block_at (m ((c.tc : Thread nD τ).loc main_arg0)) (m ((c.tc : Thread nD τ).loc main_arg1))
    (m ((c.tc : Thread nD τ).loc main_arg2)) (grid0.coords t) ⟨(grid0.coords t 0).val, b0⟩ ⟨(grid0.coords t 1).val, b1⟩
    (fun r => ⟨(grid0.coords t 2).val * 256 + r.val, by omega⟩) (fun _ => rfl) _ ?_ _ _ _ _ _ ?_ ?_ ?_ ?_ ?_ _ _).trans ?_)
  · refine Eq.trans ?_ (slopes_at m c ⟨(grid0.coords t 1).val, b1⟩)
    rw [View.ld_unit_apply_of _ _ _ _ _ (ix1 (⟨(grid0.coords t 1).val, b1⟩ : Fin 4)) (fun a => ?_)]
    · blk_ext [iblk, i0]
    · obtain rfl : a = 0 := Subsingleton.elim _ _
      exact (off_eq t).symm
  · intro r x
    blk_ext [iblk, V, i1]
  · intro r x
    blk_ext [iblk, V, i2]
  · intro r x
    blk_ext [iblk, V, i3]
  · blk_ext! [iblk, V, i4]
  · intro e
    blk_point [iblk, V, i5]
  · unfold result
    refine congr (congr (congr (congrArg (outAt _ _ _) ?_) ?_) ?_) ?_
    · exact Fin.ext (by blk_simp [i6])
    · exact Fin.ext (by blk_simp [i6])
    · refine Fin.ext ?_
      blk_simp [i6]
      change (grid0.coords t 1).val = ((grid0.coords t 1).val * 128 + (y 2).val) / 128
      omega
    · refine Fin.ext ?_
      blk_simp [i6]
      change (y 2).val = ((grid0.coords t 1).val * 128 + (y 2).val) % 128
      omega

end Cert.DiffTwo

end
-- ==== Proof.DiffTwoRef.lean ====
module

public import proofs.«01_k».proof.Proof.DiffTwoSpec
public import proofs.«01_k».proof.Proof.Gen.ReferenceDiffTwoIdeal.Run

@[expose] public section

set_option maxRecDepth 16384

noncomputable section

namespace Cert.DiffTwo

open Idealize.ShloMosaic Idealize.ShloMosaic.TcCoe Idealize.SL.Sem
open Cert.ReferenceDiffTwoIdeal Cert.ReferenceDiffTwoIdeal.Gen Cert.ReferenceDiffTwoIdeal.Value Cert.Real

/-! The reference's term cut into its steps, each read at an index, and the whole against `outAt`. -/

/-- The weight of the second softmax, from the four rows of `lam`. -/
def rLam (arg1 : FVec Ideal S4x64 .f32) : FVec Ideal S_ .f32 :=
  (addf (subf (Host.exp (Host.reduceAdd (mulf (shapeCast S64 (extractStridedSlice S1x64 ![0, 0] arg1 slices_S4x64_S1x64_0_0) shapeCasts_S1x64_S64) (shapeCast S64 (extractStridedSlice S1x64 ![1, 0] arg1 slices_S4x64_S1x64_1_0) shapeCasts_S1x64_S64)) (constant S_ .f32 0x00000000#32) reducesTo_S64_S_d0 h_S_)) (Host.exp (Host.reduceAdd (mulf (shapeCast S64 (extractStridedSlice S1x64 ![2, 0] arg1 slices_S4x64_S1x64_2_0) shapeCasts_S1x64_S64) (shapeCast S64 (extractStridedSlice S1x64 ![3, 0] arg1 slices_S4x64_S1x64_3_0) shapeCasts_S1x64_S64)) (constant S_ .f32 0x00000000#32) reducesTo_S64_S_d0 h_S_))) (constant S_ .f32 0x3EF1014C#32))

/-- The four linear-bias slopes. -/
def rSlope  : FVec Ideal S4 .f32 :=
  (Host.powf (broadcastInDim S4 ![] bcast_S_S4 (constant S_ .f32 0x40000000#32)) (Host.divf (mulf (broadcastInDim S4 ![] bcast_S_S4 (constant S_ .f32 0xC1000000#32)) (addf (broadcastInDim S4 ![] bcast_S_S4 (constant S_ .f32 0x3F800000#32)) (sitofp .f32 (iotaInDim S4 32 0)))) (broadcastInDim S4 ![] bcast_S_S4 (constant S_ .f32 0x40800000#32))))

/-- The distances between positions. -/
def rDist  : FVec Ideal S2048x2048 .f32 :=
  (sitofp .f32 (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))))

/-- The biased scores of the eight half-width heads. -/
def rScore (arg0 : FVec Ideal S8x2048x3072 .f32) (v31 : FVec Ideal S4 .f32) (v41 : FVec Ideal S2048x2048 .f32) : FVec Ideal S8x8x2048x2048 .f32 :=
  (subf (mulf (Host.dotGeneral dot_S8x2048x8x64_S8x2048x8x64_S8x8x2048x2048_3_3_1_1_02_02 none (shapeCast S8x2048x8x64 (extractStridedSlice S8x2048x512 ![0, 0, 1536] arg0 slices_S8x2048x3072_S8x2048x512_0_0_1536) shapeCasts_S8x2048x512_S8x2048x8x64) (shapeCast S8x2048x8x64 (extractStridedSlice S8x2048x512 ![0, 0, 2048] arg0 slices_S8x2048x3072_S8x2048x512_0_0_2048) shapeCasts_S8x2048x512_S8x2048x8x64)) (broadcastInDim S8x8x2048x2048 ![] bcast_S_S8x8x2048x2048 (constant S_ .f32 0x3E000000#32))) (broadcastInDim S8x8x2048x2048 ![0, 1, 2, 3] bcast_S1x8x2048x2048_S8x8x2048x2048_0_1_2_3 (broadcastInDim S1x8x2048x2048 ![1, 2, 3] bcast_S8x2048x2048_S1x8x2048x2048_1_2_3 (mulf (broadcastInDim S8x2048x2048 ![0, 1, 2] bcast_S8x1x1_S8x2048x2048_0_1_2 (broadcastInDim S8x1x1 ![0] bcast_S8_S8x1x1_0 (shapeCast S8 (broadcastInDim S4x2 ![0] bcast_S4_S4x2_0 v31) shapeCasts_S4x2_S8))) (broadcastInDim S8x2048x2048 ![0, 1, 2] bcast_S1x2048x2048_S8x2048x2048_0_1_2 (broadcastInDim S1x2048x2048 ![1, 2] bcast_S2048x2048_S1x2048x2048_1_2 v41))))))

/-- The largest score of each row. -/
def rMax (v52 : FVec Ideal S8x8x2048x2048 .f32) : FVec Ideal S8x8x2048 .f32 :=
  (Host.reduce FloatOps.maximumf v52 (constant S_ .f32 0xFF800000#32) reducesTo_S8x8x2048x2048_S8x8x2048_d3 h_S_)

/-- The same, not below the least value. -/
def rTop (v53 : FVec Ideal S8x8x2048 .f32) : FVec Ideal S8x8x2048 .f32 :=
  (maximumf (broadcastInDim S8x8x2048 ![] bcast_S_S8x8x2048 (constant S_ .f32 0xFF800000#32)) v53)

/-- The exponentials of the shifted scores. -/
def rExp (v52 : FVec Ideal S8x8x2048x2048 .f32) (v55 : FVec Ideal S8x8x2048 .f32) : FVec Ideal S8x8x2048x2048 .f32 :=
  (Host.exp (subf v52 (broadcastInDim S8x8x2048x2048 ![0, 1, 2, 3] bcast_S8x8x2048x1_S8x8x2048x2048_0_1_2_3 (broadcastInDim S8x8x2048x1 ![0, 1, 2] bcast_S8x8x2048_S8x8x2048x1_0_1_2 v55))))

/-- Their sums along the keys. -/
def rSum (v59 : FVec Ideal S8x8x2048x2048 .f32) : FVec Ideal S8x8x2048 .f32 :=
  (Host.reduceAdd v59 (constant S_ .f32 0x00000000#32) reducesTo_S8x8x2048x2048_S8x8x2048_d3 h_S_)

/-- The softmax over the keys. -/
def rProb (v59 : FVec Ideal S8x8x2048x2048 .f32) (v60 : FVec Ideal S8x8x2048 .f32) : FVec Ideal S8x8x2048x2048 .f32 :=
  (Host.divf v59 (broadcastInDim S8x8x2048x2048 ![0, 1, 2, 3] bcast_S8x8x2048x1_S8x8x2048x2048_0_1_2_3 (broadcastInDim S8x8x2048x1 ![0, 1, 2] bcast_S8x8x2048_S8x8x2048x1_0_1_2 v60)))

/-- The difference of the two halves’ softmaxes. -/
def rMix (v19 : FVec Ideal S_ .f32) (v63 : FVec Ideal S8x8x2048x2048 .f32) : FVec Ideal S8x4x2048x2048 .f32 :=
  (subf (shapeCast S8x4x2048x2048 (extractStridedSlice S8x4x1x2048x2048 ![0, 0, 0, 0, 0] (shapeCast S8x4x2x2048x2048 v63 shapeCasts_S8x8x2048x2048_S8x4x2x2048x2048) slices_S8x4x2x2048x2048_S8x4x1x2048x2048_0_0_0_0_0) shapeCasts_S8x4x1x2048x2048_S8x4x2048x2048) (mulf (broadcastInDim S8x4x2048x2048 ![] bcast_S_S8x4x2048x2048 v19) (shapeCast S8x4x2048x2048 (extractStridedSlice S8x4x1x2048x2048 ![0, 0, 1, 0, 0] (shapeCast S8x4x2x2048x2048 v63 shapeCasts_S8x8x2048x2048_S8x4x2x2048x2048) slices_S8x4x2x2048x2048_S8x4x1x2048x2048_0_0_1_0_0) shapeCasts_S8x4x1x2048x2048_S8x4x2048x2048)))

/-- The differences against the values. -/
def rAtt (arg0 : FVec Ideal S8x2048x3072 .f32) (v71 : FVec Ideal S8x4x2048x2048 .f32) : FVec Ideal S8x2048x4x128 .f32 :=
  (transpose S8x2048x4x128 [0, 3, 1, 2] (Host.dotGeneral dot_S8x2048x4x128_S8x4x2048x2048_S8x4x128x2048_1_3_3_2_02_01 none (shapeCast S8x2048x4x128 (extractStridedSlice S8x2048x512 ![0, 0, 2560] arg0 slices_S8x2048x3072_S8x2048x512_0_0_2560) shapeCasts_S8x2048x512_S8x2048x4x128) v71) transposes_S8x4x128x2048_S8x2048x4x128_0_3_1_2)

/-- The normalisation of each head’s output. -/
def rOut (arg2 : FVec Ideal S128 .f32) (v73 : FVec Ideal S8x2048x4x128 .f32) : FVec Ideal S8x2048x512 .f32 :=
  (shapeCast S8x2048x512 (mulf (mulf (mulf v73 (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf v73 v73) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 arg2))) (broadcastInDim S8x2048x4x128 ![] bcast_S_S8x2048x4x128 (constant S_ .f32 0x3F077F5A#32))) shapeCasts_S8x2048x4x128_S8x2048x512)

/-- The reference's result is the steps one after the other. -/
theorem ref_eq_steps (m : (ℓ : Loc nD τ sig) → Buf (Elt Ideal) ℓ) (c : Dev nD) : res_out0 (F := Ideal) m c =
    (rOut (m ((c.tc : Thread nD τ).loc main_arg2)) (rAtt (m ((c.tc : Thread nD τ).loc main_arg0)) (rMix (rLam (m ((c.tc : Thread nD τ).loc main_arg1))) (rProb (rExp (rScore (m ((c.tc : Thread nD τ).loc main_arg0)) (rSlope ) (rDist )) (rTop (rMax (rScore (m ((c.tc : Thread nD τ).loc main_arg0)) (rSlope ) (rDist ))))) (rSum (rExp (rScore (m ((c.tc : Thread nD τ).loc main_arg0)) (rSlope ) (rDist )) (rTop (rMax (rScore (m ((c.tc : Thread nD τ).loc main_arg0)) (rSlope ) (rDist )))))))))) := rfl

theorem rOut_at (w : FVec Ideal S128 .f32) (a : FVec Ideal S8x2048x4x128 .f32) (b : Fin 8) (q : Fin 2048) (l : Fin 512) :
    rOut w a (ix3 b q l) = a (ix4 b q ⟨l.val / 128, by omega⟩ ⟨l.val % 128, by omega⟩)
      * Ideal.rsqrt (Ideal.div (∑ x, a (ix4 b q ⟨l.val / 128, by omega⟩ x) * a (ix4 b q ⟨l.val / 128, by omega⟩ x))
          (Ideal.ofBits .f32 0x43000000#32) + Ideal.ofBits .f32 0x358637BD#32)
      * w (ix1 ⟨l.val % 128, by omega⟩) * Ideal.ofBits .f32 0x3F077F5A#32 := by
  pointwise [rOut]

theorem rAtt_at (x : FVec Ideal S8x2048x3072 .f32) (a : FVec Ideal S8x4x2048x2048 .f32) (b : Fin 8) (q : Fin 2048) (h : Fin 4) (e : Fin 128) :
    rAtt x a (ix4 b q h e) = ∑ k, a (ix4 b h q k) * x (ix3 b k ⟨2560 + (h.val * 128 + e.val), by omega⟩) := by
  pointwise [rAtt]
  exact Finset.sum_congr rfl fun k _ => mul_comm _ _

theorem rMix_at (lam : FVec Ideal S_ .f32) (p : FVec Ideal S8x8x2048x2048 .f32) (b : Fin 8) (h : Fin 4) (q k : Fin 2048) :
    rMix lam p (ix4 b h q k)
      = p (ix4 b ⟨h.val * 2, by omega⟩ q k) - lam ix0 * p (ix4 b ⟨h.val * 2 + 1, by omega⟩ q k) := by
  pointwise [rMix]

theorem rMax_at (s : FVec Ideal S8x8x2048x2048 .f32) (b h : Fin 8) (q : Fin 2048) :
    rMax s (ix3 b h q) = Finset.univ.fold max (Ideal.ofBits .f32 0xFF800000#32) (fun x => s (ix4 b h q x)) := by
  pointwise [rMax]

theorem rTop_at (s : FVec Ideal S8x8x2048 .f32) (b h : Fin 8) (q : Fin 2048) :
    rTop s (ix3 b h q) = max (Ideal.ofBits .f32 0xFF800000#32) (s (ix3 b h q)) := by
  pointwise [rTop]

theorem rExp_at (s : FVec Ideal S8x8x2048x2048 .f32) (t : FVec Ideal S8x8x2048 .f32) (b h : Fin 8) (q k : Fin 2048) :
    rExp s t (ix4 b h q k) = Ideal.exp (s (ix4 b h q k) - t (ix3 b h q)) := by
  pointwise [rExp]

theorem rSum_at (s : FVec Ideal S8x8x2048x2048 .f32) (b h : Fin 8) (q : Fin 2048) :
    rSum s (ix3 b h q) = ∑ x, s (ix4 b h q x) := by
  pointwise [rSum]

theorem rProb_at (s : FVec Ideal S8x8x2048x2048 .f32) (t : FVec Ideal S8x8x2048 .f32) (b h : Fin 8) (q k : Fin 2048) :
    rProb s t (ix4 b h q k) = Ideal.div (s (ix4 b h q k)) (t (ix3 b h q)) := by
  pointwise [rProb]

/-- The four steps of the softmax together. -/
theorem prob_at (s : FVec Ideal S8x8x2048x2048 .f32) (b h : Fin 8) (q k : Fin 2048) :
    rProb (rExp s (rTop (rMax s))) (rSum (rExp s (rTop (rMax s)))) (ix4 b h q k) = soft (fun x => s (ix4 b h q x)) k := by
  rw [rProb_at, rSum_at, rExp_at, rTop_at, rMax_at, max_fold]
  exact congrArg (Ideal.div _) (Finset.sum_congr rfl fun x _ => by rw [rExp_at, rTop_at, rMax_at, max_fold])

theorem rDist_at (q k : Fin 2048) : rDist (ix2 q k) = dist q.val k.val := by
  pointwise [rDist, dist]

theorem rSlope_at (h : Fin 4) : rSlope (ix1 h) = slope h := by
  pointwise [rSlope, slope]

theorem rScore_at (x : FVec Ideal S8x2048x3072 .f32) (b g : Fin 8) (q k : Fin 2048) :
    rScore x rSlope rDist (ix4 b g q k) = score x b g q k := by
  have h : ∀ (sl : FVec Ideal S4 .f32) (d : FVec Ideal S2048x2048 .f32), rScore x sl d (ix4 b g q k)
      = (∑ e : Fin 64, x (ix3 b q ⟨1536 + (g.val * 64 + e.val), by omega⟩) * x (ix3 b k ⟨2048 + (g.val * 64 + e.val), by omega⟩))
        * Ideal.ofBits .f32 0x3E000000#32 - sl (ix1 ⟨g.val / 2, by omega⟩) * d (ix2 q k) := by
    intro sl d
    pointwise [rScore]
  rw [h, rDist_at, rSlope_at]
  rfl

theorem rLam_at (L : FVec Ideal S4x64 .f32) : rLam L ix0 = weight L := by
  pointwise [rLam, weight]

/-- THE REFERENCE at one place of its result. -/
theorem ref_at (m : (ℓ : Loc nD τ sig) → Buf (Elt Ideal) ℓ) (c : Dev nD) (b : Fin 8) (q : Fin 2048) (l : Fin 512) :
    res_out0 (F := Ideal) m c (ix3 b q l)
      = outAt (m ((c.tc : Thread nD τ).loc main_arg0)) (m ((c.tc : Thread nD τ).loc main_arg1)) (m ((c.tc : Thread nD τ).loc main_arg2))
          b q ⟨l.val / 128, by omega⟩ ⟨l.val % 128, by omega⟩ := by
  have ha : ∀ (h : Fin 4) (e : Fin 128), _ = att (m ((c.tc : Thread nD τ).loc main_arg0)) (m ((c.tc : Thread nD τ).loc main_arg1)) b q h e := fun h e =>
    (rAtt_at (m ((c.tc : Thread nD τ).loc main_arg0)) (rMix (rLam (m ((c.tc : Thread nD τ).loc main_arg1))) (rProb (rExp (rScore (m ((c.tc : Thread nD τ).loc main_arg0)) (rSlope ) (rDist )) (rTop (rMax (rScore (m ((c.tc : Thread nD τ).loc main_arg0)) (rSlope ) (rDist ))))) (rSum (rExp (rScore (m ((c.tc : Thread nD τ).loc main_arg0)) (rSlope ) (rDist )) (rTop (rMax (rScore (m ((c.tc : Thread nD τ).loc main_arg0)) (rSlope ) (rDist )))))))) b q h e).trans <|
      Finset.sum_congr rfl fun k _ => by
        rw [rMix_at, prob_at, prob_at, rLam_at]
        simp only [rScore_at]
  refine ((congrFun (ref_eq_steps m c) _).trans (rOut_at _ _ b q l)).trans ?_
  simp only [ha]
  rfl

end Cert.DiffTwo

end
-- ==== Proof.DiffTwoClaim.lean ====
module

public import proofs.«01_k».proof.Defs
public import proofs.«01_k».proof.Proof.DiffTwoArray
public import proofs.«01_k».proof.Proof.DiffTwoRef

@[expose] public section

set_option maxRecDepth 16384

noncomputable section

namespace Cert.DiffTwo

open Idealize.ShloMosaic Idealize.ShloMosaic.TcCoe Idealize.SL.Sem

/-! The kernel's result and the reference's, side by side. -/

/-- The kernel's array is the reference's term, whenever the two programs' arguments agree. -/
theorem result_eq (m : (ℓ : Loc Cert.KernelDiffTwoIdeal.nD Cert.KernelDiffTwoIdeal.τ Cert.KernelDiffTwoIdeal.sig) → Buf (Elt Ideal) ℓ)
    (m' : (ℓ : Loc Cert.ReferenceDiffTwoIdeal.nD Cert.ReferenceDiffTwoIdeal.τ Cert.ReferenceDiffTwoIdeal.sig) → Buf (Elt Ideal) ℓ) (c : Dev Cert.KernelDiffTwoIdeal.nD)
    (h0 : m' ((c.tc : Thread Cert.ReferenceDiffTwoIdeal.nD Cert.ReferenceDiffTwoIdeal.τ).loc Cert.ReferenceDiffTwoIdeal.main_arg0) = m ((c.tc : Thread Cert.KernelDiffTwoIdeal.nD Cert.KernelDiffTwoIdeal.τ).loc Cert.KernelDiffTwoIdeal.main_arg0))
    (h1 : m' ((c.tc : Thread Cert.ReferenceDiffTwoIdeal.nD Cert.ReferenceDiffTwoIdeal.τ).loc Cert.ReferenceDiffTwoIdeal.main_arg1) = m ((c.tc : Thread Cert.KernelDiffTwoIdeal.nD Cert.KernelDiffTwoIdeal.τ).loc Cert.KernelDiffTwoIdeal.main_arg1))
    (h2 : m' ((c.tc : Thread Cert.ReferenceDiffTwoIdeal.nD Cert.ReferenceDiffTwoIdeal.τ).loc Cert.ReferenceDiffTwoIdeal.main_arg2) = m ((c.tc : Thread Cert.KernelDiffTwoIdeal.nD Cert.KernelDiffTwoIdeal.τ).loc Cert.KernelDiffTwoIdeal.main_arg2)) :
    Cert.ReferenceDiffTwoIdeal.Value.res_out0 (F := Ideal) m' c = result m c := by
  funext j
  refine (congrArg _ (eq_ix3 j)).trans ((ref_at m' c (j 0) (j 1) (j 2)).trans ?_)
  rw [h0, h1, h2]
  rfl

/-- Differential attention: the kernel's value is the reference's. -/
theorem algebraic : Cert.algebraic_KernelDiffTwoIdeal_ReferenceDiffTwoIdeal := fun m g m' g' _ hagree =>
  ⟨fun c => result m c,
    (θ_run Cert.KernelDiffTwoIdeal.defs _ _).mono (fun r h c => ⟨(h c).1.trans (array_eq m c), (h c).2⟩) (Cert.KernelDiffTwoIdeal.Value.run_blocks m g),
    (θ_run Cert.ReferenceDiffTwoIdeal.defs _ _).mono
      (fun r h c => ⟨(h c).1.trans (result_eq m m' c (hagree c).1 (hagree c).2.1 (hagree c).2.2), (h c).2⟩)
      (Cert.ReferenceDiffTwoIdeal.Value.run (F := Ideal) m' g')⟩

/-- The reference terminates, keeps its arguments and leaves no counter raised. -/
theorem reference_frame : Cert.quiescent_ReferenceDiffTwoIdeal := fun m g _ =>
  (θ_run Cert.ReferenceDiffTwoIdeal.defs _ _).mono
    (fun r h => ⟨fun c => (h c).2, Idealize.ShloMosaic.sem_eq_zero_of_no_sems (by decide) r.2⟩)
    (Cert.ReferenceDiffTwoIdeal.Value.run (F := Ideal) m g)

end Cert.DiffTwo

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.DiffClaim
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.In
public import proofs.«01_k».proof.Proof.Gen.KernelOddIn.Frame
public import proofs.«01_k».proof.Proof.Gen.KernelOddInIdeal.Frame
public import proofs.«01_k».proof.Proof.Gen.KernelOddInIdeal.Value
public import proofs.«01_k».proof.Proof.Gen.ReferenceOddInIdeal.Run
public import proofs.«01_k».proof.Proof.OddIn
public import proofs.«01_k».proof.Proof.Gen.KernelMem.Frame
public import proofs.«01_k».proof.Proof.Gen.KernelMemIdeal.Frame
public import proofs.«01_k».proof.Proof.Gen.KernelMemIdeal.Value
public import proofs.«01_k».proof.Proof.Gen.ReferenceMemIdeal.Run
public import proofs.«01_k».proof.Proof.Mem
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Out
public import proofs.«01_k».proof.Proof.Gen.KernelOddOut.Frame
public import proofs.«01_k».proof.Proof.Gen.KernelOddOutIdeal.Frame
public import proofs.«01_k».proof.Proof.Gen.KernelOddOutIdeal.Value
public import proofs.«01_k».proof.Proof.Gen.ReferenceOddOutIdeal.Run
public import proofs.«01_k».proof.Proof.OddOut
public import proofs.«01_k».proof.Proof.Gen.KernelCross.Frame
public import proofs.«01_k».proof.Proof.Gen.KernelCrossIdeal.Frame
public import proofs.«01_k».proof.Proof.Gen.KernelCrossIdeal.Value
public import proofs.«01_k».proof.Proof.Gen.ReferenceCrossIdeal.Run
public import proofs.«01_k».proof.Proof.CrossClaim
public import proofs.«01_k».proof.Proof.ExpertsClaim
public import proofs.«01_k».proof.Proof.Gen.KernelWin.Frame
public import proofs.«01_k».proof.Proof.Gen.KernelWinIdeal.Frame
public import proofs.«01_k».proof.Proof.Gen.KernelWinIdeal.Value
public import proofs.«01_k».proof.Proof.Gen.ReferenceWinIdeal.Run
public import proofs.«01_k».proof.Proof.Gen.Pre_win_finite
public import proofs.«01_k».proof.Proof.WinClaim
public import proofs.«01_k».proof.Proof.Gen.KernelConv.Frame
public import proofs.«01_k».proof.Proof.Gen.KernelConvIdeal.Frame
public import proofs.«01_k».proof.Proof.Gen.KernelConvIdeal.Value
public import proofs.«01_k».proof.Proof.Gen.ReferenceConvIdeal.Run
public import proofs.«01_k».proof.Proof.Conv
public import proofs.«01_k».proof.Proof.Gen.KernelFilters.Frame
public import proofs.«01_k».proof.Proof.Gen.KernelFiltersIdeal.Frame
public import proofs.«01_k».proof.Proof.Gen.KernelFiltersIdeal.Value
public import proofs.«01_k».proof.Proof.Gen.ReferenceFiltersIdeal.Run
public import proofs.«01_k».proof.Proof.Gen.KernelSpectrum.Frame
public import proofs.«01_k».proof.Proof.Gen.KernelSpectrumIdeal.Frame
public import proofs.«01_k».proof.Proof.Gen.KernelSpectrumIdeal.Value
public import proofs.«01_k».proof.Proof.Gen.ReferenceSpectrumIdeal.Run
public import proofs.«01_k».proof.Proof.Gen.KernelForward.Frame
public import proofs.«01_k».proof.Proof.Gen.KernelForwardIdeal.Frame
public import proofs.«01_k».proof.Proof.Gen.KernelForwardIdeal.Value
public import proofs.«01_k».proof.Proof.Gen.ReferenceForwardIdeal.Run
public import proofs.«01_k».proof.Proof.Gen.KernelInverse.Frame
public import proofs.«01_k».proof.Proof.Gen.KernelInverseIdeal.Frame
public import proofs.«01_k».proof.Proof.Gen.KernelInverseIdeal.Value
public import proofs.«01_k».proof.Proof.Gen.ReferenceInverseIdeal.Run
public import proofs.«01_k».proof.Proof.Filters
public import proofs.«01_k».proof.Proof.Spectrum
public import proofs.«01_k».proof.Proof.Forward
public import proofs.«01_k».proof.Proof.Inverse
public import proofs.«01_k».proof.Proof.Gen.KernelForwardTwo.Frame
public import proofs.«01_k».proof.Proof.Gen.KernelForwardTwoIdeal.Frame
public import proofs.«01_k».proof.Proof.Gen.KernelForwardTwoIdeal.Value
public import proofs.«01_k».proof.Proof.Gen.ReferenceForwardTwoIdeal.Run
public import proofs.«01_k».proof.Proof.ForwardTwo
public import proofs.«01_k».proof.Proof.Gen.KernelInverseTwo.Frame
public import proofs.«01_k».proof.Proof.Gen.KernelInverseTwoIdeal.Frame
public import proofs.«01_k».proof.Proof.Gen.KernelInverseTwoIdeal.Value
public import proofs.«01_k».proof.Proof.Gen.ReferenceInverseTwoIdeal.Run
public import proofs.«01_k».proof.Proof.InverseTwo
public import proofs.«01_k».proof.Proof.Gen.KernelDiffTwo.Frame
public import proofs.«01_k».proof.Proof.Gen.KernelDiffTwoIdeal.Frame
public import proofs.«01_k».proof.Proof.Gen.KernelDiffTwoIdeal.Value
public import proofs.«01_k».proof.Proof.Gen.ReferenceDiffTwoIdeal.Run
public import proofs.«01_k».proof.Proof.DiffTwoClaim

@[expose] public section

set_option maxRecDepth 16384

/-! The claims of every call, assembled from the modules that prove them. -/

noncomputable section

namespace Cert.Proof

open Idealize.ShloMosaic Idealize.SL.Sem

/-- Everything claimed: no failing run, arguments kept, and each kernel's result is its reference's. -/
theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelOddIn.Gen.facts, Cert.KernelOddInIdeal.Gen.facts, Cert.ReferenceOddInIdeal.Gen.facts,
    Cert.KernelMem.Gen.facts, Cert.KernelMemIdeal.Gen.facts, Cert.ReferenceMemIdeal.Gen.facts,
    Cert.KernelOut.Gen.facts, Cert.KernelOutIdeal.Gen.facts, Cert.ReferenceOutIdeal.Gen.facts,
    Cert.KernelOddOut.Gen.facts, Cert.KernelOddOutIdeal.Gen.facts, Cert.ReferenceOddOutIdeal.Gen.facts,
    Cert.KernelCross.Gen.facts, Cert.KernelCrossIdeal.Gen.facts, Cert.ReferenceCrossIdeal.Gen.facts,
    Cert.KernelExperts.Gen.facts, Cert.KernelExpertsIdeal.Gen.facts, Cert.ReferenceExpertsIdeal.Gen.facts,
    Cert.KernelWin.Gen.facts, Cert.KernelWinIdeal.Gen.facts, Cert.ReferenceWinIdeal.Gen.facts,
    Cert.KernelConv.Gen.facts, Cert.KernelConvIdeal.Gen.facts, Cert.ReferenceConvIdeal.Gen.facts,
    Cert.KernelFilters.Gen.facts, Cert.KernelFiltersIdeal.Gen.facts, Cert.ReferenceFiltersIdeal.Gen.facts,
    Cert.KernelSpectrum.Gen.facts, Cert.KernelSpectrumIdeal.Gen.facts, Cert.ReferenceSpectrumIdeal.Gen.facts,
    Cert.KernelForward.Gen.facts, Cert.KernelForwardIdeal.Gen.facts, Cert.ReferenceForwardIdeal.Gen.facts,
    Cert.KernelInverse.Gen.facts, Cert.KernelInverseIdeal.Gen.facts, Cert.ReferenceInverseIdeal.Gen.facts,
    Cert.KernelForwardTwo.Gen.facts, Cert.KernelForwardTwoIdeal.Gen.facts, Cert.ReferenceForwardTwoIdeal.Gen.facts,
    Cert.KernelInverseTwo.Gen.facts, Cert.KernelInverseTwoIdeal.Gen.facts, Cert.ReferenceInverseTwoIdeal.Gen.facts,
    Cert.KernelDiffTwo.Gen.facts, Cert.KernelDiffTwoIdeal.Gen.facts, Cert.ReferenceDiffTwoIdeal.Gen.facts, Cert.Pre_experts_named.Gen.facts, Cert.Pre_win_finite.Gen.facts,
    fun m ρ _ => Cert.Kernel.Gen.frame m ρ, fun m ρ _ => Cert.KernelIdeal.Gen.frame m ρ, Cert.DiffAttn.reference_frame,
    fun m ρ _ => Cert.KernelIn.Gen.frame m ρ, fun m ρ _ => Cert.KernelInIdeal.Gen.frame m ρ, Cert.In.reference_frame,
    fun m ρ _ => Cert.KernelOddIn.Gen.frame m ρ, fun m ρ _ => Cert.KernelOddInIdeal.Gen.frame m ρ, Cert.OddIn.reference_frame,
    fun m ρ _ => Cert.KernelMem.Gen.frame m ρ, fun m ρ _ => Cert.KernelMemIdeal.Gen.frame m ρ, Cert.Mem.reference_frame,
    fun m ρ _ => Cert.KernelOut.Gen.frame m ρ, fun m ρ _ => Cert.KernelOutIdeal.Gen.frame m ρ, Cert.Out.reference_frame,
    fun m ρ _ => Cert.KernelOddOut.Gen.frame m ρ, fun m ρ _ => Cert.KernelOddOutIdeal.Gen.frame m ρ, Cert.OddOut.reference_frame,
    fun m ρ _ => Cert.KernelCross.Gen.frame m ρ, fun m ρ _ => Cert.KernelCrossIdeal.Gen.frame m ρ, Cert.Cross.reference_frame,
    Cert.Experts.kernel_frame, Cert.Experts.ideal_frame, Cert.Experts.reference_frame, Cert.Experts.reference_frame_named,
    fun m ρ _ => Cert.KernelWin.Gen.frame m ρ, fun m ρ _ => Cert.KernelWinIdeal.Gen.frame m ρ, fun m ρ _ => Cert.KernelWinIdeal.Gen.frame m ρ,
    Cert.Win.reference_frame, Cert.Win.reference_frame_finite,
    fun m ρ _ => Cert.KernelConv.Gen.frame m ρ, fun m ρ _ => Cert.KernelConvIdeal.Gen.frame m ρ, Cert.Conv.reference_frame,
    fun m ρ _ => Cert.KernelFilters.Gen.frame m ρ, fun m ρ _ => Cert.KernelFiltersIdeal.Gen.frame m ρ, Cert.Filters.reference_frame,
    fun m ρ _ => Cert.KernelSpectrum.Gen.frame m ρ, fun m ρ _ => Cert.KernelSpectrumIdeal.Gen.frame m ρ, Cert.Spectrum.reference_frame,
    fun m ρ _ => Cert.KernelForward.Gen.frame m ρ, fun m ρ _ => Cert.KernelForwardIdeal.Gen.frame m ρ, Cert.Forward.reference_frame,
    fun m ρ _ => Cert.KernelInverse.Gen.frame m ρ, fun m ρ _ => Cert.KernelInverseIdeal.Gen.frame m ρ, Cert.Inverse.reference_frame,
    fun m ρ _ => Cert.KernelForwardTwo.Gen.frame m ρ, fun m ρ _ => Cert.KernelForwardTwoIdeal.Gen.frame m ρ, Cert.ForwardTwo.reference_frame,
    fun m ρ _ => Cert.KernelInverseTwo.Gen.frame m ρ, fun m ρ _ => Cert.KernelInverseTwoIdeal.Gen.frame m ρ, Cert.InverseTwo.reference_frame,
    fun m ρ _ => Cert.KernelDiffTwo.Gen.frame m ρ, fun m ρ _ => Cert.KernelDiffTwoIdeal.Gen.frame m ρ, Cert.DiffTwo.reference_frame,
    trivial, Cert.DiffAttn.algebraic, trivial, Cert.In.algebraic, trivial, Cert.OddIn.algebraic, trivial, Cert.Mem.algebraic, trivial, Cert.Out.algebraic, trivial, Cert.OddOut.algebraic, trivial, Cert.Cross.algebraic, trivial, Cert.Experts.algebraic,
    Cert.Win.preserves, Cert.Win.algebraic, trivial, Cert.Conv.algebraic, trivial, Cert.Filters.algebraic,
    trivial, Cert.Spectrum.algebraic, trivial, Cert.Forward.algebraic, trivial, Cert.Inverse.algebraic,
    trivial, Cert.ForwardTwo.algebraic, trivial, Cert.InverseTwo.algebraic, trivial, Cert.DiffTwo.algebraic⟩

end Cert.Proof

end
